-- ==== Defs.lean ====
def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherReference (m : (ℓ : Loc Cert.GatherReference.nD Cert.GatherReference.τ Cert.GatherReference.sig) → Buf (Elt Bits) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Grads (m : (ℓ : Loc Cert.Grads.nD Cert.Grads.τ Cert.Grads.sig) → Buf (Elt Bits) ℓ) : Prop :=
  True

def Pre_GradsIdeal (m : (ℓ : Loc Cert.GradsIdeal.nD Cert.GradsIdeal.τ Cert.GradsIdeal.sig) → Buf (Elt Ideal) ℓ) : Prop :=
  True

def Pre_GradsReference (m : (ℓ : Loc Cert.GradsReference.nD Cert.GradsReference.τ Cert.GradsReference.sig) → Buf (Elt Bits) ℓ) : Prop :=
  True

def Pre_GradsReferenceIdeal (m : (ℓ : Loc Cert.GradsReferenceIdeal.nD Cert.GradsReferenceIdeal.τ Cert.GradsReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReference (m : (ℓ : Loc Cert.NormReference.nD Cert.NormReference.τ Cert.NormReference.sig) → Buf (Elt Bits) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Product (m : (ℓ : Loc Cert.Product.nD Cert.Product.τ Cert.Product.sig) → Buf (Elt Bits) ℓ) : Prop :=
  True

def Pre_ProductIdeal (m : (ℓ : Loc Cert.ProductIdeal.nD Cert.ProductIdeal.τ Cert.ProductIdeal.sig) → Buf (Elt Ideal) ℓ) : Prop :=
  True

def Pre_ProductRef (m : (ℓ : Loc Cert.ProductRef.nD Cert.ProductRef.τ Cert.ProductRef.sig) → Buf (Elt Bits) ℓ) : Prop :=
  True

def Pre_ProductRefIdeal (m : (ℓ : Loc Cert.ProductRefIdeal.nD Cert.ProductRefIdeal.τ Cert.ProductRefIdeal.sig) → Buf (Elt Ideal) ℓ) : Prop :=
  True

def Pre_ProductInput (m : (ℓ : Loc Cert.ProductInput.nD Cert.ProductInput.τ Cert.ProductInput.sig) → Buf (Elt Bits) ℓ) : Prop :=
  True

def Pre_ProductInputIdeal (m : (ℓ : Loc Cert.ProductInputIdeal.nD Cert.ProductInputIdeal.τ Cert.ProductInputIdeal.sig) → Buf (Elt Ideal) ℓ) : Prop :=
  True

def Pre_ProductInputRef (m : (ℓ : Loc Cert.ProductInputRef.nD Cert.ProductInputRef.τ Cert.ProductInputRef.sig) → Buf (Elt Bits) ℓ) : Prop :=
  True

def Pre_ProductInputRefIdeal (m : (ℓ : Loc Cert.ProductInputRefIdeal.nD Cert.ProductInputRefIdeal.τ Cert.ProductInputRefIdeal.sig) → Buf (Elt Ideal) ℓ) : Prop :=
  True

def Pre_ProductWeight (m : (ℓ : Loc Cert.ProductWeight.nD Cert.ProductWeight.τ Cert.ProductWeight.sig) → Buf (Elt Bits) ℓ) : Prop :=
  True

def Pre_ProductWeightIdeal (m : (ℓ : Loc Cert.ProductWeightIdeal.nD Cert.ProductWeightIdeal.τ Cert.ProductWeightIdeal.sig) → Buf (Elt Ideal) ℓ) : Prop :=
  True

def Pre_ProductWeightRef (m : (ℓ : Loc Cert.ProductWeightRef.nD Cert.ProductWeightRef.τ Cert.ProductWeightRef.sig) → Buf (Elt Bits) ℓ) : Prop :=
  True

def Pre_ProductWeightRefIdeal (m : (ℓ : Loc Cert.ProductWeightRefIdeal.nD Cert.ProductWeightRefIdeal.τ Cert.ProductWeightRefIdeal.sig) → Buf (Elt Ideal) ℓ) : Prop :=
  True

def Pre_ProductFfnGu (m : (ℓ : Loc Cert.ProductFfnGu.nD Cert.ProductFfnGu.τ Cert.ProductFfnGu.sig) → Buf (Elt Bits) ℓ) : Prop :=
  True

def Pre_ProductFfnGuIdeal (m : (ℓ : Loc Cert.ProductFfnGuIdeal.nD Cert.ProductFfnGuIdeal.τ Cert.ProductFfnGuIdeal.sig) → Buf (Elt Ideal) ℓ) : Prop :=
  True

def Pre_ProductFfnGuRef (m : (ℓ : Loc Cert.ProductFfnGuRef.nD Cert.ProductFfnGuRef.τ Cert.ProductFfnGuRef.sig) → Buf (Elt Bits) ℓ) : Prop :=
  True

def Pre_ProductFfnGuRefIdeal (m : (ℓ : Loc Cert.ProductFfnGuRefIdeal.nD Cert.ProductFfnGuRefIdeal.τ Cert.ProductFfnGuRefIdeal.sig) → Buf (Elt Ideal) ℓ) : Prop :=
  True

def Pre_ProductFfnDown (m : (ℓ : Loc Cert.ProductFfnDown.nD Cert.ProductFfnDown.τ Cert.ProductFfnDown.sig) → Buf (Elt Bits) ℓ) : Prop :=
  True

def Pre_ProductFfnDownIdeal (m : (ℓ : Loc Cert.ProductFfnDownIdeal.nD Cert.ProductFfnDownIdeal.τ Cert.ProductFfnDownIdeal.sig) → Buf (Elt Ideal) ℓ) : Prop :=
  True

def Pre_ProductFfnDownRef (m : (ℓ : Loc Cert.ProductFfnDownRef.nD Cert.ProductFfnDownRef.τ Cert.ProductFfnDownRef.sig) → Buf (Elt Bits) ℓ) : Prop :=
  True

def Pre_ProductFfnDownRefIdeal (m : (ℓ : Loc Cert.ProductFfnDownRefIdeal.nD Cert.ProductFfnDownRefIdeal.τ Cert.ProductFfnDownRefIdeal.sig) → Buf (Elt Ideal) ℓ) : Prop :=
  True

def Pre_ProductFfnDact (m : (ℓ : Loc Cert.ProductFfnDact.nD Cert.ProductFfnDact.τ Cert.ProductFfnDact.sig) → Buf (Elt Bits) ℓ) : Prop :=
  True

def Pre_ProductFfnDactIdeal (m : (ℓ : Loc Cert.ProductFfnDactIdeal.nD Cert.ProductFfnDactIdeal.τ Cert.ProductFfnDactIdeal.sig) → Buf (Elt Ideal) ℓ) : Prop :=
  True

def Pre_ProductFfnDactRef (m : (ℓ : Loc Cert.ProductFfnDactRef.nD Cert.ProductFfnDactRef.τ Cert.ProductFfnDactRef.sig) → Buf (Elt Bits) ℓ) : Prop :=
  True

def Pre_ProductFfnDactRefIdeal (m : (ℓ : Loc Cert.ProductFfnDactRefIdeal.nD Cert.ProductFfnDactRefIdeal.τ Cert.ProductFfnDactRefIdeal.sig) → Buf (Elt Ideal) ℓ) : Prop :=
  True

def Pre_ProductFfnGdown (m : (ℓ : Loc Cert.ProductFfnGdown.nD Cert.ProductFfnGdown.τ Cert.ProductFfnGdown.sig) → Buf (Elt Bits) ℓ) : Prop :=
  True

def Pre_ProductFfnGdownIdeal (m : (ℓ : Loc Cert.ProductFfnGdownIdeal.nD Cert.ProductFfnGdownIdeal.τ Cert.ProductFfnGdownIdeal.sig) → Buf (Elt Ideal) ℓ) : Prop :=
  True

def Pre_ProductFfnGdownRef (m : (ℓ : Loc Cert.ProductFfnGdownRef.nD Cert.ProductFfnGdownRef.τ Cert.ProductFfnGdownRef.sig) → Buf (Elt Bits) ℓ) : Prop :=
  True

def Pre_ProductFfnGdownRefIdeal (m : (ℓ : Loc Cert.ProductFfnGdownRefIdeal.nD Cert.ProductFfnGdownRefIdeal.τ Cert.ProductFfnGdownRefIdeal.sig) → Buf (Elt Ideal) ℓ) : Prop :=
  True

def Pre_ProductFfnGgu (m : (ℓ : Loc Cert.ProductFfnGgu.nD Cert.ProductFfnGgu.τ Cert.ProductFfnGgu.sig) → Buf (Elt Bits) ℓ) : Prop :=
  True

def Pre_ProductFfnGguIdeal (m : (ℓ : Loc Cert.ProductFfnGguIdeal.nD Cert.ProductFfnGguIdeal.τ Cert.ProductFfnGguIdeal.sig) → Buf (Elt Ideal) ℓ) : Prop :=
  True

def Pre_ProductFfnGguRef (m : (ℓ : Loc Cert.ProductFfnGguRef.nD Cert.ProductFfnGguRef.τ Cert.ProductFfnGguRef.sig) → Buf (Elt Bits) ℓ) : Prop :=
  True

def Pre_ProductFfnGguRefIdeal (m : (ℓ : Loc Cert.ProductFfnGguRefIdeal.nD Cert.ProductFfnGguRefIdeal.τ Cert.ProductFfnGguRefIdeal.sig) → Buf (Elt Ideal) ℓ) : Prop :=
  True

def Pre_ProductFfnDh (m : (ℓ : Loc Cert.ProductFfnDh.nD Cert.ProductFfnDh.τ Cert.ProductFfnDh.sig) → Buf (Elt Bits) ℓ) : Prop :=
  True

def Pre_ProductFfnDhIdeal (m : (ℓ : Loc Cert.ProductFfnDhIdeal.nD Cert.ProductFfnDhIdeal.τ Cert.ProductFfnDhIdeal.sig) → Buf (Elt Ideal) ℓ) : Prop :=
  True

def Pre_ProductFfnDhRef (m : (ℓ : Loc Cert.ProductFfnDhRef.nD Cert.ProductFfnDhRef.τ Cert.ProductFfnDhRef.sig) → Buf (Elt Bits) ℓ) : Prop :=
  True

def Pre_ProductFfnDhRefIdeal (m : (ℓ : Loc Cert.ProductFfnDhRefIdeal.nD Cert.ProductFfnDhRefIdeal.τ Cert.ProductFfnDhRefIdeal.sig) → Buf (Elt Ideal) ℓ) : Prop :=
  True

def Pre_ProductConvOut (m : (ℓ : Loc Cert.ProductConvOut.nD Cert.ProductConvOut.τ Cert.ProductConvOut.sig) → Buf (Elt Bits) ℓ) : Prop :=
  True

def Pre_ProductConvOutIdeal (m : (ℓ : Loc Cert.ProductConvOutIdeal.nD Cert.ProductConvOutIdeal.τ Cert.ProductConvOutIdeal.sig) → Buf (Elt Ideal) ℓ) : Prop :=
  True

def Pre_ProductConvOutRef (m : (ℓ : Loc Cert.ProductConvOutRef.nD Cert.ProductConvOutRef.τ Cert.ProductConvOutRef.sig) → Buf (Elt Bits) ℓ) : Prop :=
  True

def Pre_ProductConvOutRefIdeal (m : (ℓ : Loc Cert.ProductConvOutRefIdeal.nD Cert.ProductConvOutRefIdeal.τ Cert.ProductConvOutRefIdeal.sig) → Buf (Elt Ideal) ℓ) : Prop :=
  True

def Pre_ProductConvDz (m : (ℓ : Loc Cert.ProductConvDz.nD Cert.ProductConvDz.τ Cert.ProductConvDz.sig) → Buf (Elt Bits) ℓ) : Prop :=
  True

def Pre_ProductConvDzIdeal (m : (ℓ : Loc Cert.ProductConvDzIdeal.nD Cert.ProductConvDzIdeal.τ Cert.ProductConvDzIdeal.sig) → Buf (Elt Ideal) ℓ) : Prop :=
  True

def Pre_ProductConvDzRef (m : (ℓ : Loc Cert.ProductConvDzRef.nD Cert.ProductConvDzRef.τ Cert.ProductConvDzRef.sig) → Buf (Elt Bits) ℓ) : Prop :=
  True

def Pre_ProductConvDzRefIdeal (m : (ℓ : Loc Cert.ProductConvDzRefIdeal.nD Cert.ProductConvDzRefIdeal.τ Cert.ProductConvDzRefIdeal.sig) → Buf (Elt Ideal) ℓ) : Prop :=
  True

def Pre_ProductConvGout (m : (ℓ : Loc Cert.ProductConvGout.nD Cert.ProductConvGout.τ Cert.ProductConvGout.sig) → Buf (Elt Bits) ℓ) : Prop :=
  True

def Pre_ProductConvGoutIdeal (m : (ℓ : Loc Cert.ProductConvGoutIdeal.nD Cert.ProductConvGoutIdeal.τ Cert.ProductConvGoutIdeal.sig) → Buf (Elt Ideal) ℓ) : Prop :=
  True

def Pre_ProductConvGoutRef (m : (ℓ : Loc Cert.ProductConvGoutRef.nD Cert.ProductConvGoutRef.τ Cert.ProductConvGoutRef.sig) → Buf (Elt Bits) ℓ) : Prop :=
  True

def Pre_ProductConvGoutRefIdeal (m : (ℓ : Loc Cert.ProductConvGoutRefIdeal.nD Cert.ProductConvGoutRefIdeal.τ Cert.ProductConvGoutRefIdeal.sig) → Buf (Elt Ideal) ℓ) : Prop :=
  True

def Pre_ProductFoxIn (m : (ℓ : Loc Cert.ProductFoxIn.nD Cert.ProductFoxIn.τ Cert.ProductFoxIn.sig) → Buf (Elt Bits) ℓ) : Prop :=
  True

def Pre_ProductFoxInIdeal (m : (ℓ : Loc Cert.ProductFoxInIdeal.nD Cert.ProductFoxInIdeal.τ Cert.ProductFoxInIdeal.sig) → Buf (Elt Ideal) ℓ) : Prop :=
  True

def Pre_ProductFoxInRef (m : (ℓ : Loc Cert.ProductFoxInRef.nD Cert.ProductFoxInRef.τ Cert.ProductFoxInRef.sig) → Buf (Elt Bits) ℓ) : Prop :=
  True

def Pre_ProductFoxInRefIdeal (m : (ℓ : Loc Cert.ProductFoxInRefIdeal.nD Cert.ProductFoxInRefIdeal.τ Cert.ProductFoxInRefIdeal.sig) → Buf (Elt Ideal) ℓ) : Prop :=
  True

def Pre_ProductFoxOut (m : (ℓ : Loc Cert.ProductFoxOut.nD Cert.ProductFoxOut.τ Cert.ProductFoxOut.sig) → Buf (Elt Bits) ℓ) : Prop :=
  True

def Pre_ProductFoxOutIdeal (m : (ℓ : Loc Cert.ProductFoxOutIdeal.nD Cert.ProductFoxOutIdeal.τ Cert.ProductFoxOutIdeal.sig) → Buf (Elt Ideal) ℓ) : Prop :=
  True

def Pre_ProductFoxOutRef (m : (ℓ : Loc Cert.ProductFoxOutRef.nD Cert.ProductFoxOutRef.τ Cert.ProductFoxOutRef.sig) → Buf (Elt Bits) ℓ) : Prop :=
  True

def Pre_ProductFoxOutRefIdeal (m : (ℓ : Loc Cert.ProductFoxOutRefIdeal.nD Cert.ProductFoxOutRefIdeal.τ Cert.ProductFoxOutRefIdeal.sig) → Buf (Elt Ideal) ℓ) : Prop :=
  True

def Pre_ProductFoxGout (m : (ℓ : Loc Cert.ProductFoxGout.nD Cert.ProductFoxGout.τ Cert.ProductFoxGout.sig) → Buf (Elt Bits) ℓ) : Prop :=
  True

def Pre_ProductFoxGoutIdeal (m : (ℓ : Loc Cert.ProductFoxGoutIdeal.nD Cert.ProductFoxGoutIdeal.τ Cert.ProductFoxGoutIdeal.sig) → Buf (Elt Ideal) ℓ) : Prop :=
  True

def Pre_ProductFoxGoutRef (m : (ℓ : Loc Cert.ProductFoxGoutRef.nD Cert.ProductFoxGoutRef.τ Cert.ProductFoxGoutRef.sig) → Buf (Elt Bits) ℓ) : Prop :=
  True

def Pre_ProductFoxGoutRefIdeal (m : (ℓ : Loc Cert.ProductFoxGoutRefIdeal.nD Cert.ProductFoxGoutRefIdeal.τ Cert.ProductFoxGoutRefIdeal.sig) → Buf (Elt Ideal) ℓ) : Prop :=
  True

def Pre_ProductFoxGin (m : (ℓ : Loc Cert.ProductFoxGin.nD Cert.ProductFoxGin.τ Cert.ProductFoxGin.sig) → Buf (Elt Bits) ℓ) : Prop :=
  True

def Pre_ProductFoxGinIdeal (m : (ℓ : Loc Cert.ProductFoxGinIdeal.nD Cert.ProductFoxGinIdeal.τ Cert.ProductFoxGinIdeal.sig) → Buf (Elt Ideal) ℓ) : Prop :=
  True

def Pre_ProductFoxGinRef (m : (ℓ : Loc Cert.ProductFoxGinRef.nD Cert.ProductFoxGinRef.τ Cert.ProductFoxGinRef.sig) → Buf (Elt Bits) ℓ) : Prop :=
  True

def Pre_ProductFoxGinRefIdeal (m : (ℓ : Loc Cert.ProductFoxGinRefIdeal.nD Cert.ProductFoxGinRefIdeal.τ Cert.ProductFoxGinRefIdeal.sig) → Buf (Elt Ideal) ℓ) : Prop :=
  True

def Pre_ProductFoxDh (m : (ℓ : Loc Cert.ProductFoxDh.nD Cert.ProductFoxDh.τ Cert.ProductFoxDh.sig) → Buf (Elt Bits) ℓ) : Prop :=
  True

def Pre_ProductFoxDhIdeal (m : (ℓ : Loc Cert.ProductFoxDhIdeal.nD Cert.ProductFoxDhIdeal.τ Cert.ProductFoxDhIdeal.sig) → Buf (Elt Ideal) ℓ) : Prop :=
  True

def Pre_ProductFoxDhRef (m : (ℓ : Loc Cert.ProductFoxDhRef.nD Cert.ProductFoxDhRef.τ Cert.ProductFoxDhRef.sig) → Buf (Elt Bits) ℓ) : Prop :=
  True

def Pre_ProductFoxDhRefIdeal (m : (ℓ : Loc Cert.ProductFoxDhRefIdeal.nD Cert.ProductFoxDhRefIdeal.τ Cert.ProductFoxDhRefIdeal.sig) → Buf (Elt Ideal) ℓ) : Prop :=
  True

def Pre_ProductSsdIn (m : (ℓ : Loc Cert.ProductSsdIn.nD Cert.ProductSsdIn.τ Cert.ProductSsdIn.sig) → Buf (Elt Bits) ℓ) : Prop :=
  True

def Pre_ProductSsdInIdeal (m : (ℓ : Loc Cert.ProductSsdInIdeal.nD Cert.ProductSsdInIdeal.τ Cert.ProductSsdInIdeal.sig) → Buf (Elt Ideal) ℓ) : Prop :=
  True

def Pre_ProductSsdInRef (m : (ℓ : Loc Cert.ProductSsdInRef.nD Cert.ProductSsdInRef.τ Cert.ProductSsdInRef.sig) → Buf (Elt Bits) ℓ) : Prop :=
  True

def Pre_ProductSsdInRefIdeal (m : (ℓ : Loc Cert.ProductSsdInRefIdeal.nD Cert.ProductSsdInRefIdeal.τ Cert.ProductSsdInRefIdeal.sig) → Buf (Elt Ideal) ℓ) : Prop :=
  True

def Pre_ProductSsdOut (m : (ℓ : Loc Cert.ProductSsdOut.nD Cert.ProductSsdOut.τ Cert.ProductSsdOut.sig) → Buf (Elt Bits) ℓ) : Prop :=
  True

def Pre_ProductSsdOutIdeal (m : (ℓ : Loc Cert.ProductSsdOutIdeal.nD Cert.ProductSsdOutIdeal.τ Cert.ProductSsdOutIdeal.sig) → Buf (Elt Ideal) ℓ) : Prop :=
  True

def Pre_ProductSsdOutRef (m : (ℓ : Loc Cert.ProductSsdOutRef.nD Cert.ProductSsdOutRef.τ Cert.ProductSsdOutRef.sig) → Buf (Elt Bits) ℓ) : Prop :=
  True

def Pre_ProductSsdOutRefIdeal (m : (ℓ : Loc Cert.ProductSsdOutRefIdeal.nD Cert.ProductSsdOutRefIdeal.τ Cert.ProductSsdOutRefIdeal.sig) → Buf (Elt Ideal) ℓ) : Prop :=
  True

def Pre_ProductSsdDyn (m : (ℓ : Loc Cert.ProductSsdDyn.nD Cert.ProductSsdDyn.τ Cert.ProductSsdDyn.sig) → Buf (Elt Bits) ℓ) : Prop :=
  True

def Pre_ProductSsdDynIdeal (m : (ℓ : Loc Cert.ProductSsdDynIdeal.nD Cert.ProductSsdDynIdeal.τ Cert.ProductSsdDynIdeal.sig) → Buf (Elt Ideal) ℓ) : Prop :=
  True

def Pre_ProductSsdDynRef (m : (ℓ : Loc Cert.ProductSsdDynRef.nD Cert.ProductSsdDynRef.τ Cert.ProductSsdDynRef.sig) → Buf (Elt Bits) ℓ) : Prop :=
  True

def Pre_ProductSsdDynRefIdeal (m : (ℓ : Loc Cert.ProductSsdDynRefIdeal.nD Cert.ProductSsdDynRefIdeal.τ Cert.ProductSsdDynRefIdeal.sig) → Buf (Elt Ideal) ℓ) : Prop :=
  True

def Pre_ProductSsdGout (m : (ℓ : Loc Cert.ProductSsdGout.nD Cert.ProductSsdGout.τ Cert.ProductSsdGout.sig) → Buf (Elt Bits) ℓ) : Prop :=
  True

def Pre_ProductSsdGoutIdeal (m : (ℓ : Loc Cert.ProductSsdGoutIdeal.nD Cert.ProductSsdGoutIdeal.τ Cert.ProductSsdGoutIdeal.sig) → Buf (Elt Ideal) ℓ) : Prop :=
  True

def Pre_ProductSsdGoutRef (m : (ℓ : Loc Cert.ProductSsdGoutRef.nD Cert.ProductSsdGoutRef.τ Cert.ProductSsdGoutRef.sig) → Buf (Elt Bits) ℓ) : Prop :=
  True

def Pre_ProductSsdGoutRefIdeal (m : (ℓ : Loc Cert.ProductSsdGoutRefIdeal.nD Cert.ProductSsdGoutRefIdeal.τ Cert.ProductSsdGoutRefIdeal.sig) → Buf (Elt Ideal) ℓ) : Prop :=
  True

def Pre_ProductSsdGin (m : (ℓ : Loc Cert.ProductSsdGin.nD Cert.ProductSsdGin.τ Cert.ProductSsdGin.sig) → Buf (Elt Bits) ℓ) : Prop :=
  True

def Pre_ProductSsdGinIdeal (m : (ℓ : Loc Cert.ProductSsdGinIdeal.nD Cert.ProductSsdGinIdeal.τ Cert.ProductSsdGinIdeal.sig) → Buf (Elt Ideal) ℓ) : Prop :=
  True

def Pre_ProductSsdGinRef (m : (ℓ : Loc Cert.ProductSsdGinRef.nD Cert.ProductSsdGinRef.τ Cert.ProductSsdGinRef.sig) → Buf (Elt Bits) ℓ) : Prop :=
  True

def Pre_ProductSsdGinRefIdeal (m : (ℓ : Loc Cert.ProductSsdGinRefIdeal.nD Cert.ProductSsdGinRefIdeal.τ Cert.ProductSsdGinRefIdeal.sig) → Buf (Elt Ideal) ℓ) : Prop :=
  True

def Pre_ProductSsdDh (m : (ℓ : Loc Cert.ProductSsdDh.nD Cert.ProductSsdDh.τ Cert.ProductSsdDh.sig) → Buf (Elt Bits) ℓ) : Prop :=
  True

def Pre_ProductSsdDhIdeal (m : (ℓ : Loc Cert.ProductSsdDhIdeal.nD Cert.ProductSsdDhIdeal.τ Cert.ProductSsdDhIdeal.sig) → Buf (Elt Ideal) ℓ) : Prop :=
  True

def Pre_ProductSsdDhRef (m : (ℓ : Loc Cert.ProductSsdDhRef.nD Cert.ProductSsdDhRef.τ Cert.ProductSsdDhRef.sig) → Buf (Elt Bits) ℓ) : Prop :=
  True

def Pre_ProductSsdDhRefIdeal (m : (ℓ : Loc Cert.ProductSsdDhRefIdeal.nD Cert.ProductSsdDhRefIdeal.τ Cert.ProductSsdDhRefIdeal.sig) → Buf (Elt Ideal) ℓ) : Prop :=
  True

def Pre_StepFfnGu (m : (ℓ : Loc Cert.StepFfnGu.nD Cert.StepFfnGu.τ Cert.StepFfnGu.sig) → Buf (Elt Bits) ℓ) : Prop :=
  True

def Pre_StepFfnGuIdeal (m : (ℓ : Loc Cert.StepFfnGuIdeal.nD Cert.StepFfnGuIdeal.τ Cert.StepFfnGuIdeal.sig) → Buf (Elt Ideal) ℓ) : Prop :=
  True

def Pre_StepFfnGuRef (m : (ℓ : Loc Cert.StepFfnGuRef.nD Cert.StepFfnGuRef.τ Cert.StepFfnGuRef.sig) → Buf (Elt Bits) ℓ) : Prop :=
  True

def Pre_StepFfnGuRefIdeal (m : (ℓ : Loc Cert.StepFfnGuRefIdeal.nD Cert.StepFfnGuRefIdeal.τ Cert.StepFfnGuRefIdeal.sig) → Buf (Elt Ideal) ℓ) : Prop :=
  True

def Pre_StepFfnDown (m : (ℓ : Loc Cert.StepFfnDown.nD Cert.StepFfnDown.τ Cert.StepFfnDown.sig) → Buf (Elt Bits) ℓ) : Prop :=
  True

def Pre_StepFfnDownIdeal (m : (ℓ : Loc Cert.StepFfnDownIdeal.nD Cert.StepFfnDownIdeal.τ Cert.StepFfnDownIdeal.sig) → Buf (Elt Ideal) ℓ) : Prop :=
  True

def Pre_StepFfnDownRef (m : (ℓ : Loc Cert.StepFfnDownRef.nD Cert.StepFfnDownRef.τ Cert.StepFfnDownRef.sig) → Buf (Elt Bits) ℓ) : Prop :=
  True

def Pre_StepFfnDownRefIdeal (m : (ℓ : Loc Cert.StepFfnDownRefIdeal.nD Cert.StepFfnDownRefIdeal.τ Cert.StepFfnDownRefIdeal.sig) → Buf (Elt Ideal) ℓ) : Prop :=
  True

def Pre_StepConvIn (m : (ℓ : Loc Cert.StepConvIn.nD Cert.StepConvIn.τ Cert.StepConvIn.sig) → Buf (Elt Bits) ℓ) : Prop :=
  True

def Pre_StepConvInIdeal (m : (ℓ : Loc Cert.StepConvInIdeal.nD Cert.StepConvInIdeal.τ Cert.StepConvInIdeal.sig) → Buf (Elt Ideal) ℓ) : Prop :=
  True

def Pre_StepConvInRef (m : (ℓ : Loc Cert.StepConvInRef.nD Cert.StepConvInRef.τ Cert.StepConvInRef.sig) → Buf (Elt Bits) ℓ) : Prop :=
  True

def Pre_StepConvInRefIdeal (m : (ℓ : Loc Cert.StepConvInRefIdeal.nD Cert.StepConvInRefIdeal.τ Cert.StepConvInRefIdeal.sig) → Buf (Elt Ideal) ℓ) : Prop :=
  True

def Pre_StepConvOut (m : (ℓ : Loc Cert.StepConvOut.nD Cert.StepConvOut.τ Cert.StepConvOut.sig) → Buf (Elt Bits) ℓ) : Prop :=
  True

def Pre_StepConvOutIdeal (m : (ℓ : Loc Cert.StepConvOutIdeal.nD Cert.StepConvOutIdeal.τ Cert.StepConvOutIdeal.sig) → Buf (Elt Ideal) ℓ) : Prop :=
  True

def Pre_StepConvOutRef (m : (ℓ : Loc Cert.StepConvOutRef.nD Cert.StepConvOutRef.τ Cert.StepConvOutRef.sig) → Buf (Elt Bits) ℓ) : Prop :=
  True

def Pre_StepConvOutRefIdeal (m : (ℓ : Loc Cert.StepConvOutRefIdeal.nD Cert.StepConvOutRefIdeal.τ Cert.StepConvOutRefIdeal.sig) → Buf (Elt Ideal) ℓ) : Prop :=
  True

def Pre_StepFoxIn (m : (ℓ : Loc Cert.StepFoxIn.nD Cert.StepFoxIn.τ Cert.StepFoxIn.sig) → Buf (Elt Bits) ℓ) : Prop :=
  True

def Pre_StepFoxInIdeal (m : (ℓ : Loc Cert.StepFoxInIdeal.nD Cert.StepFoxInIdeal.τ Cert.StepFoxInIdeal.sig) → Buf (Elt Ideal) ℓ) : Prop :=
  True

def Pre_StepFoxInRef (m : (ℓ : Loc Cert.StepFoxInRef.nD Cert.StepFoxInRef.τ Cert.StepFoxInRef.sig) → Buf (Elt Bits) ℓ) : Prop :=
  True

def Pre_StepFoxInRefIdeal (m : (ℓ : Loc Cert.StepFoxInRefIdeal.nD Cert.StepFoxInRefIdeal.τ Cert.StepFoxInRefIdeal.sig) → Buf (Elt Ideal) ℓ) : Prop :=
  True

def Pre_StepFoxOut (m : (ℓ : Loc Cert.StepFoxOut.nD Cert.StepFoxOut.τ Cert.StepFoxOut.sig) → Buf (Elt Bits) ℓ) : Prop :=
  True

def Pre_StepFoxOutIdeal (m : (ℓ : Loc Cert.StepFoxOutIdeal.nD Cert.StepFoxOutIdeal.τ Cert.StepFoxOutIdeal.sig) → Buf (Elt Ideal) ℓ) : Prop :=
  True

def Pre_StepFoxOutRef (m : (ℓ : Loc Cert.StepFoxOutRef.nD Cert.StepFoxOutRef.τ Cert.StepFoxOutRef.sig) → Buf (Elt Bits) ℓ) : Prop :=
  True

def Pre_StepFoxOutRefIdeal (m : (ℓ : Loc Cert.StepFoxOutRefIdeal.nD Cert.StepFoxOutRefIdeal.τ Cert.StepFoxOutRefIdeal.sig) → Buf (Elt Ideal) ℓ) : Prop :=
  True

def Pre_StepSsdIn (m : (ℓ : Loc Cert.StepSsdIn.nD Cert.StepSsdIn.τ Cert.StepSsdIn.sig) → Buf (Elt Bits) ℓ) : Prop :=
  True

def Pre_StepSsdInIdeal (m : (ℓ : Loc Cert.StepSsdInIdeal.nD Cert.StepSsdInIdeal.τ Cert.StepSsdInIdeal.sig) → Buf (Elt Ideal) ℓ) : Prop :=
  True

def Pre_StepSsdInRef (m : (ℓ : Loc Cert.StepSsdInRef.nD Cert.StepSsdInRef.τ Cert.StepSsdInRef.sig) → Buf (Elt Bits) ℓ) : Prop :=
  True

def Pre_StepSsdInRefIdeal (m : (ℓ : Loc Cert.StepSsdInRefIdeal.nD Cert.StepSsdInRefIdeal.τ Cert.StepSsdInRefIdeal.sig) → Buf (Elt Ideal) ℓ) : Prop :=
  True

def Pre_StepConvDw (m : (ℓ : Loc Cert.StepConvDw.nD Cert.StepConvDw.τ Cert.StepConvDw.sig) → Buf (Elt Bits) ℓ) : Prop :=
  True

def Pre_StepConvDwIdeal (m : (ℓ : Loc Cert.StepConvDwIdeal.nD Cert.StepConvDwIdeal.τ Cert.StepConvDwIdeal.sig) → Buf (Elt Ideal) ℓ) : Prop :=
  True

def Pre_StepConvDwRef (m : (ℓ : Loc Cert.StepConvDwRef.nD Cert.StepConvDwRef.τ Cert.StepConvDwRef.sig) → Buf (Elt Bits) ℓ) : Prop :=
  True

def Pre_StepConvDwRefIdeal (m : (ℓ : Loc Cert.StepConvDwRefIdeal.nD Cert.StepConvDwRefIdeal.τ Cert.StepConvDwRefIdeal.sig) → Buf (Elt Ideal) ℓ) : Prop :=
  True

def Pre_StepSsdConvW (m : (ℓ : Loc Cert.StepSsdConvW.nD Cert.StepSsdConvW.τ Cert.StepSsdConvW.sig) → Buf (Elt Bits) ℓ) : Prop :=
  True

def Pre_StepSsdConvWIdeal (m : (ℓ : Loc Cert.StepSsdConvWIdeal.nD Cert.StepSsdConvWIdeal.τ Cert.StepSsdConvWIdeal.sig) → Buf (Elt Ideal) ℓ) : Prop :=
  True

def Pre_StepSsdConvWRef (m : (ℓ : Loc Cert.StepSsdConvWRef.nD Cert.StepSsdConvWRef.τ Cert.StepSsdConvWRef.sig) → Buf (Elt Bits) ℓ) : Prop :=
  True

def Pre_StepSsdConvWRefIdeal (m : (ℓ : Loc Cert.StepSsdConvWRefIdeal.nD Cert.StepSsdConvWRefIdeal.τ Cert.StepSsdConvWRefIdeal.sig) → Buf (Elt Ideal) ℓ) : Prop :=
  True

def Pre_StepSsdConvB (m : (ℓ : Loc Cert.StepSsdConvB.nD Cert.StepSsdConvB.τ Cert.StepSsdConvB.sig) → Buf (Elt Bits) ℓ) : Prop :=
  True

def Pre_StepSsdConvBIdeal (m : (ℓ : Loc Cert.StepSsdConvBIdeal.nD Cert.StepSsdConvBIdeal.τ Cert.StepSsdConvBIdeal.sig) → Buf (Elt Ideal) ℓ) : Prop :=
  True

def Pre_StepSsdConvBRef (m : (ℓ : Loc Cert.StepSsdConvBRef.nD Cert.StepSsdConvBRef.τ Cert.StepSsdConvBRef.sig) → Buf (Elt Bits) ℓ) : Prop :=
  True

def Pre_StepSsdConvBRefIdeal (m : (ℓ : Loc Cert.StepSsdConvBRefIdeal.nD Cert.StepSsdConvBRefIdeal.τ Cert.StepSsdConvBRefIdeal.sig) → Buf (Elt Ideal) ℓ) : Prop :=
  True

def Pre_StepSsdNorm (m : (ℓ : Loc Cert.StepSsdNorm.nD Cert.StepSsdNorm.τ Cert.StepSsdNorm.sig) → Buf (Elt Bits) ℓ) : Prop :=
  True

def Pre_StepSsdNormIdeal (m : (ℓ : Loc Cert.StepSsdNormIdeal.nD Cert.StepSsdNormIdeal.τ Cert.StepSsdNormIdeal.sig) → Buf (Elt Ideal) ℓ) : Prop :=
  True

def Pre_StepSsdNormRef (m : (ℓ : Loc Cert.StepSsdNormRef.nD Cert.StepSsdNormRef.τ Cert.StepSsdNormRef.sig) → Buf (Elt Bits) ℓ) : Prop :=
  True

def Pre_StepSsdNormRefIdeal (m : (ℓ : Loc Cert.StepSsdNormRefIdeal.nD Cert.StepSsdNormRefIdeal.τ Cert.StepSsdNormRefIdeal.sig) → Buf (Elt Ideal) ℓ) : Prop :=
  True

def Pre_StepMixNorm (m : (ℓ : Loc Cert.StepMixNorm.nD Cert.StepMixNorm.τ Cert.StepMixNorm.sig) → Buf (Elt Bits) ℓ) : Prop :=
  True

def Pre_StepMixNormIdeal (m : (ℓ : Loc Cert.StepMixNormIdeal.nD Cert.StepMixNormIdeal.τ Cert.StepMixNormIdeal.sig) → Buf (Elt Ideal) ℓ) : Prop :=
  True

def Pre_StepMixNormRef (m : (ℓ : Loc Cert.StepMixNormRef.nD Cert.StepMixNormRef.τ Cert.StepMixNormRef.sig) → Buf (Elt Bits) ℓ) : Prop :=
  True

def Pre_StepMixNormRefIdeal (m : (ℓ : Loc Cert.StepMixNormRefIdeal.nD Cert.StepMixNormRefIdeal.τ Cert.StepMixNormRefIdeal.sig) → Buf (Elt Ideal) ℓ) : Prop :=
  True

def Pre_StepFoxBf (m : (ℓ : Loc Cert.StepFoxBf.nD Cert.StepFoxBf.τ Cert.StepFoxBf.sig) → Buf (Elt Bits) ℓ) : Prop :=
  True

def Pre_StepFoxBfIdeal (m : (ℓ : Loc Cert.StepFoxBfIdeal.nD Cert.StepFoxBfIdeal.τ Cert.StepFoxBfIdeal.sig) → Buf (Elt Ideal) ℓ) : Prop :=
  True

def Pre_StepFoxBfRef (m : (ℓ : Loc Cert.StepFoxBfRef.nD Cert.StepFoxBfRef.τ Cert.StepFoxBfRef.sig) → Buf (Elt Bits) ℓ) : Prop :=
  True

def Pre_StepFoxBfRefIdeal (m : (ℓ : Loc Cert.StepFoxBfRefIdeal.nD Cert.StepFoxBfRefIdeal.τ Cert.StepFoxBfRefIdeal.sig) → Buf (Elt Ideal) ℓ) : Prop :=
  True

def Pre_StepFoxQ (m : (ℓ : Loc Cert.StepFoxQ.nD Cert.StepFoxQ.τ Cert.StepFoxQ.sig) → Buf (Elt Bits) ℓ) : Prop :=
  True

def Pre_StepFoxQIdeal (m : (ℓ : Loc Cert.StepFoxQIdeal.nD Cert.StepFoxQIdeal.τ Cert.StepFoxQIdeal.sig) → Buf (Elt Ideal) ℓ) : Prop :=
  True

def Pre_StepFoxQRef (m : (ℓ : Loc Cert.StepFoxQRef.nD Cert.StepFoxQRef.τ Cert.StepFoxQRef.sig) → Buf (Elt Bits) ℓ) : Prop :=
  True

def Pre_StepFoxQRefIdeal (m : (ℓ : Loc Cert.StepFoxQRefIdeal.nD Cert.StepFoxQRefIdeal.τ Cert.StepFoxQRefIdeal.sig) → Buf (Elt Ideal) ℓ) : Prop :=
  True

def Pre_StepSsdDt (m : (ℓ : Loc Cert.StepSsdDt.nD Cert.StepSsdDt.τ Cert.StepSsdDt.sig) → Buf (Elt Bits) ℓ) : Prop :=
  True

def Pre_StepSsdDtIdeal (m : (ℓ : Loc Cert.StepSsdDtIdeal.nD Cert.StepSsdDtIdeal.τ Cert.StepSsdDtIdeal.sig) → Buf (Elt Ideal) ℓ) : Prop :=
  True

def Pre_StepSsdDtRef (m : (ℓ : Loc Cert.StepSsdDtRef.nD Cert.StepSsdDtRef.τ Cert.StepSsdDtRef.sig) → Buf (Elt Bits) ℓ) : Prop :=
  True

def Pre_StepSsdDtRefIdeal (m : (ℓ : Loc Cert.StepSsdDtRefIdeal.nD Cert.StepSsdDtRefIdeal.τ Cert.StepSsdDtRefIdeal.sig) → Buf (Elt Ideal) ℓ) : Prop :=
  True

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherReference [hGatherReference : Cert.GatherReference.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Grads [hGrads : Cert.Grads.Facts] : Prop :=
  ∀ (m : (ℓ : Loc Cert.Grads.nD Cert.Grads.τ Cert.Grads.sig) → Buf (Elt Bits) ℓ) (g : Dev Cert.Grads.nD → PrngReg), Pre_Grads m →
    θ_run (Cert.Grads.defs (F := Bits)) (onTc (τ := Cert.Grads.τ) (Cert.Grads.main (F := Bits))) ⟨m, fun _ => 0, g⟩ (fun r => (∀ c : Dev Cert.Grads.nD,
      r.2.mem ((c.tc : Thread Cert.Grads.nD Cert.Grads.τ).loc Cert.Grads.main_arg0) = m ((c.tc : Thread Cert.Grads.nD Cert.Grads.τ).loc Cert.Grads.main_arg0))
      ∧ r.2.sem = fun _ => 0)

def quiescent_GradsIdeal [hGradsIdeal : Cert.GradsIdeal.Facts] : Prop :=
  ∀ (m : (ℓ : Loc Cert.GradsIdeal.nD Cert.GradsIdeal.τ Cert.GradsIdeal.sig) → Buf (Elt Ideal) ℓ) (g : Dev Cert.GradsIdeal.nD → PrngReg), Pre_GradsIdeal m →
    θ_run (Cert.GradsIdeal.defs (F := Ideal)) (onTc (τ := Cert.GradsIdeal.τ) (Cert.GradsIdeal.main (F := Ideal))) ⟨m, fun _ => 0, g⟩ (fun r => (∀ c : Dev Cert.GradsIdeal.nD,
      r.2.mem ((c.tc : Thread Cert.GradsIdeal.nD Cert.GradsIdeal.τ).loc Cert.GradsIdeal.main_arg0) = m ((c.tc : Thread Cert.GradsIdeal.nD Cert.GradsIdeal.τ).loc Cert.GradsIdeal.main_arg0))
      ∧ r.2.sem = fun _ => 0)

def quiescent_GradsReference [hGradsReference : Cert.GradsReference.Facts] : Prop :=
  ∀ (m : (ℓ : Loc Cert.GradsReference.nD Cert.GradsReference.τ Cert.GradsReference.sig) → Buf (Elt Bits) ℓ) (g : Dev Cert.GradsReference.nD → PrngReg), Pre_GradsReference m →
    θ_run (Cert.GradsReference.defs (F := Bits)) (onTc (τ := Cert.GradsReference.τ) (Cert.GradsReference.main (F := Bits))) ⟨m, fun _ => 0, g⟩ (fun r => (∀ c : Dev Cert.GradsReference.nD,
      r.2.mem ((c.tc : Thread Cert.GradsReference.nD Cert.GradsReference.τ).loc Cert.GradsReference.main_arg0) = m ((c.tc : Thread Cert.GradsReference.nD Cert.GradsReference.τ).loc Cert.GradsReference.main_arg0))
      ∧ r.2.sem = fun _ => 0)

def quiescent_GradsReferenceIdeal [hGradsReferenceIdeal : Cert.GradsReferenceIdeal.Facts] : Prop :=
  ∀ (m : (ℓ : Loc Cert.GradsReferenceIdeal.nD Cert.GradsReferenceIdeal.τ Cert.GradsReferenceIdeal.sig) → Buf (Elt Ideal) ℓ) (g : Dev Cert.GradsReferenceIdeal.nD → PrngReg), Pre_GradsReferenceIdeal m →
    θ_run (Cert.GradsReferenceIdeal.defs (F := Ideal)) (onTc (τ := Cert.GradsReferenceIdeal.τ) (Cert.GradsReferenceIdeal.main (F := Ideal))) ⟨m, fun _ => 0, g⟩ (fun r => (∀ c : Dev Cert.GradsReferenceIdeal.nD,
      r.2.mem ((c.tc : Thread Cert.GradsReferenceIdeal.nD Cert.GradsReferenceIdeal.τ).loc Cert.GradsReferenceIdeal.main_arg0) = m ((c.tc : Thread Cert.GradsReferenceIdeal.nD Cert.GradsReferenceIdeal.τ).loc Cert.GradsReferenceIdeal.main_arg0))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormReference [hNormReference : Cert.NormReference.Facts] : Prop :=
  ∀ (m : (ℓ : Loc Cert.NormReference.nD Cert.NormReference.τ Cert.NormReference.sig) → Buf (Elt Bits) ℓ) (g : Dev Cert.NormReference.nD → PrngReg), Pre_NormReference m →
    θ_run (Cert.NormReference.defs (F := Bits)) (onTc (τ := Cert.NormReference.τ) (Cert.NormReference.main (F := Bits))) ⟨m, fun _ => 0, g⟩ (fun r => (∀ c : Dev Cert.NormReference.nD,
      r.2.mem ((c.tc : Thread Cert.NormReference.nD Cert.NormReference.τ).loc Cert.NormReference.main_arg0) = m ((c.tc : Thread Cert.NormReference.nD Cert.NormReference.τ).loc Cert.NormReference.main_arg0)
      ∧ r.2.mem ((c.tc : Thread Cert.NormReference.nD Cert.NormReference.τ).loc Cert.NormReference.main_arg1) = m ((c.tc : Thread Cert.NormReference.nD Cert.NormReference.τ).loc Cert.NormReference.main_arg1)
      ∧ r.2.mem ((c.tc : Thread Cert.NormReference.nD Cert.NormReference.τ).loc Cert.NormReference.main_arg2) = m ((c.tc : Thread Cert.NormReference.nD Cert.NormReference.τ).loc Cert.NormReference.main_arg2)
      ∧ r.2.mem ((c.tc : Thread Cert.NormReference.nD Cert.NormReference.τ).loc Cert.NormReference.main_arg3) = m ((c.tc : Thread Cert.NormReference.nD Cert.NormReference.τ).loc Cert.NormReference.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_Product [hProduct : Cert.Product.Facts] : Prop :=
  ∀ (m : (ℓ : Loc Cert.Product.nD Cert.Product.τ Cert.Product.sig) → Buf (Elt Bits) ℓ) (g : Dev Cert.Product.nD → PrngReg), Pre_Product m →
    θ_run (Cert.Product.defs (F := Bits)) (onTc (τ := Cert.Product.τ) (Cert.Product.main (F := Bits))) ⟨m, fun _ => 0, g⟩ (fun r => (∀ c : Dev Cert.Product.nD,
      r.2.mem ((c.tc : Thread Cert.Product.nD Cert.Product.τ).loc Cert.Product.main_arg0) = m ((c.tc : Thread Cert.Product.nD Cert.Product.τ).loc Cert.Product.main_arg0)
      ∧ r.2.mem ((c.tc : Thread Cert.Product.nD Cert.Product.τ).loc Cert.Product.main_arg1) = m ((c.tc : Thread Cert.Product.nD Cert.Product.τ).loc Cert.Product.main_arg1))
      ∧ r.2.sem = fun _ => 0)

def quiescent_ProductIdeal [hProductIdeal : Cert.ProductIdeal.Facts] : Prop :=
  ∀ (m : (ℓ : Loc Cert.ProductIdeal.nD Cert.ProductIdeal.τ Cert.ProductIdeal.sig) → Buf (Elt Ideal) ℓ) (g : Dev Cert.ProductIdeal.nD → PrngReg), Pre_ProductIdeal m →
    θ_run (Cert.ProductIdeal.defs (F := Ideal)) (onTc (τ := Cert.ProductIdeal.τ) (Cert.ProductIdeal.main (F := Ideal))) ⟨m, fun _ => 0, g⟩ (fun r => (∀ c : Dev Cert.ProductIdeal.nD,
      r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
      ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1))
      ∧ r.2.sem = fun _ => 0)

def quiescent_ProductRef [hProductRef : Cert.ProductRef.Facts] : Prop :=
  ∀ (m : (ℓ : Loc Cert.ProductRef.nD Cert.ProductRef.τ Cert.ProductRef.sig) → Buf (Elt Bits) ℓ) (g : Dev Cert.ProductRef.nD → PrngReg), Pre_ProductRef m →
    θ_run (Cert.ProductRef.defs (F := Bits)) (onTc (τ := Cert.ProductRef.τ) (Cert.ProductRef.main (F := Bits))) ⟨m, fun _ => 0, g⟩ (fun r => (∀ c : Dev Cert.ProductRef.nD,
      r.2.mem ((c.tc : Thread Cert.ProductRef.nD Cert.ProductRef.τ).loc Cert.ProductRef.main_arg0) = m ((c.tc : Thread Cert.ProductRef.nD Cert.ProductRef.τ).loc Cert.ProductRef.main_arg0)
      ∧ r.2.mem ((c.tc : Thread Cert.ProductRef.nD Cert.ProductRef.τ).loc Cert.ProductRef.main_arg1) = m ((c.tc : Thread Cert.ProductRef.nD Cert.ProductRef.τ).loc Cert.ProductRef.main_arg1))
      ∧ r.2.sem = fun _ => 0)

def quiescent_ProductRefIdeal [hProductRefIdeal : Cert.ProductRefIdeal.Facts] : Prop :=
  ∀ (m : (ℓ : Loc Cert.ProductRefIdeal.nD Cert.ProductRefIdeal.τ Cert.ProductRefIdeal.sig) → Buf (Elt Ideal) ℓ) (g : Dev Cert.ProductRefIdeal.nD → PrngReg), Pre_ProductRefIdeal m →
    θ_run (Cert.ProductRefIdeal.defs (F := Ideal)) (onTc (τ := Cert.ProductRefIdeal.τ) (Cert.ProductRefIdeal.main (F := Ideal))) ⟨m, fun _ => 0, g⟩ (fun r => (∀ c : Dev Cert.ProductRefIdeal.nD,
      r.2.mem ((c.tc : Thread Cert.ProductRefIdeal.nD Cert.ProductRefIdeal.τ).loc Cert.ProductRefIdeal.main_arg0) = m ((c.tc : Thread Cert.ProductRefIdeal.nD Cert.ProductRefIdeal.τ).loc Cert.ProductRefIdeal.main_arg0)
      ∧ r.2.mem ((c.tc : Thread Cert.ProductRefIdeal.nD Cert.ProductRefIdeal.τ).loc Cert.ProductRefIdeal.main_arg1) = m ((c.tc : Thread Cert.ProductRefIdeal.nD Cert.ProductRefIdeal.τ).loc Cert.ProductRefIdeal.main_arg1))
      ∧ r.2.sem = fun _ => 0)

def quiescent_ProductInput [hProductInput : Cert.ProductInput.Facts] : Prop :=
  ∀ (m : (ℓ : Loc Cert.ProductInput.nD Cert.ProductInput.τ Cert.ProductInput.sig) → Buf (Elt Bits) ℓ) (g : Dev Cert.ProductInput.nD → PrngReg), Pre_ProductInput m →
    θ_run (Cert.ProductInput.defs (F := Bits)) (onTc (τ := Cert.ProductInput.τ) (Cert.ProductInput.main (F := Bits))) ⟨m, fun _ => 0, g⟩ (fun r => (∀ c : Dev Cert.ProductInput.nD,
      r.2.mem ((c.tc : Thread Cert.ProductInput.nD Cert.ProductInput.τ).loc Cert.ProductInput.main_arg0) = m ((c.tc : Thread Cert.ProductInput.nD Cert.ProductInput.τ).loc Cert.ProductInput.main_arg0)
      ∧ r.2.mem ((c.tc : Thread Cert.ProductInput.nD Cert.ProductInput.τ).loc Cert.ProductInput.main_arg1) = m ((c.tc : Thread Cert.ProductInput.nD Cert.ProductInput.τ).loc Cert.ProductInput.main_arg1))
      ∧ r.2.sem = fun _ => 0)

def quiescent_ProductInputIdeal [hProductInputIdeal : Cert.ProductInputIdeal.Facts] : Prop :=
  ∀ (m : (ℓ : Loc Cert.ProductInputIdeal.nD Cert.ProductInputIdeal.τ Cert.ProductInputIdeal.sig) → Buf (Elt Ideal) ℓ) (g : Dev Cert.ProductInputIdeal.nD → PrngReg), Pre_ProductInputIdeal m →
    θ_run (Cert.ProductInputIdeal.defs (F := Ideal)) (onTc (τ := Cert.ProductInputIdeal.τ) (Cert.ProductInputIdeal.main (F := Ideal))) ⟨m, fun _ => 0, g⟩ (fun r => (∀ c : Dev Cert.ProductInputIdeal.nD,
      r.2.mem ((c.tc : Thread Cert.ProductInputIdeal.nD Cert.ProductInputIdeal.τ).loc Cert.ProductInputIdeal.main_arg0) = m ((c.tc : Thread Cert.ProductInputIdeal.nD Cert.ProductInputIdeal.τ).loc Cert.ProductInputIdeal.main_arg0)
      ∧ r.2.mem ((c.tc : Thread Cert.ProductInputIdeal.nD Cert.ProductInputIdeal.τ).loc Cert.ProductInputIdeal.main_arg1) = m ((c.tc : Thread Cert.ProductInputIdeal.nD Cert.ProductInputIdeal.τ).loc Cert.ProductInputIdeal.main_arg1))
      ∧ r.2.sem = fun _ => 0)

def quiescent_ProductInputRef [hProductInputRef : Cert.ProductInputRef.Facts] : Prop :=
  ∀ (m : (ℓ : Loc Cert.ProductInputRef.nD Cert.ProductInputRef.τ Cert.ProductInputRef.sig) → Buf (Elt Bits) ℓ) (g : Dev Cert.ProductInputRef.nD → PrngReg), Pre_ProductInputRef m →
    θ_run (Cert.ProductInputRef.defs (F := Bits)) (onTc (τ := Cert.ProductInputRef.τ) (Cert.ProductInputRef.main (F := Bits))) ⟨m, fun _ => 0, g⟩ (fun r => (∀ c : Dev Cert.ProductInputRef.nD,
      r.2.mem ((c.tc : Thread Cert.ProductInputRef.nD Cert.ProductInputRef.τ).loc Cert.ProductInputRef.main_arg0) = m ((c.tc : Thread Cert.ProductInputRef.nD Cert.ProductInputRef.τ).loc Cert.ProductInputRef.main_arg0)
      ∧ r.2.mem ((c.tc : Thread Cert.ProductInputRef.nD Cert.ProductInputRef.τ).loc Cert.ProductInputRef.main_arg1) = m ((c.tc : Thread Cert.ProductInputRef.nD Cert.ProductInputRef.τ).loc Cert.ProductInputRef.main_arg1))
      ∧ r.2.sem = fun _ => 0)

def quiescent_ProductInputRefIdeal [hProductInputRefIdeal : Cert.ProductInputRefIdeal.Facts] : Prop :=
  ∀ (m : (ℓ : Loc Cert.ProductInputRefIdeal.nD Cert.ProductInputRefIdeal.τ Cert.ProductInputRefIdeal.sig) → Buf (Elt Ideal) ℓ) (g : Dev Cert.ProductInputRefIdeal.nD → PrngReg), Pre_ProductInputRefIdeal m →
    θ_run (Cert.ProductInputRefIdeal.defs (F := Ideal)) (onTc (τ := Cert.ProductInputRefIdeal.τ) (Cert.ProductInputRefIdeal.main (F := Ideal))) ⟨m, fun _ => 0, g⟩ (fun r => (∀ c : Dev Cert.ProductInputRefIdeal.nD,
      r.2.mem ((c.tc : Thread Cert.ProductInputRefIdeal.nD Cert.ProductInputRefIdeal.τ).loc Cert.ProductInputRefIdeal.main_arg0) = m ((c.tc : Thread Cert.ProductInputRefIdeal.nD Cert.ProductInputRefIdeal.τ).loc Cert.ProductInputRefIdeal.main_arg0)
      ∧ r.2.mem ((c.tc : Thread Cert.ProductInputRefIdeal.nD Cert.ProductInputRefIdeal.τ).loc Cert.ProductInputRefIdeal.main_arg1) = m ((c.tc : Thread Cert.ProductInputRefIdeal.nD Cert.ProductInputRefIdeal.τ).loc Cert.ProductInputRefIdeal.main_arg1))
      ∧ r.2.sem = fun _ => 0)

def quiescent_ProductWeight [hProductWeight : Cert.ProductWeight.Facts] : Prop :=
  ∀ (m : (ℓ : Loc Cert.ProductWeight.nD Cert.ProductWeight.τ Cert.ProductWeight.sig) → Buf (Elt Bits) ℓ) (g : Dev Cert.ProductWeight.nD → PrngReg), Pre_ProductWeight m →
    θ_run (Cert.ProductWeight.defs (F := Bits)) (onTc (τ := Cert.ProductWeight.τ) (Cert.ProductWeight.main (F := Bits))) ⟨m, fun _ => 0, g⟩ (fun r => (∀ c : Dev Cert.ProductWeight.nD,
      r.2.mem ((c.tc : Thread Cert.ProductWeight.nD Cert.ProductWeight.τ).loc Cert.ProductWeight.main_arg0) = m ((c.tc : Thread Cert.ProductWeight.nD Cert.ProductWeight.τ).loc Cert.ProductWeight.main_arg0)
      ∧ r.2.mem ((c.tc : Thread Cert.ProductWeight.nD Cert.ProductWeight.τ).loc Cert.ProductWeight.main_arg1) = m ((c.tc : Thread Cert.ProductWeight.nD Cert.ProductWeight.τ).loc Cert.ProductWeight.main_arg1))
      ∧ r.2.sem = fun _ => 0)

def quiescent_ProductWeightIdeal [hProductWeightIdeal : Cert.ProductWeightIdeal.Facts] : Prop :=
  ∀ (m : (ℓ : Loc Cert.ProductWeightIdeal.nD Cert.ProductWeightIdeal.τ Cert.ProductWeightIdeal.sig) → Buf (Elt Ideal) ℓ) (g : Dev Cert.ProductWeightIdeal.nD → PrngReg), Pre_ProductWeightIdeal m →
    θ_run (Cert.ProductWeightIdeal.defs (F := Ideal)) (onTc (τ := Cert.ProductWeightIdeal.τ) (Cert.ProductWeightIdeal.main (F := Ideal))) ⟨m, fun _ => 0, g⟩ (fun r => (∀ c : Dev Cert.ProductWeightIdeal.nD,
      r.2.mem ((c.tc : Thread Cert.ProductWeightIdeal.nD Cert.ProductWeightIdeal.τ).loc Cert.ProductWeightIdeal.main_arg0) = m ((c.tc : Thread Cert.ProductWeightIdeal.nD Cert.ProductWeightIdeal.τ).loc Cert.ProductWeightIdeal.main_arg0)
      ∧ r.2.mem ((c.tc : Thread Cert.ProductWeightIdeal.nD Cert.ProductWeightIdeal.τ).loc Cert.ProductWeightIdeal.main_arg1) = m ((c.tc : Thread Cert.ProductWeightIdeal.nD Cert.ProductWeightIdeal.τ).loc Cert.ProductWeightIdeal.main_arg1))
      ∧ r.2.sem = fun _ => 0)

def quiescent_ProductWeightRef [hProductWeightRef : Cert.ProductWeightRef.Facts] : Prop :=
  ∀ (m : (ℓ : Loc Cert.ProductWeightRef.nD Cert.ProductWeightRef.τ Cert.ProductWeightRef.sig) → Buf (Elt Bits) ℓ) (g : Dev Cert.ProductWeightRef.nD → PrngReg), Pre_ProductWeightRef m →
    θ_run (Cert.ProductWeightRef.defs (F := Bits)) (onTc (τ := Cert.ProductWeightRef.τ) (Cert.ProductWeightRef.main (F := Bits))) ⟨m, fun _ => 0, g⟩ (fun r => (∀ c : Dev Cert.ProductWeightRef.nD,
      r.2.mem ((c.tc : Thread Cert.ProductWeightRef.nD Cert.ProductWeightRef.τ).loc Cert.ProductWeightRef.main_arg0) = m ((c.tc : Thread Cert.ProductWeightRef.nD Cert.ProductWeightRef.τ).loc Cert.ProductWeightRef.main_arg0)
      ∧ r.2.mem ((c.tc : Thread Cert.ProductWeightRef.nD Cert.ProductWeightRef.τ).loc Cert.ProductWeightRef.main_arg1) = m ((c.tc : Thread Cert.ProductWeightRef.nD Cert.ProductWeightRef.τ).loc Cert.ProductWeightRef.main_arg1))
      ∧ r.2.sem = fun _ => 0)

def quiescent_ProductWeightRefIdeal [hProductWeightRefIdeal : Cert.ProductWeightRefIdeal.Facts] : Prop :=
  ∀ (m : (ℓ : Loc Cert.ProductWeightRefIdeal.nD Cert.ProductWeightRefIdeal.τ Cert.ProductWeightRefIdeal.sig) → Buf (Elt Ideal) ℓ) (g : Dev Cert.ProductWeightRefIdeal.nD → PrngReg), Pre_ProductWeightRefIdeal m →
    θ_run (Cert.ProductWeightRefIdeal.defs (F := Ideal)) (onTc (τ := Cert.ProductWeightRefIdeal.τ) (Cert.ProductWeightRefIdeal.main (F := Ideal))) ⟨m, fun _ => 0, g⟩ (fun r => (∀ c : Dev Cert.ProductWeightRefIdeal.nD,
      r.2.mem ((c.tc : Thread Cert.ProductWeightRefIdeal.nD Cert.ProductWeightRefIdeal.τ).loc Cert.ProductWeightRefIdeal.main_arg0) = m ((c.tc : Thread Cert.ProductWeightRefIdeal.nD Cert.ProductWeightRefIdeal.τ).loc Cert.ProductWeightRefIdeal.main_arg0)
      ∧ r.2.mem ((c.tc : Thread Cert.ProductWeightRefIdeal.nD Cert.ProductWeightRefIdeal.τ).loc Cert.ProductWeightRefIdeal.main_arg1) = m ((c.tc : Thread Cert.ProductWeightRefIdeal.nD Cert.ProductWeightRefIdeal.τ).loc Cert.ProductWeightRefIdeal.main_arg1))
      ∧ r.2.sem = fun _ => 0)

def quiescent_ProductFfnGu [hProductFfnGu : Cert.ProductFfnGu.Facts] : Prop :=
  ∀ (m : (ℓ : Loc Cert.ProductFfnGu.nD Cert.ProductFfnGu.τ Cert.ProductFfnGu.sig) → Buf (Elt Bits) ℓ) (g : Dev Cert.ProductFfnGu.nD → PrngReg), Pre_ProductFfnGu m →
    θ_run (Cert.ProductFfnGu.defs (F := Bits)) (onTc (τ := Cert.ProductFfnGu.τ) (Cert.ProductFfnGu.main (F := Bits))) ⟨m, fun _ => 0, g⟩ (fun r => (∀ c : Dev Cert.ProductFfnGu.nD,
      r.2.mem ((c.tc : Thread Cert.ProductFfnGu.nD Cert.ProductFfnGu.τ).loc Cert.ProductFfnGu.main_arg0) = m ((c.tc : Thread Cert.ProductFfnGu.nD Cert.ProductFfnGu.τ).loc Cert.ProductFfnGu.main_arg0)
      ∧ r.2.mem ((c.tc : Thread Cert.ProductFfnGu.nD Cert.ProductFfnGu.τ).loc Cert.ProductFfnGu.main_arg1) = m ((c.tc : Thread Cert.ProductFfnGu.nD Cert.ProductFfnGu.τ).loc Cert.ProductFfnGu.main_arg1))
      ∧ r.2.sem = fun _ => 0)

def quiescent_ProductFfnGuIdeal [hProductFfnGuIdeal : Cert.ProductFfnGuIdeal.Facts] : Prop :=
  ∀ (m : (ℓ : Loc Cert.ProductFfnGuIdeal.nD Cert.ProductFfnGuIdeal.τ Cert.ProductFfnGuIdeal.sig) → Buf (Elt Ideal) ℓ) (g : Dev Cert.ProductFfnGuIdeal.nD → PrngReg), Pre_ProductFfnGuIdeal m →
    θ_run (Cert.ProductFfnGuIdeal.defs (F := Ideal)) (onTc (τ := Cert.ProductFfnGuIdeal.τ) (Cert.ProductFfnGuIdeal.main (F := Ideal))) ⟨m, fun _ => 0, g⟩ (fun r => (∀ c : Dev Cert.ProductFfnGuIdeal.nD,
      r.2.mem ((c.tc : Thread Cert.ProductFfnGuIdeal.nD Cert.ProductFfnGuIdeal.τ).loc Cert.ProductFfnGuIdeal.main_arg0) = m ((c.tc : Thread Cert.ProductFfnGuIdeal.nD Cert.ProductFfnGuIdeal.τ).loc Cert.ProductFfnGuIdeal.main_arg0)
      ∧ r.2.mem ((c.tc : Thread Cert.ProductFfnGuIdeal.nD Cert.ProductFfnGuIdeal.τ).loc Cert.ProductFfnGuIdeal.main_arg1) = m ((c.tc : Thread Cert.ProductFfnGuIdeal.nD Cert.ProductFfnGuIdeal.τ).loc Cert.ProductFfnGuIdeal.main_arg1))
      ∧ r.2.sem = fun _ => 0)

def quiescent_ProductFfnGuRef [hProductFfnGuRef : Cert.ProductFfnGuRef.Facts] : Prop :=
  ∀ (m : (ℓ : Loc Cert.ProductFfnGuRef.nD Cert.ProductFfnGuRef.τ Cert.ProductFfnGuRef.sig) → Buf (Elt Bits) ℓ) (g : Dev Cert.ProductFfnGuRef.nD → PrngReg), Pre_ProductFfnGuRef m →
    θ_run (Cert.ProductFfnGuRef.defs (F := Bits)) (onTc (τ := Cert.ProductFfnGuRef.τ) (Cert.ProductFfnGuRef.main (F := Bits))) ⟨m, fun _ => 0, g⟩ (fun r => (∀ c : Dev Cert.ProductFfnGuRef.nD,
      r.2.mem ((c.tc : Thread Cert.ProductFfnGuRef.nD Cert.ProductFfnGuRef.τ).loc Cert.ProductFfnGuRef.main_arg0) = m ((c.tc : Thread Cert.ProductFfnGuRef.nD Cert.ProductFfnGuRef.τ).loc Cert.ProductFfnGuRef.main_arg0)
      ∧ r.2.mem ((c.tc : Thread Cert.ProductFfnGuRef.nD Cert.ProductFfnGuRef.τ).loc Cert.ProductFfnGuRef.main_arg1) = m ((c.tc : Thread Cert.ProductFfnGuRef.nD Cert.ProductFfnGuRef.τ).loc Cert.ProductFfnGuRef.main_arg1))
      ∧ r.2.sem = fun _ => 0)

def quiescent_ProductFfnGuRefIdeal [hProductFfnGuRefIdeal : Cert.ProductFfnGuRefIdeal.Facts] : Prop :=
  ∀ (m : (ℓ : Loc Cert.ProductFfnGuRefIdeal.nD Cert.ProductFfnGuRefIdeal.τ Cert.ProductFfnGuRefIdeal.sig) → Buf (Elt Ideal) ℓ) (g : Dev Cert.ProductFfnGuRefIdeal.nD → PrngReg), Pre_ProductFfnGuRefIdeal m →
    θ_run (Cert.ProductFfnGuRefIdeal.defs (F := Ideal)) (onTc (τ := Cert.ProductFfnGuRefIdeal.τ) (Cert.ProductFfnGuRefIdeal.main (F := Ideal))) ⟨m, fun _ => 0, g⟩ (fun r => (∀ c : Dev Cert.ProductFfnGuRefIdeal.nD,
      r.2.mem ((c.tc : Thread Cert.ProductFfnGuRefIdeal.nD Cert.ProductFfnGuRefIdeal.τ).loc Cert.ProductFfnGuRefIdeal.main_arg0) = m ((c.tc : Thread Cert.ProductFfnGuRefIdeal.nD Cert.ProductFfnGuRefIdeal.τ).loc Cert.ProductFfnGuRefIdeal.main_arg0)
      ∧ r.2.mem ((c.tc : Thread Cert.ProductFfnGuRefIdeal.nD Cert.ProductFfnGuRefIdeal.τ).loc Cert.ProductFfnGuRefIdeal.main_arg1) = m ((c.tc : Thread Cert.ProductFfnGuRefIdeal.nD Cert.ProductFfnGuRefIdeal.τ).loc Cert.ProductFfnGuRefIdeal.main_arg1))
      ∧ r.2.sem = fun _ => 0)

def quiescent_ProductFfnDown [hProductFfnDown : Cert.ProductFfnDown.Facts] : Prop :=
  ∀ (m : (ℓ : Loc Cert.ProductFfnDown.nD Cert.ProductFfnDown.τ Cert.ProductFfnDown.sig) → Buf (Elt Bits) ℓ) (g : Dev Cert.ProductFfnDown.nD → PrngReg), Pre_ProductFfnDown m →
    θ_run (Cert.ProductFfnDown.defs (F := Bits)) (onTc (τ := Cert.ProductFfnDown.τ) (Cert.ProductFfnDown.main (F := Bits))) ⟨m, fun _ => 0, g⟩ (fun r => (∀ c : Dev Cert.ProductFfnDown.nD,
      r.2.mem ((c.tc : Thread Cert.ProductFfnDown.nD Cert.ProductFfnDown.τ).loc Cert.ProductFfnDown.main_arg0) = m ((c.tc : Thread Cert.ProductFfnDown.nD Cert.ProductFfnDown.τ).loc Cert.ProductFfnDown.main_arg0)
      ∧ r.2.mem ((c.tc : Thread Cert.ProductFfnDown.nD Cert.ProductFfnDown.τ).loc Cert.ProductFfnDown.main_arg1) = m ((c.tc : Thread Cert.ProductFfnDown.nD Cert.ProductFfnDown.τ).loc Cert.ProductFfnDown.main_arg1)
      ∧ r.2.mem ((c.tc : Thread Cert.ProductFfnDown.nD Cert.ProductFfnDown.τ).loc Cert.ProductFfnDown.main_arg2) = m ((c.tc : Thread Cert.ProductFfnDown.nD Cert.ProductFfnDown.τ).loc Cert.ProductFfnDown.main_arg2))
      ∧ r.2.sem = fun _ => 0)

def quiescent_ProductFfnDownIdeal [hProductFfnDownIdeal : Cert.ProductFfnDownIdeal.Facts] : Prop :=
  ∀ (m : (ℓ : Loc Cert.ProductFfnDownIdeal.nD Cert.ProductFfnDownIdeal.τ Cert.ProductFfnDownIdeal.sig) → Buf (Elt Ideal) ℓ) (g : Dev Cert.ProductFfnDownIdeal.nD → PrngReg), Pre_ProductFfnDownIdeal m →
    θ_run (Cert.ProductFfnDownIdeal.defs (F := Ideal)) (onTc (τ := Cert.ProductFfnDownIdeal.τ) (Cert.ProductFfnDownIdeal.main (F := Ideal))) ⟨m, fun _ => 0, g⟩ (fun r => (∀ c : Dev Cert.ProductFfnDownIdeal.nD,
      r.2.mem ((c.tc : Thread Cert.ProductFfnDownIdeal.nD Cert.ProductFfnDownIdeal.τ).loc Cert.ProductFfnDownIdeal.main_arg0) = m ((c.tc : Thread Cert.ProductFfnDownIdeal.nD Cert.ProductFfnDownIdeal.τ).loc Cert.ProductFfnDownIdeal.main_arg0)
      ∧ r.2.mem ((c.tc : Thread Cert.ProductFfnDownIdeal.nD Cert.ProductFfnDownIdeal.τ).loc Cert.ProductFfnDownIdeal.main_arg1) = m ((c.tc : Thread Cert.ProductFfnDownIdeal.nD Cert.ProductFfnDownIdeal.τ).loc Cert.ProductFfnDownIdeal.main_arg1)
      ∧ r.2.mem ((c.tc : Thread Cert.ProductFfnDownIdeal.nD Cert.ProductFfnDownIdeal.τ).loc Cert.ProductFfnDownIdeal.main_arg2) = m ((c.tc : Thread Cert.ProductFfnDownIdeal.nD Cert.ProductFfnDownIdeal.τ).loc Cert.ProductFfnDownIdeal.main_arg2))
      ∧ r.2.sem = fun _ => 0)

def quiescent_ProductFfnDownRef [hProductFfnDownRef : Cert.ProductFfnDownRef.Facts] : Prop :=
  ∀ (m : (ℓ : Loc Cert.ProductFfnDownRef.nD Cert.ProductFfnDownRef.τ Cert.ProductFfnDownRef.sig) → Buf (Elt Bits) ℓ) (g : Dev Cert.ProductFfnDownRef.nD → PrngReg), Pre_ProductFfnDownRef m →
    θ_run (Cert.ProductFfnDownRef.defs (F := Bits)) (onTc (τ := Cert.ProductFfnDownRef.τ) (Cert.ProductFfnDownRef.main (F := Bits))) ⟨m, fun _ => 0, g⟩ (fun r => (∀ c : Dev Cert.ProductFfnDownRef.nD,
      r.2.mem ((c.tc : Thread Cert.ProductFfnDownRef.nD Cert.ProductFfnDownRef.τ).loc Cert.ProductFfnDownRef.main_arg0) = m ((c.tc : Thread Cert.ProductFfnDownRef.nD Cert.ProductFfnDownRef.τ).loc Cert.ProductFfnDownRef.main_arg0)
      ∧ r.2.mem ((c.tc : Thread Cert.ProductFfnDownRef.nD Cert.ProductFfnDownRef.τ).loc Cert.ProductFfnDownRef.main_arg1) = m ((c.tc : Thread Cert.ProductFfnDownRef.nD Cert.ProductFfnDownRef.τ).loc Cert.ProductFfnDownRef.main_arg1)
      ∧ r.2.mem ((c.tc : Thread Cert.ProductFfnDownRef.nD Cert.ProductFfnDownRef.τ).loc Cert.ProductFfnDownRef.main_arg2) = m ((c.tc : Thread Cert.ProductFfnDownRef.nD Cert.ProductFfnDownRef.τ).loc Cert.ProductFfnDownRef.main_arg2))
      ∧ r.2.sem = fun _ => 0)

def quiescent_ProductFfnDownRefIdeal [hProductFfnDownRefIdeal : Cert.ProductFfnDownRefIdeal.Facts] : Prop :=
  ∀ (m : (ℓ : Loc Cert.ProductFfnDownRefIdeal.nD Cert.ProductFfnDownRefIdeal.τ Cert.ProductFfnDownRefIdeal.sig) → Buf (Elt Ideal) ℓ) (g : Dev Cert.ProductFfnDownRefIdeal.nD → PrngReg), Pre_ProductFfnDownRefIdeal m →
    θ_run (Cert.ProductFfnDownRefIdeal.defs (F := Ideal)) (onTc (τ := Cert.ProductFfnDownRefIdeal.τ) (Cert.ProductFfnDownRefIdeal.main (F := Ideal))) ⟨m, fun _ => 0, g⟩ (fun r => (∀ c : Dev Cert.ProductFfnDownRefIdeal.nD,
      r.2.mem ((c.tc : Thread Cert.ProductFfnDownRefIdeal.nD Cert.ProductFfnDownRefIdeal.τ).loc Cert.ProductFfnDownRefIdeal.main_arg0) = m ((c.tc : Thread Cert.ProductFfnDownRefIdeal.nD Cert.ProductFfnDownRefIdeal.τ).loc Cert.ProductFfnDownRefIdeal.main_arg0)
      ∧ r.2.mem ((c.tc : Thread Cert.ProductFfnDownRefIdeal.nD Cert.ProductFfnDownRefIdeal.τ).loc Cert.ProductFfnDownRefIdeal.main_arg1) = m ((c.tc : Thread Cert.ProductFfnDownRefIdeal.nD Cert.ProductFfnDownRefIdeal.τ).loc Cert.ProductFfnDownRefIdeal.main_arg1)
      ∧ r.2.mem ((c.tc : Thread Cert.ProductFfnDownRefIdeal.nD Cert.ProductFfnDownRefIdeal.τ).loc Cert.ProductFfnDownRefIdeal.main_arg2) = m ((c.tc : Thread Cert.ProductFfnDownRefIdeal.nD Cert.ProductFfnDownRefIdeal.τ).loc Cert.ProductFfnDownRefIdeal.main_arg2))
      ∧ r.2.sem = fun _ => 0)

def quiescent_ProductFfnDact [hProductFfnDact : Cert.ProductFfnDact.Facts] : Prop :=
  ∀ (m : (ℓ : Loc Cert.ProductFfnDact.nD Cert.ProductFfnDact.τ Cert.ProductFfnDact.sig) → Buf (Elt Bits) ℓ) (g : Dev Cert.ProductFfnDact.nD → PrngReg), Pre_ProductFfnDact m →
    θ_run (Cert.ProductFfnDact.defs (F := Bits)) (onTc (τ := Cert.ProductFfnDact.τ) (Cert.ProductFfnDact.main (F := Bits))) ⟨m, fun _ => 0, g⟩ (fun r => (∀ c : Dev Cert.ProductFfnDact.nD,
      r.2.mem ((c.tc : Thread Cert.ProductFfnDact.nD Cert.ProductFfnDact.τ).loc Cert.ProductFfnDact.main_arg0) = m ((c.tc : Thread Cert.ProductFfnDact.nD Cert.ProductFfnDact.τ).loc Cert.ProductFfnDact.main_arg0)
      ∧ r.2.mem ((c.tc : Thread Cert.ProductFfnDact.nD Cert.ProductFfnDact.τ).loc Cert.ProductFfnDact.main_arg1) = m ((c.tc : Thread Cert.ProductFfnDact.nD Cert.ProductFfnDact.τ).loc Cert.ProductFfnDact.main_arg1))
      ∧ r.2.sem = fun _ => 0)

def quiescent_ProductFfnDactIdeal [hProductFfnDactIdeal : Cert.ProductFfnDactIdeal.Facts] : Prop :=
  ∀ (m : (ℓ : Loc Cert.ProductFfnDactIdeal.nD Cert.ProductFfnDactIdeal.τ Cert.ProductFfnDactIdeal.sig) → Buf (Elt Ideal) ℓ) (g : Dev Cert.ProductFfnDactIdeal.nD → PrngReg), Pre_ProductFfnDactIdeal m →
    θ_run (Cert.ProductFfnDactIdeal.defs (F := Ideal)) (onTc (τ := Cert.ProductFfnDactIdeal.τ) (Cert.ProductFfnDactIdeal.main (F := Ideal))) ⟨m, fun _ => 0, g⟩ (fun r => (∀ c : Dev Cert.ProductFfnDactIdeal.nD,
      r.2.mem ((c.tc : Thread Cert.ProductFfnDactIdeal.nD Cert.ProductFfnDactIdeal.τ).loc Cert.ProductFfnDactIdeal.main_arg0) = m ((c.tc : Thread Cert.ProductFfnDactIdeal.nD Cert.ProductFfnDactIdeal.τ).loc Cert.ProductFfnDactIdeal.main_arg0)
      ∧ r.2.mem ((c.tc : Thread Cert.ProductFfnDactIdeal.nD Cert.ProductFfnDactIdeal.τ).loc Cert.ProductFfnDactIdeal.main_arg1) = m ((c.tc : Thread Cert.ProductFfnDactIdeal.nD Cert.ProductFfnDactIdeal.τ).loc Cert.ProductFfnDactIdeal.main_arg1))
      ∧ r.2.sem = fun _ => 0)

def quiescent_ProductFfnDactRef [hProductFfnDactRef : Cert.ProductFfnDactRef.Facts] : Prop :=
  ∀ (m : (ℓ : Loc Cert.ProductFfnDactRef.nD Cert.ProductFfnDactRef.τ Cert.ProductFfnDactRef.sig) → Buf (Elt Bits) ℓ) (g : Dev Cert.ProductFfnDactRef.nD → PrngReg), Pre_ProductFfnDactRef m →
    θ_run (Cert.ProductFfnDactRef.defs (F := Bits)) (onTc (τ := Cert.ProductFfnDactRef.τ) (Cert.ProductFfnDactRef.main (F := Bits))) ⟨m, fun _ => 0, g⟩ (fun r => (∀ c : Dev Cert.ProductFfnDactRef.nD,
      r.2.mem ((c.tc : Thread Cert.ProductFfnDactRef.nD Cert.ProductFfnDactRef.τ).loc Cert.ProductFfnDactRef.main_arg0) = m ((c.tc : Thread Cert.ProductFfnDactRef.nD Cert.ProductFfnDactRef.τ).loc Cert.ProductFfnDactRef.main_arg0)
      ∧ r.2.mem ((c.tc : Thread Cert.ProductFfnDactRef.nD Cert.ProductFfnDactRef.τ).loc Cert.ProductFfnDactRef.main_arg1) = m ((c.tc : Thread Cert.ProductFfnDactRef.nD Cert.ProductFfnDactRef.τ).loc Cert.ProductFfnDactRef.main_arg1))
      ∧ r.2.sem = fun _ => 0)

def quiescent_ProductFfnDactRefIdeal [hProductFfnDactRefIdeal : Cert.ProductFfnDactRefIdeal.Facts] : Prop :=
  ∀ (m : (ℓ : Loc Cert.ProductFfnDactRefIdeal.nD Cert.ProductFfnDactRefIdeal.τ Cert.ProductFfnDactRefIdeal.sig) → Buf (Elt Ideal) ℓ) (g : Dev Cert.ProductFfnDactRefIdeal.nD → PrngReg), Pre_ProductFfnDactRefIdeal m →
    θ_run (Cert.ProductFfnDactRefIdeal.defs (F := Ideal)) (onTc (τ := Cert.ProductFfnDactRefIdeal.τ) (Cert.ProductFfnDactRefIdeal.main (F := Ideal))) ⟨m, fun _ => 0, g⟩ (fun r => (∀ c : Dev Cert.ProductFfnDactRefIdeal.nD,
      r.2.mem ((c.tc : Thread Cert.ProductFfnDactRefIdeal.nD Cert.ProductFfnDactRefIdeal.τ).loc Cert.ProductFfnDactRefIdeal.main_arg0) = m ((c.tc : Thread Cert.ProductFfnDactRefIdeal.nD Cert.ProductFfnDactRefIdeal.τ).loc Cert.ProductFfnDactRefIdeal.main_arg0)
      ∧ r.2.mem ((c.tc : Thread Cert.ProductFfnDactRefIdeal.nD Cert.ProductFfnDactRefIdeal.τ).loc Cert.ProductFfnDactRefIdeal.main_arg1) = m ((c.tc : Thread Cert.ProductFfnDactRefIdeal.nD Cert.ProductFfnDactRefIdeal.τ).loc Cert.ProductFfnDactRefIdeal.main_arg1))
      ∧ r.2.sem = fun _ => 0)

def quiescent_ProductFfnGdown [hProductFfnGdown : Cert.ProductFfnGdown.Facts] : Prop :=
  ∀ (m : (ℓ : Loc Cert.ProductFfnGdown.nD Cert.ProductFfnGdown.τ Cert.ProductFfnGdown.sig) → Buf (Elt Bits) ℓ) (g : Dev Cert.ProductFfnGdown.nD → PrngReg), Pre_ProductFfnGdown m →
    θ_run (Cert.ProductFfnGdown.defs (F := Bits)) (onTc (τ := Cert.ProductFfnGdown.τ) (Cert.ProductFfnGdown.main (F := Bits))) ⟨m, fun _ => 0, g⟩ (fun r => (∀ c : Dev Cert.ProductFfnGdown.nD,
      r.2.mem ((c.tc : Thread Cert.ProductFfnGdown.nD Cert.ProductFfnGdown.τ).loc Cert.ProductFfnGdown.main_arg0) = m ((c.tc : Thread Cert.ProductFfnGdown.nD Cert.ProductFfnGdown.τ).loc Cert.ProductFfnGdown.main_arg0)
      ∧ r.2.mem ((c.tc : Thread Cert.ProductFfnGdown.nD Cert.ProductFfnGdown.τ).loc Cert.ProductFfnGdown.main_arg1) = m ((c.tc : Thread Cert.ProductFfnGdown.nD Cert.ProductFfnGdown.τ).loc Cert.ProductFfnGdown.main_arg1))
      ∧ r.2.sem = fun _ => 0)

def quiescent_ProductFfnGdownIdeal [hProductFfnGdownIdeal : Cert.ProductFfnGdownIdeal.Facts] : Prop :=
  ∀ (m : (ℓ : Loc Cert.ProductFfnGdownIdeal.nD Cert.ProductFfnGdownIdeal.τ Cert.ProductFfnGdownIdeal.sig) → Buf (Elt Ideal) ℓ) (g : Dev Cert.ProductFfnGdownIdeal.nD → PrngReg), Pre_ProductFfnGdownIdeal m →
    θ_run (Cert.ProductFfnGdownIdeal.defs (F := Ideal)) (onTc (τ := Cert.ProductFfnGdownIdeal.τ) (Cert.ProductFfnGdownIdeal.main (F := Ideal))) ⟨m, fun _ => 0, g⟩ (fun r => (∀ c : Dev Cert.ProductFfnGdownIdeal.nD,
      r.2.mem ((c.tc : Thread Cert.ProductFfnGdownIdeal.nD Cert.ProductFfnGdownIdeal.τ).loc Cert.ProductFfnGdownIdeal.main_arg0) = m ((c.tc : Thread Cert.ProductFfnGdownIdeal.nD Cert.ProductFfnGdownIdeal.τ).loc Cert.ProductFfnGdownIdeal.main_arg0)
      ∧ r.2.mem ((c.tc : Thread Cert.ProductFfnGdownIdeal.nD Cert.ProductFfnGdownIdeal.τ).loc Cert.ProductFfnGdownIdeal.main_arg1) = m ((c.tc : Thread Cert.ProductFfnGdownIdeal.nD Cert.ProductFfnGdownIdeal.τ).loc Cert.ProductFfnGdownIdeal.main_arg1))
      ∧ r.2.sem = fun _ => 0)

def quiescent_ProductFfnGdownRef [hProductFfnGdownRef : Cert.ProductFfnGdownRef.Facts] : Prop :=
  ∀ (m : (ℓ : Loc Cert.ProductFfnGdownRef.nD Cert.ProductFfnGdownRef.τ Cert.ProductFfnGdownRef.sig) → Buf (Elt Bits) ℓ) (g : Dev Cert.ProductFfnGdownRef.nD → PrngReg), Pre_ProductFfnGdownRef m →
    θ_run (Cert.ProductFfnGdownRef.defs (F := Bits)) (onTc (τ := Cert.ProductFfnGdownRef.τ) (Cert.ProductFfnGdownRef.main (F := Bits))) ⟨m, fun _ => 0, g⟩ (fun r => (∀ c : Dev Cert.ProductFfnGdownRef.nD,
      r.2.mem ((c.tc : Thread Cert.ProductFfnGdownRef.nD Cert.ProductFfnGdownRef.τ).loc Cert.ProductFfnGdownRef.main_arg0) = m ((c.tc : Thread Cert.ProductFfnGdownRef.nD Cert.ProductFfnGdownRef.τ).loc Cert.ProductFfnGdownRef.main_arg0)
      ∧ r.2.mem ((c.tc : Thread Cert.ProductFfnGdownRef.nD Cert.ProductFfnGdownRef.τ).loc Cert.ProductFfnGdownRef.main_arg1) = m ((c.tc : Thread Cert.ProductFfnGdownRef.nD Cert.ProductFfnGdownRef.τ).loc Cert.ProductFfnGdownRef.main_arg1))
      ∧ r.2.sem = fun _ => 0)

def quiescent_ProductFfnGdownRefIdeal [hProductFfnGdownRefIdeal : Cert.ProductFfnGdownRefIdeal.Facts] : Prop :=
  ∀ (m : (ℓ : Loc Cert.ProductFfnGdownRefIdeal.nD Cert.ProductFfnGdownRefIdeal.τ Cert.ProductFfnGdownRefIdeal.sig) → Buf (Elt Ideal) ℓ) (g : Dev Cert.ProductFfnGdownRefIdeal.nD → PrngReg), Pre_ProductFfnGdownRefIdeal m →
    θ_run (Cert.ProductFfnGdownRefIdeal.defs (F := Ideal)) (onTc (τ := Cert.ProductFfnGdownRefIdeal.τ) (Cert.ProductFfnGdownRefIdeal.main (F := Ideal))) ⟨m, fun _ => 0, g⟩ (fun r => (∀ c : Dev Cert.ProductFfnGdownRefIdeal.nD,
      r.2.mem ((c.tc : Thread Cert.ProductFfnGdownRefIdeal.nD Cert.ProductFfnGdownRefIdeal.τ).loc Cert.ProductFfnGdownRefIdeal.main_arg0) = m ((c.tc : Thread Cert.ProductFfnGdownRefIdeal.nD Cert.ProductFfnGdownRefIdeal.τ).loc Cert.ProductFfnGdownRefIdeal.main_arg0)
      ∧ r.2.mem ((c.tc : Thread Cert.ProductFfnGdownRefIdeal.nD Cert.ProductFfnGdownRefIdeal.τ).loc Cert.ProductFfnGdownRefIdeal.main_arg1) = m ((c.tc : Thread Cert.ProductFfnGdownRefIdeal.nD Cert.ProductFfnGdownRefIdeal.τ).loc Cert.ProductFfnGdownRefIdeal.main_arg1))
      ∧ r.2.sem = fun _ => 0)

def quiescent_ProductFfnGgu [hProductFfnGgu : Cert.ProductFfnGgu.Facts] : Prop :=
  ∀ (m : (ℓ : Loc Cert.ProductFfnGgu.nD Cert.ProductFfnGgu.τ Cert.ProductFfnGgu.sig) → Buf (Elt Bits) ℓ) (g : Dev Cert.ProductFfnGgu.nD → PrngReg), Pre_ProductFfnGgu m →
    θ_run (Cert.ProductFfnGgu.defs (F := Bits)) (onTc (τ := Cert.ProductFfnGgu.τ) (Cert.ProductFfnGgu.main (F := Bits))) ⟨m, fun _ => 0, g⟩ (fun r => (∀ c : Dev Cert.ProductFfnGgu.nD,
      r.2.mem ((c.tc : Thread Cert.ProductFfnGgu.nD Cert.ProductFfnGgu.τ).loc Cert.ProductFfnGgu.main_arg0) = m ((c.tc : Thread Cert.ProductFfnGgu.nD Cert.ProductFfnGgu.τ).loc Cert.ProductFfnGgu.main_arg0)
      ∧ r.2.mem ((c.tc : Thread Cert.ProductFfnGgu.nD Cert.ProductFfnGgu.τ).loc Cert.ProductFfnGgu.main_arg1) = m ((c.tc : Thread Cert.ProductFfnGgu.nD Cert.ProductFfnGgu.τ).loc Cert.ProductFfnGgu.main_arg1))
      ∧ r.2.sem = fun _ => 0)

def quiescent_ProductFfnGguIdeal [hProductFfnGguIdeal : Cert.ProductFfnGguIdeal.Facts] : Prop :=
  ∀ (m : (ℓ : Loc Cert.ProductFfnGguIdeal.nD Cert.ProductFfnGguIdeal.τ Cert.ProductFfnGguIdeal.sig) → Buf (Elt Ideal) ℓ) (g : Dev Cert.ProductFfnGguIdeal.nD → PrngReg), Pre_ProductFfnGguIdeal m →
    θ_run (Cert.ProductFfnGguIdeal.defs (F := Ideal)) (onTc (τ := Cert.ProductFfnGguIdeal.τ) (Cert.ProductFfnGguIdeal.main (F := Ideal))) ⟨m, fun _ => 0, g⟩ (fun r => (∀ c : Dev Cert.ProductFfnGguIdeal.nD,
      r.2.mem ((c.tc : Thread Cert.ProductFfnGguIdeal.nD Cert.ProductFfnGguIdeal.τ).loc Cert.ProductFfnGguIdeal.main_arg0) = m ((c.tc : Thread Cert.ProductFfnGguIdeal.nD Cert.ProductFfnGguIdeal.τ).loc Cert.ProductFfnGguIdeal.main_arg0)
      ∧ r.2.mem ((c.tc : Thread Cert.ProductFfnGguIdeal.nD Cert.ProductFfnGguIdeal.τ).loc Cert.ProductFfnGguIdeal.main_arg1) = m ((c.tc : Thread Cert.ProductFfnGguIdeal.nD Cert.ProductFfnGguIdeal.τ).loc Cert.ProductFfnGguIdeal.main_arg1))
      ∧ r.2.sem = fun _ => 0)

def quiescent_ProductFfnGguRef [hProductFfnGguRef : Cert.ProductFfnGguRef.Facts] : Prop :=
  ∀ (m : (ℓ : Loc Cert.ProductFfnGguRef.nD Cert.ProductFfnGguRef.τ Cert.ProductFfnGguRef.sig) → Buf (Elt Bits) ℓ) (g : Dev Cert.ProductFfnGguRef.nD → PrngReg), Pre_ProductFfnGguRef m →
    θ_run (Cert.ProductFfnGguRef.defs (F := Bits)) (onTc (τ := Cert.ProductFfnGguRef.τ) (Cert.ProductFfnGguRef.main (F := Bits))) ⟨m, fun _ => 0, g⟩ (fun r => (∀ c : Dev Cert.ProductFfnGguRef.nD,
      r.2.mem ((c.tc : Thread Cert.ProductFfnGguRef.nD Cert.ProductFfnGguRef.τ).loc Cert.ProductFfnGguRef.main_arg0) = m ((c.tc : Thread Cert.ProductFfnGguRef.nD Cert.ProductFfnGguRef.τ).loc Cert.ProductFfnGguRef.main_arg0)
      ∧ r.2.mem ((c.tc : Thread Cert.ProductFfnGguRef.nD Cert.ProductFfnGguRef.τ).loc Cert.ProductFfnGguRef.main_arg1) = m ((c.tc : Thread Cert.ProductFfnGguRef.nD Cert.ProductFfnGguRef.τ).loc Cert.ProductFfnGguRef.main_arg1))
      ∧ r.2.sem = fun _ => 0)

def quiescent_ProductFfnGguRefIdeal [hProductFfnGguRefIdeal : Cert.ProductFfnGguRefIdeal.Facts] : Prop :=
  ∀ (m : (ℓ : Loc Cert.ProductFfnGguRefIdeal.nD Cert.ProductFfnGguRefIdeal.τ Cert.ProductFfnGguRefIdeal.sig) → Buf (Elt Ideal) ℓ) (g : Dev Cert.ProductFfnGguRefIdeal.nD → PrngReg), Pre_ProductFfnGguRefIdeal m →
    θ_run (Cert.ProductFfnGguRefIdeal.defs (F := Ideal)) (onTc (τ := Cert.ProductFfnGguRefIdeal.τ) (Cert.ProductFfnGguRefIdeal.main (F := Ideal))) ⟨m, fun _ => 0, g⟩ (fun r => (∀ c : Dev Cert.ProductFfnGguRefIdeal.nD,
      r.2.mem ((c.tc : Thread Cert.ProductFfnGguRefIdeal.nD Cert.ProductFfnGguRefIdeal.τ).loc Cert.ProductFfnGguRefIdeal.main_arg0) = m ((c.tc : Thread Cert.ProductFfnGguRefIdeal.nD Cert.ProductFfnGguRefIdeal.τ).loc Cert.ProductFfnGguRefIdeal.main_arg0)
      ∧ r.2.mem ((c.tc : Thread Cert.ProductFfnGguRefIdeal.nD Cert.ProductFfnGguRefIdeal.τ).loc Cert.ProductFfnGguRefIdeal.main_arg1) = m ((c.tc : Thread Cert.ProductFfnGguRefIdeal.nD Cert.ProductFfnGguRefIdeal.τ).loc Cert.ProductFfnGguRefIdeal.main_arg1))
      ∧ r.2.sem = fun _ => 0)

def quiescent_ProductFfnDh [hProductFfnDh : Cert.ProductFfnDh.Facts] : Prop :=
  ∀ (m : (ℓ : Loc Cert.ProductFfnDh.nD Cert.ProductFfnDh.τ Cert.ProductFfnDh.sig) → Buf (Elt Bits) ℓ) (g : Dev Cert.ProductFfnDh.nD → PrngReg), Pre_ProductFfnDh m →
    θ_run (Cert.ProductFfnDh.defs (F := Bits)) (onTc (τ := Cert.ProductFfnDh.τ) (Cert.ProductFfnDh.main (F := Bits))) ⟨m, fun _ => 0, g⟩ (fun r => (∀ c : Dev Cert.ProductFfnDh.nD,
      r.2.mem ((c.tc : Thread Cert.ProductFfnDh.nD Cert.ProductFfnDh.τ).loc Cert.ProductFfnDh.main_arg0) = m ((c.tc : Thread Cert.ProductFfnDh.nD Cert.ProductFfnDh.τ).loc Cert.ProductFfnDh.main_arg0)
      ∧ r.2.mem ((c.tc : Thread Cert.ProductFfnDh.nD Cert.ProductFfnDh.τ).loc Cert.ProductFfnDh.main_arg1) = m ((c.tc : Thread Cert.ProductFfnDh.nD Cert.ProductFfnDh.τ).loc Cert.ProductFfnDh.main_arg1))
      ∧ r.2.sem = fun _ => 0)

def quiescent_ProductFfnDhIdeal [hProductFfnDhIdeal : Cert.ProductFfnDhIdeal.Facts] : Prop :=
  ∀ (m : (ℓ : Loc Cert.ProductFfnDhIdeal.nD Cert.ProductFfnDhIdeal.τ Cert.ProductFfnDhIdeal.sig) → Buf (Elt Ideal) ℓ) (g : Dev Cert.ProductFfnDhIdeal.nD → PrngReg), Pre_ProductFfnDhIdeal m →
    θ_run (Cert.ProductFfnDhIdeal.defs (F := Ideal)) (onTc (τ := Cert.ProductFfnDhIdeal.τ) (Cert.ProductFfnDhIdeal.main (F := Ideal))) ⟨m, fun _ => 0, g⟩ (fun r => (∀ c : Dev Cert.ProductFfnDhIdeal.nD,
      r.2.mem ((c.tc : Thread Cert.ProductFfnDhIdeal.nD Cert.ProductFfnDhIdeal.τ).loc Cert.ProductFfnDhIdeal.main_arg0) = m ((c.tc : Thread Cert.ProductFfnDhIdeal.nD Cert.ProductFfnDhIdeal.τ).loc Cert.ProductFfnDhIdeal.main_arg0)
      ∧ r.2.mem ((c.tc : Thread Cert.ProductFfnDhIdeal.nD Cert.ProductFfnDhIdeal.τ).loc Cert.ProductFfnDhIdeal.main_arg1) = m ((c.tc : Thread Cert.ProductFfnDhIdeal.nD Cert.ProductFfnDhIdeal.τ).loc Cert.ProductFfnDhIdeal.main_arg1))
      ∧ r.2.sem = fun _ => 0)

def quiescent_ProductFfnDhRef [hProductFfnDhRef : Cert.ProductFfnDhRef.Facts] : Prop :=
  ∀ (m : (ℓ : Loc Cert.ProductFfnDhRef.nD Cert.ProductFfnDhRef.τ Cert.ProductFfnDhRef.sig) → Buf (Elt Bits) ℓ) (g : Dev Cert.ProductFfnDhRef.nD → PrngReg), Pre_ProductFfnDhRef m →
    θ_run (Cert.ProductFfnDhRef.defs (F := Bits)) (onTc (τ := Cert.ProductFfnDhRef.τ) (Cert.ProductFfnDhRef.main (F := Bits))) ⟨m, fun _ => 0, g⟩ (fun r => (∀ c : Dev Cert.ProductFfnDhRef.nD,
      r.2.mem ((c.tc : Thread Cert.ProductFfnDhRef.nD Cert.ProductFfnDhRef.τ).loc Cert.ProductFfnDhRef.main_arg0) = m ((c.tc : Thread Cert.ProductFfnDhRef.nD Cert.ProductFfnDhRef.τ).loc Cert.ProductFfnDhRef.main_arg0)
      ∧ r.2.mem ((c.tc : Thread Cert.ProductFfnDhRef.nD Cert.ProductFfnDhRef.τ).loc Cert.ProductFfnDhRef.main_arg1) = m ((c.tc : Thread Cert.ProductFfnDhRef.nD Cert.ProductFfnDhRef.τ).loc Cert.ProductFfnDhRef.main_arg1))
      ∧ r.2.sem = fun _ => 0)

def quiescent_ProductFfnDhRefIdeal [hProductFfnDhRefIdeal : Cert.ProductFfnDhRefIdeal.Facts] : Prop :=
  ∀ (m : (ℓ : Loc Cert.ProductFfnDhRefIdeal.nD Cert.ProductFfnDhRefIdeal.τ Cert.ProductFfnDhRefIdeal.sig) → Buf (Elt Ideal) ℓ) (g : Dev Cert.ProductFfnDhRefIdeal.nD → PrngReg), Pre_ProductFfnDhRefIdeal m →
    θ_run (Cert.ProductFfnDhRefIdeal.defs (F := Ideal)) (onTc (τ := Cert.ProductFfnDhRefIdeal.τ) (Cert.ProductFfnDhRefIdeal.main (F := Ideal))) ⟨m, fun _ => 0, g⟩ (fun r => (∀ c : Dev Cert.ProductFfnDhRefIdeal.nD,
      r.2.mem ((c.tc : Thread Cert.ProductFfnDhRefIdeal.nD Cert.ProductFfnDhRefIdeal.τ).loc Cert.ProductFfnDhRefIdeal.main_arg0) = m ((c.tc : Thread Cert.ProductFfnDhRefIdeal.nD Cert.ProductFfnDhRefIdeal.τ).loc Cert.ProductFfnDhRefIdeal.main_arg0)
      ∧ r.2.mem ((c.tc : Thread Cert.ProductFfnDhRefIdeal.nD Cert.ProductFfnDhRefIdeal.τ).loc Cert.ProductFfnDhRefIdeal.main_arg1) = m ((c.tc : Thread Cert.ProductFfnDhRefIdeal.nD Cert.ProductFfnDhRefIdeal.τ).loc Cert.ProductFfnDhRefIdeal.main_arg1))
      ∧ r.2.sem = fun _ => 0)

def quiescent_ProductConvOut [hProductConvOut : Cert.ProductConvOut.Facts] : Prop :=
  ∀ (m : (ℓ : Loc Cert.ProductConvOut.nD Cert.ProductConvOut.τ Cert.ProductConvOut.sig) → Buf (Elt Bits) ℓ) (g : Dev Cert.ProductConvOut.nD → PrngReg), Pre_ProductConvOut m →
    θ_run (Cert.ProductConvOut.defs (F := Bits)) (onTc (τ := Cert.ProductConvOut.τ) (Cert.ProductConvOut.main (F := Bits))) ⟨m, fun _ => 0, g⟩ (fun r => (∀ c : Dev Cert.ProductConvOut.nD,
      r.2.mem ((c.tc : Thread Cert.ProductConvOut.nD Cert.ProductConvOut.τ).loc Cert.ProductConvOut.main_arg0) = m ((c.tc : Thread Cert.ProductConvOut.nD Cert.ProductConvOut.τ).loc Cert.ProductConvOut.main_arg0)
      ∧ r.2.mem ((c.tc : Thread Cert.ProductConvOut.nD Cert.ProductConvOut.τ).loc Cert.ProductConvOut.main_arg1) = m ((c.tc : Thread Cert.ProductConvOut.nD Cert.ProductConvOut.τ).loc Cert.ProductConvOut.main_arg1)
      ∧ r.2.mem ((c.tc : Thread Cert.ProductConvOut.nD Cert.ProductConvOut.τ).loc Cert.ProductConvOut.main_arg2) = m ((c.tc : Thread Cert.ProductConvOut.nD Cert.ProductConvOut.τ).loc Cert.ProductConvOut.main_arg2))
      ∧ r.2.sem = fun _ => 0)

def quiescent_ProductConvOutIdeal [hProductConvOutIdeal : Cert.ProductConvOutIdeal.Facts] : Prop :=
  ∀ (m : (ℓ : Loc Cert.ProductConvOutIdeal.nD Cert.ProductConvOutIdeal.τ Cert.ProductConvOutIdeal.sig) → Buf (Elt Ideal) ℓ) (g : Dev Cert.ProductConvOutIdeal.nD → PrngReg), Pre_ProductConvOutIdeal m →
    θ_run (Cert.ProductConvOutIdeal.defs (F := Ideal)) (onTc (τ := Cert.ProductConvOutIdeal.τ) (Cert.ProductConvOutIdeal.main (F := Ideal))) ⟨m, fun _ => 0, g⟩ (fun r => (∀ c : Dev Cert.ProductConvOutIdeal.nD,
      r.2.mem ((c.tc : Thread Cert.ProductConvOutIdeal.nD Cert.ProductConvOutIdeal.τ).loc Cert.ProductConvOutIdeal.main_arg0) = m ((c.tc : Thread Cert.ProductConvOutIdeal.nD Cert.ProductConvOutIdeal.τ).loc Cert.ProductConvOutIdeal.main_arg0)
      ∧ r.2.mem ((c.tc : Thread Cert.ProductConvOutIdeal.nD Cert.ProductConvOutIdeal.τ).loc Cert.ProductConvOutIdeal.main_arg1) = m ((c.tc : Thread Cert.ProductConvOutIdeal.nD Cert.ProductConvOutIdeal.τ).loc Cert.ProductConvOutIdeal.main_arg1)
      ∧ r.2.mem ((c.tc : Thread Cert.ProductConvOutIdeal.nD Cert.ProductConvOutIdeal.τ).loc Cert.ProductConvOutIdeal.main_arg2) = m ((c.tc : Thread Cert.ProductConvOutIdeal.nD Cert.ProductConvOutIdeal.τ).loc Cert.ProductConvOutIdeal.main_arg2))
      ∧ r.2.sem = fun _ => 0)

def quiescent_ProductConvOutRef [hProductConvOutRef : Cert.ProductConvOutRef.Facts] : Prop :=
  ∀ (m : (ℓ : Loc Cert.ProductConvOutRef.nD Cert.ProductConvOutRef.τ Cert.ProductConvOutRef.sig) → Buf (Elt Bits) ℓ) (g : Dev Cert.ProductConvOutRef.nD → PrngReg), Pre_ProductConvOutRef m →
    θ_run (Cert.ProductConvOutRef.defs (F := Bits)) (onTc (τ := Cert.ProductConvOutRef.τ) (Cert.ProductConvOutRef.main (F := Bits))) ⟨m, fun _ => 0, g⟩ (fun r => (∀ c : Dev Cert.ProductConvOutRef.nD,
      r.2.mem ((c.tc : Thread Cert.ProductConvOutRef.nD Cert.ProductConvOutRef.τ).loc Cert.ProductConvOutRef.main_arg0) = m ((c.tc : Thread Cert.ProductConvOutRef.nD Cert.ProductConvOutRef.τ).loc Cert.ProductConvOutRef.main_arg0)
      ∧ r.2.mem ((c.tc : Thread Cert.ProductConvOutRef.nD Cert.ProductConvOutRef.τ).loc Cert.ProductConvOutRef.main_arg1) = m ((c.tc : Thread Cert.ProductConvOutRef.nD Cert.ProductConvOutRef.τ).loc Cert.ProductConvOutRef.main_arg1)
      ∧ r.2.mem ((c.tc : Thread Cert.ProductConvOutRef.nD Cert.ProductConvOutRef.τ).loc Cert.ProductConvOutRef.main_arg2) = m ((c.tc : Thread Cert.ProductConvOutRef.nD Cert.ProductConvOutRef.τ).loc Cert.ProductConvOutRef.main_arg2))
      ∧ r.2.sem = fun _ => 0)

def quiescent_ProductConvOutRefIdeal [hProductConvOutRefIdeal : Cert.ProductConvOutRefIdeal.Facts] : Prop :=
  ∀ (m : (ℓ : Loc Cert.ProductConvOutRefIdeal.nD Cert.ProductConvOutRefIdeal.τ Cert.ProductConvOutRefIdeal.sig) → Buf (Elt Ideal) ℓ) (g : Dev Cert.ProductConvOutRefIdeal.nD → PrngReg), Pre_ProductConvOutRefIdeal m →
    θ_run (Cert.ProductConvOutRefIdeal.defs (F := Ideal)) (onTc (τ := Cert.ProductConvOutRefIdeal.τ) (Cert.ProductConvOutRefIdeal.main (F := Ideal))) ⟨m, fun _ => 0, g⟩ (fun r => (∀ c : Dev Cert.ProductConvOutRefIdeal.nD,
      r.2.mem ((c.tc : Thread Cert.ProductConvOutRefIdeal.nD Cert.ProductConvOutRefIdeal.τ).loc Cert.ProductConvOutRefIdeal.main_arg0) = m ((c.tc : Thread Cert.ProductConvOutRefIdeal.nD Cert.ProductConvOutRefIdeal.τ).loc Cert.ProductConvOutRefIdeal.main_arg0)
      ∧ r.2.mem ((c.tc : Thread Cert.ProductConvOutRefIdeal.nD Cert.ProductConvOutRefIdeal.τ).loc Cert.ProductConvOutRefIdeal.main_arg1) = m ((c.tc : Thread Cert.ProductConvOutRefIdeal.nD Cert.ProductConvOutRefIdeal.τ).loc Cert.ProductConvOutRefIdeal.main_arg1)
      ∧ r.2.mem ((c.tc : Thread Cert.ProductConvOutRefIdeal.nD Cert.ProductConvOutRefIdeal.τ).loc Cert.ProductConvOutRefIdeal.main_arg2) = m ((c.tc : Thread Cert.ProductConvOutRefIdeal.nD Cert.ProductConvOutRefIdeal.τ).loc Cert.ProductConvOutRefIdeal.main_arg2))
      ∧ r.2.sem = fun _ => 0)

def quiescent_ProductConvDz [hProductConvDz : Cert.ProductConvDz.Facts] : Prop :=
  ∀ (m : (ℓ : Loc Cert.ProductConvDz.nD Cert.ProductConvDz.τ Cert.ProductConvDz.sig) → Buf (Elt Bits) ℓ) (g : Dev Cert.ProductConvDz.nD → PrngReg), Pre_ProductConvDz m →
    θ_run (Cert.ProductConvDz.defs (F := Bits)) (onTc (τ := Cert.ProductConvDz.τ) (Cert.ProductConvDz.main (F := Bits))) ⟨m, fun _ => 0, g⟩ (fun r => (∀ c : Dev Cert.ProductConvDz.nD,
      r.2.mem ((c.tc : Thread Cert.ProductConvDz.nD Cert.ProductConvDz.τ).loc Cert.ProductConvDz.main_arg0) = m ((c.tc : Thread Cert.ProductConvDz.nD Cert.ProductConvDz.τ).loc Cert.ProductConvDz.main_arg0)
      ∧ r.2.mem ((c.tc : Thread Cert.ProductConvDz.nD Cert.ProductConvDz.τ).loc Cert.ProductConvDz.main_arg1) = m ((c.tc : Thread Cert.ProductConvDz.nD Cert.ProductConvDz.τ).loc Cert.ProductConvDz.main_arg1))
      ∧ r.2.sem = fun _ => 0)

def quiescent_ProductConvDzIdeal [hProductConvDzIdeal : Cert.ProductConvDzIdeal.Facts] : Prop :=
  ∀ (m : (ℓ : Loc Cert.ProductConvDzIdeal.nD Cert.ProductConvDzIdeal.τ Cert.ProductConvDzIdeal.sig) → Buf (Elt Ideal) ℓ) (g : Dev Cert.ProductConvDzIdeal.nD → PrngReg), Pre_ProductConvDzIdeal m →
    θ_run (Cert.ProductConvDzIdeal.defs (F := Ideal)) (onTc (τ := Cert.ProductConvDzIdeal.τ) (Cert.ProductConvDzIdeal.main (F := Ideal))) ⟨m, fun _ => 0, g⟩ (fun r => (∀ c : Dev Cert.ProductConvDzIdeal.nD,
      r.2.mem ((c.tc : Thread Cert.ProductConvDzIdeal.nD Cert.ProductConvDzIdeal.τ).loc Cert.ProductConvDzIdeal.main_arg0) = m ((c.tc : Thread Cert.ProductConvDzIdeal.nD Cert.ProductConvDzIdeal.τ).loc Cert.ProductConvDzIdeal.main_arg0)
      ∧ r.2.mem ((c.tc : Thread Cert.ProductConvDzIdeal.nD Cert.ProductConvDzIdeal.τ).loc Cert.ProductConvDzIdeal.main_arg1) = m ((c.tc : Thread Cert.ProductConvDzIdeal.nD Cert.ProductConvDzIdeal.τ).loc Cert.ProductConvDzIdeal.main_arg1))
      ∧ r.2.sem = fun _ => 0)

def quiescent_ProductConvDzRef [hProductConvDzRef : Cert.ProductConvDzRef.Facts] : Prop :=
  ∀ (m : (ℓ : Loc Cert.ProductConvDzRef.nD Cert.ProductConvDzRef.τ Cert.ProductConvDzRef.sig) → Buf (Elt Bits) ℓ) (g : Dev Cert.ProductConvDzRef.nD → PrngReg), Pre_ProductConvDzRef m →
    θ_run (Cert.ProductConvDzRef.defs (F := Bits)) (onTc (τ := Cert.ProductConvDzRef.τ) (Cert.ProductConvDzRef.main (F := Bits))) ⟨m, fun _ => 0, g⟩ (fun r => (∀ c : Dev Cert.ProductConvDzRef.nD,
      r.2.mem ((c.tc : Thread Cert.ProductConvDzRef.nD Cert.ProductConvDzRef.τ).loc Cert.ProductConvDzRef.main_arg0) = m ((c.tc : Thread Cert.ProductConvDzRef.nD Cert.ProductConvDzRef.τ).loc Cert.ProductConvDzRef.main_arg0)
      ∧ r.2.mem ((c.tc : Thread Cert.ProductConvDzRef.nD Cert.ProductConvDzRef.τ).loc Cert.ProductConvDzRef.main_arg1) = m ((c.tc : Thread Cert.ProductConvDzRef.nD Cert.ProductConvDzRef.τ).loc Cert.ProductConvDzRef.main_arg1))
      ∧ r.2.sem = fun _ => 0)

def quiescent_ProductConvDzRefIdeal [hProductConvDzRefIdeal : Cert.ProductConvDzRefIdeal.Facts] : Prop :=
  ∀ (m : (ℓ : Loc Cert.ProductConvDzRefIdeal.nD Cert.ProductConvDzRefIdeal.τ Cert.ProductConvDzRefIdeal.sig) → Buf (Elt Ideal) ℓ) (g : Dev Cert.ProductConvDzRefIdeal.nD → PrngReg), Pre_ProductConvDzRefIdeal m →
    θ_run (Cert.ProductConvDzRefIdeal.defs (F := Ideal)) (onTc (τ := Cert.ProductConvDzRefIdeal.τ) (Cert.ProductConvDzRefIdeal.main (F := Ideal))) ⟨m, fun _ => 0, g⟩ (fun r => (∀ c : Dev Cert.ProductConvDzRefIdeal.nD,
      r.2.mem ((c.tc : Thread Cert.ProductConvDzRefIdeal.nD Cert.ProductConvDzRefIdeal.τ).loc Cert.ProductConvDzRefIdeal.main_arg0) = m ((c.tc : Thread Cert.ProductConvDzRefIdeal.nD Cert.ProductConvDzRefIdeal.τ).loc Cert.ProductConvDzRefIdeal.main_arg0)
      ∧ r.2.mem ((c.tc : Thread Cert.ProductConvDzRefIdeal.nD Cert.ProductConvDzRefIdeal.τ).loc Cert.ProductConvDzRefIdeal.main_arg1) = m ((c.tc : Thread Cert.ProductConvDzRefIdeal.nD Cert.ProductConvDzRefIdeal.τ).loc Cert.ProductConvDzRefIdeal.main_arg1))
      ∧ r.2.sem = fun _ => 0)

def quiescent_ProductConvGout [hProductConvGout : Cert.ProductConvGout.Facts] : Prop :=
  ∀ (m : (ℓ : Loc Cert.ProductConvGout.nD Cert.ProductConvGout.τ Cert.ProductConvGout.sig) → Buf (Elt Bits) ℓ) (g : Dev Cert.ProductConvGout.nD → PrngReg), Pre_ProductConvGout m →
    θ_run (Cert.ProductConvGout.defs (F := Bits)) (onTc (τ := Cert.ProductConvGout.τ) (Cert.ProductConvGout.main (F := Bits))) ⟨m, fun _ => 0, g⟩ (fun r => (∀ c : Dev Cert.ProductConvGout.nD,
      r.2.mem ((c.tc : Thread Cert.ProductConvGout.nD Cert.ProductConvGout.τ).loc Cert.ProductConvGout.main_arg0) = m ((c.tc : Thread Cert.ProductConvGout.nD Cert.ProductConvGout.τ).loc Cert.ProductConvGout.main_arg0)
      ∧ r.2.mem ((c.tc : Thread Cert.ProductConvGout.nD Cert.ProductConvGout.τ).loc Cert.ProductConvGout.main_arg1) = m ((c.tc : Thread Cert.ProductConvGout.nD Cert.ProductConvGout.τ).loc Cert.ProductConvGout.main_arg1))
      ∧ r.2.sem = fun _ => 0)

def quiescent_ProductConvGoutIdeal [hProductConvGoutIdeal : Cert.ProductConvGoutIdeal.Facts] : Prop :=
  ∀ (m : (ℓ : Loc Cert.ProductConvGoutIdeal.nD Cert.ProductConvGoutIdeal.τ Cert.ProductConvGoutIdeal.sig) → Buf (Elt Ideal) ℓ) (g : Dev Cert.ProductConvGoutIdeal.nD → PrngReg), Pre_ProductConvGoutIdeal m →
    θ_run (Cert.ProductConvGoutIdeal.defs (F := Ideal)) (onTc (τ := Cert.ProductConvGoutIdeal.τ) (Cert.ProductConvGoutIdeal.main (F := Ideal))) ⟨m, fun _ => 0, g⟩ (fun r => (∀ c : Dev Cert.ProductConvGoutIdeal.nD,
      r.2.mem ((c.tc : Thread Cert.ProductConvGoutIdeal.nD Cert.ProductConvGoutIdeal.τ).loc Cert.ProductConvGoutIdeal.main_arg0) = m ((c.tc : Thread Cert.ProductConvGoutIdeal.nD Cert.ProductConvGoutIdeal.τ).loc Cert.ProductConvGoutIdeal.main_arg0)
      ∧ r.2.mem ((c.tc : Thread Cert.ProductConvGoutIdeal.nD Cert.ProductConvGoutIdeal.τ).loc Cert.ProductConvGoutIdeal.main_arg1) = m ((c.tc : Thread Cert.ProductConvGoutIdeal.nD Cert.ProductConvGoutIdeal.τ).loc Cert.ProductConvGoutIdeal.main_arg1))
      ∧ r.2.sem = fun _ => 0)

def quiescent_ProductConvGoutRef [hProductConvGoutRef : Cert.ProductConvGoutRef.Facts] : Prop :=
  ∀ (m : (ℓ : Loc Cert.ProductConvGoutRef.nD Cert.ProductConvGoutRef.τ Cert.ProductConvGoutRef.sig) → Buf (Elt Bits) ℓ) (g : Dev Cert.ProductConvGoutRef.nD → PrngReg), Pre_ProductConvGoutRef m →
    θ_run (Cert.ProductConvGoutRef.defs (F := Bits)) (onTc (τ := Cert.ProductConvGoutRef.τ) (Cert.ProductConvGoutRef.main (F := Bits))) ⟨m, fun _ => 0, g⟩ (fun r => (∀ c : Dev Cert.ProductConvGoutRef.nD,
      r.2.mem ((c.tc : Thread Cert.ProductConvGoutRef.nD Cert.ProductConvGoutRef.τ).loc Cert.ProductConvGoutRef.main_arg0) = m ((c.tc : Thread Cert.ProductConvGoutRef.nD Cert.ProductConvGoutRef.τ).loc Cert.ProductConvGoutRef.main_arg0)
      ∧ r.2.mem ((c.tc : Thread Cert.ProductConvGoutRef.nD Cert.ProductConvGoutRef.τ).loc Cert.ProductConvGoutRef.main_arg1) = m ((c.tc : Thread Cert.ProductConvGoutRef.nD Cert.ProductConvGoutRef.τ).loc Cert.ProductConvGoutRef.main_arg1))
      ∧ r.2.sem = fun _ => 0)

def quiescent_ProductConvGoutRefIdeal [hProductConvGoutRefIdeal : Cert.ProductConvGoutRefIdeal.Facts] : Prop :=
  ∀ (m : (ℓ : Loc Cert.ProductConvGoutRefIdeal.nD Cert.ProductConvGoutRefIdeal.τ Cert.ProductConvGoutRefIdeal.sig) → Buf (Elt Ideal) ℓ) (g : Dev Cert.ProductConvGoutRefIdeal.nD → PrngReg), Pre_ProductConvGoutRefIdeal m →
    θ_run (Cert.ProductConvGoutRefIdeal.defs (F := Ideal)) (onTc (τ := Cert.ProductConvGoutRefIdeal.τ) (Cert.ProductConvGoutRefIdeal.main (F := Ideal))) ⟨m, fun _ => 0, g⟩ (fun r => (∀ c : Dev Cert.ProductConvGoutRefIdeal.nD,
      r.2.mem ((c.tc : Thread Cert.ProductConvGoutRefIdeal.nD Cert.ProductConvGoutRefIdeal.τ).loc Cert.ProductConvGoutRefIdeal.main_arg0) = m ((c.tc : Thread Cert.ProductConvGoutRefIdeal.nD Cert.ProductConvGoutRefIdeal.τ).loc Cert.ProductConvGoutRefIdeal.main_arg0)
      ∧ r.2.mem ((c.tc : Thread Cert.ProductConvGoutRefIdeal.nD Cert.ProductConvGoutRefIdeal.τ).loc Cert.ProductConvGoutRefIdeal.main_arg1) = m ((c.tc : Thread Cert.ProductConvGoutRefIdeal.nD Cert.ProductConvGoutRefIdeal.τ).loc Cert.ProductConvGoutRefIdeal.main_arg1))
      ∧ r.2.sem = fun _ => 0)

def quiescent_ProductFoxIn [hProductFoxIn : Cert.ProductFoxIn.Facts] : Prop :=
  ∀ (m : (ℓ : Loc Cert.ProductFoxIn.nD Cert.ProductFoxIn.τ Cert.ProductFoxIn.sig) → Buf (Elt Bits) ℓ) (g : Dev Cert.ProductFoxIn.nD → PrngReg), Pre_ProductFoxIn m →
    θ_run (Cert.ProductFoxIn.defs (F := Bits)) (onTc (τ := Cert.ProductFoxIn.τ) (Cert.ProductFoxIn.main (F := Bits))) ⟨m, fun _ => 0, g⟩ (fun r => (∀ c : Dev Cert.ProductFoxIn.nD,
      r.2.mem ((c.tc : Thread Cert.ProductFoxIn.nD Cert.ProductFoxIn.τ).loc Cert.ProductFoxIn.main_arg0) = m ((c.tc : Thread Cert.ProductFoxIn.nD Cert.ProductFoxIn.τ).loc Cert.ProductFoxIn.main_arg0)
      ∧ r.2.mem ((c.tc : Thread Cert.ProductFoxIn.nD Cert.ProductFoxIn.τ).loc Cert.ProductFoxIn.main_arg1) = m ((c.tc : Thread Cert.ProductFoxIn.nD Cert.ProductFoxIn.τ).loc Cert.ProductFoxIn.main_arg1))
      ∧ r.2.sem = fun _ => 0)

def quiescent_ProductFoxInIdeal [hProductFoxInIdeal : Cert.ProductFoxInIdeal.Facts] : Prop :=
  ∀ (m : (ℓ : Loc Cert.ProductFoxInIdeal.nD Cert.ProductFoxInIdeal.τ Cert.ProductFoxInIdeal.sig) → Buf (Elt Ideal) ℓ) (g : Dev Cert.ProductFoxInIdeal.nD → PrngReg), Pre_ProductFoxInIdeal m →
    θ_run (Cert.ProductFoxInIdeal.defs (F := Ideal)) (onTc (τ := Cert.ProductFoxInIdeal.τ) (Cert.ProductFoxInIdeal.main (F := Ideal))) ⟨m, fun _ => 0, g⟩ (fun r => (∀ c : Dev Cert.ProductFoxInIdeal.nD,
      r.2.mem ((c.tc : Thread Cert.ProductFoxInIdeal.nD Cert.ProductFoxInIdeal.τ).loc Cert.ProductFoxInIdeal.main_arg0) = m ((c.tc : Thread Cert.ProductFoxInIdeal.nD Cert.ProductFoxInIdeal.τ).loc Cert.ProductFoxInIdeal.main_arg0)
      ∧ r.2.mem ((c.tc : Thread Cert.ProductFoxInIdeal.nD Cert.ProductFoxInIdeal.τ).loc Cert.ProductFoxInIdeal.main_arg1) = m ((c.tc : Thread Cert.ProductFoxInIdeal.nD Cert.ProductFoxInIdeal.τ).loc Cert.ProductFoxInIdeal.main_arg1))
      ∧ r.2.sem = fun _ => 0)

def quiescent_ProductFoxInRef [hProductFoxInRef : Cert.ProductFoxInRef.Facts] : Prop :=
  ∀ (m : (ℓ : Loc Cert.ProductFoxInRef.nD Cert.ProductFoxInRef.τ Cert.ProductFoxInRef.sig) → Buf (Elt Bits) ℓ) (g : Dev Cert.ProductFoxInRef.nD → PrngReg), Pre_ProductFoxInRef m →
    θ_run (Cert.ProductFoxInRef.defs (F := Bits)) (onTc (τ := Cert.ProductFoxInRef.τ) (Cert.ProductFoxInRef.main (F := Bits))) ⟨m, fun _ => 0, g⟩ (fun r => (∀ c : Dev Cert.ProductFoxInRef.nD,
      r.2.mem ((c.tc : Thread Cert.ProductFoxInRef.nD Cert.ProductFoxInRef.τ).loc Cert.ProductFoxInRef.main_arg0) = m ((c.tc : Thread Cert.ProductFoxInRef.nD Cert.ProductFoxInRef.τ).loc Cert.ProductFoxInRef.main_arg0)
      ∧ r.2.mem ((c.tc : Thread Cert.ProductFoxInRef.nD Cert.ProductFoxInRef.τ).loc Cert.ProductFoxInRef.main_arg1) = m ((c.tc : Thread Cert.ProductFoxInRef.nD Cert.ProductFoxInRef.τ).loc Cert.ProductFoxInRef.main_arg1))
      ∧ r.2.sem = fun _ => 0)

def quiescent_ProductFoxInRefIdeal [hProductFoxInRefIdeal : Cert.ProductFoxInRefIdeal.Facts] : Prop :=
  ∀ (m : (ℓ : Loc Cert.ProductFoxInRefIdeal.nD Cert.ProductFoxInRefIdeal.τ Cert.ProductFoxInRefIdeal.sig) → Buf (Elt Ideal) ℓ) (g : Dev Cert.ProductFoxInRefIdeal.nD → PrngReg), Pre_ProductFoxInRefIdeal m →
    θ_run (Cert.ProductFoxInRefIdeal.defs (F := Ideal)) (onTc (τ := Cert.ProductFoxInRefIdeal.τ) (Cert.ProductFoxInRefIdeal.main (F := Ideal))) ⟨m, fun _ => 0, g⟩ (fun r => (∀ c : Dev Cert.ProductFoxInRefIdeal.nD,
      r.2.mem ((c.tc : Thread Cert.ProductFoxInRefIdeal.nD Cert.ProductFoxInRefIdeal.τ).loc Cert.ProductFoxInRefIdeal.main_arg0) = m ((c.tc : Thread Cert.ProductFoxInRefIdeal.nD Cert.ProductFoxInRefIdeal.τ).loc Cert.ProductFoxInRefIdeal.main_arg0)
      ∧ r.2.mem ((c.tc : Thread Cert.ProductFoxInRefIdeal.nD Cert.ProductFoxInRefIdeal.τ).loc Cert.ProductFoxInRefIdeal.main_arg1) = m ((c.tc : Thread Cert.ProductFoxInRefIdeal.nD Cert.ProductFoxInRefIdeal.τ).loc Cert.ProductFoxInRefIdeal.main_arg1))
      ∧ r.2.sem = fun _ => 0)

def quiescent_ProductFoxOut [hProductFoxOut : Cert.ProductFoxOut.Facts] : Prop :=
  ∀ (m : (ℓ : Loc Cert.ProductFoxOut.nD Cert.ProductFoxOut.τ Cert.ProductFoxOut.sig) → Buf (Elt Bits) ℓ) (g : Dev Cert.ProductFoxOut.nD → PrngReg), Pre_ProductFoxOut m →
    θ_run (Cert.ProductFoxOut.defs (F := Bits)) (onTc (τ := Cert.ProductFoxOut.τ) (Cert.ProductFoxOut.main (F := Bits))) ⟨m, fun _ => 0, g⟩ (fun r => (∀ c : Dev Cert.ProductFoxOut.nD,
      r.2.mem ((c.tc : Thread Cert.ProductFoxOut.nD Cert.ProductFoxOut.τ).loc Cert.ProductFoxOut.main_arg0) = m ((c.tc : Thread Cert.ProductFoxOut.nD Cert.ProductFoxOut.τ).loc Cert.ProductFoxOut.main_arg0)
      ∧ r.2.mem ((c.tc : Thread Cert.ProductFoxOut.nD Cert.ProductFoxOut.τ).loc Cert.ProductFoxOut.main_arg1) = m ((c.tc : Thread Cert.ProductFoxOut.nD Cert.ProductFoxOut.τ).loc Cert.ProductFoxOut.main_arg1)
      ∧ r.2.mem ((c.tc : Thread Cert.ProductFoxOut.nD Cert.ProductFoxOut.τ).loc Cert.ProductFoxOut.main_arg2) = m ((c.tc : Thread Cert.ProductFoxOut.nD Cert.ProductFoxOut.τ).loc Cert.ProductFoxOut.main_arg2))
      ∧ r.2.sem = fun _ => 0)

def quiescent_ProductFoxOutIdeal [hProductFoxOutIdeal : Cert.ProductFoxOutIdeal.Facts] : Prop :=
  ∀ (m : (ℓ : Loc Cert.ProductFoxOutIdeal.nD Cert.ProductFoxOutIdeal.τ Cert.ProductFoxOutIdeal.sig) → Buf (Elt Ideal) ℓ) (g : Dev Cert.ProductFoxOutIdeal.nD → PrngReg), Pre_ProductFoxOutIdeal m →
    θ_run (Cert.ProductFoxOutIdeal.defs (F := Ideal)) (onTc (τ := Cert.ProductFoxOutIdeal.τ) (Cert.ProductFoxOutIdeal.main (F := Ideal))) ⟨m, fun _ => 0, g⟩ (fun r => (∀ c : Dev Cert.ProductFoxOutIdeal.nD,
      r.2.mem ((c.tc : Thread Cert.ProductFoxOutIdeal.nD Cert.ProductFoxOutIdeal.τ).loc Cert.ProductFoxOutIdeal.main_arg0) = m ((c.tc : Thread Cert.ProductFoxOutIdeal.nD Cert.ProductFoxOutIdeal.τ).loc Cert.ProductFoxOutIdeal.main_arg0)
      ∧ r.2.mem ((c.tc : Thread Cert.ProductFoxOutIdeal.nD Cert.ProductFoxOutIdeal.τ).loc Cert.ProductFoxOutIdeal.main_arg1) = m ((c.tc : Thread Cert.ProductFoxOutIdeal.nD Cert.ProductFoxOutIdeal.τ).loc Cert.ProductFoxOutIdeal.main_arg1)
      ∧ r.2.mem ((c.tc : Thread Cert.ProductFoxOutIdeal.nD Cert.ProductFoxOutIdeal.τ).loc Cert.ProductFoxOutIdeal.main_arg2) = m ((c.tc : Thread Cert.ProductFoxOutIdeal.nD Cert.ProductFoxOutIdeal.τ).loc Cert.ProductFoxOutIdeal.main_arg2))
      ∧ r.2.sem = fun _ => 0)

def quiescent_ProductFoxOutRef [hProductFoxOutRef : Cert.ProductFoxOutRef.Facts] : Prop :=
  ∀ (m : (ℓ : Loc Cert.ProductFoxOutRef.nD Cert.ProductFoxOutRef.τ Cert.ProductFoxOutRef.sig) → Buf (Elt Bits) ℓ) (g : Dev Cert.ProductFoxOutRef.nD → PrngReg), Pre_ProductFoxOutRef m →
    θ_run (Cert.ProductFoxOutRef.defs (F := Bits)) (onTc (τ := Cert.ProductFoxOutRef.τ) (Cert.ProductFoxOutRef.main (F := Bits))) ⟨m, fun _ => 0, g⟩ (fun r => (∀ c : Dev Cert.ProductFoxOutRef.nD,
      r.2.mem ((c.tc : Thread Cert.ProductFoxOutRef.nD Cert.ProductFoxOutRef.τ).loc Cert.ProductFoxOutRef.main_arg0) = m ((c.tc : Thread Cert.ProductFoxOutRef.nD Cert.ProductFoxOutRef.τ).loc Cert.ProductFoxOutRef.main_arg0)
      ∧ r.2.mem ((c.tc : Thread Cert.ProductFoxOutRef.nD Cert.ProductFoxOutRef.τ).loc Cert.ProductFoxOutRef.main_arg1) = m ((c.tc : Thread Cert.ProductFoxOutRef.nD Cert.ProductFoxOutRef.τ).loc Cert.ProductFoxOutRef.main_arg1)
      ∧ r.2.mem ((c.tc : Thread Cert.ProductFoxOutRef.nD Cert.ProductFoxOutRef.τ).loc Cert.ProductFoxOutRef.main_arg2) = m ((c.tc : Thread Cert.ProductFoxOutRef.nD Cert.ProductFoxOutRef.τ).loc Cert.ProductFoxOutRef.main_arg2))
      ∧ r.2.sem = fun _ => 0)

def quiescent_ProductFoxOutRefIdeal [hProductFoxOutRefIdeal : Cert.ProductFoxOutRefIdeal.Facts] : Prop :=
  ∀ (m : (ℓ : Loc Cert.ProductFoxOutRefIdeal.nD Cert.ProductFoxOutRefIdeal.τ Cert.ProductFoxOutRefIdeal.sig) → Buf (Elt Ideal) ℓ) (g : Dev Cert.ProductFoxOutRefIdeal.nD → PrngReg), Pre_ProductFoxOutRefIdeal m →
    θ_run (Cert.ProductFoxOutRefIdeal.defs (F := Ideal)) (onTc (τ := Cert.ProductFoxOutRefIdeal.τ) (Cert.ProductFoxOutRefIdeal.main (F := Ideal))) ⟨m, fun _ => 0, g⟩ (fun r => (∀ c : Dev Cert.ProductFoxOutRefIdeal.nD,
      r.2.mem ((c.tc : Thread Cert.ProductFoxOutRefIdeal.nD Cert.ProductFoxOutRefIdeal.τ).loc Cert.ProductFoxOutRefIdeal.main_arg0) = m ((c.tc : Thread Cert.ProductFoxOutRefIdeal.nD Cert.ProductFoxOutRefIdeal.τ).loc Cert.ProductFoxOutRefIdeal.main_arg0)
      ∧ r.2.mem ((c.tc : Thread Cert.ProductFoxOutRefIdeal.nD Cert.ProductFoxOutRefIdeal.τ).loc Cert.ProductFoxOutRefIdeal.main_arg1) = m ((c.tc : Thread Cert.ProductFoxOutRefIdeal.nD Cert.ProductFoxOutRefIdeal.τ).loc Cert.ProductFoxOutRefIdeal.main_arg1)
      ∧ r.2.mem ((c.tc : Thread Cert.ProductFoxOutRefIdeal.nD Cert.ProductFoxOutRefIdeal.τ).loc Cert.ProductFoxOutRefIdeal.main_arg2) = m ((c.tc : Thread Cert.ProductFoxOutRefIdeal.nD Cert.ProductFoxOutRefIdeal.τ).loc Cert.ProductFoxOutRefIdeal.main_arg2))
      ∧ r.2.sem = fun _ => 0)

def quiescent_ProductFoxGout [hProductFoxGout : Cert.ProductFoxGout.Facts] : Prop :=
  ∀ (m : (ℓ : Loc Cert.ProductFoxGout.nD Cert.ProductFoxGout.τ Cert.ProductFoxGout.sig) → Buf (Elt Bits) ℓ) (g : Dev Cert.ProductFoxGout.nD → PrngReg), Pre_ProductFoxGout m →
    θ_run (Cert.ProductFoxGout.defs (F := Bits)) (onTc (τ := Cert.ProductFoxGout.τ) (Cert.ProductFoxGout.main (F := Bits))) ⟨m, fun _ => 0, g⟩ (fun r => (∀ c : Dev Cert.ProductFoxGout.nD,
      r.2.mem ((c.tc : Thread Cert.ProductFoxGout.nD Cert.ProductFoxGout.τ).loc Cert.ProductFoxGout.main_arg0) = m ((c.tc : Thread Cert.ProductFoxGout.nD Cert.ProductFoxGout.τ).loc Cert.ProductFoxGout.main_arg0)
      ∧ r.2.mem ((c.tc : Thread Cert.ProductFoxGout.nD Cert.ProductFoxGout.τ).loc Cert.ProductFoxGout.main_arg1) = m ((c.tc : Thread Cert.ProductFoxGout.nD Cert.ProductFoxGout.τ).loc Cert.ProductFoxGout.main_arg1))
      ∧ r.2.sem = fun _ => 0)

def quiescent_ProductFoxGoutIdeal [hProductFoxGoutIdeal : Cert.ProductFoxGoutIdeal.Facts] : Prop :=
  ∀ (m : (ℓ : Loc Cert.ProductFoxGoutIdeal.nD Cert.ProductFoxGoutIdeal.τ Cert.ProductFoxGoutIdeal.sig) → Buf (Elt Ideal) ℓ) (g : Dev Cert.ProductFoxGoutIdeal.nD → PrngReg), Pre_ProductFoxGoutIdeal m →
    θ_run (Cert.ProductFoxGoutIdeal.defs (F := Ideal)) (onTc (τ := Cert.ProductFoxGoutIdeal.τ) (Cert.ProductFoxGoutIdeal.main (F := Ideal))) ⟨m, fun _ => 0, g⟩ (fun r => (∀ c : Dev Cert.ProductFoxGoutIdeal.nD,
      r.2.mem ((c.tc : Thread Cert.ProductFoxGoutIdeal.nD Cert.ProductFoxGoutIdeal.τ).loc Cert.ProductFoxGoutIdeal.main_arg0) = m ((c.tc : Thread Cert.ProductFoxGoutIdeal.nD Cert.ProductFoxGoutIdeal.τ).loc Cert.ProductFoxGoutIdeal.main_arg0)
      ∧ r.2.mem ((c.tc : Thread Cert.ProductFoxGoutIdeal.nD Cert.ProductFoxGoutIdeal.τ).loc Cert.ProductFoxGoutIdeal.main_arg1) = m ((c.tc : Thread Cert.ProductFoxGoutIdeal.nD Cert.ProductFoxGoutIdeal.τ).loc Cert.ProductFoxGoutIdeal.main_arg1))
      ∧ r.2.sem = fun _ => 0)

def quiescent_ProductFoxGoutRef [hProductFoxGoutRef : Cert.ProductFoxGoutRef.Facts] : Prop :=
  ∀ (m : (ℓ : Loc Cert.ProductFoxGoutRef.nD Cert.ProductFoxGoutRef.τ Cert.ProductFoxGoutRef.sig) → Buf (Elt Bits) ℓ) (g : Dev Cert.ProductFoxGoutRef.nD → PrngReg), Pre_ProductFoxGoutRef m →
    θ_run (Cert.ProductFoxGoutRef.defs (F := Bits)) (onTc (τ := Cert.ProductFoxGoutRef.τ) (Cert.ProductFoxGoutRef.main (F := Bits))) ⟨m, fun _ => 0, g⟩ (fun r => (∀ c : Dev Cert.ProductFoxGoutRef.nD,
      r.2.mem ((c.tc : Thread Cert.ProductFoxGoutRef.nD Cert.ProductFoxGoutRef.τ).loc Cert.ProductFoxGoutRef.main_arg0) = m ((c.tc : Thread Cert.ProductFoxGoutRef.nD Cert.ProductFoxGoutRef.τ).loc Cert.ProductFoxGoutRef.main_arg0)
      ∧ r.2.mem ((c.tc : Thread Cert.ProductFoxGoutRef.nD Cert.ProductFoxGoutRef.τ).loc Cert.ProductFoxGoutRef.main_arg1) = m ((c.tc : Thread Cert.ProductFoxGoutRef.nD Cert.ProductFoxGoutRef.τ).loc Cert.ProductFoxGoutRef.main_arg1))
      ∧ r.2.sem = fun _ => 0)

def quiescent_ProductFoxGoutRefIdeal [hProductFoxGoutRefIdeal : Cert.ProductFoxGoutRefIdeal.Facts] : Prop :=
  ∀ (m : (ℓ : Loc Cert.ProductFoxGoutRefIdeal.nD Cert.ProductFoxGoutRefIdeal.τ Cert.ProductFoxGoutRefIdeal.sig) → Buf (Elt Ideal) ℓ) (g : Dev Cert.ProductFoxGoutRefIdeal.nD → PrngReg), Pre_ProductFoxGoutRefIdeal m →
    θ_run (Cert.ProductFoxGoutRefIdeal.defs (F := Ideal)) (onTc (τ := Cert.ProductFoxGoutRefIdeal.τ) (Cert.ProductFoxGoutRefIdeal.main (F := Ideal))) ⟨m, fun _ => 0, g⟩ (fun r => (∀ c : Dev Cert.ProductFoxGoutRefIdeal.nD,
      r.2.mem ((c.tc : Thread Cert.ProductFoxGoutRefIdeal.nD Cert.ProductFoxGoutRefIdeal.τ).loc Cert.ProductFoxGoutRefIdeal.main_arg0) = m ((c.tc : Thread Cert.ProductFoxGoutRefIdeal.nD Cert.ProductFoxGoutRefIdeal.τ).loc Cert.ProductFoxGoutRefIdeal.main_arg0)
      ∧ r.2.mem ((c.tc : Thread Cert.ProductFoxGoutRefIdeal.nD Cert.ProductFoxGoutRefIdeal.τ).loc Cert.ProductFoxGoutRefIdeal.main_arg1) = m ((c.tc : Thread Cert.ProductFoxGoutRefIdeal.nD Cert.ProductFoxGoutRefIdeal.τ).loc Cert.ProductFoxGoutRefIdeal.main_arg1))
      ∧ r.2.sem = fun _ => 0)

def quiescent_ProductFoxGin [hProductFoxGin : Cert.ProductFoxGin.Facts] : Prop :=
  ∀ (m : (ℓ : Loc Cert.ProductFoxGin.nD Cert.ProductFoxGin.τ Cert.ProductFoxGin.sig) → Buf (Elt Bits) ℓ) (g : Dev Cert.ProductFoxGin.nD → PrngReg), Pre_ProductFoxGin m →
    θ_run (Cert.ProductFoxGin.defs (F := Bits)) (onTc (τ := Cert.ProductFoxGin.τ) (Cert.ProductFoxGin.main (F := Bits))) ⟨m, fun _ => 0, g⟩ (fun r => (∀ c : Dev Cert.ProductFoxGin.nD,
      r.2.mem ((c.tc : Thread Cert.ProductFoxGin.nD Cert.ProductFoxGin.τ).loc Cert.ProductFoxGin.main_arg0) = m ((c.tc : Thread Cert.ProductFoxGin.nD Cert.ProductFoxGin.τ).loc Cert.ProductFoxGin.main_arg0)
      ∧ r.2.mem ((c.tc : Thread Cert.ProductFoxGin.nD Cert.ProductFoxGin.τ).loc Cert.ProductFoxGin.main_arg1) = m ((c.tc : Thread Cert.ProductFoxGin.nD Cert.ProductFoxGin.τ).loc Cert.ProductFoxGin.main_arg1))
      ∧ r.2.sem = fun _ => 0)

def quiescent_ProductFoxGinIdeal [hProductFoxGinIdeal : Cert.ProductFoxGinIdeal.Facts] : Prop :=
  ∀ (m : (ℓ : Loc Cert.ProductFoxGinIdeal.nD Cert.ProductFoxGinIdeal.τ Cert.ProductFoxGinIdeal.sig) → Buf (Elt Ideal) ℓ) (g : Dev Cert.ProductFoxGinIdeal.nD → PrngReg), Pre_ProductFoxGinIdeal m →
    θ_run (Cert.ProductFoxGinIdeal.defs (F := Ideal)) (onTc (τ := Cert.ProductFoxGinIdeal.τ) (Cert.ProductFoxGinIdeal.main (F := Ideal))) ⟨m, fun _ => 0, g⟩ (fun r => (∀ c : Dev Cert.ProductFoxGinIdeal.nD,
      r.2.mem ((c.tc : Thread Cert.ProductFoxGinIdeal.nD Cert.ProductFoxGinIdeal.τ).loc Cert.ProductFoxGinIdeal.main_arg0) = m ((c.tc : Thread Cert.ProductFoxGinIdeal.nD Cert.ProductFoxGinIdeal.τ).loc Cert.ProductFoxGinIdeal.main_arg0)
      ∧ r.2.mem ((c.tc : Thread Cert.ProductFoxGinIdeal.nD Cert.ProductFoxGinIdeal.τ).loc Cert.ProductFoxGinIdeal.main_arg1) = m ((c.tc : Thread Cert.ProductFoxGinIdeal.nD Cert.ProductFoxGinIdeal.τ).loc Cert.ProductFoxGinIdeal.main_arg1))
      ∧ r.2.sem = fun _ => 0)

def quiescent_ProductFoxGinRef [hProductFoxGinRef : Cert.ProductFoxGinRef.Facts] : Prop :=
  ∀ (m : (ℓ : Loc Cert.ProductFoxGinRef.nD Cert.ProductFoxGinRef.τ Cert.ProductFoxGinRef.sig) → Buf (Elt Bits) ℓ) (g : Dev Cert.ProductFoxGinRef.nD → PrngReg), Pre_ProductFoxGinRef m →
    θ_run (Cert.ProductFoxGinRef.defs (F := Bits)) (onTc (τ := Cert.ProductFoxGinRef.τ) (Cert.ProductFoxGinRef.main (F := Bits))) ⟨m, fun _ => 0, g⟩ (fun r => (∀ c : Dev Cert.ProductFoxGinRef.nD,
      r.2.mem ((c.tc : Thread Cert.ProductFoxGinRef.nD Cert.ProductFoxGinRef.τ).loc Cert.ProductFoxGinRef.main_arg0) = m ((c.tc : Thread Cert.ProductFoxGinRef.nD Cert.ProductFoxGinRef.τ).loc Cert.ProductFoxGinRef.main_arg0)
      ∧ r.2.mem ((c.tc : Thread Cert.ProductFoxGinRef.nD Cert.ProductFoxGinRef.τ).loc Cert.ProductFoxGinRef.main_arg1) = m ((c.tc : Thread Cert.ProductFoxGinRef.nD Cert.ProductFoxGinRef.τ).loc Cert.ProductFoxGinRef.main_arg1))
      ∧ r.2.sem = fun _ => 0)

def quiescent_ProductFoxGinRefIdeal [hProductFoxGinRefIdeal : Cert.ProductFoxGinRefIdeal.Facts] : Prop :=
  ∀ (m : (ℓ : Loc Cert.ProductFoxGinRefIdeal.nD Cert.ProductFoxGinRefIdeal.τ Cert.ProductFoxGinRefIdeal.sig) → Buf (Elt Ideal) ℓ) (g : Dev Cert.ProductFoxGinRefIdeal.nD → PrngReg), Pre_ProductFoxGinRefIdeal m →
    θ_run (Cert.ProductFoxGinRefIdeal.defs (F := Ideal)) (onTc (τ := Cert.ProductFoxGinRefIdeal.τ) (Cert.ProductFoxGinRefIdeal.main (F := Ideal))) ⟨m, fun _ => 0, g⟩ (fun r => (∀ c : Dev Cert.ProductFoxGinRefIdeal.nD,
      r.2.mem ((c.tc : Thread Cert.ProductFoxGinRefIdeal.nD Cert.ProductFoxGinRefIdeal.τ).loc Cert.ProductFoxGinRefIdeal.main_arg0) = m ((c.tc : Thread Cert.ProductFoxGinRefIdeal.nD Cert.ProductFoxGinRefIdeal.τ).loc Cert.ProductFoxGinRefIdeal.main_arg0)
      ∧ r.2.mem ((c.tc : Thread Cert.ProductFoxGinRefIdeal.nD Cert.ProductFoxGinRefIdeal.τ).loc Cert.ProductFoxGinRefIdeal.main_arg1) = m ((c.tc : Thread Cert.ProductFoxGinRefIdeal.nD Cert.ProductFoxGinRefIdeal.τ).loc Cert.ProductFoxGinRefIdeal.main_arg1))
      ∧ r.2.sem = fun _ => 0)

def quiescent_ProductFoxDh [hProductFoxDh : Cert.ProductFoxDh.Facts] : Prop :=
  ∀ (m : (ℓ : Loc Cert.ProductFoxDh.nD Cert.ProductFoxDh.τ Cert.ProductFoxDh.sig) → Buf (Elt Bits) ℓ) (g : Dev Cert.ProductFoxDh.nD → PrngReg), Pre_ProductFoxDh m →
    θ_run (Cert.ProductFoxDh.defs (F := Bits)) (onTc (τ := Cert.ProductFoxDh.τ) (Cert.ProductFoxDh.main (F := Bits))) ⟨m, fun _ => 0, g⟩ (fun r => (∀ c : Dev Cert.ProductFoxDh.nD,
      r.2.mem ((c.tc : Thread Cert.ProductFoxDh.nD Cert.ProductFoxDh.τ).loc Cert.ProductFoxDh.main_arg0) = m ((c.tc : Thread Cert.ProductFoxDh.nD Cert.ProductFoxDh.τ).loc Cert.ProductFoxDh.main_arg0)
      ∧ r.2.mem ((c.tc : Thread Cert.ProductFoxDh.nD Cert.ProductFoxDh.τ).loc Cert.ProductFoxDh.main_arg1) = m ((c.tc : Thread Cert.ProductFoxDh.nD Cert.ProductFoxDh.τ).loc Cert.ProductFoxDh.main_arg1))
      ∧ r.2.sem = fun _ => 0)

def quiescent_ProductFoxDhIdeal [hProductFoxDhIdeal : Cert.ProductFoxDhIdeal.Facts] : Prop :=
  ∀ (m : (ℓ : Loc Cert.ProductFoxDhIdeal.nD Cert.ProductFoxDhIdeal.τ Cert.ProductFoxDhIdeal.sig) → Buf (Elt Ideal) ℓ) (g : Dev Cert.ProductFoxDhIdeal.nD → PrngReg), Pre_ProductFoxDhIdeal m →
    θ_run (Cert.ProductFoxDhIdeal.defs (F := Ideal)) (onTc (τ := Cert.ProductFoxDhIdeal.τ) (Cert.ProductFoxDhIdeal.main (F := Ideal))) ⟨m, fun _ => 0, g⟩ (fun r => (∀ c : Dev Cert.ProductFoxDhIdeal.nD,
      r.2.mem ((c.tc : Thread Cert.ProductFoxDhIdeal.nD Cert.ProductFoxDhIdeal.τ).loc Cert.ProductFoxDhIdeal.main_arg0) = m ((c.tc : Thread Cert.ProductFoxDhIdeal.nD Cert.ProductFoxDhIdeal.τ).loc Cert.ProductFoxDhIdeal.main_arg0)
      ∧ r.2.mem ((c.tc : Thread Cert.ProductFoxDhIdeal.nD Cert.ProductFoxDhIdeal.τ).loc Cert.ProductFoxDhIdeal.main_arg1) = m ((c.tc : Thread Cert.ProductFoxDhIdeal.nD Cert.ProductFoxDhIdeal.τ).loc Cert.ProductFoxDhIdeal.main_arg1))
      ∧ r.2.sem = fun _ => 0)

def quiescent_ProductFoxDhRef [hProductFoxDhRef : Cert.ProductFoxDhRef.Facts] : Prop :=
  ∀ (m : (ℓ : Loc Cert.ProductFoxDhRef.nD Cert.ProductFoxDhRef.τ Cert.ProductFoxDhRef.sig) → Buf (Elt Bits) ℓ) (g : Dev Cert.ProductFoxDhRef.nD → PrngReg), Pre_ProductFoxDhRef m →
    θ_run (Cert.ProductFoxDhRef.defs (F := Bits)) (onTc (τ := Cert.ProductFoxDhRef.τ) (Cert.ProductFoxDhRef.main (F := Bits))) ⟨m, fun _ => 0, g⟩ (fun r => (∀ c : Dev Cert.ProductFoxDhRef.nD,
      r.2.mem ((c.tc : Thread Cert.ProductFoxDhRef.nD Cert.ProductFoxDhRef.τ).loc Cert.ProductFoxDhRef.main_arg0) = m ((c.tc : Thread Cert.ProductFoxDhRef.nD Cert.ProductFoxDhRef.τ).loc Cert.ProductFoxDhRef.main_arg0)
      ∧ r.2.mem ((c.tc : Thread Cert.ProductFoxDhRef.nD Cert.ProductFoxDhRef.τ).loc Cert.ProductFoxDhRef.main_arg1) = m ((c.tc : Thread Cert.ProductFoxDhRef.nD Cert.ProductFoxDhRef.τ).loc Cert.ProductFoxDhRef.main_arg1))
      ∧ r.2.sem = fun _ => 0)

def quiescent_ProductFoxDhRefIdeal [hProductFoxDhRefIdeal : Cert.ProductFoxDhRefIdeal.Facts] : Prop :=
  ∀ (m : (ℓ : Loc Cert.ProductFoxDhRefIdeal.nD Cert.ProductFoxDhRefIdeal.τ Cert.ProductFoxDhRefIdeal.sig) → Buf (Elt Ideal) ℓ) (g : Dev Cert.ProductFoxDhRefIdeal.nD → PrngReg), Pre_ProductFoxDhRefIdeal m →
    θ_run (Cert.ProductFoxDhRefIdeal.defs (F := Ideal)) (onTc (τ := Cert.ProductFoxDhRefIdeal.τ) (Cert.ProductFoxDhRefIdeal.main (F := Ideal))) ⟨m, fun _ => 0, g⟩ (fun r => (∀ c : Dev Cert.ProductFoxDhRefIdeal.nD,
      r.2.mem ((c.tc : Thread Cert.ProductFoxDhRefIdeal.nD Cert.ProductFoxDhRefIdeal.τ).loc Cert.ProductFoxDhRefIdeal.main_arg0) = m ((c.tc : Thread Cert.ProductFoxDhRefIdeal.nD Cert.ProductFoxDhRefIdeal.τ).loc Cert.ProductFoxDhRefIdeal.main_arg0)
      ∧ r.2.mem ((c.tc : Thread Cert.ProductFoxDhRefIdeal.nD Cert.ProductFoxDhRefIdeal.τ).loc Cert.ProductFoxDhRefIdeal.main_arg1) = m ((c.tc : Thread Cert.ProductFoxDhRefIdeal.nD Cert.ProductFoxDhRefIdeal.τ).loc Cert.ProductFoxDhRefIdeal.main_arg1))
      ∧ r.2.sem = fun _ => 0)

def quiescent_ProductSsdIn [hProductSsdIn : Cert.ProductSsdIn.Facts] : Prop :=
  ∀ (m : (ℓ : Loc Cert.ProductSsdIn.nD Cert.ProductSsdIn.τ Cert.ProductSsdIn.sig) → Buf (Elt Bits) ℓ) (g : Dev Cert.ProductSsdIn.nD → PrngReg), Pre_ProductSsdIn m →
    θ_run (Cert.ProductSsdIn.defs (F := Bits)) (onTc (τ := Cert.ProductSsdIn.τ) (Cert.ProductSsdIn.main (F := Bits))) ⟨m, fun _ => 0, g⟩ (fun r => (∀ c : Dev Cert.ProductSsdIn.nD,
      r.2.mem ((c.tc : Thread Cert.ProductSsdIn.nD Cert.ProductSsdIn.τ).loc Cert.ProductSsdIn.main_arg0) = m ((c.tc : Thread Cert.ProductSsdIn.nD Cert.ProductSsdIn.τ).loc Cert.ProductSsdIn.main_arg0)
      ∧ r.2.mem ((c.tc : Thread Cert.ProductSsdIn.nD Cert.ProductSsdIn.τ).loc Cert.ProductSsdIn.main_arg1) = m ((c.tc : Thread Cert.ProductSsdIn.nD Cert.ProductSsdIn.τ).loc Cert.ProductSsdIn.main_arg1))
      ∧ r.2.sem = fun _ => 0)

def quiescent_ProductSsdInIdeal [hProductSsdInIdeal : Cert.ProductSsdInIdeal.Facts] : Prop :=
  ∀ (m : (ℓ : Loc Cert.ProductSsdInIdeal.nD Cert.ProductSsdInIdeal.τ Cert.ProductSsdInIdeal.sig) → Buf (Elt Ideal) ℓ) (g : Dev Cert.ProductSsdInIdeal.nD → PrngReg), Pre_ProductSsdInIdeal m →
    θ_run (Cert.ProductSsdInIdeal.defs (F := Ideal)) (onTc (τ := Cert.ProductSsdInIdeal.τ) (Cert.ProductSsdInIdeal.main (F := Ideal))) ⟨m, fun _ => 0, g⟩ (fun r => (∀ c : Dev Cert.ProductSsdInIdeal.nD,
      r.2.mem ((c.tc : Thread Cert.ProductSsdInIdeal.nD Cert.ProductSsdInIdeal.τ).loc Cert.ProductSsdInIdeal.main_arg0) = m ((c.tc : Thread Cert.ProductSsdInIdeal.nD Cert.ProductSsdInIdeal.τ).loc Cert.ProductSsdInIdeal.main_arg0)
      ∧ r.2.mem ((c.tc : Thread Cert.ProductSsdInIdeal.nD Cert.ProductSsdInIdeal.τ).loc Cert.ProductSsdInIdeal.main_arg1) = m ((c.tc : Thread Cert.ProductSsdInIdeal.nD Cert.ProductSsdInIdeal.τ).loc Cert.ProductSsdInIdeal.main_arg1))
      ∧ r.2.sem = fun _ => 0)

def quiescent_ProductSsdInRef [hProductSsdInRef : Cert.ProductSsdInRef.Facts] : Prop :=
  ∀ (m : (ℓ : Loc Cert.ProductSsdInRef.nD Cert.ProductSsdInRef.τ Cert.ProductSsdInRef.sig) → Buf (Elt Bits) ℓ) (g : Dev Cert.ProductSsdInRef.nD → PrngReg), Pre_ProductSsdInRef m →
    θ_run (Cert.ProductSsdInRef.defs (F := Bits)) (onTc (τ := Cert.ProductSsdInRef.τ) (Cert.ProductSsdInRef.main (F := Bits))) ⟨m, fun _ => 0, g⟩ (fun r => (∀ c : Dev Cert.ProductSsdInRef.nD,
      r.2.mem ((c.tc : Thread Cert.ProductSsdInRef.nD Cert.ProductSsdInRef.τ).loc Cert.ProductSsdInRef.main_arg0) = m ((c.tc : Thread Cert.ProductSsdInRef.nD Cert.ProductSsdInRef.τ).loc Cert.ProductSsdInRef.main_arg0)
      ∧ r.2.mem ((c.tc : Thread Cert.ProductSsdInRef.nD Cert.ProductSsdInRef.τ).loc Cert.ProductSsdInRef.main_arg1) = m ((c.tc : Thread Cert.ProductSsdInRef.nD Cert.ProductSsdInRef.τ).loc Cert.ProductSsdInRef.main_arg1))
      ∧ r.2.sem = fun _ => 0)

def quiescent_ProductSsdInRefIdeal [hProductSsdInRefIdeal : Cert.ProductSsdInRefIdeal.Facts] : Prop :=
  ∀ (m : (ℓ : Loc Cert.ProductSsdInRefIdeal.nD Cert.ProductSsdInRefIdeal.τ Cert.ProductSsdInRefIdeal.sig) → Buf (Elt Ideal) ℓ) (g : Dev Cert.ProductSsdInRefIdeal.nD → PrngReg), Pre_ProductSsdInRefIdeal m →
    θ_run (Cert.ProductSsdInRefIdeal.defs (F := Ideal)) (onTc (τ := Cert.ProductSsdInRefIdeal.τ) (Cert.ProductSsdInRefIdeal.main (F := Ideal))) ⟨m, fun _ => 0, g⟩ (fun r => (∀ c : Dev Cert.ProductSsdInRefIdeal.nD,
      r.2.mem ((c.tc : Thread Cert.ProductSsdInRefIdeal.nD Cert.ProductSsdInRefIdeal.τ).loc Cert.ProductSsdInRefIdeal.main_arg0) = m ((c.tc : Thread Cert.ProductSsdInRefIdeal.nD Cert.ProductSsdInRefIdeal.τ).loc Cert.ProductSsdInRefIdeal.main_arg0)
      ∧ r.2.mem ((c.tc : Thread Cert.ProductSsdInRefIdeal.nD Cert.ProductSsdInRefIdeal.τ).loc Cert.ProductSsdInRefIdeal.main_arg1) = m ((c.tc : Thread Cert.ProductSsdInRefIdeal.nD Cert.ProductSsdInRefIdeal.τ).loc Cert.ProductSsdInRefIdeal.main_arg1))
      ∧ r.2.sem = fun _ => 0)

def quiescent_ProductSsdOut [hProductSsdOut : Cert.ProductSsdOut.Facts] : Prop :=
  ∀ (m : (ℓ : Loc Cert.ProductSsdOut.nD Cert.ProductSsdOut.τ Cert.ProductSsdOut.sig) → Buf (Elt Bits) ℓ) (g : Dev Cert.ProductSsdOut.nD → PrngReg), Pre_ProductSsdOut m →
    θ_run (Cert.ProductSsdOut.defs (F := Bits)) (onTc (τ := Cert.ProductSsdOut.τ) (Cert.ProductSsdOut.main (F := Bits))) ⟨m, fun _ => 0, g⟩ (fun r => (∀ c : Dev Cert.ProductSsdOut.nD,
      r.2.mem ((c.tc : Thread Cert.ProductSsdOut.nD Cert.ProductSsdOut.τ).loc Cert.ProductSsdOut.main_arg0) = m ((c.tc : Thread Cert.ProductSsdOut.nD Cert.ProductSsdOut.τ).loc Cert.ProductSsdOut.main_arg0)
      ∧ r.2.mem ((c.tc : Thread Cert.ProductSsdOut.nD Cert.ProductSsdOut.τ).loc Cert.ProductSsdOut.main_arg1) = m ((c.tc : Thread Cert.ProductSsdOut.nD Cert.ProductSsdOut.τ).loc Cert.ProductSsdOut.main_arg1)
      ∧ r.2.mem ((c.tc : Thread Cert.ProductSsdOut.nD Cert.ProductSsdOut.τ).loc Cert.ProductSsdOut.main_arg2) = m ((c.tc : Thread Cert.ProductSsdOut.nD Cert.ProductSsdOut.τ).loc Cert.ProductSsdOut.main_arg2))
      ∧ r.2.sem = fun _ => 0)

def quiescent_ProductSsdOutIdeal [hProductSsdOutIdeal : Cert.ProductSsdOutIdeal.Facts] : Prop :=
  ∀ (m : (ℓ : Loc Cert.ProductSsdOutIdeal.nD Cert.ProductSsdOutIdeal.τ Cert.ProductSsdOutIdeal.sig) → Buf (Elt Ideal) ℓ) (g : Dev Cert.ProductSsdOutIdeal.nD → PrngReg), Pre_ProductSsdOutIdeal m →
    θ_run (Cert.ProductSsdOutIdeal.defs (F := Ideal)) (onTc (τ := Cert.ProductSsdOutIdeal.τ) (Cert.ProductSsdOutIdeal.main (F := Ideal))) ⟨m, fun _ => 0, g⟩ (fun r => (∀ c : Dev Cert.ProductSsdOutIdeal.nD,
      r.2.mem ((c.tc : Thread Cert.ProductSsdOutIdeal.nD Cert.ProductSsdOutIdeal.τ).loc Cert.ProductSsdOutIdeal.main_arg0) = m ((c.tc : Thread Cert.ProductSsdOutIdeal.nD Cert.ProductSsdOutIdeal.τ).loc Cert.ProductSsdOutIdeal.main_arg0)
      ∧ r.2.mem ((c.tc : Thread Cert.ProductSsdOutIdeal.nD Cert.ProductSsdOutIdeal.τ).loc Cert.ProductSsdOutIdeal.main_arg1) = m ((c.tc : Thread Cert.ProductSsdOutIdeal.nD Cert.ProductSsdOutIdeal.τ).loc Cert.ProductSsdOutIdeal.main_arg1)
      ∧ r.2.mem ((c.tc : Thread Cert.ProductSsdOutIdeal.nD Cert.ProductSsdOutIdeal.τ).loc Cert.ProductSsdOutIdeal.main_arg2) = m ((c.tc : Thread Cert.ProductSsdOutIdeal.nD Cert.ProductSsdOutIdeal.τ).loc Cert.ProductSsdOutIdeal.main_arg2))
      ∧ r.2.sem = fun _ => 0)

def quiescent_ProductSsdOutRef [hProductSsdOutRef : Cert.ProductSsdOutRef.Facts] : Prop :=
  ∀ (m : (ℓ : Loc Cert.ProductSsdOutRef.nD Cert.ProductSsdOutRef.τ Cert.ProductSsdOutRef.sig) → Buf (Elt Bits) ℓ) (g : Dev Cert.ProductSsdOutRef.nD → PrngReg), Pre_ProductSsdOutRef m →
    θ_run (Cert.ProductSsdOutRef.defs (F := Bits)) (onTc (τ := Cert.ProductSsdOutRef.τ) (Cert.ProductSsdOutRef.main (F := Bits))) ⟨m, fun _ => 0, g⟩ (fun r => (∀ c : Dev Cert.ProductSsdOutRef.nD,
      r.2.mem ((c.tc : Thread Cert.ProductSsdOutRef.nD Cert.ProductSsdOutRef.τ).loc Cert.ProductSsdOutRef.main_arg0) = m ((c.tc : Thread Cert.ProductSsdOutRef.nD Cert.ProductSsdOutRef.τ).loc Cert.ProductSsdOutRef.main_arg0)
      ∧ r.2.mem ((c.tc : Thread Cert.ProductSsdOutRef.nD Cert.ProductSsdOutRef.τ).loc Cert.ProductSsdOutRef.main_arg1) = m ((c.tc : Thread Cert.ProductSsdOutRef.nD Cert.ProductSsdOutRef.τ).loc Cert.ProductSsdOutRef.main_arg1)
      ∧ r.2.mem ((c.tc : Thread Cert.ProductSsdOutRef.nD Cert.ProductSsdOutRef.τ).loc Cert.ProductSsdOutRef.main_arg2) = m ((c.tc : Thread Cert.ProductSsdOutRef.nD Cert.ProductSsdOutRef.τ).loc Cert.ProductSsdOutRef.main_arg2))
      ∧ r.2.sem = fun _ => 0)

def quiescent_ProductSsdOutRefIdeal [hProductSsdOutRefIdeal : Cert.ProductSsdOutRefIdeal.Facts] : Prop :=
  ∀ (m : (ℓ : Loc Cert.ProductSsdOutRefIdeal.nD Cert.ProductSsdOutRefIdeal.τ Cert.ProductSsdOutRefIdeal.sig) → Buf (Elt Ideal) ℓ) (g : Dev Cert.ProductSsdOutRefIdeal.nD → PrngReg), Pre_ProductSsdOutRefIdeal m →
    θ_run (Cert.ProductSsdOutRefIdeal.defs (F := Ideal)) (onTc (τ := Cert.ProductSsdOutRefIdeal.τ) (Cert.ProductSsdOutRefIdeal.main (F := Ideal))) ⟨m, fun _ => 0, g⟩ (fun r => (∀ c : Dev Cert.ProductSsdOutRefIdeal.nD,
      r.2.mem ((c.tc : Thread Cert.ProductSsdOutRefIdeal.nD Cert.ProductSsdOutRefIdeal.τ).loc Cert.ProductSsdOutRefIdeal.main_arg0) = m ((c.tc : Thread Cert.ProductSsdOutRefIdeal.nD Cert.ProductSsdOutRefIdeal.τ).loc Cert.ProductSsdOutRefIdeal.main_arg0)
      ∧ r.2.mem ((c.tc : Thread Cert.ProductSsdOutRefIdeal.nD Cert.ProductSsdOutRefIdeal.τ).loc Cert.ProductSsdOutRefIdeal.main_arg1) = m ((c.tc : Thread Cert.ProductSsdOutRefIdeal.nD Cert.ProductSsdOutRefIdeal.τ).loc Cert.ProductSsdOutRefIdeal.main_arg1)
      ∧ r.2.mem ((c.tc : Thread Cert.ProductSsdOutRefIdeal.nD Cert.ProductSsdOutRefIdeal.τ).loc Cert.ProductSsdOutRefIdeal.main_arg2) = m ((c.tc : Thread Cert.ProductSsdOutRefIdeal.nD Cert.ProductSsdOutRefIdeal.τ).loc Cert.ProductSsdOutRefIdeal.main_arg2))
      ∧ r.2.sem = fun _ => 0)

def quiescent_ProductSsdDyn [hProductSsdDyn : Cert.ProductSsdDyn.Facts] : Prop :=
  ∀ (m : (ℓ : Loc Cert.ProductSsdDyn.nD Cert.ProductSsdDyn.τ Cert.ProductSsdDyn.sig) → Buf (Elt Bits) ℓ) (g : Dev Cert.ProductSsdDyn.nD → PrngReg), Pre_ProductSsdDyn m →
    θ_run (Cert.ProductSsdDyn.defs (F := Bits)) (onTc (τ := Cert.ProductSsdDyn.τ) (Cert.ProductSsdDyn.main (F := Bits))) ⟨m, fun _ => 0, g⟩ (fun r => (∀ c : Dev Cert.ProductSsdDyn.nD,
      r.2.mem ((c.tc : Thread Cert.ProductSsdDyn.nD Cert.ProductSsdDyn.τ).loc Cert.ProductSsdDyn.main_arg0) = m ((c.tc : Thread Cert.ProductSsdDyn.nD Cert.ProductSsdDyn.τ).loc Cert.ProductSsdDyn.main_arg0)
      ∧ r.2.mem ((c.tc : Thread Cert.ProductSsdDyn.nD Cert.ProductSsdDyn.τ).loc Cert.ProductSsdDyn.main_arg1) = m ((c.tc : Thread Cert.ProductSsdDyn.nD Cert.ProductSsdDyn.τ).loc Cert.ProductSsdDyn.main_arg1))
      ∧ r.2.sem = fun _ => 0)

def quiescent_ProductSsdDynIdeal [hProductSsdDynIdeal : Cert.ProductSsdDynIdeal.Facts] : Prop :=
  ∀ (m : (ℓ : Loc Cert.ProductSsdDynIdeal.nD Cert.ProductSsdDynIdeal.τ Cert.ProductSsdDynIdeal.sig) → Buf (Elt Ideal) ℓ) (g : Dev Cert.ProductSsdDynIdeal.nD → PrngReg), Pre_ProductSsdDynIdeal m →
    θ_run (Cert.ProductSsdDynIdeal.defs (F := Ideal)) (onTc (τ := Cert.ProductSsdDynIdeal.τ) (Cert.ProductSsdDynIdeal.main (F := Ideal))) ⟨m, fun _ => 0, g⟩ (fun r => (∀ c : Dev Cert.ProductSsdDynIdeal.nD,
      r.2.mem ((c.tc : Thread Cert.ProductSsdDynIdeal.nD Cert.ProductSsdDynIdeal.τ).loc Cert.ProductSsdDynIdeal.main_arg0) = m ((c.tc : Thread Cert.ProductSsdDynIdeal.nD Cert.ProductSsdDynIdeal.τ).loc Cert.ProductSsdDynIdeal.main_arg0)
      ∧ r.2.mem ((c.tc : Thread Cert.ProductSsdDynIdeal.nD Cert.ProductSsdDynIdeal.τ).loc Cert.ProductSsdDynIdeal.main_arg1) = m ((c.tc : Thread Cert.ProductSsdDynIdeal.nD Cert.ProductSsdDynIdeal.τ).loc Cert.ProductSsdDynIdeal.main_arg1))
      ∧ r.2.sem = fun _ => 0)

def quiescent_ProductSsdDynRef [hProductSsdDynRef : Cert.ProductSsdDynRef.Facts] : Prop :=
  ∀ (m : (ℓ : Loc Cert.ProductSsdDynRef.nD Cert.ProductSsdDynRef.τ Cert.ProductSsdDynRef.sig) → Buf (Elt Bits) ℓ) (g : Dev Cert.ProductSsdDynRef.nD → PrngReg), Pre_ProductSsdDynRef m →
    θ_run (Cert.ProductSsdDynRef.defs (F := Bits)) (onTc (τ := Cert.ProductSsdDynRef.τ) (Cert.ProductSsdDynRef.main (F := Bits))) ⟨m, fun _ => 0, g⟩ (fun r => (∀ c : Dev Cert.ProductSsdDynRef.nD,
      r.2.mem ((c.tc : Thread Cert.ProductSsdDynRef.nD Cert.ProductSsdDynRef.τ).loc Cert.ProductSsdDynRef.main_arg0) = m ((c.tc : Thread Cert.ProductSsdDynRef.nD Cert.ProductSsdDynRef.τ).loc Cert.ProductSsdDynRef.main_arg0)
      ∧ r.2.mem ((c.tc : Thread Cert.ProductSsdDynRef.nD Cert.ProductSsdDynRef.τ).loc Cert.ProductSsdDynRef.main_arg1) = m ((c.tc : Thread Cert.ProductSsdDynRef.nD Cert.ProductSsdDynRef.τ).loc Cert.ProductSsdDynRef.main_arg1))
      ∧ r.2.sem = fun _ => 0)

def quiescent_ProductSsdDynRefIdeal [hProductSsdDynRefIdeal : Cert.ProductSsdDynRefIdeal.Facts] : Prop :=
  ∀ (m : (ℓ : Loc Cert.ProductSsdDynRefIdeal.nD Cert.ProductSsdDynRefIdeal.τ Cert.ProductSsdDynRefIdeal.sig) → Buf (Elt Ideal) ℓ) (g : Dev Cert.ProductSsdDynRefIdeal.nD → PrngReg), Pre_ProductSsdDynRefIdeal m →
    θ_run (Cert.ProductSsdDynRefIdeal.defs (F := Ideal)) (onTc (τ := Cert.ProductSsdDynRefIdeal.τ) (Cert.ProductSsdDynRefIdeal.main (F := Ideal))) ⟨m, fun _ => 0, g⟩ (fun r => (∀ c : Dev Cert.ProductSsdDynRefIdeal.nD,
      r.2.mem ((c.tc : Thread Cert.ProductSsdDynRefIdeal.nD Cert.ProductSsdDynRefIdeal.τ).loc Cert.ProductSsdDynRefIdeal.main_arg0) = m ((c.tc : Thread Cert.ProductSsdDynRefIdeal.nD Cert.ProductSsdDynRefIdeal.τ).loc Cert.ProductSsdDynRefIdeal.main_arg0)
      ∧ r.2.mem ((c.tc : Thread Cert.ProductSsdDynRefIdeal.nD Cert.ProductSsdDynRefIdeal.τ).loc Cert.ProductSsdDynRefIdeal.main_arg1) = m ((c.tc : Thread Cert.ProductSsdDynRefIdeal.nD Cert.ProductSsdDynRefIdeal.τ).loc Cert.ProductSsdDynRefIdeal.main_arg1))
      ∧ r.2.sem = fun _ => 0)

def quiescent_ProductSsdGout [hProductSsdGout : Cert.ProductSsdGout.Facts] : Prop :=
  ∀ (m : (ℓ : Loc Cert.ProductSsdGout.nD Cert.ProductSsdGout.τ Cert.ProductSsdGout.sig) → Buf (Elt Bits) ℓ) (g : Dev Cert.ProductSsdGout.nD → PrngReg), Pre_ProductSsdGout m →
    θ_run (Cert.ProductSsdGout.defs (F := Bits)) (onTc (τ := Cert.ProductSsdGout.τ) (Cert.ProductSsdGout.main (F := Bits))) ⟨m, fun _ => 0, g⟩ (fun r => (∀ c : Dev Cert.ProductSsdGout.nD,
      r.2.mem ((c.tc : Thread Cert.ProductSsdGout.nD Cert.ProductSsdGout.τ).loc Cert.ProductSsdGout.main_arg0) = m ((c.tc : Thread Cert.ProductSsdGout.nD Cert.ProductSsdGout.τ).loc Cert.ProductSsdGout.main_arg0)
      ∧ r.2.mem ((c.tc : Thread Cert.ProductSsdGout.nD Cert.ProductSsdGout.τ).loc Cert.ProductSsdGout.main_arg1) = m ((c.tc : Thread Cert.ProductSsdGout.nD Cert.ProductSsdGout.τ).loc Cert.ProductSsdGout.main_arg1))
      ∧ r.2.sem = fun _ => 0)

def quiescent_ProductSsdGoutIdeal [hProductSsdGoutIdeal : Cert.ProductSsdGoutIdeal.Facts] : Prop :=
  ∀ (m : (ℓ : Loc Cert.ProductSsdGoutIdeal.nD Cert.ProductSsdGoutIdeal.τ Cert.ProductSsdGoutIdeal.sig) → Buf (Elt Ideal) ℓ) (g : Dev Cert.ProductSsdGoutIdeal.nD → PrngReg), Pre_ProductSsdGoutIdeal m →
    θ_run (Cert.ProductSsdGoutIdeal.defs (F := Ideal)) (onTc (τ := Cert.ProductSsdGoutIdeal.τ) (Cert.ProductSsdGoutIdeal.main (F := Ideal))) ⟨m, fun _ => 0, g⟩ (fun r => (∀ c : Dev Cert.ProductSsdGoutIdeal.nD,
      r.2.mem ((c.tc : Thread Cert.ProductSsdGoutIdeal.nD Cert.ProductSsdGoutIdeal.τ).loc Cert.ProductSsdGoutIdeal.main_arg0) = m ((c.tc : Thread Cert.ProductSsdGoutIdeal.nD Cert.ProductSsdGoutIdeal.τ).loc Cert.ProductSsdGoutIdeal.main_arg0)
      ∧ r.2.mem ((c.tc : Thread Cert.ProductSsdGoutIdeal.nD Cert.ProductSsdGoutIdeal.τ).loc Cert.ProductSsdGoutIdeal.main_arg1) = m ((c.tc : Thread Cert.ProductSsdGoutIdeal.nD Cert.ProductSsdGoutIdeal.τ).loc Cert.ProductSsdGoutIdeal.main_arg1))
      ∧ r.2.sem = fun _ => 0)

def quiescent_ProductSsdGoutRef [hProductSsdGoutRef : Cert.ProductSsdGoutRef.Facts] : Prop :=
  ∀ (m : (ℓ : Loc Cert.ProductSsdGoutRef.nD Cert.ProductSsdGoutRef.τ Cert.ProductSsdGoutRef.sig) → Buf (Elt Bits) ℓ) (g : Dev Cert.ProductSsdGoutRef.nD → PrngReg), Pre_ProductSsdGoutRef m →
    θ_run (Cert.ProductSsdGoutRef.defs (F := Bits)) (onTc (τ := Cert.ProductSsdGoutRef.τ) (Cert.ProductSsdGoutRef.main (F := Bits))) ⟨m, fun _ => 0, g⟩ (fun r => (∀ c : Dev Cert.ProductSsdGoutRef.nD,
      r.2.mem ((c.tc : Thread Cert.ProductSsdGoutRef.nD Cert.ProductSsdGoutRef.τ).loc Cert.ProductSsdGoutRef.main_arg0) = m ((c.tc : Thread Cert.ProductSsdGoutRef.nD Cert.ProductSsdGoutRef.τ).loc Cert.ProductSsdGoutRef.main_arg0)
      ∧ r.2.mem ((c.tc : Thread Cert.ProductSsdGoutRef.nD Cert.ProductSsdGoutRef.τ).loc Cert.ProductSsdGoutRef.main_arg1) = m ((c.tc : Thread Cert.ProductSsdGoutRef.nD Cert.ProductSsdGoutRef.τ).loc Cert.ProductSsdGoutRef.main_arg1))
      ∧ r.2.sem = fun _ => 0)

def quiescent_ProductSsdGoutRefIdeal [hProductSsdGoutRefIdeal : Cert.ProductSsdGoutRefIdeal.Facts] : Prop :=
  ∀ (m : (ℓ : Loc Cert.ProductSsdGoutRefIdeal.nD Cert.ProductSsdGoutRefIdeal.τ Cert.ProductSsdGoutRefIdeal.sig) → Buf (Elt Ideal) ℓ) (g : Dev Cert.ProductSsdGoutRefIdeal.nD → PrngReg), Pre_ProductSsdGoutRefIdeal m →
    θ_run (Cert.ProductSsdGoutRefIdeal.defs (F := Ideal)) (onTc (τ := Cert.ProductSsdGoutRefIdeal.τ) (Cert.ProductSsdGoutRefIdeal.main (F := Ideal))) ⟨m, fun _ => 0, g⟩ (fun r => (∀ c : Dev Cert.ProductSsdGoutRefIdeal.nD,
      r.2.mem ((c.tc : Thread Cert.ProductSsdGoutRefIdeal.nD Cert.ProductSsdGoutRefIdeal.τ).loc Cert.ProductSsdGoutRefIdeal.main_arg0) = m ((c.tc : Thread Cert.ProductSsdGoutRefIdeal.nD Cert.ProductSsdGoutRefIdeal.τ).loc Cert.ProductSsdGoutRefIdeal.main_arg0)
      ∧ r.2.mem ((c.tc : Thread Cert.ProductSsdGoutRefIdeal.nD Cert.ProductSsdGoutRefIdeal.τ).loc Cert.ProductSsdGoutRefIdeal.main_arg1) = m ((c.tc : Thread Cert.ProductSsdGoutRefIdeal.nD Cert.ProductSsdGoutRefIdeal.τ).loc Cert.ProductSsdGoutRefIdeal.main_arg1))
      ∧ r.2.sem = fun _ => 0)

def quiescent_ProductSsdGin [hProductSsdGin : Cert.ProductSsdGin.Facts] : Prop :=
  ∀ (m : (ℓ : Loc Cert.ProductSsdGin.nD Cert.ProductSsdGin.τ Cert.ProductSsdGin.sig) → Buf (Elt Bits) ℓ) (g : Dev Cert.ProductSsdGin.nD → PrngReg), Pre_ProductSsdGin m →
    θ_run (Cert.ProductSsdGin.defs (F := Bits)) (onTc (τ := Cert.ProductSsdGin.τ) (Cert.ProductSsdGin.main (F := Bits))) ⟨m, fun _ => 0, g⟩ (fun r => (∀ c : Dev Cert.ProductSsdGin.nD,
      r.2.mem ((c.tc : Thread Cert.ProductSsdGin.nD Cert.ProductSsdGin.τ).loc Cert.ProductSsdGin.main_arg0) = m ((c.tc : Thread Cert.ProductSsdGin.nD Cert.ProductSsdGin.τ).loc Cert.ProductSsdGin.main_arg0)
      ∧ r.2.mem ((c.tc : Thread Cert.ProductSsdGin.nD Cert.ProductSsdGin.τ).loc Cert.ProductSsdGin.main_arg1) = m ((c.tc : Thread Cert.ProductSsdGin.nD Cert.ProductSsdGin.τ).loc Cert.ProductSsdGin.main_arg1))
      ∧ r.2.sem = fun _ => 0)

def quiescent_ProductSsdGinIdeal [hProductSsdGinIdeal : Cert.ProductSsdGinIdeal.Facts] : Prop :=
  ∀ (m : (ℓ : Loc Cert.ProductSsdGinIdeal.nD Cert.ProductSsdGinIdeal.τ Cert.ProductSsdGinIdeal.sig) → Buf (Elt Ideal) ℓ) (g : Dev Cert.ProductSsdGinIdeal.nD → PrngReg), Pre_ProductSsdGinIdeal m →
    θ_run (Cert.ProductSsdGinIdeal.defs (F := Ideal)) (onTc (τ := Cert.ProductSsdGinIdeal.τ) (Cert.ProductSsdGinIdeal.main (F := Ideal))) ⟨m, fun _ => 0, g⟩ (fun r => (∀ c : Dev Cert.ProductSsdGinIdeal.nD,
      r.2.mem ((c.tc : Thread Cert.ProductSsdGinIdeal.nD Cert.ProductSsdGinIdeal.τ).loc Cert.ProductSsdGinIdeal.main_arg0) = m ((c.tc : Thread Cert.ProductSsdGinIdeal.nD Cert.ProductSsdGinIdeal.τ).loc Cert.ProductSsdGinIdeal.main_arg0)
      ∧ r.2.mem ((c.tc : Thread Cert.ProductSsdGinIdeal.nD Cert.ProductSsdGinIdeal.τ).loc Cert.ProductSsdGinIdeal.main_arg1) = m ((c.tc : Thread Cert.ProductSsdGinIdeal.nD Cert.ProductSsdGinIdeal.τ).loc Cert.ProductSsdGinIdeal.main_arg1))
      ∧ r.2.sem = fun _ => 0)

def quiescent_ProductSsdGinRef [hProductSsdGinRef : Cert.ProductSsdGinRef.Facts] : Prop :=
  ∀ (m : (ℓ : Loc Cert.ProductSsdGinRef.nD Cert.ProductSsdGinRef.τ Cert.ProductSsdGinRef.sig) → Buf (Elt Bits) ℓ) (g : Dev Cert.ProductSsdGinRef.nD → PrngReg), Pre_ProductSsdGinRef m →
    θ_run (Cert.ProductSsdGinRef.defs (F := Bits)) (onTc (τ := Cert.ProductSsdGinRef.τ) (Cert.ProductSsdGinRef.main (F := Bits))) ⟨m, fun _ => 0, g⟩ (fun r => (∀ c : Dev Cert.ProductSsdGinRef.nD,
      r.2.mem ((c.tc : Thread Cert.ProductSsdGinRef.nD Cert.ProductSsdGinRef.τ).loc Cert.ProductSsdGinRef.main_arg0) = m ((c.tc : Thread Cert.ProductSsdGinRef.nD Cert.ProductSsdGinRef.τ).loc Cert.ProductSsdGinRef.main_arg0)
      ∧ r.2.mem ((c.tc : Thread Cert.ProductSsdGinRef.nD Cert.ProductSsdGinRef.τ).loc Cert.ProductSsdGinRef.main_arg1) = m ((c.tc : Thread Cert.ProductSsdGinRef.nD Cert.ProductSsdGinRef.τ).loc Cert.ProductSsdGinRef.main_arg1))
      ∧ r.2.sem = fun _ => 0)

def quiescent_ProductSsdGinRefIdeal [hProductSsdGinRefIdeal : Cert.ProductSsdGinRefIdeal.Facts] : Prop :=
  ∀ (m : (ℓ : Loc Cert.ProductSsdGinRefIdeal.nD Cert.ProductSsdGinRefIdeal.τ Cert.ProductSsdGinRefIdeal.sig) → Buf (Elt Ideal) ℓ) (g : Dev Cert.ProductSsdGinRefIdeal.nD → PrngReg), Pre_ProductSsdGinRefIdeal m →
    θ_run (Cert.ProductSsdGinRefIdeal.defs (F := Ideal)) (onTc (τ := Cert.ProductSsdGinRefIdeal.τ) (Cert.ProductSsdGinRefIdeal.main (F := Ideal))) ⟨m, fun _ => 0, g⟩ (fun r => (∀ c : Dev Cert.ProductSsdGinRefIdeal.nD,
      r.2.mem ((c.tc : Thread Cert.ProductSsdGinRefIdeal.nD Cert.ProductSsdGinRefIdeal.τ).loc Cert.ProductSsdGinRefIdeal.main_arg0) = m ((c.tc : Thread Cert.ProductSsdGinRefIdeal.nD Cert.ProductSsdGinRefIdeal.τ).loc Cert.ProductSsdGinRefIdeal.main_arg0)
      ∧ r.2.mem ((c.tc : Thread Cert.ProductSsdGinRefIdeal.nD Cert.ProductSsdGinRefIdeal.τ).loc Cert.ProductSsdGinRefIdeal.main_arg1) = m ((c.tc : Thread Cert.ProductSsdGinRefIdeal.nD Cert.ProductSsdGinRefIdeal.τ).loc Cert.ProductSsdGinRefIdeal.main_arg1))
      ∧ r.2.sem = fun _ => 0)

def quiescent_ProductSsdDh [hProductSsdDh : Cert.ProductSsdDh.Facts] : Prop :=
  ∀ (m : (ℓ : Loc Cert.ProductSsdDh.nD Cert.ProductSsdDh.τ Cert.ProductSsdDh.sig) → Buf (Elt Bits) ℓ) (g : Dev Cert.ProductSsdDh.nD → PrngReg), Pre_ProductSsdDh m →
    θ_run (Cert.ProductSsdDh.defs (F := Bits)) (onTc (τ := Cert.ProductSsdDh.τ) (Cert.ProductSsdDh.main (F := Bits))) ⟨m, fun _ => 0, g⟩ (fun r => (∀ c : Dev Cert.ProductSsdDh.nD,
      r.2.mem ((c.tc : Thread Cert.ProductSsdDh.nD Cert.ProductSsdDh.τ).loc Cert.ProductSsdDh.main_arg0) = m ((c.tc : Thread Cert.ProductSsdDh.nD Cert.ProductSsdDh.τ).loc Cert.ProductSsdDh.main_arg0)
      ∧ r.2.mem ((c.tc : Thread Cert.ProductSsdDh.nD Cert.ProductSsdDh.τ).loc Cert.ProductSsdDh.main_arg1) = m ((c.tc : Thread Cert.ProductSsdDh.nD Cert.ProductSsdDh.τ).loc Cert.ProductSsdDh.main_arg1))
      ∧ r.2.sem = fun _ => 0)

def quiescent_ProductSsdDhIdeal [hProductSsdDhIdeal : Cert.ProductSsdDhIdeal.Facts] : Prop :=
  ∀ (m : (ℓ : Loc Cert.ProductSsdDhIdeal.nD Cert.ProductSsdDhIdeal.τ Cert.ProductSsdDhIdeal.sig) → Buf (Elt Ideal) ℓ) (g : Dev Cert.ProductSsdDhIdeal.nD → PrngReg), Pre_ProductSsdDhIdeal m →
    θ_run (Cert.ProductSsdDhIdeal.defs (F := Ideal)) (onTc (τ := Cert.ProductSsdDhIdeal.τ) (Cert.ProductSsdDhIdeal.main (F := Ideal))) ⟨m, fun _ => 0, g⟩ (fun r => (∀ c : Dev Cert.ProductSsdDhIdeal.nD,
      r.2.mem ((c.tc : Thread Cert.ProductSsdDhIdeal.nD Cert.ProductSsdDhIdeal.τ).loc Cert.ProductSsdDhIdeal.main_arg0) = m ((c.tc : Thread Cert.ProductSsdDhIdeal.nD Cert.ProductSsdDhIdeal.τ).loc Cert.ProductSsdDhIdeal.main_arg0)
      ∧ r.2.mem ((c.tc : Thread Cert.ProductSsdDhIdeal.nD Cert.ProductSsdDhIdeal.τ).loc Cert.ProductSsdDhIdeal.main_arg1) = m ((c.tc : Thread Cert.ProductSsdDhIdeal.nD Cert.ProductSsdDhIdeal.τ).loc Cert.ProductSsdDhIdeal.main_arg1))
      ∧ r.2.sem = fun _ => 0)

def quiescent_ProductSsdDhRef [hProductSsdDhRef : Cert.ProductSsdDhRef.Facts] : Prop :=
  ∀ (m : (ℓ : Loc Cert.ProductSsdDhRef.nD Cert.ProductSsdDhRef.τ Cert.ProductSsdDhRef.sig) → Buf (Elt Bits) ℓ) (g : Dev Cert.ProductSsdDhRef.nD → PrngReg), Pre_ProductSsdDhRef m →
    θ_run (Cert.ProductSsdDhRef.defs (F := Bits)) (onTc (τ := Cert.ProductSsdDhRef.τ) (Cert.ProductSsdDhRef.main (F := Bits))) ⟨m, fun _ => 0, g⟩ (fun r => (∀ c : Dev Cert.ProductSsdDhRef.nD,
      r.2.mem ((c.tc : Thread Cert.ProductSsdDhRef.nD Cert.ProductSsdDhRef.τ).loc Cert.ProductSsdDhRef.main_arg0) = m ((c.tc : Thread Cert.ProductSsdDhRef.nD Cert.ProductSsdDhRef.τ).loc Cert.ProductSsdDhRef.main_arg0)
      ∧ r.2.mem ((c.tc : Thread Cert.ProductSsdDhRef.nD Cert.ProductSsdDhRef.τ).loc Cert.ProductSsdDhRef.main_arg1) = m ((c.tc : Thread Cert.ProductSsdDhRef.nD Cert.ProductSsdDhRef.τ).loc Cert.ProductSsdDhRef.main_arg1))
      ∧ r.2.sem = fun _ => 0)

def quiescent_ProductSsdDhRefIdeal [hProductSsdDhRefIdeal : Cert.ProductSsdDhRefIdeal.Facts] : Prop :=
  ∀ (m : (ℓ : Loc Cert.ProductSsdDhRefIdeal.nD Cert.ProductSsdDhRefIdeal.τ Cert.ProductSsdDhRefIdeal.sig) → Buf (Elt Ideal) ℓ) (g : Dev Cert.ProductSsdDhRefIdeal.nD → PrngReg), Pre_ProductSsdDhRefIdeal m →
    θ_run (Cert.ProductSsdDhRefIdeal.defs (F := Ideal)) (onTc (τ := Cert.ProductSsdDhRefIdeal.τ) (Cert.ProductSsdDhRefIdeal.main (F := Ideal))) ⟨m, fun _ => 0, g⟩ (fun r => (∀ c : Dev Cert.ProductSsdDhRefIdeal.nD,
      r.2.mem ((c.tc : Thread Cert.ProductSsdDhRefIdeal.nD Cert.ProductSsdDhRefIdeal.τ).loc Cert.ProductSsdDhRefIdeal.main_arg0) = m ((c.tc : Thread Cert.ProductSsdDhRefIdeal.nD Cert.ProductSsdDhRefIdeal.τ).loc Cert.ProductSsdDhRefIdeal.main_arg0)
      ∧ r.2.mem ((c.tc : Thread Cert.ProductSsdDhRefIdeal.nD Cert.ProductSsdDhRefIdeal.τ).loc Cert.ProductSsdDhRefIdeal.main_arg1) = m ((c.tc : Thread Cert.ProductSsdDhRefIdeal.nD Cert.ProductSsdDhRefIdeal.τ).loc Cert.ProductSsdDhRefIdeal.main_arg1))
      ∧ r.2.sem = fun _ => 0)

def quiescent_StepFfnGu [hStepFfnGu : Cert.StepFfnGu.Facts] : Prop :=
  ∀ (m : (ℓ : Loc Cert.StepFfnGu.nD Cert.StepFfnGu.τ Cert.StepFfnGu.sig) → Buf (Elt Bits) ℓ) (g : Dev Cert.StepFfnGu.nD → PrngReg), Pre_StepFfnGu m →
    θ_run (Cert.StepFfnGu.defs (F := Bits)) (onTc (τ := Cert.StepFfnGu.τ) (Cert.StepFfnGu.main (F := Bits))) ⟨m, fun _ => 0, g⟩ (fun r => (∀ c : Dev Cert.StepFfnGu.nD,
      r.2.mem ((c.tc : Thread Cert.StepFfnGu.nD Cert.StepFfnGu.τ).loc Cert.StepFfnGu.main_arg0) = m ((c.tc : Thread Cert.StepFfnGu.nD Cert.StepFfnGu.τ).loc Cert.StepFfnGu.main_arg0)
      ∧ r.2.mem ((c.tc : Thread Cert.StepFfnGu.nD Cert.StepFfnGu.τ).loc Cert.StepFfnGu.main_arg1) = m ((c.tc : Thread Cert.StepFfnGu.nD Cert.StepFfnGu.τ).loc Cert.StepFfnGu.main_arg1)
      ∧ r.2.mem ((c.tc : Thread Cert.StepFfnGu.nD Cert.StepFfnGu.τ).loc Cert.StepFfnGu.main_arg2) = m ((c.tc : Thread Cert.StepFfnGu.nD Cert.StepFfnGu.τ).loc Cert.StepFfnGu.main_arg2)
      ∧ r.2.mem ((c.tc : Thread Cert.StepFfnGu.nD Cert.StepFfnGu.τ).loc Cert.StepFfnGu.main_arg3) = m ((c.tc : Thread Cert.StepFfnGu.nD Cert.StepFfnGu.τ).loc Cert.StepFfnGu.main_arg3))
      ∧ r.2.sem = fun _ => 0)

def quiescent_StepFfnGuIdeal [hStepFfnGuIdeal : Cert.StepFfnGuIdeal.Facts] : Prop :=
  ∀ (m : (ℓ : Loc Cert.StepFfnGuIdeal.nD Cert.StepFfnGuIdeal.τ Cert.StepFfnGuIdeal.sig) → Buf (Elt Ideal) ℓ) (g : Dev Cert.StepFfnGuIdeal.nD → PrngReg), Pre_StepFfnGuIdeal m →
    θ_run (Cert.StepFfnGuIdeal.defs (F := Ideal)) (onTc (τ := Cert.StepFfnGuIdeal.τ) (Cert.StepFfnGuIdeal.main (F := Ideal))) ⟨m, fun _ => 0, g⟩ (fun r => (∀ c : Dev Cert.StepFfnGuIdeal.nD,
      r.2.mem ((c.tc : Thread Cert.StepFfnGuIdeal.nD Cert.StepFfnGuIdeal.τ).loc Cert.StepFfnGuIdeal.main_arg0) = m ((c.tc : Thread Cert.StepFfnGuIdeal.nD Cert.StepFfnGuIdeal.τ).loc Cert.StepFfnGuIdeal.main_arg0)
      ∧ r.2.mem ((c.tc : Thread Cert.StepFfnGuIdeal.nD Cert.StepFfnGuIdeal.τ).loc Cert.StepFfnGuIdeal.main_arg1) = m ((c.tc : Thread Cert.StepFfnGuIdeal.nD Cert.StepFfnGuIdeal.τ).loc Cert.StepFfnGuIdeal.main_arg1)
      ∧ r.2.mem ((c.tc : Thread Cert.StepFfnGuIdeal.nD Cert.StepFfnGuIdeal.τ).loc Cert.StepFfnGuIdeal.main_arg2) = m ((c.tc : Thread Cert.StepFfnGuIdeal.nD Cert.StepFfnGuIdeal.τ).loc Cert.StepFfnGuIdeal.main_arg2)
      ∧ r.2.mem ((c.tc : Thread Cert.StepFfnGuIdeal.nD Cert.StepFfnGuIdeal.τ).loc Cert.StepFfnGuIdeal.main_arg3) = m ((c.tc : Thread Cert.StepFfnGuIdeal.nD Cert.StepFfnGuIdeal.τ).loc Cert.StepFfnGuIdeal.main_arg3))
      ∧ r.2.sem = fun _ => 0)

def quiescent_StepFfnGuRef [hStepFfnGuRef : Cert.StepFfnGuRef.Facts] : Prop :=
  ∀ (m : (ℓ : Loc Cert.StepFfnGuRef.nD Cert.StepFfnGuRef.τ Cert.StepFfnGuRef.sig) → Buf (Elt Bits) ℓ) (g : Dev Cert.StepFfnGuRef.nD → PrngReg), Pre_StepFfnGuRef m →
    θ_run (Cert.StepFfnGuRef.defs (F := Bits)) (onTc (τ := Cert.StepFfnGuRef.τ) (Cert.StepFfnGuRef.main (F := Bits))) ⟨m, fun _ => 0, g⟩ (fun r => (∀ c : Dev Cert.StepFfnGuRef.nD,
      r.2.mem ((c.tc : Thread Cert.StepFfnGuRef.nD Cert.StepFfnGuRef.τ).loc Cert.StepFfnGuRef.main_arg0) = m ((c.tc : Thread Cert.StepFfnGuRef.nD Cert.StepFfnGuRef.τ).loc Cert.StepFfnGuRef.main_arg0)
      ∧ r.2.mem ((c.tc : Thread Cert.StepFfnGuRef.nD Cert.StepFfnGuRef.τ).loc Cert.StepFfnGuRef.main_arg1) = m ((c.tc : Thread Cert.StepFfnGuRef.nD Cert.StepFfnGuRef.τ).loc Cert.StepFfnGuRef.main_arg1)
      ∧ r.2.mem ((c.tc : Thread Cert.StepFfnGuRef.nD Cert.StepFfnGuRef.τ).loc Cert.StepFfnGuRef.main_arg2) = m ((c.tc : Thread Cert.StepFfnGuRef.nD Cert.StepFfnGuRef.τ).loc Cert.StepFfnGuRef.main_arg2)
      ∧ r.2.mem ((c.tc : Thread Cert.StepFfnGuRef.nD Cert.StepFfnGuRef.τ).loc Cert.StepFfnGuRef.main_arg3) = m ((c.tc : Thread Cert.StepFfnGuRef.nD Cert.StepFfnGuRef.τ).loc Cert.StepFfnGuRef.main_arg3))
      ∧ r.2.sem = fun _ => 0)

def quiescent_StepFfnGuRefIdeal [hStepFfnGuRefIdeal : Cert.StepFfnGuRefIdeal.Facts] : Prop :=
  ∀ (m : (ℓ : Loc Cert.StepFfnGuRefIdeal.nD Cert.StepFfnGuRefIdeal.τ Cert.StepFfnGuRefIdeal.sig) → Buf (Elt Ideal) ℓ) (g : Dev Cert.StepFfnGuRefIdeal.nD → PrngReg), Pre_StepFfnGuRefIdeal m →
    θ_run (Cert.StepFfnGuRefIdeal.defs (F := Ideal)) (onTc (τ := Cert.StepFfnGuRefIdeal.τ) (Cert.StepFfnGuRefIdeal.main (F := Ideal))) ⟨m, fun _ => 0, g⟩ (fun r => (∀ c : Dev Cert.StepFfnGuRefIdeal.nD,
      r.2.mem ((c.tc : Thread Cert.StepFfnGuRefIdeal.nD Cert.StepFfnGuRefIdeal.τ).loc Cert.StepFfnGuRefIdeal.main_arg0) = m ((c.tc : Thread Cert.StepFfnGuRefIdeal.nD Cert.StepFfnGuRefIdeal.τ).loc Cert.StepFfnGuRefIdeal.main_arg0)
      ∧ r.2.mem ((c.tc : Thread Cert.StepFfnGuRefIdeal.nD Cert.StepFfnGuRefIdeal.τ).loc Cert.StepFfnGuRefIdeal.main_arg1) = m ((c.tc : Thread Cert.StepFfnGuRefIdeal.nD Cert.StepFfnGuRefIdeal.τ).loc Cert.StepFfnGuRefIdeal.main_arg1)
      ∧ r.2.mem ((c.tc : Thread Cert.StepFfnGuRefIdeal.nD Cert.StepFfnGuRefIdeal.τ).loc Cert.StepFfnGuRefIdeal.main_arg2) = m ((c.tc : Thread Cert.StepFfnGuRefIdeal.nD Cert.StepFfnGuRefIdeal.τ).loc Cert.StepFfnGuRefIdeal.main_arg2)
      ∧ r.2.mem ((c.tc : Thread Cert.StepFfnGuRefIdeal.nD Cert.StepFfnGuRefIdeal.τ).loc Cert.StepFfnGuRefIdeal.main_arg3) = m ((c.tc : Thread Cert.StepFfnGuRefIdeal.nD Cert.StepFfnGuRefIdeal.τ).loc Cert.StepFfnGuRefIdeal.main_arg3))
      ∧ r.2.sem = fun _ => 0)

def quiescent_StepFfnDown [hStepFfnDown : Cert.StepFfnDown.Facts] : Prop :=
  ∀ (m : (ℓ : Loc Cert.StepFfnDown.nD Cert.StepFfnDown.τ Cert.StepFfnDown.sig) → Buf (Elt Bits) ℓ) (g : Dev Cert.StepFfnDown.nD → PrngReg), Pre_StepFfnDown m →
    θ_run (Cert.StepFfnDown.defs (F := Bits)) (onTc (τ := Cert.StepFfnDown.τ) (Cert.StepFfnDown.main (F := Bits))) ⟨m, fun _ => 0, g⟩ (fun r => (∀ c : Dev Cert.StepFfnDown.nD,
      r.2.mem ((c.tc : Thread Cert.StepFfnDown.nD Cert.StepFfnDown.τ).loc Cert.StepFfnDown.main_arg0) = m ((c.tc : Thread Cert.StepFfnDown.nD Cert.StepFfnDown.τ).loc Cert.StepFfnDown.main_arg0)
      ∧ r.2.mem ((c.tc : Thread Cert.StepFfnDown.nD Cert.StepFfnDown.τ).loc Cert.StepFfnDown.main_arg1) = m ((c.tc : Thread Cert.StepFfnDown.nD Cert.StepFfnDown.τ).loc Cert.StepFfnDown.main_arg1)
      ∧ r.2.mem ((c.tc : Thread Cert.StepFfnDown.nD Cert.StepFfnDown.τ).loc Cert.StepFfnDown.main_arg2) = m ((c.tc : Thread Cert.StepFfnDown.nD Cert.StepFfnDown.τ).loc Cert.StepFfnDown.main_arg2)
      ∧ r.2.mem ((c.tc : Thread Cert.StepFfnDown.nD Cert.StepFfnDown.τ).loc Cert.StepFfnDown.main_arg3) = m ((c.tc : Thread Cert.StepFfnDown.nD Cert.StepFfnDown.τ).loc Cert.StepFfnDown.main_arg3))
      ∧ r.2.sem = fun _ => 0)

def quiescent_StepFfnDownIdeal [hStepFfnDownIdeal : Cert.StepFfnDownIdeal.Facts] : Prop :=
  ∀ (m : (ℓ : Loc Cert.StepFfnDownIdeal.nD Cert.StepFfnDownIdeal.τ Cert.StepFfnDownIdeal.sig) → Buf (Elt Ideal) ℓ) (g : Dev Cert.StepFfnDownIdeal.nD → PrngReg), Pre_StepFfnDownIdeal m →
    θ_run (Cert.StepFfnDownIdeal.defs (F := Ideal)) (onTc (τ := Cert.StepFfnDownIdeal.τ) (Cert.StepFfnDownIdeal.main (F := Ideal))) ⟨m, fun _ => 0, g⟩ (fun r => (∀ c : Dev Cert.StepFfnDownIdeal.nD,
      r.2.mem ((c.tc : Thread Cert.StepFfnDownIdeal.nD Cert.StepFfnDownIdeal.τ).loc Cert.StepFfnDownIdeal.main_arg0) = m ((c.tc : Thread Cert.StepFfnDownIdeal.nD Cert.StepFfnDownIdeal.τ).loc Cert.StepFfnDownIdeal.main_arg0)
      ∧ r.2.mem ((c.tc : Thread Cert.StepFfnDownIdeal.nD Cert.StepFfnDownIdeal.τ).loc Cert.StepFfnDownIdeal.main_arg1) = m ((c.tc : Thread Cert.StepFfnDownIdeal.nD Cert.StepFfnDownIdeal.τ).loc Cert.StepFfnDownIdeal.main_arg1)
      ∧ r.2.mem ((c.tc : Thread Cert.StepFfnDownIdeal.nD Cert.StepFfnDownIdeal.τ).loc Cert.StepFfnDownIdeal.main_arg2) = m ((c.tc : Thread Cert.StepFfnDownIdeal.nD Cert.StepFfnDownIdeal.τ).loc Cert.StepFfnDownIdeal.main_arg2)
      ∧ r.2.mem ((c.tc : Thread Cert.StepFfnDownIdeal.nD Cert.StepFfnDownIdeal.τ).loc Cert.StepFfnDownIdeal.main_arg3) = m ((c.tc : Thread Cert.StepFfnDownIdeal.nD Cert.StepFfnDownIdeal.τ).loc Cert.StepFfnDownIdeal.main_arg3))
      ∧ r.2.sem = fun _ => 0)

def quiescent_StepFfnDownRef [hStepFfnDownRef : Cert.StepFfnDownRef.Facts] : Prop :=
  ∀ (m : (ℓ : Loc Cert.StepFfnDownRef.nD Cert.StepFfnDownRef.τ Cert.StepFfnDownRef.sig) → Buf (Elt Bits) ℓ) (g : Dev Cert.StepFfnDownRef.nD → PrngReg), Pre_StepFfnDownRef m →
    θ_run (Cert.StepFfnDownRef.defs (F := Bits)) (onTc (τ := Cert.StepFfnDownRef.τ) (Cert.StepFfnDownRef.main (F := Bits))) ⟨m, fun _ => 0, g⟩ (fun r => (∀ c : Dev Cert.StepFfnDownRef.nD,
      r.2.mem ((c.tc : Thread Cert.StepFfnDownRef.nD Cert.StepFfnDownRef.τ).loc Cert.StepFfnDownRef.main_arg0) = m ((c.tc : Thread Cert.StepFfnDownRef.nD Cert.StepFfnDownRef.τ).loc Cert.StepFfnDownRef.main_arg0)
      ∧ r.2.mem ((c.tc : Thread Cert.StepFfnDownRef.nD Cert.StepFfnDownRef.τ).loc Cert.StepFfnDownRef.main_arg1) = m ((c.tc : Thread Cert.StepFfnDownRef.nD Cert.StepFfnDownRef.τ).loc Cert.StepFfnDownRef.main_arg1)
      ∧ r.2.mem ((c.tc : Thread Cert.StepFfnDownRef.nD Cert.StepFfnDownRef.τ).loc Cert.StepFfnDownRef.main_arg2) = m ((c.tc : Thread Cert.StepFfnDownRef.nD Cert.StepFfnDownRef.τ).loc Cert.StepFfnDownRef.main_arg2)
      ∧ r.2.mem ((c.tc : Thread Cert.StepFfnDownRef.nD Cert.StepFfnDownRef.τ).loc Cert.StepFfnDownRef.main_arg3) = m ((c.tc : Thread Cert.StepFfnDownRef.nD Cert.StepFfnDownRef.τ).loc Cert.StepFfnDownRef.main_arg3))
      ∧ r.2.sem = fun _ => 0)

def quiescent_StepFfnDownRefIdeal [hStepFfnDownRefIdeal : Cert.StepFfnDownRefIdeal.Facts] : Prop :=
  ∀ (m : (ℓ : Loc Cert.StepFfnDownRefIdeal.nD Cert.StepFfnDownRefIdeal.τ Cert.StepFfnDownRefIdeal.sig) → Buf (Elt Ideal) ℓ) (g : Dev Cert.StepFfnDownRefIdeal.nD → PrngReg), Pre_StepFfnDownRefIdeal m →
    θ_run (Cert.StepFfnDownRefIdeal.defs (F := Ideal)) (onTc (τ := Cert.StepFfnDownRefIdeal.τ) (Cert.StepFfnDownRefIdeal.main (F := Ideal))) ⟨m, fun _ => 0, g⟩ (fun r => (∀ c : Dev Cert.StepFfnDownRefIdeal.nD,
      r.2.mem ((c.tc : Thread Cert.StepFfnDownRefIdeal.nD Cert.StepFfnDownRefIdeal.τ).loc Cert.StepFfnDownRefIdeal.main_arg0) = m ((c.tc : Thread Cert.StepFfnDownRefIdeal.nD Cert.StepFfnDownRefIdeal.τ).loc Cert.StepFfnDownRefIdeal.main_arg0)
      ∧ r.2.mem ((c.tc : Thread Cert.StepFfnDownRefIdeal.nD Cert.StepFfnDownRefIdeal.τ).loc Cert.StepFfnDownRefIdeal.main_arg1) = m ((c.tc : Thread Cert.StepFfnDownRefIdeal.nD Cert.StepFfnDownRefIdeal.τ).loc Cert.StepFfnDownRefIdeal.main_arg1)
      ∧ r.2.mem ((c.tc : Thread Cert.StepFfnDownRefIdeal.nD Cert.StepFfnDownRefIdeal.τ).loc Cert.StepFfnDownRefIdeal.main_arg2) = m ((c.tc : Thread Cert.StepFfnDownRefIdeal.nD Cert.StepFfnDownRefIdeal.τ).loc Cert.StepFfnDownRefIdeal.main_arg2)
      ∧ r.2.mem ((c.tc : Thread Cert.StepFfnDownRefIdeal.nD Cert.StepFfnDownRefIdeal.τ).loc Cert.StepFfnDownRefIdeal.main_arg3) = m ((c.tc : Thread Cert.StepFfnDownRefIdeal.nD Cert.StepFfnDownRefIdeal.τ).loc Cert.StepFfnDownRefIdeal.main_arg3))
      ∧ r.2.sem = fun _ => 0)

def quiescent_StepConvIn [hStepConvIn : Cert.StepConvIn.Facts] : Prop :=
  ∀ (m : (ℓ : Loc Cert.StepConvIn.nD Cert.StepConvIn.τ Cert.StepConvIn.sig) → Buf (Elt Bits) ℓ) (g : Dev Cert.StepConvIn.nD → PrngReg), Pre_StepConvIn m →
    θ_run (Cert.StepConvIn.defs (F := Bits)) (onTc (τ := Cert.StepConvIn.τ) (Cert.StepConvIn.main (F := Bits))) ⟨m, fun _ => 0, g⟩ (fun r => (∀ c : Dev Cert.StepConvIn.nD,
      r.2.mem ((c.tc : Thread Cert.StepConvIn.nD Cert.StepConvIn.τ).loc Cert.StepConvIn.main_arg0) = m ((c.tc : Thread Cert.StepConvIn.nD Cert.StepConvIn.τ).loc Cert.StepConvIn.main_arg0)
      ∧ r.2.mem ((c.tc : Thread Cert.StepConvIn.nD Cert.StepConvIn.τ).loc Cert.StepConvIn.main_arg1) = m ((c.tc : Thread Cert.StepConvIn.nD Cert.StepConvIn.τ).loc Cert.StepConvIn.main_arg1)
      ∧ r.2.mem ((c.tc : Thread Cert.StepConvIn.nD Cert.StepConvIn.τ).loc Cert.StepConvIn.main_arg2) = m ((c.tc : Thread Cert.StepConvIn.nD Cert.StepConvIn.τ).loc Cert.StepConvIn.main_arg2)
      ∧ r.2.mem ((c.tc : Thread Cert.StepConvIn.nD Cert.StepConvIn.τ).loc Cert.StepConvIn.main_arg3) = m ((c.tc : Thread Cert.StepConvIn.nD Cert.StepConvIn.τ).loc Cert.StepConvIn.main_arg3))
      ∧ r.2.sem = fun _ => 0)

def quiescent_StepConvInIdeal [hStepConvInIdeal : Cert.StepConvInIdeal.Facts] : Prop :=
  ∀ (m : (ℓ : Loc Cert.StepConvInIdeal.nD Cert.StepConvInIdeal.τ Cert.StepConvInIdeal.sig) → Buf (Elt Ideal) ℓ) (g : Dev Cert.StepConvInIdeal.nD → PrngReg), Pre_StepConvInIdeal m →
    θ_run (Cert.StepConvInIdeal.defs (F := Ideal)) (onTc (τ := Cert.StepConvInIdeal.τ) (Cert.StepConvInIdeal.main (F := Ideal))) ⟨m, fun _ => 0, g⟩ (fun r => (∀ c : Dev Cert.StepConvInIdeal.nD,
      r.2.mem ((c.tc : Thread Cert.StepConvInIdeal.nD Cert.StepConvInIdeal.τ).loc Cert.StepConvInIdeal.main_arg0) = m ((c.tc : Thread Cert.StepConvInIdeal.nD Cert.StepConvInIdeal.τ).loc Cert.StepConvInIdeal.main_arg0)
      ∧ r.2.mem ((c.tc : Thread Cert.StepConvInIdeal.nD Cert.StepConvInIdeal.τ).loc Cert.StepConvInIdeal.main_arg1) = m ((c.tc : Thread Cert.StepConvInIdeal.nD Cert.StepConvInIdeal.τ).loc Cert.StepConvInIdeal.main_arg1)
      ∧ r.2.mem ((c.tc : Thread Cert.StepConvInIdeal.nD Cert.StepConvInIdeal.τ).loc Cert.StepConvInIdeal.main_arg2) = m ((c.tc : Thread Cert.StepConvInIdeal.nD Cert.StepConvInIdeal.τ).loc Cert.StepConvInIdeal.main_arg2)
      ∧ r.2.mem ((c.tc : Thread Cert.StepConvInIdeal.nD Cert.StepConvInIdeal.τ).loc Cert.StepConvInIdeal.main_arg3) = m ((c.tc : Thread Cert.StepConvInIdeal.nD Cert.StepConvInIdeal.τ).loc Cert.StepConvInIdeal.main_arg3))
      ∧ r.2.sem = fun _ => 0)

def quiescent_StepConvInRef [hStepConvInRef : Cert.StepConvInRef.Facts] : Prop :=
  ∀ (m : (ℓ : Loc Cert.StepConvInRef.nD Cert.StepConvInRef.τ Cert.StepConvInRef.sig) → Buf (Elt Bits) ℓ) (g : Dev Cert.StepConvInRef.nD → PrngReg), Pre_StepConvInRef m →
    θ_run (Cert.StepConvInRef.defs (F := Bits)) (onTc (τ := Cert.StepConvInRef.τ) (Cert.StepConvInRef.main (F := Bits))) ⟨m, fun _ => 0, g⟩ (fun r => (∀ c : Dev Cert.StepConvInRef.nD,
      r.2.mem ((c.tc : Thread Cert.StepConvInRef.nD Cert.StepConvInRef.τ).loc Cert.StepConvInRef.main_arg0) = m ((c.tc : Thread Cert.StepConvInRef.nD Cert.StepConvInRef.τ).loc Cert.StepConvInRef.main_arg0)
      ∧ r.2.mem ((c.tc : Thread Cert.StepConvInRef.nD Cert.StepConvInRef.τ).loc Cert.StepConvInRef.main_arg1) = m ((c.tc : Thread Cert.StepConvInRef.nD Cert.StepConvInRef.τ).loc Cert.StepConvInRef.main_arg1)
      ∧ r.2.mem ((c.tc : Thread Cert.StepConvInRef.nD Cert.StepConvInRef.τ).loc Cert.StepConvInRef.main_arg2) = m ((c.tc : Thread Cert.StepConvInRef.nD Cert.StepConvInRef.τ).loc Cert.StepConvInRef.main_arg2)
      ∧ r.2.mem ((c.tc : Thread Cert.StepConvInRef.nD Cert.StepConvInRef.τ).loc Cert.StepConvInRef.main_arg3) = m ((c.tc : Thread Cert.StepConvInRef.nD Cert.StepConvInRef.τ).loc Cert.StepConvInRef.main_arg3))
      ∧ r.2.sem = fun _ => 0)

def quiescent_StepConvInRefIdeal [hStepConvInRefIdeal : Cert.StepConvInRefIdeal.Facts] : Prop :=
  ∀ (m : (ℓ : Loc Cert.StepConvInRefIdeal.nD Cert.StepConvInRefIdeal.τ Cert.StepConvInRefIdeal.sig) → Buf (Elt Ideal) ℓ) (g : Dev Cert.StepConvInRefIdeal.nD → PrngReg), Pre_StepConvInRefIdeal m →
    θ_run (Cert.StepConvInRefIdeal.defs (F := Ideal)) (onTc (τ := Cert.StepConvInRefIdeal.τ) (Cert.StepConvInRefIdeal.main (F := Ideal))) ⟨m, fun _ => 0, g⟩ (fun r => (∀ c : Dev Cert.StepConvInRefIdeal.nD,
      r.2.mem ((c.tc : Thread Cert.StepConvInRefIdeal.nD Cert.StepConvInRefIdeal.τ).loc Cert.StepConvInRefIdeal.main_arg0) = m ((c.tc : Thread Cert.StepConvInRefIdeal.nD Cert.StepConvInRefIdeal.τ).loc Cert.StepConvInRefIdeal.main_arg0)
      ∧ r.2.mem ((c.tc : Thread Cert.StepConvInRefIdeal.nD Cert.StepConvInRefIdeal.τ).loc Cert.StepConvInRefIdeal.main_arg1) = m ((c.tc : Thread Cert.StepConvInRefIdeal.nD Cert.StepConvInRefIdeal.τ).loc Cert.StepConvInRefIdeal.main_arg1)
      ∧ r.2.mem ((c.tc : Thread Cert.StepConvInRefIdeal.nD Cert.StepConvInRefIdeal.τ).loc Cert.StepConvInRefIdeal.main_arg2) = m ((c.tc : Thread Cert.StepConvInRefIdeal.nD Cert.StepConvInRefIdeal.τ).loc Cert.StepConvInRefIdeal.main_arg2)
      ∧ r.2.mem ((c.tc : Thread Cert.StepConvInRefIdeal.nD Cert.StepConvInRefIdeal.τ).loc Cert.StepConvInRefIdeal.main_arg3) = m ((c.tc : Thread Cert.StepConvInRefIdeal.nD Cert.StepConvInRefIdeal.τ).loc Cert.StepConvInRefIdeal.main_arg3))
      ∧ r.2.sem = fun _ => 0)

def quiescent_StepConvOut [hStepConvOut : Cert.StepConvOut.Facts] : Prop :=
  ∀ (m : (ℓ : Loc Cert.StepConvOut.nD Cert.StepConvOut.τ Cert.StepConvOut.sig) → Buf (Elt Bits) ℓ) (g : Dev Cert.StepConvOut.nD → PrngReg), Pre_StepConvOut m →
    θ_run (Cert.StepConvOut.defs (F := Bits)) (onTc (τ := Cert.StepConvOut.τ) (Cert.StepConvOut.main (F := Bits))) ⟨m, fun _ => 0, g⟩ (fun r => (∀ c : Dev Cert.StepConvOut.nD,
      r.2.mem ((c.tc : Thread Cert.StepConvOut.nD Cert.StepConvOut.τ).loc Cert.StepConvOut.main_arg0) = m ((c.tc : Thread Cert.StepConvOut.nD Cert.StepConvOut.τ).loc Cert.StepConvOut.main_arg0)
      ∧ r.2.mem ((c.tc : Thread Cert.StepConvOut.nD Cert.StepConvOut.τ).loc Cert.StepConvOut.main_arg1) = m ((c.tc : Thread Cert.StepConvOut.nD Cert.StepConvOut.τ).loc Cert.StepConvOut.main_arg1)
      ∧ r.2.mem ((c.tc : Thread Cert.StepConvOut.nD Cert.StepConvOut.τ).loc Cert.StepConvOut.main_arg2) = m ((c.tc : Thread Cert.StepConvOut.nD Cert.StepConvOut.τ).loc Cert.StepConvOut.main_arg2)
      ∧ r.2.mem ((c.tc : Thread Cert.StepConvOut.nD Cert.StepConvOut.τ).loc Cert.StepConvOut.main_arg3) = m ((c.tc : Thread Cert.StepConvOut.nD Cert.StepConvOut.τ).loc Cert.StepConvOut.main_arg3))
      ∧ r.2.sem = fun _ => 0)

def quiescent_StepConvOutIdeal [hStepConvOutIdeal : Cert.StepConvOutIdeal.Facts] : Prop :=
  ∀ (m : (ℓ : Loc Cert.StepConvOutIdeal.nD Cert.StepConvOutIdeal.τ Cert.StepConvOutIdeal.sig) → Buf (Elt Ideal) ℓ) (g : Dev Cert.StepConvOutIdeal.nD → PrngReg), Pre_StepConvOutIdeal m →
    θ_run (Cert.StepConvOutIdeal.defs (F := Ideal)) (onTc (τ := Cert.StepConvOutIdeal.τ) (Cert.StepConvOutIdeal.main (F := Ideal))) ⟨m, fun _ => 0, g⟩ (fun r => (∀ c : Dev Cert.StepConvOutIdeal.nD,
      r.2.mem ((c.tc : Thread Cert.StepConvOutIdeal.nD Cert.StepConvOutIdeal.τ).loc Cert.StepConvOutIdeal.main_arg0) = m ((c.tc : Thread Cert.StepConvOutIdeal.nD Cert.StepConvOutIdeal.τ).loc Cert.StepConvOutIdeal.main_arg0)
      ∧ r.2.mem ((c.tc : Thread Cert.StepConvOutIdeal.nD Cert.StepConvOutIdeal.τ).loc Cert.StepConvOutIdeal.main_arg1) = m ((c.tc : Thread Cert.StepConvOutIdeal.nD Cert.StepConvOutIdeal.τ).loc Cert.StepConvOutIdeal.main_arg1)
      ∧ r.2.mem ((c.tc : Thread Cert.StepConvOutIdeal.nD Cert.StepConvOutIdeal.τ).loc Cert.StepConvOutIdeal.main_arg2) = m ((c.tc : Thread Cert.StepConvOutIdeal.nD Cert.StepConvOutIdeal.τ).loc Cert.StepConvOutIdeal.main_arg2)
      ∧ r.2.mem ((c.tc : Thread Cert.StepConvOutIdeal.nD Cert.StepConvOutIdeal.τ).loc Cert.StepConvOutIdeal.main_arg3) = m ((c.tc : Thread Cert.StepConvOutIdeal.nD Cert.StepConvOutIdeal.τ).loc Cert.StepConvOutIdeal.main_arg3))
      ∧ r.2.sem = fun _ => 0)

def quiescent_StepConvOutRef [hStepConvOutRef : Cert.StepConvOutRef.Facts] : Prop :=
  ∀ (m : (ℓ : Loc Cert.StepConvOutRef.nD Cert.StepConvOutRef.τ Cert.StepConvOutRef.sig) → Buf (Elt Bits) ℓ) (g : Dev Cert.StepConvOutRef.nD → PrngReg), Pre_StepConvOutRef m →
    θ_run (Cert.StepConvOutRef.defs (F := Bits)) (onTc (τ := Cert.StepConvOutRef.τ) (Cert.StepConvOutRef.main (F := Bits))) ⟨m, fun _ => 0, g⟩ (fun r => (∀ c : Dev Cert.StepConvOutRef.nD,
      r.2.mem ((c.tc : Thread Cert.StepConvOutRef.nD Cert.StepConvOutRef.τ).loc Cert.StepConvOutRef.main_arg0) = m ((c.tc : Thread Cert.StepConvOutRef.nD Cert.StepConvOutRef.τ).loc Cert.StepConvOutRef.main_arg0)
      ∧ r.2.mem ((c.tc : Thread Cert.StepConvOutRef.nD Cert.StepConvOutRef.τ).loc Cert.StepConvOutRef.main_arg1) = m ((c.tc : Thread Cert.StepConvOutRef.nD Cert.StepConvOutRef.τ).loc Cert.StepConvOutRef.main_arg1)
      ∧ r.2.mem ((c.tc : Thread Cert.StepConvOutRef.nD Cert.StepConvOutRef.τ).loc Cert.StepConvOutRef.main_arg2) = m ((c.tc : Thread Cert.StepConvOutRef.nD Cert.StepConvOutRef.τ).loc Cert.StepConvOutRef.main_arg2)
      ∧ r.2.mem ((c.tc : Thread Cert.StepConvOutRef.nD Cert.StepConvOutRef.τ).loc Cert.StepConvOutRef.main_arg3) = m ((c.tc : Thread Cert.StepConvOutRef.nD Cert.StepConvOutRef.τ).loc Cert.StepConvOutRef.main_arg3))
      ∧ r.2.sem = fun _ => 0)

def quiescent_StepConvOutRefIdeal [hStepConvOutRefIdeal : Cert.StepConvOutRefIdeal.Facts] : Prop :=
  ∀ (m : (ℓ : Loc Cert.StepConvOutRefIdeal.nD Cert.StepConvOutRefIdeal.τ Cert.StepConvOutRefIdeal.sig) → Buf (Elt Ideal) ℓ) (g : Dev Cert.StepConvOutRefIdeal.nD → PrngReg), Pre_StepConvOutRefIdeal m →
    θ_run (Cert.StepConvOutRefIdeal.defs (F := Ideal)) (onTc (τ := Cert.StepConvOutRefIdeal.τ) (Cert.StepConvOutRefIdeal.main (F := Ideal))) ⟨m, fun _ => 0, g⟩ (fun r => (∀ c : Dev Cert.StepConvOutRefIdeal.nD,
      r.2.mem ((c.tc : Thread Cert.StepConvOutRefIdeal.nD Cert.StepConvOutRefIdeal.τ).loc Cert.StepConvOutRefIdeal.main_arg0) = m ((c.tc : Thread Cert.StepConvOutRefIdeal.nD Cert.StepConvOutRefIdeal.τ).loc Cert.StepConvOutRefIdeal.main_arg0)
      ∧ r.2.mem ((c.tc : Thread Cert.StepConvOutRefIdeal.nD Cert.StepConvOutRefIdeal.τ).loc Cert.StepConvOutRefIdeal.main_arg1) = m ((c.tc : Thread Cert.StepConvOutRefIdeal.nD Cert.StepConvOutRefIdeal.τ).loc Cert.StepConvOutRefIdeal.main_arg1)
      ∧ r.2.mem ((c.tc : Thread Cert.StepConvOutRefIdeal.nD Cert.StepConvOutRefIdeal.τ).loc Cert.StepConvOutRefIdeal.main_arg2) = m ((c.tc : Thread Cert.StepConvOutRefIdeal.nD Cert.StepConvOutRefIdeal.τ).loc Cert.StepConvOutRefIdeal.main_arg2)
      ∧ r.2.mem ((c.tc : Thread Cert.StepConvOutRefIdeal.nD Cert.StepConvOutRefIdeal.τ).loc Cert.StepConvOutRefIdeal.main_arg3) = m ((c.tc : Thread Cert.StepConvOutRefIdeal.nD Cert.StepConvOutRefIdeal.τ).loc Cert.StepConvOutRefIdeal.main_arg3))
      ∧ r.2.sem = fun _ => 0)

def quiescent_StepFoxIn [hStepFoxIn : Cert.StepFoxIn.Facts] : Prop :=
  ∀ (m : (ℓ : Loc Cert.StepFoxIn.nD Cert.StepFoxIn.τ Cert.StepFoxIn.sig) → Buf (Elt Bits) ℓ) (g : Dev Cert.StepFoxIn.nD → PrngReg), Pre_StepFoxIn m →
    θ_run (Cert.StepFoxIn.defs (F := Bits)) (onTc (τ := Cert.StepFoxIn.τ) (Cert.StepFoxIn.main (F := Bits))) ⟨m, fun _ => 0, g⟩ (fun r => (∀ c : Dev Cert.StepFoxIn.nD,
      r.2.mem ((c.tc : Thread Cert.StepFoxIn.nD Cert.StepFoxIn.τ).loc Cert.StepFoxIn.main_arg0) = m ((c.tc : Thread Cert.StepFoxIn.nD Cert.StepFoxIn.τ).loc Cert.StepFoxIn.main_arg0)
      ∧ r.2.mem ((c.tc : Thread Cert.StepFoxIn.nD Cert.StepFoxIn.τ).loc Cert.StepFoxIn.main_arg1) = m ((c.tc : Thread Cert.StepFoxIn.nD Cert.StepFoxIn.τ).loc Cert.StepFoxIn.main_arg1)
      ∧ r.2.mem ((c.tc : Thread Cert.StepFoxIn.nD Cert.StepFoxIn.τ).loc Cert.StepFoxIn.main_arg2) = m ((c.tc : Thread Cert.StepFoxIn.nD Cert.StepFoxIn.τ).loc Cert.StepFoxIn.main_arg2)
      ∧ r.2.mem ((c.tc : Thread Cert.StepFoxIn.nD Cert.StepFoxIn.τ).loc Cert.StepFoxIn.main_arg3) = m ((c.tc : Thread Cert.StepFoxIn.nD Cert.StepFoxIn.τ).loc Cert.StepFoxIn.main_arg3))
      ∧ r.2.sem = fun _ => 0)

def quiescent_StepFoxInIdeal [hStepFoxInIdeal : Cert.StepFoxInIdeal.Facts] : Prop :=
  ∀ (m : (ℓ : Loc Cert.StepFoxInIdeal.nD Cert.StepFoxInIdeal.τ Cert.StepFoxInIdeal.sig) → Buf (Elt Ideal) ℓ) (g : Dev Cert.StepFoxInIdeal.nD → PrngReg), Pre_StepFoxInIdeal m →
    θ_run (Cert.StepFoxInIdeal.defs (F := Ideal)) (onTc (τ := Cert.StepFoxInIdeal.τ) (Cert.StepFoxInIdeal.main (F := Ideal))) ⟨m, fun _ => 0, g⟩ (fun r => (∀ c : Dev Cert.StepFoxInIdeal.nD,
      r.2.mem ((c.tc : Thread Cert.StepFoxInIdeal.nD Cert.StepFoxInIdeal.τ).loc Cert.StepFoxInIdeal.main_arg0) = m ((c.tc : Thread Cert.StepFoxInIdeal.nD Cert.StepFoxInIdeal.τ).loc Cert.StepFoxInIdeal.main_arg0)
      ∧ r.2.mem ((c.tc : Thread Cert.StepFoxInIdeal.nD Cert.StepFoxInIdeal.τ).loc Cert.StepFoxInIdeal.main_arg1) = m ((c.tc : Thread Cert.StepFoxInIdeal.nD Cert.StepFoxInIdeal.τ).loc Cert.StepFoxInIdeal.main_arg1)
      ∧ r.2.mem ((c.tc : Thread Cert.StepFoxInIdeal.nD Cert.StepFoxInIdeal.τ).loc Cert.StepFoxInIdeal.main_arg2) = m ((c.tc : Thread Cert.StepFoxInIdeal.nD Cert.StepFoxInIdeal.τ).loc Cert.StepFoxInIdeal.main_arg2)
      ∧ r.2.mem ((c.tc : Thread Cert.StepFoxInIdeal.nD Cert.StepFoxInIdeal.τ).loc Cert.StepFoxInIdeal.main_arg3) = m ((c.tc : Thread Cert.StepFoxInIdeal.nD Cert.StepFoxInIdeal.τ).loc Cert.StepFoxInIdeal.main_arg3))
      ∧ r.2.sem = fun _ => 0)

def quiescent_StepFoxInRef [hStepFoxInRef : Cert.StepFoxInRef.Facts] : Prop :=
  ∀ (m : (ℓ : Loc Cert.StepFoxInRef.nD Cert.StepFoxInRef.τ Cert.StepFoxInRef.sig) → Buf (Elt Bits) ℓ) (g : Dev Cert.StepFoxInRef.nD → PrngReg), Pre_StepFoxInRef m →
    θ_run (Cert.StepFoxInRef.defs (F := Bits)) (onTc (τ := Cert.StepFoxInRef.τ) (Cert.StepFoxInRef.main (F := Bits))) ⟨m, fun _ => 0, g⟩ (fun r => (∀ c : Dev Cert.StepFoxInRef.nD,
      r.2.mem ((c.tc : Thread Cert.StepFoxInRef.nD Cert.StepFoxInRef.τ).loc Cert.StepFoxInRef.main_arg0) = m ((c.tc : Thread Cert.StepFoxInRef.nD Cert.StepFoxInRef.τ).loc Cert.StepFoxInRef.main_arg0)
      ∧ r.2.mem ((c.tc : Thread Cert.StepFoxInRef.nD Cert.StepFoxInRef.τ).loc Cert.StepFoxInRef.main_arg1) = m ((c.tc : Thread Cert.StepFoxInRef.nD Cert.StepFoxInRef.τ).loc Cert.StepFoxInRef.main_arg1)
      ∧ r.2.mem ((c.tc : Thread Cert.StepFoxInRef.nD Cert.StepFoxInRef.τ).loc Cert.StepFoxInRef.main_arg2) = m ((c.tc : Thread Cert.StepFoxInRef.nD Cert.StepFoxInRef.τ).loc Cert.StepFoxInRef.main_arg2)
      ∧ r.2.mem ((c.tc : Thread Cert.StepFoxInRef.nD Cert.StepFoxInRef.τ).loc Cert.StepFoxInRef.main_arg3) = m ((c.tc : Thread Cert.StepFoxInRef.nD Cert.StepFoxInRef.τ).loc Cert.StepFoxInRef.main_arg3))
      ∧ r.2.sem = fun _ => 0)

def quiescent_StepFoxInRefIdeal [hStepFoxInRefIdeal : Cert.StepFoxInRefIdeal.Facts] : Prop :=
  ∀ (m : (ℓ : Loc Cert.StepFoxInRefIdeal.nD Cert.StepFoxInRefIdeal.τ Cert.StepFoxInRefIdeal.sig) → Buf (Elt Ideal) ℓ) (g : Dev Cert.StepFoxInRefIdeal.nD → PrngReg), Pre_StepFoxInRefIdeal m →
    θ_run (Cert.StepFoxInRefIdeal.defs (F := Ideal)) (onTc (τ := Cert.StepFoxInRefIdeal.τ) (Cert.StepFoxInRefIdeal.main (F := Ideal))) ⟨m, fun _ => 0, g⟩ (fun r => (∀ c : Dev Cert.StepFoxInRefIdeal.nD,
      r.2.mem ((c.tc : Thread Cert.StepFoxInRefIdeal.nD Cert.StepFoxInRefIdeal.τ).loc Cert.StepFoxInRefIdeal.main_arg0) = m ((c.tc : Thread Cert.StepFoxInRefIdeal.nD Cert.StepFoxInRefIdeal.τ).loc Cert.StepFoxInRefIdeal.main_arg0)
      ∧ r.2.mem ((c.tc : Thread Cert.StepFoxInRefIdeal.nD Cert.StepFoxInRefIdeal.τ).loc Cert.StepFoxInRefIdeal.main_arg1) = m ((c.tc : Thread Cert.StepFoxInRefIdeal.nD Cert.StepFoxInRefIdeal.τ).loc Cert.StepFoxInRefIdeal.main_arg1)
      ∧ r.2.mem ((c.tc : Thread Cert.StepFoxInRefIdeal.nD Cert.StepFoxInRefIdeal.τ).loc Cert.StepFoxInRefIdeal.main_arg2) = m ((c.tc : Thread Cert.StepFoxInRefIdeal.nD Cert.StepFoxInRefIdeal.τ).loc Cert.StepFoxInRefIdeal.main_arg2)
      ∧ r.2.mem ((c.tc : Thread Cert.StepFoxInRefIdeal.nD Cert.StepFoxInRefIdeal.τ).loc Cert.StepFoxInRefIdeal.main_arg3) = m ((c.tc : Thread Cert.StepFoxInRefIdeal.nD Cert.StepFoxInRefIdeal.τ).loc Cert.StepFoxInRefIdeal.main_arg3))
      ∧ r.2.sem = fun _ => 0)

def quiescent_StepFoxOut [hStepFoxOut : Cert.StepFoxOut.Facts] : Prop :=
  ∀ (m : (ℓ : Loc Cert.StepFoxOut.nD Cert.StepFoxOut.τ Cert.StepFoxOut.sig) → Buf (Elt Bits) ℓ) (g : Dev Cert.StepFoxOut.nD → PrngReg), Pre_StepFoxOut m →
    θ_run (Cert.StepFoxOut.defs (F := Bits)) (onTc (τ := Cert.StepFoxOut.τ) (Cert.StepFoxOut.main (F := Bits))) ⟨m, fun _ => 0, g⟩ (fun r => (∀ c : Dev Cert.StepFoxOut.nD,
      r.2.mem ((c.tc : Thread Cert.StepFoxOut.nD Cert.StepFoxOut.τ).loc Cert.StepFoxOut.main_arg0) = m ((c.tc : Thread Cert.StepFoxOut.nD Cert.StepFoxOut.τ).loc Cert.StepFoxOut.main_arg0)
      ∧ r.2.mem ((c.tc : Thread Cert.StepFoxOut.nD Cert.StepFoxOut.τ).loc Cert.StepFoxOut.main_arg1) = m ((c.tc : Thread Cert.StepFoxOut.nD Cert.StepFoxOut.τ).loc Cert.StepFoxOut.main_arg1)
      ∧ r.2.mem ((c.tc : Thread Cert.StepFoxOut.nD Cert.StepFoxOut.τ).loc Cert.StepFoxOut.main_arg2) = m ((c.tc : Thread Cert.StepFoxOut.nD Cert.StepFoxOut.τ).loc Cert.StepFoxOut.main_arg2)
      ∧ r.2.mem ((c.tc : Thread Cert.StepFoxOut.nD Cert.StepFoxOut.τ).loc Cert.StepFoxOut.main_arg3) = m ((c.tc : Thread Cert.StepFoxOut.nD Cert.StepFoxOut.τ).loc Cert.StepFoxOut.main_arg3))
      ∧ r.2.sem = fun _ => 0)

def quiescent_StepFoxOutIdeal [hStepFoxOutIdeal : Cert.StepFoxOutIdeal.Facts] : Prop :=
  ∀ (m : (ℓ : Loc Cert.StepFoxOutIdeal.nD Cert.StepFoxOutIdeal.τ Cert.StepFoxOutIdeal.sig) → Buf (Elt Ideal) ℓ) (g : Dev Cert.StepFoxOutIdeal.nD → PrngReg), Pre_StepFoxOutIdeal m →
    θ_run (Cert.StepFoxOutIdeal.defs (F := Ideal)) (onTc (τ := Cert.StepFoxOutIdeal.τ) (Cert.StepFoxOutIdeal.main (F := Ideal))) ⟨m, fun _ => 0, g⟩ (fun r => (∀ c : Dev Cert.StepFoxOutIdeal.nD,
      r.2.mem ((c.tc : Thread Cert.StepFoxOutIdeal.nD Cert.StepFoxOutIdeal.τ).loc Cert.StepFoxOutIdeal.main_arg0) = m ((c.tc : Thread Cert.StepFoxOutIdeal.nD Cert.StepFoxOutIdeal.τ).loc Cert.StepFoxOutIdeal.main_arg0)
      ∧ r.2.mem ((c.tc : Thread Cert.StepFoxOutIdeal.nD Cert.StepFoxOutIdeal.τ).loc Cert.StepFoxOutIdeal.main_arg1) = m ((c.tc : Thread Cert.StepFoxOutIdeal.nD Cert.StepFoxOutIdeal.τ).loc Cert.StepFoxOutIdeal.main_arg1)
      ∧ r.2.mem ((c.tc : Thread Cert.StepFoxOutIdeal.nD Cert.StepFoxOutIdeal.τ).loc Cert.StepFoxOutIdeal.main_arg2) = m ((c.tc : Thread Cert.StepFoxOutIdeal.nD Cert.StepFoxOutIdeal.τ).loc Cert.StepFoxOutIdeal.main_arg2)
      ∧ r.2.mem ((c.tc : Thread Cert.StepFoxOutIdeal.nD Cert.StepFoxOutIdeal.τ).loc Cert.StepFoxOutIdeal.main_arg3) = m ((c.tc : Thread Cert.StepFoxOutIdeal.nD Cert.StepFoxOutIdeal.τ).loc Cert.StepFoxOutIdeal.main_arg3))
      ∧ r.2.sem = fun _ => 0)

def quiescent_StepFoxOutRef [hStepFoxOutRef : Cert.StepFoxOutRef.Facts] : Prop :=
  ∀ (m : (ℓ : Loc Cert.StepFoxOutRef.nD Cert.StepFoxOutRef.τ Cert.StepFoxOutRef.sig) → Buf (Elt Bits) ℓ) (g : Dev Cert.StepFoxOutRef.nD → PrngReg), Pre_StepFoxOutRef m →
    θ_run (Cert.StepFoxOutRef.defs (F := Bits)) (onTc (τ := Cert.StepFoxOutRef.τ) (Cert.StepFoxOutRef.main (F := Bits))) ⟨m, fun _ => 0, g⟩ (fun r => (∀ c : Dev Cert.StepFoxOutRef.nD,
      r.2.mem ((c.tc : Thread Cert.StepFoxOutRef.nD Cert.StepFoxOutRef.τ).loc Cert.StepFoxOutRef.main_arg0) = m ((c.tc : Thread Cert.StepFoxOutRef.nD Cert.StepFoxOutRef.τ).loc Cert.StepFoxOutRef.main_arg0)
      ∧ r.2.mem ((c.tc : Thread Cert.StepFoxOutRef.nD Cert.StepFoxOutRef.τ).loc Cert.StepFoxOutRef.main_arg1) = m ((c.tc : Thread Cert.StepFoxOutRef.nD Cert.StepFoxOutRef.τ).loc Cert.StepFoxOutRef.main_arg1)
      ∧ r.2.mem ((c.tc : Thread Cert.StepFoxOutRef.nD Cert.StepFoxOutRef.τ).loc Cert.StepFoxOutRef.main_arg2) = m ((c.tc : Thread Cert.StepFoxOutRef.nD Cert.StepFoxOutRef.τ).loc Cert.StepFoxOutRef.main_arg2)
      ∧ r.2.mem ((c.tc : Thread Cert.StepFoxOutRef.nD Cert.StepFoxOutRef.τ).loc Cert.StepFoxOutRef.main_arg3) = m ((c.tc : Thread Cert.StepFoxOutRef.nD Cert.StepFoxOutRef.τ).loc Cert.StepFoxOutRef.main_arg3))
      ∧ r.2.sem = fun _ => 0)

def quiescent_StepFoxOutRefIdeal [hStepFoxOutRefIdeal : Cert.StepFoxOutRefIdeal.Facts] : Prop :=
  ∀ (m : (ℓ : Loc Cert.StepFoxOutRefIdeal.nD Cert.StepFoxOutRefIdeal.τ Cert.StepFoxOutRefIdeal.sig) → Buf (Elt Ideal) ℓ) (g : Dev Cert.StepFoxOutRefIdeal.nD → PrngReg), Pre_StepFoxOutRefIdeal m →
    θ_run (Cert.StepFoxOutRefIdeal.defs (F := Ideal)) (onTc (τ := Cert.StepFoxOutRefIdeal.τ) (Cert.StepFoxOutRefIdeal.main (F := Ideal))) ⟨m, fun _ => 0, g⟩ (fun r => (∀ c : Dev Cert.StepFoxOutRefIdeal.nD,
      r.2.mem ((c.tc : Thread Cert.StepFoxOutRefIdeal.nD Cert.StepFoxOutRefIdeal.τ).loc Cert.StepFoxOutRefIdeal.main_arg0) = m ((c.tc : Thread Cert.StepFoxOutRefIdeal.nD Cert.StepFoxOutRefIdeal.τ).loc Cert.StepFoxOutRefIdeal.main_arg0)
      ∧ r.2.mem ((c.tc : Thread Cert.StepFoxOutRefIdeal.nD Cert.StepFoxOutRefIdeal.τ).loc Cert.StepFoxOutRefIdeal.main_arg1) = m ((c.tc : Thread Cert.StepFoxOutRefIdeal.nD Cert.StepFoxOutRefIdeal.τ).loc Cert.StepFoxOutRefIdeal.main_arg1)
      ∧ r.2.mem ((c.tc : Thread Cert.StepFoxOutRefIdeal.nD Cert.StepFoxOutRefIdeal.τ).loc Cert.StepFoxOutRefIdeal.main_arg2) = m ((c.tc : Thread Cert.StepFoxOutRefIdeal.nD Cert.StepFoxOutRefIdeal.τ).loc Cert.StepFoxOutRefIdeal.main_arg2)
      ∧ r.2.mem ((c.tc : Thread Cert.StepFoxOutRefIdeal.nD Cert.StepFoxOutRefIdeal.τ).loc Cert.StepFoxOutRefIdeal.main_arg3) = m ((c.tc : Thread Cert.StepFoxOutRefIdeal.nD Cert.StepFoxOutRefIdeal.τ).loc Cert.StepFoxOutRefIdeal.main_arg3))
      ∧ r.2.sem = fun _ => 0)

def quiescent_StepSsdIn [hStepSsdIn : Cert.StepSsdIn.Facts] : Prop :=
  ∀ (m : (ℓ : Loc Cert.StepSsdIn.nD Cert.StepSsdIn.τ Cert.StepSsdIn.sig) → Buf (Elt Bits) ℓ) (g : Dev Cert.StepSsdIn.nD → PrngReg), Pre_StepSsdIn m →
    θ_run (Cert.StepSsdIn.defs (F := Bits)) (onTc (τ := Cert.StepSsdIn.τ) (Cert.StepSsdIn.main (F := Bits))) ⟨m, fun _ => 0, g⟩ (fun r => (∀ c : Dev Cert.StepSsdIn.nD,
      r.2.mem ((c.tc : Thread Cert.StepSsdIn.nD Cert.StepSsdIn.τ).loc Cert.StepSsdIn.main_arg0) = m ((c.tc : Thread Cert.StepSsdIn.nD Cert.StepSsdIn.τ).loc Cert.StepSsdIn.main_arg0)
      ∧ r.2.mem ((c.tc : Thread Cert.StepSsdIn.nD Cert.StepSsdIn.τ).loc Cert.StepSsdIn.main_arg1) = m ((c.tc : Thread Cert.StepSsdIn.nD Cert.StepSsdIn.τ).loc Cert.StepSsdIn.main_arg1)
      ∧ r.2.mem ((c.tc : Thread Cert.StepSsdIn.nD Cert.StepSsdIn.τ).loc Cert.StepSsdIn.main_arg2) = m ((c.tc : Thread Cert.StepSsdIn.nD Cert.StepSsdIn.τ).loc Cert.StepSsdIn.main_arg2)
      ∧ r.2.mem ((c.tc : Thread Cert.StepSsdIn.nD Cert.StepSsdIn.τ).loc Cert.StepSsdIn.main_arg3) = m ((c.tc : Thread Cert.StepSsdIn.nD Cert.StepSsdIn.τ).loc Cert.StepSsdIn.main_arg3))
      ∧ r.2.sem = fun _ => 0)

def quiescent_StepSsdInIdeal [hStepSsdInIdeal : Cert.StepSsdInIdeal.Facts] : Prop :=
  ∀ (m : (ℓ : Loc Cert.StepSsdInIdeal.nD Cert.StepSsdInIdeal.τ Cert.StepSsdInIdeal.sig) → Buf (Elt Ideal) ℓ) (g : Dev Cert.StepSsdInIdeal.nD → PrngReg), Pre_StepSsdInIdeal m →
    θ_run (Cert.StepSsdInIdeal.defs (F := Ideal)) (onTc (τ := Cert.StepSsdInIdeal.τ) (Cert.StepSsdInIdeal.main (F := Ideal))) ⟨m, fun _ => 0, g⟩ (fun r => (∀ c : Dev Cert.StepSsdInIdeal.nD,
      r.2.mem ((c.tc : Thread Cert.StepSsdInIdeal.nD Cert.StepSsdInIdeal.τ).loc Cert.StepSsdInIdeal.main_arg0) = m ((c.tc : Thread Cert.StepSsdInIdeal.nD Cert.StepSsdInIdeal.τ).loc Cert.StepSsdInIdeal.main_arg0)
      ∧ r.2.mem ((c.tc : Thread Cert.StepSsdInIdeal.nD Cert.StepSsdInIdeal.τ).loc Cert.StepSsdInIdeal.main_arg1) = m ((c.tc : Thread Cert.StepSsdInIdeal.nD Cert.StepSsdInIdeal.τ).loc Cert.StepSsdInIdeal.main_arg1)
      ∧ r.2.mem ((c.tc : Thread Cert.StepSsdInIdeal.nD Cert.StepSsdInIdeal.τ).loc Cert.StepSsdInIdeal.main_arg2) = m ((c.tc : Thread Cert.StepSsdInIdeal.nD Cert.StepSsdInIdeal.τ).loc Cert.StepSsdInIdeal.main_arg2)
      ∧ r.2.mem ((c.tc : Thread Cert.StepSsdInIdeal.nD Cert.StepSsdInIdeal.τ).loc Cert.StepSsdInIdeal.main_arg3) = m ((c.tc : Thread Cert.StepSsdInIdeal.nD Cert.StepSsdInIdeal.τ).loc Cert.StepSsdInIdeal.main_arg3))
      ∧ r.2.sem = fun _ => 0)

def quiescent_StepSsdInRef [hStepSsdInRef : Cert.StepSsdInRef.Facts] : Prop :=
  ∀ (m : (ℓ : Loc Cert.StepSsdInRef.nD Cert.StepSsdInRef.τ Cert.StepSsdInRef.sig) → Buf (Elt Bits) ℓ) (g : Dev Cert.StepSsdInRef.nD → PrngReg), Pre_StepSsdInRef m →
    θ_run (Cert.StepSsdInRef.defs (F := Bits)) (onTc (τ := Cert.StepSsdInRef.τ) (Cert.StepSsdInRef.main (F := Bits))) ⟨m, fun _ => 0, g⟩ (fun r => (∀ c : Dev Cert.StepSsdInRef.nD,
      r.2.mem ((c.tc : Thread Cert.StepSsdInRef.nD Cert.StepSsdInRef.τ).loc Cert.StepSsdInRef.main_arg0) = m ((c.tc : Thread Cert.StepSsdInRef.nD Cert.StepSsdInRef.τ).loc Cert.StepSsdInRef.main_arg0)
      ∧ r.2.mem ((c.tc : Thread Cert.StepSsdInRef.nD Cert.StepSsdInRef.τ).loc Cert.StepSsdInRef.main_arg1) = m ((c.tc : Thread Cert.StepSsdInRef.nD Cert.StepSsdInRef.τ).loc Cert.StepSsdInRef.main_arg1)
      ∧ r.2.mem ((c.tc : Thread Cert.StepSsdInRef.nD Cert.StepSsdInRef.τ).loc Cert.StepSsdInRef.main_arg2) = m ((c.tc : Thread Cert.StepSsdInRef.nD Cert.StepSsdInRef.τ).loc Cert.StepSsdInRef.main_arg2)
      ∧ r.2.mem ((c.tc : Thread Cert.StepSsdInRef.nD Cert.StepSsdInRef.τ).loc Cert.StepSsdInRef.main_arg3) = m ((c.tc : Thread Cert.StepSsdInRef.nD Cert.StepSsdInRef.τ).loc Cert.StepSsdInRef.main_arg3))
      ∧ r.2.sem = fun _ => 0)

def quiescent_StepSsdInRefIdeal [hStepSsdInRefIdeal : Cert.StepSsdInRefIdeal.Facts] : Prop :=
  ∀ (m : (ℓ : Loc Cert.StepSsdInRefIdeal.nD Cert.StepSsdInRefIdeal.τ Cert.StepSsdInRefIdeal.sig) → Buf (Elt Ideal) ℓ) (g : Dev Cert.StepSsdInRefIdeal.nD → PrngReg), Pre_StepSsdInRefIdeal m →
    θ_run (Cert.StepSsdInRefIdeal.defs (F := Ideal)) (onTc (τ := Cert.StepSsdInRefIdeal.τ) (Cert.StepSsdInRefIdeal.main (F := Ideal))) ⟨m, fun _ => 0, g⟩ (fun r => (∀ c : Dev Cert.StepSsdInRefIdeal.nD,
      r.2.mem ((c.tc : Thread Cert.StepSsdInRefIdeal.nD Cert.StepSsdInRefIdeal.τ).loc Cert.StepSsdInRefIdeal.main_arg0) = m ((c.tc : Thread Cert.StepSsdInRefIdeal.nD Cert.StepSsdInRefIdeal.τ).loc Cert.StepSsdInRefIdeal.main_arg0)
      ∧ r.2.mem ((c.tc : Thread Cert.StepSsdInRefIdeal.nD Cert.StepSsdInRefIdeal.τ).loc Cert.StepSsdInRefIdeal.main_arg1) = m ((c.tc : Thread Cert.StepSsdInRefIdeal.nD Cert.StepSsdInRefIdeal.τ).loc Cert.StepSsdInRefIdeal.main_arg1)
      ∧ r.2.mem ((c.tc : Thread Cert.StepSsdInRefIdeal.nD Cert.StepSsdInRefIdeal.τ).loc Cert.StepSsdInRefIdeal.main_arg2) = m ((c.tc : Thread Cert.StepSsdInRefIdeal.nD Cert.StepSsdInRefIdeal.τ).loc Cert.StepSsdInRefIdeal.main_arg2)
      ∧ r.2.mem ((c.tc : Thread Cert.StepSsdInRefIdeal.nD Cert.StepSsdInRefIdeal.τ).loc Cert.StepSsdInRefIdeal.main_arg3) = m ((c.tc : Thread Cert.StepSsdInRefIdeal.nD Cert.StepSsdInRefIdeal.τ).loc Cert.StepSsdInRefIdeal.main_arg3))
      ∧ r.2.sem = fun _ => 0)

def quiescent_StepConvDw [hStepConvDw : Cert.StepConvDw.Facts] : Prop :=
  ∀ (m : (ℓ : Loc Cert.StepConvDw.nD Cert.StepConvDw.τ Cert.StepConvDw.sig) → Buf (Elt Bits) ℓ) (g : Dev Cert.StepConvDw.nD → PrngReg), Pre_StepConvDw m →
    θ_run (Cert.StepConvDw.defs (F := Bits)) (onTc (τ := Cert.StepConvDw.τ) (Cert.StepConvDw.main (F := Bits))) ⟨m, fun _ => 0, g⟩ (fun r => (∀ c : Dev Cert.StepConvDw.nD,
      r.2.mem ((c.tc : Thread Cert.StepConvDw.nD Cert.StepConvDw.τ).loc Cert.StepConvDw.main_arg0) = m ((c.tc : Thread Cert.StepConvDw.nD Cert.StepConvDw.τ).loc Cert.StepConvDw.main_arg0)
      ∧ r.2.mem ((c.tc : Thread Cert.StepConvDw.nD Cert.StepConvDw.τ).loc Cert.StepConvDw.main_arg1) = m ((c.tc : Thread Cert.StepConvDw.nD Cert.StepConvDw.τ).loc Cert.StepConvDw.main_arg1)
      ∧ r.2.mem ((c.tc : Thread Cert.StepConvDw.nD Cert.StepConvDw.τ).loc Cert.StepConvDw.main_arg2) = m ((c.tc : Thread Cert.StepConvDw.nD Cert.StepConvDw.τ).loc Cert.StepConvDw.main_arg2)
      ∧ r.2.mem ((c.tc : Thread Cert.StepConvDw.nD Cert.StepConvDw.τ).loc Cert.StepConvDw.main_arg3) = m ((c.tc : Thread Cert.StepConvDw.nD Cert.StepConvDw.τ).loc Cert.StepConvDw.main_arg3))
      ∧ r.2.sem = fun _ => 0)

def quiescent_StepConvDwIdeal [hStepConvDwIdeal : Cert.StepConvDwIdeal.Facts] : Prop :=
  ∀ (m : (ℓ : Loc Cert.StepConvDwIdeal.nD Cert.StepConvDwIdeal.τ Cert.StepConvDwIdeal.sig) → Buf (Elt Ideal) ℓ) (g : Dev Cert.StepConvDwIdeal.nD → PrngReg), Pre_StepConvDwIdeal m →
    θ_run (Cert.StepConvDwIdeal.defs (F := Ideal)) (onTc (τ := Cert.StepConvDwIdeal.τ) (Cert.StepConvDwIdeal.main (F := Ideal))) ⟨m, fun _ => 0, g⟩ (fun r => (∀ c : Dev Cert.StepConvDwIdeal.nD,
      r.2.mem ((c.tc : Thread Cert.StepConvDwIdeal.nD Cert.StepConvDwIdeal.τ).loc Cert.StepConvDwIdeal.main_arg0) = m ((c.tc : Thread Cert.StepConvDwIdeal.nD Cert.StepConvDwIdeal.τ).loc Cert.StepConvDwIdeal.main_arg0)
      ∧ r.2.mem ((c.tc : Thread Cert.StepConvDwIdeal.nD Cert.StepConvDwIdeal.τ).loc Cert.StepConvDwIdeal.main_arg1) = m ((c.tc : Thread Cert.StepConvDwIdeal.nD Cert.StepConvDwIdeal.τ).loc Cert.StepConvDwIdeal.main_arg1)
      ∧ r.2.mem ((c.tc : Thread Cert.StepConvDwIdeal.nD Cert.StepConvDwIdeal.τ).loc Cert.StepConvDwIdeal.main_arg2) = m ((c.tc : Thread Cert.StepConvDwIdeal.nD Cert.StepConvDwIdeal.τ).loc Cert.StepConvDwIdeal.main_arg2)
      ∧ r.2.mem ((c.tc : Thread Cert.StepConvDwIdeal.nD Cert.StepConvDwIdeal.τ).loc Cert.StepConvDwIdeal.main_arg3) = m ((c.tc : Thread Cert.StepConvDwIdeal.nD Cert.StepConvDwIdeal.τ).loc Cert.StepConvDwIdeal.main_arg3))
      ∧ r.2.sem = fun _ => 0)

def quiescent_StepConvDwRef [hStepConvDwRef : Cert.StepConvDwRef.Facts] : Prop :=
  ∀ (m : (ℓ : Loc Cert.StepConvDwRef.nD Cert.StepConvDwRef.τ Cert.StepConvDwRef.sig) → Buf (Elt Bits) ℓ) (g : Dev Cert.StepConvDwRef.nD → PrngReg), Pre_StepConvDwRef m →
    θ_run (Cert.StepConvDwRef.defs (F := Bits)) (onTc (τ := Cert.StepConvDwRef.τ) (Cert.StepConvDwRef.main (F := Bits))) ⟨m, fun _ => 0, g⟩ (fun r => (∀ c : Dev Cert.StepConvDwRef.nD,
      r.2.mem ((c.tc : Thread Cert.StepConvDwRef.nD Cert.StepConvDwRef.τ).loc Cert.StepConvDwRef.main_arg0) = m ((c.tc : Thread Cert.StepConvDwRef.nD Cert.StepConvDwRef.τ).loc Cert.StepConvDwRef.main_arg0)
      ∧ r.2.mem ((c.tc : Thread Cert.StepConvDwRef.nD Cert.StepConvDwRef.τ).loc Cert.StepConvDwRef.main_arg1) = m ((c.tc : Thread Cert.StepConvDwRef.nD Cert.StepConvDwRef.τ).loc Cert.StepConvDwRef.main_arg1)
      ∧ r.2.mem ((c.tc : Thread Cert.StepConvDwRef.nD Cert.StepConvDwRef.τ).loc Cert.StepConvDwRef.main_arg2) = m ((c.tc : Thread Cert.StepConvDwRef.nD Cert.StepConvDwRef.τ).loc Cert.StepConvDwRef.main_arg2)
      ∧ r.2.mem ((c.tc : Thread Cert.StepConvDwRef.nD Cert.StepConvDwRef.τ).loc Cert.StepConvDwRef.main_arg3) = m ((c.tc : Thread Cert.StepConvDwRef.nD Cert.StepConvDwRef.τ).loc Cert.StepConvDwRef.main_arg3))
      ∧ r.2.sem = fun _ => 0)

def quiescent_StepConvDwRefIdeal [hStepConvDwRefIdeal : Cert.StepConvDwRefIdeal.Facts] : Prop :=
  ∀ (m : (ℓ : Loc Cert.StepConvDwRefIdeal.nD Cert.StepConvDwRefIdeal.τ Cert.StepConvDwRefIdeal.sig) → Buf (Elt Ideal) ℓ) (g : Dev Cert.StepConvDwRefIdeal.nD → PrngReg), Pre_StepConvDwRefIdeal m →
    θ_run (Cert.StepConvDwRefIdeal.defs (F := Ideal)) (onTc (τ := Cert.StepConvDwRefIdeal.τ) (Cert.StepConvDwRefIdeal.main (F := Ideal))) ⟨m, fun _ => 0, g⟩ (fun r => (∀ c : Dev Cert.StepConvDwRefIdeal.nD,
      r.2.mem ((c.tc : Thread Cert.StepConvDwRefIdeal.nD Cert.StepConvDwRefIdeal.τ).loc Cert.StepConvDwRefIdeal.main_arg0) = m ((c.tc : Thread Cert.StepConvDwRefIdeal.nD Cert.StepConvDwRefIdeal.τ).loc Cert.StepConvDwRefIdeal.main_arg0)
      ∧ r.2.mem ((c.tc : Thread Cert.StepConvDwRefIdeal.nD Cert.StepConvDwRefIdeal.τ).loc Cert.StepConvDwRefIdeal.main_arg1) = m ((c.tc : Thread Cert.StepConvDwRefIdeal.nD Cert.StepConvDwRefIdeal.τ).loc Cert.StepConvDwRefIdeal.main_arg1)
      ∧ r.2.mem ((c.tc : Thread Cert.StepConvDwRefIdeal.nD Cert.StepConvDwRefIdeal.τ).loc Cert.StepConvDwRefIdeal.main_arg2) = m ((c.tc : Thread Cert.StepConvDwRefIdeal.nD Cert.StepConvDwRefIdeal.τ).loc Cert.StepConvDwRefIdeal.main_arg2)
      ∧ r.2.mem ((c.tc : Thread Cert.StepConvDwRefIdeal.nD Cert.StepConvDwRefIdeal.τ).loc Cert.StepConvDwRefIdeal.main_arg3) = m ((c.tc : Thread Cert.StepConvDwRefIdeal.nD Cert.StepConvDwRefIdeal.τ).loc Cert.StepConvDwRefIdeal.main_arg3))
      ∧ r.2.sem = fun _ => 0)

def quiescent_StepSsdConvW [hStepSsdConvW : Cert.StepSsdConvW.Facts] : Prop :=
  ∀ (m : (ℓ : Loc Cert.StepSsdConvW.nD Cert.StepSsdConvW.τ Cert.StepSsdConvW.sig) → Buf (Elt Bits) ℓ) (g : Dev Cert.StepSsdConvW.nD → PrngReg), Pre_StepSsdConvW m →
    θ_run (Cert.StepSsdConvW.defs (F := Bits)) (onTc (τ := Cert.StepSsdConvW.τ) (Cert.StepSsdConvW.main (F := Bits))) ⟨m, fun _ => 0, g⟩ (fun r => (∀ c : Dev Cert.StepSsdConvW.nD,
      r.2.mem ((c.tc : Thread Cert.StepSsdConvW.nD Cert.StepSsdConvW.τ).loc Cert.StepSsdConvW.main_arg0) = m ((c.tc : Thread Cert.StepSsdConvW.nD Cert.StepSsdConvW.τ).loc Cert.StepSsdConvW.main_arg0)
      ∧ r.2.mem ((c.tc : Thread Cert.StepSsdConvW.nD Cert.StepSsdConvW.τ).loc Cert.StepSsdConvW.main_arg1) = m ((c.tc : Thread Cert.StepSsdConvW.nD Cert.StepSsdConvW.τ).loc Cert.StepSsdConvW.main_arg1)
      ∧ r.2.mem ((c.tc : Thread Cert.StepSsdConvW.nD Cert.StepSsdConvW.τ).loc Cert.StepSsdConvW.main_arg2) = m ((c.tc : Thread Cert.StepSsdConvW.nD Cert.StepSsdConvW.τ).loc Cert.StepSsdConvW.main_arg2)
      ∧ r.2.mem ((c.tc : Thread Cert.StepSsdConvW.nD Cert.StepSsdConvW.τ).loc Cert.StepSsdConvW.main_arg3) = m ((c.tc : Thread Cert.StepSsdConvW.nD Cert.StepSsdConvW.τ).loc Cert.StepSsdConvW.main_arg3))
      ∧ r.2.sem = fun _ => 0)

def quiescent_StepSsdConvWIdeal [hStepSsdConvWIdeal : Cert.StepSsdConvWIdeal.Facts] : Prop :=
  ∀ (m : (ℓ : Loc Cert.StepSsdConvWIdeal.nD Cert.StepSsdConvWIdeal.τ Cert.StepSsdConvWIdeal.sig) → Buf (Elt Ideal) ℓ) (g : Dev Cert.StepSsdConvWIdeal.nD → PrngReg), Pre_StepSsdConvWIdeal m →
    θ_run (Cert.StepSsdConvWIdeal.defs (F := Ideal)) (onTc (τ := Cert.StepSsdConvWIdeal.τ) (Cert.StepSsdConvWIdeal.main (F := Ideal))) ⟨m, fun _ => 0, g⟩ (fun r => (∀ c : Dev Cert.StepSsdConvWIdeal.nD,
      r.2.mem ((c.tc : Thread Cert.StepSsdConvWIdeal.nD Cert.StepSsdConvWIdeal.τ).loc Cert.StepSsdConvWIdeal.main_arg0) = m ((c.tc : Thread Cert.StepSsdConvWIdeal.nD Cert.StepSsdConvWIdeal.τ).loc Cert.StepSsdConvWIdeal.main_arg0)
      ∧ r.2.mem ((c.tc : Thread Cert.StepSsdConvWIdeal.nD Cert.StepSsdConvWIdeal.τ).loc Cert.StepSsdConvWIdeal.main_arg1) = m ((c.tc : Thread Cert.StepSsdConvWIdeal.nD Cert.StepSsdConvWIdeal.τ).loc Cert.StepSsdConvWIdeal.main_arg1)
      ∧ r.2.mem ((c.tc : Thread Cert.StepSsdConvWIdeal.nD Cert.StepSsdConvWIdeal.τ).loc Cert.StepSsdConvWIdeal.main_arg2) = m ((c.tc : Thread Cert.StepSsdConvWIdeal.nD Cert.StepSsdConvWIdeal.τ).loc Cert.StepSsdConvWIdeal.main_arg2)
      ∧ r.2.mem ((c.tc : Thread Cert.StepSsdConvWIdeal.nD Cert.StepSsdConvWIdeal.τ).loc Cert.StepSsdConvWIdeal.main_arg3) = m ((c.tc : Thread Cert.StepSsdConvWIdeal.nD Cert.StepSsdConvWIdeal.τ).loc Cert.StepSsdConvWIdeal.main_arg3))
      ∧ r.2.sem = fun _ => 0)

def quiescent_StepSsdConvWRef [hStepSsdConvWRef : Cert.StepSsdConvWRef.Facts] : Prop :=
  ∀ (m : (ℓ : Loc Cert.StepSsdConvWRef.nD Cert.StepSsdConvWRef.τ Cert.StepSsdConvWRef.sig) → Buf (Elt Bits) ℓ) (g : Dev Cert.StepSsdConvWRef.nD → PrngReg), Pre_StepSsdConvWRef m →
    θ_run (Cert.StepSsdConvWRef.defs (F := Bits)) (onTc (τ := Cert.StepSsdConvWRef.τ) (Cert.StepSsdConvWRef.main (F := Bits))) ⟨m, fun _ => 0, g⟩ (fun r => (∀ c : Dev Cert.StepSsdConvWRef.nD,
      r.2.mem ((c.tc : Thread Cert.StepSsdConvWRef.nD Cert.StepSsdConvWRef.τ).loc Cert.StepSsdConvWRef.main_arg0) = m ((c.tc : Thread Cert.StepSsdConvWRef.nD Cert.StepSsdConvWRef.τ).loc Cert.StepSsdConvWRef.main_arg0)
      ∧ r.2.mem ((c.tc : Thread Cert.StepSsdConvWRef.nD Cert.StepSsdConvWRef.τ).loc Cert.StepSsdConvWRef.main_arg1) = m ((c.tc : Thread Cert.StepSsdConvWRef.nD Cert.StepSsdConvWRef.τ).loc Cert.StepSsdConvWRef.main_arg1)
      ∧ r.2.mem ((c.tc : Thread Cert.StepSsdConvWRef.nD Cert.StepSsdConvWRef.τ).loc Cert.StepSsdConvWRef.main_arg2) = m ((c.tc : Thread Cert.StepSsdConvWRef.nD Cert.StepSsdConvWRef.τ).loc Cert.StepSsdConvWRef.main_arg2)
      ∧ r.2.mem ((c.tc : Thread Cert.StepSsdConvWRef.nD Cert.StepSsdConvWRef.τ).loc Cert.StepSsdConvWRef.main_arg3) = m ((c.tc : Thread Cert.StepSsdConvWRef.nD Cert.StepSsdConvWRef.τ).loc Cert.StepSsdConvWRef.main_arg3))
      ∧ r.2.sem = fun _ => 0)

def quiescent_StepSsdConvWRefIdeal [hStepSsdConvWRefIdeal : Cert.StepSsdConvWRefIdeal.Facts] : Prop :=
  ∀ (m : (ℓ : Loc Cert.StepSsdConvWRefIdeal.nD Cert.StepSsdConvWRefIdeal.τ Cert.StepSsdConvWRefIdeal.sig) → Buf (Elt Ideal) ℓ) (g : Dev Cert.StepSsdConvWRefIdeal.nD → PrngReg), Pre_StepSsdConvWRefIdeal m →
    θ_run (Cert.StepSsdConvWRefIdeal.defs (F := Ideal)) (onTc (τ := Cert.StepSsdConvWRefIdeal.τ) (Cert.StepSsdConvWRefIdeal.main (F := Ideal))) ⟨m, fun _ => 0, g⟩ (fun r => (∀ c : Dev Cert.StepSsdConvWRefIdeal.nD,
      r.2.mem ((c.tc : Thread Cert.StepSsdConvWRefIdeal.nD Cert.StepSsdConvWRefIdeal.τ).loc Cert.StepSsdConvWRefIdeal.main_arg0) = m ((c.tc : Thread Cert.StepSsdConvWRefIdeal.nD Cert.StepSsdConvWRefIdeal.τ).loc Cert.StepSsdConvWRefIdeal.main_arg0)
      ∧ r.2.mem ((c.tc : Thread Cert.StepSsdConvWRefIdeal.nD Cert.StepSsdConvWRefIdeal.τ).loc Cert.StepSsdConvWRefIdeal.main_arg1) = m ((c.tc : Thread Cert.StepSsdConvWRefIdeal.nD Cert.StepSsdConvWRefIdeal.τ).loc Cert.StepSsdConvWRefIdeal.main_arg1)
      ∧ r.2.mem ((c.tc : Thread Cert.StepSsdConvWRefIdeal.nD Cert.StepSsdConvWRefIdeal.τ).loc Cert.StepSsdConvWRefIdeal.main_arg2) = m ((c.tc : Thread Cert.StepSsdConvWRefIdeal.nD Cert.StepSsdConvWRefIdeal.τ).loc Cert.StepSsdConvWRefIdeal.main_arg2)
      ∧ r.2.mem ((c.tc : Thread Cert.StepSsdConvWRefIdeal.nD Cert.StepSsdConvWRefIdeal.τ).loc Cert.StepSsdConvWRefIdeal.main_arg3) = m ((c.tc : Thread Cert.StepSsdConvWRefIdeal.nD Cert.StepSsdConvWRefIdeal.τ).loc Cert.StepSsdConvWRefIdeal.main_arg3))
      ∧ r.2.sem = fun _ => 0)

def quiescent_StepSsdConvB [hStepSsdConvB : Cert.StepSsdConvB.Facts] : Prop :=
  ∀ (m : (ℓ : Loc Cert.StepSsdConvB.nD Cert.StepSsdConvB.τ Cert.StepSsdConvB.sig) → Buf (Elt Bits) ℓ) (g : Dev Cert.StepSsdConvB.nD → PrngReg), Pre_StepSsdConvB m →
    θ_run (Cert.StepSsdConvB.defs (F := Bits)) (onTc (τ := Cert.StepSsdConvB.τ) (Cert.StepSsdConvB.main (F := Bits))) ⟨m, fun _ => 0, g⟩ (fun r => (∀ c : Dev Cert.StepSsdConvB.nD,
      r.2.mem ((c.tc : Thread Cert.StepSsdConvB.nD Cert.StepSsdConvB.τ).loc Cert.StepSsdConvB.main_arg0) = m ((c.tc : Thread Cert.StepSsdConvB.nD Cert.StepSsdConvB.τ).loc Cert.StepSsdConvB.main_arg0)
      ∧ r.2.mem ((c.tc : Thread Cert.StepSsdConvB.nD Cert.StepSsdConvB.τ).loc Cert.StepSsdConvB.main_arg1) = m ((c.tc : Thread Cert.StepSsdConvB.nD Cert.StepSsdConvB.τ).loc Cert.StepSsdConvB.main_arg1)
      ∧ r.2.mem ((c.tc : Thread Cert.StepSsdConvB.nD Cert.StepSsdConvB.τ).loc Cert.StepSsdConvB.main_arg2) = m ((c.tc : Thread Cert.StepSsdConvB.nD Cert.StepSsdConvB.τ).loc Cert.StepSsdConvB.main_arg2)
      ∧ r.2.mem ((c.tc : Thread Cert.StepSsdConvB.nD Cert.StepSsdConvB.τ).loc Cert.StepSsdConvB.main_arg3) = m ((c.tc : Thread Cert.StepSsdConvB.nD Cert.StepSsdConvB.τ).loc Cert.StepSsdConvB.main_arg3))
      ∧ r.2.sem = fun _ => 0)

def quiescent_StepSsdConvBIdeal [hStepSsdConvBIdeal : Cert.StepSsdConvBIdeal.Facts] : Prop :=
  ∀ (m : (ℓ : Loc Cert.StepSsdConvBIdeal.nD Cert.StepSsdConvBIdeal.τ Cert.StepSsdConvBIdeal.sig) → Buf (Elt Ideal) ℓ) (g : Dev Cert.StepSsdConvBIdeal.nD → PrngReg), Pre_StepSsdConvBIdeal m →
    θ_run (Cert.StepSsdConvBIdeal.defs (F := Ideal)) (onTc (τ := Cert.StepSsdConvBIdeal.τ) (Cert.StepSsdConvBIdeal.main (F := Ideal))) ⟨m, fun _ => 0, g⟩ (fun r => (∀ c : Dev Cert.StepSsdConvBIdeal.nD,
      r.2.mem ((c.tc : Thread Cert.StepSsdConvBIdeal.nD Cert.StepSsdConvBIdeal.τ).loc Cert.StepSsdConvBIdeal.main_arg0) = m ((c.tc : Thread Cert.StepSsdConvBIdeal.nD Cert.StepSsdConvBIdeal.τ).loc Cert.StepSsdConvBIdeal.main_arg0)
      ∧ r.2.mem ((c.tc : Thread Cert.StepSsdConvBIdeal.nD Cert.StepSsdConvBIdeal.τ).loc Cert.StepSsdConvBIdeal.main_arg1) = m ((c.tc : Thread Cert.StepSsdConvBIdeal.nD Cert.StepSsdConvBIdeal.τ).loc Cert.StepSsdConvBIdeal.main_arg1)
      ∧ r.2.mem ((c.tc : Thread Cert.StepSsdConvBIdeal.nD Cert.StepSsdConvBIdeal.τ).loc Cert.StepSsdConvBIdeal.main_arg2) = m ((c.tc : Thread Cert.StepSsdConvBIdeal.nD Cert.StepSsdConvBIdeal.τ).loc Cert.StepSsdConvBIdeal.main_arg2)
      ∧ r.2.mem ((c.tc : Thread Cert.StepSsdConvBIdeal.nD Cert.StepSsdConvBIdeal.τ).loc Cert.StepSsdConvBIdeal.main_arg3) = m ((c.tc : Thread Cert.StepSsdConvBIdeal.nD Cert.StepSsdConvBIdeal.τ).loc Cert.StepSsdConvBIdeal.main_arg3))
      ∧ r.2.sem = fun _ => 0)

def quiescent_StepSsdConvBRef [hStepSsdConvBRef : Cert.StepSsdConvBRef.Facts] : Prop :=
  ∀ (m : (ℓ : Loc Cert.StepSsdConvBRef.nD Cert.StepSsdConvBRef.τ Cert.StepSsdConvBRef.sig) → Buf (Elt Bits) ℓ) (g : Dev Cert.StepSsdConvBRef.nD → PrngReg), Pre_StepSsdConvBRef m →
    θ_run (Cert.StepSsdConvBRef.defs (F := Bits)) (onTc (τ := Cert.StepSsdConvBRef.τ) (Cert.StepSsdConvBRef.main (F := Bits))) ⟨m, fun _ => 0, g⟩ (fun r => (∀ c : Dev Cert.StepSsdConvBRef.nD,
      r.2.mem ((c.tc : Thread Cert.StepSsdConvBRef.nD Cert.StepSsdConvBRef.τ).loc Cert.StepSsdConvBRef.main_arg0) = m ((c.tc : Thread Cert.StepSsdConvBRef.nD Cert.StepSsdConvBRef.τ).loc Cert.StepSsdConvBRef.main_arg0)
      ∧ r.2.mem ((c.tc : Thread Cert.StepSsdConvBRef.nD Cert.StepSsdConvBRef.τ).loc Cert.StepSsdConvBRef.main_arg1) = m ((c.tc : Thread Cert.StepSsdConvBRef.nD Cert.StepSsdConvBRef.τ).loc Cert.StepSsdConvBRef.main_arg1)
      ∧ r.2.mem ((c.tc : Thread Cert.StepSsdConvBRef.nD Cert.StepSsdConvBRef.τ).loc Cert.StepSsdConvBRef.main_arg2) = m ((c.tc : Thread Cert.StepSsdConvBRef.nD Cert.StepSsdConvBRef.τ).loc Cert.StepSsdConvBRef.main_arg2)
      ∧ r.2.mem ((c.tc : Thread Cert.StepSsdConvBRef.nD Cert.StepSsdConvBRef.τ).loc Cert.StepSsdConvBRef.main_arg3) = m ((c.tc : Thread Cert.StepSsdConvBRef.nD Cert.StepSsdConvBRef.τ).loc Cert.StepSsdConvBRef.main_arg3))
      ∧ r.2.sem = fun _ => 0)

def quiescent_StepSsdConvBRefIdeal [hStepSsdConvBRefIdeal : Cert.StepSsdConvBRefIdeal.Facts] : Prop :=
  ∀ (m : (ℓ : Loc Cert.StepSsdConvBRefIdeal.nD Cert.StepSsdConvBRefIdeal.τ Cert.StepSsdConvBRefIdeal.sig) → Buf (Elt Ideal) ℓ) (g : Dev Cert.StepSsdConvBRefIdeal.nD → PrngReg), Pre_StepSsdConvBRefIdeal m →
    θ_run (Cert.StepSsdConvBRefIdeal.defs (F := Ideal)) (onTc (τ := Cert.StepSsdConvBRefIdeal.τ) (Cert.StepSsdConvBRefIdeal.main (F := Ideal))) ⟨m, fun _ => 0, g⟩ (fun r => (∀ c : Dev Cert.StepSsdConvBRefIdeal.nD,
      r.2.mem ((c.tc : Thread Cert.StepSsdConvBRefIdeal.nD Cert.StepSsdConvBRefIdeal.τ).loc Cert.StepSsdConvBRefIdeal.main_arg0) = m ((c.tc : Thread Cert.StepSsdConvBRefIdeal.nD Cert.StepSsdConvBRefIdeal.τ).loc Cert.StepSsdConvBRefIdeal.main_arg0)
      ∧ r.2.mem ((c.tc : Thread Cert.StepSsdConvBRefIdeal.nD Cert.StepSsdConvBRefIdeal.τ).loc Cert.StepSsdConvBRefIdeal.main_arg1) = m ((c.tc : Thread Cert.StepSsdConvBRefIdeal.nD Cert.StepSsdConvBRefIdeal.τ).loc Cert.StepSsdConvBRefIdeal.main_arg1)
      ∧ r.2.mem ((c.tc : Thread Cert.StepSsdConvBRefIdeal.nD Cert.StepSsdConvBRefIdeal.τ).loc Cert.StepSsdConvBRefIdeal.main_arg2) = m ((c.tc : Thread Cert.StepSsdConvBRefIdeal.nD Cert.StepSsdConvBRefIdeal.τ).loc Cert.StepSsdConvBRefIdeal.main_arg2)
      ∧ r.2.mem ((c.tc : Thread Cert.StepSsdConvBRefIdeal.nD Cert.StepSsdConvBRefIdeal.τ).loc Cert.StepSsdConvBRefIdeal.main_arg3) = m ((c.tc : Thread Cert.StepSsdConvBRefIdeal.nD Cert.StepSsdConvBRefIdeal.τ).loc Cert.StepSsdConvBRefIdeal.main_arg3))
      ∧ r.2.sem = fun _ => 0)

def quiescent_StepSsdNorm [hStepSsdNorm : Cert.StepSsdNorm.Facts] : Prop :=
  ∀ (m : (ℓ : Loc Cert.StepSsdNorm.nD Cert.StepSsdNorm.τ Cert.StepSsdNorm.sig) → Buf (Elt Bits) ℓ) (g : Dev Cert.StepSsdNorm.nD → PrngReg), Pre_StepSsdNorm m →
    θ_run (Cert.StepSsdNorm.defs (F := Bits)) (onTc (τ := Cert.StepSsdNorm.τ) (Cert.StepSsdNorm.main (F := Bits))) ⟨m, fun _ => 0, g⟩ (fun r => (∀ c : Dev Cert.StepSsdNorm.nD,
      r.2.mem ((c.tc : Thread Cert.StepSsdNorm.nD Cert.StepSsdNorm.τ).loc Cert.StepSsdNorm.main_arg0) = m ((c.tc : Thread Cert.StepSsdNorm.nD Cert.StepSsdNorm.τ).loc Cert.StepSsdNorm.main_arg0)
      ∧ r.2.mem ((c.tc : Thread Cert.StepSsdNorm.nD Cert.StepSsdNorm.τ).loc Cert.StepSsdNorm.main_arg1) = m ((c.tc : Thread Cert.StepSsdNorm.nD Cert.StepSsdNorm.τ).loc Cert.StepSsdNorm.main_arg1)
      ∧ r.2.mem ((c.tc : Thread Cert.StepSsdNorm.nD Cert.StepSsdNorm.τ).loc Cert.StepSsdNorm.main_arg2) = m ((c.tc : Thread Cert.StepSsdNorm.nD Cert.StepSsdNorm.τ).loc Cert.StepSsdNorm.main_arg2)
      ∧ r.2.mem ((c.tc : Thread Cert.StepSsdNorm.nD Cert.StepSsdNorm.τ).loc Cert.StepSsdNorm.main_arg3) = m ((c.tc : Thread Cert.StepSsdNorm.nD Cert.StepSsdNorm.τ).loc Cert.StepSsdNorm.main_arg3))
      ∧ r.2.sem = fun _ => 0)

def quiescent_StepSsdNormIdeal [hStepSsdNormIdeal : Cert.StepSsdNormIdeal.Facts] : Prop :=
  ∀ (m : (ℓ : Loc Cert.StepSsdNormIdeal.nD Cert.StepSsdNormIdeal.τ Cert.StepSsdNormIdeal.sig) → Buf (Elt Ideal) ℓ) (g : Dev Cert.StepSsdNormIdeal.nD → PrngReg), Pre_StepSsdNormIdeal m →
    θ_run (Cert.StepSsdNormIdeal.defs (F := Ideal)) (onTc (τ := Cert.StepSsdNormIdeal.τ) (Cert.StepSsdNormIdeal.main (F := Ideal))) ⟨m, fun _ => 0, g⟩ (fun r => (∀ c : Dev Cert.StepSsdNormIdeal.nD,
      r.2.mem ((c.tc : Thread Cert.StepSsdNormIdeal.nD Cert.StepSsdNormIdeal.τ).loc Cert.StepSsdNormIdeal.main_arg0) = m ((c.tc : Thread Cert.StepSsdNormIdeal.nD Cert.StepSsdNormIdeal.τ).loc Cert.StepSsdNormIdeal.main_arg0)
      ∧ r.2.mem ((c.tc : Thread Cert.StepSsdNormIdeal.nD Cert.StepSsdNormIdeal.τ).loc Cert.StepSsdNormIdeal.main_arg1) = m ((c.tc : Thread Cert.StepSsdNormIdeal.nD Cert.StepSsdNormIdeal.τ).loc Cert.StepSsdNormIdeal.main_arg1)
      ∧ r.2.mem ((c.tc : Thread Cert.StepSsdNormIdeal.nD Cert.StepSsdNormIdeal.τ).loc Cert.StepSsdNormIdeal.main_arg2) = m ((c.tc : Thread Cert.StepSsdNormIdeal.nD Cert.StepSsdNormIdeal.τ).loc Cert.StepSsdNormIdeal.main_arg2)
      ∧ r.2.mem ((c.tc : Thread Cert.StepSsdNormIdeal.nD Cert.StepSsdNormIdeal.τ).loc Cert.StepSsdNormIdeal.main_arg3) = m ((c.tc : Thread Cert.StepSsdNormIdeal.nD Cert.StepSsdNormIdeal.τ).loc Cert.StepSsdNormIdeal.main_arg3))
      ∧ r.2.sem = fun _ => 0)

def quiescent_StepSsdNormRef [hStepSsdNormRef : Cert.StepSsdNormRef.Facts] : Prop :=
  ∀ (m : (ℓ : Loc Cert.StepSsdNormRef.nD Cert.StepSsdNormRef.τ Cert.StepSsdNormRef.sig) → Buf (Elt Bits) ℓ) (g : Dev Cert.StepSsdNormRef.nD → PrngReg), Pre_StepSsdNormRef m →
    θ_run (Cert.StepSsdNormRef.defs (F := Bits)) (onTc (τ := Cert.StepSsdNormRef.τ) (Cert.StepSsdNormRef.main (F := Bits))) ⟨m, fun _ => 0, g⟩ (fun r => (∀ c : Dev Cert.StepSsdNormRef.nD,
      r.2.mem ((c.tc : Thread Cert.StepSsdNormRef.nD Cert.StepSsdNormRef.τ).loc Cert.StepSsdNormRef.main_arg0) = m ((c.tc : Thread Cert.StepSsdNormRef.nD Cert.StepSsdNormRef.τ).loc Cert.StepSsdNormRef.main_arg0)
      ∧ r.2.mem ((c.tc : Thread Cert.StepSsdNormRef.nD Cert.StepSsdNormRef.τ).loc Cert.StepSsdNormRef.main_arg1) = m ((c.tc : Thread Cert.StepSsdNormRef.nD Cert.StepSsdNormRef.τ).loc Cert.StepSsdNormRef.main_arg1)
      ∧ r.2.mem ((c.tc : Thread Cert.StepSsdNormRef.nD Cert.StepSsdNormRef.τ).loc Cert.StepSsdNormRef.main_arg2) = m ((c.tc : Thread Cert.StepSsdNormRef.nD Cert.StepSsdNormRef.τ).loc Cert.StepSsdNormRef.main_arg2)
      ∧ r.2.mem ((c.tc : Thread Cert.StepSsdNormRef.nD Cert.StepSsdNormRef.τ).loc Cert.StepSsdNormRef.main_arg3) = m ((c.tc : Thread Cert.StepSsdNormRef.nD Cert.StepSsdNormRef.τ).loc Cert.StepSsdNormRef.main_arg3))
      ∧ r.2.sem = fun _ => 0)

def quiescent_StepSsdNormRefIdeal [hStepSsdNormRefIdeal : Cert.StepSsdNormRefIdeal.Facts] : Prop :=
  ∀ (m : (ℓ : Loc Cert.StepSsdNormRefIdeal.nD Cert.StepSsdNormRefIdeal.τ Cert.StepSsdNormRefIdeal.sig) → Buf (Elt Ideal) ℓ) (g : Dev Cert.StepSsdNormRefIdeal.nD → PrngReg), Pre_StepSsdNormRefIdeal m →
    θ_run (Cert.StepSsdNormRefIdeal.defs (F := Ideal)) (onTc (τ := Cert.StepSsdNormRefIdeal.τ) (Cert.StepSsdNormRefIdeal.main (F := Ideal))) ⟨m, fun _ => 0, g⟩ (fun r => (∀ c : Dev Cert.StepSsdNormRefIdeal.nD,
      r.2.mem ((c.tc : Thread Cert.StepSsdNormRefIdeal.nD Cert.StepSsdNormRefIdeal.τ).loc Cert.StepSsdNormRefIdeal.main_arg0) = m ((c.tc : Thread Cert.StepSsdNormRefIdeal.nD Cert.StepSsdNormRefIdeal.τ).loc Cert.StepSsdNormRefIdeal.main_arg0)
      ∧ r.2.mem ((c.tc : Thread Cert.StepSsdNormRefIdeal.nD Cert.StepSsdNormRefIdeal.τ).loc Cert.StepSsdNormRefIdeal.main_arg1) = m ((c.tc : Thread Cert.StepSsdNormRefIdeal.nD Cert.StepSsdNormRefIdeal.τ).loc Cert.StepSsdNormRefIdeal.main_arg1)
      ∧ r.2.mem ((c.tc : Thread Cert.StepSsdNormRefIdeal.nD Cert.StepSsdNormRefIdeal.τ).loc Cert.StepSsdNormRefIdeal.main_arg2) = m ((c.tc : Thread Cert.StepSsdNormRefIdeal.nD Cert.StepSsdNormRefIdeal.τ).loc Cert.StepSsdNormRefIdeal.main_arg2)
      ∧ r.2.mem ((c.tc : Thread Cert.StepSsdNormRefIdeal.nD Cert.StepSsdNormRefIdeal.τ).loc Cert.StepSsdNormRefIdeal.main_arg3) = m ((c.tc : Thread Cert.StepSsdNormRefIdeal.nD Cert.StepSsdNormRefIdeal.τ).loc Cert.StepSsdNormRefIdeal.main_arg3))
      ∧ r.2.sem = fun _ => 0)

def quiescent_StepMixNorm [hStepMixNorm : Cert.StepMixNorm.Facts] : Prop :=
  ∀ (m : (ℓ : Loc Cert.StepMixNorm.nD Cert.StepMixNorm.τ Cert.StepMixNorm.sig) → Buf (Elt Bits) ℓ) (g : Dev Cert.StepMixNorm.nD → PrngReg), Pre_StepMixNorm m →
    θ_run (Cert.StepMixNorm.defs (F := Bits)) (onTc (τ := Cert.StepMixNorm.τ) (Cert.StepMixNorm.main (F := Bits))) ⟨m, fun _ => 0, g⟩ (fun r => (∀ c : Dev Cert.StepMixNorm.nD,
      r.2.mem ((c.tc : Thread Cert.StepMixNorm.nD Cert.StepMixNorm.τ).loc Cert.StepMixNorm.main_arg0) = m ((c.tc : Thread Cert.StepMixNorm.nD Cert.StepMixNorm.τ).loc Cert.StepMixNorm.main_arg0)
      ∧ r.2.mem ((c.tc : Thread Cert.StepMixNorm.nD Cert.StepMixNorm.τ).loc Cert.StepMixNorm.main_arg1) = m ((c.tc : Thread Cert.StepMixNorm.nD Cert.StepMixNorm.τ).loc Cert.StepMixNorm.main_arg1)
      ∧ r.2.mem ((c.tc : Thread Cert.StepMixNorm.nD Cert.StepMixNorm.τ).loc Cert.StepMixNorm.main_arg2) = m ((c.tc : Thread Cert.StepMixNorm.nD Cert.StepMixNorm.τ).loc Cert.StepMixNorm.main_arg2)
      ∧ r.2.mem ((c.tc : Thread Cert.StepMixNorm.nD Cert.StepMixNorm.τ).loc Cert.StepMixNorm.main_arg3) = m ((c.tc : Thread Cert.StepMixNorm.nD Cert.StepMixNorm.τ).loc Cert.StepMixNorm.main_arg3))
      ∧ r.2.sem = fun _ => 0)

def quiescent_StepMixNormIdeal [hStepMixNormIdeal : Cert.StepMixNormIdeal.Facts] : Prop :=
  ∀ (m : (ℓ : Loc Cert.StepMixNormIdeal.nD Cert.StepMixNormIdeal.τ Cert.StepMixNormIdeal.sig) → Buf (Elt Ideal) ℓ) (g : Dev Cert.StepMixNormIdeal.nD → PrngReg), Pre_StepMixNormIdeal m →
    θ_run (Cert.StepMixNormIdeal.defs (F := Ideal)) (onTc (τ := Cert.StepMixNormIdeal.τ) (Cert.StepMixNormIdeal.main (F := Ideal))) ⟨m, fun _ => 0, g⟩ (fun r => (∀ c : Dev Cert.StepMixNormIdeal.nD,
      r.2.mem ((c.tc : Thread Cert.StepMixNormIdeal.nD Cert.StepMixNormIdeal.τ).loc Cert.StepMixNormIdeal.main_arg0) = m ((c.tc : Thread Cert.StepMixNormIdeal.nD Cert.StepMixNormIdeal.τ).loc Cert.StepMixNormIdeal.main_arg0)
      ∧ r.2.mem ((c.tc : Thread Cert.StepMixNormIdeal.nD Cert.StepMixNormIdeal.τ).loc Cert.StepMixNormIdeal.main_arg1) = m ((c.tc : Thread Cert.StepMixNormIdeal.nD Cert.StepMixNormIdeal.τ).loc Cert.StepMixNormIdeal.main_arg1)
      ∧ r.2.mem ((c.tc : Thread Cert.StepMixNormIdeal.nD Cert.StepMixNormIdeal.τ).loc Cert.StepMixNormIdeal.main_arg2) = m ((c.tc : Thread Cert.StepMixNormIdeal.nD Cert.StepMixNormIdeal.τ).loc Cert.StepMixNormIdeal.main_arg2)
      ∧ r.2.mem ((c.tc : Thread Cert.StepMixNormIdeal.nD Cert.StepMixNormIdeal.τ).loc Cert.StepMixNormIdeal.main_arg3) = m ((c.tc : Thread Cert.StepMixNormIdeal.nD Cert.StepMixNormIdeal.τ).loc Cert.StepMixNormIdeal.main_arg3))
      ∧ r.2.sem = fun _ => 0)

def quiescent_StepMixNormRef [hStepMixNormRef : Cert.StepMixNormRef.Facts] : Prop :=
  ∀ (m : (ℓ : Loc Cert.StepMixNormRef.nD Cert.StepMixNormRef.τ Cert.StepMixNormRef.sig) → Buf (Elt Bits) ℓ) (g : Dev Cert.StepMixNormRef.nD → PrngReg), Pre_StepMixNormRef m →
    θ_run (Cert.StepMixNormRef.defs (F := Bits)) (onTc (τ := Cert.StepMixNormRef.τ) (Cert.StepMixNormRef.main (F := Bits))) ⟨m, fun _ => 0, g⟩ (fun r => (∀ c : Dev Cert.StepMixNormRef.nD,
      r.2.mem ((c.tc : Thread Cert.StepMixNormRef.nD Cert.StepMixNormRef.τ).loc Cert.StepMixNormRef.main_arg0) = m ((c.tc : Thread Cert.StepMixNormRef.nD Cert.StepMixNormRef.τ).loc Cert.StepMixNormRef.main_arg0)
      ∧ r.2.mem ((c.tc : Thread Cert.StepMixNormRef.nD Cert.StepMixNormRef.τ).loc Cert.StepMixNormRef.main_arg1) = m ((c.tc : Thread Cert.StepMixNormRef.nD Cert.StepMixNormRef.τ).loc Cert.StepMixNormRef.main_arg1)
      ∧ r.2.mem ((c.tc : Thread Cert.StepMixNormRef.nD Cert.StepMixNormRef.τ).loc Cert.StepMixNormRef.main_arg2) = m ((c.tc : Thread Cert.StepMixNormRef.nD Cert.StepMixNormRef.τ).loc Cert.StepMixNormRef.main_arg2)
      ∧ r.2.mem ((c.tc : Thread Cert.StepMixNormRef.nD Cert.StepMixNormRef.τ).loc Cert.StepMixNormRef.main_arg3) = m ((c.tc : Thread Cert.StepMixNormRef.nD Cert.StepMixNormRef.τ).loc Cert.StepMixNormRef.main_arg3))
      ∧ r.2.sem = fun _ => 0)

def quiescent_StepMixNormRefIdeal [hStepMixNormRefIdeal : Cert.StepMixNormRefIdeal.Facts] : Prop :=
  ∀ (m : (ℓ : Loc Cert.StepMixNormRefIdeal.nD Cert.StepMixNormRefIdeal.τ Cert.StepMixNormRefIdeal.sig) → Buf (Elt Ideal) ℓ) (g : Dev Cert.StepMixNormRefIdeal.nD → PrngReg), Pre_StepMixNormRefIdeal m →
    θ_run (Cert.StepMixNormRefIdeal.defs (F := Ideal)) (onTc (τ := Cert.StepMixNormRefIdeal.τ) (Cert.StepMixNormRefIdeal.main (F := Ideal))) ⟨m, fun _ => 0, g⟩ (fun r => (∀ c : Dev Cert.StepMixNormRefIdeal.nD,
      r.2.mem ((c.tc : Thread Cert.StepMixNormRefIdeal.nD Cert.StepMixNormRefIdeal.τ).loc Cert.StepMixNormRefIdeal.main_arg0) = m ((c.tc : Thread Cert.StepMixNormRefIdeal.nD Cert.StepMixNormRefIdeal.τ).loc Cert.StepMixNormRefIdeal.main_arg0)
      ∧ r.2.mem ((c.tc : Thread Cert.StepMixNormRefIdeal.nD Cert.StepMixNormRefIdeal.τ).loc Cert.StepMixNormRefIdeal.main_arg1) = m ((c.tc : Thread Cert.StepMixNormRefIdeal.nD Cert.StepMixNormRefIdeal.τ).loc Cert.StepMixNormRefIdeal.main_arg1)
      ∧ r.2.mem ((c.tc : Thread Cert.StepMixNormRefIdeal.nD Cert.StepMixNormRefIdeal.τ).loc Cert.StepMixNormRefIdeal.main_arg2) = m ((c.tc : Thread Cert.StepMixNormRefIdeal.nD Cert.StepMixNormRefIdeal.τ).loc Cert.StepMixNormRefIdeal.main_arg2)
      ∧ r.2.mem ((c.tc : Thread Cert.StepMixNormRefIdeal.nD Cert.StepMixNormRefIdeal.τ).loc Cert.StepMixNormRefIdeal.main_arg3) = m ((c.tc : Thread Cert.StepMixNormRefIdeal.nD Cert.StepMixNormRefIdeal.τ).loc Cert.StepMixNormRefIdeal.main_arg3))
      ∧ r.2.sem = fun _ => 0)

def quiescent_StepFoxBf [hStepFoxBf : Cert.StepFoxBf.Facts] : Prop :=
  ∀ (m : (ℓ : Loc Cert.StepFoxBf.nD Cert.StepFoxBf.τ Cert.StepFoxBf.sig) → Buf (Elt Bits) ℓ) (g : Dev Cert.StepFoxBf.nD → PrngReg), Pre_StepFoxBf m →
    θ_run (Cert.StepFoxBf.defs (F := Bits)) (onTc (τ := Cert.StepFoxBf.τ) (Cert.StepFoxBf.main (F := Bits))) ⟨m, fun _ => 0, g⟩ (fun r => (∀ c : Dev Cert.StepFoxBf.nD,
      r.2.mem ((c.tc : Thread Cert.StepFoxBf.nD Cert.StepFoxBf.τ).loc Cert.StepFoxBf.main_arg0) = m ((c.tc : Thread Cert.StepFoxBf.nD Cert.StepFoxBf.τ).loc Cert.StepFoxBf.main_arg0)
      ∧ r.2.mem ((c.tc : Thread Cert.StepFoxBf.nD Cert.StepFoxBf.τ).loc Cert.StepFoxBf.main_arg1) = m ((c.tc : Thread Cert.StepFoxBf.nD Cert.StepFoxBf.τ).loc Cert.StepFoxBf.main_arg1)
      ∧ r.2.mem ((c.tc : Thread Cert.StepFoxBf.nD Cert.StepFoxBf.τ).loc Cert.StepFoxBf.main_arg2) = m ((c.tc : Thread Cert.StepFoxBf.nD Cert.StepFoxBf.τ).loc Cert.StepFoxBf.main_arg2)
      ∧ r.2.mem ((c.tc : Thread Cert.StepFoxBf.nD Cert.StepFoxBf.τ).loc Cert.StepFoxBf.main_arg3) = m ((c.tc : Thread Cert.StepFoxBf.nD Cert.StepFoxBf.τ).loc Cert.StepFoxBf.main_arg3))
      ∧ r.2.sem = fun _ => 0)

def quiescent_StepFoxBfIdeal [hStepFoxBfIdeal : Cert.StepFoxBfIdeal.Facts] : Prop :=
  ∀ (m : (ℓ : Loc Cert.StepFoxBfIdeal.nD Cert.StepFoxBfIdeal.τ Cert.StepFoxBfIdeal.sig) → Buf (Elt Ideal) ℓ) (g : Dev Cert.StepFoxBfIdeal.nD → PrngReg), Pre_StepFoxBfIdeal m →
    θ_run (Cert.StepFoxBfIdeal.defs (F := Ideal)) (onTc (τ := Cert.StepFoxBfIdeal.τ) (Cert.StepFoxBfIdeal.main (F := Ideal))) ⟨m, fun _ => 0, g⟩ (fun r => (∀ c : Dev Cert.StepFoxBfIdeal.nD,
      r.2.mem ((c.tc : Thread Cert.StepFoxBfIdeal.nD Cert.StepFoxBfIdeal.τ).loc Cert.StepFoxBfIdeal.main_arg0) = m ((c.tc : Thread Cert.StepFoxBfIdeal.nD Cert.StepFoxBfIdeal.τ).loc Cert.StepFoxBfIdeal.main_arg0)
      ∧ r.2.mem ((c.tc : Thread Cert.StepFoxBfIdeal.nD Cert.StepFoxBfIdeal.τ).loc Cert.StepFoxBfIdeal.main_arg1) = m ((c.tc : Thread Cert.StepFoxBfIdeal.nD Cert.StepFoxBfIdeal.τ).loc Cert.StepFoxBfIdeal.main_arg1)
      ∧ r.2.mem ((c.tc : Thread Cert.StepFoxBfIdeal.nD Cert.StepFoxBfIdeal.τ).loc Cert.StepFoxBfIdeal.main_arg2) = m ((c.tc : Thread Cert.StepFoxBfIdeal.nD Cert.StepFoxBfIdeal.τ).loc Cert.StepFoxBfIdeal.main_arg2)
      ∧ r.2.mem ((c.tc : Thread Cert.StepFoxBfIdeal.nD Cert.StepFoxBfIdeal.τ).loc Cert.StepFoxBfIdeal.main_arg3) = m ((c.tc : Thread Cert.StepFoxBfIdeal.nD Cert.StepFoxBfIdeal.τ).loc Cert.StepFoxBfIdeal.main_arg3))
      ∧ r.2.sem = fun _ => 0)

def quiescent_StepFoxBfRef [hStepFoxBfRef : Cert.StepFoxBfRef.Facts] : Prop :=
  ∀ (m : (ℓ : Loc Cert.StepFoxBfRef.nD Cert.StepFoxBfRef.τ Cert.StepFoxBfRef.sig) → Buf (Elt Bits) ℓ) (g : Dev Cert.StepFoxBfRef.nD → PrngReg), Pre_StepFoxBfRef m →
    θ_run (Cert.StepFoxBfRef.defs (F := Bits)) (onTc (τ := Cert.StepFoxBfRef.τ) (Cert.StepFoxBfRef.main (F := Bits))) ⟨m, fun _ => 0, g⟩ (fun r => (∀ c : Dev Cert.StepFoxBfRef.nD,
      r.2.mem ((c.tc : Thread Cert.StepFoxBfRef.nD Cert.StepFoxBfRef.τ).loc Cert.StepFoxBfRef.main_arg0) = m ((c.tc : Thread Cert.StepFoxBfRef.nD Cert.StepFoxBfRef.τ).loc Cert.StepFoxBfRef.main_arg0)
      ∧ r.2.mem ((c.tc : Thread Cert.StepFoxBfRef.nD Cert.StepFoxBfRef.τ).loc Cert.StepFoxBfRef.main_arg1) = m ((c.tc : Thread Cert.StepFoxBfRef.nD Cert.StepFoxBfRef.τ).loc Cert.StepFoxBfRef.main_arg1)
      ∧ r.2.mem ((c.tc : Thread Cert.StepFoxBfRef.nD Cert.StepFoxBfRef.τ).loc Cert.StepFoxBfRef.main_arg2) = m ((c.tc : Thread Cert.StepFoxBfRef.nD Cert.StepFoxBfRef.τ).loc Cert.StepFoxBfRef.main_arg2)
      ∧ r.2.mem ((c.tc : Thread Cert.StepFoxBfRef.nD Cert.StepFoxBfRef.τ).loc Cert.StepFoxBfRef.main_arg3) = m ((c.tc : Thread Cert.StepFoxBfRef.nD Cert.StepFoxBfRef.τ).loc Cert.StepFoxBfRef.main_arg3))
      ∧ r.2.sem = fun _ => 0)

def quiescent_StepFoxBfRefIdeal [hStepFoxBfRefIdeal : Cert.StepFoxBfRefIdeal.Facts] : Prop :=
  ∀ (m : (ℓ : Loc Cert.StepFoxBfRefIdeal.nD Cert.StepFoxBfRefIdeal.τ Cert.StepFoxBfRefIdeal.sig) → Buf (Elt Ideal) ℓ) (g : Dev Cert.StepFoxBfRefIdeal.nD → PrngReg), Pre_StepFoxBfRefIdeal m →
    θ_run (Cert.StepFoxBfRefIdeal.defs (F := Ideal)) (onTc (τ := Cert.StepFoxBfRefIdeal.τ) (Cert.StepFoxBfRefIdeal.main (F := Ideal))) ⟨m, fun _ => 0, g⟩ (fun r => (∀ c : Dev Cert.StepFoxBfRefIdeal.nD,
      r.2.mem ((c.tc : Thread Cert.StepFoxBfRefIdeal.nD Cert.StepFoxBfRefIdeal.τ).loc Cert.StepFoxBfRefIdeal.main_arg0) = m ((c.tc : Thread Cert.StepFoxBfRefIdeal.nD Cert.StepFoxBfRefIdeal.τ).loc Cert.StepFoxBfRefIdeal.main_arg0)
      ∧ r.2.mem ((c.tc : Thread Cert.StepFoxBfRefIdeal.nD Cert.StepFoxBfRefIdeal.τ).loc Cert.StepFoxBfRefIdeal.main_arg1) = m ((c.tc : Thread Cert.StepFoxBfRefIdeal.nD Cert.StepFoxBfRefIdeal.τ).loc Cert.StepFoxBfRefIdeal.main_arg1)
      ∧ r.2.mem ((c.tc : Thread Cert.StepFoxBfRefIdeal.nD Cert.StepFoxBfRefIdeal.τ).loc Cert.StepFoxBfRefIdeal.main_arg2) = m ((c.tc : Thread Cert.StepFoxBfRefIdeal.nD Cert.StepFoxBfRefIdeal.τ).loc Cert.StepFoxBfRefIdeal.main_arg2)
      ∧ r.2.mem ((c.tc : Thread Cert.StepFoxBfRefIdeal.nD Cert.StepFoxBfRefIdeal.τ).loc Cert.StepFoxBfRefIdeal.main_arg3) = m ((c.tc : Thread Cert.StepFoxBfRefIdeal.nD Cert.StepFoxBfRefIdeal.τ).loc Cert.StepFoxBfRefIdeal.main_arg3))
      ∧ r.2.sem = fun _ => 0)

def quiescent_StepFoxQ [hStepFoxQ : Cert.StepFoxQ.Facts] : Prop :=
  ∀ (m : (ℓ : Loc Cert.StepFoxQ.nD Cert.StepFoxQ.τ Cert.StepFoxQ.sig) → Buf (Elt Bits) ℓ) (g : Dev Cert.StepFoxQ.nD → PrngReg), Pre_StepFoxQ m →
    θ_run (Cert.StepFoxQ.defs (F := Bits)) (onTc (τ := Cert.StepFoxQ.τ) (Cert.StepFoxQ.main (F := Bits))) ⟨m, fun _ => 0, g⟩ (fun r => (∀ c : Dev Cert.StepFoxQ.nD,
      r.2.mem ((c.tc : Thread Cert.StepFoxQ.nD Cert.StepFoxQ.τ).loc Cert.StepFoxQ.main_arg0) = m ((c.tc : Thread Cert.StepFoxQ.nD Cert.StepFoxQ.τ).loc Cert.StepFoxQ.main_arg0)
      ∧ r.2.mem ((c.tc : Thread Cert.StepFoxQ.nD Cert.StepFoxQ.τ).loc Cert.StepFoxQ.main_arg1) = m ((c.tc : Thread Cert.StepFoxQ.nD Cert.StepFoxQ.τ).loc Cert.StepFoxQ.main_arg1)
      ∧ r.2.mem ((c.tc : Thread Cert.StepFoxQ.nD Cert.StepFoxQ.τ).loc Cert.StepFoxQ.main_arg2) = m ((c.tc : Thread Cert.StepFoxQ.nD Cert.StepFoxQ.τ).loc Cert.StepFoxQ.main_arg2)
      ∧ r.2.mem ((c.tc : Thread Cert.StepFoxQ.nD Cert.StepFoxQ.τ).loc Cert.StepFoxQ.main_arg3) = m ((c.tc : Thread Cert.StepFoxQ.nD Cert.StepFoxQ.τ).loc Cert.StepFoxQ.main_arg3))
      ∧ r.2.sem = fun _ => 0)

def quiescent_StepFoxQIdeal [hStepFoxQIdeal : Cert.StepFoxQIdeal.Facts] : Prop :=
  ∀ (m : (ℓ : Loc Cert.StepFoxQIdeal.nD Cert.StepFoxQIdeal.τ Cert.StepFoxQIdeal.sig) → Buf (Elt Ideal) ℓ) (g : Dev Cert.StepFoxQIdeal.nD → PrngReg), Pre_StepFoxQIdeal m →
    θ_run (Cert.StepFoxQIdeal.defs (F := Ideal)) (onTc (τ := Cert.StepFoxQIdeal.τ) (Cert.StepFoxQIdeal.main (F := Ideal))) ⟨m, fun _ => 0, g⟩ (fun r => (∀ c : Dev Cert.StepFoxQIdeal.nD,
      r.2.mem ((c.tc : Thread Cert.StepFoxQIdeal.nD Cert.StepFoxQIdeal.τ).loc Cert.StepFoxQIdeal.main_arg0) = m ((c.tc : Thread Cert.StepFoxQIdeal.nD Cert.StepFoxQIdeal.τ).loc Cert.StepFoxQIdeal.main_arg0)
      ∧ r.2.mem ((c.tc : Thread Cert.StepFoxQIdeal.nD Cert.StepFoxQIdeal.τ).loc Cert.StepFoxQIdeal.main_arg1) = m ((c.tc : Thread Cert.StepFoxQIdeal.nD Cert.StepFoxQIdeal.τ).loc Cert.StepFoxQIdeal.main_arg1)
      ∧ r.2.mem ((c.tc : Thread Cert.StepFoxQIdeal.nD Cert.StepFoxQIdeal.τ).loc Cert.StepFoxQIdeal.main_arg2) = m ((c.tc : Thread Cert.StepFoxQIdeal.nD Cert.StepFoxQIdeal.τ).loc Cert.StepFoxQIdeal.main_arg2)
      ∧ r.2.mem ((c.tc : Thread Cert.StepFoxQIdeal.nD Cert.StepFoxQIdeal.τ).loc Cert.StepFoxQIdeal.main_arg3) = m ((c.tc : Thread Cert.StepFoxQIdeal.nD Cert.StepFoxQIdeal.τ).loc Cert.StepFoxQIdeal.main_arg3))
      ∧ r.2.sem = fun _ => 0)

def quiescent_StepFoxQRef [hStepFoxQRef : Cert.StepFoxQRef.Facts] : Prop :=
  ∀ (m : (ℓ : Loc Cert.StepFoxQRef.nD Cert.StepFoxQRef.τ Cert.StepFoxQRef.sig) → Buf (Elt Bits) ℓ) (g : Dev Cert.StepFoxQRef.nD → PrngReg), Pre_StepFoxQRef m →
    θ_run (Cert.StepFoxQRef.defs (F := Bits)) (onTc (τ := Cert.StepFoxQRef.τ) (Cert.StepFoxQRef.main (F := Bits))) ⟨m, fun _ => 0, g⟩ (fun r => (∀ c : Dev Cert.StepFoxQRef.nD,
      r.2.mem ((c.tc : Thread Cert.StepFoxQRef.nD Cert.StepFoxQRef.τ).loc Cert.StepFoxQRef.main_arg0) = m ((c.tc : Thread Cert.StepFoxQRef.nD Cert.StepFoxQRef.τ).loc Cert.StepFoxQRef.main_arg0)
      ∧ r.2.mem ((c.tc : Thread Cert.StepFoxQRef.nD Cert.StepFoxQRef.τ).loc Cert.StepFoxQRef.main_arg1) = m ((c.tc : Thread Cert.StepFoxQRef.nD Cert.StepFoxQRef.τ).loc Cert.StepFoxQRef.main_arg1)
      ∧ r.2.mem ((c.tc : Thread Cert.StepFoxQRef.nD Cert.StepFoxQRef.τ).loc Cert.StepFoxQRef.main_arg2) = m ((c.tc : Thread Cert.StepFoxQRef.nD Cert.StepFoxQRef.τ).loc Cert.StepFoxQRef.main_arg2)
      ∧ r.2.mem ((c.tc : Thread Cert.StepFoxQRef.nD Cert.StepFoxQRef.τ).loc Cert.StepFoxQRef.main_arg3) = m ((c.tc : Thread Cert.StepFoxQRef.nD Cert.StepFoxQRef.τ).loc Cert.StepFoxQRef.main_arg3))
      ∧ r.2.sem = fun _ => 0)

def quiescent_StepFoxQRefIdeal [hStepFoxQRefIdeal : Cert.StepFoxQRefIdeal.Facts] : Prop :=
  ∀ (m : (ℓ : Loc Cert.StepFoxQRefIdeal.nD Cert.StepFoxQRefIdeal.τ Cert.StepFoxQRefIdeal.sig) → Buf (Elt Ideal) ℓ) (g : Dev Cert.StepFoxQRefIdeal.nD → PrngReg), Pre_StepFoxQRefIdeal m →
    θ_run (Cert.StepFoxQRefIdeal.defs (F := Ideal)) (onTc (τ := Cert.StepFoxQRefIdeal.τ) (Cert.StepFoxQRefIdeal.main (F := Ideal))) ⟨m, fun _ => 0, g⟩ (fun r => (∀ c : Dev Cert.StepFoxQRefIdeal.nD,
      r.2.mem ((c.tc : Thread Cert.StepFoxQRefIdeal.nD Cert.StepFoxQRefIdeal.τ).loc Cert.StepFoxQRefIdeal.main_arg0) = m ((c.tc : Thread Cert.StepFoxQRefIdeal.nD Cert.StepFoxQRefIdeal.τ).loc Cert.StepFoxQRefIdeal.main_arg0)
      ∧ r.2.mem ((c.tc : Thread Cert.StepFoxQRefIdeal.nD Cert.StepFoxQRefIdeal.τ).loc Cert.StepFoxQRefIdeal.main_arg1) = m ((c.tc : Thread Cert.StepFoxQRefIdeal.nD Cert.StepFoxQRefIdeal.τ).loc Cert.StepFoxQRefIdeal.main_arg1)
      ∧ r.2.mem ((c.tc : Thread Cert.StepFoxQRefIdeal.nD Cert.StepFoxQRefIdeal.τ).loc Cert.StepFoxQRefIdeal.main_arg2) = m ((c.tc : Thread Cert.StepFoxQRefIdeal.nD Cert.StepFoxQRefIdeal.τ).loc Cert.StepFoxQRefIdeal.main_arg2)
      ∧ r.2.mem ((c.tc : Thread Cert.StepFoxQRefIdeal.nD Cert.StepFoxQRefIdeal.τ).loc Cert.StepFoxQRefIdeal.main_arg3) = m ((c.tc : Thread Cert.StepFoxQRefIdeal.nD Cert.StepFoxQRefIdeal.τ).loc Cert.StepFoxQRefIdeal.main_arg3))
      ∧ r.2.sem = fun _ => 0)

def quiescent_StepSsdDt [hStepSsdDt : Cert.StepSsdDt.Facts] : Prop :=
  ∀ (m : (ℓ : Loc Cert.StepSsdDt.nD Cert.StepSsdDt.τ Cert.StepSsdDt.sig) → Buf (Elt Bits) ℓ) (g : Dev Cert.StepSsdDt.nD → PrngReg), Pre_StepSsdDt m →
    θ_run (Cert.StepSsdDt.defs (F := Bits)) (onTc (τ := Cert.StepSsdDt.τ) (Cert.StepSsdDt.main (F := Bits))) ⟨m, fun _ => 0, g⟩ (fun r => (∀ c : Dev Cert.StepSsdDt.nD,
      r.2.mem ((c.tc : Thread Cert.StepSsdDt.nD Cert.StepSsdDt.τ).loc Cert.StepSsdDt.main_arg0) = m ((c.tc : Thread Cert.StepSsdDt.nD Cert.StepSsdDt.τ).loc Cert.StepSsdDt.main_arg0)
      ∧ r.2.mem ((c.tc : Thread Cert.StepSsdDt.nD Cert.StepSsdDt.τ).loc Cert.StepSsdDt.main_arg1) = m ((c.tc : Thread Cert.StepSsdDt.nD Cert.StepSsdDt.τ).loc Cert.StepSsdDt.main_arg1)
      ∧ r.2.mem ((c.tc : Thread Cert.StepSsdDt.nD Cert.StepSsdDt.τ).loc Cert.StepSsdDt.main_arg2) = m ((c.tc : Thread Cert.StepSsdDt.nD Cert.StepSsdDt.τ).loc Cert.StepSsdDt.main_arg2)
      ∧ r.2.mem ((c.tc : Thread Cert.StepSsdDt.nD Cert.StepSsdDt.τ).loc Cert.StepSsdDt.main_arg3) = m ((c.tc : Thread Cert.StepSsdDt.nD Cert.StepSsdDt.τ).loc Cert.StepSsdDt.main_arg3))
      ∧ r.2.sem = fun _ => 0)

def quiescent_StepSsdDtIdeal [hStepSsdDtIdeal : Cert.StepSsdDtIdeal.Facts] : Prop :=
  ∀ (m : (ℓ : Loc Cert.StepSsdDtIdeal.nD Cert.StepSsdDtIdeal.τ Cert.StepSsdDtIdeal.sig) → Buf (Elt Ideal) ℓ) (g : Dev Cert.StepSsdDtIdeal.nD → PrngReg), Pre_StepSsdDtIdeal m →
    θ_run (Cert.StepSsdDtIdeal.defs (F := Ideal)) (onTc (τ := Cert.StepSsdDtIdeal.τ) (Cert.StepSsdDtIdeal.main (F := Ideal))) ⟨m, fun _ => 0, g⟩ (fun r => (∀ c : Dev Cert.StepSsdDtIdeal.nD,
      r.2.mem ((c.tc : Thread Cert.StepSsdDtIdeal.nD Cert.StepSsdDtIdeal.τ).loc Cert.StepSsdDtIdeal.main_arg0) = m ((c.tc : Thread Cert.StepSsdDtIdeal.nD Cert.StepSsdDtIdeal.τ).loc Cert.StepSsdDtIdeal.main_arg0)
      ∧ r.2.mem ((c.tc : Thread Cert.StepSsdDtIdeal.nD Cert.StepSsdDtIdeal.τ).loc Cert.StepSsdDtIdeal.main_arg1) = m ((c.tc : Thread Cert.StepSsdDtIdeal.nD Cert.StepSsdDtIdeal.τ).loc Cert.StepSsdDtIdeal.main_arg1)
      ∧ r.2.mem ((c.tc : Thread Cert.StepSsdDtIdeal.nD Cert.StepSsdDtIdeal.τ).loc Cert.StepSsdDtIdeal.main_arg2) = m ((c.tc : Thread Cert.StepSsdDtIdeal.nD Cert.StepSsdDtIdeal.τ).loc Cert.StepSsdDtIdeal.main_arg2)
      ∧ r.2.mem ((c.tc : Thread Cert.StepSsdDtIdeal.nD Cert.StepSsdDtIdeal.τ).loc Cert.StepSsdDtIdeal.main_arg3) = m ((c.tc : Thread Cert.StepSsdDtIdeal.nD Cert.StepSsdDtIdeal.τ).loc Cert.StepSsdDtIdeal.main_arg3))
      ∧ r.2.sem = fun _ => 0)

def quiescent_StepSsdDtRef [hStepSsdDtRef : Cert.StepSsdDtRef.Facts] : Prop :=
  ∀ (m : (ℓ : Loc Cert.StepSsdDtRef.nD Cert.StepSsdDtRef.τ Cert.StepSsdDtRef.sig) → Buf (Elt Bits) ℓ) (g : Dev Cert.StepSsdDtRef.nD → PrngReg), Pre_StepSsdDtRef m →
    θ_run (Cert.StepSsdDtRef.defs (F := Bits)) (onTc (τ := Cert.StepSsdDtRef.τ) (Cert.StepSsdDtRef.main (F := Bits))) ⟨m, fun _ => 0, g⟩ (fun r => (∀ c : Dev Cert.StepSsdDtRef.nD,
      r.2.mem ((c.tc : Thread Cert.StepSsdDtRef.nD Cert.StepSsdDtRef.τ).loc Cert.StepSsdDtRef.main_arg0) = m ((c.tc : Thread Cert.StepSsdDtRef.nD Cert.StepSsdDtRef.τ).loc Cert.StepSsdDtRef.main_arg0)
      ∧ r.2.mem ((c.tc : Thread Cert.StepSsdDtRef.nD Cert.StepSsdDtRef.τ).loc Cert.StepSsdDtRef.main_arg1) = m ((c.tc : Thread Cert.StepSsdDtRef.nD Cert.StepSsdDtRef.τ).loc Cert.StepSsdDtRef.main_arg1)
      ∧ r.2.mem ((c.tc : Thread Cert.StepSsdDtRef.nD Cert.StepSsdDtRef.τ).loc Cert.StepSsdDtRef.main_arg2) = m ((c.tc : Thread Cert.StepSsdDtRef.nD Cert.StepSsdDtRef.τ).loc Cert.StepSsdDtRef.main_arg2)
      ∧ r.2.mem ((c.tc : Thread Cert.StepSsdDtRef.nD Cert.StepSsdDtRef.τ).loc Cert.StepSsdDtRef.main_arg3) = m ((c.tc : Thread Cert.StepSsdDtRef.nD Cert.StepSsdDtRef.τ).loc Cert.StepSsdDtRef.main_arg3))
      ∧ r.2.sem = fun _ => 0)

def quiescent_StepSsdDtRefIdeal [hStepSsdDtRefIdeal : Cert.StepSsdDtRefIdeal.Facts] : Prop :=
  ∀ (m : (ℓ : Loc Cert.StepSsdDtRefIdeal.nD Cert.StepSsdDtRefIdeal.τ Cert.StepSsdDtRefIdeal.sig) → Buf (Elt Ideal) ℓ) (g : Dev Cert.StepSsdDtRefIdeal.nD → PrngReg), Pre_StepSsdDtRefIdeal m →
    θ_run (Cert.StepSsdDtRefIdeal.defs (F := Ideal)) (onTc (τ := Cert.StepSsdDtRefIdeal.τ) (Cert.StepSsdDtRefIdeal.main (F := Ideal))) ⟨m, fun _ => 0, g⟩ (fun r => (∀ c : Dev Cert.StepSsdDtRefIdeal.nD,
      r.2.mem ((c.tc : Thread Cert.StepSsdDtRefIdeal.nD Cert.StepSsdDtRefIdeal.τ).loc Cert.StepSsdDtRefIdeal.main_arg0) = m ((c.tc : Thread Cert.StepSsdDtRefIdeal.nD Cert.StepSsdDtRefIdeal.τ).loc Cert.StepSsdDtRefIdeal.main_arg0)
      ∧ r.2.mem ((c.tc : Thread Cert.StepSsdDtRefIdeal.nD Cert.StepSsdDtRefIdeal.τ).loc Cert.StepSsdDtRefIdeal.main_arg1) = m ((c.tc : Thread Cert.StepSsdDtRefIdeal.nD Cert.StepSsdDtRefIdeal.τ).loc Cert.StepSsdDtRefIdeal.main_arg1)
      ∧ r.2.mem ((c.tc : Thread Cert.StepSsdDtRefIdeal.nD Cert.StepSsdDtRefIdeal.τ).loc Cert.StepSsdDtRefIdeal.main_arg2) = m ((c.tc : Thread Cert.StepSsdDtRefIdeal.nD Cert.StepSsdDtRefIdeal.τ).loc Cert.StepSsdDtRefIdeal.main_arg2)
      ∧ r.2.mem ((c.tc : Thread Cert.StepSsdDtRefIdeal.nD Cert.StepSsdDtRefIdeal.τ).loc Cert.StepSsdDtRefIdeal.main_arg3) = m ((c.tc : Thread Cert.StepSsdDtRefIdeal.nD Cert.StepSsdDtRefIdeal.τ).loc Cert.StepSsdDtRefIdeal.main_arg3))
      ∧ r.2.sem = fun _ => 0)

def preserves_Gather_GatherIdeal : Prop :=
  True

def algebraic_GatherIdeal_GatherReferenceIdeal [hGatherIdeal : Cert.GatherIdeal.Facts] [hGatherReferenceIdeal : Cert.GatherReferenceIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![6800, 1024]⟩ ⟨2, ![54400, 1024]⟩ 0 8 c (m' (((0 : Dev Cert.GatherReferenceIdeal.nD).tc : Thread Cert.GatherReferenceIdeal.nD Cert.GatherReferenceIdeal.τ).loc Cert.GatherReferenceIdeal.main_arg0))) →
    ∃ (v0 : Buf (Elt Ideal) (((0 : Dev Cert.GatherReferenceIdeal.nD).tc : Thread Cert.GatherReferenceIdeal.nD Cert.GatherReferenceIdeal.τ).loc Cert.GatherReferenceIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherReferenceIdeal.defs (F := Ideal)) (onTc (τ := Cert.GatherReferenceIdeal.τ) (Cert.GatherReferenceIdeal.main (F := Ideal))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v0) = v0
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0))

def bitexact_Gather_GatherReference [hGather : Cert.Gather.Facts] [hGatherReference : Cert.GatherReference.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m ((c.tc : Thread Cert.Gather.nD Cert.Gather.τ).loc Cert.Gather.main_arg0) = Layout.block ⟨2, ![6800, 1024]⟩ ⟨2, ![54400, 1024]⟩ 0 8 c (m' (((0 : Dev Cert.GatherReference.nD).tc : Thread Cert.GatherReference.nD Cert.GatherReference.τ).loc Cert.GatherReference.main_arg0))) →
    ∃ (v0 : Buf (Elt Bits) (((0 : Dev Cert.GatherReference.nD).tc : Thread Cert.GatherReference.nD Cert.GatherReference.τ).loc Cert.GatherReference.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherReference.defs (F := Bits)) (onTc (τ := Cert.GatherReference.τ) (Cert.GatherReference.main (F := Bits))) ⟨m', fun _ => 0, g'⟩ (fun r =>
          r.2.mem (((0 : Dev Cert.GatherReference.nD).tc : Thread Cert.GatherReference.nD Cert.GatherReference.τ).loc Cert.GatherReference.main_v0) = v0
          ∧ r.2.mem (((0 : Dev Cert.GatherReference.nD).tc : Thread Cert.GatherReference.nD Cert.GatherReference.τ).loc Cert.GatherReference.main_arg0) = m' (((0 : Dev Cert.GatherReference.nD).tc : Thread Cert.GatherReference.nD Cert.GatherReference.τ).loc Cert.GatherReference.main_arg0))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![8, 6800, 1024]⟩ ⟨3, ![64, 6800, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![8, 6800, 1024]⟩ ⟨3, ![64, 6800, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨3, ![8, 6800, 1024]⟩ ⟨3, ![64, 6800, 1024]⟩ 0 8 c (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.block ⟨3, ![8, 6800, 1024]⟩ ⟨3, ![64, 6800, 1024]⟩ 0 8 c v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v2) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def preserves_Grads_GradsIdeal : Prop :=
  True

def algebraic_GradsIdeal_GradsReferenceIdeal [hGradsIdeal : Cert.GradsIdeal.Facts] [hGradsReferenceIdeal : Cert.GradsReferenceIdeal.Facts] : Prop :=
  ∀ (m : (ℓ : Loc Cert.GradsIdeal.nD Cert.GradsIdeal.τ Cert.GradsIdeal.sig) → Buf (Elt Ideal) ℓ) (g : Dev Cert.GradsIdeal.nD → PrngReg)
    (m' : (ℓ : Loc Cert.GradsReferenceIdeal.nD Cert.GradsReferenceIdeal.τ Cert.GradsReferenceIdeal.sig) → Buf (Elt Ideal) ℓ) (g' : Dev Cert.GradsReferenceIdeal.nD → PrngReg), Pre_GradsIdeal m →
    (∀ c : Dev Cert.GradsIdeal.nD,
      m ((c.tc : Thread Cert.GradsIdeal.nD Cert.GradsIdeal.τ).loc Cert.GradsIdeal.main_arg0) = Layout.block ⟨3, ![8, 6800, 1024]⟩ ⟨3, ![64, 6800, 1024]⟩ 0 8 c (m' (((0 : Dev Cert.GradsReferenceIdeal.nD).tc : Thread Cert.GradsReferenceIdeal.nD Cert.GradsReferenceIdeal.τ).loc Cert.GradsReferenceIdeal.main_arg0))) →
    ∃ (v0 : Buf (Elt Ideal) (((0 : Dev Cert.GradsReferenceIdeal.nD).tc : Thread Cert.GradsReferenceIdeal.nD Cert.GradsReferenceIdeal.τ).loc Cert.GradsReferenceIdeal.main_v5)) (v1 : Buf (Elt Ideal) (((0 : Dev Cert.GradsReferenceIdeal.nD).tc : Thread Cert.GradsReferenceIdeal.nD Cert.GradsReferenceIdeal.τ).loc Cert.GradsReferenceIdeal.main_v7)) (v2 : Buf (Elt Ideal) (((0 : Dev Cert.GradsReferenceIdeal.nD).tc : Thread Cert.GradsReferenceIdeal.nD Cert.GradsReferenceIdeal.τ).loc Cert.GradsReferenceIdeal.main_v9)) (v3 : Buf (Elt Ideal) (((0 : Dev Cert.GradsReferenceIdeal.nD).tc : Thread Cert.GradsReferenceIdeal.nD Cert.GradsReferenceIdeal.τ).loc Cert.GradsReferenceIdeal.main_v11)) (v4 : Buf (Elt Ideal) (((0 : Dev Cert.GradsReferenceIdeal.nD).tc : Thread Cert.GradsReferenceIdeal.nD Cert.GradsReferenceIdeal.τ).loc Cert.GradsReferenceIdeal.main_v13)) (v5 : Buf (Elt Ideal) (((0 : Dev Cert.GradsReferenceIdeal.nD).tc : Thread Cert.GradsReferenceIdeal.nD Cert.GradsReferenceIdeal.τ).loc Cert.GradsReferenceIdeal.main_v15)) (v6 : Buf (Elt Ideal) (((0 : Dev Cert.GradsReferenceIdeal.nD).tc : Thread Cert.GradsReferenceIdeal.nD Cert.GradsReferenceIdeal.τ).loc Cert.GradsReferenceIdeal.main_v17)) (v7 : Buf (Elt Ideal) (((0 : Dev Cert.GradsReferenceIdeal.nD).tc : Thread Cert.GradsReferenceIdeal.nD Cert.GradsReferenceIdeal.τ).loc Cert.GradsReferenceIdeal.main_v19)),
      θ_run (Cert.GradsIdeal.defs (F := Ideal)) (onTc (τ := Cert.GradsIdeal.τ) (Cert.GradsIdeal.main (F := Ideal))) ⟨m, fun _ => 0, g⟩ (fun r => ∀ c : Dev Cert.GradsIdeal.nD,
          r.2.mem ((c.tc : Thread Cert.GradsIdeal.nD Cert.GradsIdeal.τ).loc Cert.GradsIdeal.main_v5) = Layout.block ⟨3, ![4, 1024, 704]⟩ ⟨3, ![32, 1024, 704]⟩ 0 8 c v0
          ∧ r.2.mem ((c.tc : Thread Cert.GradsIdeal.nD Cert.GradsIdeal.τ).loc Cert.GradsIdeal.main_v7) = Layout.block ⟨3, ![4, 352, 1024]⟩ ⟨3, ![32, 352, 1024]⟩ 0 8 c v1
          ∧ r.2.mem ((c.tc : Thread Cert.GradsIdeal.nD Cert.GradsIdeal.τ).loc Cert.GradsIdeal.main_v9) = Layout.block ⟨3, ![2, 1024, 384]⟩ ⟨3, ![16, 1024, 384]⟩ 0 8 c v2
          ∧ r.2.mem ((c.tc : Thread Cert.GradsIdeal.nD Cert.GradsIdeal.τ).loc Cert.GradsIdeal.main_v11) = Layout.block ⟨3, ![2, 128, 1024]⟩ ⟨3, ![16, 128, 1024]⟩ 0 8 c v3
          ∧ r.2.mem ((c.tc : Thread Cert.GradsIdeal.nD Cert.GradsIdeal.τ).loc Cert.GradsIdeal.main_v13) = Layout.block ⟨3, ![1, 1024, 386]⟩ ⟨3, ![8, 1024, 386]⟩ 0 8 c v4
          ∧ r.2.mem ((c.tc : Thread Cert.GradsIdeal.nD Cert.GradsIdeal.τ).loc Cert.GradsIdeal.main_v15) = Layout.block ⟨3, ![1, 128, 1024]⟩ ⟨3, ![8, 128, 1024]⟩ 0 8 c v5
          ∧ r.2.mem ((c.tc : Thread Cert.GradsIdeal.nD Cert.GradsIdeal.τ).loc Cert.GradsIdeal.main_v17) = Layout.block ⟨3, ![1, 1024, 772]⟩ ⟨3, ![8, 1024, 772]⟩ 0 8 c v6
          ∧ r.2.mem ((c.tc : Thread Cert.GradsIdeal.nD Cert.GradsIdeal.τ).loc Cert.GradsIdeal.main_v19) = Layout.block ⟨3, ![1, 256, 1024]⟩ ⟨3, ![8, 256, 1024]⟩ 0 8 c v7
          ∧ r.2.mem ((c.tc : Thread Cert.GradsIdeal.nD Cert.GradsIdeal.τ).loc Cert.GradsIdeal.main_arg0) = m ((c.tc : Thread Cert.GradsIdeal.nD Cert.GradsIdeal.τ).loc Cert.GradsIdeal.main_arg0))
      ∧ θ_run (Cert.GradsReferenceIdeal.defs (F := Ideal)) (onTc (τ := Cert.GradsReferenceIdeal.τ) (Cert.GradsReferenceIdeal.main (F := Ideal))) ⟨m', fun _ => 0, g'⟩ (fun r =>
          r.2.mem (((0 : Dev Cert.GradsReferenceIdeal.nD).tc : Thread Cert.GradsReferenceIdeal.nD Cert.GradsReferenceIdeal.τ).loc Cert.GradsReferenceIdeal.main_v5) = v0
          ∧ r.2.mem (((0 : Dev Cert.GradsReferenceIdeal.nD).tc : Thread Cert.GradsReferenceIdeal.nD Cert.GradsReferenceIdeal.τ).loc Cert.GradsReferenceIdeal.main_v7) = v1
          ∧ r.2.mem (((0 : Dev Cert.GradsReferenceIdeal.nD).tc : Thread Cert.GradsReferenceIdeal.nD Cert.GradsReferenceIdeal.τ).loc Cert.GradsReferenceIdeal.main_v9) = v2
          ∧ r.2.mem (((0 : Dev Cert.GradsReferenceIdeal.nD).tc : Thread Cert.GradsReferenceIdeal.nD Cert.GradsReferenceIdeal.τ).loc Cert.GradsReferenceIdeal.main_v11) = v3
          ∧ r.2.mem (((0 : Dev Cert.GradsReferenceIdeal.nD).tc : Thread Cert.GradsReferenceIdeal.nD Cert.GradsReferenceIdeal.τ).loc Cert.GradsReferenceIdeal.main_v13) = v4
          ∧ r.2.mem (((0 : Dev Cert.GradsReferenceIdeal.nD).tc : Thread Cert.GradsReferenceIdeal.nD Cert.GradsReferenceIdeal.τ).loc Cert.GradsReferenceIdeal.main_v15) = v5
          ∧ r.2.mem (((0 : Dev Cert.GradsReferenceIdeal.nD).tc : Thread Cert.GradsReferenceIdeal.nD Cert.GradsReferenceIdeal.τ).loc Cert.GradsReferenceIdeal.main_v17) = v6
          ∧ r.2.mem (((0 : Dev Cert.GradsReferenceIdeal.nD).tc : Thread Cert.GradsReferenceIdeal.nD Cert.GradsReferenceIdeal.τ).loc Cert.GradsReferenceIdeal.main_v19) = v7
          ∧ r.2.mem (((0 : Dev Cert.GradsReferenceIdeal.nD).tc : Thread Cert.GradsReferenceIdeal.nD Cert.GradsReferenceIdeal.τ).loc Cert.GradsReferenceIdeal.main_arg0) = m' (((0 : Dev Cert.GradsReferenceIdeal.nD).tc : Thread Cert.GradsReferenceIdeal.nD Cert.GradsReferenceIdeal.τ).loc Cert.GradsReferenceIdeal.main_arg0))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v34) = v0 c
          ∧ r.2.mem ((c.tc : Thread Cert.NormReferenceIdeal.nD Cert.NormReferenceIdeal.τ).loc Cert.NormReferenceIdeal.main_v17) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_Product_ProductIdeal : Prop :=
  True

def algebraic_ProductIdeal_ProductRefIdeal [hProductIdeal : Cert.ProductIdeal.Facts] [hProductRefIdeal : Cert.ProductRefIdeal.Facts] : Prop :=
  ∀ (m : (ℓ : Loc Cert.ProductIdeal.nD Cert.ProductIdeal.τ Cert.ProductIdeal.sig) → Buf (Elt Ideal) ℓ) (g : Dev Cert.ProductIdeal.nD → PrngReg)
    (m' : (ℓ : Loc Cert.ProductRefIdeal.nD Cert.ProductRefIdeal.τ Cert.ProductRefIdeal.sig) → Buf (Elt Ideal) ℓ) (g' : Dev Cert.ProductRefIdeal.nD → PrngReg), Pre_ProductIdeal m →
    (∀ c : Dev Cert.ProductIdeal.nD,
      m' ((c.tc : Thread Cert.ProductRefIdeal.nD Cert.ProductRefIdeal.τ).loc Cert.ProductRefIdeal.main_arg0) = m ((c.tc : Thread Cert.ProductIdeal.nD Cert.ProductIdeal.τ).loc Cert.ProductIdeal.main_arg0)
      ∧ m' ((c.tc : Thread Cert.ProductRefIdeal.nD Cert.ProductRefIdeal.τ).loc Cert.ProductRefIdeal.main_arg1) = m ((c.tc : Thread Cert.ProductIdeal.nD Cert.ProductIdeal.τ).loc Cert.ProductIdeal.main_arg1)) →
    ∃ (v0 : (c : Dev Cert.ProductIdeal.nD) → Buf (Elt Ideal) ((c.tc : Thread Cert.ProductIdeal.nD Cert.ProductIdeal.τ).loc Cert.ProductIdeal.main_v0)),
      θ_run (Cert.ProductIdeal.defs (F := Ideal)) (onTc (τ := Cert.ProductIdeal.τ) (Cert.ProductIdeal.main (F := Ideal))) ⟨m, fun _ => 0, g⟩ (fun r => ∀ c : Dev Cert.ProductIdeal.nD,
          r.2.mem ((c.tc : Thread Cert.ProductIdeal.nD Cert.ProductIdeal.τ).loc Cert.ProductIdeal.main_v0) = v0 c
          ∧ r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
          ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1))
      ∧ θ_run (Cert.ProductRefIdeal.defs (F := Ideal)) (onTc (τ := Cert.ProductRefIdeal.τ) (Cert.ProductRefIdeal.main (F := Ideal))) ⟨m', fun _ => 0, g'⟩ (fun r => ∀ c : Dev Cert.ProductRefIdeal.nD,
          r.2.mem ((c.tc : Thread Cert.ProductRefIdeal.nD Cert.ProductRefIdeal.τ).loc Cert.ProductRefIdeal.main_v2) = v0 c
          ∧ r.2.mem ((c.tc : Thread Cert.ProductRefIdeal.nD Cert.ProductRefIdeal.τ).loc Cert.ProductRefIdeal.main_arg0) = m' ((c.tc : Thread Cert.ProductRefIdeal.nD Cert.ProductRefIdeal.τ).loc Cert.ProductRefIdeal.main_arg0)
          ∧ r.2.mem ((c.tc : Thread Cert.ProductRefIdeal.nD Cert.ProductRefIdeal.τ).loc Cert.ProductRefIdeal.main_arg1) = m' ((c.tc : Thread Cert.ProductRefIdeal.nD Cert.ProductRefIdeal.τ).loc Cert.ProductRefIdeal.main_arg1))

def preserves_ProductInput_ProductInputIdeal : Prop :=
  True

def algebraic_ProductInputIdeal_ProductInputRefIdeal [hProductInputIdeal : Cert.ProductInputIdeal.Facts] [hProductInputRefIdeal : Cert.ProductInputRefIdeal.Facts] : Prop :=
  ∀ (m : (ℓ : Loc Cert.ProductInputIdeal.nD Cert.ProductInputIdeal.τ Cert.ProductInputIdeal.sig) → Buf (Elt Ideal) ℓ) (g : Dev Cert.ProductInputIdeal.nD → PrngReg)
    (m' : (ℓ : Loc Cert.ProductInputRefIdeal.nD Cert.ProductInputRefIdeal.τ Cert.ProductInputRefIdeal.sig) → Buf (Elt Ideal) ℓ) (g' : Dev Cert.ProductInputRefIdeal.nD → PrngReg), Pre_ProductInputIdeal m →
    (∀ c : Dev Cert.ProductInputIdeal.nD,
      m' ((c.tc : Thread Cert.ProductInputRefIdeal.nD Cert.ProductInputRefIdeal.τ).loc Cert.ProductInputRefIdeal.main_arg0) = m ((c.tc : Thread Cert.ProductInputIdeal.nD Cert.ProductInputIdeal.τ).loc Cert.ProductInputIdeal.main_arg0)
      ∧ m' ((c.tc : Thread Cert.ProductInputRefIdeal.nD Cert.ProductInputRefIdeal.τ).loc Cert.ProductInputRefIdeal.main_arg1) = m ((c.tc : Thread Cert.ProductInputIdeal.nD Cert.ProductInputIdeal.τ).loc Cert.ProductInputIdeal.main_arg1)) →
    ∃ (v0 : (c : Dev Cert.ProductInputIdeal.nD) → Buf (Elt Ideal) ((c.tc : Thread Cert.ProductInputIdeal.nD Cert.ProductInputIdeal.τ).loc Cert.ProductInputIdeal.main_v0)),
      θ_run (Cert.ProductInputIdeal.defs (F := Ideal)) (onTc (τ := Cert.ProductInputIdeal.τ) (Cert.ProductInputIdeal.main (F := Ideal))) ⟨m, fun _ => 0, g⟩ (fun r => ∀ c : Dev Cert.ProductInputIdeal.nD,
          r.2.mem ((c.tc : Thread Cert.ProductInputIdeal.nD Cert.ProductInputIdeal.τ).loc Cert.ProductInputIdeal.main_v0) = v0 c
          ∧ r.2.mem ((c.tc : Thread Cert.ProductInputIdeal.nD Cert.ProductInputIdeal.τ).loc Cert.ProductInputIdeal.main_arg0) = m ((c.tc : Thread Cert.ProductInputIdeal.nD Cert.ProductInputIdeal.τ).loc Cert.ProductInputIdeal.main_arg0)
          ∧ r.2.mem ((c.tc : Thread Cert.ProductInputIdeal.nD Cert.ProductInputIdeal.τ).loc Cert.ProductInputIdeal.main_arg1) = m ((c.tc : Thread Cert.ProductInputIdeal.nD Cert.ProductInputIdeal.τ).loc Cert.ProductInputIdeal.main_arg1))
      ∧ θ_run (Cert.ProductInputRefIdeal.defs (F := Ideal)) (onTc (τ := Cert.ProductInputRefIdeal.τ) (Cert.ProductInputRefIdeal.main (F := Ideal))) ⟨m', fun _ => 0, g'⟩ (fun r => ∀ c : Dev Cert.ProductInputRefIdeal.nD,
          r.2.mem ((c.tc : Thread Cert.ProductInputRefIdeal.nD Cert.ProductInputRefIdeal.τ).loc Cert.ProductInputRefIdeal.main_v2) = v0 c
          ∧ r.2.mem ((c.tc : Thread Cert.ProductInputRefIdeal.nD Cert.ProductInputRefIdeal.τ).loc Cert.ProductInputRefIdeal.main_arg0) = m' ((c.tc : Thread Cert.ProductInputRefIdeal.nD Cert.ProductInputRefIdeal.τ).loc Cert.ProductInputRefIdeal.main_arg0)
          ∧ r.2.mem ((c.tc : Thread Cert.ProductInputRefIdeal.nD Cert.ProductInputRefIdeal.τ).loc Cert.ProductInputRefIdeal.main_arg1) = m' ((c.tc : Thread Cert.ProductInputRefIdeal.nD Cert.ProductInputRefIdeal.τ).loc Cert.ProductInputRefIdeal.main_arg1))

def preserves_ProductWeight_ProductWeightIdeal : Prop :=
  True

def algebraic_ProductWeightIdeal_ProductWeightRefIdeal [hProductWeightIdeal : Cert.ProductWeightIdeal.Facts] [hProductWeightRefIdeal : Cert.ProductWeightRefIdeal.Facts] : Prop :=
  ∀ (m : (ℓ : Loc Cert.ProductWeightIdeal.nD Cert.ProductWeightIdeal.τ Cert.ProductWeightIdeal.sig) → Buf (Elt Ideal) ℓ) (g : Dev Cert.ProductWeightIdeal.nD → PrngReg)
    (m' : (ℓ : Loc Cert.ProductWeightRefIdeal.nD Cert.ProductWeightRefIdeal.τ Cert.ProductWeightRefIdeal.sig) → Buf (Elt Ideal) ℓ) (g' : Dev Cert.ProductWeightRefIdeal.nD → PrngReg), Pre_ProductWeightIdeal m →
    (∀ c : Dev Cert.ProductWeightIdeal.nD,
      m' ((c.tc : Thread Cert.ProductWeightRefIdeal.nD Cert.ProductWeightRefIdeal.τ).loc Cert.ProductWeightRefIdeal.main_arg0) = m ((c.tc : Thread Cert.ProductWeightIdeal.nD Cert.ProductWeightIdeal.τ).loc Cert.ProductWeightIdeal.main_arg0)
      ∧ m' ((c.tc : Thread Cert.ProductWeightRefIdeal.nD Cert.ProductWeightRefIdeal.τ).loc Cert.ProductWeightRefIdeal.main_arg1) = m ((c.tc : Thread Cert.ProductWeightIdeal.nD Cert.ProductWeightIdeal.τ).loc Cert.ProductWeightIdeal.main_arg1)) →
    ∃ (v0 : (c : Dev Cert.ProductWeightIdeal.nD) → Buf (Elt Ideal) ((c.tc : Thread Cert.ProductWeightIdeal.nD Cert.ProductWeightIdeal.τ).loc Cert.ProductWeightIdeal.main_v0)),
      θ_run (Cert.ProductWeightIdeal.defs (F := Ideal)) (onTc (τ := Cert.ProductWeightIdeal.τ) (Cert.ProductWeightIdeal.main (F := Ideal))) ⟨m, fun _ => 0, g⟩ (fun r => ∀ c : Dev Cert.ProductWeightIdeal.nD,
          r.2.mem ((c.tc : Thread Cert.ProductWeightIdeal.nD Cert.ProductWeightIdeal.τ).loc Cert.ProductWeightIdeal.main_v0) = v0 c
          ∧ r.2.mem ((c.tc : Thread Cert.ProductWeightIdeal.nD Cert.ProductWeightIdeal.τ).loc Cert.ProductWeightIdeal.main_arg0) = m ((c.tc : Thread Cert.ProductWeightIdeal.nD Cert.ProductWeightIdeal.τ).loc Cert.ProductWeightIdeal.main_arg0)
          ∧ r.2.mem ((c.tc : Thread Cert.ProductWeightIdeal.nD Cert.ProductWeightIdeal.τ).loc Cert.ProductWeightIdeal.main_arg1) = m ((c.tc : Thread Cert.ProductWeightIdeal.nD Cert.ProductWeightIdeal.τ).loc Cert.ProductWeightIdeal.main_arg1))
      ∧ θ_run (Cert.ProductWeightRefIdeal.defs (F := Ideal)) (onTc (τ := Cert.ProductWeightRefIdeal.τ) (Cert.ProductWeightRefIdeal.main (F := Ideal))) ⟨m', fun _ => 0, g'⟩ (fun r => ∀ c : Dev Cert.ProductWeightRefIdeal.nD,
          r.2.mem ((c.tc : Thread Cert.ProductWeightRefIdeal.nD Cert.ProductWeightRefIdeal.τ).loc Cert.ProductWeightRefIdeal.main_v3) = v0 c
          ∧ r.2.mem ((c.tc : Thread Cert.ProductWeightRefIdeal.nD Cert.ProductWeightRefIdeal.τ).loc Cert.ProductWeightRefIdeal.main_arg0) = m' ((c.tc : Thread Cert.ProductWeightRefIdeal.nD Cert.ProductWeightRefIdeal.τ).loc Cert.ProductWeightRefIdeal.main_arg0)
          ∧ r.2.mem ((c.tc : Thread Cert.ProductWeightRefIdeal.nD Cert.ProductWeightRefIdeal.τ).loc Cert.ProductWeightRefIdeal.main_arg1) = m' ((c.tc : Thread Cert.ProductWeightRefIdeal.nD Cert.ProductWeightRefIdeal.τ).loc Cert.ProductWeightRefIdeal.main_arg1))

def preserves_ProductFfnGu_ProductFfnGuIdeal : Prop :=
  True

def algebraic_ProductFfnGuIdeal_ProductFfnGuRefIdeal [hProductFfnGuIdeal : Cert.ProductFfnGuIdeal.Facts] [hProductFfnGuRefIdeal : Cert.ProductFfnGuRefIdeal.Facts] : Prop :=
  ∀ (m : (ℓ : Loc Cert.ProductFfnGuIdeal.nD Cert.ProductFfnGuIdeal.τ Cert.ProductFfnGuIdeal.sig) → Buf (Elt Ideal) ℓ) (g : Dev Cert.ProductFfnGuIdeal.nD → PrngReg)
    (m' : (ℓ : Loc Cert.ProductFfnGuRefIdeal.nD Cert.ProductFfnGuRefIdeal.τ Cert.ProductFfnGuRefIdeal.sig) → Buf (Elt Ideal) ℓ) (g' : Dev Cert.ProductFfnGuRefIdeal.nD → PrngReg), Pre_ProductFfnGuIdeal m →
    (∀ c : Dev Cert.ProductFfnGuIdeal.nD,
      m' ((c.tc : Thread Cert.ProductFfnGuRefIdeal.nD Cert.ProductFfnGuRefIdeal.τ).loc Cert.ProductFfnGuRefIdeal.main_arg0) = m ((c.tc : Thread Cert.ProductFfnGuIdeal.nD Cert.ProductFfnGuIdeal.τ).loc Cert.ProductFfnGuIdeal.main_arg0)
      ∧ m' ((c.tc : Thread Cert.ProductFfnGuRefIdeal.nD Cert.ProductFfnGuRefIdeal.τ).loc Cert.ProductFfnGuRefIdeal.main_arg1) = m ((c.tc : Thread Cert.ProductFfnGuIdeal.nD Cert.ProductFfnGuIdeal.τ).loc Cert.ProductFfnGuIdeal.main_arg1)) →
    ∃ (v0 : (c : Dev Cert.ProductFfnGuIdeal.nD) → Buf (Elt Ideal) ((c.tc : Thread Cert.ProductFfnGuIdeal.nD Cert.ProductFfnGuIdeal.τ).loc Cert.ProductFfnGuIdeal.main_v0)),
      θ_run (Cert.ProductFfnGuIdeal.defs (F := Ideal)) (onTc (τ := Cert.ProductFfnGuIdeal.τ) (Cert.ProductFfnGuIdeal.main (F := Ideal))) ⟨m, fun _ => 0, g⟩ (fun r => ∀ c : Dev Cert.ProductFfnGuIdeal.nD,
          r.2.mem ((c.tc : Thread Cert.ProductFfnGuIdeal.nD Cert.ProductFfnGuIdeal.τ).loc Cert.ProductFfnGuIdeal.main_v0) = v0 c
          ∧ r.2.mem ((c.tc : Thread Cert.ProductFfnGuIdeal.nD Cert.ProductFfnGuIdeal.τ).loc Cert.ProductFfnGuIdeal.main_arg0) = m ((c.tc : Thread Cert.ProductFfnGuIdeal.nD Cert.ProductFfnGuIdeal.τ).loc Cert.ProductFfnGuIdeal.main_arg0)
          ∧ r.2.mem ((c.tc : Thread Cert.ProductFfnGuIdeal.nD Cert.ProductFfnGuIdeal.τ).loc Cert.ProductFfnGuIdeal.main_arg1) = m ((c.tc : Thread Cert.ProductFfnGuIdeal.nD Cert.ProductFfnGuIdeal.τ).loc Cert.ProductFfnGuIdeal.main_arg1))
      ∧ θ_run (Cert.ProductFfnGuRefIdeal.defs (F := Ideal)) (onTc (τ := Cert.ProductFfnGuRefIdeal.τ) (Cert.ProductFfnGuRefIdeal.main (F := Ideal))) ⟨m', fun _ => 0, g'⟩ (fun r => ∀ c : Dev Cert.ProductFfnGuRefIdeal.nD,
          r.2.mem ((c.tc : Thread Cert.ProductFfnGuRefIdeal.nD Cert.ProductFfnGuRefIdeal.τ).loc Cert.ProductFfnGuRefIdeal.main_v2) = v0 c
          ∧ r.2.mem ((c.tc : Thread Cert.ProductFfnGuRefIdeal.nD Cert.ProductFfnGuRefIdeal.τ).loc Cert.ProductFfnGuRefIdeal.main_arg0) = m' ((c.tc : Thread Cert.ProductFfnGuRefIdeal.nD Cert.ProductFfnGuRefIdeal.τ).loc Cert.ProductFfnGuRefIdeal.main_arg0)
          ∧ r.2.mem ((c.tc : Thread Cert.ProductFfnGuRefIdeal.nD Cert.ProductFfnGuRefIdeal.τ).loc Cert.ProductFfnGuRefIdeal.main_arg1) = m' ((c.tc : Thread Cert.ProductFfnGuRefIdeal.nD Cert.ProductFfnGuRefIdeal.τ).loc Cert.ProductFfnGuRefIdeal.main_arg1))

def preserves_ProductFfnDown_ProductFfnDownIdeal : Prop :=
  True

def algebraic_ProductFfnDownIdeal_ProductFfnDownRefIdeal [hProductFfnDownIdeal : Cert.ProductFfnDownIdeal.Facts] [hProductFfnDownRefIdeal : Cert.ProductFfnDownRefIdeal.Facts] : Prop :=
  ∀ (m : (ℓ : Loc Cert.ProductFfnDownIdeal.nD Cert.ProductFfnDownIdeal.τ Cert.ProductFfnDownIdeal.sig) → Buf (Elt Ideal) ℓ) (g : Dev Cert.ProductFfnDownIdeal.nD → PrngReg)
    (m' : (ℓ : Loc Cert.ProductFfnDownRefIdeal.nD Cert.ProductFfnDownRefIdeal.τ Cert.ProductFfnDownRefIdeal.sig) → Buf (Elt Ideal) ℓ) (g' : Dev Cert.ProductFfnDownRefIdeal.nD → PrngReg), Pre_ProductFfnDownIdeal m →
    (∀ c : Dev Cert.ProductFfnDownIdeal.nD,
      m' ((c.tc : Thread Cert.ProductFfnDownRefIdeal.nD Cert.ProductFfnDownRefIdeal.τ).loc Cert.ProductFfnDownRefIdeal.main_arg0) = m ((c.tc : Thread Cert.ProductFfnDownIdeal.nD Cert.ProductFfnDownIdeal.τ).loc Cert.ProductFfnDownIdeal.main_arg0)
      ∧ m' ((c.tc : Thread Cert.ProductFfnDownRefIdeal.nD Cert.ProductFfnDownRefIdeal.τ).loc Cert.ProductFfnDownRefIdeal.main_arg1) = m ((c.tc : Thread Cert.ProductFfnDownIdeal.nD Cert.ProductFfnDownIdeal.τ).loc Cert.ProductFfnDownIdeal.main_arg1)
      ∧ m' ((c.tc : Thread Cert.ProductFfnDownRefIdeal.nD Cert.ProductFfnDownRefIdeal.τ).loc Cert.ProductFfnDownRefIdeal.main_arg2) = m ((c.tc : Thread Cert.ProductFfnDownIdeal.nD Cert.ProductFfnDownIdeal.τ).loc Cert.ProductFfnDownIdeal.main_arg2)) →
    ∃ (v0 : (c : Dev Cert.ProductFfnDownIdeal.nD) → Buf (Elt Ideal) ((c.tc : Thread Cert.ProductFfnDownIdeal.nD Cert.ProductFfnDownIdeal.τ).loc Cert.ProductFfnDownIdeal.main_v0)),
      θ_run (Cert.ProductFfnDownIdeal.defs (F := Ideal)) (onTc (τ := Cert.ProductFfnDownIdeal.τ) (Cert.ProductFfnDownIdeal.main (F := Ideal))) ⟨m, fun _ => 0, g⟩ (fun r => ∀ c : Dev Cert.ProductFfnDownIdeal.nD,
          r.2.mem ((c.tc : Thread Cert.ProductFfnDownIdeal.nD Cert.ProductFfnDownIdeal.τ).loc Cert.ProductFfnDownIdeal.main_v0) = v0 c
          ∧ r.2.mem ((c.tc : Thread Cert.ProductFfnDownIdeal.nD Cert.ProductFfnDownIdeal.τ).loc Cert.ProductFfnDownIdeal.main_arg0) = m ((c.tc : Thread Cert.ProductFfnDownIdeal.nD Cert.ProductFfnDownIdeal.τ).loc Cert.ProductFfnDownIdeal.main_arg0)
          ∧ r.2.mem ((c.tc : Thread Cert.ProductFfnDownIdeal.nD Cert.ProductFfnDownIdeal.τ).loc Cert.ProductFfnDownIdeal.main_arg1) = m ((c.tc : Thread Cert.ProductFfnDownIdeal.nD Cert.ProductFfnDownIdeal.τ).loc Cert.ProductFfnDownIdeal.main_arg1)
          ∧ r.2.mem ((c.tc : Thread Cert.ProductFfnDownIdeal.nD Cert.ProductFfnDownIdeal.τ).loc Cert.ProductFfnDownIdeal.main_arg2) = m ((c.tc : Thread Cert.ProductFfnDownIdeal.nD Cert.ProductFfnDownIdeal.τ).loc Cert.ProductFfnDownIdeal.main_arg2))
      ∧ θ_run (Cert.ProductFfnDownRefIdeal.defs (F := Ideal)) (onTc (τ := Cert.ProductFfnDownRefIdeal.τ) (Cert.ProductFfnDownRefIdeal.main (F := Ideal))) ⟨m', fun _ => 0, g'⟩ (fun r => ∀ c : Dev Cert.ProductFfnDownRefIdeal.nD,
          r.2.mem ((c.tc : Thread Cert.ProductFfnDownRefIdeal.nD Cert.ProductFfnDownRefIdeal.τ).loc Cert.ProductFfnDownRefIdeal.main_v3) = v0 c
          ∧ r.2.mem ((c.tc : Thread Cert.ProductFfnDownRefIdeal.nD Cert.ProductFfnDownRefIdeal.τ).loc Cert.ProductFfnDownRefIdeal.main_arg0) = m' ((c.tc : Thread Cert.ProductFfnDownRefIdeal.nD Cert.ProductFfnDownRefIdeal.τ).loc Cert.ProductFfnDownRefIdeal.main_arg0)
          ∧ r.2.mem ((c.tc : Thread Cert.ProductFfnDownRefIdeal.nD Cert.ProductFfnDownRefIdeal.τ).loc Cert.ProductFfnDownRefIdeal.main_arg1) = m' ((c.tc : Thread Cert.ProductFfnDownRefIdeal.nD Cert.ProductFfnDownRefIdeal.τ).loc Cert.ProductFfnDownRefIdeal.main_arg1)
          ∧ r.2.mem ((c.tc : Thread Cert.ProductFfnDownRefIdeal.nD Cert.ProductFfnDownRefIdeal.τ).loc Cert.ProductFfnDownRefIdeal.main_arg2) = m' ((c.tc : Thread Cert.ProductFfnDownRefIdeal.nD Cert.ProductFfnDownRefIdeal.τ).loc Cert.ProductFfnDownRefIdeal.main_arg2))

def preserves_ProductFfnDact_ProductFfnDactIdeal : Prop :=
  True

def algebraic_ProductFfnDactIdeal_ProductFfnDactRefIdeal [hProductFfnDactIdeal : Cert.ProductFfnDactIdeal.Facts] [hProductFfnDactRefIdeal : Cert.ProductFfnDactRefIdeal.Facts] : Prop :=
  ∀ (m : (ℓ : Loc Cert.ProductFfnDactIdeal.nD Cert.ProductFfnDactIdeal.τ Cert.ProductFfnDactIdeal.sig) → Buf (Elt Ideal) ℓ) (g : Dev Cert.ProductFfnDactIdeal.nD → PrngReg)
    (m' : (ℓ : Loc Cert.ProductFfnDactRefIdeal.nD Cert.ProductFfnDactRefIdeal.τ Cert.ProductFfnDactRefIdeal.sig) → Buf (Elt Ideal) ℓ) (g' : Dev Cert.ProductFfnDactRefIdeal.nD → PrngReg), Pre_ProductFfnDactIdeal m →
    (∀ c : Dev Cert.ProductFfnDactIdeal.nD,
      m' ((c.tc : Thread Cert.ProductFfnDactRefIdeal.nD Cert.ProductFfnDactRefIdeal.τ).loc Cert.ProductFfnDactRefIdeal.main_arg0) = m ((c.tc : Thread Cert.ProductFfnDactIdeal.nD Cert.ProductFfnDactIdeal.τ).loc Cert.ProductFfnDactIdeal.main_arg0)
      ∧ m' ((c.tc : Thread Cert.ProductFfnDactRefIdeal.nD Cert.ProductFfnDactRefIdeal.τ).loc Cert.ProductFfnDactRefIdeal.main_arg1) = m ((c.tc : Thread Cert.ProductFfnDactIdeal.nD Cert.ProductFfnDactIdeal.τ).loc Cert.ProductFfnDactIdeal.main_arg1)) →
    ∃ (v0 : (c : Dev Cert.ProductFfnDactIdeal.nD) → Buf (Elt Ideal) ((c.tc : Thread Cert.ProductFfnDactIdeal.nD Cert.ProductFfnDactIdeal.τ).loc Cert.ProductFfnDactIdeal.main_v0)),
      θ_run (Cert.ProductFfnDactIdeal.defs (F := Ideal)) (onTc (τ := Cert.ProductFfnDactIdeal.τ) (Cert.ProductFfnDactIdeal.main (F := Ideal))) ⟨m, fun _ => 0, g⟩ (fun r => ∀ c : Dev Cert.ProductFfnDactIdeal.nD,
          r.2.mem ((c.tc : Thread Cert.ProductFfnDactIdeal.nD Cert.ProductFfnDactIdeal.τ).loc Cert.ProductFfnDactIdeal.main_v0) = v0 c
          ∧ r.2.mem ((c.tc : Thread Cert.ProductFfnDactIdeal.nD Cert.ProductFfnDactIdeal.τ).loc Cert.ProductFfnDactIdeal.main_arg0) = m ((c.tc : Thread Cert.ProductFfnDactIdeal.nD Cert.ProductFfnDactIdeal.τ).loc Cert.ProductFfnDactIdeal.main_arg0)
          ∧ r.2.mem ((c.tc : Thread Cert.ProductFfnDactIdeal.nD Cert.ProductFfnDactIdeal.τ).loc Cert.ProductFfnDactIdeal.main_arg1) = m ((c.tc : Thread Cert.ProductFfnDactIdeal.nD Cert.ProductFfnDactIdeal.τ).loc Cert.ProductFfnDactIdeal.main_arg1))
      ∧ θ_run (Cert.ProductFfnDactRefIdeal.defs (F := Ideal)) (onTc (τ := Cert.ProductFfnDactRefIdeal.τ) (Cert.ProductFfnDactRefIdeal.main (F := Ideal))) ⟨m', fun _ => 0, g'⟩ (fun r => ∀ c : Dev Cert.ProductFfnDactRefIdeal.nD,
          r.2.mem ((c.tc : Thread Cert.ProductFfnDactRefIdeal.nD Cert.ProductFfnDactRefIdeal.τ).loc Cert.ProductFfnDactRefIdeal.main_v1) = v0 c
          ∧ r.2.mem ((c.tc : Thread Cert.ProductFfnDactRefIdeal.nD Cert.ProductFfnDactRefIdeal.τ).loc Cert.ProductFfnDactRefIdeal.main_arg0) = m' ((c.tc : Thread Cert.ProductFfnDactRefIdeal.nD Cert.ProductFfnDactRefIdeal.τ).loc Cert.ProductFfnDactRefIdeal.main_arg0)
          ∧ r.2.mem ((c.tc : Thread Cert.ProductFfnDactRefIdeal.nD Cert.ProductFfnDactRefIdeal.τ).loc Cert.ProductFfnDactRefIdeal.main_arg1) = m' ((c.tc : Thread Cert.ProductFfnDactRefIdeal.nD Cert.ProductFfnDactRefIdeal.τ).loc Cert.ProductFfnDactRefIdeal.main_arg1))

def preserves_ProductFfnGdown_ProductFfnGdownIdeal : Prop :=
  True

def algebraic_ProductFfnGdownIdeal_ProductFfnGdownRefIdeal [hProductFfnGdownIdeal : Cert.ProductFfnGdownIdeal.Facts] [hProductFfnGdownRefIdeal : Cert.ProductFfnGdownRefIdeal.Facts] : Prop :=
  ∀ (m : (ℓ : Loc Cert.ProductFfnGdownIdeal.nD Cert.ProductFfnGdownIdeal.τ Cert.ProductFfnGdownIdeal.sig) → Buf (Elt Ideal) ℓ) (g : Dev Cert.ProductFfnGdownIdeal.nD → PrngReg)
    (m' : (ℓ : Loc Cert.ProductFfnGdownRefIdeal.nD Cert.ProductFfnGdownRefIdeal.τ Cert.ProductFfnGdownRefIdeal.sig) → Buf (Elt Ideal) ℓ) (g' : Dev Cert.ProductFfnGdownRefIdeal.nD → PrngReg), Pre_ProductFfnGdownIdeal m →
    (∀ c : Dev Cert.ProductFfnGdownIdeal.nD,
      m' ((c.tc : Thread Cert.ProductFfnGdownRefIdeal.nD Cert.ProductFfnGdownRefIdeal.τ).loc Cert.ProductFfnGdownRefIdeal.main_arg0) = m ((c.tc : Thread Cert.ProductFfnGdownIdeal.nD Cert.ProductFfnGdownIdeal.τ).loc Cert.ProductFfnGdownIdeal.main_arg0)
      ∧ m' ((c.tc : Thread Cert.ProductFfnGdownRefIdeal.nD Cert.ProductFfnGdownRefIdeal.τ).loc Cert.ProductFfnGdownRefIdeal.main_arg1) = m ((c.tc : Thread Cert.ProductFfnGdownIdeal.nD Cert.ProductFfnGdownIdeal.τ).loc Cert.ProductFfnGdownIdeal.main_arg1)) →
    ∃ (v0 : (c : Dev Cert.ProductFfnGdownIdeal.nD) → Buf (Elt Ideal) ((c.tc : Thread Cert.ProductFfnGdownIdeal.nD Cert.ProductFfnGdownIdeal.τ).loc Cert.ProductFfnGdownIdeal.main_v0)),
      θ_run (Cert.ProductFfnGdownIdeal.defs (F := Ideal)) (onTc (τ := Cert.ProductFfnGdownIdeal.τ) (Cert.ProductFfnGdownIdeal.main (F := Ideal))) ⟨m, fun _ => 0, g⟩ (fun r => ∀ c : Dev Cert.ProductFfnGdownIdeal.nD,
          r.2.mem ((c.tc : Thread Cert.ProductFfnGdownIdeal.nD Cert.ProductFfnGdownIdeal.τ).loc Cert.ProductFfnGdownIdeal.main_v0) = v0 c
          ∧ r.2.mem ((c.tc : Thread Cert.ProductFfnGdownIdeal.nD Cert.ProductFfnGdownIdeal.τ).loc Cert.ProductFfnGdownIdeal.main_arg0) = m ((c.tc : Thread Cert.ProductFfnGdownIdeal.nD Cert.ProductFfnGdownIdeal.τ).loc Cert.ProductFfnGdownIdeal.main_arg0)
          ∧ r.2.mem ((c.tc : Thread Cert.ProductFfnGdownIdeal.nD Cert.ProductFfnGdownIdeal.τ).loc Cert.ProductFfnGdownIdeal.main_arg1) = m ((c.tc : Thread Cert.ProductFfnGdownIdeal.nD Cert.ProductFfnGdownIdeal.τ).loc Cert.ProductFfnGdownIdeal.main_arg1))
      ∧ θ_run (Cert.ProductFfnGdownRefIdeal.defs (F := Ideal)) (onTc (τ := Cert.ProductFfnGdownRefIdeal.τ) (Cert.ProductFfnGdownRefIdeal.main (F := Ideal))) ⟨m', fun _ => 0, g'⟩ (fun r => ∀ c : Dev Cert.ProductFfnGdownRefIdeal.nD,
          r.2.mem ((c.tc : Thread Cert.ProductFfnGdownRefIdeal.nD Cert.ProductFfnGdownRefIdeal.τ).loc Cert.ProductFfnGdownRefIdeal.main_v2) = v0 c
          ∧ r.2.mem ((c.tc : Thread Cert.ProductFfnGdownRefIdeal.nD Cert.ProductFfnGdownRefIdeal.τ).loc Cert.ProductFfnGdownRefIdeal.main_arg0) = m' ((c.tc : Thread Cert.ProductFfnGdownRefIdeal.nD Cert.ProductFfnGdownRefIdeal.τ).loc Cert.ProductFfnGdownRefIdeal.main_arg0)
          ∧ r.2.mem ((c.tc : Thread Cert.ProductFfnGdownRefIdeal.nD Cert.ProductFfnGdownRefIdeal.τ).loc Cert.ProductFfnGdownRefIdeal.main_arg1) = m' ((c.tc : Thread Cert.ProductFfnGdownRefIdeal.nD Cert.ProductFfnGdownRefIdeal.τ).loc Cert.ProductFfnGdownRefIdeal.main_arg1))

def preserves_ProductFfnGgu_ProductFfnGguIdeal : Prop :=
  True

def algebraic_ProductFfnGguIdeal_ProductFfnGguRefIdeal [hProductFfnGguIdeal : Cert.ProductFfnGguIdeal.Facts] [hProductFfnGguRefIdeal : Cert.ProductFfnGguRefIdeal.Facts] : Prop :=
  ∀ (m : (ℓ : Loc Cert.ProductFfnGguIdeal.nD Cert.ProductFfnGguIdeal.τ Cert.ProductFfnGguIdeal.sig) → Buf (Elt Ideal) ℓ) (g : Dev Cert.ProductFfnGguIdeal.nD → PrngReg)
    (m' : (ℓ : Loc Cert.ProductFfnGguRefIdeal.nD Cert.ProductFfnGguRefIdeal.τ Cert.ProductFfnGguRefIdeal.sig) → Buf (Elt Ideal) ℓ) (g' : Dev Cert.ProductFfnGguRefIdeal.nD → PrngReg), Pre_ProductFfnGguIdeal m →
    (∀ c : Dev Cert.ProductFfnGguIdeal.nD,
      m' ((c.tc : Thread Cert.ProductFfnGguRefIdeal.nD Cert.ProductFfnGguRefIdeal.τ).loc Cert.ProductFfnGguRefIdeal.main_arg0) = m ((c.tc : Thread Cert.ProductFfnGguIdeal.nD Cert.ProductFfnGguIdeal.τ).loc Cert.ProductFfnGguIdeal.main_arg0)
      ∧ m' ((c.tc : Thread Cert.ProductFfnGguRefIdeal.nD Cert.ProductFfnGguRefIdeal.τ).loc Cert.ProductFfnGguRefIdeal.main_arg1) = m ((c.tc : Thread Cert.ProductFfnGguIdeal.nD Cert.ProductFfnGguIdeal.τ).loc Cert.ProductFfnGguIdeal.main_arg1)) →
    ∃ (v0 : (c : Dev Cert.ProductFfnGguIdeal.nD) → Buf (Elt Ideal) ((c.tc : Thread Cert.ProductFfnGguIdeal.nD Cert.ProductFfnGguIdeal.τ).loc Cert.ProductFfnGguIdeal.main_v0)),
      θ_run (Cert.ProductFfnGguIdeal.defs (F := Ideal)) (onTc (τ := Cert.ProductFfnGguIdeal.τ) (Cert.ProductFfnGguIdeal.main (F := Ideal))) ⟨m, fun _ => 0, g⟩ (fun r => ∀ c : Dev Cert.ProductFfnGguIdeal.nD,
          r.2.mem ((c.tc : Thread Cert.ProductFfnGguIdeal.nD Cert.ProductFfnGguIdeal.τ).loc Cert.ProductFfnGguIdeal.main_v0) = v0 c
          ∧ r.2.mem ((c.tc : Thread Cert.ProductFfnGguIdeal.nD Cert.ProductFfnGguIdeal.τ).loc Cert.ProductFfnGguIdeal.main_arg0) = m ((c.tc : Thread Cert.ProductFfnGguIdeal.nD Cert.ProductFfnGguIdeal.τ).loc Cert.ProductFfnGguIdeal.main_arg0)
          ∧ r.2.mem ((c.tc : Thread Cert.ProductFfnGguIdeal.nD Cert.ProductFfnGguIdeal.τ).loc Cert.ProductFfnGguIdeal.main_arg1) = m ((c.tc : Thread Cert.ProductFfnGguIdeal.nD Cert.ProductFfnGguIdeal.τ).loc Cert.ProductFfnGguIdeal.main_arg1))
      ∧ θ_run (Cert.ProductFfnGguRefIdeal.defs (F := Ideal)) (onTc (τ := Cert.ProductFfnGguRefIdeal.τ) (Cert.ProductFfnGguRefIdeal.main (F := Ideal))) ⟨m', fun _ => 0, g'⟩ (fun r => ∀ c : Dev Cert.ProductFfnGguRefIdeal.nD,
          r.2.mem ((c.tc : Thread Cert.ProductFfnGguRefIdeal.nD Cert.ProductFfnGguRefIdeal.τ).loc Cert.ProductFfnGguRefIdeal.main_v3) = v0 c
          ∧ r.2.mem ((c.tc : Thread Cert.ProductFfnGguRefIdeal.nD Cert.ProductFfnGguRefIdeal.τ).loc Cert.ProductFfnGguRefIdeal.main_arg0) = m' ((c.tc : Thread Cert.ProductFfnGguRefIdeal.nD Cert.ProductFfnGguRefIdeal.τ).loc Cert.ProductFfnGguRefIdeal.main_arg0)
          ∧ r.2.mem ((c.tc : Thread Cert.ProductFfnGguRefIdeal.nD Cert.ProductFfnGguRefIdeal.τ).loc Cert.ProductFfnGguRefIdeal.main_arg1) = m' ((c.tc : Thread Cert.ProductFfnGguRefIdeal.nD Cert.ProductFfnGguRefIdeal.τ).loc Cert.ProductFfnGguRefIdeal.main_arg1))

def preserves_ProductFfnDh_ProductFfnDhIdeal : Prop :=
  True

def algebraic_ProductFfnDhIdeal_ProductFfnDhRefIdeal [hProductFfnDhIdeal : Cert.ProductFfnDhIdeal.Facts] [hProductFfnDhRefIdeal : Cert.ProductFfnDhRefIdeal.Facts] : Prop :=
  ∀ (m : (ℓ : Loc Cert.ProductFfnDhIdeal.nD Cert.ProductFfnDhIdeal.τ Cert.ProductFfnDhIdeal.sig) → Buf (Elt Ideal) ℓ) (g : Dev Cert.ProductFfnDhIdeal.nD → PrngReg)
    (m' : (ℓ : Loc Cert.ProductFfnDhRefIdeal.nD Cert.ProductFfnDhRefIdeal.τ Cert.ProductFfnDhRefIdeal.sig) → Buf (Elt Ideal) ℓ) (g' : Dev Cert.ProductFfnDhRefIdeal.nD → PrngReg), Pre_ProductFfnDhIdeal m →
    (∀ c : Dev Cert.ProductFfnDhIdeal.nD,
      m' ((c.tc : Thread Cert.ProductFfnDhRefIdeal.nD Cert.ProductFfnDhRefIdeal.τ).loc Cert.ProductFfnDhRefIdeal.main_arg0) = m ((c.tc : Thread Cert.ProductFfnDhIdeal.nD Cert.ProductFfnDhIdeal.τ).loc Cert.ProductFfnDhIdeal.main_arg0)
      ∧ m' ((c.tc : Thread Cert.ProductFfnDhRefIdeal.nD Cert.ProductFfnDhRefIdeal.τ).loc Cert.ProductFfnDhRefIdeal.main_arg1) = m ((c.tc : Thread Cert.ProductFfnDhIdeal.nD Cert.ProductFfnDhIdeal.τ).loc Cert.ProductFfnDhIdeal.main_arg1)) →
    ∃ (v0 : (c : Dev Cert.ProductFfnDhIdeal.nD) → Buf (Elt Ideal) ((c.tc : Thread Cert.ProductFfnDhIdeal.nD Cert.ProductFfnDhIdeal.τ).loc Cert.ProductFfnDhIdeal.main_v0)),
      θ_run (Cert.ProductFfnDhIdeal.defs (F := Ideal)) (onTc (τ := Cert.ProductFfnDhIdeal.τ) (Cert.ProductFfnDhIdeal.main (F := Ideal))) ⟨m, fun _ => 0, g⟩ (fun r => ∀ c : Dev Cert.ProductFfnDhIdeal.nD,
          r.2.mem ((c.tc : Thread Cert.ProductFfnDhIdeal.nD Cert.ProductFfnDhIdeal.τ).loc Cert.ProductFfnDhIdeal.main_v0) = v0 c
          ∧ r.2.mem ((c.tc : Thread Cert.ProductFfnDhIdeal.nD Cert.ProductFfnDhIdeal.τ).loc Cert.ProductFfnDhIdeal.main_arg0) = m ((c.tc : Thread Cert.ProductFfnDhIdeal.nD Cert.ProductFfnDhIdeal.τ).loc Cert.ProductFfnDhIdeal.main_arg0)
          ∧ r.2.mem ((c.tc : Thread Cert.ProductFfnDhIdeal.nD Cert.ProductFfnDhIdeal.τ).loc Cert.ProductFfnDhIdeal.main_arg1) = m ((c.tc : Thread Cert.ProductFfnDhIdeal.nD Cert.ProductFfnDhIdeal.τ).loc Cert.ProductFfnDhIdeal.main_arg1))
      ∧ θ_run (Cert.ProductFfnDhRefIdeal.defs (F := Ideal)) (onTc (τ := Cert.ProductFfnDhRefIdeal.τ) (Cert.ProductFfnDhRefIdeal.main (F := Ideal))) ⟨m', fun _ => 0, g'⟩ (fun r => ∀ c : Dev Cert.ProductFfnDhRefIdeal.nD,
          r.2.mem ((c.tc : Thread Cert.ProductFfnDhRefIdeal.nD Cert.ProductFfnDhRefIdeal.τ).loc Cert.ProductFfnDhRefIdeal.main_v2) = v0 c
          ∧ r.2.mem ((c.tc : Thread Cert.ProductFfnDhRefIdeal.nD Cert.ProductFfnDhRefIdeal.τ).loc Cert.ProductFfnDhRefIdeal.main_arg0) = m' ((c.tc : Thread Cert.ProductFfnDhRefIdeal.nD Cert.ProductFfnDhRefIdeal.τ).loc Cert.ProductFfnDhRefIdeal.main_arg0)
          ∧ r.2.mem ((c.tc : Thread Cert.ProductFfnDhRefIdeal.nD Cert.ProductFfnDhRefIdeal.τ).loc Cert.ProductFfnDhRefIdeal.main_arg1) = m' ((c.tc : Thread Cert.ProductFfnDhRefIdeal.nD Cert.ProductFfnDhRefIdeal.τ).loc Cert.ProductFfnDhRefIdeal.main_arg1))

def preserves_ProductConvOut_ProductConvOutIdeal : Prop :=
  True

def algebraic_ProductConvOutIdeal_ProductConvOutRefIdeal [hProductConvOutIdeal : Cert.ProductConvOutIdeal.Facts] [hProductConvOutRefIdeal : Cert.ProductConvOutRefIdeal.Facts] : Prop :=
  ∀ (m : (ℓ : Loc Cert.ProductConvOutIdeal.nD Cert.ProductConvOutIdeal.τ Cert.ProductConvOutIdeal.sig) → Buf (Elt Ideal) ℓ) (g : Dev Cert.ProductConvOutIdeal.nD → PrngReg)
    (m' : (ℓ : Loc Cert.ProductConvOutRefIdeal.nD Cert.ProductConvOutRefIdeal.τ Cert.ProductConvOutRefIdeal.sig) → Buf (Elt Ideal) ℓ) (g' : Dev Cert.ProductConvOutRefIdeal.nD → PrngReg), Pre_ProductConvOutIdeal m →
    (∀ c : Dev Cert.ProductConvOutIdeal.nD,
      m' ((c.tc : Thread Cert.ProductConvOutRefIdeal.nD Cert.ProductConvOutRefIdeal.τ).loc Cert.ProductConvOutRefIdeal.main_arg0) = m ((c.tc : Thread Cert.ProductConvOutIdeal.nD Cert.ProductConvOutIdeal.τ).loc Cert.ProductConvOutIdeal.main_arg0)
      ∧ m' ((c.tc : Thread Cert.ProductConvOutRefIdeal.nD Cert.ProductConvOutRefIdeal.τ).loc Cert.ProductConvOutRefIdeal.main_arg1) = m ((c.tc : Thread Cert.ProductConvOutIdeal.nD Cert.ProductConvOutIdeal.τ).loc Cert.ProductConvOutIdeal.main_arg1)
      ∧ m' ((c.tc : Thread Cert.ProductConvOutRefIdeal.nD Cert.ProductConvOutRefIdeal.τ).loc Cert.ProductConvOutRefIdeal.main_arg2) = m ((c.tc : Thread Cert.ProductConvOutIdeal.nD Cert.ProductConvOutIdeal.τ).loc Cert.ProductConvOutIdeal.main_arg2)) →
    ∃ (v0 : (c : Dev Cert.ProductConvOutIdeal.nD) → Buf (Elt Ideal) ((c.tc : Thread Cert.ProductConvOutIdeal.nD Cert.ProductConvOutIdeal.τ).loc Cert.ProductConvOutIdeal.main_v0)),
      θ_run (Cert.ProductConvOutIdeal.defs (F := Ideal)) (onTc (τ := Cert.ProductConvOutIdeal.τ) (Cert.ProductConvOutIdeal.main (F := Ideal))) ⟨m, fun _ => 0, g⟩ (fun r => ∀ c : Dev Cert.ProductConvOutIdeal.nD,
          r.2.mem ((c.tc : Thread Cert.ProductConvOutIdeal.nD Cert.ProductConvOutIdeal.τ).loc Cert.ProductConvOutIdeal.main_v0) = v0 c
          ∧ r.2.mem ((c.tc : Thread Cert.ProductConvOutIdeal.nD Cert.ProductConvOutIdeal.τ).loc Cert.ProductConvOutIdeal.main_arg0) = m ((c.tc : Thread Cert.ProductConvOutIdeal.nD Cert.ProductConvOutIdeal.τ).loc Cert.ProductConvOutIdeal.main_arg0)
          ∧ r.2.mem ((c.tc : Thread Cert.ProductConvOutIdeal.nD Cert.ProductConvOutIdeal.τ).loc Cert.ProductConvOutIdeal.main_arg1) = m ((c.tc : Thread Cert.ProductConvOutIdeal.nD Cert.ProductConvOutIdeal.τ).loc Cert.ProductConvOutIdeal.main_arg1)
          ∧ r.2.mem ((c.tc : Thread Cert.ProductConvOutIdeal.nD Cert.ProductConvOutIdeal.τ).loc Cert.ProductConvOutIdeal.main_arg2) = m ((c.tc : Thread Cert.ProductConvOutIdeal.nD Cert.ProductConvOutIdeal.τ).loc Cert.ProductConvOutIdeal.main_arg2))
      ∧ θ_run (Cert.ProductConvOutRefIdeal.defs (F := Ideal)) (onTc (τ := Cert.ProductConvOutRefIdeal.τ) (Cert.ProductConvOutRefIdeal.main (F := Ideal))) ⟨m', fun _ => 0, g'⟩ (fun r => ∀ c : Dev Cert.ProductConvOutRefIdeal.nD,
          r.2.mem ((c.tc : Thread Cert.ProductConvOutRefIdeal.nD Cert.ProductConvOutRefIdeal.τ).loc Cert.ProductConvOutRefIdeal.main_v3) = v0 c
          ∧ r.2.mem ((c.tc : Thread Cert.ProductConvOutRefIdeal.nD Cert.ProductConvOutRefIdeal.τ).loc Cert.ProductConvOutRefIdeal.main_arg0) = m' ((c.tc : Thread Cert.ProductConvOutRefIdeal.nD Cert.ProductConvOutRefIdeal.τ).loc Cert.ProductConvOutRefIdeal.main_arg0)
          ∧ r.2.mem ((c.tc : Thread Cert.ProductConvOutRefIdeal.nD Cert.ProductConvOutRefIdeal.τ).loc Cert.ProductConvOutRefIdeal.main_arg1) = m' ((c.tc : Thread Cert.ProductConvOutRefIdeal.nD Cert.ProductConvOutRefIdeal.τ).loc Cert.ProductConvOutRefIdeal.main_arg1)
          ∧ r.2.mem ((c.tc : Thread Cert.ProductConvOutRefIdeal.nD Cert.ProductConvOutRefIdeal.τ).loc Cert.ProductConvOutRefIdeal.main_arg2) = m' ((c.tc : Thread Cert.ProductConvOutRefIdeal.nD Cert.ProductConvOutRefIdeal.τ).loc Cert.ProductConvOutRefIdeal.main_arg2))

def preserves_ProductConvDz_ProductConvDzIdeal : Prop :=
  True

def algebraic_ProductConvDzIdeal_ProductConvDzRefIdeal [hProductConvDzIdeal : Cert.ProductConvDzIdeal.Facts] [hProductConvDzRefIdeal : Cert.ProductConvDzRefIdeal.Facts] : Prop :=
  ∀ (m : (ℓ : Loc Cert.ProductConvDzIdeal.nD Cert.ProductConvDzIdeal.τ Cert.ProductConvDzIdeal.sig) → Buf (Elt Ideal) ℓ) (g : Dev Cert.ProductConvDzIdeal.nD → PrngReg)
    (m' : (ℓ : Loc Cert.ProductConvDzRefIdeal.nD Cert.ProductConvDzRefIdeal.τ Cert.ProductConvDzRefIdeal.sig) → Buf (Elt Ideal) ℓ) (g' : Dev Cert.ProductConvDzRefIdeal.nD → PrngReg), Pre_ProductConvDzIdeal m →
    (∀ c : Dev Cert.ProductConvDzIdeal.nD,
      m' ((c.tc : Thread Cert.ProductConvDzRefIdeal.nD Cert.ProductConvDzRefIdeal.τ).loc Cert.ProductConvDzRefIdeal.main_arg0) = m ((c.tc : Thread Cert.ProductConvDzIdeal.nD Cert.ProductConvDzIdeal.τ).loc Cert.ProductConvDzIdeal.main_arg0)
      ∧ m' ((c.tc : Thread Cert.ProductConvDzRefIdeal.nD Cert.ProductConvDzRefIdeal.τ).loc Cert.ProductConvDzRefIdeal.main_arg1) = m ((c.tc : Thread Cert.ProductConvDzIdeal.nD Cert.ProductConvDzIdeal.τ).loc Cert.ProductConvDzIdeal.main_arg1)) →
    ∃ (v0 : (c : Dev Cert.ProductConvDzIdeal.nD) → Buf (Elt Ideal) ((c.tc : Thread Cert.ProductConvDzIdeal.nD Cert.ProductConvDzIdeal.τ).loc Cert.ProductConvDzIdeal.main_v0)),
      θ_run (Cert.ProductConvDzIdeal.defs (F := Ideal)) (onTc (τ := Cert.ProductConvDzIdeal.τ) (Cert.ProductConvDzIdeal.main (F := Ideal))) ⟨m, fun _ => 0, g⟩ (fun r => ∀ c : Dev Cert.ProductConvDzIdeal.nD,
          r.2.mem ((c.tc : Thread Cert.ProductConvDzIdeal.nD Cert.ProductConvDzIdeal.τ).loc Cert.ProductConvDzIdeal.main_v0) = v0 c
          ∧ r.2.mem ((c.tc : Thread Cert.ProductConvDzIdeal.nD Cert.ProductConvDzIdeal.τ).loc Cert.ProductConvDzIdeal.main_arg0) = m ((c.tc : Thread Cert.ProductConvDzIdeal.nD Cert.ProductConvDzIdeal.τ).loc Cert.ProductConvDzIdeal.main_arg0)
          ∧ r.2.mem ((c.tc : Thread Cert.ProductConvDzIdeal.nD Cert.ProductConvDzIdeal.τ).loc Cert.ProductConvDzIdeal.main_arg1) = m ((c.tc : Thread Cert.ProductConvDzIdeal.nD Cert.ProductConvDzIdeal.τ).loc Cert.ProductConvDzIdeal.main_arg1))
      ∧ θ_run (Cert.ProductConvDzRefIdeal.defs (F := Ideal)) (onTc (τ := Cert.ProductConvDzRefIdeal.τ) (Cert.ProductConvDzRefIdeal.main (F := Ideal))) ⟨m', fun _ => 0, g'⟩ (fun r => ∀ c : Dev Cert.ProductConvDzRefIdeal.nD,
          r.2.mem ((c.tc : Thread Cert.ProductConvDzRefIdeal.nD Cert.ProductConvDzRefIdeal.τ).loc Cert.ProductConvDzRefIdeal.main_v1) = v0 c
          ∧ r.2.mem ((c.tc : Thread Cert.ProductConvDzRefIdeal.nD Cert.ProductConvDzRefIdeal.τ).loc Cert.ProductConvDzRefIdeal.main_arg0) = m' ((c.tc : Thread Cert.ProductConvDzRefIdeal.nD Cert.ProductConvDzRefIdeal.τ).loc Cert.ProductConvDzRefIdeal.main_arg0)
          ∧ r.2.mem ((c.tc : Thread Cert.ProductConvDzRefIdeal.nD Cert.ProductConvDzRefIdeal.τ).loc Cert.ProductConvDzRefIdeal.main_arg1) = m' ((c.tc : Thread Cert.ProductConvDzRefIdeal.nD Cert.ProductConvDzRefIdeal.τ).loc Cert.ProductConvDzRefIdeal.main_arg1))

def preserves_ProductConvGout_ProductConvGoutIdeal : Prop :=
  True

def algebraic_ProductConvGoutIdeal_ProductConvGoutRefIdeal [hProductConvGoutIdeal : Cert.ProductConvGoutIdeal.Facts] [hProductConvGoutRefIdeal : Cert.ProductConvGoutRefIdeal.Facts] : Prop :=
  ∀ (m : (ℓ : Loc Cert.ProductConvGoutIdeal.nD Cert.ProductConvGoutIdeal.τ Cert.ProductConvGoutIdeal.sig) → Buf (Elt Ideal) ℓ) (g : Dev Cert.ProductConvGoutIdeal.nD → PrngReg)
    (m' : (ℓ : Loc Cert.ProductConvGoutRefIdeal.nD Cert.ProductConvGoutRefIdeal.τ Cert.ProductConvGoutRefIdeal.sig) → Buf (Elt Ideal) ℓ) (g' : Dev Cert.ProductConvGoutRefIdeal.nD → PrngReg), Pre_ProductConvGoutIdeal m →
    (∀ c : Dev Cert.ProductConvGoutIdeal.nD,
      m' ((c.tc : Thread Cert.ProductConvGoutRefIdeal.nD Cert.ProductConvGoutRefIdeal.τ).loc Cert.ProductConvGoutRefIdeal.main_arg0) = m ((c.tc : Thread Cert.ProductConvGoutIdeal.nD Cert.ProductConvGoutIdeal.τ).loc Cert.ProductConvGoutIdeal.main_arg0)
      ∧ m' ((c.tc : Thread Cert.ProductConvGoutRefIdeal.nD Cert.ProductConvGoutRefIdeal.τ).loc Cert.ProductConvGoutRefIdeal.main_arg1) = m ((c.tc : Thread Cert.ProductConvGoutIdeal.nD Cert.ProductConvGoutIdeal.τ).loc Cert.ProductConvGoutIdeal.main_arg1)) →
    ∃ (v0 : (c : Dev Cert.ProductConvGoutIdeal.nD) → Buf (Elt Ideal) ((c.tc : Thread Cert.ProductConvGoutIdeal.nD Cert.ProductConvGoutIdeal.τ).loc Cert.ProductConvGoutIdeal.main_v0)),
      θ_run (Cert.ProductConvGoutIdeal.defs (F := Ideal)) (onTc (τ := Cert.ProductConvGoutIdeal.τ) (Cert.ProductConvGoutIdeal.main (F := Ideal))) ⟨m, fun _ => 0, g⟩ (fun r => ∀ c : Dev Cert.ProductConvGoutIdeal.nD,
          r.2.mem ((c.tc : Thread Cert.ProductConvGoutIdeal.nD Cert.ProductConvGoutIdeal.τ).loc Cert.ProductConvGoutIdeal.main_v0) = v0 c
          ∧ r.2.mem ((c.tc : Thread Cert.ProductConvGoutIdeal.nD Cert.ProductConvGoutIdeal.τ).loc Cert.ProductConvGoutIdeal.main_arg0) = m ((c.tc : Thread Cert.ProductConvGoutIdeal.nD Cert.ProductConvGoutIdeal.τ).loc Cert.ProductConvGoutIdeal.main_arg0)
          ∧ r.2.mem ((c.tc : Thread Cert.ProductConvGoutIdeal.nD Cert.ProductConvGoutIdeal.τ).loc Cert.ProductConvGoutIdeal.main_arg1) = m ((c.tc : Thread Cert.ProductConvGoutIdeal.nD Cert.ProductConvGoutIdeal.τ).loc Cert.ProductConvGoutIdeal.main_arg1))
      ∧ θ_run (Cert.ProductConvGoutRefIdeal.defs (F := Ideal)) (onTc (τ := Cert.ProductConvGoutRefIdeal.τ) (Cert.ProductConvGoutRefIdeal.main (F := Ideal))) ⟨m', fun _ => 0, g'⟩ (fun r => ∀ c : Dev Cert.ProductConvGoutRefIdeal.nD,
          r.2.mem ((c.tc : Thread Cert.ProductConvGoutRefIdeal.nD Cert.ProductConvGoutRefIdeal.τ).loc Cert.ProductConvGoutRefIdeal.main_v2) = v0 c
          ∧ r.2.mem ((c.tc : Thread Cert.ProductConvGoutRefIdeal.nD Cert.ProductConvGoutRefIdeal.τ).loc Cert.ProductConvGoutRefIdeal.main_arg0) = m' ((c.tc : Thread Cert.ProductConvGoutRefIdeal.nD Cert.ProductConvGoutRefIdeal.τ).loc Cert.ProductConvGoutRefIdeal.main_arg0)
          ∧ r.2.mem ((c.tc : Thread Cert.ProductConvGoutRefIdeal.nD Cert.ProductConvGoutRefIdeal.τ).loc Cert.ProductConvGoutRefIdeal.main_arg1) = m' ((c.tc : Thread Cert.ProductConvGoutRefIdeal.nD Cert.ProductConvGoutRefIdeal.τ).loc Cert.ProductConvGoutRefIdeal.main_arg1))

def preserves_ProductFoxIn_ProductFoxInIdeal : Prop :=
  True

def algebraic_ProductFoxInIdeal_ProductFoxInRefIdeal [hProductFoxInIdeal : Cert.ProductFoxInIdeal.Facts] [hProductFoxInRefIdeal : Cert.ProductFoxInRefIdeal.Facts] : Prop :=
  ∀ (m : (ℓ : Loc Cert.ProductFoxInIdeal.nD Cert.ProductFoxInIdeal.τ Cert.ProductFoxInIdeal.sig) → Buf (Elt Ideal) ℓ) (g : Dev Cert.ProductFoxInIdeal.nD → PrngReg)
    (m' : (ℓ : Loc Cert.ProductFoxInRefIdeal.nD Cert.ProductFoxInRefIdeal.τ Cert.ProductFoxInRefIdeal.sig) → Buf (Elt Ideal) ℓ) (g' : Dev Cert.ProductFoxInRefIdeal.nD → PrngReg), Pre_ProductFoxInIdeal m →
    (∀ c : Dev Cert.ProductFoxInIdeal.nD,
      m' ((c.tc : Thread Cert.ProductFoxInRefIdeal.nD Cert.ProductFoxInRefIdeal.τ).loc Cert.ProductFoxInRefIdeal.main_arg0) = m ((c.tc : Thread Cert.ProductFoxInIdeal.nD Cert.ProductFoxInIdeal.τ).loc Cert.ProductFoxInIdeal.main_arg0)
      ∧ m' ((c.tc : Thread Cert.ProductFoxInRefIdeal.nD Cert.ProductFoxInRefIdeal.τ).loc Cert.ProductFoxInRefIdeal.main_arg1) = m ((c.tc : Thread Cert.ProductFoxInIdeal.nD Cert.ProductFoxInIdeal.τ).loc Cert.ProductFoxInIdeal.main_arg1)) →
    ∃ (v0 : (c : Dev Cert.ProductFoxInIdeal.nD) → Buf (Elt Ideal) ((c.tc : Thread Cert.ProductFoxInIdeal.nD Cert.ProductFoxInIdeal.τ).loc Cert.ProductFoxInIdeal.main_v0)),
      θ_run (Cert.ProductFoxInIdeal.defs (F := Ideal)) (onTc (τ := Cert.ProductFoxInIdeal.τ) (Cert.ProductFoxInIdeal.main (F := Ideal))) ⟨m, fun _ => 0, g⟩ (fun r => ∀ c : Dev Cert.ProductFoxInIdeal.nD,
          r.2.mem ((c.tc : Thread Cert.ProductFoxInIdeal.nD Cert.ProductFoxInIdeal.τ).loc Cert.ProductFoxInIdeal.main_v0) = v0 c
          ∧ r.2.mem ((c.tc : Thread Cert.ProductFoxInIdeal.nD Cert.ProductFoxInIdeal.τ).loc Cert.ProductFoxInIdeal.main_arg0) = m ((c.tc : Thread Cert.ProductFoxInIdeal.nD Cert.ProductFoxInIdeal.τ).loc Cert.ProductFoxInIdeal.main_arg0)
          ∧ r.2.mem ((c.tc : Thread Cert.ProductFoxInIdeal.nD Cert.ProductFoxInIdeal.τ).loc Cert.ProductFoxInIdeal.main_arg1) = m ((c.tc : Thread Cert.ProductFoxInIdeal.nD Cert.ProductFoxInIdeal.τ).loc Cert.ProductFoxInIdeal.main_arg1))
      ∧ θ_run (Cert.ProductFoxInRefIdeal.defs (F := Ideal)) (onTc (τ := Cert.ProductFoxInRefIdeal.τ) (Cert.ProductFoxInRefIdeal.main (F := Ideal))) ⟨m', fun _ => 0, g'⟩ (fun r => ∀ c : Dev Cert.ProductFoxInRefIdeal.nD,
          r.2.mem ((c.tc : Thread Cert.ProductFoxInRefIdeal.nD Cert.ProductFoxInRefIdeal.τ).loc Cert.ProductFoxInRefIdeal.main_v2) = v0 c
          ∧ r.2.mem ((c.tc : Thread Cert.ProductFoxInRefIdeal.nD Cert.ProductFoxInRefIdeal.τ).loc Cert.ProductFoxInRefIdeal.main_arg0) = m' ((c.tc : Thread Cert.ProductFoxInRefIdeal.nD Cert.ProductFoxInRefIdeal.τ).loc Cert.ProductFoxInRefIdeal.main_arg0)
          ∧ r.2.mem ((c.tc : Thread Cert.ProductFoxInRefIdeal.nD Cert.ProductFoxInRefIdeal.τ).loc Cert.ProductFoxInRefIdeal.main_arg1) = m' ((c.tc : Thread Cert.ProductFoxInRefIdeal.nD Cert.ProductFoxInRefIdeal.τ).loc Cert.ProductFoxInRefIdeal.main_arg1))

def preserves_ProductFoxOut_ProductFoxOutIdeal : Prop :=
  True

def algebraic_ProductFoxOutIdeal_ProductFoxOutRefIdeal [hProductFoxOutIdeal : Cert.ProductFoxOutIdeal.Facts] [hProductFoxOutRefIdeal : Cert.ProductFoxOutRefIdeal.Facts] : Prop :=
  ∀ (m : (ℓ : Loc Cert.ProductFoxOutIdeal.nD Cert.ProductFoxOutIdeal.τ Cert.ProductFoxOutIdeal.sig) → Buf (Elt Ideal) ℓ) (g : Dev Cert.ProductFoxOutIdeal.nD → PrngReg)
    (m' : (ℓ : Loc Cert.ProductFoxOutRefIdeal.nD Cert.ProductFoxOutRefIdeal.τ Cert.ProductFoxOutRefIdeal.sig) → Buf (Elt Ideal) ℓ) (g' : Dev Cert.ProductFoxOutRefIdeal.nD → PrngReg), Pre_ProductFoxOutIdeal m →
    (∀ c : Dev Cert.ProductFoxOutIdeal.nD,
      m' ((c.tc : Thread Cert.ProductFoxOutRefIdeal.nD Cert.ProductFoxOutRefIdeal.τ).loc Cert.ProductFoxOutRefIdeal.main_arg0) = m ((c.tc : Thread Cert.ProductFoxOutIdeal.nD Cert.ProductFoxOutIdeal.τ).loc Cert.ProductFoxOutIdeal.main_arg0)
      ∧ m' ((c.tc : Thread Cert.ProductFoxOutRefIdeal.nD Cert.ProductFoxOutRefIdeal.τ).loc Cert.ProductFoxOutRefIdeal.main_arg1) = m ((c.tc : Thread Cert.ProductFoxOutIdeal.nD Cert.ProductFoxOutIdeal.τ).loc Cert.ProductFoxOutIdeal.main_arg1)
      ∧ m' ((c.tc : Thread Cert.ProductFoxOutRefIdeal.nD Cert.ProductFoxOutRefIdeal.τ).loc Cert.ProductFoxOutRefIdeal.main_arg2) = m ((c.tc : Thread Cert.ProductFoxOutIdeal.nD Cert.ProductFoxOutIdeal.τ).loc Cert.ProductFoxOutIdeal.main_arg2)) →
    ∃ (v0 : (c : Dev Cert.ProductFoxOutIdeal.nD) → Buf (Elt Ideal) ((c.tc : Thread Cert.ProductFoxOutIdeal.nD Cert.ProductFoxOutIdeal.τ).loc Cert.ProductFoxOutIdeal.main_v0)),
      θ_run (Cert.ProductFoxOutIdeal.defs (F := Ideal)) (onTc (τ := Cert.ProductFoxOutIdeal.τ) (Cert.ProductFoxOutIdeal.main (F := Ideal))) ⟨m, fun _ => 0, g⟩ (fun r => ∀ c : Dev Cert.ProductFoxOutIdeal.nD,
          r.2.mem ((c.tc : Thread Cert.ProductFoxOutIdeal.nD Cert.ProductFoxOutIdeal.τ).loc Cert.ProductFoxOutIdeal.main_v0) = v0 c
          ∧ r.2.mem ((c.tc : Thread Cert.ProductFoxOutIdeal.nD Cert.ProductFoxOutIdeal.τ).loc Cert.ProductFoxOutIdeal.main_arg0) = m ((c.tc : Thread Cert.ProductFoxOutIdeal.nD Cert.ProductFoxOutIdeal.τ).loc Cert.ProductFoxOutIdeal.main_arg0)
          ∧ r.2.mem ((c.tc : Thread Cert.ProductFoxOutIdeal.nD Cert.ProductFoxOutIdeal.τ).loc Cert.ProductFoxOutIdeal.main_arg1) = m ((c.tc : Thread Cert.ProductFoxOutIdeal.nD Cert.ProductFoxOutIdeal.τ).loc Cert.ProductFoxOutIdeal.main_arg1)
          ∧ r.2.mem ((c.tc : Thread Cert.ProductFoxOutIdeal.nD Cert.ProductFoxOutIdeal.τ).loc Cert.ProductFoxOutIdeal.main_arg2) = m ((c.tc : Thread Cert.ProductFoxOutIdeal.nD Cert.ProductFoxOutIdeal.τ).loc Cert.ProductFoxOutIdeal.main_arg2))
      ∧ θ_run (Cert.ProductFoxOutRefIdeal.defs (F := Ideal)) (onTc (τ := Cert.ProductFoxOutRefIdeal.τ) (Cert.ProductFoxOutRefIdeal.main (F := Ideal))) ⟨m', fun _ => 0, g'⟩ (fun r => ∀ c : Dev Cert.ProductFoxOutRefIdeal.nD,
          r.2.mem ((c.tc : Thread Cert.ProductFoxOutRefIdeal.nD Cert.ProductFoxOutRefIdeal.τ).loc Cert.ProductFoxOutRefIdeal.main_v2) = v0 c
          ∧ r.2.mem ((c.tc : Thread Cert.ProductFoxOutRefIdeal.nD Cert.ProductFoxOutRefIdeal.τ).loc Cert.ProductFoxOutRefIdeal.main_arg0) = m' ((c.tc : Thread Cert.ProductFoxOutRefIdeal.nD Cert.ProductFoxOutRefIdeal.τ).loc Cert.ProductFoxOutRefIdeal.main_arg0)
          ∧ r.2.mem ((c.tc : Thread Cert.ProductFoxOutRefIdeal.nD Cert.ProductFoxOutRefIdeal.τ).loc Cert.ProductFoxOutRefIdeal.main_arg1) = m' ((c.tc : Thread Cert.ProductFoxOutRefIdeal.nD Cert.ProductFoxOutRefIdeal.τ).loc Cert.ProductFoxOutRefIdeal.main_arg1)
          ∧ r.2.mem ((c.tc : Thread Cert.ProductFoxOutRefIdeal.nD Cert.ProductFoxOutRefIdeal.τ).loc Cert.ProductFoxOutRefIdeal.main_arg2) = m' ((c.tc : Thread Cert.ProductFoxOutRefIdeal.nD Cert.ProductFoxOutRefIdeal.τ).loc Cert.ProductFoxOutRefIdeal.main_arg2))

def preserves_ProductFoxGout_ProductFoxGoutIdeal : Prop :=
  True

def algebraic_ProductFoxGoutIdeal_ProductFoxGoutRefIdeal [hProductFoxGoutIdeal : Cert.ProductFoxGoutIdeal.Facts] [hProductFoxGoutRefIdeal : Cert.ProductFoxGoutRefIdeal.Facts] : Prop :=
  ∀ (m : (ℓ : Loc Cert.ProductFoxGoutIdeal.nD Cert.ProductFoxGoutIdeal.τ Cert.ProductFoxGoutIdeal.sig) → Buf (Elt Ideal) ℓ) (g : Dev Cert.ProductFoxGoutIdeal.nD → PrngReg)
    (m' : (ℓ : Loc Cert.ProductFoxGoutRefIdeal.nD Cert.ProductFoxGoutRefIdeal.τ Cert.ProductFoxGoutRefIdeal.sig) → Buf (Elt Ideal) ℓ) (g' : Dev Cert.ProductFoxGoutRefIdeal.nD → PrngReg), Pre_ProductFoxGoutIdeal m →
    (∀ c : Dev Cert.ProductFoxGoutIdeal.nD,
      m' ((c.tc : Thread Cert.ProductFoxGoutRefIdeal.nD Cert.ProductFoxGoutRefIdeal.τ).loc Cert.ProductFoxGoutRefIdeal.main_arg0) = m ((c.tc : Thread Cert.ProductFoxGoutIdeal.nD Cert.ProductFoxGoutIdeal.τ).loc Cert.ProductFoxGoutIdeal.main_arg0)
      ∧ m' ((c.tc : Thread Cert.ProductFoxGoutRefIdeal.nD Cert.ProductFoxGoutRefIdeal.τ).loc Cert.ProductFoxGoutRefIdeal.main_arg1) = m ((c.tc : Thread Cert.ProductFoxGoutIdeal.nD Cert.ProductFoxGoutIdeal.τ).loc Cert.ProductFoxGoutIdeal.main_arg1)) →
    ∃ (v0 : (c : Dev Cert.ProductFoxGoutIdeal.nD) → Buf (Elt Ideal) ((c.tc : Thread Cert.ProductFoxGoutIdeal.nD Cert.ProductFoxGoutIdeal.τ).loc Cert.ProductFoxGoutIdeal.main_v0)),
      θ_run (Cert.ProductFoxGoutIdeal.defs (F := Ideal)) (onTc (τ := Cert.ProductFoxGoutIdeal.τ) (Cert.ProductFoxGoutIdeal.main (F := Ideal))) ⟨m, fun _ => 0, g⟩ (fun r => ∀ c : Dev Cert.ProductFoxGoutIdeal.nD,
          r.2.mem ((c.tc : Thread Cert.ProductFoxGoutIdeal.nD Cert.ProductFoxGoutIdeal.τ).loc Cert.ProductFoxGoutIdeal.main_v0) = v0 c
          ∧ r.2.mem ((c.tc : Thread Cert.ProductFoxGoutIdeal.nD Cert.ProductFoxGoutIdeal.τ).loc Cert.ProductFoxGoutIdeal.main_arg0) = m ((c.tc : Thread Cert.ProductFoxGoutIdeal.nD Cert.ProductFoxGoutIdeal.τ).loc Cert.ProductFoxGoutIdeal.main_arg0)
          ∧ r.2.mem ((c.tc : Thread Cert.ProductFoxGoutIdeal.nD Cert.ProductFoxGoutIdeal.τ).loc Cert.ProductFoxGoutIdeal.main_arg1) = m ((c.tc : Thread Cert.ProductFoxGoutIdeal.nD Cert.ProductFoxGoutIdeal.τ).loc Cert.ProductFoxGoutIdeal.main_arg1))
      ∧ θ_run (Cert.ProductFoxGoutRefIdeal.defs (F := Ideal)) (onTc (τ := Cert.ProductFoxGoutRefIdeal.τ) (Cert.ProductFoxGoutRefIdeal.main (F := Ideal))) ⟨m', fun _ => 0, g'⟩ (fun r => ∀ c : Dev Cert.ProductFoxGoutRefIdeal.nD,
          r.2.mem ((c.tc : Thread Cert.ProductFoxGoutRefIdeal.nD Cert.ProductFoxGoutRefIdeal.τ).loc Cert.ProductFoxGoutRefIdeal.main_v1) = v0 c
          ∧ r.2.mem ((c.tc : Thread Cert.ProductFoxGoutRefIdeal.nD Cert.ProductFoxGoutRefIdeal.τ).loc Cert.ProductFoxGoutRefIdeal.main_arg0) = m' ((c.tc : Thread Cert.ProductFoxGoutRefIdeal.nD Cert.ProductFoxGoutRefIdeal.τ).loc Cert.ProductFoxGoutRefIdeal.main_arg0)
          ∧ r.2.mem ((c.tc : Thread Cert.ProductFoxGoutRefIdeal.nD Cert.ProductFoxGoutRefIdeal.τ).loc Cert.ProductFoxGoutRefIdeal.main_arg1) = m' ((c.tc : Thread Cert.ProductFoxGoutRefIdeal.nD Cert.ProductFoxGoutRefIdeal.τ).loc Cert.ProductFoxGoutRefIdeal.main_arg1))

def preserves_ProductFoxGin_ProductFoxGinIdeal : Prop :=
  True

def algebraic_ProductFoxGinIdeal_ProductFoxGinRefIdeal [hProductFoxGinIdeal : Cert.ProductFoxGinIdeal.Facts] [hProductFoxGinRefIdeal : Cert.ProductFoxGinRefIdeal.Facts] : Prop :=
  ∀ (m : (ℓ : Loc Cert.ProductFoxGinIdeal.nD Cert.ProductFoxGinIdeal.τ Cert.ProductFoxGinIdeal.sig) → Buf (Elt Ideal) ℓ) (g : Dev Cert.ProductFoxGinIdeal.nD → PrngReg)
    (m' : (ℓ : Loc Cert.ProductFoxGinRefIdeal.nD Cert.ProductFoxGinRefIdeal.τ Cert.ProductFoxGinRefIdeal.sig) → Buf (Elt Ideal) ℓ) (g' : Dev Cert.ProductFoxGinRefIdeal.nD → PrngReg), Pre_ProductFoxGinIdeal m →
    (∀ c : Dev Cert.ProductFoxGinIdeal.nD,
      m' ((c.tc : Thread Cert.ProductFoxGinRefIdeal.nD Cert.ProductFoxGinRefIdeal.τ).loc Cert.ProductFoxGinRefIdeal.main_arg0) = m ((c.tc : Thread Cert.ProductFoxGinIdeal.nD Cert.ProductFoxGinIdeal.τ).loc Cert.ProductFoxGinIdeal.main_arg0)
      ∧ m' ((c.tc : Thread Cert.ProductFoxGinRefIdeal.nD Cert.ProductFoxGinRefIdeal.τ).loc Cert.ProductFoxGinRefIdeal.main_arg1) = m ((c.tc : Thread Cert.ProductFoxGinIdeal.nD Cert.ProductFoxGinIdeal.τ).loc Cert.ProductFoxGinIdeal.main_arg1)) →
    ∃ (v0 : (c : Dev Cert.ProductFoxGinIdeal.nD) → Buf (Elt Ideal) ((c.tc : Thread Cert.ProductFoxGinIdeal.nD Cert.ProductFoxGinIdeal.τ).loc Cert.ProductFoxGinIdeal.main_v0)),
      θ_run (Cert.ProductFoxGinIdeal.defs (F := Ideal)) (onTc (τ := Cert.ProductFoxGinIdeal.τ) (Cert.ProductFoxGinIdeal.main (F := Ideal))) ⟨m, fun _ => 0, g⟩ (fun r => ∀ c : Dev Cert.ProductFoxGinIdeal.nD,
          r.2.mem ((c.tc : Thread Cert.ProductFoxGinIdeal.nD Cert.ProductFoxGinIdeal.τ).loc Cert.ProductFoxGinIdeal.main_v0) = v0 c
          ∧ r.2.mem ((c.tc : Thread Cert.ProductFoxGinIdeal.nD Cert.ProductFoxGinIdeal.τ).loc Cert.ProductFoxGinIdeal.main_arg0) = m ((c.tc : Thread Cert.ProductFoxGinIdeal.nD Cert.ProductFoxGinIdeal.τ).loc Cert.ProductFoxGinIdeal.main_arg0)
          ∧ r.2.mem ((c.tc : Thread Cert.ProductFoxGinIdeal.nD Cert.ProductFoxGinIdeal.τ).loc Cert.ProductFoxGinIdeal.main_arg1) = m ((c.tc : Thread Cert.ProductFoxGinIdeal.nD Cert.ProductFoxGinIdeal.τ).loc Cert.ProductFoxGinIdeal.main_arg1))
      ∧ θ_run (Cert.ProductFoxGinRefIdeal.defs (F := Ideal)) (onTc (τ := Cert.ProductFoxGinRefIdeal.τ) (Cert.ProductFoxGinRefIdeal.main (F := Ideal))) ⟨m', fun _ => 0, g'⟩ (fun r => ∀ c : Dev Cert.ProductFoxGinRefIdeal.nD,
          r.2.mem ((c.tc : Thread Cert.ProductFoxGinRefIdeal.nD Cert.ProductFoxGinRefIdeal.τ).loc Cert.ProductFoxGinRefIdeal.main_v3) = v0 c
          ∧ r.2.mem ((c.tc : Thread Cert.ProductFoxGinRefIdeal.nD Cert.ProductFoxGinRefIdeal.τ).loc Cert.ProductFoxGinRefIdeal.main_arg0) = m' ((c.tc : Thread Cert.ProductFoxGinRefIdeal.nD Cert.ProductFoxGinRefIdeal.τ).loc Cert.ProductFoxGinRefIdeal.main_arg0)
          ∧ r.2.mem ((c.tc : Thread Cert.ProductFoxGinRefIdeal.nD Cert.ProductFoxGinRefIdeal.τ).loc Cert.ProductFoxGinRefIdeal.main_arg1) = m' ((c.tc : Thread Cert.ProductFoxGinRefIdeal.nD Cert.ProductFoxGinRefIdeal.τ).loc Cert.ProductFoxGinRefIdeal.main_arg1))

def preserves_ProductFoxDh_ProductFoxDhIdeal : Prop :=
  True

def algebraic_ProductFoxDhIdeal_ProductFoxDhRefIdeal [hProductFoxDhIdeal : Cert.ProductFoxDhIdeal.Facts] [hProductFoxDhRefIdeal : Cert.ProductFoxDhRefIdeal.Facts] : Prop :=
  ∀ (m : (ℓ : Loc Cert.ProductFoxDhIdeal.nD Cert.ProductFoxDhIdeal.τ Cert.ProductFoxDhIdeal.sig) → Buf (Elt Ideal) ℓ) (g : Dev Cert.ProductFoxDhIdeal.nD → PrngReg)
    (m' : (ℓ : Loc Cert.ProductFoxDhRefIdeal.nD Cert.ProductFoxDhRefIdeal.τ Cert.ProductFoxDhRefIdeal.sig) → Buf (Elt Ideal) ℓ) (g' : Dev Cert.ProductFoxDhRefIdeal.nD → PrngReg), Pre_ProductFoxDhIdeal m →
    (∀ c : Dev Cert.ProductFoxDhIdeal.nD,
      m' ((c.tc : Thread Cert.ProductFoxDhRefIdeal.nD Cert.ProductFoxDhRefIdeal.τ).loc Cert.ProductFoxDhRefIdeal.main_arg0) = m ((c.tc : Thread Cert.ProductFoxDhIdeal.nD Cert.ProductFoxDhIdeal.τ).loc Cert.ProductFoxDhIdeal.main_arg0)
      ∧ m' ((c.tc : Thread Cert.ProductFoxDhRefIdeal.nD Cert.ProductFoxDhRefIdeal.τ).loc Cert.ProductFoxDhRefIdeal.main_arg1) = m ((c.tc : Thread Cert.ProductFoxDhIdeal.nD Cert.ProductFoxDhIdeal.τ).loc Cert.ProductFoxDhIdeal.main_arg1)) →
    ∃ (v0 : (c : Dev Cert.ProductFoxDhIdeal.nD) → Buf (Elt Ideal) ((c.tc : Thread Cert.ProductFoxDhIdeal.nD Cert.ProductFoxDhIdeal.τ).loc Cert.ProductFoxDhIdeal.main_v0)),
      θ_run (Cert.ProductFoxDhIdeal.defs (F := Ideal)) (onTc (τ := Cert.ProductFoxDhIdeal.τ) (Cert.ProductFoxDhIdeal.main (F := Ideal))) ⟨m, fun _ => 0, g⟩ (fun r => ∀ c : Dev Cert.ProductFoxDhIdeal.nD,
          r.2.mem ((c.tc : Thread Cert.ProductFoxDhIdeal.nD Cert.ProductFoxDhIdeal.τ).loc Cert.ProductFoxDhIdeal.main_v0) = v0 c
          ∧ r.2.mem ((c.tc : Thread Cert.ProductFoxDhIdeal.nD Cert.ProductFoxDhIdeal.τ).loc Cert.ProductFoxDhIdeal.main_arg0) = m ((c.tc : Thread Cert.ProductFoxDhIdeal.nD Cert.ProductFoxDhIdeal.τ).loc Cert.ProductFoxDhIdeal.main_arg0)
          ∧ r.2.mem ((c.tc : Thread Cert.ProductFoxDhIdeal.nD Cert.ProductFoxDhIdeal.τ).loc Cert.ProductFoxDhIdeal.main_arg1) = m ((c.tc : Thread Cert.ProductFoxDhIdeal.nD Cert.ProductFoxDhIdeal.τ).loc Cert.ProductFoxDhIdeal.main_arg1))
      ∧ θ_run (Cert.ProductFoxDhRefIdeal.defs (F := Ideal)) (onTc (τ := Cert.ProductFoxDhRefIdeal.τ) (Cert.ProductFoxDhRefIdeal.main (F := Ideal))) ⟨m', fun _ => 0, g'⟩ (fun r => ∀ c : Dev Cert.ProductFoxDhRefIdeal.nD,
          r.2.mem ((c.tc : Thread Cert.ProductFoxDhRefIdeal.nD Cert.ProductFoxDhRefIdeal.τ).loc Cert.ProductFoxDhRefIdeal.main_v2) = v0 c
          ∧ r.2.mem ((c.tc : Thread Cert.ProductFoxDhRefIdeal.nD Cert.ProductFoxDhRefIdeal.τ).loc Cert.ProductFoxDhRefIdeal.main_arg0) = m' ((c.tc : Thread Cert.ProductFoxDhRefIdeal.nD Cert.ProductFoxDhRefIdeal.τ).loc Cert.ProductFoxDhRefIdeal.main_arg0)
          ∧ r.2.mem ((c.tc : Thread Cert.ProductFoxDhRefIdeal.nD Cert.ProductFoxDhRefIdeal.τ).loc Cert.ProductFoxDhRefIdeal.main_arg1) = m' ((c.tc : Thread Cert.ProductFoxDhRefIdeal.nD Cert.ProductFoxDhRefIdeal.τ).loc Cert.ProductFoxDhRefIdeal.main_arg1))

def preserves_ProductSsdIn_ProductSsdInIdeal : Prop :=
  True

def algebraic_ProductSsdInIdeal_ProductSsdInRefIdeal [hProductSsdInIdeal : Cert.ProductSsdInIdeal.Facts] [hProductSsdInRefIdeal : Cert.ProductSsdInRefIdeal.Facts] : Prop :=
  ∀ (m : (ℓ : Loc Cert.ProductSsdInIdeal.nD Cert.ProductSsdInIdeal.τ Cert.ProductSsdInIdeal.sig) → Buf (Elt Ideal) ℓ) (g : Dev Cert.ProductSsdInIdeal.nD → PrngReg)
    (m' : (ℓ : Loc Cert.ProductSsdInRefIdeal.nD Cert.ProductSsdInRefIdeal.τ Cert.ProductSsdInRefIdeal.sig) → Buf (Elt Ideal) ℓ) (g' : Dev Cert.ProductSsdInRefIdeal.nD → PrngReg), Pre_ProductSsdInIdeal m →
    (∀ c : Dev Cert.ProductSsdInIdeal.nD,
      m' ((c.tc : Thread Cert.ProductSsdInRefIdeal.nD Cert.ProductSsdInRefIdeal.τ).loc Cert.ProductSsdInRefIdeal.main_arg0) = m ((c.tc : Thread Cert.ProductSsdInIdeal.nD Cert.ProductSsdInIdeal.τ).loc Cert.ProductSsdInIdeal.main_arg0)
      ∧ m' ((c.tc : Thread Cert.ProductSsdInRefIdeal.nD Cert.ProductSsdInRefIdeal.τ).loc Cert.ProductSsdInRefIdeal.main_arg1) = m ((c.tc : Thread Cert.ProductSsdInIdeal.nD Cert.ProductSsdInIdeal.τ).loc Cert.ProductSsdInIdeal.main_arg1)) →
    ∃ (v0 : (c : Dev Cert.ProductSsdInIdeal.nD) → Buf (Elt Ideal) ((c.tc : Thread Cert.ProductSsdInIdeal.nD Cert.ProductSsdInIdeal.τ).loc Cert.ProductSsdInIdeal.main_v0)),
      θ_run (Cert.ProductSsdInIdeal.defs (F := Ideal)) (onTc (τ := Cert.ProductSsdInIdeal.τ) (Cert.ProductSsdInIdeal.main (F := Ideal))) ⟨m, fun _ => 0, g⟩ (fun r => ∀ c : Dev Cert.ProductSsdInIdeal.nD,
          r.2.mem ((c.tc : Thread Cert.ProductSsdInIdeal.nD Cert.ProductSsdInIdeal.τ).loc Cert.ProductSsdInIdeal.main_v0) = v0 c
          ∧ r.2.mem ((c.tc : Thread Cert.ProductSsdInIdeal.nD Cert.ProductSsdInIdeal.τ).loc Cert.ProductSsdInIdeal.main_arg0) = m ((c.tc : Thread Cert.ProductSsdInIdeal.nD Cert.ProductSsdInIdeal.τ).loc Cert.ProductSsdInIdeal.main_arg0)
          ∧ r.2.mem ((c.tc : Thread Cert.ProductSsdInIdeal.nD Cert.ProductSsdInIdeal.τ).loc Cert.ProductSsdInIdeal.main_arg1) = m ((c.tc : Thread Cert.ProductSsdInIdeal.nD Cert.ProductSsdInIdeal.τ).loc Cert.ProductSsdInIdeal.main_arg1))
      ∧ θ_run (Cert.ProductSsdInRefIdeal.defs (F := Ideal)) (onTc (τ := Cert.ProductSsdInRefIdeal.τ) (Cert.ProductSsdInRefIdeal.main (F := Ideal))) ⟨m', fun _ => 0, g'⟩ (fun r => ∀ c : Dev Cert.ProductSsdInRefIdeal.nD,
          r.2.mem ((c.tc : Thread Cert.ProductSsdInRefIdeal.nD Cert.ProductSsdInRefIdeal.τ).loc Cert.ProductSsdInRefIdeal.main_v2) = v0 c
          ∧ r.2.mem ((c.tc : Thread Cert.ProductSsdInRefIdeal.nD Cert.ProductSsdInRefIdeal.τ).loc Cert.ProductSsdInRefIdeal.main_arg0) = m' ((c.tc : Thread Cert.ProductSsdInRefIdeal.nD Cert.ProductSsdInRefIdeal.τ).loc Cert.ProductSsdInRefIdeal.main_arg0)
          ∧ r.2.mem ((c.tc : Thread Cert.ProductSsdInRefIdeal.nD Cert.ProductSsdInRefIdeal.τ).loc Cert.ProductSsdInRefIdeal.main_arg1) = m' ((c.tc : Thread Cert.ProductSsdInRefIdeal.nD Cert.ProductSsdInRefIdeal.τ).loc Cert.ProductSsdInRefIdeal.main_arg1))

def preserves_ProductSsdOut_ProductSsdOutIdeal : Prop :=
  True

def algebraic_ProductSsdOutIdeal_ProductSsdOutRefIdeal [hProductSsdOutIdeal : Cert.ProductSsdOutIdeal.Facts] [hProductSsdOutRefIdeal : Cert.ProductSsdOutRefIdeal.Facts] : Prop :=
  ∀ (m : (ℓ : Loc Cert.ProductSsdOutIdeal.nD Cert.ProductSsdOutIdeal.τ Cert.ProductSsdOutIdeal.sig) → Buf (Elt Ideal) ℓ) (g : Dev Cert.ProductSsdOutIdeal.nD → PrngReg)
    (m' : (ℓ : Loc Cert.ProductSsdOutRefIdeal.nD Cert.ProductSsdOutRefIdeal.τ Cert.ProductSsdOutRefIdeal.sig) → Buf (Elt Ideal) ℓ) (g' : Dev Cert.ProductSsdOutRefIdeal.nD → PrngReg), Pre_ProductSsdOutIdeal m →
    (∀ c : Dev Cert.ProductSsdOutIdeal.nD,
      m' ((c.tc : Thread Cert.ProductSsdOutRefIdeal.nD Cert.ProductSsdOutRefIdeal.τ).loc Cert.ProductSsdOutRefIdeal.main_arg0) = m ((c.tc : Thread Cert.ProductSsdOutIdeal.nD Cert.ProductSsdOutIdeal.τ).loc Cert.ProductSsdOutIdeal.main_arg0)
      ∧ m' ((c.tc : Thread Cert.ProductSsdOutRefIdeal.nD Cert.ProductSsdOutRefIdeal.τ).loc Cert.ProductSsdOutRefIdeal.main_arg1) = m ((c.tc : Thread Cert.ProductSsdOutIdeal.nD Cert.ProductSsdOutIdeal.τ).loc Cert.ProductSsdOutIdeal.main_arg1)
      ∧ m' ((c.tc : Thread Cert.ProductSsdOutRefIdeal.nD Cert.ProductSsdOutRefIdeal.τ).loc Cert.ProductSsdOutRefIdeal.main_arg2) = m ((c.tc : Thread Cert.ProductSsdOutIdeal.nD Cert.ProductSsdOutIdeal.τ).loc Cert.ProductSsdOutIdeal.main_arg2)) →
    ∃ (v0 : (c : Dev Cert.ProductSsdOutIdeal.nD) → Buf (Elt Ideal) ((c.tc : Thread Cert.ProductSsdOutIdeal.nD Cert.ProductSsdOutIdeal.τ).loc Cert.ProductSsdOutIdeal.main_v0)),
      θ_run (Cert.ProductSsdOutIdeal.defs (F := Ideal)) (onTc (τ := Cert.ProductSsdOutIdeal.τ) (Cert.ProductSsdOutIdeal.main (F := Ideal))) ⟨m, fun _ => 0, g⟩ (fun r => ∀ c : Dev Cert.ProductSsdOutIdeal.nD,
          r.2.mem ((c.tc : Thread Cert.ProductSsdOutIdeal.nD Cert.ProductSsdOutIdeal.τ).loc Cert.ProductSsdOutIdeal.main_v0) = v0 c
          ∧ r.2.mem ((c.tc : Thread Cert.ProductSsdOutIdeal.nD Cert.ProductSsdOutIdeal.τ).loc Cert.ProductSsdOutIdeal.main_arg0) = m ((c.tc : Thread Cert.ProductSsdOutIdeal.nD Cert.ProductSsdOutIdeal.τ).loc Cert.ProductSsdOutIdeal.main_arg0)
          ∧ r.2.mem ((c.tc : Thread Cert.ProductSsdOutIdeal.nD Cert.ProductSsdOutIdeal.τ).loc Cert.ProductSsdOutIdeal.main_arg1) = m ((c.tc : Thread Cert.ProductSsdOutIdeal.nD Cert.ProductSsdOutIdeal.τ).loc Cert.ProductSsdOutIdeal.main_arg1)
          ∧ r.2.mem ((c.tc : Thread Cert.ProductSsdOutIdeal.nD Cert.ProductSsdOutIdeal.τ).loc Cert.ProductSsdOutIdeal.main_arg2) = m ((c.tc : Thread Cert.ProductSsdOutIdeal.nD Cert.ProductSsdOutIdeal.τ).loc Cert.ProductSsdOutIdeal.main_arg2))
      ∧ θ_run (Cert.ProductSsdOutRefIdeal.defs (F := Ideal)) (onTc (τ := Cert.ProductSsdOutRefIdeal.τ) (Cert.ProductSsdOutRefIdeal.main (F := Ideal))) ⟨m', fun _ => 0, g'⟩ (fun r => ∀ c : Dev Cert.ProductSsdOutRefIdeal.nD,
          r.2.mem ((c.tc : Thread Cert.ProductSsdOutRefIdeal.nD Cert.ProductSsdOutRefIdeal.τ).loc Cert.ProductSsdOutRefIdeal.main_v3) = v0 c
          ∧ r.2.mem ((c.tc : Thread Cert.ProductSsdOutRefIdeal.nD Cert.ProductSsdOutRefIdeal.τ).loc Cert.ProductSsdOutRefIdeal.main_arg0) = m' ((c.tc : Thread Cert.ProductSsdOutRefIdeal.nD Cert.ProductSsdOutRefIdeal.τ).loc Cert.ProductSsdOutRefIdeal.main_arg0)
          ∧ r.2.mem ((c.tc : Thread Cert.ProductSsdOutRefIdeal.nD Cert.ProductSsdOutRefIdeal.τ).loc Cert.ProductSsdOutRefIdeal.main_arg1) = m' ((c.tc : Thread Cert.ProductSsdOutRefIdeal.nD Cert.ProductSsdOutRefIdeal.τ).loc Cert.ProductSsdOutRefIdeal.main_arg1)
          ∧ r.2.mem ((c.tc : Thread Cert.ProductSsdOutRefIdeal.nD Cert.ProductSsdOutRefIdeal.τ).loc Cert.ProductSsdOutRefIdeal.main_arg2) = m' ((c.tc : Thread Cert.ProductSsdOutRefIdeal.nD Cert.ProductSsdOutRefIdeal.τ).loc Cert.ProductSsdOutRefIdeal.main_arg2))

def preserves_ProductSsdDyn_ProductSsdDynIdeal : Prop :=
  True

def algebraic_ProductSsdDynIdeal_ProductSsdDynRefIdeal [hProductSsdDynIdeal : Cert.ProductSsdDynIdeal.Facts] [hProductSsdDynRefIdeal : Cert.ProductSsdDynRefIdeal.Facts] : Prop :=
  ∀ (m : (ℓ : Loc Cert.ProductSsdDynIdeal.nD Cert.ProductSsdDynIdeal.τ Cert.ProductSsdDynIdeal.sig) → Buf (Elt Ideal) ℓ) (g : Dev Cert.ProductSsdDynIdeal.nD → PrngReg)
    (m' : (ℓ : Loc Cert.ProductSsdDynRefIdeal.nD Cert.ProductSsdDynRefIdeal.τ Cert.ProductSsdDynRefIdeal.sig) → Buf (Elt Ideal) ℓ) (g' : Dev Cert.ProductSsdDynRefIdeal.nD → PrngReg), Pre_ProductSsdDynIdeal m →
    (∀ c : Dev Cert.ProductSsdDynIdeal.nD,
      m' ((c.tc : Thread Cert.ProductSsdDynRefIdeal.nD Cert.ProductSsdDynRefIdeal.τ).loc Cert.ProductSsdDynRefIdeal.main_arg0) = m ((c.tc : Thread Cert.ProductSsdDynIdeal.nD Cert.ProductSsdDynIdeal.τ).loc Cert.ProductSsdDynIdeal.main_arg0)
      ∧ m' ((c.tc : Thread Cert.ProductSsdDynRefIdeal.nD Cert.ProductSsdDynRefIdeal.τ).loc Cert.ProductSsdDynRefIdeal.main_arg1) = m ((c.tc : Thread Cert.ProductSsdDynIdeal.nD Cert.ProductSsdDynIdeal.τ).loc Cert.ProductSsdDynIdeal.main_arg1)) →
    ∃ (v0 : (c : Dev Cert.ProductSsdDynIdeal.nD) → Buf (Elt Ideal) ((c.tc : Thread Cert.ProductSsdDynIdeal.nD Cert.ProductSsdDynIdeal.τ).loc Cert.ProductSsdDynIdeal.main_v0)),
      θ_run (Cert.ProductSsdDynIdeal.defs (F := Ideal)) (onTc (τ := Cert.ProductSsdDynIdeal.τ) (Cert.ProductSsdDynIdeal.main (F := Ideal))) ⟨m, fun _ => 0, g⟩ (fun r => ∀ c : Dev Cert.ProductSsdDynIdeal.nD,
          r.2.mem ((c.tc : Thread Cert.ProductSsdDynIdeal.nD Cert.ProductSsdDynIdeal.τ).loc Cert.ProductSsdDynIdeal.main_v0) = v0 c
          ∧ r.2.mem ((c.tc : Thread Cert.ProductSsdDynIdeal.nD Cert.ProductSsdDynIdeal.τ).loc Cert.ProductSsdDynIdeal.main_arg0) = m ((c.tc : Thread Cert.ProductSsdDynIdeal.nD Cert.ProductSsdDynIdeal.τ).loc Cert.ProductSsdDynIdeal.main_arg0)
          ∧ r.2.mem ((c.tc : Thread Cert.ProductSsdDynIdeal.nD Cert.ProductSsdDynIdeal.τ).loc Cert.ProductSsdDynIdeal.main_arg1) = m ((c.tc : Thread Cert.ProductSsdDynIdeal.nD Cert.ProductSsdDynIdeal.τ).loc Cert.ProductSsdDynIdeal.main_arg1))
      ∧ θ_run (Cert.ProductSsdDynRefIdeal.defs (F := Ideal)) (onTc (τ := Cert.ProductSsdDynRefIdeal.τ) (Cert.ProductSsdDynRefIdeal.main (F := Ideal))) ⟨m', fun _ => 0, g'⟩ (fun r => ∀ c : Dev Cert.ProductSsdDynRefIdeal.nD,
          r.2.mem ((c.tc : Thread Cert.ProductSsdDynRefIdeal.nD Cert.ProductSsdDynRefIdeal.τ).loc Cert.ProductSsdDynRefIdeal.main_v1) = v0 c
          ∧ r.2.mem ((c.tc : Thread Cert.ProductSsdDynRefIdeal.nD Cert.ProductSsdDynRefIdeal.τ).loc Cert.ProductSsdDynRefIdeal.main_arg0) = m' ((c.tc : Thread Cert.ProductSsdDynRefIdeal.nD Cert.ProductSsdDynRefIdeal.τ).loc Cert.ProductSsdDynRefIdeal.main_arg0)
          ∧ r.2.mem ((c.tc : Thread Cert.ProductSsdDynRefIdeal.nD Cert.ProductSsdDynRefIdeal.τ).loc Cert.ProductSsdDynRefIdeal.main_arg1) = m' ((c.tc : Thread Cert.ProductSsdDynRefIdeal.nD Cert.ProductSsdDynRefIdeal.τ).loc Cert.ProductSsdDynRefIdeal.main_arg1))

def preserves_ProductSsdGout_ProductSsdGoutIdeal : Prop :=
  True

def algebraic_ProductSsdGoutIdeal_ProductSsdGoutRefIdeal [hProductSsdGoutIdeal : Cert.ProductSsdGoutIdeal.Facts] [hProductSsdGoutRefIdeal : Cert.ProductSsdGoutRefIdeal.Facts] : Prop :=
  ∀ (m : (ℓ : Loc Cert.ProductSsdGoutIdeal.nD Cert.ProductSsdGoutIdeal.τ Cert.ProductSsdGoutIdeal.sig) → Buf (Elt Ideal) ℓ) (g : Dev Cert.ProductSsdGoutIdeal.nD → PrngReg)
    (m' : (ℓ : Loc Cert.ProductSsdGoutRefIdeal.nD Cert.ProductSsdGoutRefIdeal.τ Cert.ProductSsdGoutRefIdeal.sig) → Buf (Elt Ideal) ℓ) (g' : Dev Cert.ProductSsdGoutRefIdeal.nD → PrngReg), Pre_ProductSsdGoutIdeal m →
    (∀ c : Dev Cert.ProductSsdGoutIdeal.nD,
      m' ((c.tc : Thread Cert.ProductSsdGoutRefIdeal.nD Cert.ProductSsdGoutRefIdeal.τ).loc Cert.ProductSsdGoutRefIdeal.main_arg0) = m ((c.tc : Thread Cert.ProductSsdGoutIdeal.nD Cert.ProductSsdGoutIdeal.τ).loc Cert.ProductSsdGoutIdeal.main_arg0)
      ∧ m' ((c.tc : Thread Cert.ProductSsdGoutRefIdeal.nD Cert.ProductSsdGoutRefIdeal.τ).loc Cert.ProductSsdGoutRefIdeal.main_arg1) = m ((c.tc : Thread Cert.ProductSsdGoutIdeal.nD Cert.ProductSsdGoutIdeal.τ).loc Cert.ProductSsdGoutIdeal.main_arg1)) →
    ∃ (v0 : (c : Dev Cert.ProductSsdGoutIdeal.nD) → Buf (Elt Ideal) ((c.tc : Thread Cert.ProductSsdGoutIdeal.nD Cert.ProductSsdGoutIdeal.τ).loc Cert.ProductSsdGoutIdeal.main_v0)),
      θ_run (Cert.ProductSsdGoutIdeal.defs (F := Ideal)) (onTc (τ := Cert.ProductSsdGoutIdeal.τ) (Cert.ProductSsdGoutIdeal.main (F := Ideal))) ⟨m, fun _ => 0, g⟩ (fun r => ∀ c : Dev Cert.ProductSsdGoutIdeal.nD,
          r.2.mem ((c.tc : Thread Cert.ProductSsdGoutIdeal.nD Cert.ProductSsdGoutIdeal.τ).loc Cert.ProductSsdGoutIdeal.main_v0) = v0 c
          ∧ r.2.mem ((c.tc : Thread Cert.ProductSsdGoutIdeal.nD Cert.ProductSsdGoutIdeal.τ).loc Cert.ProductSsdGoutIdeal.main_arg0) = m ((c.tc : Thread Cert.ProductSsdGoutIdeal.nD Cert.ProductSsdGoutIdeal.τ).loc Cert.ProductSsdGoutIdeal.main_arg0)
          ∧ r.2.mem ((c.tc : Thread Cert.ProductSsdGoutIdeal.nD Cert.ProductSsdGoutIdeal.τ).loc Cert.ProductSsdGoutIdeal.main_arg1) = m ((c.tc : Thread Cert.ProductSsdGoutIdeal.nD Cert.ProductSsdGoutIdeal.τ).loc Cert.ProductSsdGoutIdeal.main_arg1))
      ∧ θ_run (Cert.ProductSsdGoutRefIdeal.defs (F := Ideal)) (onTc (τ := Cert.ProductSsdGoutRefIdeal.τ) (Cert.ProductSsdGoutRefIdeal.main (F := Ideal))) ⟨m', fun _ => 0, g'⟩ (fun r => ∀ c : Dev Cert.ProductSsdGoutRefIdeal.nD,
          r.2.mem ((c.tc : Thread Cert.ProductSsdGoutRefIdeal.nD Cert.ProductSsdGoutRefIdeal.τ).loc Cert.ProductSsdGoutRefIdeal.main_v2) = v0 c
          ∧ r.2.mem ((c.tc : Thread Cert.ProductSsdGoutRefIdeal.nD Cert.ProductSsdGoutRefIdeal.τ).loc Cert.ProductSsdGoutRefIdeal.main_arg0) = m' ((c.tc : Thread Cert.ProductSsdGoutRefIdeal.nD Cert.ProductSsdGoutRefIdeal.τ).loc Cert.ProductSsdGoutRefIdeal.main_arg0)
          ∧ r.2.mem ((c.tc : Thread Cert.ProductSsdGoutRefIdeal.nD Cert.ProductSsdGoutRefIdeal.τ).loc Cert.ProductSsdGoutRefIdeal.main_arg1) = m' ((c.tc : Thread Cert.ProductSsdGoutRefIdeal.nD Cert.ProductSsdGoutRefIdeal.τ).loc Cert.ProductSsdGoutRefIdeal.main_arg1))

def preserves_ProductSsdGin_ProductSsdGinIdeal : Prop :=
  True

def algebraic_ProductSsdGinIdeal_ProductSsdGinRefIdeal [hProductSsdGinIdeal : Cert.ProductSsdGinIdeal.Facts] [hProductSsdGinRefIdeal : Cert.ProductSsdGinRefIdeal.Facts] : Prop :=
  ∀ (m : (ℓ : Loc Cert.ProductSsdGinIdeal.nD Cert.ProductSsdGinIdeal.τ Cert.ProductSsdGinIdeal.sig) → Buf (Elt Ideal) ℓ) (g : Dev Cert.ProductSsdGinIdeal.nD → PrngReg)
    (m' : (ℓ : Loc Cert.ProductSsdGinRefIdeal.nD Cert.ProductSsdGinRefIdeal.τ Cert.ProductSsdGinRefIdeal.sig) → Buf (Elt Ideal) ℓ) (g' : Dev Cert.ProductSsdGinRefIdeal.nD → PrngReg), Pre_ProductSsdGinIdeal m →
    (∀ c : Dev Cert.ProductSsdGinIdeal.nD,
      m' ((c.tc : Thread Cert.ProductSsdGinRefIdeal.nD Cert.ProductSsdGinRefIdeal.τ).loc Cert.ProductSsdGinRefIdeal.main_arg0) = m ((c.tc : Thread Cert.ProductSsdGinIdeal.nD Cert.ProductSsdGinIdeal.τ).loc Cert.ProductSsdGinIdeal.main_arg0)
      ∧ m' ((c.tc : Thread Cert.ProductSsdGinRefIdeal.nD Cert.ProductSsdGinRefIdeal.τ).loc Cert.ProductSsdGinRefIdeal.main_arg1) = m ((c.tc : Thread Cert.ProductSsdGinIdeal.nD Cert.ProductSsdGinIdeal.τ).loc Cert.ProductSsdGinIdeal.main_arg1)) →
    ∃ (v0 : (c : Dev Cert.ProductSsdGinIdeal.nD) → Buf (Elt Ideal) ((c.tc : Thread Cert.ProductSsdGinIdeal.nD Cert.ProductSsdGinIdeal.τ).loc Cert.ProductSsdGinIdeal.main_v0)),
      θ_run (Cert.ProductSsdGinIdeal.defs (F := Ideal)) (onTc (τ := Cert.ProductSsdGinIdeal.τ) (Cert.ProductSsdGinIdeal.main (F := Ideal))) ⟨m, fun _ => 0, g⟩ (fun r => ∀ c : Dev Cert.ProductSsdGinIdeal.nD,
          r.2.mem ((c.tc : Thread Cert.ProductSsdGinIdeal.nD Cert.ProductSsdGinIdeal.τ).loc Cert.ProductSsdGinIdeal.main_v0) = v0 c
          ∧ r.2.mem ((c.tc : Thread Cert.ProductSsdGinIdeal.nD Cert.ProductSsdGinIdeal.τ).loc Cert.ProductSsdGinIdeal.main_arg0) = m ((c.tc : Thread Cert.ProductSsdGinIdeal.nD Cert.ProductSsdGinIdeal.τ).loc Cert.ProductSsdGinIdeal.main_arg0)
          ∧ r.2.mem ((c.tc : Thread Cert.ProductSsdGinIdeal.nD Cert.ProductSsdGinIdeal.τ).loc Cert.ProductSsdGinIdeal.main_arg1) = m ((c.tc : Thread Cert.ProductSsdGinIdeal.nD Cert.ProductSsdGinIdeal.τ).loc Cert.ProductSsdGinIdeal.main_arg1))
      ∧ θ_run (Cert.ProductSsdGinRefIdeal.defs (F := Ideal)) (onTc (τ := Cert.ProductSsdGinRefIdeal.τ) (Cert.ProductSsdGinRefIdeal.main (F := Ideal))) ⟨m', fun _ => 0, g'⟩ (fun r => ∀ c : Dev Cert.ProductSsdGinRefIdeal.nD,
          r.2.mem ((c.tc : Thread Cert.ProductSsdGinRefIdeal.nD Cert.ProductSsdGinRefIdeal.τ).loc Cert.ProductSsdGinRefIdeal.main_v3) = v0 c
          ∧ r.2.mem ((c.tc : Thread Cert.ProductSsdGinRefIdeal.nD Cert.ProductSsdGinRefIdeal.τ).loc Cert.ProductSsdGinRefIdeal.main_arg0) = m' ((c.tc : Thread Cert.ProductSsdGinRefIdeal.nD Cert.ProductSsdGinRefIdeal.τ).loc Cert.ProductSsdGinRefIdeal.main_arg0)
          ∧ r.2.mem ((c.tc : Thread Cert.ProductSsdGinRefIdeal.nD Cert.ProductSsdGinRefIdeal.τ).loc Cert.ProductSsdGinRefIdeal.main_arg1) = m' ((c.tc : Thread Cert.ProductSsdGinRefIdeal.nD Cert.ProductSsdGinRefIdeal.τ).loc Cert.ProductSsdGinRefIdeal.main_arg1))

def preserves_ProductSsdDh_ProductSsdDhIdeal : Prop :=
  True

def algebraic_ProductSsdDhIdeal_ProductSsdDhRefIdeal [hProductSsdDhIdeal : Cert.ProductSsdDhIdeal.Facts] [hProductSsdDhRefIdeal : Cert.ProductSsdDhRefIdeal.Facts] : Prop :=
  ∀ (m : (ℓ : Loc Cert.ProductSsdDhIdeal.nD Cert.ProductSsdDhIdeal.τ Cert.ProductSsdDhIdeal.sig) → Buf (Elt Ideal) ℓ) (g : Dev Cert.ProductSsdDhIdeal.nD → PrngReg)
    (m' : (ℓ : Loc Cert.ProductSsdDhRefIdeal.nD Cert.ProductSsdDhRefIdeal.τ Cert.ProductSsdDhRefIdeal.sig) → Buf (Elt Ideal) ℓ) (g' : Dev Cert.ProductSsdDhRefIdeal.nD → PrngReg), Pre_ProductSsdDhIdeal m →
    (∀ c : Dev Cert.ProductSsdDhIdeal.nD,
      m' ((c.tc : Thread Cert.ProductSsdDhRefIdeal.nD Cert.ProductSsdDhRefIdeal.τ).loc Cert.ProductSsdDhRefIdeal.main_arg0) = m ((c.tc : Thread Cert.ProductSsdDhIdeal.nD Cert.ProductSsdDhIdeal.τ).loc Cert.ProductSsdDhIdeal.main_arg0)
      ∧ m' ((c.tc : Thread Cert.ProductSsdDhRefIdeal.nD Cert.ProductSsdDhRefIdeal.τ).loc Cert.ProductSsdDhRefIdeal.main_arg1) = m ((c.tc : Thread Cert.ProductSsdDhIdeal.nD Cert.ProductSsdDhIdeal.τ).loc Cert.ProductSsdDhIdeal.main_arg1)) →
    ∃ (v0 : (c : Dev Cert.ProductSsdDhIdeal.nD) → Buf (Elt Ideal) ((c.tc : Thread Cert.ProductSsdDhIdeal.nD Cert.ProductSsdDhIdeal.τ).loc Cert.ProductSsdDhIdeal.main_v0)),
      θ_run (Cert.ProductSsdDhIdeal.defs (F := Ideal)) (onTc (τ := Cert.ProductSsdDhIdeal.τ) (Cert.ProductSsdDhIdeal.main (F := Ideal))) ⟨m, fun _ => 0, g⟩ (fun r => ∀ c : Dev Cert.ProductSsdDhIdeal.nD,
          r.2.mem ((c.tc : Thread Cert.ProductSsdDhIdeal.nD Cert.ProductSsdDhIdeal.τ).loc Cert.ProductSsdDhIdeal.main_v0) = v0 c
          ∧ r.2.mem ((c.tc : Thread Cert.ProductSsdDhIdeal.nD Cert.ProductSsdDhIdeal.τ).loc Cert.ProductSsdDhIdeal.main_arg0) = m ((c.tc : Thread Cert.ProductSsdDhIdeal.nD Cert.ProductSsdDhIdeal.τ).loc Cert.ProductSsdDhIdeal.main_arg0)
          ∧ r.2.mem ((c.tc : Thread Cert.ProductSsdDhIdeal.nD Cert.ProductSsdDhIdeal.τ).loc Cert.ProductSsdDhIdeal.main_arg1) = m ((c.tc : Thread Cert.ProductSsdDhIdeal.nD Cert.ProductSsdDhIdeal.τ).loc Cert.ProductSsdDhIdeal.main_arg1))
      ∧ θ_run (Cert.ProductSsdDhRefIdeal.defs (F := Ideal)) (onTc (τ := Cert.ProductSsdDhRefIdeal.τ) (Cert.ProductSsdDhRefIdeal.main (F := Ideal))) ⟨m', fun _ => 0, g'⟩ (fun r => ∀ c : Dev Cert.ProductSsdDhRefIdeal.nD,
          r.2.mem ((c.tc : Thread Cert.ProductSsdDhRefIdeal.nD Cert.ProductSsdDhRefIdeal.τ).loc Cert.ProductSsdDhRefIdeal.main_v2) = v0 c
          ∧ r.2.mem ((c.tc : Thread Cert.ProductSsdDhRefIdeal.nD Cert.ProductSsdDhRefIdeal.τ).loc Cert.ProductSsdDhRefIdeal.main_arg0) = m' ((c.tc : Thread Cert.ProductSsdDhRefIdeal.nD Cert.ProductSsdDhRefIdeal.τ).loc Cert.ProductSsdDhRefIdeal.main_arg0)
          ∧ r.2.mem ((c.tc : Thread Cert.ProductSsdDhRefIdeal.nD Cert.ProductSsdDhRefIdeal.τ).loc Cert.ProductSsdDhRefIdeal.main_arg1) = m' ((c.tc : Thread Cert.ProductSsdDhRefIdeal.nD Cert.ProductSsdDhRefIdeal.τ).loc Cert.ProductSsdDhRefIdeal.main_arg1))

def preserves_StepFfnGu_StepFfnGuIdeal : Prop :=
  True

def algebraic_StepFfnGuIdeal_StepFfnGuRefIdeal [hStepFfnGuIdeal : Cert.StepFfnGuIdeal.Facts] [hStepFfnGuRefIdeal : Cert.StepFfnGuRefIdeal.Facts] : Prop :=
  ∀ (m : (ℓ : Loc Cert.StepFfnGuIdeal.nD Cert.StepFfnGuIdeal.τ Cert.StepFfnGuIdeal.sig) → Buf (Elt Ideal) ℓ) (g : Dev Cert.StepFfnGuIdeal.nD → PrngReg)
    (m' : (ℓ : Loc Cert.StepFfnGuRefIdeal.nD Cert.StepFfnGuRefIdeal.τ Cert.StepFfnGuRefIdeal.sig) → Buf (Elt Ideal) ℓ) (g' : Dev Cert.StepFfnGuRefIdeal.nD → PrngReg), Pre_StepFfnGuIdeal m →
    (∀ c : Dev Cert.StepFfnGuIdeal.nD,
      m' ((c.tc : Thread Cert.StepFfnGuRefIdeal.nD Cert.StepFfnGuRefIdeal.τ).loc Cert.StepFfnGuRefIdeal.main_arg0) = m ((c.tc : Thread Cert.StepFfnGuIdeal.nD Cert.StepFfnGuIdeal.τ).loc Cert.StepFfnGuIdeal.main_arg0)
      ∧ m' ((c.tc : Thread Cert.StepFfnGuRefIdeal.nD Cert.StepFfnGuRefIdeal.τ).loc Cert.StepFfnGuRefIdeal.main_arg1) = m ((c.tc : Thread Cert.StepFfnGuIdeal.nD Cert.StepFfnGuIdeal.τ).loc Cert.StepFfnGuIdeal.main_arg1)
      ∧ m' ((c.tc : Thread Cert.StepFfnGuRefIdeal.nD Cert.StepFfnGuRefIdeal.τ).loc Cert.StepFfnGuRefIdeal.main_arg2) = m ((c.tc : Thread Cert.StepFfnGuIdeal.nD Cert.StepFfnGuIdeal.τ).loc Cert.StepFfnGuIdeal.main_arg2)
      ∧ m' ((c.tc : Thread Cert.StepFfnGuRefIdeal.nD Cert.StepFfnGuRefIdeal.τ).loc Cert.StepFfnGuRefIdeal.main_arg3) = m ((c.tc : Thread Cert.StepFfnGuIdeal.nD Cert.StepFfnGuIdeal.τ).loc Cert.StepFfnGuIdeal.main_arg3)) →
    ∃ (v0 : (c : Dev Cert.StepFfnGuIdeal.nD) → Buf (Elt Ideal) ((c.tc : Thread Cert.StepFfnGuIdeal.nD Cert.StepFfnGuIdeal.τ).loc Cert.StepFfnGuIdeal.main_v0_0)) (v1 : (c : Dev Cert.StepFfnGuIdeal.nD) → Buf (Elt Ideal) ((c.tc : Thread Cert.StepFfnGuIdeal.nD Cert.StepFfnGuIdeal.τ).loc Cert.StepFfnGuIdeal.main_v0_1)) (v2 : (c : Dev Cert.StepFfnGuIdeal.nD) → Buf (Elt Ideal) ((c.tc : Thread Cert.StepFfnGuIdeal.nD Cert.StepFfnGuIdeal.τ).loc Cert.StepFfnGuIdeal.main_v0_2)),
      θ_run (Cert.StepFfnGuIdeal.defs (F := Ideal)) (onTc (τ := Cert.StepFfnGuIdeal.τ) (Cert.StepFfnGuIdeal.main (F := Ideal))) ⟨m, fun _ => 0, g⟩ (fun r => ∀ c : Dev Cert.StepFfnGuIdeal.nD,
          r.2.mem ((c.tc : Thread Cert.StepFfnGuIdeal.nD Cert.StepFfnGuIdeal.τ).loc Cert.StepFfnGuIdeal.main_v0_0) = v0 c
          ∧ r.2.mem ((c.tc : Thread Cert.StepFfnGuIdeal.nD Cert.StepFfnGuIdeal.τ).loc Cert.StepFfnGuIdeal.main_v0_1) = v1 c
          ∧ r.2.mem ((c.tc : Thread Cert.StepFfnGuIdeal.nD Cert.StepFfnGuIdeal.τ).loc Cert.StepFfnGuIdeal.main_v0_2) = v2 c
          ∧ r.2.mem ((c.tc : Thread Cert.StepFfnGuIdeal.nD Cert.StepFfnGuIdeal.τ).loc Cert.StepFfnGuIdeal.main_arg0) = m ((c.tc : Thread Cert.StepFfnGuIdeal.nD Cert.StepFfnGuIdeal.τ).loc Cert.StepFfnGuIdeal.main_arg0)
          ∧ r.2.mem ((c.tc : Thread Cert.StepFfnGuIdeal.nD Cert.StepFfnGuIdeal.τ).loc Cert.StepFfnGuIdeal.main_arg1) = m ((c.tc : Thread Cert.StepFfnGuIdeal.nD Cert.StepFfnGuIdeal.τ).loc Cert.StepFfnGuIdeal.main_arg1)
          ∧ r.2.mem ((c.tc : Thread Cert.StepFfnGuIdeal.nD Cert.StepFfnGuIdeal.τ).loc Cert.StepFfnGuIdeal.main_arg2) = m ((c.tc : Thread Cert.StepFfnGuIdeal.nD Cert.StepFfnGuIdeal.τ).loc Cert.StepFfnGuIdeal.main_arg2)
          ∧ r.2.mem ((c.tc : Thread Cert.StepFfnGuIdeal.nD Cert.StepFfnGuIdeal.τ).loc Cert.StepFfnGuIdeal.main_arg3) = m ((c.tc : Thread Cert.StepFfnGuIdeal.nD Cert.StepFfnGuIdeal.τ).loc Cert.StepFfnGuIdeal.main_arg3))
      ∧ θ_run (Cert.StepFfnGuRefIdeal.defs (F := Ideal)) (onTc (τ := Cert.StepFfnGuRefIdeal.τ) (Cert.StepFfnGuRefIdeal.main (F := Ideal))) ⟨m', fun _ => 0, g'⟩ (fun r => ∀ c : Dev Cert.StepFfnGuRefIdeal.nD,
          r.2.mem ((c.tc : Thread Cert.StepFfnGuRefIdeal.nD Cert.StepFfnGuRefIdeal.τ).loc Cert.StepFfnGuRefIdeal.main_v23) = v0 c
          ∧ r.2.mem ((c.tc : Thread Cert.StepFfnGuRefIdeal.nD Cert.StepFfnGuRefIdeal.τ).loc Cert.StepFfnGuRefIdeal.main_v4) = v1 c
          ∧ r.2.mem ((c.tc : Thread Cert.StepFfnGuRefIdeal.nD Cert.StepFfnGuRefIdeal.τ).loc Cert.StepFfnGuRefIdeal.main_v10) = v2 c
          ∧ r.2.mem ((c.tc : Thread Cert.StepFfnGuRefIdeal.nD Cert.StepFfnGuRefIdeal.τ).loc Cert.StepFfnGuRefIdeal.main_arg0) = m' ((c.tc : Thread Cert.StepFfnGuRefIdeal.nD Cert.StepFfnGuRefIdeal.τ).loc Cert.StepFfnGuRefIdeal.main_arg0)
          ∧ r.2.mem ((c.tc : Thread Cert.StepFfnGuRefIdeal.nD Cert.StepFfnGuRefIdeal.τ).loc Cert.StepFfnGuRefIdeal.main_arg1) = m' ((c.tc : Thread Cert.StepFfnGuRefIdeal.nD Cert.StepFfnGuRefIdeal.τ).loc Cert.StepFfnGuRefIdeal.main_arg1)
          ∧ r.2.mem ((c.tc : Thread Cert.StepFfnGuRefIdeal.nD Cert.StepFfnGuRefIdeal.τ).loc Cert.StepFfnGuRefIdeal.main_arg2) = m' ((c.tc : Thread Cert.StepFfnGuRefIdeal.nD Cert.StepFfnGuRefIdeal.τ).loc Cert.StepFfnGuRefIdeal.main_arg2)
          ∧ r.2.mem ((c.tc : Thread Cert.StepFfnGuRefIdeal.nD Cert.StepFfnGuRefIdeal.τ).loc Cert.StepFfnGuRefIdeal.main_arg3) = m' ((c.tc : Thread Cert.StepFfnGuRefIdeal.nD Cert.StepFfnGuRefIdeal.τ).loc Cert.StepFfnGuRefIdeal.main_arg3))

def preserves_StepFfnDown_StepFfnDownIdeal : Prop :=
  True

def algebraic_StepFfnDownIdeal_StepFfnDownRefIdeal [hStepFfnDownIdeal : Cert.StepFfnDownIdeal.Facts] [hStepFfnDownRefIdeal : Cert.StepFfnDownRefIdeal.Facts] : Prop :=
  ∀ (m : (ℓ : Loc Cert.StepFfnDownIdeal.nD Cert.StepFfnDownIdeal.τ Cert.StepFfnDownIdeal.sig) → Buf (Elt Ideal) ℓ) (g : Dev Cert.StepFfnDownIdeal.nD → PrngReg)
    (m' : (ℓ : Loc Cert.StepFfnDownRefIdeal.nD Cert.StepFfnDownRefIdeal.τ Cert.StepFfnDownRefIdeal.sig) → Buf (Elt Ideal) ℓ) (g' : Dev Cert.StepFfnDownRefIdeal.nD → PrngReg), Pre_StepFfnDownIdeal m →
    (∀ c : Dev Cert.StepFfnDownIdeal.nD,
      m' ((c.tc : Thread Cert.StepFfnDownRefIdeal.nD Cert.StepFfnDownRefIdeal.τ).loc Cert.StepFfnDownRefIdeal.main_arg0) = m ((c.tc : Thread Cert.StepFfnDownIdeal.nD Cert.StepFfnDownIdeal.τ).loc Cert.StepFfnDownIdeal.main_arg0)
      ∧ m' ((c.tc : Thread Cert.StepFfnDownRefIdeal.nD Cert.StepFfnDownRefIdeal.τ).loc Cert.StepFfnDownRefIdeal.main_arg1) = m ((c.tc : Thread Cert.StepFfnDownIdeal.nD Cert.StepFfnDownIdeal.τ).loc Cert.StepFfnDownIdeal.main_arg1)
      ∧ m' ((c.tc : Thread Cert.StepFfnDownRefIdeal.nD Cert.StepFfnDownRefIdeal.τ).loc Cert.StepFfnDownRefIdeal.main_arg2) = m ((c.tc : Thread Cert.StepFfnDownIdeal.nD Cert.StepFfnDownIdeal.τ).loc Cert.StepFfnDownIdeal.main_arg2)
      ∧ m' ((c.tc : Thread Cert.StepFfnDownRefIdeal.nD Cert.StepFfnDownRefIdeal.τ).loc Cert.StepFfnDownRefIdeal.main_arg3) = m ((c.tc : Thread Cert.StepFfnDownIdeal.nD Cert.StepFfnDownIdeal.τ).loc Cert.StepFfnDownIdeal.main_arg3)) →
    ∃ (v0 : (c : Dev Cert.StepFfnDownIdeal.nD) → Buf (Elt Ideal) ((c.tc : Thread Cert.StepFfnDownIdeal.nD Cert.StepFfnDownIdeal.τ).loc Cert.StepFfnDownIdeal.main_v0_0)) (v1 : (c : Dev Cert.StepFfnDownIdeal.nD) → Buf (Elt Ideal) ((c.tc : Thread Cert.StepFfnDownIdeal.nD Cert.StepFfnDownIdeal.τ).loc Cert.StepFfnDownIdeal.main_v0_1)) (v2 : (c : Dev Cert.StepFfnDownIdeal.nD) → Buf (Elt Ideal) ((c.tc : Thread Cert.StepFfnDownIdeal.nD Cert.StepFfnDownIdeal.τ).loc Cert.StepFfnDownIdeal.main_v0_2)),
      θ_run (Cert.StepFfnDownIdeal.defs (F := Ideal)) (onTc (τ := Cert.StepFfnDownIdeal.τ) (Cert.StepFfnDownIdeal.main (F := Ideal))) ⟨m, fun _ => 0, g⟩ (fun r => ∀ c : Dev Cert.StepFfnDownIdeal.nD,
          r.2.mem ((c.tc : Thread Cert.StepFfnDownIdeal.nD Cert.StepFfnDownIdeal.τ).loc Cert.StepFfnDownIdeal.main_v0_0) = v0 c
          ∧ r.2.mem ((c.tc : Thread Cert.StepFfnDownIdeal.nD Cert.StepFfnDownIdeal.τ).loc Cert.StepFfnDownIdeal.main_v0_1) = v1 c
          ∧ r.2.mem ((c.tc : Thread Cert.StepFfnDownIdeal.nD Cert.StepFfnDownIdeal.τ).loc Cert.StepFfnDownIdeal.main_v0_2) = v2 c
          ∧ r.2.mem ((c.tc : Thread Cert.StepFfnDownIdeal.nD Cert.StepFfnDownIdeal.τ).loc Cert.StepFfnDownIdeal.main_arg0) = m ((c.tc : Thread Cert.StepFfnDownIdeal.nD Cert.StepFfnDownIdeal.τ).loc Cert.StepFfnDownIdeal.main_arg0)
          ∧ r.2.mem ((c.tc : Thread Cert.StepFfnDownIdeal.nD Cert.StepFfnDownIdeal.τ).loc Cert.StepFfnDownIdeal.main_arg1) = m ((c.tc : Thread Cert.StepFfnDownIdeal.nD Cert.StepFfnDownIdeal.τ).loc Cert.StepFfnDownIdeal.main_arg1)
          ∧ r.2.mem ((c.tc : Thread Cert.StepFfnDownIdeal.nD Cert.StepFfnDownIdeal.τ).loc Cert.StepFfnDownIdeal.main_arg2) = m ((c.tc : Thread Cert.StepFfnDownIdeal.nD Cert.StepFfnDownIdeal.τ).loc Cert.StepFfnDownIdeal.main_arg2)
          ∧ r.2.mem ((c.tc : Thread Cert.StepFfnDownIdeal.nD Cert.StepFfnDownIdeal.τ).loc Cert.StepFfnDownIdeal.main_arg3) = m ((c.tc : Thread Cert.StepFfnDownIdeal.nD Cert.StepFfnDownIdeal.τ).loc Cert.StepFfnDownIdeal.main_arg3))
      ∧ θ_run (Cert.StepFfnDownRefIdeal.defs (F := Ideal)) (onTc (τ := Cert.StepFfnDownRefIdeal.τ) (Cert.StepFfnDownRefIdeal.main (F := Ideal))) ⟨m', fun _ => 0, g'⟩ (fun r => ∀ c : Dev Cert.StepFfnDownRefIdeal.nD,
          r.2.mem ((c.tc : Thread Cert.StepFfnDownRefIdeal.nD Cert.StepFfnDownRefIdeal.τ).loc Cert.StepFfnDownRefIdeal.main_v23) = v0 c
          ∧ r.2.mem ((c.tc : Thread Cert.StepFfnDownRefIdeal.nD Cert.StepFfnDownRefIdeal.τ).loc Cert.StepFfnDownRefIdeal.main_v4) = v1 c
          ∧ r.2.mem ((c.tc : Thread Cert.StepFfnDownRefIdeal.nD Cert.StepFfnDownRefIdeal.τ).loc Cert.StepFfnDownRefIdeal.main_v10) = v2 c
          ∧ r.2.mem ((c.tc : Thread Cert.StepFfnDownRefIdeal.nD Cert.StepFfnDownRefIdeal.τ).loc Cert.StepFfnDownRefIdeal.main_arg0) = m' ((c.tc : Thread Cert.StepFfnDownRefIdeal.nD Cert.StepFfnDownRefIdeal.τ).loc Cert.StepFfnDownRefIdeal.main_arg0)
          ∧ r.2.mem ((c.tc : Thread Cert.StepFfnDownRefIdeal.nD Cert.StepFfnDownRefIdeal.τ).loc Cert.StepFfnDownRefIdeal.main_arg1) = m' ((c.tc : Thread Cert.StepFfnDownRefIdeal.nD Cert.StepFfnDownRefIdeal.τ).loc Cert.StepFfnDownRefIdeal.main_arg1)
          ∧ r.2.mem ((c.tc : Thread Cert.StepFfnDownRefIdeal.nD Cert.StepFfnDownRefIdeal.τ).loc Cert.StepFfnDownRefIdeal.main_arg2) = m' ((c.tc : Thread Cert.StepFfnDownRefIdeal.nD Cert.StepFfnDownRefIdeal.τ).loc Cert.StepFfnDownRefIdeal.main_arg2)
          ∧ r.2.mem ((c.tc : Thread Cert.StepFfnDownRefIdeal.nD Cert.StepFfnDownRefIdeal.τ).loc Cert.StepFfnDownRefIdeal.main_arg3) = m' ((c.tc : Thread Cert.StepFfnDownRefIdeal.nD Cert.StepFfnDownRefIdeal.τ).loc Cert.StepFfnDownRefIdeal.main_arg3))

def preserves_StepConvIn_StepConvInIdeal : Prop :=
  True

def algebraic_StepConvInIdeal_StepConvInRefIdeal [hStepConvInIdeal : Cert.StepConvInIdeal.Facts] [hStepConvInRefIdeal : Cert.StepConvInRefIdeal.Facts] : Prop :=
  ∀ (m : (ℓ : Loc Cert.StepConvInIdeal.nD Cert.StepConvInIdeal.τ Cert.StepConvInIdeal.sig) → Buf (Elt Ideal) ℓ) (g : Dev Cert.StepConvInIdeal.nD → PrngReg)
    (m' : (ℓ : Loc Cert.StepConvInRefIdeal.nD Cert.StepConvInRefIdeal.τ Cert.StepConvInRefIdeal.sig) → Buf (Elt Ideal) ℓ) (g' : Dev Cert.StepConvInRefIdeal.nD → PrngReg), Pre_StepConvInIdeal m →
    (∀ c : Dev Cert.StepConvInIdeal.nD,
      m' ((c.tc : Thread Cert.StepConvInRefIdeal.nD Cert.StepConvInRefIdeal.τ).loc Cert.StepConvInRefIdeal.main_arg0) = m ((c.tc : Thread Cert.StepConvInIdeal.nD Cert.StepConvInIdeal.τ).loc Cert.StepConvInIdeal.main_arg0)
      ∧ m' ((c.tc : Thread Cert.StepConvInRefIdeal.nD Cert.StepConvInRefIdeal.τ).loc Cert.StepConvInRefIdeal.main_arg1) = m ((c.tc : Thread Cert.StepConvInIdeal.nD Cert.StepConvInIdeal.τ).loc Cert.StepConvInIdeal.main_arg1)
      ∧ m' ((c.tc : Thread Cert.StepConvInRefIdeal.nD Cert.StepConvInRefIdeal.τ).loc Cert.StepConvInRefIdeal.main_arg2) = m ((c.tc : Thread Cert.StepConvInIdeal.nD Cert.StepConvInIdeal.τ).loc Cert.StepConvInIdeal.main_arg2)
      ∧ m' ((c.tc : Thread Cert.StepConvInRefIdeal.nD Cert.StepConvInRefIdeal.τ).loc Cert.StepConvInRefIdeal.main_arg3) = m ((c.tc : Thread Cert.StepConvInIdeal.nD Cert.StepConvInIdeal.τ).loc Cert.StepConvInIdeal.main_arg3)) →
    ∃ (v0 : (c : Dev Cert.StepConvInIdeal.nD) → Buf (Elt Ideal) ((c.tc : Thread Cert.StepConvInIdeal.nD Cert.StepConvInIdeal.τ).loc Cert.StepConvInIdeal.main_v0_0)) (v1 : (c : Dev Cert.StepConvInIdeal.nD) → Buf (Elt Ideal) ((c.tc : Thread Cert.StepConvInIdeal.nD Cert.StepConvInIdeal.τ).loc Cert.StepConvInIdeal.main_v0_1)) (v2 : (c : Dev Cert.StepConvInIdeal.nD) → Buf (Elt Ideal) ((c.tc : Thread Cert.StepConvInIdeal.nD Cert.StepConvInIdeal.τ).loc Cert.StepConvInIdeal.main_v0_2)),
      θ_run (Cert.StepConvInIdeal.defs (F := Ideal)) (onTc (τ := Cert.StepConvInIdeal.τ) (Cert.StepConvInIdeal.main (F := Ideal))) ⟨m, fun _ => 0, g⟩ (fun r => ∀ c : Dev Cert.StepConvInIdeal.nD,
          r.2.mem ((c.tc : Thread Cert.StepConvInIdeal.nD Cert.StepConvInIdeal.τ).loc Cert.StepConvInIdeal.main_v0_0) = v0 c
          ∧ r.2.mem ((c.tc : Thread Cert.StepConvInIdeal.nD Cert.StepConvInIdeal.τ).loc Cert.StepConvInIdeal.main_v0_1) = v1 c
          ∧ r.2.mem ((c.tc : Thread Cert.StepConvInIdeal.nD Cert.StepConvInIdeal.τ).loc Cert.StepConvInIdeal.main_v0_2) = v2 c
          ∧ r.2.mem ((c.tc : Thread Cert.StepConvInIdeal.nD Cert.StepConvInIdeal.τ).loc Cert.StepConvInIdeal.main_arg0) = m ((c.tc : Thread Cert.StepConvInIdeal.nD Cert.StepConvInIdeal.τ).loc Cert.StepConvInIdeal.main_arg0)
          ∧ r.2.mem ((c.tc : Thread Cert.StepConvInIdeal.nD Cert.StepConvInIdeal.τ).loc Cert.StepConvInIdeal.main_arg1) = m ((c.tc : Thread Cert.StepConvInIdeal.nD Cert.StepConvInIdeal.τ).loc Cert.StepConvInIdeal.main_arg1)
          ∧ r.2.mem ((c.tc : Thread Cert.StepConvInIdeal.nD Cert.StepConvInIdeal.τ).loc Cert.StepConvInIdeal.main_arg2) = m ((c.tc : Thread Cert.StepConvInIdeal.nD Cert.StepConvInIdeal.τ).loc Cert.StepConvInIdeal.main_arg2)
          ∧ r.2.mem ((c.tc : Thread Cert.StepConvInIdeal.nD Cert.StepConvInIdeal.τ).loc Cert.StepConvInIdeal.main_arg3) = m ((c.tc : Thread Cert.StepConvInIdeal.nD Cert.StepConvInIdeal.τ).loc Cert.StepConvInIdeal.main_arg3))
      ∧ θ_run (Cert.StepConvInRefIdeal.defs (F := Ideal)) (onTc (τ := Cert.StepConvInRefIdeal.τ) (Cert.StepConvInRefIdeal.main (F := Ideal))) ⟨m', fun _ => 0, g'⟩ (fun r => ∀ c : Dev Cert.StepConvInRefIdeal.nD,
          r.2.mem ((c.tc : Thread Cert.StepConvInRefIdeal.nD Cert.StepConvInRefIdeal.τ).loc Cert.StepConvInRefIdeal.main_v23) = v0 c
          ∧ r.2.mem ((c.tc : Thread Cert.StepConvInRefIdeal.nD Cert.StepConvInRefIdeal.τ).loc Cert.StepConvInRefIdeal.main_v4) = v1 c
          ∧ r.2.mem ((c.tc : Thread Cert.StepConvInRefIdeal.nD Cert.StepConvInRefIdeal.τ).loc Cert.StepConvInRefIdeal.main_v10) = v2 c
          ∧ r.2.mem ((c.tc : Thread Cert.StepConvInRefIdeal.nD Cert.StepConvInRefIdeal.τ).loc Cert.StepConvInRefIdeal.main_arg0) = m' ((c.tc : Thread Cert.StepConvInRefIdeal.nD Cert.StepConvInRefIdeal.τ).loc Cert.StepConvInRefIdeal.main_arg0)
          ∧ r.2.mem ((c.tc : Thread Cert.StepConvInRefIdeal.nD Cert.StepConvInRefIdeal.τ).loc Cert.StepConvInRefIdeal.main_arg1) = m' ((c.tc : Thread Cert.StepConvInRefIdeal.nD Cert.StepConvInRefIdeal.τ).loc Cert.StepConvInRefIdeal.main_arg1)
          ∧ r.2.mem ((c.tc : Thread Cert.StepConvInRefIdeal.nD Cert.StepConvInRefIdeal.τ).loc Cert.StepConvInRefIdeal.main_arg2) = m' ((c.tc : Thread Cert.StepConvInRefIdeal.nD Cert.StepConvInRefIdeal.τ).loc Cert.StepConvInRefIdeal.main_arg2)
          ∧ r.2.mem ((c.tc : Thread Cert.StepConvInRefIdeal.nD Cert.StepConvInRefIdeal.τ).loc Cert.StepConvInRefIdeal.main_arg3) = m' ((c.tc : Thread Cert.StepConvInRefIdeal.nD Cert.StepConvInRefIdeal.τ).loc Cert.StepConvInRefIdeal.main_arg3))

def preserves_StepConvOut_StepConvOutIdeal : Prop :=
  True

def algebraic_StepConvOutIdeal_StepConvOutRefIdeal [hStepConvOutIdeal : Cert.StepConvOutIdeal.Facts] [hStepConvOutRefIdeal : Cert.StepConvOutRefIdeal.Facts] : Prop :=
  ∀ (m : (ℓ : Loc Cert.StepConvOutIdeal.nD Cert.StepConvOutIdeal.τ Cert.StepConvOutIdeal.sig) → Buf (Elt Ideal) ℓ) (g : Dev Cert.StepConvOutIdeal.nD → PrngReg)
    (m' : (ℓ : Loc Cert.StepConvOutRefIdeal.nD Cert.StepConvOutRefIdeal.τ Cert.StepConvOutRefIdeal.sig) → Buf (Elt Ideal) ℓ) (g' : Dev Cert.StepConvOutRefIdeal.nD → PrngReg), Pre_StepConvOutIdeal m →
    (∀ c : Dev Cert.StepConvOutIdeal.nD,
      m' ((c.tc : Thread Cert.StepConvOutRefIdeal.nD Cert.StepConvOutRefIdeal.τ).loc Cert.StepConvOutRefIdeal.main_arg0) = m ((c.tc : Thread Cert.StepConvOutIdeal.nD Cert.StepConvOutIdeal.τ).loc Cert.StepConvOutIdeal.main_arg0)
      ∧ m' ((c.tc : Thread Cert.StepConvOutRefIdeal.nD Cert.StepConvOutRefIdeal.τ).loc Cert.StepConvOutRefIdeal.main_arg1) = m ((c.tc : Thread Cert.StepConvOutIdeal.nD Cert.StepConvOutIdeal.τ).loc Cert.StepConvOutIdeal.main_arg1)
      ∧ m' ((c.tc : Thread Cert.StepConvOutRefIdeal.nD Cert.StepConvOutRefIdeal.τ).loc Cert.StepConvOutRefIdeal.main_arg2) = m ((c.tc : Thread Cert.StepConvOutIdeal.nD Cert.StepConvOutIdeal.τ).loc Cert.StepConvOutIdeal.main_arg2)
      ∧ m' ((c.tc : Thread Cert.StepConvOutRefIdeal.nD Cert.StepConvOutRefIdeal.τ).loc Cert.StepConvOutRefIdeal.main_arg3) = m ((c.tc : Thread Cert.StepConvOutIdeal.nD Cert.StepConvOutIdeal.τ).loc Cert.StepConvOutIdeal.main_arg3)) →
    ∃ (v0 : (c : Dev Cert.StepConvOutIdeal.nD) → Buf (Elt Ideal) ((c.tc : Thread Cert.StepConvOutIdeal.nD Cert.StepConvOutIdeal.τ).loc Cert.StepConvOutIdeal.main_v0_0)) (v1 : (c : Dev Cert.StepConvOutIdeal.nD) → Buf (Elt Ideal) ((c.tc : Thread Cert.StepConvOutIdeal.nD Cert.StepConvOutIdeal.τ).loc Cert.StepConvOutIdeal.main_v0_1)) (v2 : (c : Dev Cert.StepConvOutIdeal.nD) → Buf (Elt Ideal) ((c.tc : Thread Cert.StepConvOutIdeal.nD Cert.StepConvOutIdeal.τ).loc Cert.StepConvOutIdeal.main_v0_2)),
      θ_run (Cert.StepConvOutIdeal.defs (F := Ideal)) (onTc (τ := Cert.StepConvOutIdeal.τ) (Cert.StepConvOutIdeal.main (F := Ideal))) ⟨m, fun _ => 0, g⟩ (fun r => ∀ c : Dev Cert.StepConvOutIdeal.nD,
          r.2.mem ((c.tc : Thread Cert.StepConvOutIdeal.nD Cert.StepConvOutIdeal.τ).loc Cert.StepConvOutIdeal.main_v0_0) = v0 c
          ∧ r.2.mem ((c.tc : Thread Cert.StepConvOutIdeal.nD Cert.StepConvOutIdeal.τ).loc Cert.StepConvOutIdeal.main_v0_1) = v1 c
          ∧ r.2.mem ((c.tc : Thread Cert.StepConvOutIdeal.nD Cert.StepConvOutIdeal.τ).loc Cert.StepConvOutIdeal.main_v0_2) = v2 c
          ∧ r.2.mem ((c.tc : Thread Cert.StepConvOutIdeal.nD Cert.StepConvOutIdeal.τ).loc Cert.StepConvOutIdeal.main_arg0) = m ((c.tc : Thread Cert.StepConvOutIdeal.nD Cert.StepConvOutIdeal.τ).loc Cert.StepConvOutIdeal.main_arg0)
          ∧ r.2.mem ((c.tc : Thread Cert.StepConvOutIdeal.nD Cert.StepConvOutIdeal.τ).loc Cert.StepConvOutIdeal.main_arg1) = m ((c.tc : Thread Cert.StepConvOutIdeal.nD Cert.StepConvOutIdeal.τ).loc Cert.StepConvOutIdeal.main_arg1)
          ∧ r.2.mem ((c.tc : Thread Cert.StepConvOutIdeal.nD Cert.StepConvOutIdeal.τ).loc Cert.StepConvOutIdeal.main_arg2) = m ((c.tc : Thread Cert.StepConvOutIdeal.nD Cert.StepConvOutIdeal.τ).loc Cert.StepConvOutIdeal.main_arg2)
          ∧ r.2.mem ((c.tc : Thread Cert.StepConvOutIdeal.nD Cert.StepConvOutIdeal.τ).loc Cert.StepConvOutIdeal.main_arg3) = m ((c.tc : Thread Cert.StepConvOutIdeal.nD Cert.StepConvOutIdeal.τ).loc Cert.StepConvOutIdeal.main_arg3))
      ∧ θ_run (Cert.StepConvOutRefIdeal.defs (F := Ideal)) (onTc (τ := Cert.StepConvOutRefIdeal.τ) (Cert.StepConvOutRefIdeal.main (F := Ideal))) ⟨m', fun _ => 0, g'⟩ (fun r => ∀ c : Dev Cert.StepConvOutRefIdeal.nD,
          r.2.mem ((c.tc : Thread Cert.StepConvOutRefIdeal.nD Cert.StepConvOutRefIdeal.τ).loc Cert.StepConvOutRefIdeal.main_v23) = v0 c
          ∧ r.2.mem ((c.tc : Thread Cert.StepConvOutRefIdeal.nD Cert.StepConvOutRefIdeal.τ).loc Cert.StepConvOutRefIdeal.main_v4) = v1 c
          ∧ r.2.mem ((c.tc : Thread Cert.StepConvOutRefIdeal.nD Cert.StepConvOutRefIdeal.τ).loc Cert.StepConvOutRefIdeal.main_v10) = v2 c
          ∧ r.2.mem ((c.tc : Thread Cert.StepConvOutRefIdeal.nD Cert.StepConvOutRefIdeal.τ).loc Cert.StepConvOutRefIdeal.main_arg0) = m' ((c.tc : Thread Cert.StepConvOutRefIdeal.nD Cert.StepConvOutRefIdeal.τ).loc Cert.StepConvOutRefIdeal.main_arg0)
          ∧ r.2.mem ((c.tc : Thread Cert.StepConvOutRefIdeal.nD Cert.StepConvOutRefIdeal.τ).loc Cert.StepConvOutRefIdeal.main_arg1) = m' ((c.tc : Thread Cert.StepConvOutRefIdeal.nD Cert.StepConvOutRefIdeal.τ).loc Cert.StepConvOutRefIdeal.main_arg1)
          ∧ r.2.mem ((c.tc : Thread Cert.StepConvOutRefIdeal.nD Cert.StepConvOutRefIdeal.τ).loc Cert.StepConvOutRefIdeal.main_arg2) = m' ((c.tc : Thread Cert.StepConvOutRefIdeal.nD Cert.StepConvOutRefIdeal.τ).loc Cert.StepConvOutRefIdeal.main_arg2)
          ∧ r.2.mem ((c.tc : Thread Cert.StepConvOutRefIdeal.nD Cert.StepConvOutRefIdeal.τ).loc Cert.StepConvOutRefIdeal.main_arg3) = m' ((c.tc : Thread Cert.StepConvOutRefIdeal.nD Cert.StepConvOutRefIdeal.τ).loc Cert.StepConvOutRefIdeal.main_arg3))

def preserves_StepFoxIn_StepFoxInIdeal : Prop :=
  True

def algebraic_StepFoxInIdeal_StepFoxInRefIdeal [hStepFoxInIdeal : Cert.StepFoxInIdeal.Facts] [hStepFoxInRefIdeal : Cert.StepFoxInRefIdeal.Facts] : Prop :=
  ∀ (m : (ℓ : Loc Cert.StepFoxInIdeal.nD Cert.StepFoxInIdeal.τ Cert.StepFoxInIdeal.sig) → Buf (Elt Ideal) ℓ) (g : Dev Cert.StepFoxInIdeal.nD → PrngReg)
    (m' : (ℓ : Loc Cert.StepFoxInRefIdeal.nD Cert.StepFoxInRefIdeal.τ Cert.StepFoxInRefIdeal.sig) → Buf (Elt Ideal) ℓ) (g' : Dev Cert.StepFoxInRefIdeal.nD → PrngReg), Pre_StepFoxInIdeal m →
    (∀ c : Dev Cert.StepFoxInIdeal.nD,
      m' ((c.tc : Thread Cert.StepFoxInRefIdeal.nD Cert.StepFoxInRefIdeal.τ).loc Cert.StepFoxInRefIdeal.main_arg0) = m ((c.tc : Thread Cert.StepFoxInIdeal.nD Cert.StepFoxInIdeal.τ).loc Cert.StepFoxInIdeal.main_arg0)
      ∧ m' ((c.tc : Thread Cert.StepFoxInRefIdeal.nD Cert.StepFoxInRefIdeal.τ).loc Cert.StepFoxInRefIdeal.main_arg1) = m ((c.tc : Thread Cert.StepFoxInIdeal.nD Cert.StepFoxInIdeal.τ).loc Cert.StepFoxInIdeal.main_arg1)
      ∧ m' ((c.tc : Thread Cert.StepFoxInRefIdeal.nD Cert.StepFoxInRefIdeal.τ).loc Cert.StepFoxInRefIdeal.main_arg2) = m ((c.tc : Thread Cert.StepFoxInIdeal.nD Cert.StepFoxInIdeal.τ).loc Cert.StepFoxInIdeal.main_arg2)
      ∧ m' ((c.tc : Thread Cert.StepFoxInRefIdeal.nD Cert.StepFoxInRefIdeal.τ).loc Cert.StepFoxInRefIdeal.main_arg3) = m ((c.tc : Thread Cert.StepFoxInIdeal.nD Cert.StepFoxInIdeal.τ).loc Cert.StepFoxInIdeal.main_arg3)) →
    ∃ (v0 : (c : Dev Cert.StepFoxInIdeal.nD) → Buf (Elt Ideal) ((c.tc : Thread Cert.StepFoxInIdeal.nD Cert.StepFoxInIdeal.τ).loc Cert.StepFoxInIdeal.main_v0_0)) (v1 : (c : Dev Cert.StepFoxInIdeal.nD) → Buf (Elt Ideal) ((c.tc : Thread Cert.StepFoxInIdeal.nD Cert.StepFoxInIdeal.τ).loc Cert.StepFoxInIdeal.main_v0_1)) (v2 : (c : Dev Cert.StepFoxInIdeal.nD) → Buf (Elt Ideal) ((c.tc : Thread Cert.StepFoxInIdeal.nD Cert.StepFoxInIdeal.τ).loc Cert.StepFoxInIdeal.main_v0_2)),
      θ_run (Cert.StepFoxInIdeal.defs (F := Ideal)) (onTc (τ := Cert.StepFoxInIdeal.τ) (Cert.StepFoxInIdeal.main (F := Ideal))) ⟨m, fun _ => 0, g⟩ (fun r => ∀ c : Dev Cert.StepFoxInIdeal.nD,
          r.2.mem ((c.tc : Thread Cert.StepFoxInIdeal.nD Cert.StepFoxInIdeal.τ).loc Cert.StepFoxInIdeal.main_v0_0) = v0 c
          ∧ r.2.mem ((c.tc : Thread Cert.StepFoxInIdeal.nD Cert.StepFoxInIdeal.τ).loc Cert.StepFoxInIdeal.main_v0_1) = v1 c
          ∧ r.2.mem ((c.tc : Thread Cert.StepFoxInIdeal.nD Cert.StepFoxInIdeal.τ).loc Cert.StepFoxInIdeal.main_v0_2) = v2 c
          ∧ r.2.mem ((c.tc : Thread Cert.StepFoxInIdeal.nD Cert.StepFoxInIdeal.τ).loc Cert.StepFoxInIdeal.main_arg0) = m ((c.tc : Thread Cert.StepFoxInIdeal.nD Cert.StepFoxInIdeal.τ).loc Cert.StepFoxInIdeal.main_arg0)
          ∧ r.2.mem ((c.tc : Thread Cert.StepFoxInIdeal.nD Cert.StepFoxInIdeal.τ).loc Cert.StepFoxInIdeal.main_arg1) = m ((c.tc : Thread Cert.StepFoxInIdeal.nD Cert.StepFoxInIdeal.τ).loc Cert.StepFoxInIdeal.main_arg1)
          ∧ r.2.mem ((c.tc : Thread Cert.StepFoxInIdeal.nD Cert.StepFoxInIdeal.τ).loc Cert.StepFoxInIdeal.main_arg2) = m ((c.tc : Thread Cert.StepFoxInIdeal.nD Cert.StepFoxInIdeal.τ).loc Cert.StepFoxInIdeal.main_arg2)
          ∧ r.2.mem ((c.tc : Thread Cert.StepFoxInIdeal.nD Cert.StepFoxInIdeal.τ).loc Cert.StepFoxInIdeal.main_arg3) = m ((c.tc : Thread Cert.StepFoxInIdeal.nD Cert.StepFoxInIdeal.τ).loc Cert.StepFoxInIdeal.main_arg3))
      ∧ θ_run (Cert.StepFoxInRefIdeal.defs (F := Ideal)) (onTc (τ := Cert.StepFoxInRefIdeal.τ) (Cert.StepFoxInRefIdeal.main (F := Ideal))) ⟨m', fun _ => 0, g'⟩ (fun r => ∀ c : Dev Cert.StepFoxInRefIdeal.nD,
          r.2.mem ((c.tc : Thread Cert.StepFoxInRefIdeal.nD Cert.StepFoxInRefIdeal.τ).loc Cert.StepFoxInRefIdeal.main_v23) = v0 c
          ∧ r.2.mem ((c.tc : Thread Cert.StepFoxInRefIdeal.nD Cert.StepFoxInRefIdeal.τ).loc Cert.StepFoxInRefIdeal.main_v4) = v1 c
          ∧ r.2.mem ((c.tc : Thread Cert.StepFoxInRefIdeal.nD Cert.StepFoxInRefIdeal.τ).loc Cert.StepFoxInRefIdeal.main_v10) = v2 c
          ∧ r.2.mem ((c.tc : Thread Cert.StepFoxInRefIdeal.nD Cert.StepFoxInRefIdeal.τ).loc Cert.StepFoxInRefIdeal.main_arg0) = m' ((c.tc : Thread Cert.StepFoxInRefIdeal.nD Cert.StepFoxInRefIdeal.τ).loc Cert.StepFoxInRefIdeal.main_arg0)
          ∧ r.2.mem ((c.tc : Thread Cert.StepFoxInRefIdeal.nD Cert.StepFoxInRefIdeal.τ).loc Cert.StepFoxInRefIdeal.main_arg1) = m' ((c.tc : Thread Cert.StepFoxInRefIdeal.nD Cert.StepFoxInRefIdeal.τ).loc Cert.StepFoxInRefIdeal.main_arg1)
          ∧ r.2.mem ((c.tc : Thread Cert.StepFoxInRefIdeal.nD Cert.StepFoxInRefIdeal.τ).loc Cert.StepFoxInRefIdeal.main_arg2) = m' ((c.tc : Thread Cert.StepFoxInRefIdeal.nD Cert.StepFoxInRefIdeal.τ).loc Cert.StepFoxInRefIdeal.main_arg2)
          ∧ r.2.mem ((c.tc : Thread Cert.StepFoxInRefIdeal.nD Cert.StepFoxInRefIdeal.τ).loc Cert.StepFoxInRefIdeal.main_arg3) = m' ((c.tc : Thread Cert.StepFoxInRefIdeal.nD Cert.StepFoxInRefIdeal.τ).loc Cert.StepFoxInRefIdeal.main_arg3))

def preserves_StepFoxOut_StepFoxOutIdeal : Prop :=
  True

def algebraic_StepFoxOutIdeal_StepFoxOutRefIdeal [hStepFoxOutIdeal : Cert.StepFoxOutIdeal.Facts] [hStepFoxOutRefIdeal : Cert.StepFoxOutRefIdeal.Facts] : Prop :=
  ∀ (m : (ℓ : Loc Cert.StepFoxOutIdeal.nD Cert.StepFoxOutIdeal.τ Cert.StepFoxOutIdeal.sig) → Buf (Elt Ideal) ℓ) (g : Dev Cert.StepFoxOutIdeal.nD → PrngReg)
    (m' : (ℓ : Loc Cert.StepFoxOutRefIdeal.nD Cert.StepFoxOutRefIdeal.τ Cert.StepFoxOutRefIdeal.sig) → Buf (Elt Ideal) ℓ) (g' : Dev Cert.StepFoxOutRefIdeal.nD → PrngReg), Pre_StepFoxOutIdeal m →
    (∀ c : Dev Cert.StepFoxOutIdeal.nD,
      m' ((c.tc : Thread Cert.StepFoxOutRefIdeal.nD Cert.StepFoxOutRefIdeal.τ).loc Cert.StepFoxOutRefIdeal.main_arg0) = m ((c.tc : Thread Cert.StepFoxOutIdeal.nD Cert.StepFoxOutIdeal.τ).loc Cert.StepFoxOutIdeal.main_arg0)
      ∧ m' ((c.tc : Thread Cert.StepFoxOutRefIdeal.nD Cert.StepFoxOutRefIdeal.τ).loc Cert.StepFoxOutRefIdeal.main_arg1) = m ((c.tc : Thread Cert.StepFoxOutIdeal.nD Cert.StepFoxOutIdeal.τ).loc Cert.StepFoxOutIdeal.main_arg1)
      ∧ m' ((c.tc : Thread Cert.StepFoxOutRefIdeal.nD Cert.StepFoxOutRefIdeal.τ).loc Cert.StepFoxOutRefIdeal.main_arg2) = m ((c.tc : Thread Cert.StepFoxOutIdeal.nD Cert.StepFoxOutIdeal.τ).loc Cert.StepFoxOutIdeal.main_arg2)
      ∧ m' ((c.tc : Thread Cert.StepFoxOutRefIdeal.nD Cert.StepFoxOutRefIdeal.τ).loc Cert.StepFoxOutRefIdeal.main_arg3) = m ((c.tc : Thread Cert.StepFoxOutIdeal.nD Cert.StepFoxOutIdeal.τ).loc Cert.StepFoxOutIdeal.main_arg3)) →
    ∃ (v0 : (c : Dev Cert.StepFoxOutIdeal.nD) → Buf (Elt Ideal) ((c.tc : Thread Cert.StepFoxOutIdeal.nD Cert.StepFoxOutIdeal.τ).loc Cert.StepFoxOutIdeal.main_v0_0)) (v1 : (c : Dev Cert.StepFoxOutIdeal.nD) → Buf (Elt Ideal) ((c.tc : Thread Cert.StepFoxOutIdeal.nD Cert.StepFoxOutIdeal.τ).loc Cert.StepFoxOutIdeal.main_v0_1)) (v2 : (c : Dev Cert.StepFoxOutIdeal.nD) → Buf (Elt Ideal) ((c.tc : Thread Cert.StepFoxOutIdeal.nD Cert.StepFoxOutIdeal.τ).loc Cert.StepFoxOutIdeal.main_v0_2)),
      θ_run (Cert.StepFoxOutIdeal.defs (F := Ideal)) (onTc (τ := Cert.StepFoxOutIdeal.τ) (Cert.StepFoxOutIdeal.main (F := Ideal))) ⟨m, fun _ => 0, g⟩ (fun r => ∀ c : Dev Cert.StepFoxOutIdeal.nD,
          r.2.mem ((c.tc : Thread Cert.StepFoxOutIdeal.nD Cert.StepFoxOutIdeal.τ).loc Cert.StepFoxOutIdeal.main_v0_0) = v0 c
          ∧ r.2.mem ((c.tc : Thread Cert.StepFoxOutIdeal.nD Cert.StepFoxOutIdeal.τ).loc Cert.StepFoxOutIdeal.main_v0_1) = v1 c
          ∧ r.2.mem ((c.tc : Thread Cert.StepFoxOutIdeal.nD Cert.StepFoxOutIdeal.τ).loc Cert.StepFoxOutIdeal.main_v0_2) = v2 c
          ∧ r.2.mem ((c.tc : Thread Cert.StepFoxOutIdeal.nD Cert.StepFoxOutIdeal.τ).loc Cert.StepFoxOutIdeal.main_arg0) = m ((c.tc : Thread Cert.StepFoxOutIdeal.nD Cert.StepFoxOutIdeal.τ).loc Cert.StepFoxOutIdeal.main_arg0)
          ∧ r.2.mem ((c.tc : Thread Cert.StepFoxOutIdeal.nD Cert.StepFoxOutIdeal.τ).loc Cert.StepFoxOutIdeal.main_arg1) = m ((c.tc : Thread Cert.StepFoxOutIdeal.nD Cert.StepFoxOutIdeal.τ).loc Cert.StepFoxOutIdeal.main_arg1)
          ∧ r.2.mem ((c.tc : Thread Cert.StepFoxOutIdeal.nD Cert.StepFoxOutIdeal.τ).loc Cert.StepFoxOutIdeal.main_arg2) = m ((c.tc : Thread Cert.StepFoxOutIdeal.nD Cert.StepFoxOutIdeal.τ).loc Cert.StepFoxOutIdeal.main_arg2)
          ∧ r.2.mem ((c.tc : Thread Cert.StepFoxOutIdeal.nD Cert.StepFoxOutIdeal.τ).loc Cert.StepFoxOutIdeal.main_arg3) = m ((c.tc : Thread Cert.StepFoxOutIdeal.nD Cert.StepFoxOutIdeal.τ).loc Cert.StepFoxOutIdeal.main_arg3))
      ∧ θ_run (Cert.StepFoxOutRefIdeal.defs (F := Ideal)) (onTc (τ := Cert.StepFoxOutRefIdeal.τ) (Cert.StepFoxOutRefIdeal.main (F := Ideal))) ⟨m', fun _ => 0, g'⟩ (fun r => ∀ c : Dev Cert.StepFoxOutRefIdeal.nD,
          r.2.mem ((c.tc : Thread Cert.StepFoxOutRefIdeal.nD Cert.StepFoxOutRefIdeal.τ).loc Cert.StepFoxOutRefIdeal.main_v23) = v0 c
          ∧ r.2.mem ((c.tc : Thread Cert.StepFoxOutRefIdeal.nD Cert.StepFoxOutRefIdeal.τ).loc Cert.StepFoxOutRefIdeal.main_v4) = v1 c
          ∧ r.2.mem ((c.tc : Thread Cert.StepFoxOutRefIdeal.nD Cert.StepFoxOutRefIdeal.τ).loc Cert.StepFoxOutRefIdeal.main_v10) = v2 c
          ∧ r.2.mem ((c.tc : Thread Cert.StepFoxOutRefIdeal.nD Cert.StepFoxOutRefIdeal.τ).loc Cert.StepFoxOutRefIdeal.main_arg0) = m' ((c.tc : Thread Cert.StepFoxOutRefIdeal.nD Cert.StepFoxOutRefIdeal.τ).loc Cert.StepFoxOutRefIdeal.main_arg0)
          ∧ r.2.mem ((c.tc : Thread Cert.StepFoxOutRefIdeal.nD Cert.StepFoxOutRefIdeal.τ).loc Cert.StepFoxOutRefIdeal.main_arg1) = m' ((c.tc : Thread Cert.StepFoxOutRefIdeal.nD Cert.StepFoxOutRefIdeal.τ).loc Cert.StepFoxOutRefIdeal.main_arg1)
          ∧ r.2.mem ((c.tc : Thread Cert.StepFoxOutRefIdeal.nD Cert.StepFoxOutRefIdeal.τ).loc Cert.StepFoxOutRefIdeal.main_arg2) = m' ((c.tc : Thread Cert.StepFoxOutRefIdeal.nD Cert.StepFoxOutRefIdeal.τ).loc Cert.StepFoxOutRefIdeal.main_arg2)
          ∧ r.2.mem ((c.tc : Thread Cert.StepFoxOutRefIdeal.nD Cert.StepFoxOutRefIdeal.τ).loc Cert.StepFoxOutRefIdeal.main_arg3) = m' ((c.tc : Thread Cert.StepFoxOutRefIdeal.nD Cert.StepFoxOutRefIdeal.τ).loc Cert.StepFoxOutRefIdeal.main_arg3))

def preserves_StepSsdIn_StepSsdInIdeal : Prop :=
  True

def algebraic_StepSsdInIdeal_StepSsdInRefIdeal [hStepSsdInIdeal : Cert.StepSsdInIdeal.Facts] [hStepSsdInRefIdeal : Cert.StepSsdInRefIdeal.Facts] : Prop :=
  ∀ (m : (ℓ : Loc Cert.StepSsdInIdeal.nD Cert.StepSsdInIdeal.τ Cert.StepSsdInIdeal.sig) → Buf (Elt Ideal) ℓ) (g : Dev Cert.StepSsdInIdeal.nD → PrngReg)
    (m' : (ℓ : Loc Cert.StepSsdInRefIdeal.nD Cert.StepSsdInRefIdeal.τ Cert.StepSsdInRefIdeal.sig) → Buf (Elt Ideal) ℓ) (g' : Dev Cert.StepSsdInRefIdeal.nD → PrngReg), Pre_StepSsdInIdeal m →
    (∀ c : Dev Cert.StepSsdInIdeal.nD,
      m' ((c.tc : Thread Cert.StepSsdInRefIdeal.nD Cert.StepSsdInRefIdeal.τ).loc Cert.StepSsdInRefIdeal.main_arg0) = m ((c.tc : Thread Cert.StepSsdInIdeal.nD Cert.StepSsdInIdeal.τ).loc Cert.StepSsdInIdeal.main_arg0)
      ∧ m' ((c.tc : Thread Cert.StepSsdInRefIdeal.nD Cert.StepSsdInRefIdeal.τ).loc Cert.StepSsdInRefIdeal.main_arg1) = m ((c.tc : Thread Cert.StepSsdInIdeal.nD Cert.StepSsdInIdeal.τ).loc Cert.StepSsdInIdeal.main_arg1)
      ∧ m' ((c.tc : Thread Cert.StepSsdInRefIdeal.nD Cert.StepSsdInRefIdeal.τ).loc Cert.StepSsdInRefIdeal.main_arg2) = m ((c.tc : Thread Cert.StepSsdInIdeal.nD Cert.StepSsdInIdeal.τ).loc Cert.StepSsdInIdeal.main_arg2)
      ∧ m' ((c.tc : Thread Cert.StepSsdInRefIdeal.nD Cert.StepSsdInRefIdeal.τ).loc Cert.StepSsdInRefIdeal.main_arg3) = m ((c.tc : Thread Cert.StepSsdInIdeal.nD Cert.StepSsdInIdeal.τ).loc Cert.StepSsdInIdeal.main_arg3)) →
    ∃ (v0 : (c : Dev Cert.StepSsdInIdeal.nD) → Buf (Elt Ideal) ((c.tc : Thread Cert.StepSsdInIdeal.nD Cert.StepSsdInIdeal.τ).loc Cert.StepSsdInIdeal.main_v0_0)) (v1 : (c : Dev Cert.StepSsdInIdeal.nD) → Buf (Elt Ideal) ((c.tc : Thread Cert.StepSsdInIdeal.nD Cert.StepSsdInIdeal.τ).loc Cert.StepSsdInIdeal.main_v0_1)) (v2 : (c : Dev Cert.StepSsdInIdeal.nD) → Buf (Elt Ideal) ((c.tc : Thread Cert.StepSsdInIdeal.nD Cert.StepSsdInIdeal.τ).loc Cert.StepSsdInIdeal.main_v0_2)),
      θ_run (Cert.StepSsdInIdeal.defs (F := Ideal)) (onTc (τ := Cert.StepSsdInIdeal.τ) (Cert.StepSsdInIdeal.main (F := Ideal))) ⟨m, fun _ => 0, g⟩ (fun r => ∀ c : Dev Cert.StepSsdInIdeal.nD,
          r.2.mem ((c.tc : Thread Cert.StepSsdInIdeal.nD Cert.StepSsdInIdeal.τ).loc Cert.StepSsdInIdeal.main_v0_0) = v0 c
          ∧ r.2.mem ((c.tc : Thread Cert.StepSsdInIdeal.nD Cert.StepSsdInIdeal.τ).loc Cert.StepSsdInIdeal.main_v0_1) = v1 c
          ∧ r.2.mem ((c.tc : Thread Cert.StepSsdInIdeal.nD Cert.StepSsdInIdeal.τ).loc Cert.StepSsdInIdeal.main_v0_2) = v2 c
          ∧ r.2.mem ((c.tc : Thread Cert.StepSsdInIdeal.nD Cert.StepSsdInIdeal.τ).loc Cert.StepSsdInIdeal.main_arg0) = m ((c.tc : Thread Cert.StepSsdInIdeal.nD Cert.StepSsdInIdeal.τ).loc Cert.StepSsdInIdeal.main_arg0)
          ∧ r.2.mem ((c.tc : Thread Cert.StepSsdInIdeal.nD Cert.StepSsdInIdeal.τ).loc Cert.StepSsdInIdeal.main_arg1) = m ((c.tc : Thread Cert.StepSsdInIdeal.nD Cert.StepSsdInIdeal.τ).loc Cert.StepSsdInIdeal.main_arg1)
          ∧ r.2.mem ((c.tc : Thread Cert.StepSsdInIdeal.nD Cert.StepSsdInIdeal.τ).loc Cert.StepSsdInIdeal.main_arg2) = m ((c.tc : Thread Cert.StepSsdInIdeal.nD Cert.StepSsdInIdeal.τ).loc Cert.StepSsdInIdeal.main_arg2)
          ∧ r.2.mem ((c.tc : Thread Cert.StepSsdInIdeal.nD Cert.StepSsdInIdeal.τ).loc Cert.StepSsdInIdeal.main_arg3) = m ((c.tc : Thread Cert.StepSsdInIdeal.nD Cert.StepSsdInIdeal.τ).loc Cert.StepSsdInIdeal.main_arg3))
      ∧ θ_run (Cert.StepSsdInRefIdeal.defs (F := Ideal)) (onTc (τ := Cert.StepSsdInRefIdeal.τ) (Cert.StepSsdInRefIdeal.main (F := Ideal))) ⟨m', fun _ => 0, g'⟩ (fun r => ∀ c : Dev Cert.StepSsdInRefIdeal.nD,
          r.2.mem ((c.tc : Thread Cert.StepSsdInRefIdeal.nD Cert.StepSsdInRefIdeal.τ).loc Cert.StepSsdInRefIdeal.main_v23) = v0 c
          ∧ r.2.mem ((c.tc : Thread Cert.StepSsdInRefIdeal.nD Cert.StepSsdInRefIdeal.τ).loc Cert.StepSsdInRefIdeal.main_v4) = v1 c
          ∧ r.2.mem ((c.tc : Thread Cert.StepSsdInRefIdeal.nD Cert.StepSsdInRefIdeal.τ).loc Cert.StepSsdInRefIdeal.main_v10) = v2 c
          ∧ r.2.mem ((c.tc : Thread Cert.StepSsdInRefIdeal.nD Cert.StepSsdInRefIdeal.τ).loc Cert.StepSsdInRefIdeal.main_arg0) = m' ((c.tc : Thread Cert.StepSsdInRefIdeal.nD Cert.StepSsdInRefIdeal.τ).loc Cert.StepSsdInRefIdeal.main_arg0)
          ∧ r.2.mem ((c.tc : Thread Cert.StepSsdInRefIdeal.nD Cert.StepSsdInRefIdeal.τ).loc Cert.StepSsdInRefIdeal.main_arg1) = m' ((c.tc : Thread Cert.StepSsdInRefIdeal.nD Cert.StepSsdInRefIdeal.τ).loc Cert.StepSsdInRefIdeal.main_arg1)
          ∧ r.2.mem ((c.tc : Thread Cert.StepSsdInRefIdeal.nD Cert.StepSsdInRefIdeal.τ).loc Cert.StepSsdInRefIdeal.main_arg2) = m' ((c.tc : Thread Cert.StepSsdInRefIdeal.nD Cert.StepSsdInRefIdeal.τ).loc Cert.StepSsdInRefIdeal.main_arg2)
          ∧ r.2.mem ((c.tc : Thread Cert.StepSsdInRefIdeal.nD Cert.StepSsdInRefIdeal.τ).loc Cert.StepSsdInRefIdeal.main_arg3) = m' ((c.tc : Thread Cert.StepSsdInRefIdeal.nD Cert.StepSsdInRefIdeal.τ).loc Cert.StepSsdInRefIdeal.main_arg3))

def preserves_StepConvDw_StepConvDwIdeal : Prop :=
  True

def algebraic_StepConvDwIdeal_StepConvDwRefIdeal [hStepConvDwIdeal : Cert.StepConvDwIdeal.Facts] [hStepConvDwRefIdeal : Cert.StepConvDwRefIdeal.Facts] : Prop :=
  ∀ (m : (ℓ : Loc Cert.StepConvDwIdeal.nD Cert.StepConvDwIdeal.τ Cert.StepConvDwIdeal.sig) → Buf (Elt Ideal) ℓ) (g : Dev Cert.StepConvDwIdeal.nD → PrngReg)
    (m' : (ℓ : Loc Cert.StepConvDwRefIdeal.nD Cert.StepConvDwRefIdeal.τ Cert.StepConvDwRefIdeal.sig) → Buf (Elt Ideal) ℓ) (g' : Dev Cert.StepConvDwRefIdeal.nD → PrngReg), Pre_StepConvDwIdeal m →
    (∀ c : Dev Cert.StepConvDwIdeal.nD,
      m' ((c.tc : Thread Cert.StepConvDwRefIdeal.nD Cert.StepConvDwRefIdeal.τ).loc Cert.StepConvDwRefIdeal.main_arg0) = m ((c.tc : Thread Cert.StepConvDwIdeal.nD Cert.StepConvDwIdeal.τ).loc Cert.StepConvDwIdeal.main_arg0)
      ∧ m' ((c.tc : Thread Cert.StepConvDwRefIdeal.nD Cert.StepConvDwRefIdeal.τ).loc Cert.StepConvDwRefIdeal.main_arg1) = m ((c.tc : Thread Cert.StepConvDwIdeal.nD Cert.StepConvDwIdeal.τ).loc Cert.StepConvDwIdeal.main_arg1)
      ∧ m' ((c.tc : Thread Cert.StepConvDwRefIdeal.nD Cert.StepConvDwRefIdeal.τ).loc Cert.StepConvDwRefIdeal.main_arg2) = m ((c.tc : Thread Cert.StepConvDwIdeal.nD Cert.StepConvDwIdeal.τ).loc Cert.StepConvDwIdeal.main_arg2)
      ∧ m' ((c.tc : Thread Cert.StepConvDwRefIdeal.nD Cert.StepConvDwRefIdeal.τ).loc Cert.StepConvDwRefIdeal.main_arg3) = m ((c.tc : Thread Cert.StepConvDwIdeal.nD Cert.StepConvDwIdeal.τ).loc Cert.StepConvDwIdeal.main_arg3)) →
    ∃ (v0 : (c : Dev Cert.StepConvDwIdeal.nD) → Buf (Elt Ideal) ((c.tc : Thread Cert.StepConvDwIdeal.nD Cert.StepConvDwIdeal.τ).loc Cert.StepConvDwIdeal.main_v0_0)) (v1 : (c : Dev Cert.StepConvDwIdeal.nD) → Buf (Elt Ideal) ((c.tc : Thread Cert.StepConvDwIdeal.nD Cert.StepConvDwIdeal.τ).loc Cert.StepConvDwIdeal.main_v0_1)) (v2 : (c : Dev Cert.StepConvDwIdeal.nD) → Buf (Elt Ideal) ((c.tc : Thread Cert.StepConvDwIdeal.nD Cert.StepConvDwIdeal.τ).loc Cert.StepConvDwIdeal.main_v0_2)),
      θ_run (Cert.StepConvDwIdeal.defs (F := Ideal)) (onTc (τ := Cert.StepConvDwIdeal.τ) (Cert.StepConvDwIdeal.main (F := Ideal))) ⟨m, fun _ => 0, g⟩ (fun r => ∀ c : Dev Cert.StepConvDwIdeal.nD,
          r.2.mem ((c.tc : Thread Cert.StepConvDwIdeal.nD Cert.StepConvDwIdeal.τ).loc Cert.StepConvDwIdeal.main_v0_0) = v0 c
          ∧ r.2.mem ((c.tc : Thread Cert.StepConvDwIdeal.nD Cert.StepConvDwIdeal.τ).loc Cert.StepConvDwIdeal.main_v0_1) = v1 c
          ∧ r.2.mem ((c.tc : Thread Cert.StepConvDwIdeal.nD Cert.StepConvDwIdeal.τ).loc Cert.StepConvDwIdeal.main_v0_2) = v2 c
          ∧ r.2.mem ((c.tc : Thread Cert.StepConvDwIdeal.nD Cert.StepConvDwIdeal.τ).loc Cert.StepConvDwIdeal.main_arg0) = m ((c.tc : Thread Cert.StepConvDwIdeal.nD Cert.StepConvDwIdeal.τ).loc Cert.StepConvDwIdeal.main_arg0)
          ∧ r.2.mem ((c.tc : Thread Cert.StepConvDwIdeal.nD Cert.StepConvDwIdeal.τ).loc Cert.StepConvDwIdeal.main_arg1) = m ((c.tc : Thread Cert.StepConvDwIdeal.nD Cert.StepConvDwIdeal.τ).loc Cert.StepConvDwIdeal.main_arg1)
          ∧ r.2.mem ((c.tc : Thread Cert.StepConvDwIdeal.nD Cert.StepConvDwIdeal.τ).loc Cert.StepConvDwIdeal.main_arg2) = m ((c.tc : Thread Cert.StepConvDwIdeal.nD Cert.StepConvDwIdeal.τ).loc Cert.StepConvDwIdeal.main_arg2)
          ∧ r.2.mem ((c.tc : Thread Cert.StepConvDwIdeal.nD Cert.StepConvDwIdeal.τ).loc Cert.StepConvDwIdeal.main_arg3) = m ((c.tc : Thread Cert.StepConvDwIdeal.nD Cert.StepConvDwIdeal.τ).loc Cert.StepConvDwIdeal.main_arg3))
      ∧ θ_run (Cert.StepConvDwRefIdeal.defs (F := Ideal)) (onTc (τ := Cert.StepConvDwRefIdeal.τ) (Cert.StepConvDwRefIdeal.main (F := Ideal))) ⟨m', fun _ => 0, g'⟩ (fun r => ∀ c : Dev Cert.StepConvDwRefIdeal.nD,
          r.2.mem ((c.tc : Thread Cert.StepConvDwRefIdeal.nD Cert.StepConvDwRefIdeal.τ).loc Cert.StepConvDwRefIdeal.main_v23) = v0 c
          ∧ r.2.mem ((c.tc : Thread Cert.StepConvDwRefIdeal.nD Cert.StepConvDwRefIdeal.τ).loc Cert.StepConvDwRefIdeal.main_v4) = v1 c
          ∧ r.2.mem ((c.tc : Thread Cert.StepConvDwRefIdeal.nD Cert.StepConvDwRefIdeal.τ).loc Cert.StepConvDwRefIdeal.main_v10) = v2 c
          ∧ r.2.mem ((c.tc : Thread Cert.StepConvDwRefIdeal.nD Cert.StepConvDwRefIdeal.τ).loc Cert.StepConvDwRefIdeal.main_arg0) = m' ((c.tc : Thread Cert.StepConvDwRefIdeal.nD Cert.StepConvDwRefIdeal.τ).loc Cert.StepConvDwRefIdeal.main_arg0)
          ∧ r.2.mem ((c.tc : Thread Cert.StepConvDwRefIdeal.nD Cert.StepConvDwRefIdeal.τ).loc Cert.StepConvDwRefIdeal.main_arg1) = m' ((c.tc : Thread Cert.StepConvDwRefIdeal.nD Cert.StepConvDwRefIdeal.τ).loc Cert.StepConvDwRefIdeal.main_arg1)
          ∧ r.2.mem ((c.tc : Thread Cert.StepConvDwRefIdeal.nD Cert.StepConvDwRefIdeal.τ).loc Cert.StepConvDwRefIdeal.main_arg2) = m' ((c.tc : Thread Cert.StepConvDwRefIdeal.nD Cert.StepConvDwRefIdeal.τ).loc Cert.StepConvDwRefIdeal.main_arg2)
          ∧ r.2.mem ((c.tc : Thread Cert.StepConvDwRefIdeal.nD Cert.StepConvDwRefIdeal.τ).loc Cert.StepConvDwRefIdeal.main_arg3) = m' ((c.tc : Thread Cert.StepConvDwRefIdeal.nD Cert.StepConvDwRefIdeal.τ).loc Cert.StepConvDwRefIdeal.main_arg3))

def preserves_StepSsdConvW_StepSsdConvWIdeal : Prop :=
  True

def algebraic_StepSsdConvWIdeal_StepSsdConvWRefIdeal [hStepSsdConvWIdeal : Cert.StepSsdConvWIdeal.Facts] [hStepSsdConvWRefIdeal : Cert.StepSsdConvWRefIdeal.Facts] : Prop :=
  ∀ (m : (ℓ : Loc Cert.StepSsdConvWIdeal.nD Cert.StepSsdConvWIdeal.τ Cert.StepSsdConvWIdeal.sig) → Buf (Elt Ideal) ℓ) (g : Dev Cert.StepSsdConvWIdeal.nD → PrngReg)
    (m' : (ℓ : Loc Cert.StepSsdConvWRefIdeal.nD Cert.StepSsdConvWRefIdeal.τ Cert.StepSsdConvWRefIdeal.sig) → Buf (Elt Ideal) ℓ) (g' : Dev Cert.StepSsdConvWRefIdeal.nD → PrngReg), Pre_StepSsdConvWIdeal m →
    (∀ c : Dev Cert.StepSsdConvWIdeal.nD,
      m' ((c.tc : Thread Cert.StepSsdConvWRefIdeal.nD Cert.StepSsdConvWRefIdeal.τ).loc Cert.StepSsdConvWRefIdeal.main_arg0) = m ((c.tc : Thread Cert.StepSsdConvWIdeal.nD Cert.StepSsdConvWIdeal.τ).loc Cert.StepSsdConvWIdeal.main_arg0)
      ∧ m' ((c.tc : Thread Cert.StepSsdConvWRefIdeal.nD Cert.StepSsdConvWRefIdeal.τ).loc Cert.StepSsdConvWRefIdeal.main_arg1) = m ((c.tc : Thread Cert.StepSsdConvWIdeal.nD Cert.StepSsdConvWIdeal.τ).loc Cert.StepSsdConvWIdeal.main_arg1)
      ∧ m' ((c.tc : Thread Cert.StepSsdConvWRefIdeal.nD Cert.StepSsdConvWRefIdeal.τ).loc Cert.StepSsdConvWRefIdeal.main_arg2) = m ((c.tc : Thread Cert.StepSsdConvWIdeal.nD Cert.StepSsdConvWIdeal.τ).loc Cert.StepSsdConvWIdeal.main_arg2)
      ∧ m' ((c.tc : Thread Cert.StepSsdConvWRefIdeal.nD Cert.StepSsdConvWRefIdeal.τ).loc Cert.StepSsdConvWRefIdeal.main_arg3) = m ((c.tc : Thread Cert.StepSsdConvWIdeal.nD Cert.StepSsdConvWIdeal.τ).loc Cert.StepSsdConvWIdeal.main_arg3)) →
    ∃ (v0 : (c : Dev Cert.StepSsdConvWIdeal.nD) → Buf (Elt Ideal) ((c.tc : Thread Cert.StepSsdConvWIdeal.nD Cert.StepSsdConvWIdeal.τ).loc Cert.StepSsdConvWIdeal.main_v0_0)) (v1 : (c : Dev Cert.StepSsdConvWIdeal.nD) → Buf (Elt Ideal) ((c.tc : Thread Cert.StepSsdConvWIdeal.nD Cert.StepSsdConvWIdeal.τ).loc Cert.StepSsdConvWIdeal.main_v0_1)) (v2 : (c : Dev Cert.StepSsdConvWIdeal.nD) → Buf (Elt Ideal) ((c.tc : Thread Cert.StepSsdConvWIdeal.nD Cert.StepSsdConvWIdeal.τ).loc Cert.StepSsdConvWIdeal.main_v0_2)),
      θ_run (Cert.StepSsdConvWIdeal.defs (F := Ideal)) (onTc (τ := Cert.StepSsdConvWIdeal.τ) (Cert.StepSsdConvWIdeal.main (F := Ideal))) ⟨m, fun _ => 0, g⟩ (fun r => ∀ c : Dev Cert.StepSsdConvWIdeal.nD,
          r.2.mem ((c.tc : Thread Cert.StepSsdConvWIdeal.nD Cert.StepSsdConvWIdeal.τ).loc Cert.StepSsdConvWIdeal.main_v0_0) = v0 c
          ∧ r.2.mem ((c.tc : Thread Cert.StepSsdConvWIdeal.nD Cert.StepSsdConvWIdeal.τ).loc Cert.StepSsdConvWIdeal.main_v0_1) = v1 c
          ∧ r.2.mem ((c.tc : Thread Cert.StepSsdConvWIdeal.nD Cert.StepSsdConvWIdeal.τ).loc Cert.StepSsdConvWIdeal.main_v0_2) = v2 c
          ∧ r.2.mem ((c.tc : Thread Cert.StepSsdConvWIdeal.nD Cert.StepSsdConvWIdeal.τ).loc Cert.StepSsdConvWIdeal.main_arg0) = m ((c.tc : Thread Cert.StepSsdConvWIdeal.nD Cert.StepSsdConvWIdeal.τ).loc Cert.StepSsdConvWIdeal.main_arg0)
          ∧ r.2.mem ((c.tc : Thread Cert.StepSsdConvWIdeal.nD Cert.StepSsdConvWIdeal.τ).loc Cert.StepSsdConvWIdeal.main_arg1) = m ((c.tc : Thread Cert.StepSsdConvWIdeal.nD Cert.StepSsdConvWIdeal.τ).loc Cert.StepSsdConvWIdeal.main_arg1)
          ∧ r.2.mem ((c.tc : Thread Cert.StepSsdConvWIdeal.nD Cert.StepSsdConvWIdeal.τ).loc Cert.StepSsdConvWIdeal.main_arg2) = m ((c.tc : Thread Cert.StepSsdConvWIdeal.nD Cert.StepSsdConvWIdeal.τ).loc Cert.StepSsdConvWIdeal.main_arg2)
          ∧ r.2.mem ((c.tc : Thread Cert.StepSsdConvWIdeal.nD Cert.StepSsdConvWIdeal.τ).loc Cert.StepSsdConvWIdeal.main_arg3) = m ((c.tc : Thread Cert.StepSsdConvWIdeal.nD Cert.StepSsdConvWIdeal.τ).loc Cert.StepSsdConvWIdeal.main_arg3))
      ∧ θ_run (Cert.StepSsdConvWRefIdeal.defs (F := Ideal)) (onTc (τ := Cert.StepSsdConvWRefIdeal.τ) (Cert.StepSsdConvWRefIdeal.main (F := Ideal))) ⟨m', fun _ => 0, g'⟩ (fun r => ∀ c : Dev Cert.StepSsdConvWRefIdeal.nD,
          r.2.mem ((c.tc : Thread Cert.StepSsdConvWRefIdeal.nD Cert.StepSsdConvWRefIdeal.τ).loc Cert.StepSsdConvWRefIdeal.main_v23) = v0 c
          ∧ r.2.mem ((c.tc : Thread Cert.StepSsdConvWRefIdeal.nD Cert.StepSsdConvWRefIdeal.τ).loc Cert.StepSsdConvWRefIdeal.main_v4) = v1 c
          ∧ r.2.mem ((c.tc : Thread Cert.StepSsdConvWRefIdeal.nD Cert.StepSsdConvWRefIdeal.τ).loc Cert.StepSsdConvWRefIdeal.main_v10) = v2 c
          ∧ r.2.mem ((c.tc : Thread Cert.StepSsdConvWRefIdeal.nD Cert.StepSsdConvWRefIdeal.τ).loc Cert.StepSsdConvWRefIdeal.main_arg0) = m' ((c.tc : Thread Cert.StepSsdConvWRefIdeal.nD Cert.StepSsdConvWRefIdeal.τ).loc Cert.StepSsdConvWRefIdeal.main_arg0)
          ∧ r.2.mem ((c.tc : Thread Cert.StepSsdConvWRefIdeal.nD Cert.StepSsdConvWRefIdeal.τ).loc Cert.StepSsdConvWRefIdeal.main_arg1) = m' ((c.tc : Thread Cert.StepSsdConvWRefIdeal.nD Cert.StepSsdConvWRefIdeal.τ).loc Cert.StepSsdConvWRefIdeal.main_arg1)
          ∧ r.2.mem ((c.tc : Thread Cert.StepSsdConvWRefIdeal.nD Cert.StepSsdConvWRefIdeal.τ).loc Cert.StepSsdConvWRefIdeal.main_arg2) = m' ((c.tc : Thread Cert.StepSsdConvWRefIdeal.nD Cert.StepSsdConvWRefIdeal.τ).loc Cert.StepSsdConvWRefIdeal.main_arg2)
          ∧ r.2.mem ((c.tc : Thread Cert.StepSsdConvWRefIdeal.nD Cert.StepSsdConvWRefIdeal.τ).loc Cert.StepSsdConvWRefIdeal.main_arg3) = m' ((c.tc : Thread Cert.StepSsdConvWRefIdeal.nD Cert.StepSsdConvWRefIdeal.τ).loc Cert.StepSsdConvWRefIdeal.main_arg3))

def preserves_StepSsdConvB_StepSsdConvBIdeal : Prop :=
  True

def algebraic_StepSsdConvBIdeal_StepSsdConvBRefIdeal [hStepSsdConvBIdeal : Cert.StepSsdConvBIdeal.Facts] [hStepSsdConvBRefIdeal : Cert.StepSsdConvBRefIdeal.Facts] : Prop :=
  ∀ (m : (ℓ : Loc Cert.StepSsdConvBIdeal.nD Cert.StepSsdConvBIdeal.τ Cert.StepSsdConvBIdeal.sig) → Buf (Elt Ideal) ℓ) (g : Dev Cert.StepSsdConvBIdeal.nD → PrngReg)
    (m' : (ℓ : Loc Cert.StepSsdConvBRefIdeal.nD Cert.StepSsdConvBRefIdeal.τ Cert.StepSsdConvBRefIdeal.sig) → Buf (Elt Ideal) ℓ) (g' : Dev Cert.StepSsdConvBRefIdeal.nD → PrngReg), Pre_StepSsdConvBIdeal m →
    (∀ c : Dev Cert.StepSsdConvBIdeal.nD,
      m' ((c.tc : Thread Cert.StepSsdConvBRefIdeal.nD Cert.StepSsdConvBRefIdeal.τ).loc Cert.StepSsdConvBRefIdeal.main_arg0) = m ((c.tc : Thread Cert.StepSsdConvBIdeal.nD Cert.StepSsdConvBIdeal.τ).loc Cert.StepSsdConvBIdeal.main_arg0)
      ∧ m' ((c.tc : Thread Cert.StepSsdConvBRefIdeal.nD Cert.StepSsdConvBRefIdeal.τ).loc Cert.StepSsdConvBRefIdeal.main_arg1) = m ((c.tc : Thread Cert.StepSsdConvBIdeal.nD Cert.StepSsdConvBIdeal.τ).loc Cert.StepSsdConvBIdeal.main_arg1)
      ∧ m' ((c.tc : Thread Cert.StepSsdConvBRefIdeal.nD Cert.StepSsdConvBRefIdeal.τ).loc Cert.StepSsdConvBRefIdeal.main_arg2) = m ((c.tc : Thread Cert.StepSsdConvBIdeal.nD Cert.StepSsdConvBIdeal.τ).loc Cert.StepSsdConvBIdeal.main_arg2)
      ∧ m' ((c.tc : Thread Cert.StepSsdConvBRefIdeal.nD Cert.StepSsdConvBRefIdeal.τ).loc Cert.StepSsdConvBRefIdeal.main_arg3) = m ((c.tc : Thread Cert.StepSsdConvBIdeal.nD Cert.StepSsdConvBIdeal.τ).loc Cert.StepSsdConvBIdeal.main_arg3)) →
    ∃ (v0 : (c : Dev Cert.StepSsdConvBIdeal.nD) → Buf (Elt Ideal) ((c.tc : Thread Cert.StepSsdConvBIdeal.nD Cert.StepSsdConvBIdeal.τ).loc Cert.StepSsdConvBIdeal.main_v0_0)) (v1 : (c : Dev Cert.StepSsdConvBIdeal.nD) → Buf (Elt Ideal) ((c.tc : Thread Cert.StepSsdConvBIdeal.nD Cert.StepSsdConvBIdeal.τ).loc Cert.StepSsdConvBIdeal.main_v0_1)) (v2 : (c : Dev Cert.StepSsdConvBIdeal.nD) → Buf (Elt Ideal) ((c.tc : Thread Cert.StepSsdConvBIdeal.nD Cert.StepSsdConvBIdeal.τ).loc Cert.StepSsdConvBIdeal.main_v0_2)),
      θ_run (Cert.StepSsdConvBIdeal.defs (F := Ideal)) (onTc (τ := Cert.StepSsdConvBIdeal.τ) (Cert.StepSsdConvBIdeal.main (F := Ideal))) ⟨m, fun _ => 0, g⟩ (fun r => ∀ c : Dev Cert.StepSsdConvBIdeal.nD,
          r.2.mem ((c.tc : Thread Cert.StepSsdConvBIdeal.nD Cert.StepSsdConvBIdeal.τ).loc Cert.StepSsdConvBIdeal.main_v0_0) = v0 c
          ∧ r.2.mem ((c.tc : Thread Cert.StepSsdConvBIdeal.nD Cert.StepSsdConvBIdeal.τ).loc Cert.StepSsdConvBIdeal.main_v0_1) = v1 c
          ∧ r.2.mem ((c.tc : Thread Cert.StepSsdConvBIdeal.nD Cert.StepSsdConvBIdeal.τ).loc Cert.StepSsdConvBIdeal.main_v0_2) = v2 c
          ∧ r.2.mem ((c.tc : Thread Cert.StepSsdConvBIdeal.nD Cert.StepSsdConvBIdeal.τ).loc Cert.StepSsdConvBIdeal.main_arg0) = m ((c.tc : Thread Cert.StepSsdConvBIdeal.nD Cert.StepSsdConvBIdeal.τ).loc Cert.StepSsdConvBIdeal.main_arg0)
          ∧ r.2.mem ((c.tc : Thread Cert.StepSsdConvBIdeal.nD Cert.StepSsdConvBIdeal.τ).loc Cert.StepSsdConvBIdeal.main_arg1) = m ((c.tc : Thread Cert.StepSsdConvBIdeal.nD Cert.StepSsdConvBIdeal.τ).loc Cert.StepSsdConvBIdeal.main_arg1)
          ∧ r.2.mem ((c.tc : Thread Cert.StepSsdConvBIdeal.nD Cert.StepSsdConvBIdeal.τ).loc Cert.StepSsdConvBIdeal.main_arg2) = m ((c.tc : Thread Cert.StepSsdConvBIdeal.nD Cert.StepSsdConvBIdeal.τ).loc Cert.StepSsdConvBIdeal.main_arg2)
          ∧ r.2.mem ((c.tc : Thread Cert.StepSsdConvBIdeal.nD Cert.StepSsdConvBIdeal.τ).loc Cert.StepSsdConvBIdeal.main_arg3) = m ((c.tc : Thread Cert.StepSsdConvBIdeal.nD Cert.StepSsdConvBIdeal.τ).loc Cert.StepSsdConvBIdeal.main_arg3))
      ∧ θ_run (Cert.StepSsdConvBRefIdeal.defs (F := Ideal)) (onTc (τ := Cert.StepSsdConvBRefIdeal.τ) (Cert.StepSsdConvBRefIdeal.main (F := Ideal))) ⟨m', fun _ => 0, g'⟩ (fun r => ∀ c : Dev Cert.StepSsdConvBRefIdeal.nD,
          r.2.mem ((c.tc : Thread Cert.StepSsdConvBRefIdeal.nD Cert.StepSsdConvBRefIdeal.τ).loc Cert.StepSsdConvBRefIdeal.main_v23) = v0 c
          ∧ r.2.mem ((c.tc : Thread Cert.StepSsdConvBRefIdeal.nD Cert.StepSsdConvBRefIdeal.τ).loc Cert.StepSsdConvBRefIdeal.main_v4) = v1 c
          ∧ r.2.mem ((c.tc : Thread Cert.StepSsdConvBRefIdeal.nD Cert.StepSsdConvBRefIdeal.τ).loc Cert.StepSsdConvBRefIdeal.main_v10) = v2 c
          ∧ r.2.mem ((c.tc : Thread Cert.StepSsdConvBRefIdeal.nD Cert.StepSsdConvBRefIdeal.τ).loc Cert.StepSsdConvBRefIdeal.main_arg0) = m' ((c.tc : Thread Cert.StepSsdConvBRefIdeal.nD Cert.StepSsdConvBRefIdeal.τ).loc Cert.StepSsdConvBRefIdeal.main_arg0)
          ∧ r.2.mem ((c.tc : Thread Cert.StepSsdConvBRefIdeal.nD Cert.StepSsdConvBRefIdeal.τ).loc Cert.StepSsdConvBRefIdeal.main_arg1) = m' ((c.tc : Thread Cert.StepSsdConvBRefIdeal.nD Cert.StepSsdConvBRefIdeal.τ).loc Cert.StepSsdConvBRefIdeal.main_arg1)
          ∧ r.2.mem ((c.tc : Thread Cert.StepSsdConvBRefIdeal.nD Cert.StepSsdConvBRefIdeal.τ).loc Cert.StepSsdConvBRefIdeal.main_arg2) = m' ((c.tc : Thread Cert.StepSsdConvBRefIdeal.nD Cert.StepSsdConvBRefIdeal.τ).loc Cert.StepSsdConvBRefIdeal.main_arg2)
          ∧ r.2.mem ((c.tc : Thread Cert.StepSsdConvBRefIdeal.nD Cert.StepSsdConvBRefIdeal.τ).loc Cert.StepSsdConvBRefIdeal.main_arg3) = m' ((c.tc : Thread Cert.StepSsdConvBRefIdeal.nD Cert.StepSsdConvBRefIdeal.τ).loc Cert.StepSsdConvBRefIdeal.main_arg3))

def preserves_StepSsdNorm_StepSsdNormIdeal : Prop :=
  True

def algebraic_StepSsdNormIdeal_StepSsdNormRefIdeal [hStepSsdNormIdeal : Cert.StepSsdNormIdeal.Facts] [hStepSsdNormRefIdeal : Cert.StepSsdNormRefIdeal.Facts] : Prop :=
  ∀ (m : (ℓ : Loc Cert.StepSsdNormIdeal.nD Cert.StepSsdNormIdeal.τ Cert.StepSsdNormIdeal.sig) → Buf (Elt Ideal) ℓ) (g : Dev Cert.StepSsdNormIdeal.nD → PrngReg)
    (m' : (ℓ : Loc Cert.StepSsdNormRefIdeal.nD Cert.StepSsdNormRefIdeal.τ Cert.StepSsdNormRefIdeal.sig) → Buf (Elt Ideal) ℓ) (g' : Dev Cert.StepSsdNormRefIdeal.nD → PrngReg), Pre_StepSsdNormIdeal m →
    (∀ c : Dev Cert.StepSsdNormIdeal.nD,
      m' ((c.tc : Thread Cert.StepSsdNormRefIdeal.nD Cert.StepSsdNormRefIdeal.τ).loc Cert.StepSsdNormRefIdeal.main_arg0) = m ((c.tc : Thread Cert.StepSsdNormIdeal.nD Cert.StepSsdNormIdeal.τ).loc Cert.StepSsdNormIdeal.main_arg0)
      ∧ m' ((c.tc : Thread Cert.StepSsdNormRefIdeal.nD Cert.StepSsdNormRefIdeal.τ).loc Cert.StepSsdNormRefIdeal.main_arg1) = m ((c.tc : Thread Cert.StepSsdNormIdeal.nD Cert.StepSsdNormIdeal.τ).loc Cert.StepSsdNormIdeal.main_arg1)
      ∧ m' ((c.tc : Thread Cert.StepSsdNormRefIdeal.nD Cert.StepSsdNormRefIdeal.τ).loc Cert.StepSsdNormRefIdeal.main_arg2) = m ((c.tc : Thread Cert.StepSsdNormIdeal.nD Cert.StepSsdNormIdeal.τ).loc Cert.StepSsdNormIdeal.main_arg2)
      ∧ m' ((c.tc : Thread Cert.StepSsdNormRefIdeal.nD Cert.StepSsdNormRefIdeal.τ).loc Cert.StepSsdNormRefIdeal.main_arg3) = m ((c.tc : Thread Cert.StepSsdNormIdeal.nD Cert.StepSsdNormIdeal.τ).loc Cert.StepSsdNormIdeal.main_arg3)) →
    ∃ (v0 : (c : Dev Cert.StepSsdNormIdeal.nD) → Buf (Elt Ideal) ((c.tc : Thread Cert.StepSsdNormIdeal.nD Cert.StepSsdNormIdeal.τ).loc Cert.StepSsdNormIdeal.main_v0_0)) (v1 : (c : Dev Cert.StepSsdNormIdeal.nD) → Buf (Elt Ideal) ((c.tc : Thread Cert.StepSsdNormIdeal.nD Cert.StepSsdNormIdeal.τ).loc Cert.StepSsdNormIdeal.main_v0_1)) (v2 : (c : Dev Cert.StepSsdNormIdeal.nD) → Buf (Elt Ideal) ((c.tc : Thread Cert.StepSsdNormIdeal.nD Cert.StepSsdNormIdeal.τ).loc Cert.StepSsdNormIdeal.main_v0_2)),
      θ_run (Cert.StepSsdNormIdeal.defs (F := Ideal)) (onTc (τ := Cert.StepSsdNormIdeal.τ) (Cert.StepSsdNormIdeal.main (F := Ideal))) ⟨m, fun _ => 0, g⟩ (fun r => ∀ c : Dev Cert.StepSsdNormIdeal.nD,
          r.2.mem ((c.tc : Thread Cert.StepSsdNormIdeal.nD Cert.StepSsdNormIdeal.τ).loc Cert.StepSsdNormIdeal.main_v0_0) = v0 c
          ∧ r.2.mem ((c.tc : Thread Cert.StepSsdNormIdeal.nD Cert.StepSsdNormIdeal.τ).loc Cert.StepSsdNormIdeal.main_v0_1) = v1 c
          ∧ r.2.mem ((c.tc : Thread Cert.StepSsdNormIdeal.nD Cert.StepSsdNormIdeal.τ).loc Cert.StepSsdNormIdeal.main_v0_2) = v2 c
          ∧ r.2.mem ((c.tc : Thread Cert.StepSsdNormIdeal.nD Cert.StepSsdNormIdeal.τ).loc Cert.StepSsdNormIdeal.main_arg0) = m ((c.tc : Thread Cert.StepSsdNormIdeal.nD Cert.StepSsdNormIdeal.τ).loc Cert.StepSsdNormIdeal.main_arg0)
          ∧ r.2.mem ((c.tc : Thread Cert.StepSsdNormIdeal.nD Cert.StepSsdNormIdeal.τ).loc Cert.StepSsdNormIdeal.main_arg1) = m ((c.tc : Thread Cert.StepSsdNormIdeal.nD Cert.StepSsdNormIdeal.τ).loc Cert.StepSsdNormIdeal.main_arg1)
          ∧ r.2.mem ((c.tc : Thread Cert.StepSsdNormIdeal.nD Cert.StepSsdNormIdeal.τ).loc Cert.StepSsdNormIdeal.main_arg2) = m ((c.tc : Thread Cert.StepSsdNormIdeal.nD Cert.StepSsdNormIdeal.τ).loc Cert.StepSsdNormIdeal.main_arg2)
          ∧ r.2.mem ((c.tc : Thread Cert.StepSsdNormIdeal.nD Cert.StepSsdNormIdeal.τ).loc Cert.StepSsdNormIdeal.main_arg3) = m ((c.tc : Thread Cert.StepSsdNormIdeal.nD Cert.StepSsdNormIdeal.τ).loc Cert.StepSsdNormIdeal.main_arg3))
      ∧ θ_run (Cert.StepSsdNormRefIdeal.defs (F := Ideal)) (onTc (τ := Cert.StepSsdNormRefIdeal.τ) (Cert.StepSsdNormRefIdeal.main (F := Ideal))) ⟨m', fun _ => 0, g'⟩ (fun r => ∀ c : Dev Cert.StepSsdNormRefIdeal.nD,
          r.2.mem ((c.tc : Thread Cert.StepSsdNormRefIdeal.nD Cert.StepSsdNormRefIdeal.τ).loc Cert.StepSsdNormRefIdeal.main_v23) = v0 c
          ∧ r.2.mem ((c.tc : Thread Cert.StepSsdNormRefIdeal.nD Cert.StepSsdNormRefIdeal.τ).loc Cert.StepSsdNormRefIdeal.main_v4) = v1 c
          ∧ r.2.mem ((c.tc : Thread Cert.StepSsdNormRefIdeal.nD Cert.StepSsdNormRefIdeal.τ).loc Cert.StepSsdNormRefIdeal.main_v10) = v2 c
          ∧ r.2.mem ((c.tc : Thread Cert.StepSsdNormRefIdeal.nD Cert.StepSsdNormRefIdeal.τ).loc Cert.StepSsdNormRefIdeal.main_arg0) = m' ((c.tc : Thread Cert.StepSsdNormRefIdeal.nD Cert.StepSsdNormRefIdeal.τ).loc Cert.StepSsdNormRefIdeal.main_arg0)
          ∧ r.2.mem ((c.tc : Thread Cert.StepSsdNormRefIdeal.nD Cert.StepSsdNormRefIdeal.τ).loc Cert.StepSsdNormRefIdeal.main_arg1) = m' ((c.tc : Thread Cert.StepSsdNormRefIdeal.nD Cert.StepSsdNormRefIdeal.τ).loc Cert.StepSsdNormRefIdeal.main_arg1)
          ∧ r.2.mem ((c.tc : Thread Cert.StepSsdNormRefIdeal.nD Cert.StepSsdNormRefIdeal.τ).loc Cert.StepSsdNormRefIdeal.main_arg2) = m' ((c.tc : Thread Cert.StepSsdNormRefIdeal.nD Cert.StepSsdNormRefIdeal.τ).loc Cert.StepSsdNormRefIdeal.main_arg2)
          ∧ r.2.mem ((c.tc : Thread Cert.StepSsdNormRefIdeal.nD Cert.StepSsdNormRefIdeal.τ).loc Cert.StepSsdNormRefIdeal.main_arg3) = m' ((c.tc : Thread Cert.StepSsdNormRefIdeal.nD Cert.StepSsdNormRefIdeal.τ).loc Cert.StepSsdNormRefIdeal.main_arg3))

def preserves_StepMixNorm_StepMixNormIdeal : Prop :=
  True

def algebraic_StepMixNormIdeal_StepMixNormRefIdeal [hStepMixNormIdeal : Cert.StepMixNormIdeal.Facts] [hStepMixNormRefIdeal : Cert.StepMixNormRefIdeal.Facts] : Prop :=
  ∀ (m : (ℓ : Loc Cert.StepMixNormIdeal.nD Cert.StepMixNormIdeal.τ Cert.StepMixNormIdeal.sig) → Buf (Elt Ideal) ℓ) (g : Dev Cert.StepMixNormIdeal.nD → PrngReg)
    (m' : (ℓ : Loc Cert.StepMixNormRefIdeal.nD Cert.StepMixNormRefIdeal.τ Cert.StepMixNormRefIdeal.sig) → Buf (Elt Ideal) ℓ) (g' : Dev Cert.StepMixNormRefIdeal.nD → PrngReg), Pre_StepMixNormIdeal m →
    (∀ c : Dev Cert.StepMixNormIdeal.nD,
      m' ((c.tc : Thread Cert.StepMixNormRefIdeal.nD Cert.StepMixNormRefIdeal.τ).loc Cert.StepMixNormRefIdeal.main_arg0) = m ((c.tc : Thread Cert.StepMixNormIdeal.nD Cert.StepMixNormIdeal.τ).loc Cert.StepMixNormIdeal.main_arg0)
      ∧ m' ((c.tc : Thread Cert.StepMixNormRefIdeal.nD Cert.StepMixNormRefIdeal.τ).loc Cert.StepMixNormRefIdeal.main_arg1) = m ((c.tc : Thread Cert.StepMixNormIdeal.nD Cert.StepMixNormIdeal.τ).loc Cert.StepMixNormIdeal.main_arg1)
      ∧ m' ((c.tc : Thread Cert.StepMixNormRefIdeal.nD Cert.StepMixNormRefIdeal.τ).loc Cert.StepMixNormRefIdeal.main_arg2) = m ((c.tc : Thread Cert.StepMixNormIdeal.nD Cert.StepMixNormIdeal.τ).loc Cert.StepMixNormIdeal.main_arg2)
      ∧ m' ((c.tc : Thread Cert.StepMixNormRefIdeal.nD Cert.StepMixNormRefIdeal.τ).loc Cert.StepMixNormRefIdeal.main_arg3) = m ((c.tc : Thread Cert.StepMixNormIdeal.nD Cert.StepMixNormIdeal.τ).loc Cert.StepMixNormIdeal.main_arg3)) →
    ∃ (v0 : (c : Dev Cert.StepMixNormIdeal.nD) → Buf (Elt Ideal) ((c.tc : Thread Cert.StepMixNormIdeal.nD Cert.StepMixNormIdeal.τ).loc Cert.StepMixNormIdeal.main_v0_0)) (v1 : (c : Dev Cert.StepMixNormIdeal.nD) → Buf (Elt Ideal) ((c.tc : Thread Cert.StepMixNormIdeal.nD Cert.StepMixNormIdeal.τ).loc Cert.StepMixNormIdeal.main_v0_1)) (v2 : (c : Dev Cert.StepMixNormIdeal.nD) → Buf (Elt Ideal) ((c.tc : Thread Cert.StepMixNormIdeal.nD Cert.StepMixNormIdeal.τ).loc Cert.StepMixNormIdeal.main_v0_2)),
      θ_run (Cert.StepMixNormIdeal.defs (F := Ideal)) (onTc (τ := Cert.StepMixNormIdeal.τ) (Cert.StepMixNormIdeal.main (F := Ideal))) ⟨m, fun _ => 0, g⟩ (fun r => ∀ c : Dev Cert.StepMixNormIdeal.nD,
          r.2.mem ((c.tc : Thread Cert.StepMixNormIdeal.nD Cert.StepMixNormIdeal.τ).loc Cert.StepMixNormIdeal.main_v0_0) = v0 c
          ∧ r.2.mem ((c.tc : Thread Cert.StepMixNormIdeal.nD Cert.StepMixNormIdeal.τ).loc Cert.StepMixNormIdeal.main_v0_1) = v1 c
          ∧ r.2.mem ((c.tc : Thread Cert.StepMixNormIdeal.nD Cert.StepMixNormIdeal.τ).loc Cert.StepMixNormIdeal.main_v0_2) = v2 c
          ∧ r.2.mem ((c.tc : Thread Cert.StepMixNormIdeal.nD Cert.StepMixNormIdeal.τ).loc Cert.StepMixNormIdeal.main_arg0) = m ((c.tc : Thread Cert.StepMixNormIdeal.nD Cert.StepMixNormIdeal.τ).loc Cert.StepMixNormIdeal.main_arg0)
          ∧ r.2.mem ((c.tc : Thread Cert.StepMixNormIdeal.nD Cert.StepMixNormIdeal.τ).loc Cert.StepMixNormIdeal.main_arg1) = m ((c.tc : Thread Cert.StepMixNormIdeal.nD Cert.StepMixNormIdeal.τ).loc Cert.StepMixNormIdeal.main_arg1)
          ∧ r.2.mem ((c.tc : Thread Cert.StepMixNormIdeal.nD Cert.StepMixNormIdeal.τ).loc Cert.StepMixNormIdeal.main_arg2) = m ((c.tc : Thread Cert.StepMixNormIdeal.nD Cert.StepMixNormIdeal.τ).loc Cert.StepMixNormIdeal.main_arg2)
          ∧ r.2.mem ((c.tc : Thread Cert.StepMixNormIdeal.nD Cert.StepMixNormIdeal.τ).loc Cert.StepMixNormIdeal.main_arg3) = m ((c.tc : Thread Cert.StepMixNormIdeal.nD Cert.StepMixNormIdeal.τ).loc Cert.StepMixNormIdeal.main_arg3))
      ∧ θ_run (Cert.StepMixNormRefIdeal.defs (F := Ideal)) (onTc (τ := Cert.StepMixNormRefIdeal.τ) (Cert.StepMixNormRefIdeal.main (F := Ideal))) ⟨m', fun _ => 0, g'⟩ (fun r => ∀ c : Dev Cert.StepMixNormRefIdeal.nD,
          r.2.mem ((c.tc : Thread Cert.StepMixNormRefIdeal.nD Cert.StepMixNormRefIdeal.τ).loc Cert.StepMixNormRefIdeal.main_v23) = v0 c
          ∧ r.2.mem ((c.tc : Thread Cert.StepMixNormRefIdeal.nD Cert.StepMixNormRefIdeal.τ).loc Cert.StepMixNormRefIdeal.main_v4) = v1 c
          ∧ r.2.mem ((c.tc : Thread Cert.StepMixNormRefIdeal.nD Cert.StepMixNormRefIdeal.τ).loc Cert.StepMixNormRefIdeal.main_v10) = v2 c
          ∧ r.2.mem ((c.tc : Thread Cert.StepMixNormRefIdeal.nD Cert.StepMixNormRefIdeal.τ).loc Cert.StepMixNormRefIdeal.main_arg0) = m' ((c.tc : Thread Cert.StepMixNormRefIdeal.nD Cert.StepMixNormRefIdeal.τ).loc Cert.StepMixNormRefIdeal.main_arg0)
          ∧ r.2.mem ((c.tc : Thread Cert.StepMixNormRefIdeal.nD Cert.StepMixNormRefIdeal.τ).loc Cert.StepMixNormRefIdeal.main_arg1) = m' ((c.tc : Thread Cert.StepMixNormRefIdeal.nD Cert.StepMixNormRefIdeal.τ).loc Cert.StepMixNormRefIdeal.main_arg1)
          ∧ r.2.mem ((c.tc : Thread Cert.StepMixNormRefIdeal.nD Cert.StepMixNormRefIdeal.τ).loc Cert.StepMixNormRefIdeal.main_arg2) = m' ((c.tc : Thread Cert.StepMixNormRefIdeal.nD Cert.StepMixNormRefIdeal.τ).loc Cert.StepMixNormRefIdeal.main_arg2)
          ∧ r.2.mem ((c.tc : Thread Cert.StepMixNormRefIdeal.nD Cert.StepMixNormRefIdeal.τ).loc Cert.StepMixNormRefIdeal.main_arg3) = m' ((c.tc : Thread Cert.StepMixNormRefIdeal.nD Cert.StepMixNormRefIdeal.τ).loc Cert.StepMixNormRefIdeal.main_arg3))

def preserves_StepFoxBf_StepFoxBfIdeal : Prop :=
  True

def algebraic_StepFoxBfIdeal_StepFoxBfRefIdeal [hStepFoxBfIdeal : Cert.StepFoxBfIdeal.Facts] [hStepFoxBfRefIdeal : Cert.StepFoxBfRefIdeal.Facts] : Prop :=
  ∀ (m : (ℓ : Loc Cert.StepFoxBfIdeal.nD Cert.StepFoxBfIdeal.τ Cert.StepFoxBfIdeal.sig) → Buf (Elt Ideal) ℓ) (g : Dev Cert.StepFoxBfIdeal.nD → PrngReg)
    (m' : (ℓ : Loc Cert.StepFoxBfRefIdeal.nD Cert.StepFoxBfRefIdeal.τ Cert.StepFoxBfRefIdeal.sig) → Buf (Elt Ideal) ℓ) (g' : Dev Cert.StepFoxBfRefIdeal.nD → PrngReg), Pre_StepFoxBfIdeal m →
    (∀ c : Dev Cert.StepFoxBfIdeal.nD,
      m' ((c.tc : Thread Cert.StepFoxBfRefIdeal.nD Cert.StepFoxBfRefIdeal.τ).loc Cert.StepFoxBfRefIdeal.main_arg0) = m ((c.tc : Thread Cert.StepFoxBfIdeal.nD Cert.StepFoxBfIdeal.τ).loc Cert.StepFoxBfIdeal.main_arg0)
      ∧ m' ((c.tc : Thread Cert.StepFoxBfRefIdeal.nD Cert.StepFoxBfRefIdeal.τ).loc Cert.StepFoxBfRefIdeal.main_arg1) = m ((c.tc : Thread Cert.StepFoxBfIdeal.nD Cert.StepFoxBfIdeal.τ).loc Cert.StepFoxBfIdeal.main_arg1)
      ∧ m' ((c.tc : Thread Cert.StepFoxBfRefIdeal.nD Cert.StepFoxBfRefIdeal.τ).loc Cert.StepFoxBfRefIdeal.main_arg2) = m ((c.tc : Thread Cert.StepFoxBfIdeal.nD Cert.StepFoxBfIdeal.τ).loc Cert.StepFoxBfIdeal.main_arg2)
      ∧ m' ((c.tc : Thread Cert.StepFoxBfRefIdeal.nD Cert.StepFoxBfRefIdeal.τ).loc Cert.StepFoxBfRefIdeal.main_arg3) = m ((c.tc : Thread Cert.StepFoxBfIdeal.nD Cert.StepFoxBfIdeal.τ).loc Cert.StepFoxBfIdeal.main_arg3)) →
    ∃ (v0 : (c : Dev Cert.StepFoxBfIdeal.nD) → Buf (Elt Ideal) ((c.tc : Thread Cert.StepFoxBfIdeal.nD Cert.StepFoxBfIdeal.τ).loc Cert.StepFoxBfIdeal.main_v0_0)) (v1 : (c : Dev Cert.StepFoxBfIdeal.nD) → Buf (Elt Ideal) ((c.tc : Thread Cert.StepFoxBfIdeal.nD Cert.StepFoxBfIdeal.τ).loc Cert.StepFoxBfIdeal.main_v0_1)) (v2 : (c : Dev Cert.StepFoxBfIdeal.nD) → Buf (Elt Ideal) ((c.tc : Thread Cert.StepFoxBfIdeal.nD Cert.StepFoxBfIdeal.τ).loc Cert.StepFoxBfIdeal.main_v0_2)),
      θ_run (Cert.StepFoxBfIdeal.defs (F := Ideal)) (onTc (τ := Cert.StepFoxBfIdeal.τ) (Cert.StepFoxBfIdeal.main (F := Ideal))) ⟨m, fun _ => 0, g⟩ (fun r => ∀ c : Dev Cert.StepFoxBfIdeal.nD,
          r.2.mem ((c.tc : Thread Cert.StepFoxBfIdeal.nD Cert.StepFoxBfIdeal.τ).loc Cert.StepFoxBfIdeal.main_v0_0) = v0 c
          ∧ r.2.mem ((c.tc : Thread Cert.StepFoxBfIdeal.nD Cert.StepFoxBfIdeal.τ).loc Cert.StepFoxBfIdeal.main_v0_1) = v1 c
          ∧ r.2.mem ((c.tc : Thread Cert.StepFoxBfIdeal.nD Cert.StepFoxBfIdeal.τ).loc Cert.StepFoxBfIdeal.main_v0_2) = v2 c
          ∧ r.2.mem ((c.tc : Thread Cert.StepFoxBfIdeal.nD Cert.StepFoxBfIdeal.τ).loc Cert.StepFoxBfIdeal.main_arg0) = m ((c.tc : Thread Cert.StepFoxBfIdeal.nD Cert.StepFoxBfIdeal.τ).loc Cert.StepFoxBfIdeal.main_arg0)
          ∧ r.2.mem ((c.tc : Thread Cert.StepFoxBfIdeal.nD Cert.StepFoxBfIdeal.τ).loc Cert.StepFoxBfIdeal.main_arg1) = m ((c.tc : Thread Cert.StepFoxBfIdeal.nD Cert.StepFoxBfIdeal.τ).loc Cert.StepFoxBfIdeal.main_arg1)
          ∧ r.2.mem ((c.tc : Thread Cert.StepFoxBfIdeal.nD Cert.StepFoxBfIdeal.τ).loc Cert.StepFoxBfIdeal.main_arg2) = m ((c.tc : Thread Cert.StepFoxBfIdeal.nD Cert.StepFoxBfIdeal.τ).loc Cert.StepFoxBfIdeal.main_arg2)
          ∧ r.2.mem ((c.tc : Thread Cert.StepFoxBfIdeal.nD Cert.StepFoxBfIdeal.τ).loc Cert.StepFoxBfIdeal.main_arg3) = m ((c.tc : Thread Cert.StepFoxBfIdeal.nD Cert.StepFoxBfIdeal.τ).loc Cert.StepFoxBfIdeal.main_arg3))
      ∧ θ_run (Cert.StepFoxBfRefIdeal.defs (F := Ideal)) (onTc (τ := Cert.StepFoxBfRefIdeal.τ) (Cert.StepFoxBfRefIdeal.main (F := Ideal))) ⟨m', fun _ => 0, g'⟩ (fun r => ∀ c : Dev Cert.StepFoxBfRefIdeal.nD,
          r.2.mem ((c.tc : Thread Cert.StepFoxBfRefIdeal.nD Cert.StepFoxBfRefIdeal.τ).loc Cert.StepFoxBfRefIdeal.main_v23) = v0 c
          ∧ r.2.mem ((c.tc : Thread Cert.StepFoxBfRefIdeal.nD Cert.StepFoxBfRefIdeal.τ).loc Cert.StepFoxBfRefIdeal.main_v4) = v1 c
          ∧ r.2.mem ((c.tc : Thread Cert.StepFoxBfRefIdeal.nD Cert.StepFoxBfRefIdeal.τ).loc Cert.StepFoxBfRefIdeal.main_v10) = v2 c
          ∧ r.2.mem ((c.tc : Thread Cert.StepFoxBfRefIdeal.nD Cert.StepFoxBfRefIdeal.τ).loc Cert.StepFoxBfRefIdeal.main_arg0) = m' ((c.tc : Thread Cert.StepFoxBfRefIdeal.nD Cert.StepFoxBfRefIdeal.τ).loc Cert.StepFoxBfRefIdeal.main_arg0)
          ∧ r.2.mem ((c.tc : Thread Cert.StepFoxBfRefIdeal.nD Cert.StepFoxBfRefIdeal.τ).loc Cert.StepFoxBfRefIdeal.main_arg1) = m' ((c.tc : Thread Cert.StepFoxBfRefIdeal.nD Cert.StepFoxBfRefIdeal.τ).loc Cert.StepFoxBfRefIdeal.main_arg1)
          ∧ r.2.mem ((c.tc : Thread Cert.StepFoxBfRefIdeal.nD Cert.StepFoxBfRefIdeal.τ).loc Cert.StepFoxBfRefIdeal.main_arg2) = m' ((c.tc : Thread Cert.StepFoxBfRefIdeal.nD Cert.StepFoxBfRefIdeal.τ).loc Cert.StepFoxBfRefIdeal.main_arg2)
          ∧ r.2.mem ((c.tc : Thread Cert.StepFoxBfRefIdeal.nD Cert.StepFoxBfRefIdeal.τ).loc Cert.StepFoxBfRefIdeal.main_arg3) = m' ((c.tc : Thread Cert.StepFoxBfRefIdeal.nD Cert.StepFoxBfRefIdeal.τ).loc Cert.StepFoxBfRefIdeal.main_arg3))

def preserves_StepFoxQ_StepFoxQIdeal : Prop :=
  True

def algebraic_StepFoxQIdeal_StepFoxQRefIdeal [hStepFoxQIdeal : Cert.StepFoxQIdeal.Facts] [hStepFoxQRefIdeal : Cert.StepFoxQRefIdeal.Facts] : Prop :=
  ∀ (m : (ℓ : Loc Cert.StepFoxQIdeal.nD Cert.StepFoxQIdeal.τ Cert.StepFoxQIdeal.sig) → Buf (Elt Ideal) ℓ) (g : Dev Cert.StepFoxQIdeal.nD → PrngReg)
    (m' : (ℓ : Loc Cert.StepFoxQRefIdeal.nD Cert.StepFoxQRefIdeal.τ Cert.StepFoxQRefIdeal.sig) → Buf (Elt Ideal) ℓ) (g' : Dev Cert.StepFoxQRefIdeal.nD → PrngReg), Pre_StepFoxQIdeal m →
    (∀ c : Dev Cert.StepFoxQIdeal.nD,
      m' ((c.tc : Thread Cert.StepFoxQRefIdeal.nD Cert.StepFoxQRefIdeal.τ).loc Cert.StepFoxQRefIdeal.main_arg0) = m ((c.tc : Thread Cert.StepFoxQIdeal.nD Cert.StepFoxQIdeal.τ).loc Cert.StepFoxQIdeal.main_arg0)
      ∧ m' ((c.tc : Thread Cert.StepFoxQRefIdeal.nD Cert.StepFoxQRefIdeal.τ).loc Cert.StepFoxQRefIdeal.main_arg1) = m ((c.tc : Thread Cert.StepFoxQIdeal.nD Cert.StepFoxQIdeal.τ).loc Cert.StepFoxQIdeal.main_arg1)
      ∧ m' ((c.tc : Thread Cert.StepFoxQRefIdeal.nD Cert.StepFoxQRefIdeal.τ).loc Cert.StepFoxQRefIdeal.main_arg2) = m ((c.tc : Thread Cert.StepFoxQIdeal.nD Cert.StepFoxQIdeal.τ).loc Cert.StepFoxQIdeal.main_arg2)
      ∧ m' ((c.tc : Thread Cert.StepFoxQRefIdeal.nD Cert.StepFoxQRefIdeal.τ).loc Cert.StepFoxQRefIdeal.main_arg3) = m ((c.tc : Thread Cert.StepFoxQIdeal.nD Cert.StepFoxQIdeal.τ).loc Cert.StepFoxQIdeal.main_arg3)) →
    ∃ (v0 : (c : Dev Cert.StepFoxQIdeal.nD) → Buf (Elt Ideal) ((c.tc : Thread Cert.StepFoxQIdeal.nD Cert.StepFoxQIdeal.τ).loc Cert.StepFoxQIdeal.main_v0_0)) (v1 : (c : Dev Cert.StepFoxQIdeal.nD) → Buf (Elt Ideal) ((c.tc : Thread Cert.StepFoxQIdeal.nD Cert.StepFoxQIdeal.τ).loc Cert.StepFoxQIdeal.main_v0_1)) (v2 : (c : Dev Cert.StepFoxQIdeal.nD) → Buf (Elt Ideal) ((c.tc : Thread Cert.StepFoxQIdeal.nD Cert.StepFoxQIdeal.τ).loc Cert.StepFoxQIdeal.main_v0_2)),
      θ_run (Cert.StepFoxQIdeal.defs (F := Ideal)) (onTc (τ := Cert.StepFoxQIdeal.τ) (Cert.StepFoxQIdeal.main (F := Ideal))) ⟨m, fun _ => 0, g⟩ (fun r => ∀ c : Dev Cert.StepFoxQIdeal.nD,
          r.2.mem ((c.tc : Thread Cert.StepFoxQIdeal.nD Cert.StepFoxQIdeal.τ).loc Cert.StepFoxQIdeal.main_v0_0) = v0 c
          ∧ r.2.mem ((c.tc : Thread Cert.StepFoxQIdeal.nD Cert.StepFoxQIdeal.τ).loc Cert.StepFoxQIdeal.main_v0_1) = v1 c
          ∧ r.2.mem ((c.tc : Thread Cert.StepFoxQIdeal.nD Cert.StepFoxQIdeal.τ).loc Cert.StepFoxQIdeal.main_v0_2) = v2 c
          ∧ r.2.mem ((c.tc : Thread Cert.StepFoxQIdeal.nD Cert.StepFoxQIdeal.τ).loc Cert.StepFoxQIdeal.main_arg0) = m ((c.tc : Thread Cert.StepFoxQIdeal.nD Cert.StepFoxQIdeal.τ).loc Cert.StepFoxQIdeal.main_arg0)
          ∧ r.2.mem ((c.tc : Thread Cert.StepFoxQIdeal.nD Cert.StepFoxQIdeal.τ).loc Cert.StepFoxQIdeal.main_arg1) = m ((c.tc : Thread Cert.StepFoxQIdeal.nD Cert.StepFoxQIdeal.τ).loc Cert.StepFoxQIdeal.main_arg1)
          ∧ r.2.mem ((c.tc : Thread Cert.StepFoxQIdeal.nD Cert.StepFoxQIdeal.τ).loc Cert.StepFoxQIdeal.main_arg2) = m ((c.tc : Thread Cert.StepFoxQIdeal.nD Cert.StepFoxQIdeal.τ).loc Cert.StepFoxQIdeal.main_arg2)
          ∧ r.2.mem ((c.tc : Thread Cert.StepFoxQIdeal.nD Cert.StepFoxQIdeal.τ).loc Cert.StepFoxQIdeal.main_arg3) = m ((c.tc : Thread Cert.StepFoxQIdeal.nD Cert.StepFoxQIdeal.τ).loc Cert.StepFoxQIdeal.main_arg3))
      ∧ θ_run (Cert.StepFoxQRefIdeal.defs (F := Ideal)) (onTc (τ := Cert.StepFoxQRefIdeal.τ) (Cert.StepFoxQRefIdeal.main (F := Ideal))) ⟨m', fun _ => 0, g'⟩ (fun r => ∀ c : Dev Cert.StepFoxQRefIdeal.nD,
          r.2.mem ((c.tc : Thread Cert.StepFoxQRefIdeal.nD Cert.StepFoxQRefIdeal.τ).loc Cert.StepFoxQRefIdeal.main_v23) = v0 c
          ∧ r.2.mem ((c.tc : Thread Cert.StepFoxQRefIdeal.nD Cert.StepFoxQRefIdeal.τ).loc Cert.StepFoxQRefIdeal.main_v4) = v1 c
          ∧ r.2.mem ((c.tc : Thread Cert.StepFoxQRefIdeal.nD Cert.StepFoxQRefIdeal.τ).loc Cert.StepFoxQRefIdeal.main_v10) = v2 c
          ∧ r.2.mem ((c.tc : Thread Cert.StepFoxQRefIdeal.nD Cert.StepFoxQRefIdeal.τ).loc Cert.StepFoxQRefIdeal.main_arg0) = m' ((c.tc : Thread Cert.StepFoxQRefIdeal.nD Cert.StepFoxQRefIdeal.τ).loc Cert.StepFoxQRefIdeal.main_arg0)
          ∧ r.2.mem ((c.tc : Thread Cert.StepFoxQRefIdeal.nD Cert.StepFoxQRefIdeal.τ).loc Cert.StepFoxQRefIdeal.main_arg1) = m' ((c.tc : Thread Cert.StepFoxQRefIdeal.nD Cert.StepFoxQRefIdeal.τ).loc Cert.StepFoxQRefIdeal.main_arg1)
          ∧ r.2.mem ((c.tc : Thread Cert.StepFoxQRefIdeal.nD Cert.StepFoxQRefIdeal.τ).loc Cert.StepFoxQRefIdeal.main_arg2) = m' ((c.tc : Thread Cert.StepFoxQRefIdeal.nD Cert.StepFoxQRefIdeal.τ).loc Cert.StepFoxQRefIdeal.main_arg2)
          ∧ r.2.mem ((c.tc : Thread Cert.StepFoxQRefIdeal.nD Cert.StepFoxQRefIdeal.τ).loc Cert.StepFoxQRefIdeal.main_arg3) = m' ((c.tc : Thread Cert.StepFoxQRefIdeal.nD Cert.StepFoxQRefIdeal.τ).loc Cert.StepFoxQRefIdeal.main_arg3))

def preserves_StepSsdDt_StepSsdDtIdeal : Prop :=
  True

def algebraic_StepSsdDtIdeal_StepSsdDtRefIdeal [hStepSsdDtIdeal : Cert.StepSsdDtIdeal.Facts] [hStepSsdDtRefIdeal : Cert.StepSsdDtRefIdeal.Facts] : Prop :=
  ∀ (m : (ℓ : Loc Cert.StepSsdDtIdeal.nD Cert.StepSsdDtIdeal.τ Cert.StepSsdDtIdeal.sig) → Buf (Elt Ideal) ℓ) (g : Dev Cert.StepSsdDtIdeal.nD → PrngReg)
    (m' : (ℓ : Loc Cert.StepSsdDtRefIdeal.nD Cert.StepSsdDtRefIdeal.τ Cert.StepSsdDtRefIdeal.sig) → Buf (Elt Ideal) ℓ) (g' : Dev Cert.StepSsdDtRefIdeal.nD → PrngReg), Pre_StepSsdDtIdeal m →
    (∀ c : Dev Cert.StepSsdDtIdeal.nD,
      m' ((c.tc : Thread Cert.StepSsdDtRefIdeal.nD Cert.StepSsdDtRefIdeal.τ).loc Cert.StepSsdDtRefIdeal.main_arg0) = m ((c.tc : Thread Cert.StepSsdDtIdeal.nD Cert.StepSsdDtIdeal.τ).loc Cert.StepSsdDtIdeal.main_arg0)
      ∧ m' ((c.tc : Thread Cert.StepSsdDtRefIdeal.nD Cert.StepSsdDtRefIdeal.τ).loc Cert.StepSsdDtRefIdeal.main_arg1) = m ((c.tc : Thread Cert.StepSsdDtIdeal.nD Cert.StepSsdDtIdeal.τ).loc Cert.StepSsdDtIdeal.main_arg1)
      ∧ m' ((c.tc : Thread Cert.StepSsdDtRefIdeal.nD Cert.StepSsdDtRefIdeal.τ).loc Cert.StepSsdDtRefIdeal.main_arg2) = m ((c.tc : Thread Cert.StepSsdDtIdeal.nD Cert.StepSsdDtIdeal.τ).loc Cert.StepSsdDtIdeal.main_arg2)
      ∧ m' ((c.tc : Thread Cert.StepSsdDtRefIdeal.nD Cert.StepSsdDtRefIdeal.τ).loc Cert.StepSsdDtRefIdeal.main_arg3) = m ((c.tc : Thread Cert.StepSsdDtIdeal.nD Cert.StepSsdDtIdeal.τ).loc Cert.StepSsdDtIdeal.main_arg3)) →
    ∃ (v0 : (c : Dev Cert.StepSsdDtIdeal.nD) → Buf (Elt Ideal) ((c.tc : Thread Cert.StepSsdDtIdeal.nD Cert.StepSsdDtIdeal.τ).loc Cert.StepSsdDtIdeal.main_v0_0)) (v1 : (c : Dev Cert.StepSsdDtIdeal.nD) → Buf (Elt Ideal) ((c.tc : Thread Cert.StepSsdDtIdeal.nD Cert.StepSsdDtIdeal.τ).loc Cert.StepSsdDtIdeal.main_v0_1)) (v2 : (c : Dev Cert.StepSsdDtIdeal.nD) → Buf (Elt Ideal) ((c.tc : Thread Cert.StepSsdDtIdeal.nD Cert.StepSsdDtIdeal.τ).loc Cert.StepSsdDtIdeal.main_v0_2)),
      θ_run (Cert.StepSsdDtIdeal.defs (F := Ideal)) (onTc (τ := Cert.StepSsdDtIdeal.τ) (Cert.StepSsdDtIdeal.main (F := Ideal))) ⟨m, fun _ => 0, g⟩ (fun r => ∀ c : Dev Cert.StepSsdDtIdeal.nD,
          r.2.mem ((c.tc : Thread Cert.StepSsdDtIdeal.nD Cert.StepSsdDtIdeal.τ).loc Cert.StepSsdDtIdeal.main_v0_0) = v0 c
          ∧ r.2.mem ((c.tc : Thread Cert.StepSsdDtIdeal.nD Cert.StepSsdDtIdeal.τ).loc Cert.StepSsdDtIdeal.main_v0_1) = v1 c
          ∧ r.2.mem ((c.tc : Thread Cert.StepSsdDtIdeal.nD Cert.StepSsdDtIdeal.τ).loc Cert.StepSsdDtIdeal.main_v0_2) = v2 c
          ∧ r.2.mem ((c.tc : Thread Cert.StepSsdDtIdeal.nD Cert.StepSsdDtIdeal.τ).loc Cert.StepSsdDtIdeal.main_arg0) = m ((c.tc : Thread Cert.StepSsdDtIdeal.nD Cert.StepSsdDtIdeal.τ).loc Cert.StepSsdDtIdeal.main_arg0)
          ∧ r.2.mem ((c.tc : Thread Cert.StepSsdDtIdeal.nD Cert.StepSsdDtIdeal.τ).loc Cert.StepSsdDtIdeal.main_arg1) = m ((c.tc : Thread Cert.StepSsdDtIdeal.nD Cert.StepSsdDtIdeal.τ).loc Cert.StepSsdDtIdeal.main_arg1)
          ∧ r.2.mem ((c.tc : Thread Cert.StepSsdDtIdeal.nD Cert.StepSsdDtIdeal.τ).loc Cert.StepSsdDtIdeal.main_arg2) = m ((c.tc : Thread Cert.StepSsdDtIdeal.nD Cert.StepSsdDtIdeal.τ).loc Cert.StepSsdDtIdeal.main_arg2)
          ∧ r.2.mem ((c.tc : Thread Cert.StepSsdDtIdeal.nD Cert.StepSsdDtIdeal.τ).loc Cert.StepSsdDtIdeal.main_arg3) = m ((c.tc : Thread Cert.StepSsdDtIdeal.nD Cert.StepSsdDtIdeal.τ).loc Cert.StepSsdDtIdeal.main_arg3))
      ∧ θ_run (Cert.StepSsdDtRefIdeal.defs (F := Ideal)) (onTc (τ := Cert.StepSsdDtRefIdeal.τ) (Cert.StepSsdDtRefIdeal.main (F := Ideal))) ⟨m', fun _ => 0, g'⟩ (fun r => ∀ c : Dev Cert.StepSsdDtRefIdeal.nD,
          r.2.mem ((c.tc : Thread Cert.StepSsdDtRefIdeal.nD Cert.StepSsdDtRefIdeal.τ).loc Cert.StepSsdDtRefIdeal.main_v23) = v0 c
          ∧ r.2.mem ((c.tc : Thread Cert.StepSsdDtRefIdeal.nD Cert.StepSsdDtRefIdeal.τ).loc Cert.StepSsdDtRefIdeal.main_v4) = v1 c
          ∧ r.2.mem ((c.tc : Thread Cert.StepSsdDtRefIdeal.nD Cert.StepSsdDtRefIdeal.τ).loc Cert.StepSsdDtRefIdeal.main_v10) = v2 c
          ∧ r.2.mem ((c.tc : Thread Cert.StepSsdDtRefIdeal.nD Cert.StepSsdDtRefIdeal.τ).loc Cert.StepSsdDtRefIdeal.main_arg0) = m' ((c.tc : Thread Cert.StepSsdDtRefIdeal.nD Cert.StepSsdDtRefIdeal.τ).loc Cert.StepSsdDtRefIdeal.main_arg0)
          ∧ r.2.mem ((c.tc : Thread Cert.StepSsdDtRefIdeal.nD Cert.StepSsdDtRefIdeal.τ).loc Cert.StepSsdDtRefIdeal.main_arg1) = m' ((c.tc : Thread Cert.StepSsdDtRefIdeal.nD Cert.StepSsdDtRefIdeal.τ).loc Cert.StepSsdDtRefIdeal.main_arg1)
          ∧ r.2.mem ((c.tc : Thread Cert.StepSsdDtRefIdeal.nD Cert.StepSsdDtRefIdeal.τ).loc Cert.StepSsdDtRefIdeal.main_arg2) = m' ((c.tc : Thread Cert.StepSsdDtRefIdeal.nD Cert.StepSsdDtRefIdeal.τ).loc Cert.StepSsdDtRefIdeal.main_arg2)
          ∧ r.2.mem ((c.tc : Thread Cert.StepSsdDtRefIdeal.nD Cert.StepSsdDtRefIdeal.τ).loc Cert.StepSsdDtRefIdeal.main_arg3) = m' ((c.tc : Thread Cert.StepSsdDtRefIdeal.nD Cert.StepSsdDtRefIdeal.τ).loc Cert.StepSsdDtRefIdeal.main_arg3))

def Claim : Prop :=
  ∃ (hGather : Cert.Gather.Facts) (hGatherIdeal : Cert.GatherIdeal.Facts) (hGatherReference : Cert.GatherReference.Facts) (hGatherReferenceIdeal : Cert.GatherReferenceIdeal.Facts) (hKernel : Cert.Kernel.Facts) (hKernelIdeal : Cert.KernelIdeal.Facts) (hReference : Cert.Reference.Facts) (hReferenceIdeal : Cert.ReferenceIdeal.Facts) (hGrads : Cert.Grads.Facts) (hGradsIdeal : Cert.GradsIdeal.Facts) (hGradsReference : Cert.GradsReference.Facts) (hGradsReferenceIdeal : Cert.GradsReferenceIdeal.Facts) (hNorm : Cert.Norm.Facts) (hNormIdeal : Cert.NormIdeal.Facts) (hNormReference : Cert.NormReference.Facts) (hNormReferenceIdeal : Cert.NormReferenceIdeal.Facts) (hProduct : Cert.Product.Facts) (hProductIdeal : Cert.ProductIdeal.Facts) (hProductRef : Cert.ProductRef.Facts) (hProductRefIdeal : Cert.ProductRefIdeal.Facts) (hProductInput : Cert.ProductInput.Facts) (hProductInputIdeal : Cert.ProductInputIdeal.Facts) (hProductInputRef : Cert.ProductInputRef.Facts) (hProductInputRefIdeal : Cert.ProductInputRefIdeal.Facts) (hProductWeight : Cert.ProductWeight.Facts) (hProductWeightIdeal : Cert.ProductWeightIdeal.Facts) (hProductWeightRef : Cert.ProductWeightRef.Facts) (hProductWeightRefIdeal : Cert.ProductWeightRefIdeal.Facts) (hProductFfnGu : Cert.ProductFfnGu.Facts) (hProductFfnGuIdeal : Cert.ProductFfnGuIdeal.Facts) (hProductFfnGuRef : Cert.ProductFfnGuRef.Facts) (hProductFfnGuRefIdeal : Cert.ProductFfnGuRefIdeal.Facts) (hProductFfnDown : Cert.ProductFfnDown.Facts) (hProductFfnDownIdeal : Cert.ProductFfnDownIdeal.Facts) (hProductFfnDownRef : Cert.ProductFfnDownRef.Facts) (hProductFfnDownRefIdeal : Cert.ProductFfnDownRefIdeal.Facts) (hProductFfnDact : Cert.ProductFfnDact.Facts) (hProductFfnDactIdeal : Cert.ProductFfnDactIdeal.Facts) (hProductFfnDactRef : Cert.ProductFfnDactRef.Facts) (hProductFfnDactRefIdeal : Cert.ProductFfnDactRefIdeal.Facts) (hProductFfnGdown : Cert.ProductFfnGdown.Facts) (hProductFfnGdownIdeal : Cert.ProductFfnGdownIdeal.Facts) (hProductFfnGdownRef : Cert.ProductFfnGdownRef.Facts) (hProductFfnGdownRefIdeal : Cert.ProductFfnGdownRefIdeal.Facts) (hProductFfnGgu : Cert.ProductFfnGgu.Facts) (hProductFfnGguIdeal : Cert.ProductFfnGguIdeal.Facts) (hProductFfnGguRef : Cert.ProductFfnGguRef.Facts) (hProductFfnGguRefIdeal : Cert.ProductFfnGguRefIdeal.Facts) (hProductFfnDh : Cert.ProductFfnDh.Facts) (hProductFfnDhIdeal : Cert.ProductFfnDhIdeal.Facts) (hProductFfnDhRef : Cert.ProductFfnDhRef.Facts) (hProductFfnDhRefIdeal : Cert.ProductFfnDhRefIdeal.Facts) (hProductConvOut : Cert.ProductConvOut.Facts) (hProductConvOutIdeal : Cert.ProductConvOutIdeal.Facts) (hProductConvOutRef : Cert.ProductConvOutRef.Facts) (hProductConvOutRefIdeal : Cert.ProductConvOutRefIdeal.Facts) (hProductConvDz : Cert.ProductConvDz.Facts) (hProductConvDzIdeal : Cert.ProductConvDzIdeal.Facts) (hProductConvDzRef : Cert.ProductConvDzRef.Facts) (hProductConvDzRefIdeal : Cert.ProductConvDzRefIdeal.Facts) (hProductConvGout : Cert.ProductConvGout.Facts) (hProductConvGoutIdeal : Cert.ProductConvGoutIdeal.Facts) (hProductConvGoutRef : Cert.ProductConvGoutRef.Facts) (hProductConvGoutRefIdeal : Cert.ProductConvGoutRefIdeal.Facts) (hProductFoxIn : Cert.ProductFoxIn.Facts) (hProductFoxInIdeal : Cert.ProductFoxInIdeal.Facts) (hProductFoxInRef : Cert.ProductFoxInRef.Facts) (hProductFoxInRefIdeal : Cert.ProductFoxInRefIdeal.Facts) (hProductFoxOut : Cert.ProductFoxOut.Facts) (hProductFoxOutIdeal : Cert.ProductFoxOutIdeal.Facts) (hProductFoxOutRef : Cert.ProductFoxOutRef.Facts) (hProductFoxOutRefIdeal : Cert.ProductFoxOutRefIdeal.Facts) (hProductFoxGout : Cert.ProductFoxGout.Facts) (hProductFoxGoutIdeal : Cert.ProductFoxGoutIdeal.Facts) (hProductFoxGoutRef : Cert.ProductFoxGoutRef.Facts) (hProductFoxGoutRefIdeal : Cert.ProductFoxGoutRefIdeal.Facts) (hProductFoxGin : Cert.ProductFoxGin.Facts) (hProductFoxGinIdeal : Cert.ProductFoxGinIdeal.Facts) (hProductFoxGinRef : Cert.ProductFoxGinRef.Facts) (hProductFoxGinRefIdeal : Cert.ProductFoxGinRefIdeal.Facts) (hProductFoxDh : Cert.ProductFoxDh.Facts) (hProductFoxDhIdeal : Cert.ProductFoxDhIdeal.Facts) (hProductFoxDhRef : Cert.ProductFoxDhRef.Facts) (hProductFoxDhRefIdeal : Cert.ProductFoxDhRefIdeal.Facts) (hProductSsdIn : Cert.ProductSsdIn.Facts) (hProductSsdInIdeal : Cert.ProductSsdInIdeal.Facts) (hProductSsdInRef : Cert.ProductSsdInRef.Facts) (hProductSsdInRefIdeal : Cert.ProductSsdInRefIdeal.Facts) (hProductSsdOut : Cert.ProductSsdOut.Facts) (hProductSsdOutIdeal : Cert.ProductSsdOutIdeal.Facts) (hProductSsdOutRef : Cert.ProductSsdOutRef.Facts) (hProductSsdOutRefIdeal : Cert.ProductSsdOutRefIdeal.Facts) (hProductSsdDyn : Cert.ProductSsdDyn.Facts) (hProductSsdDynIdeal : Cert.ProductSsdDynIdeal.Facts) (hProductSsdDynRef : Cert.ProductSsdDynRef.Facts) (hProductSsdDynRefIdeal : Cert.ProductSsdDynRefIdeal.Facts) (hProductSsdGout : Cert.ProductSsdGout.Facts) (hProductSsdGoutIdeal : Cert.ProductSsdGoutIdeal.Facts) (hProductSsdGoutRef : Cert.ProductSsdGoutRef.Facts) (hProductSsdGoutRefIdeal : Cert.ProductSsdGoutRefIdeal.Facts) (hProductSsdGin : Cert.ProductSsdGin.Facts) (hProductSsdGinIdeal : Cert.ProductSsdGinIdeal.Facts) (hProductSsdGinRef : Cert.ProductSsdGinRef.Facts) (hProductSsdGinRefIdeal : Cert.ProductSsdGinRefIdeal.Facts) (hProductSsdDh : Cert.ProductSsdDh.Facts) (hProductSsdDhIdeal : Cert.ProductSsdDhIdeal.Facts) (hProductSsdDhRef : Cert.ProductSsdDhRef.Facts) (hProductSsdDhRefIdeal : Cert.ProductSsdDhRefIdeal.Facts) (hStepFfnGu : Cert.StepFfnGu.Facts) (hStepFfnGuIdeal : Cert.StepFfnGuIdeal.Facts) (hStepFfnGuRef : Cert.StepFfnGuRef.Facts) (hStepFfnGuRefIdeal : Cert.StepFfnGuRefIdeal.Facts) (hStepFfnDown : Cert.StepFfnDown.Facts) (hStepFfnDownIdeal : Cert.StepFfnDownIdeal.Facts) (hStepFfnDownRef : Cert.StepFfnDownRef.Facts) (hStepFfnDownRefIdeal : Cert.StepFfnDownRefIdeal.Facts) (hStepConvIn : Cert.StepConvIn.Facts) (hStepConvInIdeal : Cert.StepConvInIdeal.Facts) (hStepConvInRef : Cert.StepConvInRef.Facts) (hStepConvInRefIdeal : Cert.StepConvInRefIdeal.Facts) (hStepConvOut : Cert.StepConvOut.Facts) (hStepConvOutIdeal : Cert.StepConvOutIdeal.Facts) (hStepConvOutRef : Cert.StepConvOutRef.Facts) (hStepConvOutRefIdeal : Cert.StepConvOutRefIdeal.Facts) (hStepFoxIn : Cert.StepFoxIn.Facts) (hStepFoxInIdeal : Cert.StepFoxInIdeal.Facts) (hStepFoxInRef : Cert.StepFoxInRef.Facts) (hStepFoxInRefIdeal : Cert.StepFoxInRefIdeal.Facts) (hStepFoxOut : Cert.StepFoxOut.Facts) (hStepFoxOutIdeal : Cert.StepFoxOutIdeal.Facts) (hStepFoxOutRef : Cert.StepFoxOutRef.Facts) (hStepFoxOutRefIdeal : Cert.StepFoxOutRefIdeal.Facts) (hStepSsdIn : Cert.StepSsdIn.Facts) (hStepSsdInIdeal : Cert.StepSsdInIdeal.Facts) (hStepSsdInRef : Cert.StepSsdInRef.Facts) (hStepSsdInRefIdeal : Cert.StepSsdInRefIdeal.Facts) (hStepConvDw : Cert.StepConvDw.Facts) (hStepConvDwIdeal : Cert.StepConvDwIdeal.Facts) (hStepConvDwRef : Cert.StepConvDwRef.Facts) (hStepConvDwRefIdeal : Cert.StepConvDwRefIdeal.Facts) (hStepSsdConvW : Cert.StepSsdConvW.Facts) (hStepSsdConvWIdeal : Cert.StepSsdConvWIdeal.Facts) (hStepSsdConvWRef : Cert.StepSsdConvWRef.Facts) (hStepSsdConvWRefIdeal : Cert.StepSsdConvWRefIdeal.Facts) (hStepSsdConvB : Cert.StepSsdConvB.Facts) (hStepSsdConvBIdeal : Cert.StepSsdConvBIdeal.Facts) (hStepSsdConvBRef : Cert.StepSsdConvBRef.Facts) (hStepSsdConvBRefIdeal : Cert.StepSsdConvBRefIdeal.Facts) (hStepSsdNorm : Cert.StepSsdNorm.Facts) (hStepSsdNormIdeal : Cert.StepSsdNormIdeal.Facts) (hStepSsdNormRef : Cert.StepSsdNormRef.Facts) (hStepSsdNormRefIdeal : Cert.StepSsdNormRefIdeal.Facts) (hStepMixNorm : Cert.StepMixNorm.Facts) (hStepMixNormIdeal : Cert.StepMixNormIdeal.Facts) (hStepMixNormRef : Cert.StepMixNormRef.Facts) (hStepMixNormRefIdeal : Cert.StepMixNormRefIdeal.Facts) (hStepFoxBf : Cert.StepFoxBf.Facts) (hStepFoxBfIdeal : Cert.StepFoxBfIdeal.Facts) (hStepFoxBfRef : Cert.StepFoxBfRef.Facts) (hStepFoxBfRefIdeal : Cert.StepFoxBfRefIdeal.Facts) (hStepFoxQ : Cert.StepFoxQ.Facts) (hStepFoxQIdeal : Cert.StepFoxQIdeal.Facts) (hStepFoxQRef : Cert.StepFoxQRef.Facts) (hStepFoxQRefIdeal : Cert.StepFoxQRefIdeal.Facts) (hStepSsdDt : Cert.StepSsdDt.Facts) (hStepSsdDtIdeal : Cert.StepSsdDtIdeal.Facts) (hStepSsdDtRef : Cert.StepSsdDtRef.Facts) (hStepSsdDtRefIdeal : Cert.StepSsdDtRefIdeal.Facts),
    quiescent_Gather (hGather := hGather)
    ∧ quiescent_GatherIdeal (hGatherIdeal := hGatherIdeal)
    ∧ quiescent_GatherReference (hGatherReference := hGatherReference)
    ∧ quiescent_GatherReferenceIdeal (hGatherReferenceIdeal := hGatherReferenceIdeal)
    ∧ quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ quiescent_Grads (hGrads := hGrads)
    ∧ quiescent_GradsIdeal (hGradsIdeal := hGradsIdeal)
    ∧ quiescent_GradsReference (hGradsReference := hGradsReference)
    ∧ quiescent_GradsReferenceIdeal (hGradsReferenceIdeal := hGradsReferenceIdeal)
    ∧ quiescent_Norm (hNorm := hNorm)
    ∧ quiescent_NormIdeal (hNormIdeal := hNormIdeal)
    ∧ quiescent_NormReference (hNormReference := hNormReference)
    ∧ quiescent_NormReferenceIdeal (hNormReferenceIdeal := hNormReferenceIdeal)
    ∧ quiescent_Product (hProduct := hProduct)
    ∧ quiescent_ProductIdeal (hProductIdeal := hProductIdeal)
    ∧ quiescent_ProductRef (hProductRef := hProductRef)
    ∧ quiescent_ProductRefIdeal (hProductRefIdeal := hProductRefIdeal)
    ∧ quiescent_ProductInput (hProductInput := hProductInput)
    ∧ quiescent_ProductInputIdeal (hProductInputIdeal := hProductInputIdeal)
    ∧ quiescent_ProductInputRef (hProductInputRef := hProductInputRef)
    ∧ quiescent_ProductInputRefIdeal (hProductInputRefIdeal := hProductInputRefIdeal)
    ∧ quiescent_ProductWeight (hProductWeight := hProductWeight)
    ∧ quiescent_ProductWeightIdeal (hProductWeightIdeal := hProductWeightIdeal)
    ∧ quiescent_ProductWeightRef (hProductWeightRef := hProductWeightRef)
    ∧ quiescent_ProductWeightRefIdeal (hProductWeightRefIdeal := hProductWeightRefIdeal)
    ∧ quiescent_ProductFfnGu (hProductFfnGu := hProductFfnGu)
    ∧ quiescent_ProductFfnGuIdeal (hProductFfnGuIdeal := hProductFfnGuIdeal)
    ∧ quiescent_ProductFfnGuRef (hProductFfnGuRef := hProductFfnGuRef)
    ∧ quiescent_ProductFfnGuRefIdeal (hProductFfnGuRefIdeal := hProductFfnGuRefIdeal)
    ∧ quiescent_ProductFfnDown (hProductFfnDown := hProductFfnDown)
    ∧ quiescent_ProductFfnDownIdeal (hProductFfnDownIdeal := hProductFfnDownIdeal)
    ∧ quiescent_ProductFfnDownRef (hProductFfnDownRef := hProductFfnDownRef)
    ∧ quiescent_ProductFfnDownRefIdeal (hProductFfnDownRefIdeal := hProductFfnDownRefIdeal)
    ∧ quiescent_ProductFfnDact (hProductFfnDact := hProductFfnDact)
    ∧ quiescent_ProductFfnDactIdeal (hProductFfnDactIdeal := hProductFfnDactIdeal)
    ∧ quiescent_ProductFfnDactRef (hProductFfnDactRef := hProductFfnDactRef)
    ∧ quiescent_ProductFfnDactRefIdeal (hProductFfnDactRefIdeal := hProductFfnDactRefIdeal)
    ∧ quiescent_ProductFfnGdown (hProductFfnGdown := hProductFfnGdown)
    ∧ quiescent_ProductFfnGdownIdeal (hProductFfnGdownIdeal := hProductFfnGdownIdeal)
    ∧ quiescent_ProductFfnGdownRef (hProductFfnGdownRef := hProductFfnGdownRef)
    ∧ quiescent_ProductFfnGdownRefIdeal (hProductFfnGdownRefIdeal := hProductFfnGdownRefIdeal)
    ∧ quiescent_ProductFfnGgu (hProductFfnGgu := hProductFfnGgu)
    ∧ quiescent_ProductFfnGguIdeal (hProductFfnGguIdeal := hProductFfnGguIdeal)
    ∧ quiescent_ProductFfnGguRef (hProductFfnGguRef := hProductFfnGguRef)
    ∧ quiescent_ProductFfnGguRefIdeal (hProductFfnGguRefIdeal := hProductFfnGguRefIdeal)
    ∧ quiescent_ProductFfnDh (hProductFfnDh := hProductFfnDh)
    ∧ quiescent_ProductFfnDhIdeal (hProductFfnDhIdeal := hProductFfnDhIdeal)
    ∧ quiescent_ProductFfnDhRef (hProductFfnDhRef := hProductFfnDhRef)
    ∧ quiescent_ProductFfnDhRefIdeal (hProductFfnDhRefIdeal := hProductFfnDhRefIdeal)
    ∧ quiescent_ProductConvOut (hProductConvOut := hProductConvOut)
    ∧ quiescent_ProductConvOutIdeal (hProductConvOutIdeal := hProductConvOutIdeal)
    ∧ quiescent_ProductConvOutRef (hProductConvOutRef := hProductConvOutRef)
    ∧ quiescent_ProductConvOutRefIdeal (hProductConvOutRefIdeal := hProductConvOutRefIdeal)
    ∧ quiescent_ProductConvDz (hProductConvDz := hProductConvDz)
    ∧ quiescent_ProductConvDzIdeal (hProductConvDzIdeal := hProductConvDzIdeal)
    ∧ quiescent_ProductConvDzRef (hProductConvDzRef := hProductConvDzRef)
    ∧ quiescent_ProductConvDzRefIdeal (hProductConvDzRefIdeal := hProductConvDzRefIdeal)
    ∧ quiescent_ProductConvGout (hProductConvGout := hProductConvGout)
    ∧ quiescent_ProductConvGoutIdeal (hProductConvGoutIdeal := hProductConvGoutIdeal)
    ∧ quiescent_ProductConvGoutRef (hProductConvGoutRef := hProductConvGoutRef)
    ∧ quiescent_ProductConvGoutRefIdeal (hProductConvGoutRefIdeal := hProductConvGoutRefIdeal)
    ∧ quiescent_ProductFoxIn (hProductFoxIn := hProductFoxIn)
    ∧ quiescent_ProductFoxInIdeal (hProductFoxInIdeal := hProductFoxInIdeal)
    ∧ quiescent_ProductFoxInRef (hProductFoxInRef := hProductFoxInRef)
    ∧ quiescent_ProductFoxInRefIdeal (hProductFoxInRefIdeal := hProductFoxInRefIdeal)
    ∧ quiescent_ProductFoxOut (hProductFoxOut := hProductFoxOut)
    ∧ quiescent_ProductFoxOutIdeal (hProductFoxOutIdeal := hProductFoxOutIdeal)
    ∧ quiescent_ProductFoxOutRef (hProductFoxOutRef := hProductFoxOutRef)
    ∧ quiescent_ProductFoxOutRefIdeal (hProductFoxOutRefIdeal := hProductFoxOutRefIdeal)
    ∧ quiescent_ProductFoxGout (hProductFoxGout := hProductFoxGout)
    ∧ quiescent_ProductFoxGoutIdeal (hProductFoxGoutIdeal := hProductFoxGoutIdeal)
    ∧ quiescent_ProductFoxGoutRef (hProductFoxGoutRef := hProductFoxGoutRef)
    ∧ quiescent_ProductFoxGoutRefIdeal (hProductFoxGoutRefIdeal := hProductFoxGoutRefIdeal)
    ∧ quiescent_ProductFoxGin (hProductFoxGin := hProductFoxGin)
    ∧ quiescent_ProductFoxGinIdeal (hProductFoxGinIdeal := hProductFoxGinIdeal)
    ∧ quiescent_ProductFoxGinRef (hProductFoxGinRef := hProductFoxGinRef)
    ∧ quiescent_ProductFoxGinRefIdeal (hProductFoxGinRefIdeal := hProductFoxGinRefIdeal)
    ∧ quiescent_ProductFoxDh (hProductFoxDh := hProductFoxDh)
    ∧ quiescent_ProductFoxDhIdeal (hProductFoxDhIdeal := hProductFoxDhIdeal)
    ∧ quiescent_ProductFoxDhRef (hProductFoxDhRef := hProductFoxDhRef)
    ∧ quiescent_ProductFoxDhRefIdeal (hProductFoxDhRefIdeal := hProductFoxDhRefIdeal)
    ∧ quiescent_ProductSsdIn (hProductSsdIn := hProductSsdIn)
    ∧ quiescent_ProductSsdInIdeal (hProductSsdInIdeal := hProductSsdInIdeal)
    ∧ quiescent_ProductSsdInRef (hProductSsdInRef := hProductSsdInRef)
    ∧ quiescent_ProductSsdInRefIdeal (hProductSsdInRefIdeal := hProductSsdInRefIdeal)
    ∧ quiescent_ProductSsdOut (hProductSsdOut := hProductSsdOut)
    ∧ quiescent_ProductSsdOutIdeal (hProductSsdOutIdeal := hProductSsdOutIdeal)
    ∧ quiescent_ProductSsdOutRef (hProductSsdOutRef := hProductSsdOutRef)
    ∧ quiescent_ProductSsdOutRefIdeal (hProductSsdOutRefIdeal := hProductSsdOutRefIdeal)
    ∧ quiescent_ProductSsdDyn (hProductSsdDyn := hProductSsdDyn)
    ∧ quiescent_ProductSsdDynIdeal (hProductSsdDynIdeal := hProductSsdDynIdeal)
    ∧ quiescent_ProductSsdDynRef (hProductSsdDynRef := hProductSsdDynRef)
    ∧ quiescent_ProductSsdDynRefIdeal (hProductSsdDynRefIdeal := hProductSsdDynRefIdeal)
    ∧ quiescent_ProductSsdGout (hProductSsdGout := hProductSsdGout)
    ∧ quiescent_ProductSsdGoutIdeal (hProductSsdGoutIdeal := hProductSsdGoutIdeal)
    ∧ quiescent_ProductSsdGoutRef (hProductSsdGoutRef := hProductSsdGoutRef)
    ∧ quiescent_ProductSsdGoutRefIdeal (hProductSsdGoutRefIdeal := hProductSsdGoutRefIdeal)
    ∧ quiescent_ProductSsdGin (hProductSsdGin := hProductSsdGin)
    ∧ quiescent_ProductSsdGinIdeal (hProductSsdGinIdeal := hProductSsdGinIdeal)
    ∧ quiescent_ProductSsdGinRef (hProductSsdGinRef := hProductSsdGinRef)
    ∧ quiescent_ProductSsdGinRefIdeal (hProductSsdGinRefIdeal := hProductSsdGinRefIdeal)
    ∧ quiescent_ProductSsdDh (hProductSsdDh := hProductSsdDh)
    ∧ quiescent_ProductSsdDhIdeal (hProductSsdDhIdeal := hProductSsdDhIdeal)
    ∧ quiescent_ProductSsdDhRef (hProductSsdDhRef := hProductSsdDhRef)
    ∧ quiescent_ProductSsdDhRefIdeal (hProductSsdDhRefIdeal := hProductSsdDhRefIdeal)
    ∧ quiescent_StepFfnGu (hStepFfnGu := hStepFfnGu)
    ∧ quiescent_StepFfnGuIdeal (hStepFfnGuIdeal := hStepFfnGuIdeal)
    ∧ quiescent_StepFfnGuRef (hStepFfnGuRef := hStepFfnGuRef)
    ∧ quiescent_StepFfnGuRefIdeal (hStepFfnGuRefIdeal := hStepFfnGuRefIdeal)
    ∧ quiescent_StepFfnDown (hStepFfnDown := hStepFfnDown)
    ∧ quiescent_StepFfnDownIdeal (hStepFfnDownIdeal := hStepFfnDownIdeal)
    ∧ quiescent_StepFfnDownRef (hStepFfnDownRef := hStepFfnDownRef)
    ∧ quiescent_StepFfnDownRefIdeal (hStepFfnDownRefIdeal := hStepFfnDownRefIdeal)
    ∧ quiescent_StepConvIn (hStepConvIn := hStepConvIn)
    ∧ quiescent_StepConvInIdeal (hStepConvInIdeal := hStepConvInIdeal)
    ∧ quiescent_StepConvInRef (hStepConvInRef := hStepConvInRef)
    ∧ quiescent_StepConvInRefIdeal (hStepConvInRefIdeal := hStepConvInRefIdeal)
    ∧ quiescent_StepConvOut (hStepConvOut := hStepConvOut)
    ∧ quiescent_StepConvOutIdeal (hStepConvOutIdeal := hStepConvOutIdeal)
    ∧ quiescent_StepConvOutRef (hStepConvOutRef := hStepConvOutRef)
    ∧ quiescent_StepConvOutRefIdeal (hStepConvOutRefIdeal := hStepConvOutRefIdeal)
    ∧ quiescent_StepFoxIn (hStepFoxIn := hStepFoxIn)
    ∧ quiescent_StepFoxInIdeal (hStepFoxInIdeal := hStepFoxInIdeal)
    ∧ quiescent_StepFoxInRef (hStepFoxInRef := hStepFoxInRef)
    ∧ quiescent_StepFoxInRefIdeal (hStepFoxInRefIdeal := hStepFoxInRefIdeal)
    ∧ quiescent_StepFoxOut (hStepFoxOut := hStepFoxOut)
    ∧ quiescent_StepFoxOutIdeal (hStepFoxOutIdeal := hStepFoxOutIdeal)
    ∧ quiescent_StepFoxOutRef (hStepFoxOutRef := hStepFoxOutRef)
    ∧ quiescent_StepFoxOutRefIdeal (hStepFoxOutRefIdeal := hStepFoxOutRefIdeal)
    ∧ quiescent_StepSsdIn (hStepSsdIn := hStepSsdIn)
    ∧ quiescent_StepSsdInIdeal (hStepSsdInIdeal := hStepSsdInIdeal)
    ∧ quiescent_StepSsdInRef (hStepSsdInRef := hStepSsdInRef)
    ∧ quiescent_StepSsdInRefIdeal (hStepSsdInRefIdeal := hStepSsdInRefIdeal)
    ∧ quiescent_StepConvDw (hStepConvDw := hStepConvDw)
    ∧ quiescent_StepConvDwIdeal (hStepConvDwIdeal := hStepConvDwIdeal)
    ∧ quiescent_StepConvDwRef (hStepConvDwRef := hStepConvDwRef)
    ∧ quiescent_StepConvDwRefIdeal (hStepConvDwRefIdeal := hStepConvDwRefIdeal)
    ∧ quiescent_StepSsdConvW (hStepSsdConvW := hStepSsdConvW)
    ∧ quiescent_StepSsdConvWIdeal (hStepSsdConvWIdeal := hStepSsdConvWIdeal)
    ∧ quiescent_StepSsdConvWRef (hStepSsdConvWRef := hStepSsdConvWRef)
    ∧ quiescent_StepSsdConvWRefIdeal (hStepSsdConvWRefIdeal := hStepSsdConvWRefIdeal)
    ∧ quiescent_StepSsdConvB (hStepSsdConvB := hStepSsdConvB)
    ∧ quiescent_StepSsdConvBIdeal (hStepSsdConvBIdeal := hStepSsdConvBIdeal)
    ∧ quiescent_StepSsdConvBRef (hStepSsdConvBRef := hStepSsdConvBRef)
    ∧ quiescent_StepSsdConvBRefIdeal (hStepSsdConvBRefIdeal := hStepSsdConvBRefIdeal)
    ∧ quiescent_StepSsdNorm (hStepSsdNorm := hStepSsdNorm)
    ∧ quiescent_StepSsdNormIdeal (hStepSsdNormIdeal := hStepSsdNormIdeal)
    ∧ quiescent_StepSsdNormRef (hStepSsdNormRef := hStepSsdNormRef)
    ∧ quiescent_StepSsdNormRefIdeal (hStepSsdNormRefIdeal := hStepSsdNormRefIdeal)
    ∧ quiescent_StepMixNorm (hStepMixNorm := hStepMixNorm)
    ∧ quiescent_StepMixNormIdeal (hStepMixNormIdeal := hStepMixNormIdeal)
    ∧ quiescent_StepMixNormRef (hStepMixNormRef := hStepMixNormRef)
    ∧ quiescent_StepMixNormRefIdeal (hStepMixNormRefIdeal := hStepMixNormRefIdeal)
    ∧ quiescent_StepFoxBf (hStepFoxBf := hStepFoxBf)
    ∧ quiescent_StepFoxBfIdeal (hStepFoxBfIdeal := hStepFoxBfIdeal)
    ∧ quiescent_StepFoxBfRef (hStepFoxBfRef := hStepFoxBfRef)
    ∧ quiescent_StepFoxBfRefIdeal (hStepFoxBfRefIdeal := hStepFoxBfRefIdeal)
    ∧ quiescent_StepFoxQ (hStepFoxQ := hStepFoxQ)
    ∧ quiescent_StepFoxQIdeal (hStepFoxQIdeal := hStepFoxQIdeal)
    ∧ quiescent_StepFoxQRef (hStepFoxQRef := hStepFoxQRef)
    ∧ quiescent_StepFoxQRefIdeal (hStepFoxQRefIdeal := hStepFoxQRefIdeal)
    ∧ quiescent_StepSsdDt (hStepSsdDt := hStepSsdDt)
    ∧ quiescent_StepSsdDtIdeal (hStepSsdDtIdeal := hStepSsdDtIdeal)
    ∧ quiescent_StepSsdDtRef (hStepSsdDtRef := hStepSsdDtRef)
    ∧ quiescent_StepSsdDtRefIdeal (hStepSsdDtRefIdeal := hStepSsdDtRefIdeal)
    ∧ preserves_Gather_GatherIdeal
    ∧ algebraic_GatherIdeal_GatherReferenceIdeal (hGatherIdeal := hGatherIdeal) (hGatherReferenceIdeal := hGatherReferenceIdeal)
    ∧ bitexact_Gather_GatherReference (hGather := hGather) (hGatherReference := hGatherReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Grads_GradsIdeal
    ∧ algebraic_GradsIdeal_GradsReferenceIdeal (hGradsIdeal := hGradsIdeal) (hGradsReferenceIdeal := hGradsReferenceIdeal)
    ∧ preserves_Norm_NormIdeal
    ∧ algebraic_NormIdeal_NormReferenceIdeal (hNormIdeal := hNormIdeal) (hNormReferenceIdeal := hNormReferenceIdeal)
    ∧ preserves_Product_ProductIdeal
    ∧ algebraic_ProductIdeal_ProductRefIdeal (hProductIdeal := hProductIdeal) (hProductRefIdeal := hProductRefIdeal)
    ∧ preserves_ProductInput_ProductInputIdeal
    ∧ algebraic_ProductInputIdeal_ProductInputRefIdeal (hProductInputIdeal := hProductInputIdeal) (hProductInputRefIdeal := hProductInputRefIdeal)
    ∧ preserves_ProductWeight_ProductWeightIdeal
    ∧ algebraic_ProductWeightIdeal_ProductWeightRefIdeal (hProductWeightIdeal := hProductWeightIdeal) (hProductWeightRefIdeal := hProductWeightRefIdeal)
    ∧ preserves_ProductFfnGu_ProductFfnGuIdeal
    ∧ algebraic_ProductFfnGuIdeal_ProductFfnGuRefIdeal (hProductFfnGuIdeal := hProductFfnGuIdeal) (hProductFfnGuRefIdeal := hProductFfnGuRefIdeal)
    ∧ preserves_ProductFfnDown_ProductFfnDownIdeal
    ∧ algebraic_ProductFfnDownIdeal_ProductFfnDownRefIdeal (hProductFfnDownIdeal := hProductFfnDownIdeal) (hProductFfnDownRefIdeal := hProductFfnDownRefIdeal)
    ∧ preserves_ProductFfnDact_ProductFfnDactIdeal
    ∧ algebraic_ProductFfnDactIdeal_ProductFfnDactRefIdeal (hProductFfnDactIdeal := hProductFfnDactIdeal) (hProductFfnDactRefIdeal := hProductFfnDactRefIdeal)
    ∧ preserves_ProductFfnGdown_ProductFfnGdownIdeal
    ∧ algebraic_ProductFfnGdownIdeal_ProductFfnGdownRefIdeal (hProductFfnGdownIdeal := hProductFfnGdownIdeal) (hProductFfnGdownRefIdeal := hProductFfnGdownRefIdeal)
    ∧ preserves_ProductFfnGgu_ProductFfnGguIdeal
    ∧ algebraic_ProductFfnGguIdeal_ProductFfnGguRefIdeal (hProductFfnGguIdeal := hProductFfnGguIdeal) (hProductFfnGguRefIdeal := hProductFfnGguRefIdeal)
    ∧ preserves_ProductFfnDh_ProductFfnDhIdeal
    ∧ algebraic_ProductFfnDhIdeal_ProductFfnDhRefIdeal (hProductFfnDhIdeal := hProductFfnDhIdeal) (hProductFfnDhRefIdeal := hProductFfnDhRefIdeal)
    ∧ preserves_ProductConvOut_ProductConvOutIdeal
    ∧ algebraic_ProductConvOutIdeal_ProductConvOutRefIdeal (hProductConvOutIdeal := hProductConvOutIdeal) (hProductConvOutRefIdeal := hProductConvOutRefIdeal)
    ∧ preserves_ProductConvDz_ProductConvDzIdeal
    ∧ algebraic_ProductConvDzIdeal_ProductConvDzRefIdeal (hProductConvDzIdeal := hProductConvDzIdeal) (hProductConvDzRefIdeal := hProductConvDzRefIdeal)
    ∧ preserves_ProductConvGout_ProductConvGoutIdeal
    ∧ algebraic_ProductConvGoutIdeal_ProductConvGoutRefIdeal (hProductConvGoutIdeal := hProductConvGoutIdeal) (hProductConvGoutRefIdeal := hProductConvGoutRefIdeal)
    ∧ preserves_ProductFoxIn_ProductFoxInIdeal
    ∧ algebraic_ProductFoxInIdeal_ProductFoxInRefIdeal (hProductFoxInIdeal := hProductFoxInIdeal) (hProductFoxInRefIdeal := hProductFoxInRefIdeal)
    ∧ preserves_ProductFoxOut_ProductFoxOutIdeal
    ∧ algebraic_ProductFoxOutIdeal_ProductFoxOutRefIdeal (hProductFoxOutIdeal := hProductFoxOutIdeal) (hProductFoxOutRefIdeal := hProductFoxOutRefIdeal)
    ∧ preserves_ProductFoxGout_ProductFoxGoutIdeal
    ∧ algebraic_ProductFoxGoutIdeal_ProductFoxGoutRefIdeal (hProductFoxGoutIdeal := hProductFoxGoutIdeal) (hProductFoxGoutRefIdeal := hProductFoxGoutRefIdeal)
    ∧ preserves_ProductFoxGin_ProductFoxGinIdeal
    ∧ algebraic_ProductFoxGinIdeal_ProductFoxGinRefIdeal (hProductFoxGinIdeal := hProductFoxGinIdeal) (hProductFoxGinRefIdeal := hProductFoxGinRefIdeal)
    ∧ preserves_ProductFoxDh_ProductFoxDhIdeal
    ∧ algebraic_ProductFoxDhIdeal_ProductFoxDhRefIdeal (hProductFoxDhIdeal := hProductFoxDhIdeal) (hProductFoxDhRefIdeal := hProductFoxDhRefIdeal)
    ∧ preserves_ProductSsdIn_ProductSsdInIdeal
    ∧ algebraic_ProductSsdInIdeal_ProductSsdInRefIdeal (hProductSsdInIdeal := hProductSsdInIdeal) (hProductSsdInRefIdeal := hProductSsdInRefIdeal)
    ∧ preserves_ProductSsdOut_ProductSsdOutIdeal
    ∧ algebraic_ProductSsdOutIdeal_ProductSsdOutRefIdeal (hProductSsdOutIdeal := hProductSsdOutIdeal) (hProductSsdOutRefIdeal := hProductSsdOutRefIdeal)
    ∧ preserves_ProductSsdDyn_ProductSsdDynIdeal
    ∧ algebraic_ProductSsdDynIdeal_ProductSsdDynRefIdeal (hProductSsdDynIdeal := hProductSsdDynIdeal) (hProductSsdDynRefIdeal := hProductSsdDynRefIdeal)
    ∧ preserves_ProductSsdGout_ProductSsdGoutIdeal
    ∧ algebraic_ProductSsdGoutIdeal_ProductSsdGoutRefIdeal (hProductSsdGoutIdeal := hProductSsdGoutIdeal) (hProductSsdGoutRefIdeal := hProductSsdGoutRefIdeal)
    ∧ preserves_ProductSsdGin_ProductSsdGinIdeal
    ∧ algebraic_ProductSsdGinIdeal_ProductSsdGinRefIdeal (hProductSsdGinIdeal := hProductSsdGinIdeal) (hProductSsdGinRefIdeal := hProductSsdGinRefIdeal)
    ∧ preserves_ProductSsdDh_ProductSsdDhIdeal
    ∧ algebraic_ProductSsdDhIdeal_ProductSsdDhRefIdeal (hProductSsdDhIdeal := hProductSsdDhIdeal) (hProductSsdDhRefIdeal := hProductSsdDhRefIdeal)
    ∧ preserves_StepFfnGu_StepFfnGuIdeal
    ∧ algebraic_StepFfnGuIdeal_StepFfnGuRefIdeal (hStepFfnGuIdeal := hStepFfnGuIdeal) (hStepFfnGuRefIdeal := hStepFfnGuRefIdeal)
    ∧ preserves_StepFfnDown_StepFfnDownIdeal
    ∧ algebraic_StepFfnDownIdeal_StepFfnDownRefIdeal (hStepFfnDownIdeal := hStepFfnDownIdeal) (hStepFfnDownRefIdeal := hStepFfnDownRefIdeal)
    ∧ preserves_StepConvIn_StepConvInIdeal
    ∧ algebraic_StepConvInIdeal_StepConvInRefIdeal (hStepConvInIdeal := hStepConvInIdeal) (hStepConvInRefIdeal := hStepConvInRefIdeal)
    ∧ preserves_StepConvOut_StepConvOutIdeal
    ∧ algebraic_StepConvOutIdeal_StepConvOutRefIdeal (hStepConvOutIdeal := hStepConvOutIdeal) (hStepConvOutRefIdeal := hStepConvOutRefIdeal)
    ∧ preserves_StepFoxIn_StepFoxInIdeal
    ∧ algebraic_StepFoxInIdeal_StepFoxInRefIdeal (hStepFoxInIdeal := hStepFoxInIdeal) (hStepFoxInRefIdeal := hStepFoxInRefIdeal)
    ∧ preserves_StepFoxOut_StepFoxOutIdeal
    ∧ algebraic_StepFoxOutIdeal_StepFoxOutRefIdeal (hStepFoxOutIdeal := hStepFoxOutIdeal) (hStepFoxOutRefIdeal := hStepFoxOutRefIdeal)
    ∧ preserves_StepSsdIn_StepSsdInIdeal
    ∧ algebraic_StepSsdInIdeal_StepSsdInRefIdeal (hStepSsdInIdeal := hStepSsdInIdeal) (hStepSsdInRefIdeal := hStepSsdInRefIdeal)
    ∧ preserves_StepConvDw_StepConvDwIdeal
    ∧ algebraic_StepConvDwIdeal_StepConvDwRefIdeal (hStepConvDwIdeal := hStepConvDwIdeal) (hStepConvDwRefIdeal := hStepConvDwRefIdeal)
    ∧ preserves_StepSsdConvW_StepSsdConvWIdeal
    ∧ algebraic_StepSsdConvWIdeal_StepSsdConvWRefIdeal (hStepSsdConvWIdeal := hStepSsdConvWIdeal) (hStepSsdConvWRefIdeal := hStepSsdConvWRefIdeal)
    ∧ preserves_StepSsdConvB_StepSsdConvBIdeal
    ∧ algebraic_StepSsdConvBIdeal_StepSsdConvBRefIdeal (hStepSsdConvBIdeal := hStepSsdConvBIdeal) (hStepSsdConvBRefIdeal := hStepSsdConvBRefIdeal)
    ∧ preserves_StepSsdNorm_StepSsdNormIdeal
    ∧ algebraic_StepSsdNormIdeal_StepSsdNormRefIdeal (hStepSsdNormIdeal := hStepSsdNormIdeal) (hStepSsdNormRefIdeal := hStepSsdNormRefIdeal)
    ∧ preserves_StepMixNorm_StepMixNormIdeal
    ∧ algebraic_StepMixNormIdeal_StepMixNormRefIdeal (hStepMixNormIdeal := hStepMixNormIdeal) (hStepMixNormRefIdeal := hStepMixNormRefIdeal)
    ∧ preserves_StepFoxBf_StepFoxBfIdeal
    ∧ algebraic_StepFoxBfIdeal_StepFoxBfRefIdeal (hStepFoxBfIdeal := hStepFoxBfIdeal) (hStepFoxBfRefIdeal := hStepFoxBfRefIdeal)
    ∧ preserves_StepFoxQ_StepFoxQIdeal
    ∧ algebraic_StepFoxQIdeal_StepFoxQRefIdeal (hStepFoxQIdeal := hStepFoxQIdeal) (hStepFoxQRefIdeal := hStepFoxQRefIdeal)
    ∧ preserves_StepSsdDt_StepSsdDtIdeal
    ∧ algebraic_StepSsdDtIdeal_StepSsdDtRefIdeal (hStepSsdDtIdeal := hStepSsdDtIdeal) (hStepSsdDtRefIdeal := hStepSsdDtRefIdeal)
-- ==== Gather.lean ====
abbrev S6800x1024 : Shape := ⟨2, ![6800, 1024]⟩
abbrev S8x6800x1024 : Shape := ⟨3, ![8, 6800, 1024]⟩
abbrev S7 : Shape := ⟨1, ![7]⟩
abbrev S_ : Shape := ⟨0, ![]⟩
abbrev S1x6800x1024 : Shape := ⟨3, ![1, 6800, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S6800x1024, .bf16⟩
  | .hbm, ⟨1, _⟩ => ⟨S8x6800x1024, .bf16⟩
  | _, _ => ⟨S6800x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32 : BitVec 32 := 0#32
  let c0_i32_5 : BitVec 32 := 0#32
  ![v12.toNat, 0, 0]
def k0_dev1 (d0 : Dev nD) : Nat :=
  let c0_i32_46 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_6 : BitVec 32 := 1#32
  let v15 : BitVec 32 := Scalar.addi v12 c1_i32_6
  let c8_i32 : BitVec 32 := 8#32
  let v16 : BitVec 32 := Scalar.remsi v15 c8_i32
  let c2_i32_7 : BitVec 32 := 2#32
  let v17 : BitVec 32 := Scalar.shrui v16 c2_i32_7
  let c4_i32_45 : BitVec 32 := 4#32
  let v57 : BitVec 32 := Scalar.muli v17 c4_i32_45
  let v58 : BitVec 32 := Scalar.addi c0_i32_46 v57
  let c1_i32_8 : BitVec 32 := 1#32
  let v18 : BitVec 32 := Scalar.shrui v16 c1_i32_8
  let c1_i32_9 : BitVec 32 := 1#32
  let v19 : BitVec 32 := Scalar.andi v18 c1_i32_9
  let c2_i32_47 : BitVec 32 := 2#32
  let v59 : BitVec 32 := Scalar.muli v19 c2_i32_47
  let v60 : BitVec 32 := Scalar.addi v58 v59
  let c1_i32_10 : BitVec 32 := 1#32
  let v20 : BitVec 32 := Scalar.andi v16 c1_i32_10
  let c1_i32_48 : BitVec 32 := 1#32
  let v61 : BitVec 32 := Scalar.muli v20 c1_i32_48
  let v62 : BitVec 32 := Scalar.addi v60 v61
  v62.toNat
def k0_dev2 (d0 : Dev nD) : Nat :=
  let c0_i32_54 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_11 : BitVec 32 := 2#32
  let v21 : BitVec 32 := Scalar.addi v12 c2_i32_11
  let c8_i32_12 : BitVec 32 := 8#32
  let v22 : BitVec 32 := Scalar.remsi v21 c8_i32_12
  let c2_i32_13 : BitVec 32 := 2#32
  let v23 : BitVec 32 := Scalar.shrui v22 c2_i32_13
  let c4_i32_53 : BitVec 32 := 4#32
  let v69 : BitVec 32 := Scalar.muli v23 c4_i32_53
  let v70 : BitVec 32 := Scalar.addi c0_i32_54 v69
  let c1_i32_14 : BitVec 32 := 1#32
  let v24 : BitVec 32 := Scalar.shrui v22 c1_i32_14
  let c1_i32_15 : BitVec 32 := 1#32
  let v25 : BitVec 32 := Scalar.andi v24 c1_i32_15
  let c2_i32_55 : BitVec 32 := 2#32
  let v71 : BitVec 32 := Scalar.muli v25 c2_i32_55
  let v72 : BitVec 32 := Scalar.addi v70 v71
  let c1_i32_16 : BitVec 32 := 1#32
  let v26 : BitVec 32 := Scalar.andi v22 c1_i32_16
  let c1_i32_56 : BitVec 32 := 1#32
  let v73 : BitVec 32 := Scalar.muli v26 c1_i32_56
  let v74 : BitVec 32 := Scalar.addi v72 v73
  v74.toNat
def k0_dev3 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32 : BitVec 32 := 3#32
  let v27 : BitVec 32 := Scalar.addi v12 c3_i32
  let c8_i32_17 : BitVec 32 := 8#32
  let v28 : BitVec 32 := Scalar.remsi v27 c8_i32_17
  let c2_i32_18 : BitVec 32 := 2#32
  let v29 : BitVec 32 := Scalar.shrui v28 c2_i32_18
  let c4_i32_61 : BitVec 32 := 4#32
  let v81 : BitVec 32 := Scalar.muli v29 c4_i32_61
  let v82 : BitVec 32 := Scalar.addi c0_i32_62 v81
  let c1_i32_19 : BitVec 32 := 1#32
  let v30 : BitVec 32 := Scalar.shrui v28 c1_i32_19
  let c1_i32_20 : BitVec 32 := 1#32
  let v31 : BitVec 32 := Scalar.andi v30 c1_i32_20
  let c2_i32_63 : BitVec 32 := 2#32
  let v83 : BitVec 32 := Scalar.muli v31 c2_i32_63
  let v84 : BitVec 32 := Scalar.addi v82 v83
  let c1_i32_21 : BitVec 32 := 1#32
  let v32 : BitVec 32 := Scalar.andi v28 c1_i32_21
  let c1_i32_64 : BitVec 32 := 1#32
  let v85 : BitVec 32 := Scalar.muli v32 c1_i32_64
  let v86 : BitVec 32 := Scalar.addi v84 v85
  v86.toNat
def k0_dev4 (d0 : Dev nD) : Nat :=
  let c0_i32_70 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_22 : BitVec 32 := 4#32
  let v33 : BitVec 32 := Scalar.addi v12 c4_i32_22
  let c8_i32_23 : BitVec 32 := 8#32
  let v34 : BitVec 32 := Scalar.remsi v33 c8_i32_23
  let c2_i32_24 : BitVec 32 := 2#32
  let v35 : BitVec 32 := Scalar.shrui v34 c2_i32_24
  let c4_i32_69 : BitVec 32 := 4#32
  let v93 : BitVec 32 := Scalar.muli v35 c4_i32_69
  let v94 : BitVec 32 := Scalar.addi c0_i32_70 v93
  let c1_i32_25 : BitVec 32 := 1#32
  let v36 : BitVec 32 := Scalar.shrui v34 c1_i32_25
  let c1_i32_26 : BitVec 32 := 1#32
  let v37 : BitVec 32 := Scalar.andi v36 c1_i32_26
  let c2_i32_71 : BitVec 32 := 2#32
  let v95 : BitVec 32 := Scalar.muli v37 c2_i32_71
  let v96 : BitVec 32 := Scalar.addi v94 v95
  let c1_i32_27 : BitVec 32 := 1#32
  let v38 : BitVec 32 := Scalar.andi v34 c1_i32_27
  let c1_i32_72 : BitVec 32 := 1#32
  let v97 : BitVec 32 := Scalar.muli v38 c1_i32_72
  let v98 : BitVec 32 := Scalar.addi v96 v97
  v98.toNat
def k0_dev5 (d0 : Dev nD) : Nat :=
  let c0_i32_78 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32 : BitVec 32 := 5#32
  let v39 : BitVec 32 := Scalar.addi v12 c5_i32
  let c8_i32_28 : BitVec 32 := 8#32
  let v40 : BitVec 32 := Scalar.remsi v39 c8_i32_28
  let c2_i32_29 : BitVec 32 := 2#32
  let v41 : BitVec 32 := Scalar.shrui v40 c2_i32_29
  let c4_i32_77 : BitVec 32 := 4#32
  let v105 : BitVec 32 := Scalar.muli v41 c4_i32_77
  let v106 : BitVec 32 := Scalar.addi c0_i32_78 v105
  let c1_i32_30 : BitVec 32 := 1#32
  let v42 : BitVec 32 := Scalar.shrui v40 c1_i32_30
  let c1_i32_31 : BitVec 32 := 1#32
  let v43 : BitVec 32 := Scalar.andi v42 c1_i32_31
  let c2_i32_79 : BitVec 32 := 2#32
  let v107 : BitVec 32 := Scalar.muli v43 c2_i32_79
  let v108 : BitVec 32 := Scalar.addi v106 v107
  let c1_i32_32 : BitVec 32 := 1#32
  let v44 : BitVec 32 := Scalar.andi v40 c1_i32_32
  let c1_i32_80 : BitVec 32 := 1#32
  let v109 : BitVec 32 := Scalar.muli v44 c1_i32_80
  let v110 : BitVec 32 := Scalar.addi v108 v109
  v110.toNat
def k0_dev6 (d0 : Dev nD) : Nat :=
  let c0_i32_86 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32 : BitVec 32 := 6#32
  let v45 : BitVec 32 := Scalar.addi v12 c6_i32
  let c8_i32_33 : BitVec 32 := 8#32
  let v46 : BitVec 32 := Scalar.remsi v45 c8_i32_33
  let c2_i32_34 : BitVec 32 := 2#32
  let v47 : BitVec 32 := Scalar.shrui v46 c2_i32_34
  let c4_i32_85 : BitVec 32 := 4#32
  let v117 : BitVec 32 := Scalar.muli v47 c4_i32_85
  let v118 : BitVec 32 := Scalar.addi c0_i32_86 v117
  let c1_i32_35 : BitVec 32 := 1#32
  let v48 : BitVec 32 := Scalar.shrui v46 c1_i32_35
  let c1_i32_36 : BitVec 32 := 1#32
  let v49 : BitVec 32 := Scalar.andi v48 c1_i32_36
  let c2_i32_87 : BitVec 32 := 2#32
  let v119 : BitVec 32 := Scalar.muli v49 c2_i32_87
  let v120 : BitVec 32 := Scalar.addi v118 v119
  let c1_i32_37 : BitVec 32 := 1#32
  let v50 : BitVec 32 := Scalar.andi v46 c1_i32_37
  let c1_i32_88 : BitVec 32 := 1#32
  let v121 : BitVec 32 := Scalar.muli v50 c1_i32_88
  let v122 : BitVec 32 := Scalar.addi v120 v121
  v122.toNat
def k0_dev7 (d0 : Dev nD) : Nat :=
  let c0_i32_94 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32 : BitVec 32 := 7#32
  let v51 : BitVec 32 := Scalar.addi v12 c7_i32
  let c8_i32_38 : BitVec 32 := 8#32
  let v52 : BitVec 32 := Scalar.remsi v51 c8_i32_38
  let c2_i32_39 : BitVec 32 := 2#32
  let v53 : BitVec 32 := Scalar.shrui v52 c2_i32_39
  let c4_i32_93 : BitVec 32 := 4#32
  let v129 : BitVec 32 := Scalar.muli v53 c4_i32_93
  let v130 : BitVec 32 := Scalar.addi c0_i32_94 v129
  let c1_i32_40 : BitVec 32 := 1#32
  let v54 : BitVec 32 := Scalar.shrui v52 c1_i32_40
  let c1_i32_41 : BitVec 32 := 1#32
  let v55 : BitVec 32 := Scalar.andi v54 c1_i32_41
  let c2_i32_95 : BitVec 32 := 2#32
  let v131 : BitVec 32 := Scalar.muli v55 c2_i32_95
  let v132 : BitVec 32 := Scalar.addi v130 v131
  let c1_i32_42 : BitVec 32 := 1#32
  let v56 : BitVec 32 := Scalar.andi v52 c1_i32_42
  let c1_i32_96 : BitVec 32 := 1#32
  let v133 : BitVec 32 := Scalar.muli v56 c1_i32_96
  let v134 : BitVec 32 := Scalar.addi v132 v133
  v134.toNat
def k0_off2 (d0 : Dev nD) (c1_i32_135 : BitVec 32) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c8_i32_134 : BitVec 32 := 8#32
  let v169 : BitVec 32 := Scalar.addi v12 c8_i32_134
  let v170 : BitVec 32 := Scalar.subi v169 c1_i32_135
  let c8_i32_136 : BitVec 32 := 8#32
  let v171 : BitVec 32 := Scalar.remsi v170 c8_i32_136
  let c0_i32_147 : BitVec 32 := 0#32
  let c0_i32_148 : BitVec 32 := 0#32
  ![v171.toNat, 0, 0]
-- ==== GatherReference.lean ====
abbrev S54400x1024 : Shape := ⟨2, ![54400, 1024]⟩
abbrev S8x6800x1024 : Shape := ⟨3, ![8, 6800, 1024]⟩

abbrev nBuf : Space → Nat
  | .hbm => 2
  | .vmem => 0
  | .smem => 0
  | _ => 0

abbrev bufTy : (tb : Table) → Fin (tcTables nBuf tb) → BufTy
  | .hbm, ⟨0, _⟩ => ⟨S54400x1024, .bf16⟩
  | .hbm, ⟨1, _⟩ => ⟨S8x6800x1024, .bf16⟩
  | _, _ => ⟨S54400x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Kernel.lean ====
abbrev S8x6800x1024 : Shape := ⟨3, ![8, 6800, 1024]⟩
abbrev S7 : Shape := ⟨1, ![7]⟩
abbrev S_ : Shape := ⟨0, ![]⟩
abbrev S1x6800x1024 : Shape := ⟨3, ![1, 6800, 1024]⟩
abbrev S6800x1024 : Shape := ⟨2, ![6800, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S8x6800x1024, .bf16⟩
  | .hbm, ⟨1, _⟩ => ⟨S8x6800x1024, .bf16⟩
  | _, _ => ⟨S8x6800x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32 : BitVec 32 := 0#32
  let c0_i32_5 : BitVec 32 := 0#32
  ![v12.toNat, 0, 0]
def k0_off2 (d0 : Dev nD) (c1_i32_8 : BitVec 32) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let v17 : BitVec 32 := Scalar.addi v12 c1_i32_8
  let c8_i32 : BitVec 32 := 8#32
  let v18 : BitVec 32 := Scalar.remsi v17 c8_i32
  let c0_i32_53 : BitVec 32 := 0#32
  let c0_i32_54 : BitVec 32 := 0#32
  ![v18.toNat, 0, 0]
def k0_dev1 (d0 : Dev nD) : Nat :=
  let c0_i32_48 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_8 : BitVec 32 := 1#32
  let v17 : BitVec 32 := Scalar.addi v12 c1_i32_8
  let c8_i32 : BitVec 32 := 8#32
  let v18 : BitVec 32 := Scalar.remsi v17 c8_i32
  let c2_i32_9 : BitVec 32 := 2#32
  let v19 : BitVec 32 := Scalar.shrui v18 c2_i32_9
  let c4_i32_47 : BitVec 32 := 4#32
  let v59 : BitVec 32 := Scalar.muli v19 c4_i32_47
  let v60 : BitVec 32 := Scalar.addi c0_i32_48 v59
  let c1_i32_10 : BitVec 32 := 1#32
  let v20 : BitVec 32 := Scalar.shrui v18 c1_i32_10
  let c1_i32_11 : BitVec 32 := 1#32
  let v21 : BitVec 32 := Scalar.andi v20 c1_i32_11
  let c2_i32_49 : BitVec 32 := 2#32
  let v61 : BitVec 32 := Scalar.muli v21 c2_i32_49
  let v62 : BitVec 32 := Scalar.addi v60 v61
  let c1_i32_12 : BitVec 32 := 1#32
  let v22 : BitVec 32 := Scalar.andi v18 c1_i32_12
  let c1_i32_50 : BitVec 32 := 1#32
  let v63 : BitVec 32 := Scalar.muli v22 c1_i32_50
  let v64 : BitVec 32 := Scalar.addi v62 v63
  v64.toNat
def k0_dev2 (d0 : Dev nD) : Nat :=
  let c0_i32_58 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_13 : BitVec 32 := 2#32
  let v23 : BitVec 32 := Scalar.addi v12 c2_i32_13
  let c8_i32_14 : BitVec 32 := 8#32
  let v24 : BitVec 32 := Scalar.remsi v23 c8_i32_14
  let c2_i32_15 : BitVec 32 := 2#32
  let v25 : BitVec 32 := Scalar.shrui v24 c2_i32_15
  let c4_i32_57 : BitVec 32 := 4#32
  let v73 : BitVec 32 := Scalar.muli v25 c4_i32_57
  let v74 : BitVec 32 := Scalar.addi c0_i32_58 v73
  let c1_i32_16 : BitVec 32 := 1#32
  let v26 : BitVec 32 := Scalar.shrui v24 c1_i32_16
  let c1_i32_17 : BitVec 32 := 1#32
  let v27 : BitVec 32 := Scalar.andi v26 c1_i32_17
  let c2_i32_59 : BitVec 32 := 2#32
  let v75 : BitVec 32 := Scalar.muli v27 c2_i32_59
  let v76 : BitVec 32 := Scalar.addi v74 v75
  let c1_i32_18 : BitVec 32 := 1#32
  let v28 : BitVec 32 := Scalar.andi v24 c1_i32_18
  let c1_i32_60 : BitVec 32 := 1#32
  let v77 : BitVec 32 := Scalar.muli v28 c1_i32_60
  let v78 : BitVec 32 := Scalar.addi v76 v77
  v78.toNat
def k0_dev3 (d0 : Dev nD) : Nat :=
  let c0_i32_68 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32 : BitVec 32 := 3#32
  let v29 : BitVec 32 := Scalar.addi v12 c3_i32
  let c8_i32_19 : BitVec 32 := 8#32
  let v30 : BitVec 32 := Scalar.remsi v29 c8_i32_19
  let c2_i32_20 : BitVec 32 := 2#32
  let v31 : BitVec 32 := Scalar.shrui v30 c2_i32_20
  let c4_i32_67 : BitVec 32 := 4#32
  let v87 : BitVec 32 := Scalar.muli v31 c4_i32_67
  let v88 : BitVec 32 := Scalar.addi c0_i32_68 v87
  let c1_i32_21 : BitVec 32 := 1#32
  let v32 : BitVec 32 := Scalar.shrui v30 c1_i32_21
  let c1_i32_22 : BitVec 32 := 1#32
  let v33 : BitVec 32 := Scalar.andi v32 c1_i32_22
  let c2_i32_69 : BitVec 32 := 2#32
  let v89 : BitVec 32 := Scalar.muli v33 c2_i32_69
  let v90 : BitVec 32 := Scalar.addi v88 v89
  let c1_i32_23 : BitVec 32 := 1#32
  let v34 : BitVec 32 := Scalar.andi v30 c1_i32_23
  let c1_i32_70 : BitVec 32 := 1#32
  let v91 : BitVec 32 := Scalar.muli v34 c1_i32_70
  let v92 : BitVec 32 := Scalar.addi v90 v91
  v92.toNat
def k0_dev4 (d0 : Dev nD) : Nat :=
  let c0_i32_78 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_24 : BitVec 32 := 4#32
  let v35 : BitVec 32 := Scalar.addi v12 c4_i32_24
  let c8_i32_25 : BitVec 32 := 8#32
  let v36 : BitVec 32 := Scalar.remsi v35 c8_i32_25
  let c2_i32_26 : BitVec 32 := 2#32
  let v37 : BitVec 32 := Scalar.shrui v36 c2_i32_26
  let c4_i32_77 : BitVec 32 := 4#32
  let v101 : BitVec 32 := Scalar.muli v37 c4_i32_77
  let v102 : BitVec 32 := Scalar.addi c0_i32_78 v101
  let c1_i32_27 : BitVec 32 := 1#32
  let v38 : BitVec 32 := Scalar.shrui v36 c1_i32_27
  let c1_i32_28 : BitVec 32 := 1#32
  let v39 : BitVec 32 := Scalar.andi v38 c1_i32_28
  let c2_i32_79 : BitVec 32 := 2#32
  let v103 : BitVec 32 := Scalar.muli v39 c2_i32_79
  let v104 : BitVec 32 := Scalar.addi v102 v103
  let c1_i32_29 : BitVec 32 := 1#32
  let v40 : BitVec 32 := Scalar.andi v36 c1_i32_29
  let c1_i32_80 : BitVec 32 := 1#32
  let v105 : BitVec 32 := Scalar.muli v40 c1_i32_80
  let v106 : BitVec 32 := Scalar.addi v104 v105
  v106.toNat
def k0_dev5 (d0 : Dev nD) : Nat :=
  let c0_i32_88 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32 : BitVec 32 := 5#32
  let v41 : BitVec 32 := Scalar.addi v12 c5_i32
  let c8_i32_30 : BitVec 32 := 8#32
  let v42 : BitVec 32 := Scalar.remsi v41 c8_i32_30
  let c2_i32_31 : BitVec 32 := 2#32
  let v43 : BitVec 32 := Scalar.shrui v42 c2_i32_31
  let c4_i32_87 : BitVec 32 := 4#32
  let v115 : BitVec 32 := Scalar.muli v43 c4_i32_87
  let v116 : BitVec 32 := Scalar.addi c0_i32_88 v115
  let c1_i32_32 : BitVec 32 := 1#32
  let v44 : BitVec 32 := Scalar.shrui v42 c1_i32_32
  let c1_i32_33 : BitVec 32 := 1#32
  let v45 : BitVec 32 := Scalar.andi v44 c1_i32_33
  let c2_i32_89 : BitVec 32 := 2#32
  let v117 : BitVec 32 := Scalar.muli v45 c2_i32_89
  let v118 : BitVec 32 := Scalar.addi v116 v117
  let c1_i32_34 : BitVec 32 := 1#32
  let v46 : BitVec 32 := Scalar.andi v42 c1_i32_34
  let c1_i32_90 : BitVec 32 := 1#32
  let v119 : BitVec 32 := Scalar.muli v46 c1_i32_90
  let v120 : BitVec 32 := Scalar.addi v118 v119
  v120.toNat
def k0_dev6 (d0 : Dev nD) : Nat :=
  let c0_i32_98 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32 : BitVec 32 := 6#32
  let v47 : BitVec 32 := Scalar.addi v12 c6_i32
  let c8_i32_35 : BitVec 32 := 8#32
  let v48 : BitVec 32 := Scalar.remsi v47 c8_i32_35
  let c2_i32_36 : BitVec 32 := 2#32
  let v49 : BitVec 32 := Scalar.shrui v48 c2_i32_36
  let c4_i32_97 : BitVec 32 := 4#32
  let v129 : BitVec 32 := Scalar.muli v49 c4_i32_97
  let v130 : BitVec 32 := Scalar.addi c0_i32_98 v129
  let c1_i32_37 : BitVec 32 := 1#32
  let v50 : BitVec 32 := Scalar.shrui v48 c1_i32_37
  let c1_i32_38 : BitVec 32 := 1#32
  let v51 : BitVec 32 := Scalar.andi v50 c1_i32_38
  let c2_i32_99 : BitVec 32 := 2#32
  let v131 : BitVec 32 := Scalar.muli v51 c2_i32_99
  let v132 : BitVec 32 := Scalar.addi v130 v131
  let c1_i32_39 : BitVec 32 := 1#32
  let v52 : BitVec 32 := Scalar.andi v48 c1_i32_39
  let c1_i32_100 : BitVec 32 := 1#32
  let v133 : BitVec 32 := Scalar.muli v52 c1_i32_100
  let v134 : BitVec 32 := Scalar.addi v132 v133
  v134.toNat
def k0_dev7 (d0 : Dev nD) : Nat :=
  let c0_i32_108 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32 : BitVec 32 := 7#32
  let v53 : BitVec 32 := Scalar.addi v12 c7_i32
  let c8_i32_40 : BitVec 32 := 8#32
  let v54 : BitVec 32 := Scalar.remsi v53 c8_i32_40
  let c2_i32_41 : BitVec 32 := 2#32
  let v55 : BitVec 32 := Scalar.shrui v54 c2_i32_41
  let c4_i32_107 : BitVec 32 := 4#32
  let v143 : BitVec 32 := Scalar.muli v55 c4_i32_107
  let v144 : BitVec 32 := Scalar.addi c0_i32_108 v143
  let c1_i32_42 : BitVec 32 := 1#32
  let v56 : BitVec 32 := Scalar.shrui v54 c1_i32_42
  let c1_i32_43 : BitVec 32 := 1#32
  let v57 : BitVec 32 := Scalar.andi v56 c1_i32_43
  let c2_i32_109 : BitVec 32 := 2#32
  let v145 : BitVec 32 := Scalar.muli v57 c2_i32_109
  let v146 : BitVec 32 := Scalar.addi v144 v145
  let c1_i32_44 : BitVec 32 := 1#32
  let v58 : BitVec 32 := Scalar.andi v54 c1_i32_44
  let c1_i32_110 : BitVec 32 := 1#32
  let v147 : BitVec 32 := Scalar.muli v58 c1_i32_110
  let v148 : BitVec 32 := Scalar.addi v146 v147
  v148.toNat
def k0_off3 (d0 : Dev nD) (c1_i32_165 : BitVec 32) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c8_i32_164 : BitVec 32 := 8#32
  let v199 : BitVec 32 := Scalar.addi v12 c8_i32_164
  let v200 : BitVec 32 := Scalar.subi v199 c1_i32_165
  let c8_i32_166 : BitVec 32 := 8#32
  let v201 : BitVec 32 := Scalar.remsi v200 c8_i32_166
  let c0_i32_177 : BitVec 32 := 0#32
  let c0_i32_178 : BitVec 32 := 0#32
  ![v201.toNat, 0, 0]
-- ==== Reference.lean ====
abbrev S64x6800x1024 : Shape := ⟨3, ![64, 6800, 1024]⟩
abbrev S8x8x6800x1024 : Shape := ⟨4, ![8, 8, 6800, 1024]⟩

abbrev nBuf : Space → Nat
  | .hbm => 4
  | .vmem => 0
  | .smem => 0
  | _ => 0

abbrev bufTy : (tb : Table) → Fin (tcTables nBuf tb) → BufTy
  | .hbm, ⟨0, _⟩ => ⟨S64x6800x1024, .bf16⟩
  | .hbm, ⟨1, _⟩ => ⟨S8x8x6800x1024, .bf16⟩
  | .hbm, ⟨2, _⟩ => ⟨S8x8x6800x1024, .bf16⟩
  | .hbm, ⟨3, _⟩ => ⟨S64x6800x1024, .bf16⟩
  | _, _ => ⟨S64x6800x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Grads.lean ====
abbrev S8x6800x1024 : Shape := ⟨3, ![8, 6800, 1024]⟩
abbrev S7 : Shape := ⟨1, ![7]⟩
abbrev S_ : Shape := ⟨0, ![]⟩
abbrev S1x6800x1024 : Shape := ⟨3, ![1, 6800, 1024]⟩
abbrev S6800x1024 : Shape := ⟨2, ![6800, 1024]⟩
abbrev S1 : Shape := ⟨1, ![1]⟩
abbrev S8x400x1024 : Shape := ⟨3, ![8, 400, 1024]⟩
abbrev S400x1024 : Shape := ⟨2, ![400, 1024]⟩
abbrev S1x400x1024 : Shape := ⟨3, ![1, 400, 1024]⟩
abbrev S6963200 : Shape := ⟨1, ![6963200]⟩
abbrev S2883584 : Shape := ⟨1, ![2883584]⟩
abbrev S4x1024x704 : Shape := ⟨3, ![4, 1024, 704]⟩
abbrev S1441792 : Shape := ⟨1, ![1441792]⟩
abbrev S4x352x1024 : Shape := ⟨3, ![4, 352, 1024]⟩
abbrev S786432 : Shape := ⟨1, ![786432]⟩
abbrev S2x1024x384 : Shape := ⟨3, ![2, 1024, 384]⟩
abbrev S262144 : Shape := ⟨1, ![262144]⟩
abbrev S2x128x1024 : Shape := ⟨3, ![2, 128, 1024]⟩
abbrev S395264 : Shape := ⟨1, ![395264]⟩
abbrev S1x1024x386 : Shape := ⟨3, ![1, 1024, 386]⟩
abbrev S131072 : Shape := ⟨1, ![131072]⟩
abbrev S1x128x1024 : Shape := ⟨3, ![1, 128, 1024]⟩
abbrev S790528 : Shape := ⟨1, ![790528]⟩
abbrev S1x1024x772 : Shape := ⟨3, ![1, 1024, 772]⟩
abbrev S1x256x1024 : Shape := ⟨3, ![1, 256, 1024]⟩

abbrev nBuf : Space → Nat
  | .hbm => 20
  | .vmem => 4
  | .smem => 0
  | _ => 0

abbrev bufTy : (tb : Table) → Fin (tcTables nBuf tb) → BufTy
  | .hbm, ⟨0, _⟩ => ⟨S8x6800x1024, .bf16⟩
  | .hbm, ⟨1, _⟩ => ⟨S8x6800x1024, .bf16⟩
  | .hbm, ⟨2, _⟩ => ⟨S6800x1024, .f32⟩
  | .hbm, ⟨3, _⟩ => ⟨S6963200, .f32⟩
  | .hbm, ⟨4, _⟩ => ⟨S2883584, .f32⟩
  | .hbm, ⟨5, _⟩ => ⟨S4x1024x704, .f32⟩
  | .hbm, ⟨6, _⟩ => ⟨S1441792, .f32⟩
  | .hbm, ⟨7, _⟩ => ⟨S4x352x1024, .f32⟩
  | .hbm, ⟨8, _⟩ => ⟨S786432, .f32⟩
  | .hbm, ⟨9, _⟩ => ⟨S2x1024x384, .f32⟩
  | .hbm, ⟨10, _⟩ => ⟨S262144, .f32⟩
  | .hbm, ⟨11, _⟩ => ⟨S2x128x1024, .f32⟩
  | .hbm, ⟨12, _⟩ => ⟨S395264, .f32⟩
  | .hbm, ⟨13, _⟩ => ⟨S1x1024x386, .f32⟩
  | .hbm, ⟨14, _⟩ => ⟨S131072, .f32⟩
  | .hbm, ⟨15, _⟩ => ⟨S1x128x1024, .f32⟩
  | .hbm, ⟨16, _⟩ => ⟨S790528, .f32⟩
  | .hbm, ⟨17, _⟩ => ⟨S1x1024x772, .f32⟩
  | .hbm, ⟨18, _⟩ => ⟨S262144, .f32⟩
  | .hbm, ⟨19, _⟩ => ⟨S1x256x1024, .f32⟩
  | .local _ .vmem, ⟨0, _⟩ => ⟨S8x400x1024, .bf16⟩
  | .local _ .vmem, ⟨1, _⟩ => ⟨S8x400x1024, .bf16⟩
  | .local _ .vmem, ⟨2, _⟩ => ⟨S400x1024, .f32⟩
  | .local _ .vmem, ⟨3, _⟩ => ⟨S400x1024, .f32⟩
  | _, _ => ⟨S8x6800x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev main_v3 : Ref sig .tc := ⟨.hbm, 3, rfl⟩
abbrev main_v4 : Ref sig .tc := ⟨.hbm, 4, rfl⟩
abbrev main_v5 : Ref sig .tc := ⟨.hbm, 5, rfl⟩
abbrev main_v6 : Ref sig .tc := ⟨.hbm, 6, rfl⟩
abbrev main_v7 : Ref sig .tc := ⟨.hbm, 7, rfl⟩
abbrev main_v8 : Ref sig .tc := ⟨.hbm, 8, rfl⟩
abbrev main_v9 : Ref sig .tc := ⟨.hbm, 9, rfl⟩
abbrev main_v10 : Ref sig .tc := ⟨.hbm, 10, rfl⟩
abbrev main_v11 : Ref sig .tc := ⟨.hbm, 11, rfl⟩
abbrev main_v12 : Ref sig .tc := ⟨.hbm, 12, rfl⟩
abbrev main_v13 : Ref sig .tc := ⟨.hbm, 13, rfl⟩
abbrev main_v14 : Ref sig .tc := ⟨.hbm, 14, rfl⟩
abbrev main_v15 : Ref sig .tc := ⟨.hbm, 15, rfl⟩
abbrev main_v16 : Ref sig .tc := ⟨.hbm, 16, rfl⟩
abbrev main_v17 : Ref sig .tc := ⟨.hbm, 17, rfl⟩
abbrev main_v18 : Ref sig .tc := ⟨.hbm, 18, rfl⟩
abbrev main_v19 : Ref sig .tc := ⟨.hbm, 19, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_sem0_0 : DmaSem sig := 15
abbrev cc1_sem0_1 : DmaSem sig := 16
abbrev cc1_sem1_0 : DmaSem sig := 17
abbrev cc1_sem1_1 : DmaSem sig := 18

abbrev nD : Nat := 8
abbrev τ : Topo := Topo.v7x

variable {F : FTy → Type} [FloatOps F]

abbrev grid0 : Pipeline.Grid := .none

def k0_off1 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32 : BitVec 32 := 0#32
  let c0_i32_5 : BitVec 32 := 0#32
  ![v12.toNat, 0, 0]
def k0_off2 (d0 : Dev nD) (c1_i32_8 : BitVec 32) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let v17 : BitVec 32 := Scalar.addi v12 c1_i32_8
  let c8_i32 : BitVec 32 := 8#32
  let v18 : BitVec 32 := Scalar.remsi v17 c8_i32
  let c0_i32_53 : BitVec 32 := 0#32
  let c0_i32_54 : BitVec 32 := 0#32
  ![v18.toNat, 0, 0]
def k0_dev1 (d0 : Dev nD) : Nat :=
  let c0_i32_48 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_8 : BitVec 32 := 1#32
  let v17 : BitVec 32 := Scalar.addi v12 c1_i32_8
  let c8_i32 : BitVec 32 := 8#32
  let v18 : BitVec 32 := Scalar.remsi v17 c8_i32
  let c2_i32_9 : BitVec 32 := 2#32
  let v19 : BitVec 32 := Scalar.shrui v18 c2_i32_9
  let c4_i32_47 : BitVec 32 := 4#32
  let v59 : BitVec 32 := Scalar.muli v19 c4_i32_47
  let v60 : BitVec 32 := Scalar.addi c0_i32_48 v59
  let c1_i32_10 : BitVec 32 := 1#32
  let v20 : BitVec 32 := Scalar.shrui v18 c1_i32_10
  let c1_i32_11 : BitVec 32 := 1#32
  let v21 : BitVec 32 := Scalar.andi v20 c1_i32_11
  let c2_i32_49 : BitVec 32 := 2#32
  let v61 : BitVec 32 := Scalar.muli v21 c2_i32_49
  let v62 : BitVec 32 := Scalar.addi v60 v61
  let c1_i32_12 : BitVec 32 := 1#32
  let v22 : BitVec 32 := Scalar.andi v18 c1_i32_12
  let c1_i32_50 : BitVec 32 := 1#32
  let v63 : BitVec 32 := Scalar.muli v22 c1_i32_50
  let v64 : BitVec 32 := Scalar.addi v62 v63
  v64.toNat
def k0_dev2 (d0 : Dev nD) : Nat :=
  let c0_i32_58 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_13 : BitVec 32 := 2#32
  let v23 : BitVec 32 := Scalar.addi v12 c2_i32_13
  let c8_i32_14 : BitVec 32 := 8#32
  let v24 : BitVec 32 := Scalar.remsi v23 c8_i32_14
  let c2_i32_15 : BitVec 32 := 2#32
  let v25 : BitVec 32 := Scalar.shrui v24 c2_i32_15
  let c4_i32_57 : BitVec 32 := 4#32
  let v73 : BitVec 32 := Scalar.muli v25 c4_i32_57
  let v74 : BitVec 32 := Scalar.addi c0_i32_58 v73
  let c1_i32_16 : BitVec 32 := 1#32
  let v26 : BitVec 32 := Scalar.shrui v24 c1_i32_16
  let c1_i32_17 : BitVec 32 := 1#32
  let v27 : BitVec 32 := Scalar.andi v26 c1_i32_17
  let c2_i32_59 : BitVec 32 := 2#32
  let v75 : BitVec 32 := Scalar.muli v27 c2_i32_59
  let v76 : BitVec 32 := Scalar.addi v74 v75
  let c1_i32_18 : BitVec 32 := 1#32
  let v28 : BitVec 32 := Scalar.andi v24 c1_i32_18
  let c1_i32_60 : BitVec 32 := 1#32
  let v77 : BitVec 32 := Scalar.muli v28 c1_i32_60
  let v78 : BitVec 32 := Scalar.addi v76 v77
  v78.toNat
def k0_dev3 (d0 : Dev nD) : Nat :=
  let c0_i32_68 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32 : BitVec 32 := 3#32
  let v29 : BitVec 32 := Scalar.addi v12 c3_i32
  let c8_i32_19 : BitVec 32 := 8#32
  let v30 : BitVec 32 := Scalar.remsi v29 c8_i32_19
  let c2_i32_20 : BitVec 32 := 2#32
  let v31 : BitVec 32 := Scalar.shrui v30 c2_i32_20
  let c4_i32_67 : BitVec 32 := 4#32
  let v87 : BitVec 32 := Scalar.muli v31 c4_i32_67
  let v88 : BitVec 32 := Scalar.addi c0_i32_68 v87
  let c1_i32_21 : BitVec 32 := 1#32
  let v32 : BitVec 32 := Scalar.shrui v30 c1_i32_21
  let c1_i32_22 : BitVec 32 := 1#32
  let v33 : BitVec 32 := Scalar.andi v32 c1_i32_22
  let c2_i32_69 : BitVec 32 := 2#32
  let v89 : BitVec 32 := Scalar.muli v33 c2_i32_69
  let v90 : BitVec 32 := Scalar.addi v88 v89
  let c1_i32_23 : BitVec 32 := 1#32
  let v34 : BitVec 32 := Scalar.andi v30 c1_i32_23
  let c1_i32_70 : BitVec 32 := 1#32
  let v91 : BitVec 32 := Scalar.muli v34 c1_i32_70
  let v92 : BitVec 32 := Scalar.addi v90 v91
  v92.toNat
def k0_dev4 (d0 : Dev nD) : Nat :=
  let c0_i32_78 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_24 : BitVec 32 := 4#32
  let v35 : BitVec 32 := Scalar.addi v12 c4_i32_24
  let c8_i32_25 : BitVec 32 := 8#32
  let v36 : BitVec 32 := Scalar.remsi v35 c8_i32_25
  let c2_i32_26 : BitVec 32 := 2#32
  let v37 : BitVec 32 := Scalar.shrui v36 c2_i32_26
  let c4_i32_77 : BitVec 32 := 4#32
  let v101 : BitVec 32 := Scalar.muli v37 c4_i32_77
  let v102 : BitVec 32 := Scalar.addi c0_i32_78 v101
  let c1_i32_27 : BitVec 32 := 1#32
  let v38 : BitVec 32 := Scalar.shrui v36 c1_i32_27
  let c1_i32_28 : BitVec 32 := 1#32
  let v39 : BitVec 32 := Scalar.andi v38 c1_i32_28
  let c2_i32_79 : BitVec 32 := 2#32
  let v103 : BitVec 32 := Scalar.muli v39 c2_i32_79
  let v104 : BitVec 32 := Scalar.addi v102 v103
  let c1_i32_29 : BitVec 32 := 1#32
  let v40 : BitVec 32 := Scalar.andi v36 c1_i32_29
  let c1_i32_80 : BitVec 32 := 1#32
  let v105 : BitVec 32 := Scalar.muli v40 c1_i32_80
  let v106 : BitVec 32 := Scalar.addi v104 v105
  v106.toNat
def k0_dev5 (d0 : Dev nD) : Nat :=
  let c0_i32_88 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32 : BitVec 32 := 5#32
  let v41 : BitVec 32 := Scalar.addi v12 c5_i32
  let c8_i32_30 : BitVec 32 := 8#32
  let v42 : BitVec 32 := Scalar.remsi v41 c8_i32_30
  let c2_i32_31 : BitVec 32 := 2#32
  let v43 : BitVec 32 := Scalar.shrui v42 c2_i32_31
  let c4_i32_87 : BitVec 32 := 4#32
  let v115 : BitVec 32 := Scalar.muli v43 c4_i32_87
  let v116 : BitVec 32 := Scalar.addi c0_i32_88 v115
  let c1_i32_32 : BitVec 32 := 1#32
  let v44 : BitVec 32 := Scalar.shrui v42 c1_i32_32
  let c1_i32_33 : BitVec 32 := 1#32
  let v45 : BitVec 32 := Scalar.andi v44 c1_i32_33
  let c2_i32_89 : BitVec 32 := 2#32
  let v117 : BitVec 32 := Scalar.muli v45 c2_i32_89
  let v118 : BitVec 32 := Scalar.addi v116 v117
  let c1_i32_34 : BitVec 32 := 1#32
  let v46 : BitVec 32 := Scalar.andi v42 c1_i32_34
  let c1_i32_90 : BitVec 32 := 1#32
  let v119 : BitVec 32 := Scalar.muli v46 c1_i32_90
  let v120 : BitVec 32 := Scalar.addi v118 v119
  v120.toNat
def k0_dev6 (d0 : Dev nD) : Nat :=
  let c0_i32_98 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32 : BitVec 32 := 6#32
  let v47 : BitVec 32 := Scalar.addi v12 c6_i32
  let c8_i32_35 : BitVec 32 := 8#32
  let v48 : BitVec 32 := Scalar.remsi v47 c8_i32_35
  let c2_i32_36 : BitVec 32 := 2#32
  let v49 : BitVec 32 := Scalar.shrui v48 c2_i32_36
  let c4_i32_97 : BitVec 32 := 4#32
  let v129 : BitVec 32 := Scalar.muli v49 c4_i32_97
  let v130 : BitVec 32 := Scalar.addi c0_i32_98 v129
  let c1_i32_37 : BitVec 32 := 1#32
  let v50 : BitVec 32 := Scalar.shrui v48 c1_i32_37
  let c1_i32_38 : BitVec 32 := 1#32
  let v51 : BitVec 32 := Scalar.andi v50 c1_i32_38
  let c2_i32_99 : BitVec 32 := 2#32
  let v131 : BitVec 32 := Scalar.muli v51 c2_i32_99
  let v132 : BitVec 32 := Scalar.addi v130 v131
  let c1_i32_39 : BitVec 32 := 1#32
  let v52 : BitVec 32 := Scalar.andi v48 c1_i32_39
  let c1_i32_100 : BitVec 32 := 1#32
  let v133 : BitVec 32 := Scalar.muli v52 c1_i32_100
  let v134 : BitVec 32 := Scalar.addi v132 v133
  v134.toNat
def k0_dev7 (d0 : Dev nD) : Nat :=
  let c0_i32_108 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32 : BitVec 32 := 7#32
  let v53 : BitVec 32 := Scalar.addi v12 c7_i32
  let c8_i32_40 : BitVec 32 := 8#32
  let v54 : BitVec 32 := Scalar.remsi v53 c8_i32_40
  let c2_i32_41 : BitVec 32 := 2#32
  let v55 : BitVec 32 := Scalar.shrui v54 c2_i32_41
  let c4_i32_107 : BitVec 32 := 4#32
  let v143 : BitVec 32 := Scalar.muli v55 c4_i32_107
  let v144 : BitVec 32 := Scalar.addi c0_i32_108 v143
  let c1_i32_42 : BitVec 32 := 1#32
  let v56 : BitVec 32 := Scalar.shrui v54 c1_i32_42
  let c1_i32_43 : BitVec 32 := 1#32
  let v57 : BitVec 32 := Scalar.andi v56 c1_i32_43
  let c2_i32_109 : BitVec 32 := 2#32
  let v145 : BitVec 32 := Scalar.muli v57 c2_i32_109
  let v146 : BitVec 32 := Scalar.addi v144 v145
  let c1_i32_44 : BitVec 32 := 1#32
  let v58 : BitVec 32 := Scalar.andi v54 c1_i32_44
  let c1_i32_110 : BitVec 32 := 1#32
  let v147 : BitVec 32 := Scalar.muli v58 c1_i32_110
  let v148 : BitVec 32 := Scalar.addi v146 v147
  v148.toNat
def k0_off3 (d0 : Dev nD) (c1_i32_165 : BitVec 32) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c8_i32_164 : BitVec 32 := 8#32
  let v199 : BitVec 32 := Scalar.addi v12 c8_i32_164
  let v200 : BitVec 32 := Scalar.subi v199 c1_i32_165
  let c8_i32_166 : BitVec 32 := 8#32
  let v201 : BitVec 32 := Scalar.remsi v200 c8_i32_166
  let c0_i32_177 : BitVec 32 := 0#32
  let c0_i32_178 : BitVec 32 := 0#32
  ![v201.toNat, 0, 0]
abbrev grid1 : Pipeline.Grid := ⟨1, ![17], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x400x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== GradsReference.lean ====
abbrev S64x6800x1024 : Shape := ⟨3, ![64, 6800, 1024]⟩
abbrev S8x8x6800x1024 : Shape := ⟨4, ![8, 8, 6800, 1024]⟩
abbrev S_ : Shape := ⟨0, ![]⟩
abbrev S8x6800x1024 : Shape := ⟨3, ![8, 6800, 1024]⟩
abbrev S8x6963200 : Shape := ⟨2, ![8, 6963200]⟩
abbrev S8x2883584 : Shape := ⟨2, ![8, 2883584]⟩
abbrev S32x1024x704 : Shape := ⟨3, ![32, 1024, 704]⟩
abbrev S8x1441792 : Shape := ⟨2, ![8, 1441792]⟩
abbrev S32x352x1024 : Shape := ⟨3, ![32, 352, 1024]⟩
abbrev S8x786432 : Shape := ⟨2, ![8, 786432]⟩
abbrev S16x1024x384 : Shape := ⟨3, ![16, 1024, 384]⟩
abbrev S8x262144 : Shape := ⟨2, ![8, 262144]⟩
abbrev S16x128x1024 : Shape := ⟨3, ![16, 128, 1024]⟩
abbrev S8x395264 : Shape := ⟨2, ![8, 395264]⟩
abbrev S8x1024x386 : Shape := ⟨3, ![8, 1024, 386]⟩
abbrev S8x131072 : Shape := ⟨2, ![8, 131072]⟩
abbrev S8x128x1024 : Shape := ⟨3, ![8, 128, 1024]⟩
abbrev S8x790528 : Shape := ⟨2, ![8, 790528]⟩
abbrev S8x1024x772 : Shape := ⟨3, ![8, 1024, 772]⟩
abbrev S8x256x1024 : Shape := ⟨3, ![8, 256, 1024]⟩

abbrev nBuf : Space → Nat
  | .hbm => 22
  | .vmem => 0
  | .smem => 0
  | _ => 0

abbrev bufTy : (tb : Table) → Fin (tcTables nBuf tb) → BufTy
  | .hbm, ⟨0, _⟩ => ⟨S64x6800x1024, .bf16⟩
  | .hbm, ⟨1, _⟩ => ⟨S64x6800x1024, .f32⟩
  | .hbm, ⟨2, _⟩ => ⟨S8x8x6800x1024, .f32⟩
  | .hbm, ⟨3, _⟩ => ⟨S_, .f32⟩
  | .hbm, ⟨4, _⟩ => ⟨S8x6800x1024, .f32⟩
  | .hbm, ⟨5, _⟩ => ⟨S8x6963200, .f32⟩
  | .hbm, ⟨6, _⟩ => ⟨S8x2883584, .f32⟩
  | .hbm, ⟨7, _⟩ => ⟨S32x1024x704, .f32⟩
  | .hbm, ⟨8, _⟩ => ⟨S8x1441792, .f32⟩
  | .hbm, ⟨9, _⟩ => ⟨S32x352x1024, .f32⟩
  | .hbm, ⟨10, _⟩ => ⟨S8x786432, .f32⟩
  | .hbm, ⟨11, _⟩ => ⟨S16x1024x384, .f32⟩
  | .hbm, ⟨12, _⟩ => ⟨S8x262144, .f32⟩
  | .hbm, ⟨13, _⟩ => ⟨S16x128x1024, .f32⟩
  | .hbm, ⟨14, _⟩ => ⟨S8x395264, .f32⟩
  | .hbm, ⟨15, _⟩ => ⟨S8x1024x386, .f32⟩
  | .hbm, ⟨16, _⟩ => ⟨S8x131072, .f32⟩
  | .hbm, ⟨17, _⟩ => ⟨S8x128x1024, .f32⟩
  | .hbm, ⟨18, _⟩ => ⟨S8x790528, .f32⟩
  | .hbm, ⟨19, _⟩ => ⟨S8x1024x772, .f32⟩
  | .hbm, ⟨20, _⟩ => ⟨S8x262144, .f32⟩
  | .hbm, ⟨21, _⟩ => ⟨S8x256x1024, .f32⟩
  | _, _ => ⟨S64x6800x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩

abbrev nD : Nat := 1
abbrev τ : Topo := Topo.v7x

variable {F : FTy → Type} [FloatOps F]
-- ==== Norm.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormReference.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Product.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductIdeal.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductRef.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProductRefIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProductInput.lean ====
abbrev S8192x3072 : Shape := ⟨2, ![8192, 3072]⟩
abbrev S1024x3072 : Shape := ⟨2, ![1024, 3072]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductInputIdeal.lean ====
abbrev S8192x3072 : Shape := ⟨2, ![8192, 3072]⟩
abbrev S1024x3072 : Shape := ⟨2, ![1024, 3072]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductInputRef.lean ====
abbrev S8192x3072 : Shape := ⟨2, ![8192, 3072]⟩
abbrev S1024x3072 : Shape := ⟨2, ![1024, 3072]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S1024x3072, .f32⟩
  | .hbm, ⟨3, _⟩ => ⟨S8192x3072, .f32⟩
  | .hbm, ⟨4, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProductInputRefIdeal.lean ====
abbrev S8192x3072 : Shape := ⟨2, ![8192, 3072]⟩
abbrev S1024x3072 : Shape := ⟨2, ![1024, 3072]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S1024x3072, .f32⟩
  | .hbm, ⟨3, _⟩ => ⟨S8192x3072, .f32⟩
  | .hbm, ⟨4, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProductWeight.lean ====
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductWeightIdeal.lean ====
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductWeightRef.lean ====
abbrev S8192x1024 : Shape := ⟨2, ![8192, 1024]⟩
abbrev S8192x3072 : Shape := ⟨2, ![8192, 3072]⟩
abbrev S3072x1024 : Shape := ⟨2, ![3072, 1024]⟩
abbrev S1024x3072 : Shape := ⟨2, ![1024, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x1024, .f32⟩
  | .hbm, ⟨3, _⟩ => ⟨S8192x3072, .f32⟩
  | .hbm, ⟨4, _⟩ => ⟨S3072x1024, .f32⟩
  | .hbm, ⟨5, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProductWeightRefIdeal.lean ====
abbrev S8192x1024 : Shape := ⟨2, ![8192, 1024]⟩
abbrev S8192x3072 : Shape := ⟨2, ![8192, 3072]⟩
abbrev S3072x1024 : Shape := ⟨2, ![3072, 1024]⟩
abbrev S1024x3072 : Shape := ⟨2, ![1024, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x1024, .f32⟩
  | .hbm, ⟨3, _⟩ => ⟨S8192x3072, .f32⟩
  | .hbm, ⟨4, _⟩ => ⟨S3072x1024, .f32⟩
  | .hbm, ⟨5, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProductFfnGu.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductFfnGuIdeal.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductFfnGuRef.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProductFfnGuRefIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProductFfnDown.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProductFfnDownIdeal.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProductFfnDownRef.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProductFfnDownRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProductFfnDact.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductFfnDactIdeal.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductFfnDactRef.lean ====
abbrev S8192x1024 : Shape := ⟨2, ![8192, 1024]⟩
abbrev S2816x1024 : Shape := ⟨2, ![2816, 1024]⟩
abbrev S8192x2816 : Shape := ⟨2, ![8192, 2816]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S2816x1024, .f32⟩
  | .hbm, ⟨3, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProductFfnDactRefIdeal.lean ====
abbrev S8192x1024 : Shape := ⟨2, ![8192, 1024]⟩
abbrev S2816x1024 : Shape := ⟨2, ![2816, 1024]⟩
abbrev S8192x2816 : Shape := ⟨2, ![8192, 2816]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S2816x1024, .f32⟩
  | .hbm, ⟨3, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProductFfnGdown.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductFfnGdownIdeal.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductFfnGdownRef.lean ====
abbrev S8192x2816 : Shape := ⟨2, ![8192, 2816]⟩
abbrev S8192x1024 : Shape := ⟨2, ![8192, 1024]⟩
abbrev S1024x2816 : Shape := ⟨2, ![1024, 2816]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x2816, .f32⟩
  | .hbm, ⟨3, _⟩ => ⟨S1024x2816, .f32⟩
  | .hbm, ⟨4, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProductFfnGdownRefIdeal.lean ====
abbrev S8192x2816 : Shape := ⟨2, ![8192, 2816]⟩
abbrev S8192x1024 : Shape := ⟨2, ![8192, 1024]⟩
abbrev S1024x2816 : Shape := ⟨2, ![1024, 2816]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x2816, .f32⟩
  | .hbm, ⟨3, _⟩ => ⟨S1024x2816, .f32⟩
  | .hbm, ⟨4, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProductFfnGgu.lean ====
abbrev S8192x1024 : Shape := ⟨2, ![8192, 1024]⟩
abbrev S8192x5632 : Shape := ⟨2, ![8192, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductFfnGguIdeal.lean ====
abbrev S8192x1024 : Shape := ⟨2, ![8192, 1024]⟩
abbrev S8192x5632 : Shape := ⟨2, ![8192, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductFfnGguRef.lean ====
abbrev S8192x1024 : Shape := ⟨2, ![8192, 1024]⟩
abbrev S8192x5632 : Shape := ⟨2, ![8192, 5632]⟩
abbrev S5632x1024 : Shape := ⟨2, ![5632, 1024]⟩
abbrev S1024x5632 : Shape := ⟨2, ![1024, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S8192x5632, .f32⟩
  | .hbm, ⟨4, _⟩ => ⟨S5632x1024, .f32⟩
  | .hbm, ⟨5, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProductFfnGguRefIdeal.lean ====
abbrev S8192x1024 : Shape := ⟨2, ![8192, 1024]⟩
abbrev S8192x5632 : Shape := ⟨2, ![8192, 5632]⟩
abbrev S5632x1024 : Shape := ⟨2, ![5632, 1024]⟩
abbrev S1024x5632 : Shape := ⟨2, ![1024, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S8192x5632, .f32⟩
  | .hbm, ⟨4, _⟩ => ⟨S5632x1024, .f32⟩
  | .hbm, ⟨5, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProductFfnDh.lean ====
abbrev S8192x5632 : Shape := ⟨2, ![8192, 5632]⟩
abbrev S1024x5632 : Shape := ⟨2, ![1024, 5632]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductFfnDhIdeal.lean ====
abbrev S8192x5632 : Shape := ⟨2, ![8192, 5632]⟩
abbrev S1024x5632 : Shape := ⟨2, ![1024, 5632]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductFfnDhRef.lean ====
abbrev S8192x5632 : Shape := ⟨2, ![8192, 5632]⟩
abbrev S1024x5632 : Shape := ⟨2, ![1024, 5632]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S1024x5632, .f32⟩
  | .hbm, ⟨3, _⟩ => ⟨S8192x5632, .f32⟩
  | .hbm, ⟨4, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProductFfnDhRefIdeal.lean ====
abbrev S8192x5632 : Shape := ⟨2, ![8192, 5632]⟩
abbrev S1024x5632 : Shape := ⟨2, ![1024, 5632]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S1024x5632, .f32⟩
  | .hbm, ⟨3, _⟩ => ⟨S8192x5632, .f32⟩
  | .hbm, ⟨4, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProductConvOut.lean ====
abbrev S8192x1024 : Shape := ⟨2, ![8192, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProductConvOutIdeal.lean ====
abbrev S8192x1024 : Shape := ⟨2, ![8192, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProductConvOutRef.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProductConvOutRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProductConvDz.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductConvDzIdeal.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductConvDzRef.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProductConvDzRefIdeal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProductConvGout.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProductConvGoutIdeal.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProductConvGoutRef.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProductConvGoutRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProductFoxIn.lean ====
abbrev S8192x1024 : Shape := ⟨2, ![8192, 1024]⟩
abbrev S1024x3200 : Shape := ⟨2, ![1024, 3200]⟩
abbrev S8192x3200 : Shape := ⟨2, ![8192, 3200]⟩
abbrev S1024x1024 : Shape := ⟨2, ![1024, 1024]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3200, .bf16⟩
  | .hbm, ⟨2, _⟩ => ⟨S8192x3200, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .f32⟩
  | .local _ .vmem, ⟨5, _⟩ => ⟨S1024x640, .f32⟩
  | .local _ .vmem, ⟨6, _⟩ => ⟨S1024x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 5, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductFoxInIdeal.lean ====
abbrev S8192x1024 : Shape := ⟨2, ![8192, 1024]⟩
abbrev S1024x3200 : Shape := ⟨2, ![1024, 3200]⟩
abbrev S8192x3200 : Shape := ⟨2, ![8192, 3200]⟩
abbrev S1024x1024 : Shape := ⟨2, ![1024, 1024]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3200, .bf16⟩
  | .hbm, ⟨2, _⟩ => ⟨S8192x3200, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .f32⟩
  | .local _ .vmem, ⟨5, _⟩ => ⟨S1024x640, .f32⟩
  | .local _ .vmem, ⟨6, _⟩ => ⟨S1024x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 5, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductFoxInRef.lean ====
abbrev S8192x1024 : Shape := ⟨2, ![8192, 1024]⟩
abbrev S1024x3200 : Shape := ⟨2, ![1024, 3200]⟩
abbrev S8192x3200 : Shape := ⟨2, ![8192, 3200]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3200, .bf16⟩
  | .hbm, ⟨2, _⟩ => ⟨S8192x1024, .f32⟩
  | .hbm, ⟨3, _⟩ => ⟨S1024x3200, .f32⟩
  | .hbm, ⟨4, _⟩ => ⟨S8192x3200, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProductFoxInRefIdeal.lean ====
abbrev S8192x1024 : Shape := ⟨2, ![8192, 1024]⟩
abbrev S1024x3200 : Shape := ⟨2, ![1024, 3200]⟩
abbrev S8192x3200 : Shape := ⟨2, ![8192, 3200]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3200, .bf16⟩
  | .hbm, ⟨2, _⟩ => ⟨S8192x1024, .f32⟩
  | .hbm, ⟨3, _⟩ => ⟨S1024x3200, .f32⟩
  | .hbm, ⟨4, _⟩ => ⟨S8192x3200, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProductFoxOut.lean ====
abbrev S8192x1024 : Shape := ⟨2, ![8192, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProductFoxOutIdeal.lean ====
abbrev S8192x1024 : Shape := ⟨2, ![8192, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProductFoxOutRef.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ProductFoxOutRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ProductFoxGout.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProductFoxGoutIdeal.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProductFoxGoutRef.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProductFoxGoutRefIdeal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProductFoxGin.lean ====
abbrev S8192x1024 : Shape := ⟨2, ![8192, 1024]⟩
abbrev S8192x3200 : Shape := ⟨2, ![8192, 3200]⟩
abbrev S1024x3200 : Shape := ⟨2, ![1024, 3200]⟩
abbrev S1024x1024 : Shape := ⟨2, ![1024, 1024]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3200, .bf16⟩
  | .hbm, ⟨2, _⟩ => ⟨S1024x3200, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .f32⟩
  | .local _ .vmem, ⟨5, _⟩ => ⟨S1024x640, .f32⟩
  | .local _ .vmem, ⟨6, _⟩ => ⟨S1024x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductFoxGinIdeal.lean ====
abbrev S8192x1024 : Shape := ⟨2, ![8192, 1024]⟩
abbrev S8192x3200 : Shape := ⟨2, ![8192, 3200]⟩
abbrev S1024x3200 : Shape := ⟨2, ![1024, 3200]⟩
abbrev S1024x1024 : Shape := ⟨2, ![1024, 1024]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3200, .bf16⟩
  | .hbm, ⟨2, _⟩ => ⟨S1024x3200, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .f32⟩
  | .local _ .vmem, ⟨5, _⟩ => ⟨S1024x640, .f32⟩
  | .local _ .vmem, ⟨6, _⟩ => ⟨S1024x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductFoxGinRef.lean ====
abbrev S8192x1024 : Shape := ⟨2, ![8192, 1024]⟩
abbrev S8192x3200 : Shape := ⟨2, ![8192, 3200]⟩
abbrev S3200x1024 : Shape := ⟨2, ![3200, 1024]⟩
abbrev S1024x3200 : Shape := ⟨2, ![1024, 3200]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3200, .bf16⟩
  | .hbm, ⟨2, _⟩ => ⟨S8192x1024, .f32⟩
  | .hbm, ⟨3, _⟩ => ⟨S8192x3200, .f32⟩
  | .hbm, ⟨4, _⟩ => ⟨S3200x1024, .f32⟩
  | .hbm, ⟨5, _⟩ => ⟨S1024x3200, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProductFoxGinRefIdeal.lean ====
abbrev S8192x1024 : Shape := ⟨2, ![8192, 1024]⟩
abbrev S8192x3200 : Shape := ⟨2, ![8192, 3200]⟩
abbrev S3200x1024 : Shape := ⟨2, ![3200, 1024]⟩
abbrev S1024x3200 : Shape := ⟨2, ![1024, 3200]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3200, .bf16⟩
  | .hbm, ⟨2, _⟩ => ⟨S8192x1024, .f32⟩
  | .hbm, ⟨3, _⟩ => ⟨S8192x3200, .f32⟩
  | .hbm, ⟨4, _⟩ => ⟨S3200x1024, .f32⟩
  | .hbm, ⟨5, _⟩ => ⟨S1024x3200, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProductFoxDh.lean ====
abbrev S8192x3200 : Shape := ⟨2, ![8192, 3200]⟩
abbrev S1024x3200 : Shape := ⟨2, ![1024, 3200]⟩
abbrev S8192x1024 : Shape := ⟨2, ![8192, 1024]⟩
abbrev S1024x640 : Shape := ⟨2, ![1024, 640]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3200, .bf16⟩
  | .hbm, ⟨1, _⟩ => ⟨S1024x3200, .bf16⟩
  | .hbm, ⟨2, _⟩ => ⟨S8192x1024, .f32⟩
  | .local _ .vmem, ⟨0, _⟩ => ⟨S1024x640, .bf16⟩
  | .local _ .vmem, ⟨1, _⟩ => ⟨S1024x640, .bf16⟩
  | .local _ .vmem, ⟨2, _⟩ => ⟨S1024x640, .bf16⟩
  | .local _ .vmem, ⟨3, _⟩ => ⟨S1024x640, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductFoxDhIdeal.lean ====
abbrev S8192x3200 : Shape := ⟨2, ![8192, 3200]⟩
abbrev S1024x3200 : Shape := ⟨2, ![1024, 3200]⟩
abbrev S8192x1024 : Shape := ⟨2, ![8192, 1024]⟩
abbrev S1024x640 : Shape := ⟨2, ![1024, 640]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3200, .bf16⟩
  | .hbm, ⟨1, _⟩ => ⟨S1024x3200, .bf16⟩
  | .hbm, ⟨2, _⟩ => ⟨S8192x1024, .f32⟩
  | .local _ .vmem, ⟨0, _⟩ => ⟨S1024x640, .bf16⟩
  | .local _ .vmem, ⟨1, _⟩ => ⟨S1024x640, .bf16⟩
  | .local _ .vmem, ⟨2, _⟩ => ⟨S1024x640, .bf16⟩
  | .local _ .vmem, ⟨3, _⟩ => ⟨S1024x640, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductFoxDhRef.lean ====
abbrev S8192x3200 : Shape := ⟨2, ![8192, 3200]⟩
abbrev S1024x3200 : Shape := ⟨2, ![1024, 3200]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x3200, .bf16⟩
  | .hbm, ⟨1, _⟩ => ⟨S1024x3200, .bf16⟩
  | .hbm, ⟨2, _⟩ => ⟨S1024x3200, .f32⟩
  | .hbm, ⟨3, _⟩ => ⟨S8192x3200, .f32⟩
  | .hbm, ⟨4, _⟩ => ⟨S8192x1024, .f32⟩
  | _, _ => ⟨S8192x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProductFoxDhRefIdeal.lean ====
abbrev S8192x3200 : Shape := ⟨2, ![8192, 3200]⟩
abbrev S1024x3200 : Shape := ⟨2, ![1024, 3200]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x3200, .bf16⟩
  | .hbm, ⟨1, _⟩ => ⟨S1024x3200, .bf16⟩
  | .hbm, ⟨2, _⟩ => ⟨S1024x3200, .f32⟩
  | .hbm, ⟨3, _⟩ => ⟨S8192x3200, .f32⟩
  | .hbm, ⟨4, _⟩ => ⟨S8192x1024, .f32⟩
  | _, _ => ⟨S8192x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProductSsdIn.lean ====
abbrev S8192x1024 : Shape := ⟨2, ![8192, 1024]⟩
abbrev S1024x6272 : Shape := ⟨2, ![1024, 6272]⟩
abbrev S8192x6272 : Shape := ⟨2, ![8192, 6272]⟩
abbrev S1024x1024 : Shape := ⟨2, ![1024, 1024]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x6272, .bf16⟩
  | .hbm, ⟨2, _⟩ => ⟨S8192x6272, .f32⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 7, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductSsdInIdeal.lean ====
abbrev S8192x1024 : Shape := ⟨2, ![8192, 1024]⟩
abbrev S1024x6272 : Shape := ⟨2, ![1024, 6272]⟩
abbrev S8192x6272 : Shape := ⟨2, ![8192, 6272]⟩
abbrev S1024x1024 : Shape := ⟨2, ![1024, 1024]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x6272, .bf16⟩
  | .hbm, ⟨2, _⟩ => ⟨S8192x6272, .f32⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 7, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductSsdInRef.lean ====
abbrev S8192x1024 : Shape := ⟨2, ![8192, 1024]⟩
abbrev S1024x6272 : Shape := ⟨2, ![1024, 6272]⟩
abbrev S8192x6272 : Shape := ⟨2, ![8192, 6272]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x6272, .bf16⟩
  | .hbm, ⟨2, _⟩ => ⟨S8192x1024, .f32⟩
  | .hbm, ⟨3, _⟩ => ⟨S1024x6272, .f32⟩
  | .hbm, ⟨4, _⟩ => ⟨S8192x6272, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProductSsdOut.lean ====
abbrev S8192x2048 : Shape := ⟨2, ![8192, 2048]⟩
abbrev S2048x1024 : Shape := ⟨2, ![2048, 1024]⟩
abbrev S8192x1024 : Shape := ⟨2, ![8192, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProductSsdOutIdeal.lean ====
abbrev S8192x2048 : Shape := ⟨2, ![8192, 2048]⟩
abbrev S2048x1024 : Shape := ⟨2, ![2048, 1024]⟩
abbrev S8192x1024 : Shape := ⟨2, ![8192, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProductSsdOutRef.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProductSsdDyn.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductSsdDynIdeal.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductSsdDynRef.lean ====
abbrev S8192x1024 : Shape := ⟨2, ![8192, 1024]⟩
abbrev S2048x1024 : Shape := ⟨2, ![2048, 1024]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S2048x1024, .f32⟩
  | .hbm, ⟨3, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProductSsdDynRefIdeal.lean ====
abbrev S8192x1024 : Shape := ⟨2, ![8192, 1024]⟩
abbrev S2048x1024 : Shape := ⟨2, ![2048, 1024]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S2048x1024, .f32⟩
  | .hbm, ⟨3, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProductSsdGout.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductSsdGoutIdeal.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductSsdGoutRef.lean ====
abbrev S8192x2048 : Shape := ⟨2, ![8192, 2048]⟩
abbrev S8192x1024 : Shape := ⟨2, ![8192, 1024]⟩
abbrev S1024x2048 : Shape := ⟨2, ![1024, 2048]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S8192x2048, .f32⟩
  | .hbm, ⟨3, _⟩ => ⟨S1024x2048, .f32⟩
  | .hbm, ⟨4, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProductSsdGoutRefIdeal.lean ====
abbrev S8192x2048 : Shape := ⟨2, ![8192, 2048]⟩
abbrev S8192x1024 : Shape := ⟨2, ![8192, 1024]⟩
abbrev S1024x2048 : Shape := ⟨2, ![1024, 2048]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S8192x2048, .f32⟩
  | .hbm, ⟨3, _⟩ => ⟨S1024x2048, .f32⟩
  | .hbm, ⟨4, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProductSsdGin.lean ====
abbrev S8192x1024 : Shape := ⟨2, ![8192, 1024]⟩
abbrev S8192x6272 : Shape := ⟨2, ![8192, 6272]⟩
abbrev S1024x6272 : Shape := ⟨2, ![1024, 6272]⟩
abbrev S1024x1024 : Shape := ⟨2, ![1024, 1024]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x6272, .bf16⟩
  | .hbm, ⟨2, _⟩ => ⟨S1024x6272, .f32⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductSsdGinIdeal.lean ====
abbrev S8192x1024 : Shape := ⟨2, ![8192, 1024]⟩
abbrev S8192x6272 : Shape := ⟨2, ![8192, 6272]⟩
abbrev S1024x6272 : Shape := ⟨2, ![1024, 6272]⟩
abbrev S1024x1024 : Shape := ⟨2, ![1024, 1024]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x6272, .bf16⟩
  | .hbm, ⟨2, _⟩ => ⟨S1024x6272, .f32⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductSsdGinRef.lean ====
abbrev S8192x1024 : Shape := ⟨2, ![8192, 1024]⟩
abbrev S8192x6272 : Shape := ⟨2, ![8192, 6272]⟩
abbrev S6272x1024 : Shape := ⟨2, ![6272, 1024]⟩
abbrev S1024x6272 : Shape := ⟨2, ![1024, 6272]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6272, .bf16⟩
  | .hbm, ⟨2, _⟩ => ⟨S8192x1024, .f32⟩
  | .hbm, ⟨3, _⟩ => ⟨S8192x6272, .f32⟩
  | .hbm, ⟨4, _⟩ => ⟨S6272x1024, .f32⟩
  | .hbm, ⟨5, _⟩ => ⟨S1024x6272, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProductSsdDh.lean ====
abbrev S8192x6272 : Shape := ⟨2, ![8192, 6272]⟩
abbrev S1024x6272 : Shape := ⟨2, ![1024, 6272]⟩
abbrev S8192x1024 : Shape := ⟨2, ![8192, 1024]⟩
abbrev S1024x896 : Shape := ⟨2, ![1024, 896]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6272, .bf16⟩
  | .hbm, ⟨1, _⟩ => ⟨S1024x6272, .bf16⟩
  | .hbm, ⟨2, _⟩ => ⟨S8192x1024, .f32⟩
  | .local _ .vmem, ⟨0, _⟩ => ⟨S1024x896, .bf16⟩
  | .local _ .vmem, ⟨1, _⟩ => ⟨S1024x896, .bf16⟩
  | .local _ .vmem, ⟨2, _⟩ => ⟨S1024x896, .bf16⟩
  | .local _ .vmem, ⟨3, _⟩ => ⟨S1024x896, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 7], ![false, false, false]⟩

def k0_cond2 (i : grid0.Coords) : BitVec 1 :=
  let arg2 : BitVec 32 := BitVec.ofNat 32 (i 2).val
  let c6_i32 : BitVec 32 := 6#32
  let v11 : BitVec 1 := Scalar.cmpi .eq arg2 c6_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductSsdDhRef.lean ====
abbrev S8192x6272 : Shape := ⟨2, ![8192, 6272]⟩
abbrev S1024x6272 : Shape := ⟨2, ![1024, 6272]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x6272, .bf16⟩
  | .hbm, ⟨1, _⟩ => ⟨S1024x6272, .bf16⟩
  | .hbm, ⟨2, _⟩ => ⟨S1024x6272, .f32⟩
  | .hbm, ⟨3, _⟩ => ⟨S8192x6272, .f32⟩
  | .hbm, ⟨4, _⟩ => ⟨S8192x1024, .f32⟩
  | _, _ => ⟨S8192x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== StepFfnGu.lean ====
abbrev S4096x704 : Shape := ⟨2, ![4096, 704]⟩
abbrev S512x704 : Shape := ⟨2, ![512, 704]⟩

abbrev nBuf : Space → Nat
  | .hbm => 7
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepFfnGuIdeal.lean ====
abbrev S4096x704 : Shape := ⟨2, ![4096, 704]⟩
abbrev S512x704 : Shape := ⟨2, ![512, 704]⟩

abbrev nBuf : Space → Nat
  | .hbm => 7
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepFfnGuRef.lean ====
abbrev S4096x704 : Shape := ⟨2, ![4096, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S_, .f32⟩
  | .hbm, ⟨5, _⟩ => ⟨S4096x704, .f32⟩
  | .hbm, ⟨6, _⟩ => ⟨S4096x704, .f32⟩
  | .hbm, ⟨7, _⟩ => ⟨S_, .f32⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S_, .f32⟩
  | .hbm, ⟨12, _⟩ => ⟨S4096x704, .f32⟩
  | .hbm, ⟨13, _⟩ => ⟨S4096x704, .f32⟩
  | .hbm, ⟨14, _⟩ => ⟨S4096x704, .f32⟩
  | .hbm, ⟨15, _⟩ => ⟨S_, .f32⟩
  | .hbm, ⟨16, _⟩ => ⟨S4096x704, .f32⟩
  | .hbm, ⟨17, _⟩ => ⟨S4096x704, .f32⟩
  | .hbm, ⟨18, _⟩ => ⟨S4096x704, .f32⟩
  | .hbm, ⟨19, _⟩ => ⟨S_, .f32⟩
  | .hbm, ⟨20, _⟩ => ⟨S4096x704, .f32⟩
  | .hbm, ⟨21, _⟩ => ⟨S4096x704, .f32⟩
  | .hbm, ⟨22, _⟩ => ⟨S_, .f32⟩
  | .hbm, ⟨23, _⟩ => ⟨S4096x704, .f32⟩
  | .hbm, ⟨24, _⟩ => ⟨S4096x704, .f32⟩
  | .hbm, ⟨25, _⟩ => ⟨S4096x704, .f32⟩
  | .hbm, ⟨26, _⟩ => ⟨S_, .f32⟩
  | .hbm, ⟨27, _⟩ => ⟨S4096x704, .f32⟩
  | .hbm, ⟨28, _⟩ => ⟨S4096x704, .f32⟩
  | .hbm, ⟨29, _⟩ => ⟨S4096x704, .f32⟩
  | .hbm, ⟨30, _⟩ => ⟨S_, .f32⟩
  | .hbm, ⟨31, _⟩ => ⟨S4096x704, .f32⟩
  | .hbm, ⟨32, _⟩ => ⟨S4096x704, .f32⟩
  | .hbm, ⟨33, _⟩ => ⟨S4096x704, .f32⟩
  | .hbm, ⟨34, _⟩ => ⟨S_, .f32⟩
  | .hbm, ⟨35, _⟩ => ⟨S4096x704, .f32⟩
  | .hbm, ⟨36, _⟩ => ⟨S4096x704, .f32⟩
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepFfnGuRefIdeal.lean ====
abbrev S4096x704 : Shape := ⟨2, ![4096, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S_, .f32⟩
  | .hbm, ⟨5, _⟩ => ⟨S4096x704, .f32⟩
  | .hbm, ⟨6, _⟩ => ⟨S4096x704, .f32⟩
  | .hbm, ⟨7, _⟩ => ⟨S_, .f32⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S_, .f32⟩
  | .hbm, ⟨12, _⟩ => ⟨S4096x704, .f32⟩
  | .hbm, ⟨13, _⟩ => ⟨S4096x704, .f32⟩
  | .hbm, ⟨14, _⟩ => ⟨S4096x704, .f32⟩
  | .hbm, ⟨15, _⟩ => ⟨S_, .f32⟩
  | .hbm, ⟨16, _⟩ => ⟨S4096x704, .f32⟩
  | .hbm, ⟨17, _⟩ => ⟨S4096x704, .f32⟩
  | .hbm, ⟨18, _⟩ => ⟨S4096x704, .f32⟩
  | .hbm, ⟨19, _⟩ => ⟨S_, .f32⟩
  | .hbm, ⟨20, _⟩ => ⟨S4096x704, .f32⟩
  | .hbm, ⟨21, _⟩ => ⟨S4096x704, .f32⟩
  | .hbm, ⟨22, _⟩ => ⟨S_, .f32⟩
  | .hbm, ⟨23, _⟩ => ⟨S4096x704, .f32⟩
  | .hbm, ⟨24, _⟩ => ⟨S4096x704, .f32⟩
  | .hbm, ⟨25, _⟩ => ⟨S4096x704, .f32⟩
  | .hbm, ⟨26, _⟩ => ⟨S_, .f32⟩
  | .hbm, ⟨27, _⟩ => ⟨S4096x704, .f32⟩
  | .hbm, ⟨28, _⟩ => ⟨S4096x704, .f32⟩
  | .hbm, ⟨29, _⟩ => ⟨S4096x704, .f32⟩
  | .hbm, ⟨30, _⟩ => ⟨S_, .f32⟩
  | .hbm, ⟨31, _⟩ => ⟨S4096x704, .f32⟩
  | .hbm, ⟨32, _⟩ => ⟨S4096x704, .f32⟩
  | .hbm, ⟨33, _⟩ => ⟨S4096x704, .f32⟩
  | .hbm, ⟨34, _⟩ => ⟨S_, .f32⟩
  | .hbm, ⟨35, _⟩ => ⟨S4096x704, .f32⟩
  | .hbm, ⟨36, _⟩ => ⟨S4096x704, .f32⟩
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepFfnDown.lean ====
abbrev S1408x1024 : Shape := ⟨2, ![1408, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepFfnDownIdeal.lean ====
abbrev S1408x1024 : Shape := ⟨2, ![1408, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepFfnDownRef.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepFfnDownRefIdeal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepConvIn.lean ====
abbrev S2048x384 : Shape := ⟨2, ![2048, 384]⟩
abbrev S512x384 : Shape := ⟨2, ![512, 384]⟩

abbrev nBuf : Space → Nat
  | .hbm => 7
  | .vmem => 14
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepConvInIdeal.lean ====
abbrev S2048x384 : Shape := ⟨2, ![2048, 384]⟩
abbrev S512x384 : Shape := ⟨2, ![512, 384]⟩

abbrev nBuf : Space → Nat
  | .hbm => 7
  | .vmem => 14
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepConvInRef.lean ====
abbrev S2048x384 : Shape := ⟨2, ![2048, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S_, .f32⟩
  | .hbm, ⟨5, _⟩ => ⟨S2048x384, .f32⟩
  | .hbm, ⟨6, _⟩ => ⟨S2048x384, .f32⟩
  | .hbm, ⟨7, _⟩ => ⟨S_, .f32⟩
  | .hbm, ⟨8, _⟩ => ⟨S2048x384, .f32⟩
  | .hbm, ⟨9, _⟩ => ⟨S2048x384, .f32⟩
  | .hbm, ⟨10, _⟩ => ⟨S2048x384, .f32⟩
  | .hbm, ⟨11, _⟩ => ⟨S_, .f32⟩
  | .hbm, ⟨12, _⟩ => ⟨S2048x384, .f32⟩
  | .hbm, ⟨13, _⟩ => ⟨S2048x384, .f32⟩
  | .hbm, ⟨14, _⟩ => ⟨S2048x384, .f32⟩
  | .hbm, ⟨15, _⟩ => ⟨S_, .f32⟩
  | .hbm, ⟨16, _⟩ => ⟨S2048x384, .f32⟩
  | .hbm, ⟨17, _⟩ => ⟨S2048x384, .f32⟩
  | .hbm, ⟨18, _⟩ => ⟨S2048x384, .f32⟩
  | .hbm, ⟨19, _⟩ => ⟨S_, .f32⟩
  | .hbm, ⟨20, _⟩ => ⟨S2048x384, .f32⟩
  | .hbm, ⟨21, _⟩ => ⟨S2048x384, .f32⟩
  | .hbm, ⟨22, _⟩ => ⟨S_, .f32⟩
  | .hbm, ⟨23, _⟩ => ⟨S2048x384, .f32⟩
  | .hbm, ⟨24, _⟩ => ⟨S2048x384, .f32⟩
  | .hbm, ⟨25, _⟩ => ⟨S2048x384, .f32⟩
  | .hbm, ⟨26, _⟩ => ⟨S_, .f32⟩
  | .hbm, ⟨27, _⟩ => ⟨S2048x384, .f32⟩
  | .hbm, ⟨28, _⟩ => ⟨S2048x384, .f32⟩
  | .hbm, ⟨29, _⟩ => ⟨S2048x384, .f32⟩
  | .hbm, ⟨30, _⟩ => ⟨S_, .f32⟩
  | .hbm, ⟨31, _⟩ => ⟨S2048x384, .f32⟩
  | .hbm, ⟨32, _⟩ => ⟨S2048x384, .f32⟩
  | .hbm, ⟨33, _⟩ => ⟨S2048x384, .f32⟩
  | .hbm, ⟨34, _⟩ => ⟨S_, .f32⟩
  | .hbm, ⟨35, _⟩ => ⟨S2048x384, .f32⟩
  | .hbm, ⟨36, _⟩ => ⟨S2048x384, .f32⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepConvInRefIdeal.lean ====
abbrev S2048x384 : Shape := ⟨2, ![2048, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S_, .f32⟩
  | .hbm, ⟨5, _⟩ => ⟨S2048x384, .f32⟩
  | .hbm, ⟨6, _⟩ => ⟨S2048x384, .f32⟩
  | .hbm, ⟨7, _⟩ => ⟨S_, .f32⟩
  | .hbm, ⟨8, _⟩ => ⟨S2048x384, .f32⟩
  | .hbm, ⟨9, _⟩ => ⟨S2048x384, .f32⟩
  | .hbm, ⟨10, _⟩ => ⟨S2048x384, .f32⟩
  | .hbm, ⟨11, _⟩ => ⟨S_, .f32⟩
  | .hbm, ⟨12, _⟩ => ⟨S2048x384, .f32⟩
  | .hbm, ⟨13, _⟩ => ⟨S2048x384, .f32⟩
  | .hbm, ⟨14, _⟩ => ⟨S2048x384, .f32⟩
  | .hbm, ⟨15, _⟩ => ⟨S_, .f32⟩
  | .hbm, ⟨16, _⟩ => ⟨S2048x384, .f32⟩
  | .hbm, ⟨17, _⟩ => ⟨S2048x384, .f32⟩
  | .hbm, ⟨18, _⟩ => ⟨S2048x384, .f32⟩
  | .hbm, ⟨19, _⟩ => ⟨S_, .f32⟩
  | .hbm, ⟨20, _⟩ => ⟨S2048x384, .f32⟩
  | .hbm, ⟨21, _⟩ => ⟨S2048x384, .f32⟩
  | .hbm, ⟨22, _⟩ => ⟨S_, .f32⟩
  | .hbm, ⟨23, _⟩ => ⟨S2048x384, .f32⟩
  | .hbm, ⟨24, _⟩ => ⟨S2048x384, .f32⟩
  | .hbm, ⟨25, _⟩ => ⟨S2048x384, .f32⟩
  | .hbm, ⟨26, _⟩ => ⟨S_, .f32⟩
  | .hbm, ⟨27, _⟩ => ⟨S2048x384, .f32⟩
  | .hbm, ⟨28, _⟩ => ⟨S2048x384, .f32⟩
  | .hbm, ⟨29, _⟩ => ⟨S2048x384, .f32⟩
  | .hbm, ⟨30, _⟩ => ⟨S_, .f32⟩
  | .hbm, ⟨31, _⟩ => ⟨S2048x384, .f32⟩
  | .hbm, ⟨32, _⟩ => ⟨S2048x384, .f32⟩
  | .hbm, ⟨33, _⟩ => ⟨S2048x384, .f32⟩
  | .hbm, ⟨34, _⟩ => ⟨S_, .f32⟩
  | .hbm, ⟨35, _⟩ => ⟨S2048x384, .f32⟩
  | .hbm, ⟨36, _⟩ => ⟨S2048x384, .f32⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepConvOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepConvOutIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepConvOutRef.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepConvOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepFoxIn.lean ====
abbrev S1024x386 : Shape := ⟨2, ![1024, 386]⟩
abbrev S512x386 : Shape := ⟨2, ![512, 386]⟩

abbrev nBuf : Space → Nat
  | .hbm => 7
  | .vmem => 14
  | .smem => 0
  | _ => 0

abbrev bufTy : (tb : Table) → Fin (tcTables nBuf tb) → BufTy
  | .hbm, ⟨0, _⟩ => ⟨S1024x386, .f32⟩
  | .hbm, ⟨1, _⟩ => ⟨S1024x386, .f32⟩
  | .hbm, ⟨2, _⟩ => ⟨S1024x386, .f32⟩
  | .hbm, ⟨3, _⟩ => ⟨S1024x386, .f32⟩
  | .hbm, ⟨4, _⟩ => ⟨S1024x386, .f32⟩
  | .hbm, ⟨5, _⟩ => ⟨S1024x386, .f32⟩
  | .hbm, ⟨6, _⟩ => ⟨S1024x386, .f32⟩
  | .local _ .vmem, ⟨0, _⟩ => ⟨S512x386, .f32⟩
  | .local _ .vmem, ⟨1, _⟩ => ⟨S512x386, .f32⟩
  | .local _ .vmem, ⟨2, _⟩ => ⟨S512x386, .f32⟩
  | .local _ .vmem, ⟨3, _⟩ => ⟨S512x386, .f32⟩
  | .local _ .vmem, ⟨4, _⟩ => ⟨S512x386, .f32⟩
  | .local _ .vmem, ⟨5, _⟩ => ⟨S512x386, .f32⟩
  | .local _ .vmem, ⟨6, _⟩ => ⟨S512x386, .f32⟩
  | .local _ .vmem, ⟨7, _⟩ => ⟨S512x386, .f32⟩
  | .local _ .vmem, ⟨8, _⟩ => ⟨S512x386, .f32⟩
  | .local _ .vmem, ⟨9, _⟩ => ⟨S512x386, .f32⟩
  | .local _ .vmem, ⟨10, _⟩ => ⟨S512x386, .f32⟩
  | .local _ .vmem, ⟨11, _⟩ => ⟨S512x386, .f32⟩
  | .local _ .vmem, ⟨12, _⟩ => ⟨S512x386, .f32⟩
  | .local _ .vmem, ⟨13, _⟩ => ⟨S512x386, .f32⟩
  | _, _ => ⟨S1024x386, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x386 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x386 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x386 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x386 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x386 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x386 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x386 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepFoxInIdeal.lean ====
abbrev S1024x386 : Shape := ⟨2, ![1024, 386]⟩
abbrev S512x386 : Shape := ⟨2, ![512, 386]⟩

abbrev nBuf : Space → Nat
  | .hbm => 7
  | .vmem => 14
  | .smem => 0
  | _ => 0

abbrev bufTy : (tb : Table) → Fin (tcTables nBuf tb) → BufTy
  | .hbm, ⟨0, _⟩ => ⟨S1024x386, .f32⟩
  | .hbm, ⟨1, _⟩ => ⟨S1024x386, .f32⟩
  | .hbm, ⟨2, _⟩ => ⟨S1024x386, .f32⟩
  | .hbm, ⟨3, _⟩ => ⟨S1024x386, .f32⟩
  | .hbm, ⟨4, _⟩ => ⟨S1024x386, .f32⟩
  | .hbm, ⟨5, _⟩ => ⟨S1024x386, .f32⟩
  | .hbm, ⟨6, _⟩ => ⟨S1024x386, .f32⟩
  | .local _ .vmem, ⟨0, _⟩ => ⟨S512x386, .f32⟩
  | .local _ .vmem, ⟨1, _⟩ => ⟨S512x386, .f32⟩
  | .local _ .vmem, ⟨2, _⟩ => ⟨S512x386, .f32⟩
  | .local _ .vmem, ⟨3, _⟩ => ⟨S512x386, .f32⟩
  | .local _ .vmem, ⟨4, _⟩ => ⟨S512x386, .f32⟩
  | .local _ .vmem, ⟨5, _⟩ => ⟨S512x386, .f32⟩
  | .local _ .vmem, ⟨6, _⟩ => ⟨S512x386, .f32⟩
  | .local _ .vmem, ⟨7, _⟩ => ⟨S512x386, .f32⟩
  | .local _ .vmem, ⟨8, _⟩ => ⟨S512x386, .f32⟩
  | .local _ .vmem, ⟨9, _⟩ => ⟨S512x386, .f32⟩
  | .local _ .vmem, ⟨10, _⟩ => ⟨S512x386, .f32⟩
  | .local _ .vmem, ⟨11, _⟩ => ⟨S512x386, .f32⟩
  | .local _ .vmem, ⟨12, _⟩ => ⟨S512x386, .f32⟩
  | .local _ .vmem, ⟨13, _⟩ => ⟨S512x386, .f32⟩
  | _, _ => ⟨S1024x386, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x386 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x386 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x386 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x386 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x386 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x386 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x386 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepFoxInRef.lean ====
abbrev S1024x386 : Shape := ⟨2, ![1024, 386]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x386, .f32⟩
  | .hbm, ⟨1, _⟩ => ⟨S1024x386, .f32⟩
  | .hbm, ⟨2, _⟩ => ⟨S1024x386, .f32⟩
  | .hbm, ⟨3, _⟩ => ⟨S1024x386, .f32⟩
  | .hbm, ⟨4, _⟩ => ⟨S_, .f32⟩
  | .hbm, ⟨5, _⟩ => ⟨S1024x386, .f32⟩
  | .hbm, ⟨6, _⟩ => ⟨S1024x386, .f32⟩
  | .hbm, ⟨7, _⟩ => ⟨S_, .f32⟩
  | .hbm, ⟨8, _⟩ => ⟨S1024x386, .f32⟩
  | .hbm, ⟨9, _⟩ => ⟨S1024x386, .f32⟩
  | .hbm, ⟨10, _⟩ => ⟨S1024x386, .f32⟩
  | .hbm, ⟨11, _⟩ => ⟨S_, .f32⟩
  | .hbm, ⟨12, _⟩ => ⟨S1024x386, .f32⟩
  | .hbm, ⟨13, _⟩ => ⟨S1024x386, .f32⟩
  | .hbm, ⟨14, _⟩ => ⟨S1024x386, .f32⟩
  | .hbm, ⟨15, _⟩ => ⟨S_, .f32⟩
  | .hbm, ⟨16, _⟩ => ⟨S1024x386, .f32⟩
  | .hbm, ⟨17, _⟩ => ⟨S1024x386, .f32⟩
  | .hbm, ⟨18, _⟩ => ⟨S1024x386, .f32⟩
  | .hbm, ⟨19, _⟩ => ⟨S_, .f32⟩
  | .hbm, ⟨20, _⟩ => ⟨S1024x386, .f32⟩
  | .hbm, ⟨21, _⟩ => ⟨S1024x386, .f32⟩
  | .hbm, ⟨22, _⟩ => ⟨S_, .f32⟩
  | .hbm, ⟨23, _⟩ => ⟨S1024x386, .f32⟩
  | .hbm, ⟨24, _⟩ => ⟨S1024x386, .f32⟩
  | .hbm, ⟨25, _⟩ => ⟨S1024x386, .f32⟩
  | .hbm, ⟨26, _⟩ => ⟨S_, .f32⟩
  | .hbm, ⟨27, _⟩ => ⟨S1024x386, .f32⟩
  | .hbm, ⟨28, _⟩ => ⟨S1024x386, .f32⟩
  | .hbm, ⟨29, _⟩ => ⟨S1024x386, .f32⟩
  | .hbm, ⟨30, _⟩ => ⟨S_, .f32⟩
  | .hbm, ⟨31, _⟩ => ⟨S1024x386, .f32⟩
  | .hbm, ⟨32, _⟩ => ⟨S1024x386, .f32⟩
  | .hbm, ⟨33, _⟩ => ⟨S1024x386, .f32⟩
  | .hbm, ⟨34, _⟩ => ⟨S_, .f32⟩
  | .hbm, ⟨35, _⟩ => ⟨S1024x386, .f32⟩
  | .hbm, ⟨36, _⟩ => ⟨S1024x386, .f32⟩
  | _, _ => ⟨S1024x386, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepFoxInRefIdeal.lean ====
abbrev S1024x386 : Shape := ⟨2, ![1024, 386]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x386, .f32⟩
  | .hbm, ⟨1, _⟩ => ⟨S1024x386, .f32⟩
  | .hbm, ⟨2, _⟩ => ⟨S1024x386, .f32⟩
  | .hbm, ⟨3, _⟩ => ⟨S1024x386, .f32⟩
  | .hbm, ⟨4, _⟩ => ⟨S_, .f32⟩
  | .hbm, ⟨5, _⟩ => ⟨S1024x386, .f32⟩
  | .hbm, ⟨6, _⟩ => ⟨S1024x386, .f32⟩
  | .hbm, ⟨7, _⟩ => ⟨S_, .f32⟩
  | .hbm, ⟨8, _⟩ => ⟨S1024x386, .f32⟩
  | .hbm, ⟨9, _⟩ => ⟨S1024x386, .f32⟩
  | .hbm, ⟨10, _⟩ => ⟨S1024x386, .f32⟩
  | .hbm, ⟨11, _⟩ => ⟨S_, .f32⟩
  | .hbm, ⟨12, _⟩ => ⟨S1024x386, .f32⟩
  | .hbm, ⟨13, _⟩ => ⟨S1024x386, .f32⟩
  | .hbm, ⟨14, _⟩ => ⟨S1024x386, .f32⟩
  | .hbm, ⟨15, _⟩ => ⟨S_, .f32⟩
  | .hbm, ⟨16, _⟩ => ⟨S1024x386, .f32⟩
  | .hbm, ⟨17, _⟩ => ⟨S1024x386, .f32⟩
  | .hbm, ⟨18, _⟩ => ⟨S1024x386, .f32⟩
  | .hbm, ⟨19, _⟩ => ⟨S_, .f32⟩
  | .hbm, ⟨20, _⟩ => ⟨S1024x386, .f32⟩
  | .hbm, ⟨21, _⟩ => ⟨S1024x386, .f32⟩
  | .hbm, ⟨22, _⟩ => ⟨S_, .f32⟩
  | .hbm, ⟨23, _⟩ => ⟨S1024x386, .f32⟩
  | .hbm, ⟨24, _⟩ => ⟨S1024x386, .f32⟩
  | .hbm, ⟨25, _⟩ => ⟨S1024x386, .f32⟩
  | .hbm, ⟨26, _⟩ => ⟨S_, .f32⟩
  | .hbm, ⟨27, _⟩ => ⟨S1024x386, .f32⟩
  | .hbm, ⟨28, _⟩ => ⟨S1024x386, .f32⟩
  | .hbm, ⟨29, _⟩ => ⟨S1024x386, .f32⟩
  | .hbm, ⟨30, _⟩ => ⟨S_, .f32⟩
  | .hbm, ⟨31, _⟩ => ⟨S1024x386, .f32⟩
  | .hbm, ⟨32, _⟩ => ⟨S1024x386, .f32⟩
  | .hbm, ⟨33, _⟩ => ⟨S1024x386, .f32⟩
  | .hbm, ⟨34, _⟩ => ⟨S_, .f32⟩
  | .hbm, ⟨35, _⟩ => ⟨S1024x386, .f32⟩
  | .hbm, ⟨36, _⟩ => ⟨S1024x386, .f32⟩
  | _, _ => ⟨S1024x386, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepFoxOut.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepFoxOutIdeal.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepFoxOutRef.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepFoxOutRefIdeal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepSsdIn.lean ====
abbrev S1024x772 : Shape := ⟨2, ![1024, 772]⟩
abbrev S512x772 : Shape := ⟨2, ![512, 772]⟩

abbrev nBuf : Space → Nat
  | .hbm => 7
  | .vmem => 14
  | .smem => 0
  | _ => 0

abbrev bufTy : (tb : Table) → Fin (tcTables nBuf tb) → BufTy
  | .hbm, ⟨0, _⟩ => ⟨S1024x772, .f32⟩
  | .hbm, ⟨1, _⟩ => ⟨S1024x772, .f32⟩
  | .hbm, ⟨2, _⟩ => ⟨S1024x772, .f32⟩
  | .hbm, ⟨3, _⟩ => ⟨S1024x772, .f32⟩
  | .hbm, ⟨4, _⟩ => ⟨S1024x772, .f32⟩
  | .hbm, ⟨5, _⟩ => ⟨S1024x772, .f32⟩
  | .hbm, ⟨6, _⟩ => ⟨S1024x772, .f32⟩
  | .local _ .vmem, ⟨0, _⟩ => ⟨S512x772, .f32⟩
  | .local _ .vmem, ⟨1, _⟩ => ⟨S512x772, .f32⟩
  | .local _ .vmem, ⟨2, _⟩ => ⟨S512x772, .f32⟩
  | .local _ .vmem, ⟨3, _⟩ => ⟨S512x772, .f32⟩
  | .local _ .vmem, ⟨4, _⟩ => ⟨S512x772, .f32⟩
  | .local _ .vmem, ⟨5, _⟩ => ⟨S512x772, .f32⟩
  | .local _ .vmem, ⟨6, _⟩ => ⟨S512x772, .f32⟩
  | .local _ .vmem, ⟨7, _⟩ => ⟨S512x772, .f32⟩
  | .local _ .vmem, ⟨8, _⟩ => ⟨S512x772, .f32⟩
  | .local _ .vmem, ⟨9, _⟩ => ⟨S512x772, .f32⟩
  | .local _ .vmem, ⟨10, _⟩ => ⟨S512x772, .f32⟩
  | .local _ .vmem, ⟨11, _⟩ => ⟨S512x772, .f32⟩
  | .local _ .vmem, ⟨12, _⟩ => ⟨S512x772, .f32⟩
  | .local _ .vmem, ⟨13, _⟩ => ⟨S512x772, .f32⟩
  | _, _ => ⟨S1024x772, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x772 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x772 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x772 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x772 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x772 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x772 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x772 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepSsdInIdeal.lean ====
abbrev S1024x772 : Shape := ⟨2, ![1024, 772]⟩
abbrev S512x772 : Shape := ⟨2, ![512, 772]⟩

abbrev nBuf : Space → Nat
  | .hbm => 7
  | .vmem => 14
  | .smem => 0
  | _ => 0

abbrev bufTy : (tb : Table) → Fin (tcTables nBuf tb) → BufTy
  | .hbm, ⟨0, _⟩ => ⟨S1024x772, .f32⟩
  | .hbm, ⟨1, _⟩ => ⟨S1024x772, .f32⟩
  | .hbm, ⟨2, _⟩ => ⟨S1024x772, .f32⟩
  | .hbm, ⟨3, _⟩ => ⟨S1024x772, .f32⟩
  | .hbm, ⟨4, _⟩ => ⟨S1024x772, .f32⟩
  | .hbm, ⟨5, _⟩ => ⟨S1024x772, .f32⟩
  | .hbm, ⟨6, _⟩ => ⟨S1024x772, .f32⟩
  | .local _ .vmem, ⟨0, _⟩ => ⟨S512x772, .f32⟩
  | .local _ .vmem, ⟨1, _⟩ => ⟨S512x772, .f32⟩
  | .local _ .vmem, ⟨2, _⟩ => ⟨S512x772, .f32⟩
  | .local _ .vmem, ⟨3, _⟩ => ⟨S512x772, .f32⟩
  | .local _ .vmem, ⟨4, _⟩ => ⟨S512x772, .f32⟩
  | .local _ .vmem, ⟨5, _⟩ => ⟨S512x772, .f32⟩
  | .local _ .vmem, ⟨6, _⟩ => ⟨S512x772, .f32⟩
  | .local _ .vmem, ⟨7, _⟩ => ⟨S512x772, .f32⟩
  | .local _ .vmem, ⟨8, _⟩ => ⟨S512x772, .f32⟩
  | .local _ .vmem, ⟨9, _⟩ => ⟨S512x772, .f32⟩
  | .local _ .vmem, ⟨10, _⟩ => ⟨S512x772, .f32⟩
  | .local _ .vmem, ⟨11, _⟩ => ⟨S512x772, .f32⟩
  | .local _ .vmem, ⟨12, _⟩ => ⟨S512x772, .f32⟩
  | .local _ .vmem, ⟨13, _⟩ => ⟨S512x772, .f32⟩
  | _, _ => ⟨S1024x772, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x772 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x772 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x772 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x772 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x772 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x772 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x772 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepSsdInRef.lean ====
abbrev S1024x772 : Shape := ⟨2, ![1024, 772]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x772, .f32⟩
  | .hbm, ⟨1, _⟩ => ⟨S1024x772, .f32⟩
  | .hbm, ⟨2, _⟩ => ⟨S1024x772, .f32⟩
  | .hbm, ⟨3, _⟩ => ⟨S1024x772, .f32⟩
  | .hbm, ⟨4, _⟩ => ⟨S_, .f32⟩
  | .hbm, ⟨5, _⟩ => ⟨S1024x772, .f32⟩
  | .hbm, ⟨6, _⟩ => ⟨S1024x772, .f32⟩
  | .hbm, ⟨7, _⟩ => ⟨S_, .f32⟩
  | .hbm, ⟨8, _⟩ => ⟨S1024x772, .f32⟩
  | .hbm, ⟨9, _⟩ => ⟨S1024x772, .f32⟩
  | .hbm, ⟨10, _⟩ => ⟨S1024x772, .f32⟩
  | .hbm, ⟨11, _⟩ => ⟨S_, .f32⟩
  | .hbm, ⟨12, _⟩ => ⟨S1024x772, .f32⟩
  | .hbm, ⟨13, _⟩ => ⟨S1024x772, .f32⟩
  | .hbm, ⟨14, _⟩ => ⟨S1024x772, .f32⟩
  | .hbm, ⟨15, _⟩ => ⟨S_, .f32⟩
  | .hbm, ⟨16, _⟩ => ⟨S1024x772, .f32⟩
  | .hbm, ⟨17, _⟩ => ⟨S1024x772, .f32⟩
  | .hbm, ⟨18, _⟩ => ⟨S1024x772, .f32⟩
  | .hbm, ⟨19, _⟩ => ⟨S_, .f32⟩
  | .hbm, ⟨20, _⟩ => ⟨S1024x772, .f32⟩
  | .hbm, ⟨21, _⟩ => ⟨S1024x772, .f32⟩
  | .hbm, ⟨22, _⟩ => ⟨S_, .f32⟩
  | .hbm, ⟨23, _⟩ => ⟨S1024x772, .f32⟩
  | .hbm, ⟨24, _⟩ => ⟨S1024x772, .f32⟩
  | .hbm, ⟨25, _⟩ => ⟨S1024x772, .f32⟩
  | .hbm, ⟨26, _⟩ => ⟨S_, .f32⟩
  | .hbm, ⟨27, _⟩ => ⟨S1024x772, .f32⟩
  | .hbm, ⟨28, _⟩ => ⟨S1024x772, .f32⟩
  | .hbm, ⟨29, _⟩ => ⟨S1024x772, .f32⟩
  | .hbm, ⟨30, _⟩ => ⟨S_, .f32⟩
  | .hbm, ⟨31, _⟩ => ⟨S1024x772, .f32⟩
  | .hbm, ⟨32, _⟩ => ⟨S1024x772, .f32⟩
  | .hbm, ⟨33, _⟩ => ⟨S1024x772, .f32⟩
  | .hbm, ⟨34, _⟩ => ⟨S_, .f32⟩
  | .hbm, ⟨35, _⟩ => ⟨S1024x772, .f32⟩
  | .hbm, ⟨36, _⟩ => ⟨S1024x772, .f32⟩
  | _, _ => ⟨S1024x772, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepSsdInRefIdeal.lean ====
abbrev S1024x772 : Shape := ⟨2, ![1024, 772]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x772, .f32⟩
  | .hbm, ⟨1, _⟩ => ⟨S1024x772, .f32⟩
  | .hbm, ⟨2, _⟩ => ⟨S1024x772, .f32⟩
  | .hbm, ⟨3, _⟩ => ⟨S1024x772, .f32⟩
  | .hbm, ⟨4, _⟩ => ⟨S_, .f32⟩
  | .hbm, ⟨5, _⟩ => ⟨S1024x772, .f32⟩
  | .hbm, ⟨6, _⟩ => ⟨S1024x772, .f32⟩
  | .hbm, ⟨7, _⟩ => ⟨S_, .f32⟩
  | .hbm, ⟨8, _⟩ => ⟨S1024x772, .f32⟩
  | .hbm, ⟨9, _⟩ => ⟨S1024x772, .f32⟩
  | .hbm, ⟨10, _⟩ => ⟨S1024x772, .f32⟩
  | .hbm, ⟨11, _⟩ => ⟨S_, .f32⟩
  | .hbm, ⟨12, _⟩ => ⟨S1024x772, .f32⟩
  | .hbm, ⟨13, _⟩ => ⟨S1024x772, .f32⟩
  | .hbm, ⟨14, _⟩ => ⟨S1024x772, .f32⟩
  | .hbm, ⟨15, _⟩ => ⟨S_, .f32⟩
  | .hbm, ⟨16, _⟩ => ⟨S1024x772, .f32⟩
  | .hbm, ⟨17, _⟩ => ⟨S1024x772, .f32⟩
  | .hbm, ⟨18, _⟩ => ⟨S1024x772, .f32⟩
  | .hbm, ⟨19, _⟩ => ⟨S_, .f32⟩
  | .hbm, ⟨20, _⟩ => ⟨S1024x772, .f32⟩
  | .hbm, ⟨21, _⟩ => ⟨S1024x772, .f32⟩
  | .hbm, ⟨22, _⟩ => ⟨S_, .f32⟩
  | .hbm, ⟨23, _⟩ => ⟨S1024x772, .f32⟩
  | .hbm, ⟨24, _⟩ => ⟨S1024x772, .f32⟩
  | .hbm, ⟨25, _⟩ => ⟨S1024x772, .f32⟩
  | .hbm, ⟨26, _⟩ => ⟨S_, .f32⟩
  | .hbm, ⟨27, _⟩ => ⟨S1024x772, .f32⟩
  | .hbm, ⟨28, _⟩ => ⟨S1024x772, .f32⟩
  | .hbm, ⟨29, _⟩ => ⟨S1024x772, .f32⟩
  | .hbm, ⟨30, _⟩ => ⟨S_, .f32⟩
  | .hbm, ⟨31, _⟩ => ⟨S1024x772, .f32⟩
  | .hbm, ⟨32, _⟩ => ⟨S1024x772, .f32⟩
  | .hbm, ⟨33, _⟩ => ⟨S1024x772, .f32⟩
  | .hbm, ⟨34, _⟩ => ⟨S_, .f32⟩
  | .hbm, ⟨35, _⟩ => ⟨S1024x772, .f32⟩
  | .hbm, ⟨36, _⟩ => ⟨S1024x772, .f32⟩
  | _, _ => ⟨S1024x772, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepConvDw.lean ====
abbrev S6x128 : Shape := ⟨2, ![6, 128]⟩

abbrev nBuf : Space → Nat
  | .hbm => 7
  | .vmem => 7
  | .smem => 0
  | _ => 0

abbrev bufTy : (tb : Table) → Fin (tcTables nBuf tb) → BufTy
  | .hbm, ⟨0, _⟩ => ⟨S6x128, .f32⟩
  | .hbm, ⟨1, _⟩ => ⟨S6x128, .f32⟩
  | .hbm, ⟨2, _⟩ => ⟨S6x128, .f32⟩
  | .hbm, ⟨3, _⟩ => ⟨S6x128, .f32⟩
  | .hbm, ⟨4, _⟩ => ⟨S6x128, .f32⟩
  | .hbm, ⟨5, _⟩ => ⟨S6x128, .f32⟩
  | .hbm, ⟨6, _⟩ => ⟨S6x128, .f32⟩
  | .local _ .vmem, ⟨0, _⟩ => ⟨S6x128, .f32⟩
  | .local _ .vmem, ⟨1, _⟩ => ⟨S6x128, .f32⟩
  | .local _ .vmem, ⟨2, _⟩ => ⟨S6x128, .f32⟩
  | .local _ .vmem, ⟨3, _⟩ => ⟨S6x128, .f32⟩
  | .local _ .vmem, ⟨4, _⟩ => ⟨S6x128, .f32⟩
  | .local _ .vmem, ⟨5, _⟩ => ⟨S6x128, .f32⟩
  | .local _ .vmem, ⟨6, _⟩ => ⟨S6x128, .f32⟩
  | _, _ => ⟨S6x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepConvDwIdeal.lean ====
abbrev S6x128 : Shape := ⟨2, ![6, 128]⟩

abbrev nBuf : Space → Nat
  | .hbm => 7
  | .vmem => 7
  | .smem => 0
  | _ => 0

abbrev bufTy : (tb : Table) → Fin (tcTables nBuf tb) → BufTy
  | .hbm, ⟨0, _⟩ => ⟨S6x128, .f32⟩
  | .hbm, ⟨1, _⟩ => ⟨S6x128, .f32⟩
  | .hbm, ⟨2, _⟩ => ⟨S6x128, .f32⟩
  | .hbm, ⟨3, _⟩ => ⟨S6x128, .f32⟩
  | .hbm, ⟨4, _⟩ => ⟨S6x128, .f32⟩
  | .hbm, ⟨5, _⟩ => ⟨S6x128, .f32⟩
  | .hbm, ⟨6, _⟩ => ⟨S6x128, .f32⟩
  | .local _ .vmem, ⟨0, _⟩ => ⟨S6x128, .f32⟩
  | .local _ .vmem, ⟨1, _⟩ => ⟨S6x128, .f32⟩
  | .local _ .vmem, ⟨2, _⟩ => ⟨S6x128, .f32⟩
  | .local _ .vmem, ⟨3, _⟩ => ⟨S6x128, .f32⟩
  | .local _ .vmem, ⟨4, _⟩ => ⟨S6x128, .f32⟩
  | .local _ .vmem, ⟨5, _⟩ => ⟨S6x128, .f32⟩
  | .local _ .vmem, ⟨6, _⟩ => ⟨S6x128, .f32⟩
  | _, _ => ⟨S6x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepConvDwRef.lean ====
abbrev S6x128 : Shape := ⟨2, ![6, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S6x128, .f32⟩
  | .hbm, ⟨1, _⟩ => ⟨S6x128, .f32⟩
  | .hbm, ⟨2, _⟩ => ⟨S6x128, .f32⟩
  | .hbm, ⟨3, _⟩ => ⟨S6x128, .f32⟩
  | .hbm, ⟨4, _⟩ => ⟨S_, .f32⟩
  | .hbm, ⟨5, _⟩ => ⟨S6x128, .f32⟩
  | .hbm, ⟨6, _⟩ => ⟨S6x128, .f32⟩
  | .hbm, ⟨7, _⟩ => ⟨S_, .f32⟩
  | .hbm, ⟨8, _⟩ => ⟨S6x128, .f32⟩
  | .hbm, ⟨9, _⟩ => ⟨S6x128, .f32⟩
  | .hbm, ⟨10, _⟩ => ⟨S6x128, .f32⟩
  | .hbm, ⟨11, _⟩ => ⟨S_, .f32⟩
  | .hbm, ⟨12, _⟩ => ⟨S6x128, .f32⟩
  | .hbm, ⟨13, _⟩ => ⟨S6x128, .f32⟩
  | .hbm, ⟨14, _⟩ => ⟨S6x128, .f32⟩
  | .hbm, ⟨15, _⟩ => ⟨S_, .f32⟩
  | .hbm, ⟨16, _⟩ => ⟨S6x128, .f32⟩
  | .hbm, ⟨17, _⟩ => ⟨S6x128, .f32⟩
  | .hbm, ⟨18, _⟩ => ⟨S6x128, .f32⟩
  | .hbm, ⟨19, _⟩ => ⟨S_, .f32⟩
  | .hbm, ⟨20, _⟩ => ⟨S6x128, .f32⟩
  | .hbm, ⟨21, _⟩ => ⟨S6x128, .f32⟩
  | .hbm, ⟨22, _⟩ => ⟨S_, .f32⟩
  | .hbm, ⟨23, _⟩ => ⟨S6x128, .f32⟩
  | .hbm, ⟨24, _⟩ => ⟨S6x128, .f32⟩
  | .hbm, ⟨25, _⟩ => ⟨S6x128, .f32⟩
  | .hbm, ⟨26, _⟩ => ⟨S_, .f32⟩
  | .hbm, ⟨27, _⟩ => ⟨S6x128, .f32⟩
  | .hbm, ⟨28, _⟩ => ⟨S6x128, .f32⟩
  | .hbm, ⟨29, _⟩ => ⟨S6x128, .f32⟩
  | .hbm, ⟨30, _⟩ => ⟨S_, .f32⟩
  | .hbm, ⟨31, _⟩ => ⟨S6x128, .f32⟩
  | .hbm, ⟨32, _⟩ => ⟨S6x128, .f32⟩
  | .hbm, ⟨33, _⟩ => ⟨S6x128, .f32⟩
  | .hbm, ⟨34, _⟩ => ⟨S_, .f32⟩
  | .hbm, ⟨35, _⟩ => ⟨S6x128, .f32⟩
  | .hbm, ⟨36, _⟩ => ⟨S6x128, .f32⟩
  | _, _ => ⟨S6x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepConvDwRefIdeal.lean ====
abbrev S6x128 : Shape := ⟨2, ![6, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S6x128, .f32⟩
  | .hbm, ⟨1, _⟩ => ⟨S6x128, .f32⟩
  | .hbm, ⟨2, _⟩ => ⟨S6x128, .f32⟩
  | .hbm, ⟨3, _⟩ => ⟨S6x128, .f32⟩
  | .hbm, ⟨4, _⟩ => ⟨S_, .f32⟩
  | .hbm, ⟨5, _⟩ => ⟨S6x128, .f32⟩
  | .hbm, ⟨6, _⟩ => ⟨S6x128, .f32⟩
  | .hbm, ⟨7, _⟩ => ⟨S_, .f32⟩
  | .hbm, ⟨8, _⟩ => ⟨S6x128, .f32⟩
  | .hbm, ⟨9, _⟩ => ⟨S6x128, .f32⟩
  | .hbm, ⟨10, _⟩ => ⟨S6x128, .f32⟩
  | .hbm, ⟨11, _⟩ => ⟨S_, .f32⟩
  | .hbm, ⟨12, _⟩ => ⟨S6x128, .f32⟩
  | .hbm, ⟨13, _⟩ => ⟨S6x128, .f32⟩
  | .hbm, ⟨14, _⟩ => ⟨S6x128, .f32⟩
  | .hbm, ⟨15, _⟩ => ⟨S_, .f32⟩
  | .hbm, ⟨16, _⟩ => ⟨S6x128, .f32⟩
  | .hbm, ⟨17, _⟩ => ⟨S6x128, .f32⟩
  | .hbm, ⟨18, _⟩ => ⟨S6x128, .f32⟩
  | .hbm, ⟨19, _⟩ => ⟨S_, .f32⟩
  | .hbm, ⟨20, _⟩ => ⟨S6x128, .f32⟩
  | .hbm, ⟨21, _⟩ => ⟨S6x128, .f32⟩
  | .hbm, ⟨22, _⟩ => ⟨S_, .f32⟩
  | .hbm, ⟨23, _⟩ => ⟨S6x128, .f32⟩
  | .hbm, ⟨24, _⟩ => ⟨S6x128, .f32⟩
  | .hbm, ⟨25, _⟩ => ⟨S6x128, .f32⟩
  | .hbm, ⟨26, _⟩ => ⟨S_, .f32⟩
  | .hbm, ⟨27, _⟩ => ⟨S6x128, .f32⟩
  | .hbm, ⟨28, _⟩ => ⟨S6x128, .f32⟩
  | .hbm, ⟨29, _⟩ => ⟨S6x128, .f32⟩
  | .hbm, ⟨30, _⟩ => ⟨S_, .f32⟩
  | .hbm, ⟨31, _⟩ => ⟨S6x128, .f32⟩
  | .hbm, ⟨32, _⟩ => ⟨S6x128, .f32⟩
  | .hbm, ⟨33, _⟩ => ⟨S6x128, .f32⟩
  | .hbm, ⟨34, _⟩ => ⟨S_, .f32⟩
  | .hbm, ⟨35, _⟩ => ⟨S6x128, .f32⟩
  | .hbm, ⟨36, _⟩ => ⟨S6x128, .f32⟩
  | _, _ => ⟨S6x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepSsdConvW.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepSsdConvWIdeal.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepSsdConvWRef.lean ====
abbrev S4x512 : Shape := ⟨2, ![4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S_, .f32⟩
  | .hbm, ⟨12, _⟩ => ⟨S4x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S4x512, .f32⟩
  | .hbm, ⟨17, _⟩ => ⟨S4x512, .f32⟩
  | .hbm, ⟨18, _⟩ => ⟨S4x512, .f32⟩
  | .hbm, ⟨19, _⟩ => ⟨S_, .f32⟩
  | .hbm, ⟨20, _⟩ => ⟨S4x512, .f32⟩
  | .hbm, ⟨21, _⟩ => ⟨S4x512, .f32⟩
  | .hbm, ⟨22, _⟩ => ⟨S_, .f32⟩
  | .hbm, ⟨23, _⟩ => ⟨S4x512, .f32⟩
  | .hbm, ⟨24, _⟩ => ⟨S4x512, .f32⟩
  | .hbm, ⟨25, _⟩ => ⟨S4x512, .f32⟩
  | .hbm, ⟨26, _⟩ => ⟨S_, .f32⟩
  | .hbm, ⟨27, _⟩ => ⟨S4x512, .f32⟩
  | .hbm, ⟨28, _⟩ => ⟨S4x512, .f32⟩
  | .hbm, ⟨29, _⟩ => ⟨S4x512, .f32⟩
  | .hbm, ⟨30, _⟩ => ⟨S_, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S_, .f32⟩
  | .hbm, ⟨35, _⟩ => ⟨S4x512, .f32⟩
  | .hbm, ⟨36, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepSsdConvWRefIdeal.lean ====
abbrev S4x512 : Shape := ⟨2, ![4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S_, .f32⟩
  | .hbm, ⟨12, _⟩ => ⟨S4x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S4x512, .f32⟩
  | .hbm, ⟨17, _⟩ => ⟨S4x512, .f32⟩
  | .hbm, ⟨18, _⟩ => ⟨S4x512, .f32⟩
  | .hbm, ⟨19, _⟩ => ⟨S_, .f32⟩
  | .hbm, ⟨20, _⟩ => ⟨S4x512, .f32⟩
  | .hbm, ⟨21, _⟩ => ⟨S4x512, .f32⟩
  | .hbm, ⟨22, _⟩ => ⟨S_, .f32⟩
  | .hbm, ⟨23, _⟩ => ⟨S4x512, .f32⟩
  | .hbm, ⟨24, _⟩ => ⟨S4x512, .f32⟩
  | .hbm, ⟨25, _⟩ => ⟨S4x512, .f32⟩
  | .hbm, ⟨26, _⟩ => ⟨S_, .f32⟩
  | .hbm, ⟨27, _⟩ => ⟨S4x512, .f32⟩
  | .hbm, ⟨28, _⟩ => ⟨S4x512, .f32⟩
  | .hbm, ⟨29, _⟩ => ⟨S4x512, .f32⟩
  | .hbm, ⟨30, _⟩ => ⟨S_, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S_, .f32⟩
  | .hbm, ⟨35, _⟩ => ⟨S4x512, .f32⟩
  | .hbm, ⟨36, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepSsdConvB.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepSsdConvBIdeal.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepSsdConvBRef.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepSsdConvBRefIdeal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepSsdNorm.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepSsdNormIdeal.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepSsdNormRef.lean ====
abbrev S1x256 : Shape := ⟨2, ![1, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepSsdNormRefIdeal.lean ====
abbrev S1x256 : Shape := ⟨2, ![1, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepMixNorm.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepMixNormIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepMixNormRef.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepMixNormRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepFoxBf.lean ====
abbrev S1x16 : Shape := ⟨2, ![1, 16]⟩

abbrev nBuf : Space → Nat
  | .hbm => 7
  | .vmem => 7
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepFoxBfIdeal.lean ====
abbrev S1x16 : Shape := ⟨2, ![1, 16]⟩

abbrev nBuf : Space → Nat
  | .hbm => 7
  | .vmem => 7
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepFoxBfRef.lean ====
abbrev S1x16 : Shape := ⟨2, ![1, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S_, .f32⟩
  | .hbm, ⟨5, _⟩ => ⟨S1x16, .f32⟩
  | .hbm, ⟨6, _⟩ => ⟨S1x16, .f32⟩
  | .hbm, ⟨7, _⟩ => ⟨S_, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S_, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S_, .f32⟩
  | .hbm, ⟨16, _⟩ => ⟨S1x16, .f32⟩
  | .hbm, ⟨17, _⟩ => ⟨S1x16, .f32⟩
  | .hbm, ⟨18, _⟩ => ⟨S1x16, .f32⟩
  | .hbm, ⟨19, _⟩ => ⟨S_, .f32⟩
  | .hbm, ⟨20, _⟩ => ⟨S1x16, .f32⟩
  | .hbm, ⟨21, _⟩ => ⟨S1x16, .f32⟩
  | .hbm, ⟨22, _⟩ => ⟨S_, .f32⟩
  | .hbm, ⟨23, _⟩ => ⟨S1x16, .f32⟩
  | .hbm, ⟨24, _⟩ => ⟨S1x16, .f32⟩
  | .hbm, ⟨25, _⟩ => ⟨S1x16, .f32⟩
  | .hbm, ⟨26, _⟩ => ⟨S_, .f32⟩
  | .hbm, ⟨27, _⟩ => ⟨S1x16, .f32⟩
  | .hbm, ⟨28, _⟩ => ⟨S1x16, .f32⟩
  | .hbm, ⟨29, _⟩ => ⟨S1x16, .f32⟩
  | .hbm, ⟨30, _⟩ => ⟨S_, .f32⟩
  | .hbm, ⟨31, _⟩ => ⟨S1x16, .f32⟩
  | .hbm, ⟨32, _⟩ => ⟨S1x16, .f32⟩
  | .hbm, ⟨33, _⟩ => ⟨S1x16, .f32⟩
  | .hbm, ⟨34, _⟩ => ⟨S_, .f32⟩
  | .hbm, ⟨35, _⟩ => ⟨S1x16, .f32⟩
  | .hbm, ⟨36, _⟩ => ⟨S1x16, .f32⟩
  | _, _ => ⟨S1x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepFoxBfRefIdeal.lean ====
abbrev S1x16 : Shape := ⟨2, ![1, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S_, .f32⟩
  | .hbm, ⟨5, _⟩ => ⟨S1x16, .f32⟩
  | .hbm, ⟨6, _⟩ => ⟨S1x16, .f32⟩
  | .hbm, ⟨7, _⟩ => ⟨S_, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S_, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S_, .f32⟩
  | .hbm, ⟨16, _⟩ => ⟨S1x16, .f32⟩
  | .hbm, ⟨17, _⟩ => ⟨S1x16, .f32⟩
  | .hbm, ⟨18, _⟩ => ⟨S1x16, .f32⟩
  | .hbm, ⟨19, _⟩ => ⟨S_, .f32⟩
  | .hbm, ⟨20, _⟩ => ⟨S1x16, .f32⟩
  | .hbm, ⟨21, _⟩ => ⟨S1x16, .f32⟩
  | .hbm, ⟨22, _⟩ => ⟨S_, .f32⟩
  | .hbm, ⟨23, _⟩ => ⟨S1x16, .f32⟩
  | .hbm, ⟨24, _⟩ => ⟨S1x16, .f32⟩
  | .hbm, ⟨25, _⟩ => ⟨S1x16, .f32⟩
  | .hbm, ⟨26, _⟩ => ⟨S_, .f32⟩
  | .hbm, ⟨27, _⟩ => ⟨S1x16, .f32⟩
  | .hbm, ⟨28, _⟩ => ⟨S1x16, .f32⟩
  | .hbm, ⟨29, _⟩ => ⟨S1x16, .f32⟩
  | .hbm, ⟨30, _⟩ => ⟨S_, .f32⟩
  | .hbm, ⟨31, _⟩ => ⟨S1x16, .f32⟩
  | .hbm, ⟨32, _⟩ => ⟨S1x16, .f32⟩
  | .hbm, ⟨33, _⟩ => ⟨S1x16, .f32⟩
  | .hbm, ⟨34, _⟩ => ⟨S_, .f32⟩
  | .hbm, ⟨35, _⟩ => ⟨S1x16, .f32⟩
  | .hbm, ⟨36, _⟩ => ⟨S1x16, .f32⟩
  | _, _ => ⟨S1x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepFoxQ.lean ====
abbrev S1x64 : Shape := ⟨2, ![1, 64]⟩

abbrev nBuf : Space → Nat
  | .hbm => 7
  | .vmem => 7
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepFoxQIdeal.lean ====
abbrev S1x64 : Shape := ⟨2, ![1, 64]⟩

abbrev nBuf : Space → Nat
  | .hbm => 7
  | .vmem => 7
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepFoxQRef.lean ====
abbrev S1x64 : Shape := ⟨2, ![1, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S_, .f32⟩
  | .hbm, ⟨5, _⟩ => ⟨S1x64, .f32⟩
  | .hbm, ⟨6, _⟩ => ⟨S1x64, .f32⟩
  | .hbm, ⟨7, _⟩ => ⟨S_, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S_, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S_, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S_, .f32⟩
  | .hbm, ⟨20, _⟩ => ⟨S1x64, .f32⟩
  | .hbm, ⟨21, _⟩ => ⟨S1x64, .f32⟩
  | .hbm, ⟨22, _⟩ => ⟨S_, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S_, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S_, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S_, .f32⟩
  | .hbm, ⟨35, _⟩ => ⟨S1x64, .f32⟩
  | .hbm, ⟨36, _⟩ => ⟨S1x64, .f32⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepFoxQRefIdeal.lean ====
abbrev S1x64 : Shape := ⟨2, ![1, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S_, .f32⟩
  | .hbm, ⟨5, _⟩ => ⟨S1x64, .f32⟩
  | .hbm, ⟨6, _⟩ => ⟨S1x64, .f32⟩
  | .hbm, ⟨7, _⟩ => ⟨S_, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S_, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S_, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S_, .f32⟩
  | .hbm, ⟨20, _⟩ => ⟨S1x64, .f32⟩
  | .hbm, ⟨21, _⟩ => ⟨S1x64, .f32⟩
  | .hbm, ⟨22, _⟩ => ⟨S_, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S_, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S_, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S_, .f32⟩
  | .hbm, ⟨35, _⟩ => ⟨S1x64, .f32⟩
  | .hbm, ⟨36, _⟩ => ⟨S1x64, .f32⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepSsdDt.lean ====
abbrev S1x32 : Shape := ⟨2, ![1, 32]⟩

abbrev nBuf : Space → Nat
  | .hbm => 7
  | .vmem => 7
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .local _ .vmem, ⟨0, _⟩ => ⟨S1x32, .f32⟩
  | .local _ .vmem, ⟨1, _⟩ => ⟨S1x32, .f32⟩
  | .local _ .vmem, ⟨2, _⟩ => ⟨S1x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | _, _ => ⟨S1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepSsdDtRef.lean ====
abbrev S1x32 : Shape := ⟨2, ![1, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S_, .f32⟩
  | .hbm, ⟨5, _⟩ => ⟨S1x32, .f32⟩
  | .hbm, ⟨6, _⟩ => ⟨S1x32, .f32⟩
  | .hbm, ⟨7, _⟩ => ⟨S_, .f32⟩
  | .hbm, ⟨8, _⟩ => ⟨S1x32, .f32⟩
  | .hbm, ⟨9, _⟩ => ⟨S1x32, .f32⟩
  | .hbm, ⟨10, _⟩ => ⟨S1x32, .f32⟩
  | .hbm, ⟨11, _⟩ => ⟨S_, .f32⟩
  | .hbm, ⟨12, _⟩ => ⟨S1x32, .f32⟩
  | .hbm, ⟨13, _⟩ => ⟨S1x32, .f32⟩
  | .hbm, ⟨14, _⟩ => ⟨S1x32, .f32⟩
  | .hbm, ⟨15, _⟩ => ⟨S_, .f32⟩
  | .hbm, ⟨16, _⟩ => ⟨S1x32, .f32⟩
  | .hbm, ⟨17, _⟩ => ⟨S1x32, .f32⟩
  | .hbm, ⟨18, _⟩ => ⟨S1x32, .f32⟩
  | .hbm, ⟨19, _⟩ => ⟨S_, .f32⟩
  | .hbm, ⟨20, _⟩ => ⟨S1x32, .f32⟩
  | .hbm, ⟨21, _⟩ => ⟨S1x32, .f32⟩
  | .hbm, ⟨22, _⟩ => ⟨S_, .f32⟩
  | .hbm, ⟨23, _⟩ => ⟨S1x32, .f32⟩
  | .hbm, ⟨24, _⟩ => ⟨S1x32, .f32⟩
  | .hbm, ⟨25, _⟩ => ⟨S1x32, .f32⟩
  | .hbm, ⟨26, _⟩ => ⟨S_, .f32⟩
  | .hbm, ⟨27, _⟩ => ⟨S1x32, .f32⟩
  | .hbm, ⟨28, _⟩ => ⟨S1x32, .f32⟩
  | .hbm, ⟨29, _⟩ => ⟨S1x32, .f32⟩
  | .hbm, ⟨30, _⟩ => ⟨S_, .f32⟩
  | .hbm, ⟨31, _⟩ => ⟨S1x32, .f32⟩
  | .hbm, ⟨32, _⟩ => ⟨S1x32, .f32⟩
  | .hbm, ⟨33, _⟩ => ⟨S1x32, .f32⟩
  | .hbm, ⟨34, _⟩ => ⟨S_, .f32⟩
  | .hbm, ⟨35, _⟩ => ⟨S1x32, .f32⟩
  | .hbm, ⟨36, _⟩ => ⟨S1x32, .f32⟩
  | _, _ => ⟨S1x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.CoresLaunch.lean ====
/-
# The launch of a program whose devices write into each other from the first operation

The devices of an exchange hand each other pieces of their result arrays and the counters of their scoped semaphores before any of them has run a
single operation, because no kernel of the program waits for the others to arrive. The launch here therefore deals ALL the devices' holdings at once:
the scoped counters and buffers of the region boundary, the arrays whole, the credit of what is owed, next to the assigned levels and the launch
element of the proof's ghost state. What each device is to start from is made of that in one update (`hinit`).
-/
module

public import Idealize.ShloMosaic.Lib.Pipeline.Regions

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (owing owing_of_ne launchCred coreInit_boundary_owing boundary_read)

variable {nD : Nat} {τ : Topo} {sig : RefSig} {Val : EltTy → Type} {Ix : Type} [DecidableEq Ix]
  {U : Type} [URA U] {Lvl : Type} [Preorder Lvl] {Λ : Labels}

local notation "𝕄" => MT nD τ sig Ix Val ℕ U Lvl

/-- What device `c` holds when the program starts: its scoped counters and buffers, its arrays at the launch memory, what it owes, the credit of what
    the others owe it. -/
def dealt (O₀ : Dev nD → CellTallies nD τ sig Ix) (m : (ℓ : Loc nD τ sig) → Buf Val ℓ) (c : Dev nD) : sProp 𝕄 :=
  iprop(boundary (c.tc : Thread nD τ) ∗ unscopedBufs c (fun b => m ((c.tc : Thread nD τ).loc b)) ∗ owes (c.tc : Thread nD τ) (O₀ c) ∅ ∗ launchCred O₀ c)

/-- The rights to assign levels, handed to every device apart, are spent on one assignment known to all. -/
theorem levels_assigned (L : GSem nD τ sig → Finset Ix) (lv : GSem nD τ sig → Ix → Lvl) (hL : ∀ g : GSem nD τ sig, g.1.2 ≠ .tc → L g = ∅) :
    (bigSep Finset.univ fun c : Dev nD => levels0 (Ix := Ix) (Val := Val) (Name := ℕ) (U := U) (Lvl := Lvl) (τ := τ) (sig := sig) c)
      ⊢ (|==> levAts L lv : sProp 𝕄) := by
  classical
  have hother : (bigSep Finset.univ fun d : Dev nD => bigSep (Finset.univ.erase Proc.tc) fun p => (coreLevAts ((d, p) : Thread nD τ) L lv : sProp 𝕄)) = BI.emp := by
    have hp : ∀ (d : Dev nD), ∀ p ∈ Finset.univ.erase (Proc.tc : Proc τ), (coreLevAts ((d, p) : Thread nD τ) L lv : sProp 𝕄) = BI.emp := fun d p hp => by
      unfold coreLevAts
      refine (bigSep_congr fun sm _ => ?_).trans (BI.bigSep_emp_const _)
      rw [hL (((d, p) : Thread nD τ), sm) (Finset.ne_of_mem_erase hp), BI.bigSep_empty]
    refine (bigSep_congr fun d _ => ?_).trans (BI.bigSep_emp_const _)
    exact (bigSep_congr fun p h => hp d p h).trans (BI.bigSep_emp_const _)
  have hall : (levAts L lv : sProp 𝕄) = bigSep Finset.univ fun d : Dev nD => coreLevAts (d.tc : Thread nD τ) L lv := by
    rw [show (levAts L lv : sProp 𝕄) = bigSep Finset.univ fun c : Thread nD τ => coreLevAts c L lv
        from (bigSep_univ_prod fun g : GSem nD τ sig => bigSep (L g) fun ι => levAt g ι (lv g ι)),
      bigSep_threads (fun c : Thread nD τ => coreLevAts c L lv), hother]
    exact equiv_iff.mp BI.sep_emp
  rw [hall]
  refine (bigSep_mono fun c _ => lev_assign_cells (c.tc : Thread nD τ) L lv).trans <| (BI.bigSep_bupd _ _).trans <| BI.bupd_mono ?_
  refine bigSep_mono fun c _ => ?_
  exact (show iprop((bigSep Finset.univ fun sm : SemLoc sig => levels ((c.tc : Thread nD τ), sm) (L ((c.tc : Thread nD τ), sm))) ∗ coreLevAts (c.tc : Thread nD τ) L lv)
        ⊢ (coreLevAts (c.tc : Thread nD τ) L lv : sProp 𝕄) from by
    iintro ⟨-, H⟩
    iexact H)

/-- The launch: if the holdings of all the devices make what each starts from (`T`), each device's program runs from that to `T'` at the region boundary
    owing nothing, and the final reads of `T'` give `QY`, then every weakly fair execution ends, in memories satisfying `QY` with the counter of every
    scoped semaphore at zero. -/
theorem run_cores {defs : Defs nD τ sig Val Λ} (𝒱 : Variants) (m : (ℓ : Loc nD τ sig) → Buf Val ℓ) (g : Dev nD → PrngReg)
    (main : Dev nD → Prog (TpuEff nD τ sig Val Λ .tc) PUnit) (O₀ : Dev nD → CellTallies nD τ sig Ix)
    (L : GSem nD τ sig → Finset Ix) (lv : GSem nD τ sig → Ix → Lvl) (hL : ∀ g : GSem nD τ sig, g.1.2 ≠ .tc → L g = ∅) (u₀ : U)
    (T T' : Dev nD → sProp 𝕄)
    (hinit : iprop((bigSep Finset.univ fun c => dealt O₀ m c) ∗ levAts L lv ∗ ownU u₀) ⊢ |={Set.univ}=> bigSep Finset.univ T)
    (hrun : ∀ c : Dev nD, T c ⊢ wp frame (wpE defs 𝒱 (c.tc : Thread nD τ) none) Set.univ (main c)
      (fun _ => iprop((T' c ∗ boundary (c.tc : Thread nD τ)) ∗ ∃ W, owes (c.tc : Thread nD τ) (0 : CellTallies nD τ sig Ix) W)))
    (QY : Dev nD → MemSt nD τ sig Val → Prop)
    (hfin : ∀ c (s' : Phys nD τ sig Val), iprop(T' c ∗ SI s') ⊢ |={Set.univ}=> iprop(⌜QY c s'.mem⌝ ∗ SI s'))
    {Q : PUnit × MemSt nD τ sig Val → Prop}
    (hQ : ∀ s : MemSt nD τ sig Val, (∀ c : Dev nD, QY c s) → (∀ g' : GSem nD τ sig, (g'.1.2 ≠ .tc ∨ g'.2.isScoped .tc = true) → s.sem g' = 0) → Q (⟨⟩, s)) :
    θ_run defs (onTc main) ⟨m, fun _ => 0, g⟩ Q := by
  classical
  have hcore : ∀ c : Dev nD, coreInit (Ix := Ix) (Name := ℕ) (U := U) (Lvl := Lvl) (owing O₀) 0 (⟨m, fun _ => 0, g⟩ : MemSt nD τ sig Val) (c.tc : Thread nD τ)
      ⊢ iprop(dealt O₀ m c ∗ levels0 c) := fun c => by
    refine (coreInit_boundary_owing O₀ m g c).trans ?_
    unfold dealt
    iintro ⟨Hb, Hub, -, HO, Hlv, -, Hcr⟩
    isplitr [Hlv]
    · isplitl [Hb]; · iexact Hb
      isplitl [Hub]; · iexact Hub
      isplitl [HO]; · iexact HO
      iexact Hcr
    · iexact Hlv
  refine (θ_run defs _ _).mono
    (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2))
    (adequate_tpu defs _ _ _
      (reflect_intro_fupd_tc_sems (X := Unit) 𝒱 (owing O₀) 0 (noBookings fun _ => le_rfl) (owing_of_ne O₀) u₀ (fun _ => T)
        (fun _ c => iprop(T' c ∗ boundary (c.tc : Thread nD τ))) (fun _ => iprop(emp)) Set.univ ?_ (fun _ c => ?_) fun _ => ?_))
  · -- the holdings of all the devices, the levels assigned
    refine (sep_mono_left ((bigSep_mono fun c _ => hcore c).trans (Entails.of_eq (bigSep_sep' _ _ _)))).trans ?_
    iintro ⟨⟨Hd, Hlv⟩, Hu⟩
    imod (levels_assigned L lv hL) $$ Hlv with Hla
    imod hinit $$ [Hd Hla Hu] with HT
    · isplitl [Hd]; · iexact Hd
      isplitl [Hla] <;> iassumption
    imodintro
    iexists ()
    isplitl [HT]; · iexact HT
    iempintro
  · -- one device's run
    refine (hrun c).trans (wp_mono _ _ _ fun _ => ?_)
    unfold post
    simp only [liftTc_tc]
    exact BI.Entails.refl _
  · -- the final reads
    iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Cert.Exchange

end
-- ==== Proof.Exchange.lean ====
/-
# Eight devices, each writing a piece into a slab of each of the others

The protocol both exchanges of the program run, over memrefs and semaphores given as parameters. Device `c` starts a copy of its own piece into its own
slab, then, for the offsets `1 … 7`, a transfer of its piece for the device that many places after it into slab `c` of that device; waits for the
seven sources to have been read, for the seven slabs to have landed, for its own copy. Nothing is waited for before the first transfer, so slab `c` of every device is
handed to device `c` when the program is launched.

Every one of the fifteen cells of a device is credited once: its schedule has one round of one duty.
-/
module

public import proofs.«01_k».proof.Proof.CoresLaunch
public import Idealize.ShloMosaic.Lib.Pipeline.Kit
public import Idealize.ShloMosaic.Lib.Rounds.Family
public import Idealize.ShloMosaic.Lib.SparseCore.Stream
public import Idealize.ShloMosaic.Lib.Tactic

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The devices. -/
abbrev D8 : Type := Dev 8
/-- A device's cells: seven whose credit says a source has been read, seven whose credit says a slab has landed, the local copy's. -/
abbrev K : Type := Fin 7 ⊕ Fin 7 ⊕ Unit
abbrev sent (j : Fin 7) : K := .inl j
abbrev got (j : Fin 7) : K := .inr (.inl j)
abbrev own : K := .inr (.inr ())

theorem back (c : D8) (j : Fin 7) : c + j.succ - j.succ = c := by revert c j; decide
theorem forth (c : D8) (j : Fin 7) : c - j.succ + j.succ = c := by revert c j; decide

variable {τ : Topo} {sig : RefSig} {Val : EltTy → Type}

/-- The ghost state: the windows' rounds, the exchange's. -/
abbrev UU (sig : RefSig) (τ : Topo) : Type := UR sig 8 τ × UR sig 8 τ

local notation "𝕄" => MT 8 τ sig Unit Val ℕ (UU sig τ) ℕ

abbrev EP : Emb (UR sig 8 τ) (MT 8 τ sig Unit Val ℕ (UU sig τ) ℕ) := embL
abbrev EX : Emb (UR sig 8 τ) (MT 8 τ sig Unit Val ℕ (UU sig τ) ℕ) := embR

/-- What an exchange is over: the semaphores, the piece for each device and the slab of each device, what the pieces and the slabs hold at launch, the
    share of a piece lent to the transfer at each offset, what a transfer credits. -/
structure Wiring (τ : Topo) (sig : RefSig) (Val : EltTy → Type) where
  s : Shape
  e : EltTy
  sem : K → DmaSem sig
  sem_inj : Function.Injective sem
  src : D8 → Memref sig .tc .hbm s e
  dst : D8 → Memref sig .tc .hbm s e
  fs : (c t : D8) → Buf Val ((src t).view.loc (c.tc : Thread 8 τ))
  fd : (c i : D8) → Buf Val ((dst i).view.loc (c.tc : Thread 8 τ))
  q : Fin 8 → PosShare TreeShare
  N : ℕ
  N_pos : 0 < N
  hN : ∀ i, (dst i).view.dmaCredit = N

namespace Wiring

variable (X : Wiring τ sig Val)

abbrev cell (ck : D8 × K) : GSem 8 τ sig := ((ck.1.tc : Thread 8 τ), .dma (X.sem ck.2))

theorem cell_inj : Function.Injective X.cell := by
  rintro ⟨c, k⟩ ⟨c', k'⟩ h
  have h1 : c = c' := congrArg (fun g : GSem 8 τ sig => g.1.1) h
  have h2 : X.sem k = X.sem k' := SemLoc.dma.inj (congrArg Prod.snd h)
  rw [h1, X.sem_inj h2]

/-- Device `c`'s piece for device `t`, at the share lent at offset `r`. -/
def piece (c t : D8) (r : Fin 8) : sProp 𝕄 := (X.src t).view.loc (c.tc : Thread 8 τ) ↦[(X.src t).view.set]{X.q r} X.fs c t
/-- Slab `i` of device `c` as the launch finds it, -/
def slab (c i : D8) : sProp 𝕄 := (X.dst i).view.loc (c.tc : Thread 8 τ) ↦[(X.dst i).view.set]{fullShare} X.fd c i
/-- what is written over it by device `i`'s piece for `c`, -/
def landedAt (c i : D8) : Buf Val ((X.dst i).view.loc (c.tc : Thread 8 τ)) :=
  (X.dst i).view.write Val (X.fd c i) ((X.src c).view.read Val (X.fs i c)) Finset.univ
/-- and the slab so written. -/
def landed (c i : D8) : sProp 𝕄 := (X.dst i).view.loc (c.tc : Thread 8 τ) ↦[(X.dst i).view.set]{fullShare} X.landedAt c i

instance (c t : D8) (r : Fin 8) : BI.Storable (upEmb : UEmb _ 𝕄) (X.piece c t r) := by unfold piece; infer_instance
instance (c i : D8) : BI.Storable (upEmb : UEmb _ 𝕄) (X.landed c i) := by unfold landed; infer_instance

/-- What a cell's credit hands to its owner. -/
def pay : D8 × K → sProp 𝕄
  | (c, .inl j) => X.piece c (c + j.succ) j.succ
  | (c, .inr (.inl j)) => X.landed c (c - j.succ)
  | (c, .inr (.inr _)) => iprop(X.landed c c ∗ X.piece c c 0)

instance (ck : D8 × K) : BI.Storable (upEmb : UEmb _ 𝕄) (X.pay ck) := by
  obtain ⟨c, j | j | _⟩ := ck <;> (unfold pay; infer_instance)

/-- One round, one duty, on each of the cells. -/
def sched : Rounds.Schedule (GSem 8 τ sig) Unit 𝕄 where
  duties g r := by
    classical
    exact if r = 0 ∧ ∃ ck, X.cell ck = g then {()} else ∅
  amount _ _ _ := X.N
  payload g _ _ := Function.extend X.cell X.pay (fun _ => iprop(emp)) g
  amount_pos _ _ _ _ := X.N_pos

theorem duties_zero (ck : D8 × K) : X.sched.duties (X.cell ck) 0 = {()} := by
  dsimp only [sched]; exact if_pos ⟨rfl, ck, rfl⟩
theorem duties_later (g : GSem 8 τ sig) (r : ℕ) (hr : 1 ≤ r) : X.sched.duties g r = ∅ := by
  dsimp only [sched]; exact if_neg fun h => by omega
theorem duty_mem (ck : D8 × K) : () ∈ X.sched.duties (X.cell ck) 0 := by rw [duties_zero]; exact Finset.mem_singleton_self _
theorem payload_at (ck : D8 × K) (r : ℕ) (u : Unit) : X.sched.payload (X.cell ck) r u = X.pay ck := by
  dsimp only [sched]; exact X.cell_inj.extend_apply _ _ _
theorem expect_at (ck : D8 × K) : X.sched.expect (X.cell ck) 0 = X.N := by
  unfold Schedule.expect Schedule.amountOf; rw [duties_zero, Finset.sum_singleton]; rfl
theorem rest_at (ck : D8 × K) :
    (bigSep (X.sched.duties (X.cell ck) 0 \ ∅) fun u => X.sched.payload (X.cell ck) 0 u) = X.pay ck := by
  rw [Finset.sdiff_empty, duties_zero, bigSep_singleton, payload_at]

instance payload_storable (g : GSem 8 τ sig) (r : ℕ) (u : Unit) : BI.Storable (upEmb : UEmb _ 𝕄) (X.sched.payload g r u) := by
  classical
  by_cases h : ∃ ck, X.cell ck = g
  · obtain ⟨ck, rfl⟩ := h
    rw [payload_at]; infer_instance
  · rw [show X.sched.payload g r u = iprop(emp) from by dsimp only [sched]; exact Function.extend_apply' _ _ _ h]; infer_instance

/-! ## What is owed -/

/-- What device `c` owes before its transfer number `n`: the credit of the slabs its later transfers land in. -/
def due (c : D8) (n : ℕ) : CellTallies 8 τ sig Unit :=
  ∑ j ∈ Finset.univ.filter (fun j : Fin 7 => n ≤ j.val), tallyAt (X.cell (c + j.succ, got j)) () X.N

theorem due_step (c : D8) (j : Fin 7) : X.due c j.val = X.due c (j.val + 1) + tallyAt (X.cell (c + j.succ, got j)) () X.N := by
  unfold due
  rw [show (Finset.univ.filter fun i : Fin 7 => j.val ≤ i.val) = insert j (Finset.univ.filter fun i : Fin 7 => j.val + 1 ≤ i.val) from by
    ext i; simp only [Finset.mem_filter, Finset.mem_univ, true_and, Finset.mem_insert, Fin.ext_iff]; omega,
    Finset.sum_insert (by simp), add_comm]
theorem due_end (c : D8) : X.due c 7 = 0 := by
  unfold due
  rw [show (Finset.univ.filter fun i : Fin 7 => 7 ≤ i.val) = ∅ from by ext i; simp, Finset.sum_empty]

/-- The tallies `O` owed, whatever has been waited for. -/
def owing' (c : D8) (O : CellTallies 8 τ sig Unit) : sProp 𝕄 := iprop(∃ W, owes (c.tc : Thread 8 τ) O W)

/-! ## What all devices know, what each holds -/

/-- The cells' invariants and that their rounds are open. -/
def known (κ : D8 × K → ℕ) : sProp 𝕄 :=
  iprop((bigSep Finset.univ fun ck : D8 × K => cellInv EX X.sched (κ ck) (X.cell ck)) ∗ bigSep Finset.univ fun ck : D8 × K => reached EX (X.cell ck) 0)

instance known_persistent (κ : D8 × K → ℕ) : BI.Persistent (X.known κ) := by unfold known; infer_instance

theorem known_inv (κ : D8 × K → ℕ) (ck : D8 × K) : X.known κ ⊢ cellInv EX X.sched (κ ck) (X.cell ck) := by
  unfold known
  iintro ⟨H, -⟩
  iapply (show (bigSep Finset.univ fun ck : D8 × K => (cellInv EX X.sched (κ ck) (X.cell ck) : sProp 𝕄)) ⊢ cellInv EX X.sched (κ ck) (X.cell ck) from
    bigSep_elim (Finset.mem_univ ck))
  iexact H
theorem known_reached (κ : D8 × K → ℕ) (ck : D8 × K) : X.known κ ⊢ reached EX (X.cell ck) 0 := by
  unfold known
  iintro ⟨-, H⟩
  iapply (show (bigSep Finset.univ fun ck : D8 × K => (reached EX (X.cell ck) 0 : sProp 𝕄)) ⊢ reached EX (X.cell ck) 0 from bigSep_elim (Finset.mem_univ ck))
  iexact H

/-- What the transfer number `j` of device `c` consumes. -/
def outgoing (c : D8) (j : Fin 7) : sProp 𝕄 :=
  iprop(X.piece c (c + j.succ) j.succ ∗ X.slab (c + j.succ) c ∗ dutyTok EX (X.cell (c, sent j)) 0 () ∗ dutyTok EX (X.cell (c + j.succ, got j)) 0 ())
/-- What its own copy consumes. -/
def local' (c : D8) : sProp 𝕄 := iprop(X.piece c c 0 ∗ X.slab c c ∗ dutyTok EX (X.cell (c, own)) 0 ())

/-! ## The steps -/

section Steps

variable {Λ : Labels} {defs : Defs 8 τ sig Val Λ} {𝒱 : Variants} {α : Type}
  {k : PUnit → Prog (TpuEff 8 τ sig Val Λ .tc) α} (κ : D8 × K → ℕ) (c : D8)

theorem step_own {Post : α → sProp 𝕄} {sM dM : Memref sig .tc .hbm X.s X.e} {sm : SemLoc sig} (hs : sM = X.src c) (hd : dM = X.dst c) (hm : sm = .dma (X.sem own))
    {hsrc : sM.view.WordExact} {hdst : dM.view.WordExact} {hsem : DmaTarget.Typed (nD := 8) (τ := τ) .hbm sm (.here (p := .tc) dM)} :
    iprop(X.known κ ∗ X.local' c)
      ⊢ iprop((cred (tallyAt (X.cell (c, own)) () X.N) -∗ wp frame (wpE defs 𝒱 (c.tc : Thread 8 τ) none) Set.univ (k ⟨⟩) Post)
          -∗ wp frame (wpE defs 𝒱 (c.tc : Thread 8 τ) none) Set.univ (.op (.enqueueDma sM (.here dM) sm hsrc hdst hsem) k) Post) := by
  subst hs hd hm
  unfold local' piece slab
  iintro ⟨#HK, Hp, Hs, Ht⟩
  iintro Hk
  iapply (Rounds.wp_copy_pointsTo 𝒱 EX X.sched (c.tc : Thread 8 τ) none (κ := κ (c, own)) (r := 0) (d := ()) (q := X.q 0)
    (fs := X.fs c c) (fd := X.fd c c) (X.duty_mem (c, own)) () X.N (X.hN c) rfl
    (by rw [X.payload_at (c, own)]; exact BI.Entails.refl _)) $$ [Hp Hs Ht]
  · isplitr; · iapply (X.known_inv κ (c, own)); iexact HK
    isplitl [Hp]; · iexact Hp
    isplitl [Hs]; · iexact Hs
    isplitl [Ht]; · iexact Ht
    iapply (X.known_reached κ (c, own)); iexact HK
  iexact Hk

theorem step_send (j : Fin 7) {Post : α → sProp 𝕄} {n : D8} {sM : Memref sig .tc .hbm X.s X.e} {dM : Memref sig (n.tc : Thread 8 τ).2.kind .hbm X.s X.e} {sS sR : SemLoc sig}
    (hn : n = c + j.succ) (hs : sM = X.src (c + j.succ)) (hd : dM = X.dst c) (hS : sS = .dma (X.sem (sent j))) (hR : sR = .dma (X.sem (got j)))
    {hsc : dM.view.ref.isScScratch = false} {hsrc : sM.view.WordExact} {hdst : dM.view.WordExact}
    {hsem : DmaTarget.Typed .hbm sR (.remote (n.tc : Thread 8 τ) dM sS hsc)} :
    iprop(X.known κ ∗ X.outgoing c j ∗ owing' c (X.due c j.val))
      ⊢ iprop(((cred (tallyAt (X.cell (c, sent j)) () X.N) ∗ owing' c (X.due c (j.val + 1))) -∗ wp frame (wpE defs 𝒱 (c.tc : Thread 8 τ) none) Set.univ (k ⟨⟩) Post)
          -∗ wp frame (wpE defs 𝒱 (c.tc : Thread 8 τ) none) Set.univ
              (.op (.enqueueDma sM (.remote (n.tc : Thread 8 τ) dM sS hsc) sR hsrc hdst hsem) k) Post) := by
  subst hn hs hd hS hR
  unfold outgoing owing' piece slab
  iintro ⟨#HK, ⟨Hp, Hs, HtS, HtR⟩, ⟨%W, HO⟩⟩
  iintro Hk
  iapply (Rounds.wp_send_pointsTo 𝒱 EX X.sched (c.tc : Thread 8 τ) none (κ₁ := κ (c, sent j)) (κ₂ := κ (c + j.succ, got j)) (r₁ := 0) (r₂ := 0) (d₁ := ()) (d₂ := ())
    (q := X.q j.succ) (fs := X.fs c (c + j.succ)) (fd := X.fd (c + j.succ) c) (X.duty_mem (c, sent j)) (X.duty_mem (c + j.succ, got j)) () () X.N (X.hN c) rfl rfl
    (X.due c (j.val + 1)) (X.due_step c j) (W := W) (by rw [X.payload_at (c, sent j)]; exact BI.Entails.refl _)
    (by
      rw [X.payload_at (c + j.succ, got j)]
      show _ ⊢ X.landed (c + j.succ) (c + j.succ - j.succ)
      rw [back]; exact BI.Entails.refl _)) $$ [Hp Hs HO HtS HtR]
  · isplitr; · iapply (X.known_inv κ (c, sent j)); iexact HK
    isplitr; · iapply (X.known_inv κ (c + j.succ, got j)); iexact HK
    isplitl [Hp]; · iexact Hp
    isplitl [Hs]; · iexact Hs
    isplitl [HO]; · iexact HO
    isplitl [HtS]; · iexact HtS
    isplitr; · iapply (X.known_reached κ (c, sent j)); iexact HK
    isplitl [HtR]; · iexact HtR
    iapply (X.known_reached κ (c + j.succ, got j)); iexact HK
  iintro ⟨Hc, HO⟩
  iapply Hk
  isplitl [Hc]; · iexact Hc
  iexists W; iexact HO

theorem step_wait (i : K) {Post : α → sProp 𝕄} {w : TpuEff 8 τ sig Val Λ .tc PUnit}
    (hw : ∀ P : PUnit → sProp 𝕄, wpE defs 𝒱 (c.tc : Thread 8 τ) none Set.univ w P = waitSpec (c.tc : Thread 8 τ) Set.univ (.dma (X.sem i)) X.N P) :
    iprop(X.known κ ∗ cred (tallyAt (X.cell (c, i)) () X.N) ∗ owing' c 0 ∗ atPos EX (X.cell (c, i)) 0 ∅ 0)
      ⊢ iprop(((owing' c 0 ∗ atPos EX (X.cell (c, i)) 1 ∅ 0 ∗ X.pay (c, i)) -∗ wp frame (wpE defs 𝒱 (c.tc : Thread 8 τ) none) Set.univ (k ⟨⟩) Post)
          -∗ wp frame (wpE defs 𝒱 (c.tc : Thread 8 τ) none) Set.univ (.op w k) Post) := by
  unfold owing'
  iintro ⟨#HK, Hc, ⟨%W, HO⟩, Hat⟩
  iintro Hk
  iapply (Rounds.wp_wait_rest_token 𝒱 EX X.sched (c.tc : Thread 8 τ) none (κ := κ (c, i)) hw (Set.mem_univ _) () (O := 0) (W := W) (R := 0) (m := 0) (T := ∅)
    (by rw [Nat.zero_add]; exact (X.expect_at (c, i)).symm)) $$ [Hc HO Hat]
  · isplitr; · iapply (X.known_inv κ (c, i)); iexact HK
    isplitl [Hc]; · iexact Hc
    isplitl [HO]; · iexact HO
    isplitr; · rw [MayWait_zero]; iempintro
    iexact Hat
  iintro ⟨HO, Hat, -, Hp⟩
  ihave Hp := (Entails.of_eq (X.rest_at (c, i))) $$ Hp
  iapply Hk
  isplitl [HO]; · iexists _; iexact HO
  isplitl [Hat]; · iexact Hat
  iexact Hp

end Steps

end Wiring

end Cert.Exchange

end
-- ==== Proof.Deal.lean ====
/-
# What the devices of an exchange are dealt

From the counters at zero, the launch element of the rounds, the pieces and slabs of every device and what each owes: every device gets the records of all cells,
the right to each of its own cells, for each of its transfers the piece it reads, the slab it writes on the device it writes to and the two rights to credit, and the credit
its own waits for landed slabs consume. The slabs, the rights of the landing cells and the credit go round by the offset; the rest stays where it is.
-/
module

public import proofs.«01_k».proof.Proof.Exchange

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (launchCred launchCred_of_sum)

theorem stay (c : D8) : c + (0 : Fin 8) = c := by revert c; decide
theorem stay' (c : D8) : c - (0 : Fin 8) = c := by revert c; decide

/-- The slab written at an offset, and which offset writes it. -/
def turn : D8 × Fin 8 ≃ D8 × D8 where
  toFun cr := (cr.1 + cr.2, cr.1)
  invFun di := (di.2, di.1 - di.2)
  left_inv := by intro ⟨c, r⟩; revert c r; decide
  right_inv := by intro ⟨d, i⟩; revert d i; decide
/-- The same over the transfers to other devices, keeping the offset. -/
def turnTo : D8 × Fin 7 ≃ D8 × Fin 7 where
  toFun cj := (cj.1 + cj.2.succ, cj.2)
  invFun dj := (dj.1 - dj.2.succ, dj.2)
  left_inv := by intro ⟨c, r⟩; revert c r; decide
  right_inv := by intro ⟨d, i⟩; revert d i; decide

variable {τ : Topo} {sig : RefSig} {Val : EltTy → Type}

local notation "𝕄" => MT 8 τ sig Unit Val ℕ (UU sig τ) ℕ

/-- What everyone may know is known beside each item of a family. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  iintro ⟨#HR, H⟩
  ihave HRs := (BI.bigSep_of_persistent S R) $$ HR
  iapply ((Entails.of_eq (BI.bigSep_sep' S (fun _ => R) Φ).symm).trans (bigSep_mono h))
  isplitl [HRs]; · iexact HRs
  iexact H

/-- The credit of a sum of tallies, one by one. -/
theorem cred_family {I : Type} [DecidableEq I] (S : Finset I) (f : I → CellTallies 8 τ sig Unit) :
    (cred (∑ i ∈ S, f i) : sProp 𝕄) = bigSep S fun i => cred (f i) := by
  refine Finset.induction_on S ?_ fun i T hi ih => ?_
  · rw [Finset.sum_empty, bigSep_empty]; exact cred_zero
  · rw [Finset.sum_insert hi, show (cred (f i + ∑ x ∈ T, f x) : sProp 𝕄) = iprop(cred (f i) ∗ cred (∑ x ∈ T, f x)) from
      Entails.antisymm (cred_add _ _).1 (cred_add _ _).2, ih]
    exact (show (bigSep (insert i T) fun i => (cred (f i) : sProp 𝕄)) = iprop(cred (f i) ∗ bigSep T fun i => cred (f i)) from bigSep_insert hi).symm

namespace Wiring

variable (X : Wiring τ sig Val)

def cells : Finset (GSem 8 τ sig) := Finset.univ.map ⟨X.cell, X.cell_inj⟩
def toks : Finset (GSem 8 τ sig × ℕ × Unit) := Finset.univ.map ⟨fun ck : D8 × K => (X.cell ck, 0, ()), fun _ _ h => X.cell_inj (congrArg Prod.fst h)⟩

/-- What a device starts the exchange with, next to what all know. -/
def share (c : D8) : sProp 𝕄 :=
  iprop((bigSep Finset.univ fun k : K => atPos EX (X.cell (c, k)) 0 ∅ 0) ∗ X.local' c ∗ (bigSep Finset.univ fun j : Fin 7 => X.outgoing c j)
    ∗ (bigSep Finset.univ fun j : Fin 7 => cred (tallyAt (X.cell (c, got j)) () X.N)) ∗ owing' c (X.due c 0))

/-- The same but for what is owed. -/
def apart (c : D8) : sProp 𝕄 :=
  iprop((bigSep Finset.univ fun k : K => atPos EX (X.cell (c, k)) 0 ∅ 0) ∗ X.local' c ∗ (bigSep Finset.univ fun j : Fin 7 => X.outgoing c j)
    ∗ (bigSep Finset.univ fun j : Fin 7 => cred (tallyAt (X.cell (c, got j)) () X.N)))

theorem share_intro (c : D8) : iprop(X.apart c ∗ owing' c (X.due c 0)) ⊢ (X.share c : sProp 𝕄) := by
  unfold apart share
  iintro ⟨⟨H1, H2, H3, H4⟩, HO⟩
  isplitl [H1]; · iexact H1
  isplitl [H2]; · iexact H2
  isplitl [H3]; · iexact H3
  isplitl [H4] <;> iassumption

theorem share_elim (c : D8) : (X.share c : sProp 𝕄) ⊢ iprop(X.apart c ∗ owing' c (X.due c 0)) := by
  unfold apart share
  iintro ⟨H1, H2, H3, H4, HO⟩
  isplitr [HO]
  · isplitl [H1]; · iexact H1
    isplitl [H2]; · iexact H2
    isplitl [H3] <;> iassumption
  iexact HO

theorem slabs_turned :
    (bigSep Finset.univ fun c : D8 => bigSep Finset.univ fun i : D8 => X.slab c i)
      = iprop((bigSep Finset.univ fun c : D8 => X.slab c c) ∗ bigSep Finset.univ fun c : D8 => bigSep Finset.univ fun j : Fin 7 => X.slab (c + j.succ) c) := by
  rw [← bigSep_univ_prod (fun di : D8 × D8 => X.slab di.1 di.2), bigSep_univ_equiv turn, bigSep_univ_prod, ← BI.bigSep_sep']
  refine bigSep_congr fun c _ => ?_
  rw [bigSep_univ_succ]
  exact congrArg (fun d => iprop(X.slab d c ∗ bigSep Finset.univ fun j : Fin 7 => X.slab (c + j.succ) c)) (stay c)

theorem tokens_dealt :
    (bigSep X.toks fun x => (dutyTok EX x.1 x.2.1 x.2.2 : sProp 𝕄))
      = iprop((bigSep Finset.univ fun c : D8 => bigSep Finset.univ fun j : Fin 7 => dutyTok EX (X.cell (c, sent j)) 0 ())
          ∗ (bigSep Finset.univ fun c : D8 => bigSep Finset.univ fun j : Fin 7 => dutyTok EX (X.cell (c + j.succ, got j)) 0 ())
          ∗ bigSep Finset.univ fun c : D8 => dutyTok EX (X.cell (c, own)) 0 ()) := by
  have hgot : (bigSep Finset.univ fun c : D8 => bigSep Finset.univ fun j : Fin 7 => (dutyTok EX (X.cell (c, got j)) 0 () : sProp 𝕄))
      = bigSep Finset.univ fun c : D8 => bigSep Finset.univ fun j : Fin 7 => dutyTok EX (X.cell (c + j.succ, got j)) 0 () := by
    rw [← bigSep_univ_prod (fun dj : D8 × Fin 7 => (dutyTok EX (X.cell (dj.1, got dj.2)) 0 () : sProp 𝕄)), bigSep_univ_equiv turnTo, bigSep_univ_prod]; rfl
  rw [← hgot]
  unfold toks
  rw [bigSep_map, bigSep_univ_prod, ← BI.bigSep_sep', ← BI.bigSep_sep']
  refine bigSep_congr fun c _ => ?_
  refine (bigSep_univ_sum _).trans ?_
  rw [bigSep_univ_sum]
  rw [show (Finset.univ : Finset Unit) = {()} from rfl, bigSep_singleton]
  rfl

theorem cells_over (Φ : GSem 8 τ sig → sProp 𝕄) : bigSep X.cells Φ = bigSep Finset.univ fun ck : D8 × K => Φ (X.cell ck) := by
  unfold cells; rw [bigSep_map]; rfl

/-- What the slabs landing on device `c` credit. -/
def arriving (c : D8) : CellTallies 8 τ sig Unit := ∑ j : Fin 7, tallyAt (X.cell (c, got j)) () X.N

theorem due_all (c : D8) : X.due c 0 = ∑ j : Fin 7, tallyAt (X.cell (c + j.succ, got j)) () X.N := by
  unfold due; rw [Finset.filter_true_of_mem fun _ _ => Nat.zero_le _]

theorem credit_dealt (c : D8) :
    (launchCred (fun d => X.due d 0) c : sProp 𝕄) = bigSep Finset.univ fun j : Fin 7 => cred (tallyAt (X.cell (c, got j)) () X.N) := by
  rw [launchCred_of_sum (fun d => X.due d 0) X.arriving ?_ ?_ c]
  · exact cred_family _ _
  · simp only [due_all, arriving]
    rw [← Fintype.sum_prod_type' (fun (c : D8) (j : Fin 7) => tallyAt (X.cell (c + j.succ, got j)) () X.N),
      ← Fintype.sum_prod_type' (fun (c : D8) (j : Fin 7) => tallyAt (X.cell (c, got j)) () X.N)]
    exact Equiv.sum_comp turnTo fun dj : D8 × Fin 7 => tallyAt (X.cell (dj.1, got dj.2)) () X.N
  · intro d g hg
    by_contra hne
    refine hg ?_
    unfold arriving
    rw [Finset.sum_apply]
    refine Finset.sum_eq_zero fun j _ => ?_
    have h : g ≠ X.cell (d, got j) := fun h => hne (by rw [h])
    exact tallyAt_ne_cell h _ _

/-- The deal. -/
theorem dealt :
    iprop((bigSep Finset.univ fun c : D8 => bigSep Finset.univ fun k : K => semVal (X.cell (c, k)) 0) ∗ BI.own (EX (initOf X.cells X.toks))
        ∗ (bigSep Finset.univ fun c : D8 => bigSep Finset.univ fun r : Fin 8 => X.piece c (c + r) r)
        ∗ (bigSep Finset.univ fun c : D8 => bigSep Finset.univ fun i : D8 => X.slab c i)
        ∗ (bigSep Finset.univ fun c : D8 => launchCred (fun d => X.due d 0) c) ∗ bigSep Finset.univ fun c : D8 => owing' c (X.due c 0))
      ⊢ |={Set.univ}=> bigSep Finset.univ fun c : D8 => iprop(∃ κ, X.known κ ∗ X.share c) := by
  iintro ⟨Hv, HX, Hp, Hs, Hc, HO⟩
  imod (Rounds.fund EX X.sched X.cells X.toks) $$ HX with ⟨Hst, Hr, Hat, Htok⟩
  ihave Hst := (Entails.of_eq (X.cells_over _)) $$ Hst
  ihave Hr := (Entails.of_eq (X.cells_over _)) $$ Hr
  ihave Hat := (Entails.of_eq ((X.cells_over _).trans (bigSep_univ_prod _))) $$ Hat
  ihave Htok := (Entails.of_eq X.tokens_dealt) $$ Htok
  icases Htok with ⟨HtS, HtR, HtO⟩
  ihave Hs := (Entails.of_eq X.slabs_turned) $$ Hs
  icases Hs with ⟨Hs0, Hs⟩
  ihave Hv := (Entails.of_eq (bigSep_univ_prod (fun ck : D8 × K => (semVal (X.cell ck) 0 : sProp 𝕄))).symm) $$ Hv
  imod (show iprop((bigSep Finset.univ fun ck : D8 × K => semVal (X.cell ck) 0) ∗ bigSep Finset.univ fun ck : D8 × K => roundState EX X.sched (X.cell ck) 0)
      ⊢ (|={Set.univ}=> bigSep Finset.univ fun ck : D8 × K => iprop(∃ κ : ℕ, cellInv EX X.sched κ (X.cell ck)) : sProp 𝕄) from by
        rw [← BI.bigSep_sep']
        exact (bigSep_mono fun ck _ => (Rounds.body_intro EX X.sched (X.cell ck)).trans inv_alloc).trans (bigSep_fupd _ _)) $$ [Hv Hst] with Hinv
  · isplitl [Hv] <;> iassumption
  ihave HK := (BI.bigSep_exists_pi Finset.univ (fun (ck : D8 × K) (κ : ℕ) => (cellInv EX X.sched κ (X.cell ck) : sProp 𝕄))) $$ Hinv
  icases HK with ⟨%κ, #HI⟩
  icases Hr with #Hr
  imodintro
  have hpiece : (bigSep Finset.univ fun c : D8 => bigSep Finset.univ fun r : Fin 8 => X.piece c (c + r) r)
      = iprop((bigSep Finset.univ fun c : D8 => X.piece c c 0) ∗ bigSep Finset.univ fun c : D8 => bigSep Finset.univ fun j : Fin 7 => X.piece c (c + j.succ) j.succ) := by
    rw [← BI.bigSep_sep']
    refine bigSep_congr fun c _ => ?_
    rw [bigSep_univ_succ, stay]
  ihave Hp := (Entails.of_eq hpiece) $$ Hp
  icases Hp with ⟨Hp0, Hp⟩
  ihave Hc := (Entails.of_eq (bigSep_congr fun c _ => X.credit_dealt c)) $$ Hc
  iapply (bigSep_beside (R := X.known κ) (Φ := X.share) fun c _ => by iintro ⟨#HK, H⟩; iexists κ; isplitr; · iexact HK
                                                                      iexact H)
  isplitr
  · unfold known; isplitl; · iexact HI
    iexact Hr
  · unfold share local' outgoing
    simp only [BI.bigSep_sep']
    isplitl [Hat]; · iexact Hat
    isplitl [Hp0 Hs0 HtO]
    · isplitl [Hp0]; · iexact Hp0
      isplitl [Hs0]; · iexact Hs0
      iexact HtO
    isplitl [Hp Hs HtS HtR]
    · isplitl [Hp]; · iexact Hp
      isplitl [Hs]; · iexact Hs
      isplitl [HtS]; · iexact HtS
      iexact HtR
    isplitl [Hc]; · iexact Hc
    iexact HO

/-! ## What the exchange leaves -/

/-- All counters back at zero, every piece and every slab with its device again, the slabs written. -/
def finished (c : D8) : sProp 𝕄 :=
  iprop((bigSep Finset.univ fun k : K => semVal (X.cell (c, k)) 0) ∗ (bigSep Finset.univ fun r : Fin 8 => X.piece c (c + r) r)
    ∗ bigSep Finset.univ fun i : D8 => X.landed c i)

theorem counters_back (κ : D8 × K → ℕ) (c : D8) :
    iprop(X.known κ ∗ bigSep Finset.univ fun k : K => atPos EX (X.cell (c, k)) 1 ∅ 0)
      ⊢ |={Set.univ}=> (bigSep Finset.univ fun k : K => semVal (X.cell (c, k)) 0 : sProp 𝕄) := by
  iintro ⟨#HK, Hat⟩
  iapply (Rounds.cells_close EX X.sched Finset.univ (fun k : K => X.cell (c, k)) (fun k => κ (c, k)) (fun _ _ => Set.mem_univ _) (fun _ _ h => h)
    (fun _ => 1) (fun _ _ r hr => X.duties_later _ r hr))
  iapply (bigSep_beside (R := X.known κ) (Φ := fun k : K => (atPos EX (X.cell (c, k)) 1 ∅ 0 : sProp 𝕄)) fun k _ => by
    iintro ⟨#HK, H⟩
    isplitr; · iapply (X.known_inv κ (c, k)); iexact HK
    iexact H)
  isplitr; · iexact HK
  iexact Hat

/-- Which device a landed slab is from, by the offset. -/
def from' (c : D8) : Fin 8 ≃ D8 where
  toFun r := c - r
  invFun i := c - i
  left_inv := by intro r; revert c r; decide
  right_inv := by intro i; revert c i; decide

theorem finish (κ : D8 × K → ℕ) (c : D8) :
    iprop(X.known κ ∗ (bigSep Finset.univ fun k : K => iprop(atPos EX (X.cell (c, k)) 1 ∅ 0 ∗ X.pay (c, k)))) ⊢ |={Set.univ}=> X.finished c := by
  have hsplit : (bigSep Finset.univ fun k : K => X.pay (c, k))
      = iprop((bigSep Finset.univ fun j : Fin 7 => X.piece c (c + j.succ) j.succ) ∗ (bigSep Finset.univ fun j : Fin 7 => X.landed c (c - j.succ))
          ∗ X.landed c c ∗ X.piece c c 0) := by
    refine (bigSep_univ_sum _).trans ?_
    rw [bigSep_univ_sum, show (Finset.univ : Finset Unit) = {()} from rfl, bigSep_singleton]
    rfl
  have hp : (bigSep Finset.univ fun r : Fin 8 => X.piece c (c + r) r)
      = iprop(X.piece c c 0 ∗ bigSep Finset.univ fun j : Fin 7 => X.piece c (c + j.succ) j.succ) := by
    rw [bigSep_univ_succ, stay]
  have hl : (bigSep Finset.univ fun i : D8 => X.landed c i) = iprop(X.landed c c ∗ bigSep Finset.univ fun j : Fin 7 => X.landed c (c - j.succ)) := by
    rw [bigSep_univ_equiv (from' c), bigSep_univ_succ]
    exact congrArg (fun d => iprop(X.landed c d ∗ bigSep Finset.univ fun j : Fin 7 => X.landed c (c - j.succ))) (stay' c)
  rw [BI.bigSep_sep', hsplit]
  unfold finished
  rw [hp, hl]
  iintro ⟨#HK, Hat, Hps, Hls, Hl0, Hp0⟩
  imod (X.counters_back κ c) $$ [Hat] with Hv
  · isplitr; · iexact HK
    iexact Hat
  imodintro
  isplitl [Hv]; · iexact Hv
  isplitl [Hp0 Hps]
  · isplitl [Hp0]; · iexact Hp0
    iexact Hps
  isplitl [Hl0]; · iexact Hl0
  iexact Hls

end Wiring

/-- A family over a device's cells, cell by cell. -/
theorem bigSep_cells (Φ : K → sProp 𝕄) :
    bigSep Finset.univ Φ = iprop((Φ (sent 0) ∗ Φ (sent 1) ∗ Φ (sent 2) ∗ Φ (sent 3) ∗ Φ (sent 4) ∗ Φ (sent 5) ∗ Φ (sent 6))
      ∗ (Φ (got 0) ∗ Φ (got 1) ∗ Φ (got 2) ∗ Φ (got 3) ∗ Φ (got 4) ∗ Φ (got 5) ∗ Φ (got 6)) ∗ Φ own) := by
  have h7 (Ψ : Fin 7 → sProp 𝕄) : bigSep Finset.univ Ψ = iprop(Ψ 0 ∗ Ψ 1 ∗ Ψ 2 ∗ Ψ 3 ∗ Ψ 4 ∗ Ψ 5 ∗ Ψ 6) :=
    bigSep_univ_eq_bigSepL [0, 1, 2, 3, 4, 5, 6] (by decide) (by decide) Ψ
  refine (bigSep_univ_sum _).trans ?_
  rw [bigSep_univ_sum, show (Finset.univ : Finset Unit) = {()} from rfl, bigSep_singleton, h7, h7]
  rfl
/-- A family over the seven offsets, one by one. -/
theorem bigSep_offsets (Ψ : Fin 7 → sProp 𝕄) : bigSep Finset.univ Ψ = iprop(Ψ 0 ∗ Ψ 1 ∗ Ψ 2 ∗ Ψ 3 ∗ Ψ 4 ∗ Ψ 5 ∗ Ψ 6) :=
  bigSep_univ_eq_bigSepL [0, 1, 2, 3, 4, 5, 6] (by decide) (by decide) Ψ

end Cert.Exchange

end
-- ==== Proof.ScatterData.lean ====
/-
# The slabs of the scatter's two arrays, and what the scatter leaves

Slab `i` of an array is its elements with first coordinate `i`, so the eight slabs are the array. Slab `i` of device `c`'s result ends as slab `c` of device `i`'s argument.
-/
module

public import proofs.«01_k».proof.Proof.Scatter

@[expose] public section

set_option Elab.async false

noncomputable section

namespace Cert.Scatter

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.KernelIdeal Cert.KernelIdeal.Gen

variable {F : FTy → Type} [FloatOps F]

local notation "𝕄" => MT nD τ sig Unit (Elt F) ℕ (UU sig τ) ℕ

abbrev Ix8 : Type := S8x6800x1024.Idx

/-- The device a first coordinate names. -/
def devOf (x : Ix8) : D8 := ⟨(x 0).val, (x 0).isLt⟩

theorem off1_zero (t : D8) : k0_off1 t = ![t.val, 0, 0] := by rw [k0_off1_eq]; revert t; decide +kernel

/-- The rectangle of slab `t`. -/
abbrev slabRect (t : D8) : Rect S8x6800x1024 := Rect.unit (s := S8x6800x1024) (k0_off1 t) S1x6800x1024.size (k0_off1_inb t)

/-- Where an element of slab `t` sits. -/
def place (t : D8) (y : S6800x1024.Idx) : Ix8 := (slabRect t).emb (Shape.reshapeEquiv squeezes_S1x6800x1024_S6800x1024.numel_eq y)

theorem emb_A (t : D8) (y : S6800x1024.Idx) : (slabOf A t).view.emb y = place t y := rfl
theorem emb_B (t : D8) (y : S6800x1024.Idx) : (slabOf B t).view.emb y = place t y := rfl

theorem place_val (t : D8) (y : S6800x1024.Idx) (a : Fin 3) :
    (place t y a).val = (![t.val, 0, 0] : Fin 3 → ℕ) a + (Shape.reshapeEquiv squeezes_S1x6800x1024_S6800x1024.numel_eq y a).val := by
  have h : (place t y a).val = k0_off1 t a + 1 * (Shape.reshapeEquiv squeezes_S1x6800x1024_S6800x1024.numel_eq y a).val := rfl
  rw [h, off1_zero, Nat.one_mul]

theorem place_dev (t : D8) (y : S6800x1024.Idx) : devOf (place t y) = t := by
  apply Fin.ext
  show (place t y 0).val = t.val
  rw [place_val]
  have h := (Shape.reshapeEquiv squeezes_S1x6800x1024_S6800x1024.numel_eq y 0).isLt
  change _ < 1 at h
  show t.val + _ = t.val
  omega

/-- The same place in another slab. -/
def moved (t : D8) (x : Ix8) : Ix8 := Function.update x 0 ⟨t.val, t.isLt⟩

theorem moved_place (t t' : D8) (y : S6800x1024.Idx) : moved t (place t' y) = place t y := by
  funext a
  apply Fin.ext
  by_cases h : a = 0
  · subst h
    have h1 : ((moved t (place t' y)) 0).val = t.val := by unfold moved; rw [Function.update_self]
    rw [h1]
    exact (congrArg Fin.val (place_dev t y)).symm
  · have h1 : (moved t (place t' y)) a = place t' y a := by unfold moved; rw [Function.update_of_ne h]
    rw [h1, place_val, place_val]
    have h2 : ∀ s : ℕ, (![s, 0, 0] : Fin 3 → ℕ) a = 0 := fun s => by
      rcases a with ⟨_ | _ | _ | n, hn⟩
      · exact absurd rfl h
      · rfl
      · rfl
      · exact absurd (show n + 3 < 3 from hn) (by omega)
    rw [h2, h2]

theorem mem_slab (M : Memref sig .tc .hbm S8x6800x1024 .bf16) (t : D8) : (slabOf M t).view.set = (M.view.slice (slabRect t)).set := View.set_reshape _ _

theorem mem_rect (t : D8) (x : Ix8) : x ∈ (slabRect t).set ↔ devOf x = t := by
  rw [Rect.mem_set_unit, off1_zero]
  constructor
  · intro h
    have h0 := h 0
    change t.val ≤ (x 0).val ∧ (x 0).val < t.val + 1 at h0
    exact Fin.ext (by show (x 0).val = t.val; omega)
  · rintro rfl a
    have hb := (x a).isLt
    rcases a with ⟨_ | _ | _ | n, hn⟩
    · exact ⟨Nat.le_refl _, Nat.lt_succ_self _⟩
    · exact ⟨Nat.zero_le _, by show (x 1).val < 0 + 6800; rw [Nat.zero_add]; exact hb⟩
    · exact ⟨Nat.zero_le _, by show (x 2).val < 0 + 1024; rw [Nat.zero_add]; exact hb⟩
    · exact absurd (show n + 3 < 3 from hn) (by omega)

theorem mem_A (t : D8) (x : Ix8) : x ∈ (slabOf A t).view.set ↔ devOf x = t := by
  rw [mem_slab, show (A.view.slice (slabRect t)).set = (slabRect t).set from View.set_slice_whole _ _]
  exact mem_rect t x
theorem mem_B (t : D8) (x : Ix8) : x ∈ (slabOf B t).view.set ↔ devOf x = t := by
  rw [mem_slab, show (B.view.slice (slabRect t)).set = (slabRect t).set from View.set_slice_whole _ _]
  exact mem_rect t x

/-! ## The arrays slab by slab -/

variable (a : (c : D8) → Buf (Elt F) ((c.tc : Thread nD τ).loc main_arg0)) (z : (c : D8) → Buf (Elt F) ((c.tc : Thread nD τ).loc main_v1))

/-- What device `c`'s result ends at. -/
def received (c : D8) : Buf (Elt F) ((c.tc : Thread nD τ).loc main_v1) := fun x : Ix8 => (a (devOf x) : Ix8 → Elt F .bf16) (moved c x)

theorem slabs_disjoint (S : D8 → Finset Ix8) (h : ∀ t x, x ∈ S t ↔ devOf x = t) (t t' : D8) (hn : t ≠ t') : Disjoint (S t) (S t') :=
  Finset.disjoint_left.mpr fun x hx hx' => hn (((h t x).mp hx).symm.trans ((h t' x).mp hx'))
theorem slabs_cover (S : D8 → Finset Ix8) (h : ∀ t x, x ∈ S t ↔ devOf x = t) : Finset.univ.biUnion S = Finset.univ :=
  Finset.eq_univ_of_forall fun x => Finset.mem_biUnion.mpr ⟨devOf x, Finset.mem_univ _, (h _ x).mpr rfl⟩

/-- The devices counted on from `c`. -/
def ahead (c : D8) : Fin 8 ≃ D8 := ⟨fun r => c + r, fun t => t - c, fun r => by revert c r; decide, fun t => by revert c t; decide⟩

theorem arg_slabs (c : D8) :
    (((c.tc : Thread nD τ).loc main_arg0) ↦{fullShare} a c : sProp 𝕄) = bigSep Finset.univ fun r : Fin 8 => (wiring a z).piece c (c + r) r := by
  rw [Ring.pointsTo_blocks (ℓ := (c.tc : Thread nD τ).loc main_arg0) (fun t : D8 => (slabOf A t).view.set)
    (slabs_disjoint _ fun t x => mem_A t x) (slabs_cover _ fun t x => mem_A t x) (a c), bigSep_univ_equiv (ahead c)]
  rfl

theorem res_slabs (c : D8) :
    (((c.tc : Thread nD τ).loc main_v1) ↦{fullShare} z c : sProp 𝕄) = bigSep Finset.univ fun i : D8 => (wiring a z).slab c i := by
  rw [Ring.pointsTo_blocks (ℓ := (c.tc : Thread nD τ).loc main_v1) (fun t : D8 => (slabOf B t).view.set)
    (slabs_disjoint _ fun t x => mem_B t x) (slabs_cover _ fun t x => mem_B t x) (z c)]
  rfl

theorem landed_val (c i : D8) (x : Ix8) (hx : x ∈ (slabOf B i).view.set) : ((wiring a z).landedAt c i : Ix8 → Elt F .bf16) x = received a c x := by
  obtain ⟨y, -, rfl⟩ := Finset.mem_map.mp hx
  refine ((slabOf B i).view.write_emb_of_mem (z c) ((slabOf A c).view.read (Elt F) (a i)) (Finset.mem_univ y)).trans ?_
  show (a i : Ix8 → Elt F .bf16) (place c y) = (a (devOf (place i y)) : Ix8 → Elt F .bf16) (moved c (place i y))
  rw [place_dev, moved_place]

theorem landed_slabs (c : D8) :
    (bigSep Finset.univ fun i : D8 => (wiring a z).landed c i) = (((c.tc : Thread nD τ).loc main_v1) ↦{fullShare} received a c : sProp 𝕄) := by
  rw [Ring.pointsTo_blocks (ℓ := (c.tc : Thread nD τ).loc main_v1) (fun t : D8 => (slabOf B t).view.set)
    (slabs_disjoint _ fun t x => mem_B t x) (slabs_cover _ fun t x => mem_B t x) (received a c)]
  exact bigSep_congr fun i _ => pointsTo_congr fun x hx => landed_val a z c i x hx

end Cert.Scatter

end
-- ==== Proof.ScatterRegion.lean ====
/-
# The scatter's region

The kernel's region on one device, from its share of the exchange and the region boundary to the exchange finished and the boundary again.
-/
module

public import proofs.«01_k».proof.Proof.ScatterData

@[expose] public section

set_option Elab.async false

noncomputable section

namespace Cert.Scatter

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.KernelIdeal Cert.KernelIdeal.Gen

variable {F : FTy → Type} [FloatOps F]

local notation "𝕄" => MT nD τ sig Unit (Elt F) ℕ (UU sig τ) ℕ

variable (a : (c : D8) → Buf (Elt F) ((c.tc : Thread nD τ).loc main_arg0)) (z : (c : D8) → Buf (Elt F) ((c.tc : Thread nD τ).loc main_v1))

def osem : K → SemLoc sig := fun k => .dma (semOf k)
theorem ownSemFacts : Pipeline.OwnSemFacts cfg0.spec osem := by decide

/-- What the region starts from on device `c`, -/
def entering (c : D8) : sProp 𝕄 := iprop(∃ κ, (wiring a z).known κ ∗ (wiring a z).apart c)

/-- and the region's proof data: no window, one point. -/
def dats (_ : Fin 1) (c : Dev nD) : Pipeline.Dat τ (Elt F) Unit ℕ (UU sig τ) ℕ cfg0 c where
  A w := w.elim0
  after w := w.elim0
  Φ t := match t with
    | ⟨0, _⟩ => entering a z c
    | ⟨_ + 1, _⟩ => (wiring a z).finished c
  q _ := fullShare
  owed t := match t with
    | ⟨0, _⟩ => (wiring a z).due c 0
    | ⟨_ + 1, _⟩ => 0

/-- The end of the body as the loop wants it. -/
theorem body_leaves (c : D8) : iprop(Wiring.owing' c 0 ∗ (wiring a z).finished c)
    ⊢ iprop((wiring a z).finished c ∗ Pipeline.owesWithin c 0 ((dats (F := F) a z 0 c).bound () t0_0.succ) ∗ BI.emp : sProp 𝕄) := by
  unfold Wiring.owing'
  iintro ⟨⟨%W', HO⟩, HF⟩
  isplitl [HF]; · iexact HF
  isplitl [HO]
  · iexists W'
    isplitr; · ipureintro; exact fun _ _ => Or.inl trivial
    iexact HO
  iempintro

theorem body_starts (κ : D8 × K → ℕ) (c : D8) (b : Set (SemLoc sig × Unit)) :
    iprop((wiring a z).known κ ∗ (wiring a z).apart c ∗ Pipeline.owesWithin c ((wiring a z).due c 0) b)
      ⊢ iprop((wiring a z).known κ ∗ (wiring a z).share c : sProp 𝕄) := by
  iintro ⟨HK, HA, ⟨%W, -, HO⟩⟩
  isplitl [HK]; · iexact HK
  iapply ((wiring a z).share_intro c)
  isplitl [HA]; · iexact HA
  unfold Wiring.owing'
  iexists W; iexact HO

theorem body_obligation (c : D8) : Pipeline.BodyObligation (dats (F := F) a z 0 c) (defs₀ (F := F)) Variants.none () Set.univ := fun t => by
  rw [show t = t0_0 from fin_N0 t, show (Finset.univ : Finset (Fin cfg0.W)) = ∅ from rfl, BI.bigSep_empty, BI.bigSep_empty]
  show iprop(entering a z c ∗ Pipeline.owesWithin c ((wiring a z).due c 0) ((dats (F := F) a z 0 c).bound () t0_0.castSucc) ∗ BI.emp)
    ⊢ wp frame (wpE (defs₀ (F := F)) Variants.none (c.tc : Thread nD τ) none) Set.univ
        (cc0_scatter_grads A (Memref.isWhole_whole _) B (Memref.isWhole_whole _) cc0_scratch0 cc0_scratch1 cc0_scratch2) (fun _ =>
          iprop((wiring a z).finished c ∗ Pipeline.owesWithin c 0 ((dats (F := F) a z 0 c).bound () t0_0.succ) ∗ BI.emp))
  unfold entering
  iintro ⟨⟨%κ, HK, HA⟩, HO, -⟩
  iapply ((body_starts a z κ c _).trans ((body_run a z κ c).trans (wp_mono _ _ _ fun _ => body_leaves a z c)))
  isplitl [HK]; · iexact HK
  isplitl [HA] <;> iassumption

theorem staging_none (c : D8) : (scopedBufs (c.tc : Thread nD τ) : sProp 𝕄) = iprop(Pipeline.Dat.staging cfg0 c ∗ Pipeline.scopedRest cfg0.spec c) :=
  Pipeline.scopedBufs_split cfgs (0 : Fin 1) winFacts0.stage_scoped winFacts0.stage_inj stage_whole0 c

/-- The counters of the region boundary: the exchange's and the rest. -/
theorem counters_split (c : D8) :
    (scopedSems0 (c.tc : Thread nD τ) : sProp 𝕄)
      = iprop((Pipeline.cellsSems0 cfgs (0 : Fin 1) c ∗ bigSep Finset.univ fun k : K => semVal ((wiring a z).cell (c, k)) 0)
          ∗ Pipeline.idleSems0 cfgs cellOf_inj (0 : Fin 1) ownSemFacts c) :=
  Pipeline.scopedSems0_split cfgs cellOf_inj (0 : Fin 1) winFacts0.to₀ ownSemFacts c

/-- What the exchange leaves a device, its counters returned: its argument as it was, its result received. -/
theorem finished_arrays (c : D8) : (wiring a z).finished c
    ⊢ iprop((bigSep Finset.univ fun k : K => semVal ((wiring a z).cell (c, k)) 0)
        ∗ (((c.tc : Thread nD τ).loc main_arg0) ↦{fullShare} a c) ∗ (((c.tc : Thread nD τ).loc main_v1) ↦{fullShare} received a c) : sProp 𝕄) := by
  rw [arg_slabs a z c, ← landed_slabs a z c]
  exact BI.Entails.refl _

theorem nothing (Φ : Fin 0 → sProp 𝕄) : (BI.emp : sProp 𝕄) ⊢ bigSep Finset.univ Φ := by rw [Finset.univ_eq_empty, BI.bigSep_empty]

theorem sep_left (P R : sProp 𝕄) : iprop(P ∗ R) ⊢ P := by iintro ⟨H, -⟩; iexact H

/-- A region without windows is entered with what is owed. -/
theorem owes_entry (c : D8) : Wiring.owing' c ((wiring a z).due c 0)
    ⊢ Pipeline.EntryPre cfgs (dats (F := F) a z) () EP (fun _ => 0) (0 : Fin 1) c := by
  unfold Pipeline.EntryPre Pipeline.PerCore.EntryPre Wiring.owing'
  have h1 : (BI.emp : sProp 𝕄) ⊢ (dats (F := F) a z 0 c).arrays fun w => (dats (F := F) a z 0 c).arrAt w 0 := nothing _
  have h2 : (BI.emp : sProp 𝕄) ⊢ Pipeline.PerCore.cellsWaits (fun _ : Dev nD => cfgs) (dats (F := F) a z) () (0 : Fin 1) c := nothing _
  have h3 : (BI.emp : sProp 𝕄) ⊢ Pipeline.PerCore.cellsInit (fun _ : Dev nD => cfgs) (dats (F := F) a z) EP (fun _ => 0) (0 : Fin 1) c := nothing _
  have h4 : (BI.emp : sProp 𝕄) ⊢ Pipeline.PerCore.toksInit (fun _ : Dev nD => cfgs) EP (0 : Fin 1) c := nothing _
  iintro ⟨%W, HO⟩
  isplitr; · iapply h1; iempintro
  isplitl [HO]
  · iexists W; isplitr; · ipureintro; exact fun _ _ => Or.inl trivial
    iexact HO
  isplitr; · iapply h2; iempintro
  isplitr; · iapply h3; iempintro
  iapply h4; iempintro

set_option maxHeartbeats 400000 in
/-- The region. -/
theorem region (c : D8) {β : Type} (k : PUnit → Prog (TpuEff nD τ sig (Elt F) (Pipeline.Sig Λ₀ (Fin 1) fun p => (pcfgs (F := F) p).Adm) .tc) β) (Q : β → sProp 𝕄) :
    iprop((entering a z c ∗ Wiring.owing' c ((wiring a z).due c 0)) ∗ scopedBufs (c.tc : Thread nD τ)
        ∗ Pipeline.idleSems0 cfgs cellOf_inj (0 : Fin 1) ownSemFacts c ∗ opIdle (c.tc : Thread nD τ))
      ⊢ iprop(((((((c.tc : Thread nD τ).loc main_arg0) ↦{fullShare} a c) ∗ (((c.tc : Thread nD τ).loc main_v1) ↦{fullShare} received a c))
              ∗ boundary (c.tc : Thread nD τ) ∗ Wiring.owing' c 0)
            -∗ wp frame (wpE (defs (F := F)) (Variants.lift Variants.none) (c.tc : Thread nD τ) none) Set.univ (k ⟨⟩) Q)
          -∗ wp frame (wpE (defs (F := F)) (Variants.lift Variants.none) (c.tc : Thread nD τ) none) Set.univ (.op (.customCall (Pipeline.entry 0) ()) k) Q) := by
  have hout : iprop((dats (F := F) a z 0 c).Φ (Fin.last cfg0.N) ∗ Pipeline.cellsSems0 cfgs (0 : Fin 1) c ∗ Pipeline.Dat.staging cfg0 c
        ∗ (Pipeline.idleSems0 cfgs cellOf_inj (0 : Fin 1) ownSemFacts c ∗ opIdle (c.tc : Thread nD τ)))
      ⊢ iprop((((((c.tc : Thread nD τ).loc main_arg0) ↦{fullShare} a c) ∗ (((c.tc : Thread nD τ).loc main_v1) ↦{fullShare} received a c)) ∗ opIdle (c.tc : Thread nD τ))
          ∗ scopedSems0 (c.tc : Thread nD τ) ∗ scopedBufs (c.tc : Thread nD τ)) := by
    rw [counters_split a z c, staging_none c, scopedRest0_eq]
    iintro ⟨HF, Hc, Hst, Hid, Hop⟩
    ihave HF := (show (dats (F := F) a z 0 c).Φ (Fin.last cfg0.N) ⊢ _ from finished_arrays a z c) $$ HF
    icases HF with ⟨Hk, Ha, Hz⟩
    isplitl [Ha Hz Hop]
    · isplitr [Hop]
      · isplitl [Ha] <;> iassumption
      iexact Hop
    isplitl [Hc Hk Hid]
    · isplitr [Hid]
      · isplitl [Hc] <;> iassumption
      iexact Hid
    isplitl [Hst]; · iexact Hst
    iempintro
  have hpf : (BI.emp : sProp 𝕄) ⊢ Pipeline.prefHeld (pcfgs (F := F) 0).pre c (fun _ => fullShare) (cfgs 0).toPCfg_adm.1 := nothing _
  iintro ⟨⟨HE, HO⟩, Hsc, Hid, Hop⟩ Hk
  iapply (Pipeline.wp_customCall_entry_frame pcfgs (fun p => (cfgs p).toPCfg_adm) (dats (F := F) a z) () EP (fun _ => 0) cellOf_inj (0 : Fin 1) defs₀ Variants.none
    (fun _ => fullShare) c Set.univ (fun _ _ => Set.mem_univ _) (body_obligation a z c) (fun w => w.elim0) none (fun _ h => by cases h)
    (X := entering a z c) (R := Pipeline.scopedRest cfg0.spec c)
    (I := iprop(Pipeline.idleSems0 cfgs cellOf_inj (0 : Fin 1) ownSemFacts c ∗ opIdle (c.tc : Thread nD τ)))
    (Entails.of_eq (staging_none c)) (sep_left _ _) hout (k := k) (Q := Q)) $$ [HE HO Hsc Hid Hop]
  · isplitl [HO]
    · iapply (owes_entry a z c)
      iexact HO
    isplitr; · iapply hpf; iempintro
    isplitl [HE]; · iexact HE
    isplitr [Hsc]; · isplitl [Hid] <;> iassumption
    iexact Hsc
  unfold Pipeline.EntryPost Pipeline.PerCore.EntryPost
  iintro ⟨⟨-, ⟨%W', -, HO⟩⟩, ⟨⟨Ha, Hz⟩, Hop⟩, Hss, Hsb⟩
  iapply Hk
  isplitl [Ha Hz]
  · isplitl [Ha] <;> iassumption
  isplitr [HO]
  · unfold boundary
    isplitl [Hsb]; · iexact Hsb
    isplitl [Hss] <;> iassumption
  unfold Wiring.owing'
  iexists W'; iexact HO

end Cert.Scatter

end
-- ==== Proof.ScatterRun.lean ====
/-
# The scatter's run

From any memory with the counters at zero, every weakly fair execution of the scatter ends with each device's argument as it was and slab `i` of its result the slab device `i` held for it.
-/
module

public import proofs.«01_k».proof.Proof.CoresLaunch
public import proofs.«01_k».proof.Proof.ScatterRegion

@[expose] public section

set_option Elab.async false

noncomputable section

namespace Cert.Scatter

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.KernelIdeal Cert.KernelIdeal.Gen Idealize.ShloMosaic.Rounds

variable {F : FTy → Type} [FloatOps F]

local notation "𝕄" => MT nD τ sig Unit (Elt F) ℕ (UU sig τ) ℕ

variable (m : (ℓ : Loc nD τ sig) → Buf (Elt F) ℓ)

/-- The arrays as launched. -/
abbrev a₀ (c : D8) : Buf (Elt F) ((c.tc : Thread nD τ).loc main_arg0) := m ((c.tc : Thread nD τ).loc main_arg0)
abbrev z₀ (c : D8) : Buf (Elt F) ((c.tc : Thread nD τ).loc main_v1) := m ((c.tc : Thread nD τ).loc main_v1)

/-- The exchange of the launched arrays, -/
abbrev X₀ : Wiring τ sig (Elt F) := wiring (a₀ m) (z₀ m)

/-- what its devices owe, -/
def O₀ (c : D8) : CellTallies nD τ sig Unit := (X₀ m).due c 0

/-- its ghost state, -/
def u₀ : UU sig τ := (1, initOf (X₀ m).cells (X₀ m).toks)

/-- and what a device starts from and ends with. -/
def start (c : D8) : sProp 𝕄 :=
  iprop((entering (a₀ m) (z₀ m) c ∗ Wiring.owing' c ((X₀ m).due c 0)) ∗ scopedBufs (c.tc : Thread nD τ)
    ∗ Pipeline.idleSems0 cfgs cellOf_inj (0 : Fin 1) ownSemFacts c ∗ opIdle (c.tc : Thread nD τ))
def ending (c : D8) : sProp 𝕄 :=
  iprop((((c.tc : Thread nD τ).loc main_arg0) ↦{fullShare} a₀ m c) ∗ (((c.tc : Thread nD τ).loc main_v1) ↦{fullShare} received (a₀ m) c))

theorem arrays_dealt (c : D8) : (unscopedBufs c (fun b => m ((c.tc : Thread nD τ).loc b)) : sProp 𝕄)
    = iprop((bigSep Finset.univ fun r : Fin 8 => (X₀ m).piece c (c + r) r) ∗ bigSep Finset.univ fun i : D8 => (X₀ m).slab c i) := by
  rw [← arg_slabs (a₀ m) (z₀ m) c, ← res_slabs (a₀ m) (z₀ m) c,
    Pipeline.unscopedBufs_split cfgs (0 : Fin 1) winFacts0.arr_unscoped winFacts0.arr_inj c (fun b => m ((c.tc : Thread nD τ).loc b)), unscopedRest0_eq,
    show (Finset.univ : Finset (Fin (cfgs 0).W)) = ∅ from rfl, BI.bigSep_empty]
  exact equiv_iff.mp BI.emp_sep

/-- One device's holdings, sorted. -/
theorem sorted (c : D8) : (dealt (O₀ m) m c : sProp 𝕄)
    ⊢ iprop((bigSep Finset.univ fun k : K => semVal ((X₀ m).cell (c, k)) 0) ∗ (bigSep Finset.univ fun r : Fin 8 => (X₀ m).piece c (c + r) r)
        ∗ (bigSep Finset.univ fun i : D8 => (X₀ m).slab c i) ∗ Pipeline.launchCred (fun d => (X₀ m).due d 0) c ∗ Wiring.owing' c ((X₀ m).due c 0)
        ∗ scopedBufs (c.tc : Thread nD τ) ∗ Pipeline.idleSems0 cfgs cellOf_inj (0 : Fin 1) ownSemFacts c ∗ opIdle (c.tc : Thread nD τ)) := by
  unfold dealt boundary
  rw [arrays_dealt, counters_split (a₀ m) (z₀ m) c]
  iintro ⟨⟨Hb, ⟨⟨-, Hk⟩, Hi⟩, Ho⟩, ⟨Hp, Hs⟩, HO, Hc⟩
  isplitl [Hk]; · iexact Hk
  isplitl [Hp]; · iexact Hp
  isplitl [Hs]; · iexact Hs
  isplitl [Hc]; · iexact Hc
  isplitl [HO]
  · unfold Wiring.owing' O₀
    iexists _; iexact HO
  isplitl [Hb]; · iexact Hb
  isplitl [Hi] <;> iassumption

/-- A device's share, what it owes apart. -/
theorem entered (c : D8) : iprop(∃ κ, (X₀ m).known κ ∗ (X₀ m).share c) ⊢ iprop(entering (a₀ m) (z₀ m) c ∗ Wiring.owing' c ((X₀ m).due c 0) : sProp 𝕄) := by
  unfold entering
  iintro ⟨%κ, HK, HS⟩
  ihave H := ((X₀ m).share_elim c) $$ HS
  icases H with ⟨HA, HO⟩
  isplitr [HO]
  · iexists κ
    isplitl [HK] <;> iassumption
  iexact HO

theorem launch (L : GSem nD τ sig → Finset Unit) (lv : GSem nD τ sig → Unit → ℕ) :
    iprop((bigSep Finset.univ fun c => dealt (O₀ m) m c) ∗ levAts L lv ∗ ownU (u₀ m)) ⊢ |={Set.univ}=> (bigSep Finset.univ (start m) : sProp 𝕄) := by
  refine (sep_mono_left (bigSep_mono fun c _ => sorted m c)).trans ?_
  have hE : (bigSep Finset.univ fun c : D8 => iprop(∃ κ, (X₀ m).known κ ∗ (X₀ m).share c) : sProp 𝕄)
      ⊢ bigSep Finset.univ fun c : D8 => iprop(entering (a₀ m) (z₀ m) c ∗ Wiring.owing' c ((X₀ m).due c 0)) := bigSep_mono fun c _ => entered m c
  unfold u₀ start
  simp only [BI.bigSep_sep']
  iintro ⟨⟨Hk, Hp, Hs, Hc, HO, Hb, Hi, Ho⟩, -, Hu⟩
  ihave H := (ownU_pair _ _) $$ Hu
  icases H with ⟨-, HX⟩
  imod ((X₀ m).dealt) $$ [Hk HX Hp Hs Hc HO] with HS
  · isplitl [Hk]; · iexact Hk
    isplitl [HX]; · iexact HX
    isplitl [Hp]; · iexact Hp
    isplitl [Hs]; · iexact Hs
    isplitl [Hc] <;> iassumption
  imodintro
  isplitl [HS]
  · rw [← BI.bigSep_sep']
    iapply hE
    iexact HS
  isplitl [Hb]; · iexact Hb
  isplitl [Hi] <;> iassumption

/-- What is read of a final memory. -/
def Ends (c : D8) (s : MemSt nD τ sig (Elt F)) : Prop :=
  s.mem ((c.tc : Thread nD τ).loc main_arg0) = a₀ m c ∧ s.mem ((c.tc : Thread nD τ).loc main_v1) = received (a₀ m) c

theorem ends_read (c : D8) (s' : Phys nD τ sig (Elt F)) : iprop(ending m c ∗ SI s') ⊢ |={Set.univ}=> iprop(⌜Ends m c s'.mem⌝ ∗ SI s' : sProp 𝕄) := by
  unfold ending
  iintro ⟨⟨Ha, Hz⟩, HSI⟩
  ihave %ha := (SI_pointsTo_agree) $$ [HSI Ha]
  · isplitl [HSI] <;> iassumption
  ihave %hz := (SI_pointsTo_agree) $$ [HSI Hz]
  · isplitl [HSI] <;> iassumption
  imodintro
  isplitr
  · ipureintro
    exact ⟨funext fun i => ha i (Finset.mem_univ i), funext fun i => hz i (Finset.mem_univ i)⟩
  iexact HSI

theorem device_run (c : D8) : (start m c : sProp 𝕄)
    ⊢ wp frame (wpE (defs (F := F)) (Variants.lift Variants.none) (c.tc : Thread nD τ) none) Set.univ (main (F := F) c)
        (fun _ => iprop((ending m c ∗ boundary (c.tc : Thread nD τ)) ∗ ∃ W, owes (c.tc : Thread nD τ) (0 : CellTallies nD τ sig Unit) W)) := by
  rw [show main (F := F) c = .op (.customCall (Pipeline.entry 0) ()) (fun _ => .ret ⟨⟩) from rfl]
  unfold start
  iintro H
  iapply (region (a₀ m) (z₀ m) c) $$ H
  unfold ending Wiring.owing'
  iintro ⟨Hy, Hb, HO⟩
  rw [wp_ret]
  imodintro
  isplitr [HO]
  · isplitl [Hy] <;> iassumption
  iexact HO

theorem scoped_all : ∀ sm : SemLoc sig, sm.isScoped .tc = true := by decide

theorem run (g : Dev nD → PrngReg) :
    θ_run (defs (F := F)) (onTc (τ := τ) (main (F := F))) ⟨m, fun _ => 0, g⟩ (fun r => (∀ c, Ends m c r.2) ∧ r.2.sem = fun _ => 0) :=
  run_cores (Variants.lift Variants.none) m g main (O₀ m) (fun _ => ∅) (fun _ _ => 0) (fun _ _ => rfl) (u₀ m) (start m) (ending m)
    (launch m _ _) (device_run m) (Ends m) (ends_read m) (fun _ h hs => ⟨h, sem_eq_zero_of_scoped scoped_all hs⟩)

end Cert.Scatter

end
-- ==== Proof.ScatterValue.lean ====
/-
# What the scatter computes

The scatter of the eight devices' packed gradients is the exchange of the two leading axes of the whole array, which is what the reference does in one piece.
-/
module

public import proofs.«01_k».proof.Defs
public import proofs.«01_k».proof.Proof.ScatterRun
public import proofs.«01_k».proof.Proof.Gen.Kernel
public import proofs.«01_k».proof.Proof.Gen.Reference
public import proofs.«01_k».proof.Proof.Gen.ReferenceIdeal.Run
public import Idealize.ShloMosaic.Init

@[expose] public section

set_option Elab.async false

noncomputable section

namespace Cert.Scatter

open Idealize.ShloMosaic Idealize.SL.Sem
open Cert.ReferenceIdeal (S64x6800x1024 S8x8x6800x1024)
open Cert.ReferenceIdeal.Gen

variable {α : Type}

/-- The reference's result of the whole array `w`: slab `(s, t)` of the pair of leading axes goes to slab `(t, s)`. -/
abbrev exchanged (w : S64x6800x1024.Idx → α) : S64x6800x1024.Idx → α :=
  shapeCast _ (transpose S8x8x6800x1024 [1, 0, 2, 3] (shapeCast _ w shapeCasts_S64x6800x1024_S8x8x6800x1024) transposes_S8x8x6800x1024_S8x8x6800x1024_1_0_2_3)
    shapeCasts_S8x8x6800x1024_S64x6800x1024

/-- The element at slab `s` of device `t`'s block. -/
def atSlab (t s : Fin 8) (x : Ix8) : S64x6800x1024.Idx
  | ⟨0, _⟩ => ⟨8 * t.val + s.val, by have := t.isLt; have := s.isLt; show _ < 64; omega⟩
  | ⟨1, _⟩ => x 1
  | ⟨2, _⟩ => x 2
  | ⟨n + 3, h⟩ => absurd (show n + 3 < 3 from h) (by omega)

/-- The same element under the pair of leading axes. -/
def atPair (t s : Fin 8) (x : Ix8) : S8x8x6800x1024.Idx
  | ⟨0, _⟩ => t
  | ⟨1, _⟩ => s
  | ⟨2, _⟩ => x 1
  | ⟨3, _⟩ => x 2
  | ⟨n + 4, h⟩ => absurd (show n + 4 < 4 from h) (by omega)

theorem same_place (t s : Fin 8) (x : Ix8) : (S64x6800x1024.rowMajor (atSlab t s x) : ℕ) = S8x8x6800x1024.rowMajor (atPair t s x) := by
  rw [Shape.rowMajor_val_three, Shape.rowMajor_val_four]
  show ((8 * t.val + s.val) * 6800 + (x 1).val) * 1024 + (x 2).val = ((t.val * 8 + s.val) * 6800 + (x 1).val) * 1024 + (x 2).val
  rw [Nat.mul_comm 8]

theorem exchanged_at (w : S64x6800x1024.Idx → α) (t s : Fin 8) (x : Ix8) : exchanged w (atSlab t s x) = w (atSlab s t x) := by
  unfold exchanged shapeCast transpose
  rw [Shape.reshapeEquiv_eq_of_rowMajor _ (same_place t s x).symm]
  refine congrArg w (Shape.reshapeEquiv_eq_of_rowMajor _ ?_)
  rw [same_place]
  refine congrArg (fun y => (S8x8x6800x1024.rowMajor y : ℕ)) (funext fun a => ?_)
  rcases a with ⟨_ | _ | _ | _ | n, h⟩
  · rfl
  · rfl
  · rfl
  · rfl
  · exact absurd (show n + 4 < 4 from h) (by omega)

/-- Device `t`'s block of a whole array, at an index. -/
theorem block_at (w : S64x6800x1024.Idx → α) (t : Fin 8) (x : Ix8) :
    Layout.block ⟨3, ![8, 6800, 1024]⟩ ⟨3, ![64, 6800, 1024]⟩ 0 8 t w (by decide) x = w (atSlab t (devOf x) x) := by
  refine congrArg w (funext fun a => Fin.ext ?_)
  rw [Layout.Tiles.idx_val]
  rcases a with ⟨_ | _ | _ | n, h⟩
  · exact (if_pos rfl).trans (by show t.val * 8 + (x 0).val = 8 * t.val + (x 0).val; rw [Nat.mul_comm])
  · exact if_neg (by show ¬ (1 = 0); omega)
  · exact if_neg (by show ¬ (2 = 0); omega)
  · exact absurd (show n + 3 < 3 from h) (by omega)

theorem atSlab_moved (t s c : Fin 8) (x : Ix8) : atSlab t s (moved c x) = atSlab t s x := by
  funext a
  rcases a with ⟨_ | _ | _ | n, h⟩
  · rfl
  · exact Function.update_of_ne (show (1 : Fin 3) ≠ 0 by decide) (⟨c.val, c.isLt⟩ : Fin 8) x
  · exact Function.update_of_ne (show (2 : Fin 3) ≠ 0 by decide) (⟨c.val, c.isLt⟩ : Fin 8) x
  · exact absurd (show n + 3 < 3 from h) (by omega)

section Run

variable {F : FTy → Type} [FloatOps F]

open Cert.KernelIdeal (nD τ sig)
open Idealize.ShloMosaic.TcCoe

/-- If the devices hold the blocks of `w`, what each receives is its block of the exchanged array. -/
theorem received_block (a : (c : Dev nD) → Buf (Elt F) ((c.tc : Thread nD τ).loc Cert.KernelIdeal.main_arg0)) (w : S64x6800x1024.Idx → Elt F .bf16)
    (h : ∀ c : Dev nD, a c = Layout.block ⟨3, ![8, 6800, 1024]⟩ ⟨3, ![64, 6800, 1024]⟩ 0 8 c w) (c : Dev nD) :
    received a c = Layout.block ⟨3, ![8, 6800, 1024]⟩ ⟨3, ![64, 6800, 1024]⟩ 0 8 c (exchanged w) := by
  funext x
  refine Eq.trans ?_ (((block_at _ _ _).trans (exchanged_at w c (devOf x) x)).symm)
  show (a (devOf x) : Ix8 → Elt F .bf16) (moved c x) = _
  rw [h (devOf x)]
  exact (block_at w (devOf x) (moved c x)).trans (congrArg w (atSlab_moved _ _ _ _))

/-- Kernel and reference, at any float values. -/
theorem agrees (m : (ℓ : Loc nD τ sig) → Buf (Elt F) ℓ) (g : Dev nD → PrngReg)
    (m' : (ℓ : Loc Cert.ReferenceIdeal.nD Cert.ReferenceIdeal.τ Cert.ReferenceIdeal.sig) → Buf (Elt F) ℓ) (g' : Dev Cert.ReferenceIdeal.nD → PrngReg)
    (h : ∀ c : Dev nD, m ((c.tc : Thread nD τ).loc Cert.KernelIdeal.main_arg0) = Layout.block ⟨3, ![8, 6800, 1024]⟩ ⟨3, ![64, 6800, 1024]⟩ 0 8 c
      (m' (((0 : Dev Cert.ReferenceIdeal.nD).tc : Thread Cert.ReferenceIdeal.nD Cert.ReferenceIdeal.τ).loc Cert.ReferenceIdeal.main_arg0))) :
    ∃ v : Buf (Elt F) (((0 : Dev Cert.ReferenceIdeal.nD).tc : Thread Cert.ReferenceIdeal.nD Cert.ReferenceIdeal.τ).loc Cert.ReferenceIdeal.main_v2),
      θ_run (Cert.KernelIdeal.defs (F := F)) (onTc (τ := τ) (Cert.KernelIdeal.main (F := F))) ⟨m, fun _ => 0, g⟩ (fun r => ∀ c : Dev nD,
          r.2.mem ((c.tc : Thread nD τ).loc Cert.KernelIdeal.main_v1) = Layout.block ⟨3, ![8, 6800, 1024]⟩ ⟨3, ![64, 6800, 1024]⟩ 0 8 c v
          ∧ r.2.mem ((c.tc : Thread nD τ).loc Cert.KernelIdeal.main_arg0) = m ((c.tc : Thread nD τ).loc Cert.KernelIdeal.main_arg0))
      ∧ θ_run (Cert.ReferenceIdeal.defs (F := F)) (onTc (τ := Cert.ReferenceIdeal.τ) (Cert.ReferenceIdeal.main (F := F))) ⟨m', fun _ => 0, g'⟩ (fun r =>
          r.2.mem (((0 : Dev Cert.ReferenceIdeal.nD).tc : Thread Cert.ReferenceIdeal.nD Cert.ReferenceIdeal.τ).loc Cert.ReferenceIdeal.main_v2) = v
          ∧ r.2.mem (((0 : Dev Cert.ReferenceIdeal.nD).tc : Thread Cert.ReferenceIdeal.nD Cert.ReferenceIdeal.τ).loc Cert.ReferenceIdeal.main_arg0)
            = m' (((0 : Dev Cert.ReferenceIdeal.nD).tc : Thread Cert.ReferenceIdeal.nD Cert.ReferenceIdeal.τ).loc Cert.ReferenceIdeal.main_arg0)) :=
  ⟨_, (θ_run _ _ _).mono (fun _ hr c => ⟨(hr.1 c).2.trans (received_block (a₀ m) _ h c), (hr.1 c).1⟩) (run m g),
    (θ_run _ _ _).mono (fun _ hr => hr 0) (Cert.ReferenceIdeal.Value.run m' g')⟩

/-- The reference's frame, at any float values. -/
theorem reference_frame (m : (ℓ : Loc Cert.ReferenceIdeal.nD Cert.ReferenceIdeal.τ Cert.ReferenceIdeal.sig) → Buf (Elt F) ℓ) (g : Dev Cert.ReferenceIdeal.nD → PrngReg) :
    θ_run (Cert.ReferenceIdeal.defs (F := F)) (onTc (τ := Cert.ReferenceIdeal.τ) (Cert.ReferenceIdeal.main (F := F))) ⟨m, fun _ => 0, g⟩ (fun r =>
      (∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)) ∧ r.2.sem = fun _ => 0) :=
  (θ_run _ _ _).mono (fun r hr => ⟨fun c => (hr c).2, sem_eq_zero_of_no_sems (by decide) r.2⟩) (Cert.ReferenceIdeal.Value.run m g)

end Run

/-! ## The claims -/

theorem frame_kernel : Cert.quiescent_Kernel (hKernel := Cert.Kernel.Gen.facts) := fun m g _ =>
  (θ_run Cert.KernelIdeal.defs _ _).mono (fun _ h => ⟨fun c => (h.1 c).1, h.2⟩) (run (F := Bits) m g)
theorem frame_kernelIdeal : Cert.quiescent_KernelIdeal (hKernelIdeal := Cert.KernelIdeal.Gen.facts) := fun m g _ =>
  (θ_run Cert.KernelIdeal.defs _ _).mono (fun _ h => ⟨fun c => (h.1 c).1, h.2⟩) (run (F := Ideal) m g)
theorem frame_reference : Cert.quiescent_Reference (hReference := Cert.Reference.Gen.facts) := fun m g _ => reference_frame (F := Bits) m g
theorem frame_referenceIdeal : Cert.quiescent_ReferenceIdeal (hReferenceIdeal := Cert.ReferenceIdeal.Gen.facts) := fun m g _ => reference_frame (F := Ideal) m g
theorem value_ideal : Cert.algebraic_KernelIdeal_ReferenceIdeal (hKernelIdeal := Cert.KernelIdeal.Gen.facts) (hReferenceIdeal := Cert.ReferenceIdeal.Gen.facts) :=
  fun m g m' g' _ h => agrees (F := Ideal) m g m' g' h
theorem value_bits : Cert.bitexact_Kernel_Reference (hKernel := Cert.Kernel.Gen.facts) (hReference := Cert.Reference.Gen.facts) :=
  fun m g m' g' _ h => agrees (F := Bits) m g m' g' h

end Cert.Scatter

end
-- ==== Proof.Gather.lean ====
/-
# The gather of the packed weights

The body of the kernel that sends a device's packed weights to every other device: its copies, transfers and waits are those of `Cert.Exchange`, a
piece being the whole pack, lent at an eighth of its share to each copy.
-/
module

public import proofs.«01_k».proof.Proof.Deal
public import proofs.«01_k».proof.Proof.Gen.GatherIdeal.Skeleton
public import proofs.«01_k».proof.Proof.Gen.GatherIdeal.Frame

@[expose] public section

set_option Elab.async false

noncomputable section

namespace Cert.Weights

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.GatherIdeal Cert.GatherIdeal.Gen

variable {F : FTy → Type} [FloatOps F]

local notation "𝕄" => MT nD τ sig Unit (Elt F) ℕ (UU sig τ) ℕ

/-- The packed weights, and what arrives as eight slabs. -/
abbrev A : Memref sig .tc .hbm S6800x1024 .bf16 := Memref.whole main_arg0
abbrev B : Memref sig .tc .hbm S8x6800x1024 .bf16 := Memref.whole main_v1

/-- The slab at an offset. -/
def at' (M : Memref sig .tc .hbm S8x6800x1024 .bf16) (o : Fin 3 → Nat) (h : ∀ a, o a + S1x6800x1024.size a ≤ S8x6800x1024.size a) :
    Memref sig .tc .hbm S6800x1024 .bf16 :=
  (M.slice (Rect.unit (s := S8x6800x1024) o S1x6800x1024.size h) (fun _ => rfl)).squeeze S6800x1024 squeezes_S1x6800x1024_S6800x1024

/-- Slab `t`. -/
def slabOf (M : Memref sig .tc .hbm S8x6800x1024 .bf16) (t : D8) : Memref sig .tc .hbm S6800x1024 .bf16 := at' M (k0_off1 t) (k0_off1_inb t)

def semOf : K → DmaSem sig
  | .inl j => ⟨j.val, by have := j.isLt; show _ < 15; omega⟩
  | .inr (.inl j) => ⟨7 + j.val, by have := j.isLt; show _ < 15; omega⟩
  | .inr (.inr _) => ⟨14, by decide⟩

theorem semOf_inj : Function.Injective semOf := by decide

def N : ℕ := (slabOf B 0).view.dmaCredit

/-- The exchange, the arrays holding `a` and `z`. -/
def wiring (a : (c : D8) → Buf (Elt F) ((c.tc : Thread nD τ).loc main_arg0)) (z : (c : D8) → Buf (Elt F) ((c.tc : Thread nD τ).loc main_v1)) :
    Wiring τ sig (Elt F) where
  s := S6800x1024
  e := .bf16
  sem := semOf
  sem_inj := semOf_inj
  src _ := A
  dst := slabOf B
  fs c _ := a c
  fd c _ := z c
  q := Idealize.ShloMosaic.piece fullShare 7
  N := N
  N_pos := View.dmaCredit_pos _ (by decide)
  hN _ := rfl

theorem dev1_at (c : D8) : (⟨k0_dev1 c, k0_dev1_lt c⟩ : Dev nD) = c + (0 : Fin 7).succ := by revert c; decide +kernel
theorem dev2_at (c : D8) : (⟨k0_dev2 c, k0_dev2_lt c⟩ : Dev nD) = c + (1 : Fin 7).succ := by revert c; decide +kernel
theorem dev3_at (c : D8) : (⟨k0_dev3 c, k0_dev3_lt c⟩ : Dev nD) = c + (2 : Fin 7).succ := by revert c; decide +kernel
theorem dev4_at (c : D8) : (⟨k0_dev4 c, k0_dev4_lt c⟩ : Dev nD) = c + (3 : Fin 7).succ := by revert c; decide +kernel
theorem dev5_at (c : D8) : (⟨k0_dev5 c, k0_dev5_lt c⟩ : Dev nD) = c + (4 : Fin 7).succ := by revert c; decide +kernel
theorem dev6_at (c : D8) : (⟨k0_dev6 c, k0_dev6_lt c⟩ : Dev nD) = c + (5 : Fin 7).succ := by revert c; decide +kernel
theorem dev7_at (c : D8) : (⟨k0_dev7 c, k0_dev7_lt c⟩ : Dev nD) = c + (6 : Fin 7).succ := by revert c; decide +kernel

/-- A slab's transfer credits the same wherever the slab is. -/
theorem credit_A : A.view.dmaCredit = N := rfl
theorem credit_B (o : Fin 3 → Nat) (h) : (at' B o h).view.dmaCredit = N := rfl

/-- A wait for a transfer of a slab is a wait for that credit. -/
theorem wait_for (c : D8) {sm sm' : DmaSem sig} (hs : sm = sm') {s' : Shape} {e' : EltTy} {sp' : Space} {sM : Memref sig .tc sp' s' e'} {dM : Memref sig .tc .hbm S6800x1024 .bf16}
    (hd : dM.view.dmaCredit = N) {hsrc : sM.view.WordExact} {hdst : dM.view.WordExact} (P : PUnit → sProp 𝕄) :
    wpE (defs₀ (F := F)) Variants.none (c.tc : Thread nD τ) none Set.univ (.waitDma2 sm sM dM hsrc hdst) P
      = waitSpec (c.tc : Thread nD τ) Set.univ (.dma sm') N P := by
  subst hs; rw [wpE_waitDma2_eq, hd]

/-! ## The body -/

section Body

variable (a : (c : D8) → Buf (Elt F) ((c.tc : Thread nD τ).loc main_arg0)) (z : (c : D8) → Buf (Elt F) ((c.tc : Thread nD τ).loc main_v1))

set_option maxHeartbeats 400000 in
set_option maxRecDepth 8000 in
/-- The body, from a device's share to the exchange finished. -/
theorem body_run (κ : D8 × K → ℕ) (c : D8) :
    iprop((wiring a z).known κ ∗ (wiring a z).share c)
      ⊢ wp frame (wpE (defs₀ (F := F)) Variants.none (c.tc : Thread nD τ) none) Set.univ
          (cc0_gather_weights A (Memref.isWhole_whole _) B (Memref.isWhole_whole _) cc0_scratch0 cc0_scratch1 cc0_scratch2)
          (fun _ => iprop(Wiring.owing' c 0 ∗ (wiring a z).finished c)) := by
  simp only [cc0_gather_weights_eq_skeleton]; unfold cc0_gather_weights_skel
  simp only [k0_part9_eq_skeleton]; unfold k0_part9_skel
  simp only [k0_part8_eq_skeleton]; unfold k0_part8_skel
  simp only [k0_part7_eq_skeleton]; unfold k0_part7_skel
  simp only [k0_part6_eq_skeleton]; unfold k0_part6_skel
  simp only [k0_part5_eq_skeleton]; unfold k0_part5_skel
  simp only [k0_part4_eq_skeleton]; unfold k0_part4_skel
  simp only [k0_part3_eq_skeleton]; unfold k0_part3_skel
  simp only [k0_part2_eq_skeleton]; unfold k0_part2_skel
  simp only [k0_part1_eq_skeleton]; unfold k0_part1_skel
  simp only [Prog.lift, Prog.bind_op, Prog.bind_ret, Prog.pure_eq_ret, wp_deviceId]
  unfold Wiring.share
  rw [bigSep_cells, bigSep_offsets, bigSep_offsets]
  iintro ⟨#HK, ⟨⟨Hs0, Hs1, Hs2, Hs3, Hs4, Hs5, Hs6⟩, ⟨Hg0, Hg1, Hg2, Hg3, Hg4, Hg5, Hg6⟩, Hl⟩, Hloc, ⟨Ho0, Ho1, Ho2, Ho3, Ho4, Ho5, Ho6⟩, ⟨Hc0, Hc1, Hc2, Hc3, Hc4, Hc5, Hc6⟩, HO⟩
  -- its own copy
  iapply ((wiring a z).step_own κ c rfl rfl rfl) $$ [Hloc]
  · isplitr; · iexact HK
    iexact Hloc
  iintro Hcl
  -- the seven transfers
  iapply ((wiring a z).step_send κ c 0 (dev1_at c) rfl rfl rfl rfl) $$ [Ho0 HO]
  · isplitr; · iexact HK
    isplitl [Ho0]; · iexact Ho0
    iexact HO
  iintro ⟨Hr0, HO⟩
  iapply ((wiring a z).step_send κ c 1 (dev2_at c) rfl rfl rfl rfl) $$ [Ho1 HO]
  · isplitr; · iexact HK
    isplitl [Ho1]; · iexact Ho1
    iexact HO
  iintro ⟨Hr1, HO⟩
  iapply ((wiring a z).step_send κ c 2 (dev3_at c) rfl rfl rfl rfl) $$ [Ho2 HO]
  · isplitr; · iexact HK
    isplitl [Ho2]; · iexact Ho2
    iexact HO
  iintro ⟨Hr2, HO⟩
  iapply ((wiring a z).step_send κ c 3 (dev4_at c) rfl rfl rfl rfl) $$ [Ho3 HO]
  · isplitr; · iexact HK
    isplitl [Ho3]; · iexact Ho3
    iexact HO
  iintro ⟨Hr3, HO⟩
  iapply ((wiring a z).step_send κ c 4 (dev5_at c) rfl rfl rfl rfl) $$ [Ho4 HO]
  · isplitr; · iexact HK
    isplitl [Ho4]; · iexact Ho4
    iexact HO
  iintro ⟨Hr4, HO⟩
  iapply ((wiring a z).step_send κ c 5 (dev6_at c) rfl rfl rfl rfl) $$ [Ho5 HO]
  · isplitr; · iexact HK
    isplitl [Ho5]; · iexact Ho5
    iexact HO
  iintro ⟨Hr5, HO⟩
  iapply ((wiring a z).step_send κ c 6 (dev7_at c) rfl rfl rfl rfl) $$ [Ho6 HO]
  · isplitr; · iexact HK
    isplitl [Ho6]; · iexact Ho6
    iexact HO
  iintro ⟨Hr6, HO⟩
  rw [show ((6 : Fin 7).val + 1) = 7 from rfl, Wiring.due_end]
  -- the sources read, the slabs landed, its own copy done
  iapply ((wiring a z).step_wait κ c (sent 0) (wait_for c rfl credit_A)) $$ [Hr0 HO Hs0]
  · isplitr; · iexact HK
    isplitl [Hr0]; · iexact Hr0
    isplitl [HO]; · iexact HO
    iexact Hs0
  iintro ⟨HO, Hs0⟩
  iapply ((wiring a z).step_wait κ c (sent 1) (wait_for c rfl credit_A)) $$ [Hr1 HO Hs1]
  · isplitr; · iexact HK
    isplitl [Hr1]; · iexact Hr1
    isplitl [HO]; · iexact HO
    iexact Hs1
  iintro ⟨HO, Hs1⟩
  iapply ((wiring a z).step_wait κ c (sent 2) (wait_for c rfl credit_A)) $$ [Hr2 HO Hs2]
  · isplitr; · iexact HK
    isplitl [Hr2]; · iexact Hr2
    isplitl [HO]; · iexact HO
    iexact Hs2
  iintro ⟨HO, Hs2⟩
  iapply ((wiring a z).step_wait κ c (sent 3) (wait_for c rfl credit_A)) $$ [Hr3 HO Hs3]
  · isplitr; · iexact HK
    isplitl [Hr3]; · iexact Hr3
    isplitl [HO]; · iexact HO
    iexact Hs3
  iintro ⟨HO, Hs3⟩
  iapply ((wiring a z).step_wait κ c (sent 4) (wait_for c rfl credit_A)) $$ [Hr4 HO Hs4]
  · isplitr; · iexact HK
    isplitl [Hr4]; · iexact Hr4
    isplitl [HO]; · iexact HO
    iexact Hs4
  iintro ⟨HO, Hs4⟩
  iapply ((wiring a z).step_wait κ c (sent 5) (wait_for c rfl credit_A)) $$ [Hr5 HO Hs5]
  · isplitr; · iexact HK
    isplitl [Hr5]; · iexact Hr5
    isplitl [HO]; · iexact HO
    iexact Hs5
  iintro ⟨HO, Hs5⟩
  iapply ((wiring a z).step_wait κ c (sent 6) (wait_for c rfl credit_A)) $$ [Hr6 HO Hs6]
  · isplitr; · iexact HK
    isplitl [Hr6]; · iexact Hr6
    isplitl [HO]; · iexact HO
    iexact Hs6
  iintro ⟨HO, Hs6⟩
  iapply ((wiring a z).step_wait κ c (got 0) (wait_for c rfl (credit_B _ _))) $$ [Hc0 HO Hg0]
  · isplitr; · iexact HK
    isplitl [Hc0]; · iexact Hc0
    isplitl [HO]; · iexact HO
    iexact Hg0
  iintro ⟨HO, Hg0⟩
  iapply ((wiring a z).step_wait κ c (got 1) (wait_for c rfl (credit_B _ _))) $$ [Hc1 HO Hg1]
  · isplitr; · iexact HK
    isplitl [Hc1]; · iexact Hc1
    isplitl [HO]; · iexact HO
    iexact Hg1
  iintro ⟨HO, Hg1⟩
  iapply ((wiring a z).step_wait κ c (got 2) (wait_for c rfl (credit_B _ _))) $$ [Hc2 HO Hg2]
  · isplitr; · iexact HK
    isplitl [Hc2]; · iexact Hc2
    isplitl [HO]; · iexact HO
    iexact Hg2
  iintro ⟨HO, Hg2⟩
  iapply ((wiring a z).step_wait κ c (got 3) (wait_for c rfl (credit_B _ _))) $$ [Hc3 HO Hg3]
  · isplitr; · iexact HK
    isplitl [Hc3]; · iexact Hc3
    isplitl [HO]; · iexact HO
    iexact Hg3
  iintro ⟨HO, Hg3⟩
  iapply ((wiring a z).step_wait κ c (got 4) (wait_for c rfl (credit_B _ _))) $$ [Hc4 HO Hg4]
  · isplitr; · iexact HK
    isplitl [Hc4]; · iexact Hc4
    isplitl [HO]; · iexact HO
    iexact Hg4
  iintro ⟨HO, Hg4⟩
  iapply ((wiring a z).step_wait κ c (got 5) (wait_for c rfl (credit_B _ _))) $$ [Hc5 HO Hg5]
  · isplitr; · iexact HK
    isplitl [Hc5]; · iexact Hc5
    isplitl [HO]; · iexact HO
    iexact Hg5
  iintro ⟨HO, Hg5⟩
  iapply ((wiring a z).step_wait κ c (got 6) (wait_for c rfl (credit_B _ _))) $$ [Hc6 HO Hg6]
  · isplitr; · iexact HK
    isplitl [Hc6]; · iexact Hc6
    isplitl [HO]; · iexact HO
    iexact Hg6
  iintro ⟨HO, Hg6⟩
  iapply ((wiring a z).step_wait κ c own (wait_for c rfl (credit_B _ _))) $$ [Hcl HO Hl]
  · isplitr; · iexact HK
    isplitl [Hcl]; · iexact Hcl
    isplitl [HO]; · iexact HO
    iexact Hl
  iintro ⟨HO, Hl⟩
  rw [wp_ret]
  imod ((wiring a z).finish κ c) $$ [Hs0 Hs1 Hs2 Hs3 Hs4 Hs5 Hs6 Hg0 Hg1 Hg2 Hg3 Hg4 Hg5 Hg6 Hl] with Hf
  · isplitr; · iexact HK
    rw [bigSep_cells]
    isplitl [Hs0 Hs1 Hs2 Hs3 Hs4 Hs5 Hs6]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hs6
    isplitl [Hg0 Hg1 Hg2 Hg3 Hg4 Hg5 Hg6]
    · isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      iexact Hg6
    iexact Hl
  imodintro
  isplitl [HO]; · iexact HO
  iexact Hf

end Body

end Cert.Weights

end
-- ==== Proof.GatherData.lean ====
/-
# The slabs of the gathered array, and what the gather leaves

Slab `i` of the result is its elements with first coordinate `i`, so the eight slabs are the array. Slab `i` of every device's result ends as device `i`'s argument.
-/
module

public import proofs.«01_k».proof.Proof.Gather

@[expose] public section

set_option Elab.async false

noncomputable section

namespace Cert.Weights

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.GatherIdeal Cert.GatherIdeal.Gen

variable {F : FTy → Type} [FloatOps F]

local notation "𝕄" => MT nD τ sig Unit (Elt F) ℕ (UU sig τ) ℕ

abbrev Ix8 : Type := S8x6800x1024.Idx

/-- The device a first coordinate names. -/
def devOf (x : Ix8) : D8 := ⟨(x 0).val, (x 0).isLt⟩

theorem off1_zero (t : D8) : k0_off1 t = ![t.val, 0, 0] := by rw [k0_off1_eq]; revert t; decide +kernel

/-- The rectangle of slab `t`. -/
abbrev slabRect (t : D8) : Rect S8x6800x1024 := Rect.unit (s := S8x6800x1024) (k0_off1 t) S1x6800x1024.size (k0_off1_inb t)

/-- Where an element of slab `t` sits. -/
def place (t : D8) (y : S6800x1024.Idx) : Ix8 := (slabRect t).emb (Shape.reshapeEquiv squeezes_S1x6800x1024_S6800x1024.numel_eq y)

theorem emb_B (t : D8) (y : S6800x1024.Idx) : (slabOf B t).view.emb y = place t y := rfl

theorem place_val (t : D8) (y : S6800x1024.Idx) (a : Fin 3) :
    (place t y a).val = (![t.val, 0, 0] : Fin 3 → ℕ) a + (Shape.reshapeEquiv squeezes_S1x6800x1024_S6800x1024.numel_eq y a).val := by
  have h : (place t y a).val = k0_off1 t a + 1 * (Shape.reshapeEquiv squeezes_S1x6800x1024_S6800x1024.numel_eq y a).val := rfl
  rw [h, off1_zero, Nat.one_mul]

theorem place_dev (t : D8) (y : S6800x1024.Idx) : devOf (place t y) = t := by
  apply Fin.ext
  show (place t y 0).val = t.val
  rw [place_val]
  have h := (Shape.reshapeEquiv squeezes_S1x6800x1024_S6800x1024.numel_eq y 0).isLt
  change _ < 1 at h
  show t.val + _ = t.val
  omega

/-- The last two coordinates. -/
def inSlab (x : Ix8) : S6800x1024.Idx
  | ⟨0, _⟩ => x 1
  | ⟨1, _⟩ => x 2
  | ⟨n + 2, h⟩ => absurd (show n + 2 < 2 from h) (by omega)

theorem inSlab_place (t : D8) (y : S6800x1024.Idx) : inSlab (place t y) = y := by
  apply S6800x1024.rowMajor.injective
  apply Fin.ext
  rw [← Shape.rowMajor_reshapeEquiv squeezes_S1x6800x1024_S6800x1024.numel_eq y, Shape.rowMajor_val_two, Shape.rowMajor_val_three]
  have h0 := (Shape.reshapeEquiv squeezes_S1x6800x1024_S6800x1024.numel_eq y 0).isLt
  change _ < 1 at h0
  have h1 : (place t y 1).val = _ := place_val t y 1
  have h2 : (place t y 2).val = _ := place_val t y 2
  show (place t y 1).val * 1024 + (place t y 2).val
    = ((Shape.reshapeEquiv squeezes_S1x6800x1024_S6800x1024.numel_eq y 0).val * 6800 + (Shape.reshapeEquiv squeezes_S1x6800x1024_S6800x1024.numel_eq y 1).val) * 1024
      + (Shape.reshapeEquiv squeezes_S1x6800x1024_S6800x1024.numel_eq y 2).val
  rw [h1, h2, Nat.lt_one_iff.mp h0]
  show (0 + _) * 1024 + (0 + _) = _
  omega

theorem mem_slab (M : Memref sig .tc .hbm S8x6800x1024 .bf16) (t : D8) : (slabOf M t).view.set = (M.view.slice (slabRect t)).set := View.set_reshape _ _

theorem mem_rect (t : D8) (x : Ix8) : x ∈ (slabRect t).set ↔ devOf x = t := by
  rw [Rect.mem_set_unit, off1_zero]
  constructor
  · intro h
    have h0 := h 0
    change t.val ≤ (x 0).val ∧ (x 0).val < t.val + 1 at h0
    exact Fin.ext (by show (x 0).val = t.val; omega)
  · rintro rfl a
    have hb := (x a).isLt
    rcases a with ⟨_ | _ | _ | n, hn⟩
    · exact ⟨Nat.le_refl _, Nat.lt_succ_self _⟩
    · exact ⟨Nat.zero_le _, by show (x 1).val < 0 + 6800; rw [Nat.zero_add]; exact hb⟩
    · exact ⟨Nat.zero_le _, by show (x 2).val < 0 + 1024; rw [Nat.zero_add]; exact hb⟩
    · exact absurd (show n + 3 < 3 from hn) (by omega)

theorem mem_B (t : D8) (x : Ix8) : x ∈ (slabOf B t).view.set ↔ devOf x = t := by
  rw [mem_slab, show (B.view.slice (slabRect t)).set = (slabRect t).set from View.set_slice_whole _ _]
  exact mem_rect t x

/-! ## The arrays slab by slab -/

variable (a : (c : D8) → Buf (Elt F) ((c.tc : Thread nD τ).loc main_arg0)) (z : (c : D8) → Buf (Elt F) ((c.tc : Thread nD τ).loc main_v1))

/-- What every device's result ends at. -/
def received (c : D8) : Buf (Elt F) ((c.tc : Thread nD τ).loc main_v1) := fun x : Ix8 => (a (devOf x) : S6800x1024.Idx → Elt F .bf16) (inSlab x)

theorem slabs_disjoint (S : D8 → Finset Ix8) (h : ∀ t x, x ∈ S t ↔ devOf x = t) (t t' : D8) (hn : t ≠ t') : Disjoint (S t) (S t') :=
  Finset.disjoint_left.mpr fun x hx hx' => hn (((h t x).mp hx).symm.trans ((h t' x).mp hx'))
theorem slabs_cover (S : D8 → Finset Ix8) (h : ∀ t x, x ∈ S t ↔ devOf x = t) : Finset.univ.biUnion S = Finset.univ :=
  Finset.eq_univ_of_forall fun x => Finset.mem_biUnion.mpr ⟨devOf x, Finset.mem_univ _, (h _ x).mpr rfl⟩

theorem arg_slabs (c : D8) :
    (((c.tc : Thread nD τ).loc main_arg0) ↦{fullShare} a c : sProp 𝕄) = bigSep Finset.univ fun r : Fin 8 => (wiring a z).piece c (c + r) r := by
  rw [pointsTo_pieces _ _ 7]
  refine bigSep_congr fun r _ => ?_
  show _ = (((c.tc : Thread nD τ).loc main_arg0) ↦[A.view.set]{Idealize.ShloMosaic.piece fullShare 7 r} a c : sProp 𝕄)
  rw [show A.view.set = Finset.univ from View.set_whole _]

theorem res_slabs (c : D8) :
    (((c.tc : Thread nD τ).loc main_v1) ↦{fullShare} z c : sProp 𝕄) = bigSep Finset.univ fun i : D8 => (wiring a z).slab c i := by
  rw [Ring.pointsTo_blocks (ℓ := (c.tc : Thread nD τ).loc main_v1) (fun t : D8 => (slabOf B t).view.set)
    (slabs_disjoint _ fun t x => mem_B t x) (slabs_cover _ fun t x => mem_B t x) (z c)]
  rfl

theorem landed_val (c i : D8) (x : Ix8) (hx : x ∈ (slabOf B i).view.set) : ((wiring a z).landedAt c i : Ix8 → Elt F .bf16) x = received a c x := by
  obtain ⟨y, -, rfl⟩ := Finset.mem_map.mp hx
  refine ((slabOf B i).view.write_emb_of_mem (z c) (A.view.read (Elt F) (a i)) (Finset.mem_univ y)).trans ?_
  show (a i : S6800x1024.Idx → Elt F .bf16) y = (a (devOf (place i y)) : S6800x1024.Idx → Elt F .bf16) (inSlab (place i y))
  rw [place_dev, inSlab_place]

theorem landed_slabs (c : D8) :
    (bigSep Finset.univ fun i : D8 => (wiring a z).landed c i) = (((c.tc : Thread nD τ).loc main_v1) ↦{fullShare} received a c : sProp 𝕄) := by
  rw [Ring.pointsTo_blocks (ℓ := (c.tc : Thread nD τ).loc main_v1) (fun t : D8 => (slabOf B t).view.set)
    (slabs_disjoint _ fun t x => mem_B t x) (slabs_cover _ fun t x => mem_B t x) (received a c)]
  exact bigSep_congr fun i _ => pointsTo_congr fun x hx => landed_val a z c i x hx

end Cert.Weights

end
-- ==== Proof.GatherRegion.lean ====
/-
# The gather's region

The kernel's region on one device, from its share of the exchange and the region boundary to the exchange finished and the boundary again.
-/
module

public import proofs.«01_k».proof.Proof.GatherData

@[expose] public section

set_option Elab.async false

noncomputable section

namespace Cert.Weights

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.GatherIdeal Cert.GatherIdeal.Gen

variable {F : FTy → Type} [FloatOps F]

local notation "𝕄" => MT nD τ sig Unit (Elt F) ℕ (UU sig τ) ℕ

variable (a : (c : D8) → Buf (Elt F) ((c.tc : Thread nD τ).loc main_arg0)) (z : (c : D8) → Buf (Elt F) ((c.tc : Thread nD τ).loc main_v1))

def osem : K → SemLoc sig := fun k => .dma (semOf k)
theorem ownSemFacts : Pipeline.OwnSemFacts cfg0.spec osem := by decide

/-- What the region starts from on device `c`, -/
def entering (c : D8) : sProp 𝕄 := iprop(∃ κ, (wiring a z).known κ ∗ (wiring a z).apart c)

/-- and the region's proof data: no window, one point. -/
def dats (_ : Fin 1) (c : Dev nD) : Pipeline.Dat τ (Elt F) Unit ℕ (UU sig τ) ℕ cfg0 c where
  A w := w.elim0
  after w := w.elim0
  Φ t := match t with
    | ⟨0, _⟩ => entering a z c
    | ⟨_ + 1, _⟩ => (wiring a z).finished c
  q _ := fullShare
  owed t := match t with
    | ⟨0, _⟩ => (wiring a z).due c 0
    | ⟨_ + 1, _⟩ => 0

/-- The end of the body as the loop wants it. -/
theorem body_leaves (c : D8) : iprop(Wiring.owing' c 0 ∗ (wiring a z).finished c)
    ⊢ iprop((wiring a z).finished c ∗ Pipeline.owesWithin c 0 ((dats (F := F) a z 0 c).bound () t0_0.succ) ∗ BI.emp : sProp 𝕄) := by
  unfold Wiring.owing'
  iintro ⟨⟨%W', HO⟩, HF⟩
  isplitl [HF]; · iexact HF
  isplitl [HO]
  · iexists W'
    isplitr; · ipureintro; exact fun _ _ => Or.inl trivial
    iexact HO
  iempintro

theorem body_starts (κ : D8 × K → ℕ) (c : D8) (b : Set (SemLoc sig × Unit)) :
    iprop((wiring a z).known κ ∗ (wiring a z).apart c ∗ Pipeline.owesWithin c ((wiring a z).due c 0) b)
      ⊢ iprop((wiring a z).known κ ∗ (wiring a z).share c : sProp 𝕄) := by
  iintro ⟨HK, HA, ⟨%W, -, HO⟩⟩
  isplitl [HK]; · iexact HK
  iapply ((wiring a z).share_intro c)
  isplitl [HA]; · iexact HA
  unfold Wiring.owing'
  iexists W; iexact HO

theorem body_obligation (c : D8) : Pipeline.BodyObligation (dats (F := F) a z 0 c) (defs₀ (F := F)) Variants.none () Set.univ := fun t => by
  rw [show t = t0_0 from fin_N0 t, show (Finset.univ : Finset (Fin cfg0.W)) = ∅ from rfl, BI.bigSep_empty, BI.bigSep_empty]
  show iprop(entering a z c ∗ Pipeline.owesWithin c ((wiring a z).due c 0) ((dats (F := F) a z 0 c).bound () t0_0.castSucc) ∗ BI.emp)
    ⊢ wp frame (wpE (defs₀ (F := F)) Variants.none (c.tc : Thread nD τ) none) Set.univ
        (cc0_gather_weights A (Memref.isWhole_whole _) B (Memref.isWhole_whole _) cc0_scratch0 cc0_scratch1 cc0_scratch2) (fun _ =>
          iprop((wiring a z).finished c ∗ Pipeline.owesWithin c 0 ((dats (F := F) a z 0 c).bound () t0_0.succ) ∗ BI.emp))
  unfold entering
  iintro ⟨⟨%κ, HK, HA⟩, HO, -⟩
  iapply ((body_starts a z κ c _).trans ((body_run a z κ c).trans (wp_mono _ _ _ fun _ => body_leaves a z c)))
  isplitl [HK]; · iexact HK
  isplitl [HA] <;> iassumption

theorem staging_none (c : D8) : (scopedBufs (c.tc : Thread nD τ) : sProp 𝕄) = iprop(Pipeline.Dat.staging cfg0 c ∗ Pipeline.scopedRest cfg0.spec c) :=
  Pipeline.scopedBufs_split cfgs (0 : Fin 1) winFacts0.stage_scoped winFacts0.stage_inj stage_whole0 c

/-- The counters of the region boundary: the exchange's and the rest. -/
theorem counters_split (c : D8) :
    (scopedSems0 (c.tc : Thread nD τ) : sProp 𝕄)
      = iprop((Pipeline.cellsSems0 cfgs (0 : Fin 1) c ∗ bigSep Finset.univ fun k : K => semVal ((wiring a z).cell (c, k)) 0)
          ∗ Pipeline.idleSems0 cfgs cellOf_inj (0 : Fin 1) ownSemFacts c) :=
  Pipeline.scopedSems0_split cfgs cellOf_inj (0 : Fin 1) winFacts0.to₀ ownSemFacts c

/-- What the exchange leaves a device, its counters returned: its argument as it was, its result received. -/
theorem finished_arrays (c : D8) : (wiring a z).finished c
    ⊢ iprop((bigSep Finset.univ fun k : K => semVal ((wiring a z).cell (c, k)) 0)
        ∗ (((c.tc : Thread nD τ).loc main_arg0) ↦{fullShare} a c) ∗ (((c.tc : Thread nD τ).loc main_v1) ↦{fullShare} received a c) : sProp 𝕄) := by
  rw [arg_slabs a z c, ← landed_slabs a z c]
  exact BI.Entails.refl _

theorem nothing (Φ : Fin 0 → sProp 𝕄) : (BI.emp : sProp 𝕄) ⊢ bigSep Finset.univ Φ := by rw [Finset.univ_eq_empty, BI.bigSep_empty]

theorem sep_left (P R : sProp 𝕄) : iprop(P ∗ R) ⊢ P := by iintro ⟨H, -⟩; iexact H

/-- A region without windows is entered with what is owed. -/
theorem owes_entry (c : D8) : Wiring.owing' c ((wiring a z).due c 0)
    ⊢ Pipeline.EntryPre cfgs (dats (F := F) a z) () EP (fun _ => 0) (0 : Fin 1) c := by
  unfold Pipeline.EntryPre Pipeline.PerCore.EntryPre Wiring.owing'
  have h1 : (BI.emp : sProp 𝕄) ⊢ (dats (F := F) a z 0 c).arrays fun w => (dats (F := F) a z 0 c).arrAt w 0 := nothing _
  have h2 : (BI.emp : sProp 𝕄) ⊢ Pipeline.PerCore.cellsWaits (fun _ : Dev nD => cfgs) (dats (F := F) a z) () (0 : Fin 1) c := nothing _
  have h3 : (BI.emp : sProp 𝕄) ⊢ Pipeline.PerCore.cellsInit (fun _ : Dev nD => cfgs) (dats (F := F) a z) EP (fun _ => 0) (0 : Fin 1) c := nothing _
  have h4 : (BI.emp : sProp 𝕄) ⊢ Pipeline.PerCore.toksInit (fun _ : Dev nD => cfgs) EP (0 : Fin 1) c := nothing _
  iintro ⟨%W, HO⟩
  isplitr; · iapply h1; iempintro
  isplitl [HO]
  · iexists W; isplitr; · ipureintro; exact fun _ _ => Or.inl trivial
    iexact HO
  isplitr; · iapply h2; iempintro
  isplitr; · iapply h3; iempintro
  iapply h4; iempintro

set_option maxHeartbeats 400000 in
/-- The region. -/
theorem region (c : D8) {β : Type} (k : PUnit → Prog (TpuEff nD τ sig (Elt F) (Pipeline.Sig Λ₀ (Fin 1) fun p => (pcfgs (F := F) p).Adm) .tc) β) (Q : β → sProp 𝕄) :
    iprop((entering a z c ∗ Wiring.owing' c ((wiring a z).due c 0)) ∗ scopedBufs (c.tc : Thread nD τ)
        ∗ Pipeline.idleSems0 cfgs cellOf_inj (0 : Fin 1) ownSemFacts c ∗ opIdle (c.tc : Thread nD τ))
      ⊢ iprop(((((((c.tc : Thread nD τ).loc main_arg0) ↦{fullShare} a c) ∗ (((c.tc : Thread nD τ).loc main_v1) ↦{fullShare} received a c))
              ∗ boundary (c.tc : Thread nD τ) ∗ Wiring.owing' c 0)
            -∗ wp frame (wpE (defs (F := F)) (Variants.lift Variants.none) (c.tc : Thread nD τ) none) Set.univ (k ⟨⟩) Q)
          -∗ wp frame (wpE (defs (F := F)) (Variants.lift Variants.none) (c.tc : Thread nD τ) none) Set.univ (.op (.customCall (Pipeline.entry 0) ()) k) Q) := by
  have hout : iprop((dats (F := F) a z 0 c).Φ (Fin.last cfg0.N) ∗ Pipeline.cellsSems0 cfgs (0 : Fin 1) c ∗ Pipeline.Dat.staging cfg0 c
        ∗ (Pipeline.idleSems0 cfgs cellOf_inj (0 : Fin 1) ownSemFacts c ∗ opIdle (c.tc : Thread nD τ)))
      ⊢ iprop((((((c.tc : Thread nD τ).loc main_arg0) ↦{fullShare} a c) ∗ (((c.tc : Thread nD τ).loc main_v1) ↦{fullShare} received a c)) ∗ opIdle (c.tc : Thread nD τ))
          ∗ scopedSems0 (c.tc : Thread nD τ) ∗ scopedBufs (c.tc : Thread nD τ)) := by
    rw [counters_split a z c, staging_none c, scopedRest0_eq]
    iintro ⟨HF, Hc, Hst, Hid, Hop⟩
    ihave HF := (show (dats (F := F) a z 0 c).Φ (Fin.last cfg0.N) ⊢ _ from finished_arrays a z c) $$ HF
    icases HF with ⟨Hk, Ha, Hz⟩
    isplitl [Ha Hz Hop]
    · isplitr [Hop]
      · isplitl [Ha] <;> iassumption
      iexact Hop
    isplitl [Hc Hk Hid]
    · isplitr [Hid]
      · isplitl [Hc] <;> iassumption
      iexact Hid
    isplitl [Hst]; · iexact Hst
    iempintro
  have hpf : (BI.emp : sProp 𝕄) ⊢ Pipeline.prefHeld (pcfgs (F := F) 0).pre c (fun _ => fullShare) (cfgs 0).toPCfg_adm.1 := nothing _
  iintro ⟨⟨HE, HO⟩, Hsc, Hid, Hop⟩ Hk
  iapply (Pipeline.wp_customCall_entry_frame pcfgs (fun p => (cfgs p).toPCfg_adm) (dats (F := F) a z) () EP (fun _ => 0) cellOf_inj (0 : Fin 1) defs₀ Variants.none
    (fun _ => fullShare) c Set.univ (fun _ _ => Set.mem_univ _) (body_obligation a z c) (fun w => w.elim0) none (fun _ h => by cases h)
    (X := entering a z c) (R := Pipeline.scopedRest cfg0.spec c)
    (I := iprop(Pipeline.idleSems0 cfgs cellOf_inj (0 : Fin 1) ownSemFacts c ∗ opIdle (c.tc : Thread nD τ)))
    (Entails.of_eq (staging_none c)) (sep_left _ _) hout (k := k) (Q := Q)) $$ [HE HO Hsc Hid Hop]
  · isplitl [HO]
    · iapply (owes_entry a z c)
      iexact HO
    isplitr; · iapply hpf; iempintro
    isplitl [HE]; · iexact HE
    isplitr [Hsc]; · isplitl [Hid] <;> iassumption
    iexact Hsc
  unfold Pipeline.EntryPost Pipeline.PerCore.EntryPost
  iintro ⟨⟨-, ⟨%W', -, HO⟩⟩, ⟨⟨Ha, Hz⟩, Hop⟩, Hss, Hsb⟩
  iapply Hk
  isplitl [Ha Hz]
  · isplitl [Ha] <;> iassumption
  isplitr [HO]
  · unfold boundary
    isplitl [Hsb]; · iexact Hsb
    isplitl [Hss] <;> iassumption
  unfold Wiring.owing'
  iexists W'; iexact HO

end Cert.Weights

end
-- ==== Proof.GatherRun.lean ====
/-
# The gather's run

From any memory with the counters at zero, every weakly fair execution of the gather ends with each device's argument as it was and slab `i` of its result device `i`'s argument.
-/
module

public import proofs.«01_k».proof.Proof.CoresLaunch
public import proofs.«01_k».proof.Proof.GatherRegion

@[expose] public section

set_option Elab.async false

noncomputable section

namespace Cert.Weights

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.GatherIdeal Cert.GatherIdeal.Gen Idealize.ShloMosaic.Rounds

variable {F : FTy → Type} [FloatOps F]

local notation "𝕄" => MT nD τ sig Unit (Elt F) ℕ (UU sig τ) ℕ

variable (m : (ℓ : Loc nD τ sig) → Buf (Elt F) ℓ)

/-- The arrays as launched. -/
abbrev a₀ (c : D8) : Buf (Elt F) ((c.tc : Thread nD τ).loc main_arg0) := m ((c.tc : Thread nD τ).loc main_arg0)
abbrev z₀ (c : D8) : Buf (Elt F) ((c.tc : Thread nD τ).loc main_v1) := m ((c.tc : Thread nD τ).loc main_v1)

/-- The exchange of the launched arrays, -/
abbrev X₀ : Wiring τ sig (Elt F) := wiring (a₀ m) (z₀ m)

/-- what its devices owe, -/
def O₀ (c : D8) : CellTallies nD τ sig Unit := (X₀ m).due c 0

/-- its ghost state, -/
def u₀ : UU sig τ := (1, initOf (X₀ m).cells (X₀ m).toks)

/-- and what a device starts from and ends with. -/
def start (c : D8) : sProp 𝕄 :=
  iprop((entering (a₀ m) (z₀ m) c ∗ Wiring.owing' c ((X₀ m).due c 0)) ∗ scopedBufs (c.tc : Thread nD τ)
    ∗ Pipeline.idleSems0 cfgs cellOf_inj (0 : Fin 1) ownSemFacts c ∗ opIdle (c.tc : Thread nD τ))
def ending (c : D8) : sProp 𝕄 :=
  iprop((((c.tc : Thread nD τ).loc main_arg0) ↦{fullShare} a₀ m c) ∗ (((c.tc : Thread nD τ).loc main_v1) ↦{fullShare} received (a₀ m) c))

theorem arrays_dealt (c : D8) : (unscopedBufs c (fun b => m ((c.tc : Thread nD τ).loc b)) : sProp 𝕄)
    = iprop((bigSep Finset.univ fun r : Fin 8 => (X₀ m).piece c (c + r) r) ∗ bigSep Finset.univ fun i : D8 => (X₀ m).slab c i) := by
  rw [← arg_slabs (a₀ m) (z₀ m) c, ← res_slabs (a₀ m) (z₀ m) c,
    Pipeline.unscopedBufs_split cfgs (0 : Fin 1) winFacts0.arr_unscoped winFacts0.arr_inj c (fun b => m ((c.tc : Thread nD τ).loc b)), unscopedRest0_eq,
    show (Finset.univ : Finset (Fin (cfgs 0).W)) = ∅ from rfl, BI.bigSep_empty]
  exact equiv_iff.mp BI.emp_sep

/-- One device's holdings, sorted. -/
theorem sorted (c : D8) : (dealt (O₀ m) m c : sProp 𝕄)
    ⊢ iprop((bigSep Finset.univ fun k : K => semVal ((X₀ m).cell (c, k)) 0) ∗ (bigSep Finset.univ fun r : Fin 8 => (X₀ m).piece c (c + r) r)
        ∗ (bigSep Finset.univ fun i : D8 => (X₀ m).slab c i) ∗ Pipeline.launchCred (fun d => (X₀ m).due d 0) c ∗ Wiring.owing' c ((X₀ m).due c 0)
        ∗ scopedBufs (c.tc : Thread nD τ) ∗ Pipeline.idleSems0 cfgs cellOf_inj (0 : Fin 1) ownSemFacts c ∗ opIdle (c.tc : Thread nD τ)) := by
  unfold dealt boundary
  rw [arrays_dealt, counters_split (a₀ m) (z₀ m) c]
  iintro ⟨⟨Hb, ⟨⟨-, Hk⟩, Hi⟩, Ho⟩, ⟨Hp, Hs⟩, HO, Hc⟩
  isplitl [Hk]; · iexact Hk
  isplitl [Hp]; · iexact Hp
  isplitl [Hs]; · iexact Hs
  isplitl [Hc]; · iexact Hc
  isplitl [HO]
  · unfold Wiring.owing' O₀
    iexists _; iexact HO
  isplitl [Hb]; · iexact Hb
  isplitl [Hi] <;> iassumption

/-- A device's share, what it owes apart. -/
theorem entered (c : D8) : iprop(∃ κ, (X₀ m).known κ ∗ (X₀ m).share c) ⊢ iprop(entering (a₀ m) (z₀ m) c ∗ Wiring.owing' c ((X₀ m).due c 0) : sProp 𝕄) := by
  unfold entering
  iintro ⟨%κ, HK, HS⟩
  ihave H := ((X₀ m).share_elim c) $$ HS
  icases H with ⟨HA, HO⟩
  isplitr [HO]
  · iexists κ
    isplitl [HK] <;> iassumption
  iexact HO

theorem launch (L : GSem nD τ sig → Finset Unit) (lv : GSem nD τ sig → Unit → ℕ) :
    iprop((bigSep Finset.univ fun c => dealt (O₀ m) m c) ∗ levAts L lv ∗ ownU (u₀ m)) ⊢ |={Set.univ}=> (bigSep Finset.univ (start m) : sProp 𝕄) := by
  refine (sep_mono_left (bigSep_mono fun c _ => sorted m c)).trans ?_
  have hE : (bigSep Finset.univ fun c : D8 => iprop(∃ κ, (X₀ m).known κ ∗ (X₀ m).share c) : sProp 𝕄)
      ⊢ bigSep Finset.univ fun c : D8 => iprop(entering (a₀ m) (z₀ m) c ∗ Wiring.owing' c ((X₀ m).due c 0)) := bigSep_mono fun c _ => entered m c
  unfold u₀ start
  simp only [BI.bigSep_sep']
  iintro ⟨⟨Hk, Hp, Hs, Hc, HO, Hb, Hi, Ho⟩, -, Hu⟩
  ihave H := (ownU_pair _ _) $$ Hu
  icases H with ⟨-, HX⟩
  imod ((X₀ m).dealt) $$ [Hk HX Hp Hs Hc HO] with HS
  · isplitl [Hk]; · iexact Hk
    isplitl [HX]; · iexact HX
    isplitl [Hp]; · iexact Hp
    isplitl [Hs]; · iexact Hs
    isplitl [Hc] <;> iassumption
  imodintro
  isplitl [HS]
  · rw [← BI.bigSep_sep']
    iapply hE
    iexact HS
  isplitl [Hb]; · iexact Hb
  isplitl [Hi] <;> iassumption

/-- What is read of a final memory. -/
def Ends (c : D8) (s : MemSt nD τ sig (Elt F)) : Prop :=
  s.mem ((c.tc : Thread nD τ).loc main_arg0) = a₀ m c ∧ s.mem ((c.tc : Thread nD τ).loc main_v1) = received (a₀ m) c

theorem ends_read (c : D8) (s' : Phys nD τ sig (Elt F)) : iprop(ending m c ∗ SI s') ⊢ |={Set.univ}=> iprop(⌜Ends m c s'.mem⌝ ∗ SI s' : sProp 𝕄) := by
  unfold ending
  iintro ⟨⟨Ha, Hz⟩, HSI⟩
  ihave %ha := (SI_pointsTo_agree) $$ [HSI Ha]
  · isplitl [HSI] <;> iassumption
  ihave %hz := (SI_pointsTo_agree) $$ [HSI Hz]
  · isplitl [HSI] <;> iassumption
  imodintro
  isplitr
  · ipureintro
    exact ⟨funext fun i => ha i (Finset.mem_univ i), funext fun i => hz i (Finset.mem_univ i)⟩
  iexact HSI

theorem device_run (c : D8) : (start m c : sProp 𝕄)
    ⊢ wp frame (wpE (defs (F := F)) (Variants.lift Variants.none) (c.tc : Thread nD τ) none) Set.univ (main (F := F) c)
        (fun _ => iprop((ending m c ∗ boundary (c.tc : Thread nD τ)) ∗ ∃ W, owes (c.tc : Thread nD τ) (0 : CellTallies nD τ sig Unit) W)) := by
  rw [show main (F := F) c = .op (.customCall (Pipeline.entry 0) ()) (fun _ => .ret ⟨⟩) from rfl]
  unfold start
  iintro H
  iapply (region (a₀ m) (z₀ m) c) $$ H
  unfold ending Wiring.owing'
  iintro ⟨Hy, Hb, HO⟩
  rw [wp_ret]
  imodintro
  isplitr [HO]
  · isplitl [Hy] <;> iassumption
  iexact HO

theorem scoped_all : ∀ sm : SemLoc sig, sm.isScoped .tc = true := by decide

theorem run (g : Dev nD → PrngReg) :
    θ_run (defs (F := F)) (onTc (τ := τ) (main (F := F))) ⟨m, fun _ => 0, g⟩ (fun r => (∀ c, Ends m c r.2) ∧ r.2.sem = fun _ => 0) :=
  run_cores (Variants.lift Variants.none) m g main (O₀ m) (fun _ => ∅) (fun _ _ => 0) (fun _ _ => rfl) (u₀ m) (start m) (ending m)
    (launch m _ _) (device_run m) (Ends m) (ends_read m) (fun _ h hs => ⟨h, sem_eq_zero_of_scoped scoped_all hs⟩)

end Cert.Weights

end
-- ==== Proof.GatherValue.lean ====
/-
# What the gather computes

The gather of the eight devices' packed weights is, on every device, the whole array of packs in slabs, one a device, which is what the reference makes in one piece.
-/
module

public import proofs.«01_k».proof.Defs
public import proofs.«01_k».proof.Proof.GatherRun
public import proofs.«01_k».proof.Proof.Gen.Gather
public import proofs.«01_k».proof.Proof.Gen.GatherReference
public import proofs.«01_k».proof.Proof.Gen.GatherReferenceIdeal.Run
public import Idealize.ShloMosaic.Init

@[expose] public section

set_option Elab.async false

noncomputable section

namespace Cert.Weights

open Idealize.ShloMosaic Idealize.SL.Sem
open Cert.GatherReferenceIdeal (S54400x1024)
open Cert.GatherReferenceIdeal.Gen

variable {α : Type}

/-- The packs `w` of all the devices, a slab each. -/
abbrev stacked (w : S54400x1024.Idx → α) : Ix8 → α := shapeCast _ w shapeCasts_S54400x1024_S8x6800x1024

/-- The element at index `y` of device `t`'s pack. -/
def atPack (t : Fin 8) (y : Cert.GatherIdeal.S6800x1024.Idx) : S54400x1024.Idx
  | ⟨0, _⟩ => ⟨t.val * 6800 + (y 0).val, by have := t.isLt; have h : (y 0).val < 6800 := (y 0).isLt; show _ < 54400; omega⟩
  | ⟨1, _⟩ => y 1
  | ⟨n + 2, h⟩ => absurd (show n + 2 < 2 from h) (by omega)

theorem stacked_at (w : S54400x1024.Idx → α) (x : Ix8) : stacked w x = w (atPack (devOf x) (inSlab x)) := by
  unfold stacked shapeCast
  refine congrArg w (Shape.reshapeEquiv_eq_of_rowMajor _ ?_)
  rw [Shape.rowMajor_val_three, Shape.rowMajor_val_two]
  rfl

/-- Device `t`'s block of a whole array, at an index. -/
theorem block_at (w : S54400x1024.Idx → α) (t : Fin 8) (y : Cert.GatherIdeal.S6800x1024.Idx) :
    Layout.block ⟨2, ![6800, 1024]⟩ ⟨2, ![54400, 1024]⟩ 0 8 t w (by decide) y = w (atPack t y) := by
  refine congrArg w (funext fun a => Fin.ext ?_)
  rw [Layout.Tiles.idx_val]
  rcases a with ⟨_ | _ | n, h⟩
  · exact if_pos rfl
  · exact if_neg (by show ¬ (1 = 0); omega)
  · exact absurd (show n + 2 < 2 from h) (by omega)

section Run

variable {F : FTy → Type} [FloatOps F]

open Cert.GatherIdeal (nD τ sig)
open Idealize.ShloMosaic.TcCoe

/-- If the devices hold the blocks of `w`, every one receives the stacked array. -/
theorem received_stacked (a : (c : Dev nD) → Buf (Elt F) ((c.tc : Thread nD τ).loc Cert.GatherIdeal.main_arg0)) (w : S54400x1024.Idx → Elt F .bf16)
    (h : ∀ c : Dev nD, a c = Layout.block ⟨2, ![6800, 1024]⟩ ⟨2, ![54400, 1024]⟩ 0 8 c w) (c : Dev nD) : received a c = stacked w := by
  funext x
  refine Eq.trans ?_ (stacked_at w x).symm
  show (a (devOf x) : Cert.GatherIdeal.S6800x1024.Idx → Elt F .bf16) (inSlab x) = _
  rw [h (devOf x)]
  exact block_at w (devOf x) (inSlab x)

/-- Kernel and reference, at any float values. -/
theorem agrees (m : (ℓ : Loc nD τ sig) → Buf (Elt F) ℓ) (g : Dev nD → PrngReg)
    (m' : (ℓ : Loc Cert.GatherReferenceIdeal.nD Cert.GatherReferenceIdeal.τ Cert.GatherReferenceIdeal.sig) → Buf (Elt F) ℓ) (g' : Dev Cert.GatherReferenceIdeal.nD → PrngReg)
    (h : ∀ c : Dev nD, m ((c.tc : Thread nD τ).loc Cert.GatherIdeal.main_arg0) = Layout.block ⟨2, ![6800, 1024]⟩ ⟨2, ![54400, 1024]⟩ 0 8 c
      (m' (((0 : Dev Cert.GatherReferenceIdeal.nD).tc : Thread Cert.GatherReferenceIdeal.nD Cert.GatherReferenceIdeal.τ).loc Cert.GatherReferenceIdeal.main_arg0))) :
    ∃ v : Buf (Elt F) (((0 : Dev Cert.GatherReferenceIdeal.nD).tc : Thread Cert.GatherReferenceIdeal.nD Cert.GatherReferenceIdeal.τ).loc Cert.GatherReferenceIdeal.main_v0),
      θ_run (Cert.GatherIdeal.defs (F := F)) (onTc (τ := τ) (Cert.GatherIdeal.main (F := F))) ⟨m, fun _ => 0, g⟩ (fun r => ∀ c : Dev nD,
          r.2.mem ((c.tc : Thread nD τ).loc Cert.GatherIdeal.main_v1) = v
          ∧ r.2.mem ((c.tc : Thread nD τ).loc Cert.GatherIdeal.main_arg0) = m ((c.tc : Thread nD τ).loc Cert.GatherIdeal.main_arg0))
      ∧ θ_run (Cert.GatherReferenceIdeal.defs (F := F)) (onTc (τ := Cert.GatherReferenceIdeal.τ) (Cert.GatherReferenceIdeal.main (F := F))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v0) = v
          ∧ r.2.mem (((0 : Dev Cert.GatherReferenceIdeal.nD).tc : Thread Cert.GatherReferenceIdeal.nD Cert.GatherReferenceIdeal.τ).loc Cert.GatherReferenceIdeal.main_arg0)
            = m' (((0 : Dev Cert.GatherReferenceIdeal.nD).tc : Thread Cert.GatherReferenceIdeal.nD Cert.GatherReferenceIdeal.τ).loc Cert.GatherReferenceIdeal.main_arg0)) :=
  ⟨_, (θ_run _ _ _).mono (fun _ hr c => ⟨(hr.1 c).2.trans (received_stacked (a₀ m) _ h c), (hr.1 c).1⟩) (run m g),
    (θ_run _ _ _).mono (fun _ hr => hr 0) (Cert.GatherReferenceIdeal.Value.run m' g')⟩

/-- The reference's frame, at any float values. -/
theorem reference_frame (m : (ℓ : Loc Cert.GatherReferenceIdeal.nD Cert.GatherReferenceIdeal.τ Cert.GatherReferenceIdeal.sig) → Buf (Elt F) ℓ)
    (g : Dev Cert.GatherReferenceIdeal.nD → PrngReg) :
    θ_run (Cert.GatherReferenceIdeal.defs (F := F)) (onTc (τ := Cert.GatherReferenceIdeal.τ) (Cert.GatherReferenceIdeal.main (F := F))) ⟨m, fun _ => 0, g⟩ (fun r =>
      (∀ c : Dev Cert.GatherReferenceIdeal.nD, r.2.mem ((c.tc : Thread Cert.GatherReferenceIdeal.nD Cert.GatherReferenceIdeal.τ).loc Cert.GatherReferenceIdeal.main_arg0)
        = m ((c.tc : Thread Cert.GatherReferenceIdeal.nD Cert.GatherReferenceIdeal.τ).loc Cert.GatherReferenceIdeal.main_arg0)) ∧ r.2.sem = fun _ => 0) :=
  (θ_run _ _ _).mono (fun r hr => ⟨fun c => (hr c).2, sem_eq_zero_of_no_sems (by decide) r.2⟩) (Cert.GatherReferenceIdeal.Value.run m g)

end Run

/-! ## The claims -/

theorem frame_kernel : Cert.quiescent_Gather (hGather := Cert.Gather.Gen.facts) := fun m g _ =>
  (θ_run Cert.GatherIdeal.defs _ _).mono (fun _ h => ⟨fun c => (h.1 c).1, h.2⟩) (run (F := Bits) m g)
theorem frame_kernelIdeal : Cert.quiescent_GatherIdeal (hGatherIdeal := Cert.GatherIdeal.Gen.facts) := fun m g _ =>
  (θ_run Cert.GatherIdeal.defs _ _).mono (fun _ h => ⟨fun c => (h.1 c).1, h.2⟩) (run (F := Ideal) m g)
theorem frame_reference : Cert.quiescent_GatherReference (hGatherReference := Cert.GatherReference.Gen.facts) := fun m g _ => reference_frame (F := Bits) m g
theorem frame_referenceIdeal : Cert.quiescent_GatherReferenceIdeal (hGatherReferenceIdeal := Cert.GatherReferenceIdeal.Gen.facts) := fun m g _ =>
  reference_frame (F := Ideal) m g
theorem value_ideal : Cert.algebraic_GatherIdeal_GatherReferenceIdeal (hGatherIdeal := Cert.GatherIdeal.Gen.facts)
    (hGatherReferenceIdeal := Cert.GatherReferenceIdeal.Gen.facts) := fun m g m' g' _ h => agrees (F := Ideal) m g m' g' h
theorem value_bits : Cert.bitexact_Gather_GatherReference (hGather := Cert.Gather.Gen.facts) (hGatherReference := Cert.GatherReference.Gen.facts) :=
  fun m g m' g' _ h => agrees (F := Bits) m g m' g' h

end Cert.Weights

end
-- ==== Proof.StepLarge.lean ====
/-
# The optimizer's step on the feed-forward and convolution weights' shards

Kernel and reference evaluate one expression at every element: over the extended reals a block's division and square root are the whole array's. The kernel's
blocks tile the shard, so the arrays agree.
-/
module

public import proofs.«01_k».proof.Defs
public import proofs.«01_k».proof.Proof.Gen.StepFfnGu
public import proofs.«01_k».proof.Proof.Gen.StepFfnGu.Frame
public import proofs.«01_k».proof.Proof.Gen.StepFfnGuIdeal
public import proofs.«01_k».proof.Proof.Gen.StepFfnGuIdeal.Frame
public import proofs.«01_k».proof.Proof.Gen.StepFfnGuIdeal.Value
public import proofs.«01_k».proof.Proof.Gen.StepFfnGuRef
public import proofs.«01_k».proof.Proof.Gen.StepFfnGuRefIdeal
public import proofs.«01_k».proof.Proof.Gen.StepFfnGuRefIdeal.Run
public import proofs.«01_k».proof.Proof.Gen.StepFfnDown
public import proofs.«01_k».proof.Proof.Gen.StepFfnDown.Frame
public import proofs.«01_k».proof.Proof.Gen.StepFfnDownIdeal
public import proofs.«01_k».proof.Proof.Gen.StepFfnDownIdeal.Frame
public import proofs.«01_k».proof.Proof.Gen.StepFfnDownIdeal.Value
public import proofs.«01_k».proof.Proof.Gen.StepFfnDownRef
public import proofs.«01_k».proof.Proof.Gen.StepFfnDownRefIdeal
public import proofs.«01_k».proof.Proof.Gen.StepFfnDownRefIdeal.Run
public import proofs.«01_k».proof.Proof.Gen.StepConvIn
public import proofs.«01_k».proof.Proof.Gen.StepConvIn.Frame
public import proofs.«01_k».proof.Proof.Gen.StepConvInIdeal
public import proofs.«01_k».proof.Proof.Gen.StepConvInIdeal.Frame
public import proofs.«01_k».proof.Proof.Gen.StepConvInIdeal.Value
public import proofs.«01_k».proof.Proof.Gen.StepConvInRef
public import proofs.«01_k».proof.Proof.Gen.StepConvInRefIdeal
public import proofs.«01_k».proof.Proof.Gen.StepConvInRefIdeal.Run
public import Idealize.ShloMosaic.Init

@[expose] public section

set_option Elab.async false

noncomputable section

namespace Cert.Step

open Idealize.ShloMosaic Idealize.SL.Sem
open Idealize.ShloMosaic.TcCoe

/-! ## Shards of 4096 × 704 -/

namespace FfnGu

open Cert.StepFfnGuRefIdeal Cert.StepFfnGuRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run _ _ _).mono (fun r h => ⟨fun c => (h c).2.2.2, sem_eq_zero_of_no_sems (by decide) r.2⟩) (Cert.StepFfnGuRefIdeal.Value.run m g)

theorem frame_kernel : Cert.quiescent_StepFfnGu (hStepFfnGu := Cert.StepFfnGu.Gen.facts) := fun m g _ => Cert.StepFfnGu.Gen.frame m g
theorem frame_kernelIdeal : Cert.quiescent_StepFfnGuIdeal (hStepFfnGuIdeal := Cert.StepFfnGuIdeal.Gen.facts) := fun m g _ => Cert.StepFfnGuIdeal.Gen.frame m g
theorem frame_reference : Cert.quiescent_StepFfnGuRef (hStepFfnGuRef := Cert.StepFfnGuRef.Gen.facts) := fun m g _ => reference_frame (F := Bits) m g
theorem frame_referenceIdeal : Cert.quiescent_StepFfnGuRefIdeal (hStepFfnGuRefIdeal := Cert.StepFfnGuRefIdeal.Gen.facts) := fun m g _ => reference_frame (F := Ideal) m g

theorem value : Cert.algebraic_StepFfnGuIdeal_StepFfnGuRefIdeal (hStepFfnGuIdeal := Cert.StepFfnGuIdeal.Gen.facts) (hStepFfnGuRefIdeal := Cert.StepFfnGuRefIdeal.Gen.facts) :=
  fun m g m' g' _ h => ⟨_, _, _, Cert.StepFfnGuIdeal.Value.run m g, (θ_run _ _ _).mono (fun r hr c => by
    obtain ⟨hd, hm, hv, hk⟩ := hr c
    obtain ⟨h0, h1, h2, h3⟩ := h c
    rw [h0, h1, h2, h3] at hd
    rw [h1, h2] at hm
    rw [h1, h3] at hv
    exact ⟨hd, hm, hv, hk⟩) (Cert.StepFfnGuRefIdeal.Value.run m' g')⟩

end FfnGu

/-! ## Shards of 1408 × 1024 -/

namespace FfnDown

open Cert.StepFfnDownRefIdeal Cert.StepFfnDownRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run _ _ _).mono (fun r h => ⟨fun c => (h c).2.2.2, sem_eq_zero_of_no_sems (by decide) r.2⟩) (Cert.StepFfnDownRefIdeal.Value.run m g)

theorem frame_kernel : Cert.quiescent_StepFfnDown (hStepFfnDown := Cert.StepFfnDown.Gen.facts) := fun m g _ => Cert.StepFfnDown.Gen.frame m g
theorem frame_kernelIdeal : Cert.quiescent_StepFfnDownIdeal (hStepFfnDownIdeal := Cert.StepFfnDownIdeal.Gen.facts) := fun m g _ => Cert.StepFfnDownIdeal.Gen.frame m g
theorem frame_reference : Cert.quiescent_StepFfnDownRef (hStepFfnDownRef := Cert.StepFfnDownRef.Gen.facts) := fun m g _ => reference_frame (F := Bits) m g
theorem frame_referenceIdeal : Cert.quiescent_StepFfnDownRefIdeal (hStepFfnDownRefIdeal := Cert.StepFfnDownRefIdeal.Gen.facts) := fun m g _ => reference_frame (F := Ideal) m g

theorem value : Cert.algebraic_StepFfnDownIdeal_StepFfnDownRefIdeal (hStepFfnDownIdeal := Cert.StepFfnDownIdeal.Gen.facts) (hStepFfnDownRefIdeal := Cert.StepFfnDownRefIdeal.Gen.facts) :=
  fun m g m' g' _ h => ⟨_, _, _, Cert.StepFfnDownIdeal.Value.run m g, (θ_run _ _ _).mono (fun r hr c => by
    obtain ⟨hd, hm, hv, hk⟩ := hr c
    obtain ⟨h0, h1, h2, h3⟩ := h c
    rw [h0, h1, h2, h3] at hd
    rw [h1, h2] at hm
    rw [h1, h3] at hv
    exact ⟨hd, hm, hv, hk⟩) (Cert.StepFfnDownRefIdeal.Value.run m' g')⟩

end FfnDown

/-! ## Shards of 2048 × 384 -/

namespace ConvIn

open Cert.StepConvInRefIdeal Cert.StepConvInRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run _ _ _).mono (fun r h => ⟨fun c => (h c).2.2.2, sem_eq_zero_of_no_sems (by decide) r.2⟩) (Cert.StepConvInRefIdeal.Value.run m g)

theorem frame_kernel : Cert.quiescent_StepConvIn (hStepConvIn := Cert.StepConvIn.Gen.facts) := fun m g _ => Cert.StepConvIn.Gen.frame m g
theorem frame_kernelIdeal : Cert.quiescent_StepConvInIdeal (hStepConvInIdeal := Cert.StepConvInIdeal.Gen.facts) := fun m g _ => Cert.StepConvInIdeal.Gen.frame m g
theorem frame_reference : Cert.quiescent_StepConvInRef (hStepConvInRef := Cert.StepConvInRef.Gen.facts) := fun m g _ => reference_frame (F := Bits) m g
theorem frame_referenceIdeal : Cert.quiescent_StepConvInRefIdeal (hStepConvInRefIdeal := Cert.StepConvInRefIdeal.Gen.facts) := fun m g _ => reference_frame (F := Ideal) m g

theorem value : Cert.algebraic_StepConvInIdeal_StepConvInRefIdeal (hStepConvInIdeal := Cert.StepConvInIdeal.Gen.facts) (hStepConvInRefIdeal := Cert.StepConvInRefIdeal.Gen.facts) :=
  fun m g m' g' _ h => ⟨_, _, _, Cert.StepConvInIdeal.Value.run m g, (θ_run _ _ _).mono (fun r hr c => by
    obtain ⟨hd, hm, hv, hk⟩ := hr c
    obtain ⟨h0, h1, h2, h3⟩ := h c
    rw [h0, h1, h2, h3] at hd
    rw [h1, h2] at hm
    rw [h1, h3] at hv
    exact ⟨hd, hm, hv, hk⟩) (Cert.StepConvInRefIdeal.Value.run m' g')⟩

end ConvIn

end Cert.Step

end
-- ==== Proof.StepMixers.lean ====
/-
# The optimizer's step on the mixers' weight shards

Kernel and reference evaluate one expression at every element: over the extended reals a block's division and square root are the whole array's. The kernel's
blocks tile the shard, so the arrays agree.
-/
module

public import proofs.«01_k».proof.Defs
public import proofs.«01_k».proof.Proof.Gen.StepConvOut
public import proofs.«01_k».proof.Proof.Gen.StepConvOut.Frame
public import proofs.«01_k».proof.Proof.Gen.StepConvOutIdeal
public import proofs.«01_k».proof.Proof.Gen.StepConvOutIdeal.Frame
public import proofs.«01_k».proof.Proof.Gen.StepConvOutIdeal.Value
public import proofs.«01_k».proof.Proof.Gen.StepConvOutRef
public import proofs.«01_k».proof.Proof.Gen.StepConvOutRefIdeal
public import proofs.«01_k».proof.Proof.Gen.StepConvOutRefIdeal.Run
public import proofs.«01_k».proof.Proof.Gen.StepFoxIn
public import proofs.«01_k».proof.Proof.Gen.StepFoxIn.Frame
public import proofs.«01_k».proof.Proof.Gen.StepFoxInIdeal
public import proofs.«01_k».proof.Proof.Gen.StepFoxInIdeal.Frame
public import proofs.«01_k».proof.Proof.Gen.StepFoxInIdeal.Value
public import proofs.«01_k».proof.Proof.Gen.StepFoxInRef
public import proofs.«01_k».proof.Proof.Gen.StepFoxInRefIdeal
public import proofs.«01_k».proof.Proof.Gen.StepFoxInRefIdeal.Run
public import proofs.«01_k».proof.Proof.Gen.StepFoxOut
public import proofs.«01_k».proof.Proof.Gen.StepFoxOut.Frame
public import proofs.«01_k».proof.Proof.Gen.StepFoxOutIdeal
public import proofs.«01_k».proof.Proof.Gen.StepFoxOutIdeal.Frame
public import proofs.«01_k».proof.Proof.Gen.StepFoxOutIdeal.Value
public import proofs.«01_k».proof.Proof.Gen.StepFoxOutRef
public import proofs.«01_k».proof.Proof.Gen.StepFoxOutRefIdeal
public import proofs.«01_k».proof.Proof.Gen.StepFoxOutRefIdeal.Run
public import proofs.«01_k».proof.Proof.Gen.StepSsdIn
public import proofs.«01_k».proof.Proof.Gen.StepSsdIn.Frame
public import proofs.«01_k».proof.Proof.Gen.StepSsdInIdeal
public import proofs.«01_k».proof.Proof.Gen.StepSsdInIdeal.Frame
public import proofs.«01_k».proof.Proof.Gen.StepSsdInIdeal.Value
public import proofs.«01_k».proof.Proof.Gen.StepSsdInRef
public import proofs.«01_k».proof.Proof.Gen.StepSsdInRefIdeal
public import proofs.«01_k».proof.Proof.Gen.StepSsdInRefIdeal.Run
public import Idealize.ShloMosaic.Init

@[expose] public section

set_option Elab.async false

noncomputable section

namespace Cert.Step

open Idealize.ShloMosaic Idealize.SL.Sem
open Idealize.ShloMosaic.TcCoe

/-! ## Shards of 256 × 1024 -/

namespace ConvOut

open Cert.StepConvOutRefIdeal Cert.StepConvOutRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run _ _ _).mono (fun r h => ⟨fun c => (h c).2.2.2, sem_eq_zero_of_no_sems (by decide) r.2⟩) (Cert.StepConvOutRefIdeal.Value.run m g)

theorem frame_kernel : Cert.quiescent_StepConvOut (hStepConvOut := Cert.StepConvOut.Gen.facts) := fun m g _ => Cert.StepConvOut.Gen.frame m g
theorem frame_kernelIdeal : Cert.quiescent_StepConvOutIdeal (hStepConvOutIdeal := Cert.StepConvOutIdeal.Gen.facts) := fun m g _ => Cert.StepConvOutIdeal.Gen.frame m g
theorem frame_reference : Cert.quiescent_StepConvOutRef (hStepConvOutRef := Cert.StepConvOutRef.Gen.facts) := fun m g _ => reference_frame (F := Bits) m g
theorem frame_referenceIdeal : Cert.quiescent_StepConvOutRefIdeal (hStepConvOutRefIdeal := Cert.StepConvOutRefIdeal.Gen.facts) := fun m g _ => reference_frame (F := Ideal) m g

theorem value : Cert.algebraic_StepConvOutIdeal_StepConvOutRefIdeal (hStepConvOutIdeal := Cert.StepConvOutIdeal.Gen.facts) (hStepConvOutRefIdeal := Cert.StepConvOutRefIdeal.Gen.facts) :=
  fun m g m' g' _ h => ⟨_, _, _, Cert.StepConvOutIdeal.Value.run m g, (θ_run _ _ _).mono (fun r hr c => by
    obtain ⟨hd, hm, hv, hk⟩ := hr c
    obtain ⟨h0, h1, h2, h3⟩ := h c
    rw [h0, h1, h2, h3] at hd
    rw [h1, h2] at hm
    rw [h1, h3] at hv
    exact ⟨hd, hm, hv, hk⟩) (Cert.StepConvOutRefIdeal.Value.run m' g')⟩

end ConvOut

/-! ## Shards of 1024 × 386 -/

namespace FoxIn

open Cert.StepFoxInRefIdeal Cert.StepFoxInRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run _ _ _).mono (fun r h => ⟨fun c => (h c).2.2.2, sem_eq_zero_of_no_sems (by decide) r.2⟩) (Cert.StepFoxInRefIdeal.Value.run m g)

theorem frame_kernel : Cert.quiescent_StepFoxIn (hStepFoxIn := Cert.StepFoxIn.Gen.facts) := fun m g _ => Cert.StepFoxIn.Gen.frame m g
theorem frame_kernelIdeal : Cert.quiescent_StepFoxInIdeal (hStepFoxInIdeal := Cert.StepFoxInIdeal.Gen.facts) := fun m g _ => Cert.StepFoxInIdeal.Gen.frame m g
theorem frame_reference : Cert.quiescent_StepFoxInRef (hStepFoxInRef := Cert.StepFoxInRef.Gen.facts) := fun m g _ => reference_frame (F := Bits) m g
theorem frame_referenceIdeal : Cert.quiescent_StepFoxInRefIdeal (hStepFoxInRefIdeal := Cert.StepFoxInRefIdeal.Gen.facts) := fun m g _ => reference_frame (F := Ideal) m g

theorem value : Cert.algebraic_StepFoxInIdeal_StepFoxInRefIdeal (hStepFoxInIdeal := Cert.StepFoxInIdeal.Gen.facts) (hStepFoxInRefIdeal := Cert.StepFoxInRefIdeal.Gen.facts) :=
  fun m g m' g' _ h => ⟨_, _, _, Cert.StepFoxInIdeal.Value.run m g, (θ_run _ _ _).mono (fun r hr c => by
    obtain ⟨hd, hm, hv, hk⟩ := hr c
    obtain ⟨h0, h1, h2, h3⟩ := h c
    rw [h0, h1, h2, h3] at hd
    rw [h1, h2] at hm
    rw [h1, h3] at hv
    exact ⟨hd, hm, hv, hk⟩) (Cert.StepFoxInRefIdeal.Value.run m' g')⟩

end FoxIn

/-! ## Shards of 128 × 1024 -/

namespace FoxOut

open Cert.StepFoxOutRefIdeal Cert.StepFoxOutRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run _ _ _).mono (fun r h => ⟨fun c => (h c).2.2.2, sem_eq_zero_of_no_sems (by decide) r.2⟩) (Cert.StepFoxOutRefIdeal.Value.run m g)

theorem frame_kernel : Cert.quiescent_StepFoxOut (hStepFoxOut := Cert.StepFoxOut.Gen.facts) := fun m g _ => Cert.StepFoxOut.Gen.frame m g
theorem frame_kernelIdeal : Cert.quiescent_StepFoxOutIdeal (hStepFoxOutIdeal := Cert.StepFoxOutIdeal.Gen.facts) := fun m g _ => Cert.StepFoxOutIdeal.Gen.frame m g
theorem frame_reference : Cert.quiescent_StepFoxOutRef (hStepFoxOutRef := Cert.StepFoxOutRef.Gen.facts) := fun m g _ => reference_frame (F := Bits) m g
theorem frame_referenceIdeal : Cert.quiescent_StepFoxOutRefIdeal (hStepFoxOutRefIdeal := Cert.StepFoxOutRefIdeal.Gen.facts) := fun m g _ => reference_frame (F := Ideal) m g

theorem value : Cert.algebraic_StepFoxOutIdeal_StepFoxOutRefIdeal (hStepFoxOutIdeal := Cert.StepFoxOutIdeal.Gen.facts) (hStepFoxOutRefIdeal := Cert.StepFoxOutRefIdeal.Gen.facts) :=
  fun m g m' g' _ h => ⟨_, _, _, Cert.StepFoxOutIdeal.Value.run m g, (θ_run _ _ _).mono (fun r hr c => by
    obtain ⟨hd, hm, hv, hk⟩ := hr c
    obtain ⟨h0, h1, h2, h3⟩ := h c
    rw [h0, h1, h2, h3] at hd
    rw [h1, h2] at hm
    rw [h1, h3] at hv
    exact ⟨hd, hm, hv, hk⟩) (Cert.StepFoxOutRefIdeal.Value.run m' g')⟩

end FoxOut

/-! ## Shards of 1024 × 772 -/

namespace SsdIn

open Cert.StepSsdInRefIdeal Cert.StepSsdInRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run _ _ _).mono (fun r h => ⟨fun c => (h c).2.2.2, sem_eq_zero_of_no_sems (by decide) r.2⟩) (Cert.StepSsdInRefIdeal.Value.run m g)

theorem frame_kernel : Cert.quiescent_StepSsdIn (hStepSsdIn := Cert.StepSsdIn.Gen.facts) := fun m g _ => Cert.StepSsdIn.Gen.frame m g
theorem frame_kernelIdeal : Cert.quiescent_StepSsdInIdeal (hStepSsdInIdeal := Cert.StepSsdInIdeal.Gen.facts) := fun m g _ => Cert.StepSsdInIdeal.Gen.frame m g
theorem frame_reference : Cert.quiescent_StepSsdInRef (hStepSsdInRef := Cert.StepSsdInRef.Gen.facts) := fun m g _ => reference_frame (F := Bits) m g
theorem frame_referenceIdeal : Cert.quiescent_StepSsdInRefIdeal (hStepSsdInRefIdeal := Cert.StepSsdInRefIdeal.Gen.facts) := fun m g _ => reference_frame (F := Ideal) m g

theorem value : Cert.algebraic_StepSsdInIdeal_StepSsdInRefIdeal (hStepSsdInIdeal := Cert.StepSsdInIdeal.Gen.facts) (hStepSsdInRefIdeal := Cert.StepSsdInRefIdeal.Gen.facts) :=
  fun m g m' g' _ h => ⟨_, _, _, Cert.StepSsdInIdeal.Value.run m g, (θ_run _ _ _).mono (fun r hr c => by
    obtain ⟨hd, hm, hv, hk⟩ := hr c
    obtain ⟨h0, h1, h2, h3⟩ := h c
    rw [h0, h1, h2, h3] at hd
    rw [h1, h2] at hm
    rw [h1, h3] at hv
    exact ⟨hd, hm, hv, hk⟩) (Cert.StepSsdInRefIdeal.Value.run m' g')⟩

end SsdIn

end Cert.Step

end
-- ==== Proof.StepSmall.lean ====
/-
# The optimizer's step on the small weights

Kernel and reference evaluate one expression at every element: over the extended reals a block's division and square root are the whole array's. The kernel's
blocks tile the shard, so the arrays agree.
-/
module

public import proofs.«01_k».proof.Defs
public import proofs.«01_k».proof.Proof.Gen.StepConvDw
public import proofs.«01_k».proof.Proof.Gen.StepConvDw.Frame
public import proofs.«01_k».proof.Proof.Gen.StepConvDwIdeal
public import proofs.«01_k».proof.Proof.Gen.StepConvDwIdeal.Frame
public import proofs.«01_k».proof.Proof.Gen.StepConvDwIdeal.Value
public import proofs.«01_k».proof.Proof.Gen.StepConvDwRef
public import proofs.«01_k».proof.Proof.Gen.StepConvDwRefIdeal
public import proofs.«01_k».proof.Proof.Gen.StepConvDwRefIdeal.Run
public import proofs.«01_k».proof.Proof.Gen.StepSsdConvW
public import proofs.«01_k».proof.Proof.Gen.StepSsdConvW.Frame
public import proofs.«01_k».proof.Proof.Gen.StepSsdConvWIdeal
public import proofs.«01_k».proof.Proof.Gen.StepSsdConvWIdeal.Frame
public import proofs.«01_k».proof.Proof.Gen.StepSsdConvWIdeal.Value
public import proofs.«01_k».proof.Proof.Gen.StepSsdConvWRef
public import proofs.«01_k».proof.Proof.Gen.StepSsdConvWRefIdeal
public import proofs.«01_k».proof.Proof.Gen.StepSsdConvWRefIdeal.Run
public import proofs.«01_k».proof.Proof.Gen.StepSsdConvB
public import proofs.«01_k».proof.Proof.Gen.StepSsdConvB.Frame
public import proofs.«01_k».proof.Proof.Gen.StepSsdConvBIdeal
public import proofs.«01_k».proof.Proof.Gen.StepSsdConvBIdeal.Frame
public import proofs.«01_k».proof.Proof.Gen.StepSsdConvBIdeal.Value
public import proofs.«01_k».proof.Proof.Gen.StepSsdConvBRef
public import proofs.«01_k».proof.Proof.Gen.StepSsdConvBRefIdeal
public import proofs.«01_k».proof.Proof.Gen.StepSsdConvBRefIdeal.Run
public import proofs.«01_k».proof.Proof.Gen.StepSsdNorm
public import proofs.«01_k».proof.Proof.Gen.StepSsdNorm.Frame
public import proofs.«01_k».proof.Proof.Gen.StepSsdNormIdeal
public import proofs.«01_k».proof.Proof.Gen.StepSsdNormIdeal.Frame
public import proofs.«01_k».proof.Proof.Gen.StepSsdNormIdeal.Value
public import proofs.«01_k».proof.Proof.Gen.StepSsdNormRef
public import proofs.«01_k».proof.Proof.Gen.StepSsdNormRefIdeal
public import proofs.«01_k».proof.Proof.Gen.StepSsdNormRefIdeal.Run
public import proofs.«01_k».proof.Proof.Gen.StepMixNorm
public import proofs.«01_k».proof.Proof.Gen.StepMixNorm.Frame
public import proofs.«01_k».proof.Proof.Gen.StepMixNormIdeal
public import proofs.«01_k».proof.Proof.Gen.StepMixNormIdeal.Frame
public import proofs.«01_k».proof.Proof.Gen.StepMixNormIdeal.Value
public import proofs.«01_k».proof.Proof.Gen.StepMixNormRef
public import proofs.«01_k».proof.Proof.Gen.StepMixNormRefIdeal
public import proofs.«01_k».proof.Proof.Gen.StepMixNormRefIdeal.Run
public import proofs.«01_k».proof.Proof.Gen.StepFoxBf
public import proofs.«01_k».proof.Proof.Gen.StepFoxBf.Frame
public import proofs.«01_k».proof.Proof.Gen.StepFoxBfIdeal
public import proofs.«01_k».proof.Proof.Gen.StepFoxBfIdeal.Frame
public import proofs.«01_k».proof.Proof.Gen.StepFoxBfIdeal.Value
public import proofs.«01_k».proof.Proof.Gen.StepFoxBfRef
public import proofs.«01_k».proof.Proof.Gen.StepFoxBfRefIdeal
public import proofs.«01_k».proof.Proof.Gen.StepFoxBfRefIdeal.Run
public import proofs.«01_k».proof.Proof.Gen.StepFoxQ
public import proofs.«01_k».proof.Proof.Gen.StepFoxQ.Frame
public import proofs.«01_k».proof.Proof.Gen.StepFoxQIdeal
public import proofs.«01_k».proof.Proof.Gen.StepFoxQIdeal.Frame
public import proofs.«01_k».proof.Proof.Gen.StepFoxQIdeal.Value
public import proofs.«01_k».proof.Proof.Gen.StepFoxQRef
public import proofs.«01_k».proof.Proof.Gen.StepFoxQRefIdeal
public import proofs.«01_k».proof.Proof.Gen.StepFoxQRefIdeal.Run
public import proofs.«01_k».proof.Proof.Gen.StepSsdDt
public import proofs.«01_k».proof.Proof.Gen.StepSsdDt.Frame
public import proofs.«01_k».proof.Proof.Gen.StepSsdDtIdeal
public import proofs.«01_k».proof.Proof.Gen.StepSsdDtIdeal.Frame
public import proofs.«01_k».proof.Proof.Gen.StepSsdDtIdeal.Value
public import proofs.«01_k».proof.Proof.Gen.StepSsdDtRef
public import proofs.«01_k».proof.Proof.Gen.StepSsdDtRefIdeal
public import proofs.«01_k».proof.Proof.Gen.StepSsdDtRefIdeal.Run
public import Idealize.ShloMosaic.Init

@[expose] public section

set_option Elab.async false

noncomputable section

namespace Cert.Step

open Idealize.ShloMosaic Idealize.SL.Sem
open Idealize.ShloMosaic.TcCoe

/-! ## Shards of 6 × 128 -/

namespace ConvDw

open Cert.StepConvDwRefIdeal Cert.StepConvDwRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run _ _ _).mono (fun r h => ⟨fun c => (h c).2.2.2, sem_eq_zero_of_no_sems (by decide) r.2⟩) (Cert.StepConvDwRefIdeal.Value.run m g)

theorem frame_kernel : Cert.quiescent_StepConvDw (hStepConvDw := Cert.StepConvDw.Gen.facts) := fun m g _ => Cert.StepConvDw.Gen.frame m g
theorem frame_kernelIdeal : Cert.quiescent_StepConvDwIdeal (hStepConvDwIdeal := Cert.StepConvDwIdeal.Gen.facts) := fun m g _ => Cert.StepConvDwIdeal.Gen.frame m g
theorem frame_reference : Cert.quiescent_StepConvDwRef (hStepConvDwRef := Cert.StepConvDwRef.Gen.facts) := fun m g _ => reference_frame (F := Bits) m g
theorem frame_referenceIdeal : Cert.quiescent_StepConvDwRefIdeal (hStepConvDwRefIdeal := Cert.StepConvDwRefIdeal.Gen.facts) := fun m g _ => reference_frame (F := Ideal) m g

theorem value : Cert.algebraic_StepConvDwIdeal_StepConvDwRefIdeal (hStepConvDwIdeal := Cert.StepConvDwIdeal.Gen.facts) (hStepConvDwRefIdeal := Cert.StepConvDwRefIdeal.Gen.facts) :=
  fun m g m' g' _ h => ⟨_, _, _, Cert.StepConvDwIdeal.Value.run m g, (θ_run _ _ _).mono (fun r hr c => by
    obtain ⟨hd, hm, hv, hk⟩ := hr c
    obtain ⟨h0, h1, h2, h3⟩ := h c
    rw [h0, h1, h2, h3] at hd
    rw [h1, h2] at hm
    rw [h1, h3] at hv
    exact ⟨hd, hm, hv, hk⟩) (Cert.StepConvDwRefIdeal.Value.run m' g')⟩

end ConvDw

/-! ## Shards of 4 × 512 -/

namespace SsdConvW

open Cert.StepSsdConvWRefIdeal Cert.StepSsdConvWRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run _ _ _).mono (fun r h => ⟨fun c => (h c).2.2.2, sem_eq_zero_of_no_sems (by decide) r.2⟩) (Cert.StepSsdConvWRefIdeal.Value.run m g)

theorem frame_kernel : Cert.quiescent_StepSsdConvW (hStepSsdConvW := Cert.StepSsdConvW.Gen.facts) := fun m g _ => Cert.StepSsdConvW.Gen.frame m g
theorem frame_kernelIdeal : Cert.quiescent_StepSsdConvWIdeal (hStepSsdConvWIdeal := Cert.StepSsdConvWIdeal.Gen.facts) := fun m g _ => Cert.StepSsdConvWIdeal.Gen.frame m g
theorem frame_reference : Cert.quiescent_StepSsdConvWRef (hStepSsdConvWRef := Cert.StepSsdConvWRef.Gen.facts) := fun m g _ => reference_frame (F := Bits) m g
theorem frame_referenceIdeal : Cert.quiescent_StepSsdConvWRefIdeal (hStepSsdConvWRefIdeal := Cert.StepSsdConvWRefIdeal.Gen.facts) := fun m g _ => reference_frame (F := Ideal) m g

theorem value : Cert.algebraic_StepSsdConvWIdeal_StepSsdConvWRefIdeal (hStepSsdConvWIdeal := Cert.StepSsdConvWIdeal.Gen.facts) (hStepSsdConvWRefIdeal := Cert.StepSsdConvWRefIdeal.Gen.facts) :=
  fun m g m' g' _ h => ⟨_, _, _, Cert.StepSsdConvWIdeal.Value.run m g, (θ_run _ _ _).mono (fun r hr c => by
    obtain ⟨hd, hm, hv, hk⟩ := hr c
    obtain ⟨h0, h1, h2, h3⟩ := h c
    rw [h0, h1, h2, h3] at hd
    rw [h1, h2] at hm
    rw [h1, h3] at hv
    exact ⟨hd, hm, hv, hk⟩) (Cert.StepSsdConvWRefIdeal.Value.run m' g')⟩

end SsdConvW

/-! ## Shards of 1 × 512 -/

namespace SsdConvB

open Cert.StepSsdConvBRefIdeal Cert.StepSsdConvBRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run _ _ _).mono (fun r h => ⟨fun c => (h c).2.2.2, sem_eq_zero_of_no_sems (by decide) r.2⟩) (Cert.StepSsdConvBRefIdeal.Value.run m g)

theorem frame_kernel : Cert.quiescent_StepSsdConvB (hStepSsdConvB := Cert.StepSsdConvB.Gen.facts) := fun m g _ => Cert.StepSsdConvB.Gen.frame m g
theorem frame_kernelIdeal : Cert.quiescent_StepSsdConvBIdeal (hStepSsdConvBIdeal := Cert.StepSsdConvBIdeal.Gen.facts) := fun m g _ => Cert.StepSsdConvBIdeal.Gen.frame m g
theorem frame_reference : Cert.quiescent_StepSsdConvBRef (hStepSsdConvBRef := Cert.StepSsdConvBRef.Gen.facts) := fun m g _ => reference_frame (F := Bits) m g
theorem frame_referenceIdeal : Cert.quiescent_StepSsdConvBRefIdeal (hStepSsdConvBRefIdeal := Cert.StepSsdConvBRefIdeal.Gen.facts) := fun m g _ => reference_frame (F := Ideal) m g

theorem value : Cert.algebraic_StepSsdConvBIdeal_StepSsdConvBRefIdeal (hStepSsdConvBIdeal := Cert.StepSsdConvBIdeal.Gen.facts) (hStepSsdConvBRefIdeal := Cert.StepSsdConvBRefIdeal.Gen.facts) :=
  fun m g m' g' _ h => ⟨_, _, _, Cert.StepSsdConvBIdeal.Value.run m g, (θ_run _ _ _).mono (fun r hr c => by
    obtain ⟨hd, hm, hv, hk⟩ := hr c
    obtain ⟨h0, h1, h2, h3⟩ := h c
    rw [h0, h1, h2, h3] at hd
    rw [h1, h2] at hm
    rw [h1, h3] at hv
    exact ⟨hd, hm, hv, hk⟩) (Cert.StepSsdConvBRefIdeal.Value.run m' g')⟩

end SsdConvB

/-! ## Shards of 1 × 256 -/

namespace SsdNorm

open Cert.StepSsdNormRefIdeal Cert.StepSsdNormRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run _ _ _).mono (fun r h => ⟨fun c => (h c).2.2.2, sem_eq_zero_of_no_sems (by decide) r.2⟩) (Cert.StepSsdNormRefIdeal.Value.run m g)

theorem frame_kernel : Cert.quiescent_StepSsdNorm (hStepSsdNorm := Cert.StepSsdNorm.Gen.facts) := fun m g _ => Cert.StepSsdNorm.Gen.frame m g
theorem frame_kernelIdeal : Cert.quiescent_StepSsdNormIdeal (hStepSsdNormIdeal := Cert.StepSsdNormIdeal.Gen.facts) := fun m g _ => Cert.StepSsdNormIdeal.Gen.frame m g
theorem frame_reference : Cert.quiescent_StepSsdNormRef (hStepSsdNormRef := Cert.StepSsdNormRef.Gen.facts) := fun m g _ => reference_frame (F := Bits) m g
theorem frame_referenceIdeal : Cert.quiescent_StepSsdNormRefIdeal (hStepSsdNormRefIdeal := Cert.StepSsdNormRefIdeal.Gen.facts) := fun m g _ => reference_frame (F := Ideal) m g

theorem value : Cert.algebraic_StepSsdNormIdeal_StepSsdNormRefIdeal (hStepSsdNormIdeal := Cert.StepSsdNormIdeal.Gen.facts) (hStepSsdNormRefIdeal := Cert.StepSsdNormRefIdeal.Gen.facts) :=
  fun m g m' g' _ h => ⟨_, _, _, Cert.StepSsdNormIdeal.Value.run m g, (θ_run _ _ _).mono (fun r hr c => by
    obtain ⟨hd, hm, hv, hk⟩ := hr c
    obtain ⟨h0, h1, h2, h3⟩ := h c
    rw [h0, h1, h2, h3] at hd
    rw [h1, h2] at hm
    rw [h1, h3] at hv
    exact ⟨hd, hm, hv, hk⟩) (Cert.StepSsdNormRefIdeal.Value.run m' g')⟩

end SsdNorm

/-! ## Shards of 4 × 1024 -/

namespace MixNorm

open Cert.StepMixNormRefIdeal Cert.StepMixNormRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run _ _ _).mono (fun r h => ⟨fun c => (h c).2.2.2, sem_eq_zero_of_no_sems (by decide) r.2⟩) (Cert.StepMixNormRefIdeal.Value.run m g)

theorem frame_kernel : Cert.quiescent_StepMixNorm (hStepMixNorm := Cert.StepMixNorm.Gen.facts) := fun m g _ => Cert.StepMixNorm.Gen.frame m g
theorem frame_kernelIdeal : Cert.quiescent_StepMixNormIdeal (hStepMixNormIdeal := Cert.StepMixNormIdeal.Gen.facts) := fun m g _ => Cert.StepMixNormIdeal.Gen.frame m g
theorem frame_reference : Cert.quiescent_StepMixNormRef (hStepMixNormRef := Cert.StepMixNormRef.Gen.facts) := fun m g _ => reference_frame (F := Bits) m g
theorem frame_referenceIdeal : Cert.quiescent_StepMixNormRefIdeal (hStepMixNormRefIdeal := Cert.StepMixNormRefIdeal.Gen.facts) := fun m g _ => reference_frame (F := Ideal) m g

theorem value : Cert.algebraic_StepMixNormIdeal_StepMixNormRefIdeal (hStepMixNormIdeal := Cert.StepMixNormIdeal.Gen.facts) (hStepMixNormRefIdeal := Cert.StepMixNormRefIdeal.Gen.facts) :=
  fun m g m' g' _ h => ⟨_, _, _, Cert.StepMixNormIdeal.Value.run m g, (θ_run _ _ _).mono (fun r hr c => by
    obtain ⟨hd, hm, hv, hk⟩ := hr c
    obtain ⟨h0, h1, h2, h3⟩ := h c
    rw [h0, h1, h2, h3] at hd
    rw [h1, h2] at hm
    rw [h1, h3] at hv
    exact ⟨hd, hm, hv, hk⟩) (Cert.StepMixNormRefIdeal.Value.run m' g')⟩

end MixNorm

/-! ## Shards of 1 × 16 -/

namespace FoxBf

open Cert.StepFoxBfRefIdeal Cert.StepFoxBfRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run _ _ _).mono (fun r h => ⟨fun c => (h c).2.2.2, sem_eq_zero_of_no_sems (by decide) r.2⟩) (Cert.StepFoxBfRefIdeal.Value.run m g)

theorem frame_kernel : Cert.quiescent_StepFoxBf (hStepFoxBf := Cert.StepFoxBf.Gen.facts) := fun m g _ => Cert.StepFoxBf.Gen.frame m g
theorem frame_kernelIdeal : Cert.quiescent_StepFoxBfIdeal (hStepFoxBfIdeal := Cert.StepFoxBfIdeal.Gen.facts) := fun m g _ => Cert.StepFoxBfIdeal.Gen.frame m g
theorem frame_reference : Cert.quiescent_StepFoxBfRef (hStepFoxBfRef := Cert.StepFoxBfRef.Gen.facts) := fun m g _ => reference_frame (F := Bits) m g
theorem frame_referenceIdeal : Cert.quiescent_StepFoxBfRefIdeal (hStepFoxBfRefIdeal := Cert.StepFoxBfRefIdeal.Gen.facts) := fun m g _ => reference_frame (F := Ideal) m g

theorem value : Cert.algebraic_StepFoxBfIdeal_StepFoxBfRefIdeal (hStepFoxBfIdeal := Cert.StepFoxBfIdeal.Gen.facts) (hStepFoxBfRefIdeal := Cert.StepFoxBfRefIdeal.Gen.facts) :=
  fun m g m' g' _ h => ⟨_, _, _, Cert.StepFoxBfIdeal.Value.run m g, (θ_run _ _ _).mono (fun r hr c => by
    obtain ⟨hd, hm, hv, hk⟩ := hr c
    obtain ⟨h0, h1, h2, h3⟩ := h c
    rw [h0, h1, h2, h3] at hd
    rw [h1, h2] at hm
    rw [h1, h3] at hv
    exact ⟨hd, hm, hv, hk⟩) (Cert.StepFoxBfRefIdeal.Value.run m' g')⟩

end FoxBf

/-! ## Shards of 1 × 64 -/

namespace FoxQ

open Cert.StepFoxQRefIdeal Cert.StepFoxQRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run _ _ _).mono (fun r h => ⟨fun c => (h c).2.2.2, sem_eq_zero_of_no_sems (by decide) r.2⟩) (Cert.StepFoxQRefIdeal.Value.run m g)

theorem frame_kernel : Cert.quiescent_StepFoxQ (hStepFoxQ := Cert.StepFoxQ.Gen.facts) := fun m g _ => Cert.StepFoxQ.Gen.frame m g
theorem frame_kernelIdeal : Cert.quiescent_StepFoxQIdeal (hStepFoxQIdeal := Cert.StepFoxQIdeal.Gen.facts) := fun m g _ => Cert.StepFoxQIdeal.Gen.frame m g
theorem frame_reference : Cert.quiescent_StepFoxQRef (hStepFoxQRef := Cert.StepFoxQRef.Gen.facts) := fun m g _ => reference_frame (F := Bits) m g
theorem frame_referenceIdeal : Cert.quiescent_StepFoxQRefIdeal (hStepFoxQRefIdeal := Cert.StepFoxQRefIdeal.Gen.facts) := fun m g _ => reference_frame (F := Ideal) m g

theorem value : Cert.algebraic_StepFoxQIdeal_StepFoxQRefIdeal (hStepFoxQIdeal := Cert.StepFoxQIdeal.Gen.facts) (hStepFoxQRefIdeal := Cert.StepFoxQRefIdeal.Gen.facts) :=
  fun m g m' g' _ h => ⟨_, _, _, Cert.StepFoxQIdeal.Value.run m g, (θ_run _ _ _).mono (fun r hr c => by
    obtain ⟨hd, hm, hv, hk⟩ := hr c
    obtain ⟨h0, h1, h2, h3⟩ := h c
    rw [h0, h1, h2, h3] at hd
    rw [h1, h2] at hm
    rw [h1, h3] at hv
    exact ⟨hd, hm, hv, hk⟩) (Cert.StepFoxQRefIdeal.Value.run m' g')⟩

end FoxQ

/-! ## Shards of 1 × 32 -/

namespace SsdDt

open Cert.StepSsdDtRefIdeal Cert.StepSsdDtRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run _ _ _).mono (fun r h => ⟨fun c => (h c).2.2.2, sem_eq_zero_of_no_sems (by decide) r.2⟩) (Cert.StepSsdDtRefIdeal.Value.run m g)

theorem frame_kernel : Cert.quiescent_StepSsdDt (hStepSsdDt := Cert.StepSsdDt.Gen.facts) := fun m g _ => Cert.StepSsdDt.Gen.frame m g
theorem frame_kernelIdeal : Cert.quiescent_StepSsdDtIdeal (hStepSsdDtIdeal := Cert.StepSsdDtIdeal.Gen.facts) := fun m g _ => Cert.StepSsdDtIdeal.Gen.frame m g
theorem frame_reference : Cert.quiescent_StepSsdDtRef (hStepSsdDtRef := Cert.StepSsdDtRef.Gen.facts) := fun m g _ => reference_frame (F := Bits) m g
theorem frame_referenceIdeal : Cert.quiescent_StepSsdDtRefIdeal (hStepSsdDtRefIdeal := Cert.StepSsdDtRefIdeal.Gen.facts) := fun m g _ => reference_frame (F := Ideal) m g

theorem value : Cert.algebraic_StepSsdDtIdeal_StepSsdDtRefIdeal (hStepSsdDtIdeal := Cert.StepSsdDtIdeal.Gen.facts) (hStepSsdDtRefIdeal := Cert.StepSsdDtRefIdeal.Gen.facts) :=
  fun m g m' g' _ h => ⟨_, _, _, Cert.StepSsdDtIdeal.Value.run m g, (θ_run _ _ _).mono (fun r hr c => by
    obtain ⟨hd, hm, hv, hk⟩ := hr c
    obtain ⟨h0, h1, h2, h3⟩ := h c
    rw [h0, h1, h2, h3] at hd
    rw [h1, h2] at hm
    rw [h1, h3] at hv
    exact ⟨hd, hm, hv, hk⟩) (Cert.StepSsdDtRefIdeal.Value.run m' g')⟩

end SsdDt

end Cert.Step

end
-- ==== Proof.Grads.lean ====
/-
# The first call of the reduction: the scatter of the packed gradients

The body of the kernel that sends slab `t` of a device's packed gradients to device `t`: its copies, transfers and waits are those of `Cert.Exchange`.
-/
module

public import proofs.«01_k».proof.Proof.Deal
public import proofs.«01_k».proof.Proof.Gen.GradsIdeal.Skeleton
public import proofs.«01_k».proof.Proof.Gen.GradsIdeal.Regions
public import proofs.«01_k».proof.Proof.Gen.GradsIdeal.Points
public import Idealize.ShloMosaic.Lib.Pipeline.FrameBody
public import Idealize.ShloMosaic.Lib.Pipeline.FrameTail
public import Idealize.ShloMosaic.Lib.Claim
public import Idealize.ShloMosaic.Lib.Ring
public import Idealize.ShloMosaic.Lib.Tactic
public import Idealize.ShloMosaic.Lib.WordCmp

@[expose] public section

set_option Elab.async false

noncomputable section

namespace Cert.Sums

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.GradsIdeal Cert.GradsIdeal.Gen

variable {F : FTy → Type} [FloatOps F]

local notation "𝕄" => MT nD τ sig Unit (Elt F) ℕ (UU sig τ) ℕ

/-- The packed gradients and what arrives, each as eight slabs. -/
abbrev A : Memref sig .tc .hbm S8x6800x1024 .bf16 := Memref.whole main_arg0
abbrev B : Memref sig .tc .hbm S8x6800x1024 .bf16 := Memref.whole main_v1

/-- The slab at an offset. -/
def at' (M : Memref sig .tc .hbm S8x6800x1024 .bf16) (o : Fin 3 → Nat) (h : ∀ a, o a + S1x6800x1024.size a ≤ S8x6800x1024.size a) :
    Memref sig .tc .hbm S6800x1024 .bf16 :=
  (M.slice (Rect.unit (s := S8x6800x1024) o S1x6800x1024.size h) (fun _ => rfl)).squeeze S6800x1024 squeezes_S1x6800x1024_S6800x1024

theorem at_congr (M : Memref sig .tc .hbm S8x6800x1024 .bf16) {o o' : Fin 3 → Nat} (h : ∀ a, o a + S1x6800x1024.size a ≤ S8x6800x1024.size a)
    (h' : ∀ a, o' a + S1x6800x1024.size a ≤ S8x6800x1024.size a) (e : o = o') : at' M o h = at' M o' h' := by subst e; rfl

/-- Slab `t`. -/
def slabOf (M : Memref sig .tc .hbm S8x6800x1024 .bf16) (t : D8) : Memref sig .tc .hbm S6800x1024 .bf16 := at' M (k0_off1 t) (k0_off1_inb t)

def semOf : K → DmaSem sig
  | .inl j => ⟨j.val, by have := j.isLt; show _ < 19; omega⟩
  | .inr (.inl j) => ⟨7 + j.val, by have := j.isLt; show _ < 19; omega⟩
  | .inr (.inr _) => ⟨14, by decide⟩

theorem semOf_inj : Function.Injective semOf := by decide

def N : ℕ := (slabOf B 0).view.dmaCredit

/-- The exchange, the arrays holding `a` and `z`. -/
def wiring (a : (c : D8) → Buf (Elt F) ((c.tc : Thread nD τ).loc main_arg0)) (z : (c : D8) → Buf (Elt F) ((c.tc : Thread nD τ).loc main_v1)) :
    Wiring τ sig (Elt F) where
  s := S6800x1024
  e := .bf16
  sem := semOf
  sem_inj := semOf_inj
  src := slabOf A
  dst := slabOf B
  fs c _ := a c
  fd c _ := z c
  q _ := fullShare
  N := N
  N_pos := View.dmaCredit_pos _ (by decide)
  hN _ := rfl

theorem off2_at (c : D8) (j : Fin 7) : k0_off2 c (BitVec.ofNat 32 (1 + j.val)) = k0_off1 (c + j.succ) := by
  rw [k0_off2_eq, k0_off1_eq]; revert c j; decide +kernel
theorem off3_at (c : D8) (j : Fin 7) : k0_off3 c (BitVec.ofNat 32 (1 + j.val)) = k0_off1 (c - j.succ) := by
  rw [k0_off3_eq, k0_off1_eq]; revert c j; decide +kernel
theorem dev1_at (c : D8) : (⟨k0_dev1 c, k0_dev1_lt c⟩ : Dev nD) = c + (0 : Fin 7).succ := by revert c; decide +kernel
theorem dev2_at (c : D8) : (⟨k0_dev2 c, k0_dev2_lt c⟩ : Dev nD) = c + (1 : Fin 7).succ := by revert c; decide +kernel
theorem dev3_at (c : D8) : (⟨k0_dev3 c, k0_dev3_lt c⟩ : Dev nD) = c + (2 : Fin 7).succ := by revert c; decide +kernel
theorem dev4_at (c : D8) : (⟨k0_dev4 c, k0_dev4_lt c⟩ : Dev nD) = c + (3 : Fin 7).succ := by revert c; decide +kernel
theorem dev5_at (c : D8) : (⟨k0_dev5 c, k0_dev5_lt c⟩ : Dev nD) = c + (4 : Fin 7).succ := by revert c; decide +kernel
theorem dev6_at (c : D8) : (⟨k0_dev6 c, k0_dev6_lt c⟩ : Dev nD) = c + (5 : Fin 7).succ := by revert c; decide +kernel
theorem dev7_at (c : D8) : (⟨k0_dev7 c, k0_dev7_lt c⟩ : Dev nD) = c + (6 : Fin 7).succ := by revert c; decide +kernel

theorem piece_at (M : Memref sig .tc .hbm S8x6800x1024 .bf16) (c : D8) (j : Fin 7) (h) : at' M (k0_off2 c (BitVec.ofNat 32 (1 + j.val))) h = slabOf M (c + j.succ) :=
  at_congr M _ _ (off2_at c j)

/-- A slab's transfer credits the same wherever the slab is. -/
theorem credit_A (o : Fin 3 → Nat) (h) : (at' A o h).view.dmaCredit = N := rfl
theorem credit_B (o : Fin 3 → Nat) (h) : (at' B o h).view.dmaCredit = N := rfl

/-- A wait for a transfer of a slab is a wait for that credit. -/
theorem wait_for (c : D8) {sm sm' : DmaSem sig} (hs : sm = sm') {s' : Shape} {e' : EltTy} {sp' : Space} {sM : Memref sig .tc sp' s' e'} {dM : Memref sig .tc .hbm S6800x1024 .bf16}
    (hd : dM.view.dmaCredit = N) {hsrc : sM.view.WordExact} {hdst : dM.view.WordExact} (P : PUnit → sProp 𝕄) :
    wpE (defs₀ (F := F)) Variants.none (c.tc : Thread nD τ) none Set.univ (.waitDma2 sm sM dM hsrc hdst) P
      = waitSpec (c.tc : Thread nD τ) Set.univ (.dma sm') N P := by
  subst hs; rw [wpE_waitDma2_eq, hd]

/-! ## The body -/

section Body

variable (a : (c : D8) → Buf (Elt F) ((c.tc : Thread nD τ).loc main_arg0)) (z : (c : D8) → Buf (Elt F) ((c.tc : Thread nD τ).loc main_v1))

set_option maxHeartbeats 400000 in
set_option maxRecDepth 8000 in
/-- The body, from a device's share to the exchange finished. -/
theorem body_run (κ : D8 × K → ℕ) (c : D8) :
    iprop((wiring a z).known κ ∗ (wiring a z).share c)
      ⊢ wp frame (wpE (defs₀ (F := F)) Variants.none (c.tc : Thread nD τ) none) Set.univ
          (cc0_scatter_grads A (Memref.isWhole_whole _) B (Memref.isWhole_whole _) cc0_scratch0 cc0_scratch1 cc0_scratch2)
          (fun _ => iprop(Wiring.owing' c 0 ∗ (wiring a z).finished c)) := by
  simp only [cc0_scatter_grads_eq_skeleton]; unfold cc0_scatter_grads_skel
  simp only [k0_part11_eq_skeleton]; unfold k0_part11_skel
  simp only [k0_part10_eq_skeleton]; unfold k0_part10_skel
  simp only [k0_part9_eq_skeleton]; unfold k0_part9_skel
  simp only [k0_part8_eq_skeleton]; unfold k0_part8_skel
  simp only [k0_part7_eq_skeleton]; unfold k0_part7_skel
  simp only [k0_part6_eq_skeleton]; unfold k0_part6_skel
  simp only [k0_part5_eq_skeleton]; unfold k0_part5_skel
  simp only [k0_part4_eq_skeleton]; unfold k0_part4_skel
  simp only [k0_part3_eq_skeleton]; unfold k0_part3_skel
  simp only [k0_part2_eq_skeleton]; unfold k0_part2_skel
  simp only [k0_part1_eq_skeleton]; unfold k0_part1_skel
  simp only [Prog.lift, Prog.bind_op, Prog.bind_ret, Prog.pure_eq_ret, wp_deviceId]
  unfold Wiring.share
  rw [bigSep_cells, bigSep_offsets, bigSep_offsets]
  iintro ⟨#HK, ⟨⟨Hs0, Hs1, Hs2, Hs3, Hs4, Hs5, Hs6⟩, ⟨Hg0, Hg1, Hg2, Hg3, Hg4, Hg5, Hg6⟩, Hl⟩, Hloc, ⟨Ho0, Ho1, Ho2, Ho3, Ho4, Ho5, Ho6⟩, ⟨Hc0, Hc1, Hc2, Hc3, Hc4, Hc5, Hc6⟩, HO⟩
  -- its own copy
  iapply ((wiring a z).step_own κ c rfl rfl rfl) $$ [Hloc]
  · isplitr; · iexact HK
    iexact Hloc
  iintro Hcl
  -- the seven transfers
  iapply ((wiring a z).step_send κ c 0 (dev1_at c) (piece_at A c 0 _) rfl rfl rfl) $$ [Ho0 HO]
  · isplitr; · iexact HK
    isplitl [Ho0]; · iexact Ho0
    iexact HO
  iintro ⟨Hr0, HO⟩
  iapply ((wiring a z).step_send κ c 1 (dev2_at c) (piece_at A c 1 _) rfl rfl rfl) $$ [Ho1 HO]
  · isplitr; · iexact HK
    isplitl [Ho1]; · iexact Ho1
    iexact HO
  iintro ⟨Hr1, HO⟩
  iapply ((wiring a z).step_send κ c 2 (dev3_at c) (piece_at A c 2 _) rfl rfl rfl) $$ [Ho2 HO]
  · isplitr; · iexact HK
    isplitl [Ho2]; · iexact Ho2
    iexact HO
  iintro ⟨Hr2, HO⟩
  iapply ((wiring a z).step_send κ c 3 (dev4_at c) (piece_at A c 3 _) rfl rfl rfl) $$ [Ho3 HO]
  · isplitr; · iexact HK
    isplitl [Ho3]; · iexact Ho3
    iexact HO
  iintro ⟨Hr3, HO⟩
  iapply ((wiring a z).step_send κ c 4 (dev5_at c) (piece_at A c 4 _) rfl rfl rfl) $$ [Ho4 HO]
  · isplitr; · iexact HK
    isplitl [Ho4]; · iexact Ho4
    iexact HO
  iintro ⟨Hr4, HO⟩
  iapply ((wiring a z).step_send κ c 5 (dev6_at c) (piece_at A c 5 _) rfl rfl rfl) $$ [Ho5 HO]
  · isplitr; · iexact HK
    isplitl [Ho5]; · iexact Ho5
    iexact HO
  iintro ⟨Hr5, HO⟩
  iapply ((wiring a z).step_send κ c 6 (dev7_at c) (piece_at A c 6 _) rfl rfl rfl) $$ [Ho6 HO]
  · isplitr; · iexact HK
    isplitl [Ho6]; · iexact Ho6
    iexact HO
  iintro ⟨Hr6, HO⟩
  rw [show ((6 : Fin 7).val + 1) = 7 from rfl, Wiring.due_end]
  -- the sources read, the slabs landed, its own copy done
  iapply ((wiring a z).step_wait κ c (sent 0) (wait_for c rfl (credit_A _ _))) $$ [Hr0 HO Hs0]
  · isplitr; · iexact HK
    isplitl [Hr0]; · iexact Hr0
    isplitl [HO]; · iexact HO
    iexact Hs0
  iintro ⟨HO, Hs0⟩
  iapply ((wiring a z).step_wait κ c (sent 1) (wait_for c rfl (credit_A _ _))) $$ [Hr1 HO Hs1]
  · isplitr; · iexact HK
    isplitl [Hr1]; · iexact Hr1
    isplitl [HO]; · iexact HO
    iexact Hs1
  iintro ⟨HO, Hs1⟩
  iapply ((wiring a z).step_wait κ c (sent 2) (wait_for c rfl (credit_A _ _))) $$ [Hr2 HO Hs2]
  · isplitr; · iexact HK
    isplitl [Hr2]; · iexact Hr2
    isplitl [HO]; · iexact HO
    iexact Hs2
  iintro ⟨HO, Hs2⟩
  iapply ((wiring a z).step_wait κ c (sent 3) (wait_for c rfl (credit_A _ _))) $$ [Hr3 HO Hs3]
  · isplitr; · iexact HK
    isplitl [Hr3]; · iexact Hr3
    isplitl [HO]; · iexact HO
    iexact Hs3
  iintro ⟨HO, Hs3⟩
  iapply ((wiring a z).step_wait κ c (sent 4) (wait_for c rfl (credit_A _ _))) $$ [Hr4 HO Hs4]
  · isplitr; · iexact HK
    isplitl [Hr4]; · iexact Hr4
    isplitl [HO]; · iexact HO
    iexact Hs4
  iintro ⟨HO, Hs4⟩
  iapply ((wiring a z).step_wait κ c (sent 5) (wait_for c rfl (credit_A _ _))) $$ [Hr5 HO Hs5]
  · isplitr; · iexact HK
    isplitl [Hr5]; · iexact Hr5
    isplitl [HO]; · iexact HO
    iexact Hs5
  iintro ⟨HO, Hs5⟩
  iapply ((wiring a z).step_wait κ c (sent 6) (wait_for c rfl (credit_A _ _))) $$ [Hr6 HO Hs6]
  · isplitr; · iexact HK
    isplitl [Hr6]; · iexact Hr6
    isplitl [HO]; · iexact HO
    iexact Hs6
  iintro ⟨HO, Hs6⟩
  iapply ((wiring a z).step_wait κ c (got 0) (wait_for c rfl (credit_B _ _))) $$ [Hc0 HO Hg0]
  · isplitr; · iexact HK
    isplitl [Hc0]; · iexact Hc0
    isplitl [HO]; · iexact HO
    iexact Hg0
  iintro ⟨HO, Hg0⟩
  iapply ((wiring a z).step_wait κ c (got 1) (wait_for c rfl (credit_B _ _))) $$ [Hc1 HO Hg1]
  · isplitr; · iexact HK
    isplitl [Hc1]; · iexact Hc1
    isplitl [HO]; · iexact HO
    iexact Hg1
  iintro ⟨HO, Hg1⟩
  iapply ((wiring a z).step_wait κ c (got 2) (wait_for c rfl (credit_B _ _))) $$ [Hc2 HO Hg2]
  · isplitr; · iexact HK
    isplitl [Hc2]; · iexact Hc2
    isplitl [HO]; · iexact HO
    iexact Hg2
  iintro ⟨HO, Hg2⟩
  iapply ((wiring a z).step_wait κ c (got 3) (wait_for c rfl (credit_B _ _))) $$ [Hc3 HO Hg3]
  · isplitr; · iexact HK
    isplitl [Hc3]; · iexact Hc3
    isplitl [HO]; · iexact HO
    iexact Hg3
  iintro ⟨HO, Hg3⟩
  iapply ((wiring a z).step_wait κ c (got 4) (wait_for c rfl (credit_B _ _))) $$ [Hc4 HO Hg4]
  · isplitr; · iexact HK
    isplitl [Hc4]; · iexact Hc4
    isplitl [HO]; · iexact HO
    iexact Hg4
  iintro ⟨HO, Hg4⟩
  iapply ((wiring a z).step_wait κ c (got 5) (wait_for c rfl (credit_B _ _))) $$ [Hc5 HO Hg5]
  · isplitr; · iexact HK
    isplitl [Hc5]; · iexact Hc5
    isplitl [HO]; · iexact HO
    iexact Hg5
  iintro ⟨HO, Hg5⟩
  iapply ((wiring a z).step_wait κ c (got 6) (wait_for c rfl (credit_B _ _))) $$ [Hc6 HO Hg6]
  · isplitr; · iexact HK
    isplitl [Hc6]; · iexact Hc6
    isplitl [HO]; · iexact HO
    iexact Hg6
  iintro ⟨HO, Hg6⟩
  iapply ((wiring a z).step_wait κ c own (wait_for c rfl (credit_B _ _))) $$ [Hcl HO Hl]
  · isplitr; · iexact HK
    isplitl [Hcl]; · iexact Hcl
    isplitl [HO]; · iexact HO
    iexact Hl
  iintro ⟨HO, Hl⟩
  rw [wp_ret]
  imod ((wiring a z).finish κ c) $$ [Hs0 Hs1 Hs2 Hs3 Hs4 Hs5 Hs6 Hg0 Hg1 Hg2 Hg3 Hg4 Hg5 Hg6 Hl] with Hf
  · isplitr; · iexact HK
    rw [bigSep_cells]
    isplitl [Hs0 Hs1 Hs2 Hs3 Hs4 Hs5 Hs6]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hs6
    isplitl [Hg0 Hg1 Hg2 Hg3 Hg4 Hg5 Hg6]
    · isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      iexact Hg6
    iexact Hl
  imodintro
  isplitl [HO]; · iexact HO
  iexact Hf

end Body

end Cert.Sums

end
-- ==== Proof.GradsData.lean ====
/-
# The slabs of the first call's two arrays, and what it leaves

Slab `i` of an array is its elements with first coordinate `i`, so the eight slabs are the array. Slab `i` of device `c`'s result ends as slab `c` of device `i`'s argument.
-/
module

public import proofs.«01_k».proof.Proof.Grads

@[expose] public section

set_option Elab.async false

noncomputable section

namespace Cert.Sums

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.GradsIdeal Cert.GradsIdeal.Gen

variable {F : FTy → Type} [FloatOps F]

local notation "𝕄" => MT nD τ sig Unit (Elt F) ℕ (UU sig τ) ℕ

abbrev Ix8 : Type := S8x6800x1024.Idx

/-- The device a first coordinate names. -/
def devOf (x : Ix8) : D8 := ⟨(x 0).val, (x 0).isLt⟩

theorem off1_zero (t : D8) : k0_off1 t = ![t.val, 0, 0] := by rw [k0_off1_eq]; revert t; decide +kernel

/-- The rectangle of slab `t`. -/
abbrev slabRect (t : D8) : Rect S8x6800x1024 := Rect.unit (s := S8x6800x1024) (k0_off1 t) S1x6800x1024.size (k0_off1_inb t)

/-- Where an element of slab `t` sits. -/
def place (t : D8) (y : S6800x1024.Idx) : Ix8 := (slabRect t).emb (Shape.reshapeEquiv squeezes_S1x6800x1024_S6800x1024.numel_eq y)

theorem emb_A (t : D8) (y : S6800x1024.Idx) : (slabOf A t).view.emb y = place t y := rfl
theorem emb_B (t : D8) (y : S6800x1024.Idx) : (slabOf B t).view.emb y = place t y := rfl

theorem place_val (t : D8) (y : S6800x1024.Idx) (a : Fin 3) :
    (place t y a).val = (![t.val, 0, 0] : Fin 3 → ℕ) a + (Shape.reshapeEquiv squeezes_S1x6800x1024_S6800x1024.numel_eq y a).val := by
  have h : (place t y a).val = k0_off1 t a + 1 * (Shape.reshapeEquiv squeezes_S1x6800x1024_S6800x1024.numel_eq y a).val := rfl
  rw [h, off1_zero, Nat.one_mul]

theorem place_dev (t : D8) (y : S6800x1024.Idx) : devOf (place t y) = t := by
  apply Fin.ext
  show (place t y 0).val = t.val
  rw [place_val]
  have h := (Shape.reshapeEquiv squeezes_S1x6800x1024_S6800x1024.numel_eq y 0).isLt
  change _ < 1 at h
  show t.val + _ = t.val
  omega

/-- The same place in another slab. -/
def moved (t : D8) (x : Ix8) : Ix8 := Function.update x 0 ⟨t.val, t.isLt⟩

theorem moved_place (t t' : D8) (y : S6800x1024.Idx) : moved t (place t' y) = place t y := by
  funext a
  apply Fin.ext
  by_cases h : a = 0
  · subst h
    have h1 : ((moved t (place t' y)) 0).val = t.val := by unfold moved; rw [Function.update_self]
    rw [h1]
    exact (congrArg Fin.val (place_dev t y)).symm
  · have h1 : (moved t (place t' y)) a = place t' y a := by unfold moved; rw [Function.update_of_ne h]
    rw [h1, place_val, place_val]
    have h2 : ∀ s : ℕ, (![s, 0, 0] : Fin 3 → ℕ) a = 0 := fun s => by
      rcases a with ⟨_ | _ | _ | n, hn⟩
      · exact absurd rfl h
      · rfl
      · rfl
      · exact absurd (show n + 3 < 3 from hn) (by omega)
    rw [h2, h2]

theorem mem_slab (M : Memref sig .tc .hbm S8x6800x1024 .bf16) (t : D8) : (slabOf M t).view.set = (M.view.slice (slabRect t)).set := View.set_reshape _ _

theorem mem_rect (t : D8) (x : Ix8) : x ∈ (slabRect t).set ↔ devOf x = t := by
  rw [Rect.mem_set_unit, off1_zero]
  constructor
  · intro h
    have h0 := h 0
    change t.val ≤ (x 0).val ∧ (x 0).val < t.val + 1 at h0
    exact Fin.ext (by show (x 0).val = t.val; omega)
  · rintro rfl a
    have hb := (x a).isLt
    rcases a with ⟨_ | _ | _ | n, hn⟩
    · exact ⟨Nat.le_refl _, Nat.lt_succ_self _⟩
    · exact ⟨Nat.zero_le _, by show (x 1).val < 0 + 6800; rw [Nat.zero_add]; exact hb⟩
    · exact ⟨Nat.zero_le _, by show (x 2).val < 0 + 1024; rw [Nat.zero_add]; exact hb⟩
    · exact absurd (show n + 3 < 3 from hn) (by omega)

theorem mem_A (t : D8) (x : Ix8) : x ∈ (slabOf A t).view.set ↔ devOf x = t := by
  rw [mem_slab, show (A.view.slice (slabRect t)).set = (slabRect t).set from View.set_slice_whole _ _]
  exact mem_rect t x
theorem mem_B (t : D8) (x : Ix8) : x ∈ (slabOf B t).view.set ↔ devOf x = t := by
  rw [mem_slab, show (B.view.slice (slabRect t)).set = (slabRect t).set from View.set_slice_whole _ _]
  exact mem_rect t x

/-! ## The arrays slab by slab -/

variable (a : (c : D8) → Buf (Elt F) ((c.tc : Thread nD τ).loc main_arg0)) (z : (c : D8) → Buf (Elt F) ((c.tc : Thread nD τ).loc main_v1))

/-- What device `c`'s result ends at. -/
def received (c : D8) : Buf (Elt F) ((c.tc : Thread nD τ).loc main_v1) := fun x : Ix8 => (a (devOf x) : Ix8 → Elt F .bf16) (moved c x)

theorem slabs_disjoint (S : D8 → Finset Ix8) (h : ∀ t x, x ∈ S t ↔ devOf x = t) (t t' : D8) (hn : t ≠ t') : Disjoint (S t) (S t') :=
  Finset.disjoint_left.mpr fun x hx hx' => hn (((h t x).mp hx).symm.trans ((h t' x).mp hx'))
theorem slabs_cover (S : D8 → Finset Ix8) (h : ∀ t x, x ∈ S t ↔ devOf x = t) : Finset.univ.biUnion S = Finset.univ :=
  Finset.eq_univ_of_forall fun x => Finset.mem_biUnion.mpr ⟨devOf x, Finset.mem_univ _, (h _ x).mpr rfl⟩

/-- The devices counted on from `c`. -/
def ahead (c : D8) : Fin 8 ≃ D8 := ⟨fun r => c + r, fun t => t - c, fun r => by revert c r; decide, fun t => by revert c t; decide⟩

theorem arg_slabs (c : D8) :
    (((c.tc : Thread nD τ).loc main_arg0) ↦{fullShare} a c : sProp 𝕄) = bigSep Finset.univ fun r : Fin 8 => (wiring a z).piece c (c + r) r := by
  rw [Ring.pointsTo_blocks (ℓ := (c.tc : Thread nD τ).loc main_arg0) (fun t : D8 => (slabOf A t).view.set)
    (slabs_disjoint _ fun t x => mem_A t x) (slabs_cover _ fun t x => mem_A t x) (a c), bigSep_univ_equiv (ahead c)]
  rfl

theorem res_slabs (c : D8) :
    (((c.tc : Thread nD τ).loc main_v1) ↦{fullShare} z c : sProp 𝕄) = bigSep Finset.univ fun i : D8 => (wiring a z).slab c i := by
  rw [Ring.pointsTo_blocks (ℓ := (c.tc : Thread nD τ).loc main_v1) (fun t : D8 => (slabOf B t).view.set)
    (slabs_disjoint _ fun t x => mem_B t x) (slabs_cover _ fun t x => mem_B t x) (z c)]
  rfl

theorem landed_val (c i : D8) (x : Ix8) (hx : x ∈ (slabOf B i).view.set) : ((wiring a z).landedAt c i : Ix8 → Elt F .bf16) x = received a c x := by
  obtain ⟨y, -, rfl⟩ := Finset.mem_map.mp hx
  refine ((slabOf B i).view.write_emb_of_mem (z c) ((slabOf A c).view.read (Elt F) (a i)) (Finset.mem_univ y)).trans ?_
  show (a i : Ix8 → Elt F .bf16) (place c y) = (a (devOf (place i y)) : Ix8 → Elt F .bf16) (moved c (place i y))
  rw [place_dev, moved_place]

theorem landed_slabs (c : D8) :
    (bigSep Finset.univ fun i : D8 => (wiring a z).landed c i) = (((c.tc : Thread nD τ).loc main_v1) ↦{fullShare} received a c : sProp 𝕄) := by
  rw [Ring.pointsTo_blocks (ℓ := (c.tc : Thread nD τ).loc main_v1) (fun t : D8 => (slabOf B t).view.set)
    (slabs_disjoint _ fun t x => mem_B t x) (slabs_cover _ fun t x => mem_B t x) (received a c)]
  exact bigSep_congr fun i _ => pointsTo_congr fun x hx => landed_val a z c i x hx

end Cert.Sums

end
-- ==== Proof.GradsSum.lean ====
/-
# The second call of the reduction: the sum of the eight slabs

The second call adds, 400 rows at a time, the eight slabs its device received. Each point reads eight rows' blocks and stores one.
-/
module

public import proofs.«01_k».proof.Proof.GradsData

@[expose] public section

set_option Elab.async false
set_option maxRecDepth 16384

noncomputable section

namespace Cert.Sums

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Exchange Cert.GradsIdeal Cert.GradsIdeal.Gen
open Idealize.ShloMosaic.Pipeline (Dat)

variable {F : FTy → Type} [FloatOps F]

local notation "𝕄" => MT nD τ sig Unit (Elt F) ℕ (UU sig τ) ℕ

/-! ## One point -/

/-- Slab `d` of a block of eight, -/
abbrev layer (d : Fin 8) (h : ∀ a, (![d.val, 0, 0] : Fin 3 → Nat) a + S1x400x1024.size a ≤ S8x400x1024.size a) : Rect S8x400x1024 :=
  Rect.unit (s := S8x400x1024) ![d.val, 0, 0] S1x400x1024.size h

/-- the whole of a block of the result, -/
abbrev wholeRect : Rect S400x1024 := Rect.unit (s := S400x1024) ![0, 0] S400x1024.size inb_S400x1024_S400x1024_0_0

/-- and what a point leaves in it. -/
def added (x : Vec F S8x400x1024 .bf16) : Vec F S400x1024 .f32 :=
  View.canon [⟨wholeRect, k1_pay1 (View.ld x (layer 0 inb_S8x400x1024_S1x400x1024_0_0_0)) (View.ld x (layer 1 inb_S8x400x1024_S1x400x1024_1_0_0))
    (View.ld x (layer 2 inb_S8x400x1024_S1x400x1024_2_0_0)) (View.ld x (layer 3 inb_S8x400x1024_S1x400x1024_3_0_0))
    (View.ld x (layer 4 inb_S8x400x1024_S1x400x1024_4_0_0)) (View.ld x (layer 5 inb_S8x400x1024_S1x400x1024_5_0_0))
    (View.ld x (layer 6 inb_S8x400x1024_S1x400x1024_6_0_0)) (View.ld x (layer 7 inb_S8x400x1024_S1x400x1024_7_0_0))⟩]

theorem whole_covers (p : Vec F S400x1024 .f32) (y : S400x1024.Idx) :
    ∃ pc ∈ ([⟨wholeRect, p⟩] : List (View.Piece (Elt F) S400x1024 .f32)), y ∈ pc.1.set :=
  View.cover_of_tiled [⟨wholeRect, p⟩] S400x1024.size (by rfl) y

set_option maxHeartbeats 1000000 in
/-- The body at a point: the block read as it was, the result's block the sum. -/
theorem point_run (c : Dev nD) (i : grid1.Coords) (x : Memref sig .tc .vmem S8x400x1024 .bf16) (hx : x.IsWhole) (y : Memref sig .tc .vmem S400x1024 .f32) (hy : y.IsWhole)
    (v : Vec F S8x400x1024 .bf16) (Q : PUnit → sProp 𝕄) :
    iprop(owns (c : Thread nD τ) x fullShare v ∗ (∃ d, owns (c : Thread nD τ) y fullShare d)
        ∗ (iprop(owns (c : Thread nD τ) x fullShare v ∗ owns (c : Thread nD τ) y fullShare (added v)) -∗ Q ⟨⟩))
      ⊢ wp frame (wpE (defs₀ (F := F)) Variants.none c none) Set.univ (cc1_sum_grads i x hx y hy) Q := by
  simp only [cc1_sum_grads_eq_skeleton]; unfold cc1_sum_grads_skel
  simp only [k1_part1_eq_skeleton]; unfold k1_part1_skel
  unfold owns
  iintro ⟨⟨%f, %hf, Hx⟩, ⟨%d, %g, -, Hy⟩, Hk⟩
  subst hf
  sl_exec
  sl_step
  iapply Hk
  isplitl [Hx]
  · iexists f; isplitr; · ipureintro; rfl
    iexact Hx
  iexists _; isplitr
  swap; · iexact Hy
  ipureintro
  exact View.read_writes_eq_canon _ _ _ (whole_covers _)

/-! ## The region's data -/

section Data

variable (V : Dev nD → Valuation τ sig (Elt F))

/-- A window's block at a point, of the array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

def sumData (c : Dev nD) : Dat τ (Elt F) Unit ℕ (UU sig τ) ℕ cfg1 c where
  A w := V c (Proc.devRef .tc (Pipeline.arrRef spec1 w))
  after w t := match w with
    | ⟨0, _⟩ => blockAt V c 0 t
    | ⟨1, _⟩ => added (blockAt V c 0 t)
  Φ _ := BI.emp
  q _ := fullShare
  owed _ := 0

theorem data_arrays (c : Dev nD) (w : Fin cfg1.W) : (sumData V c).A w = V c (Proc.devRef .tc (Pipeline.arrRef spec1 w)) := by dsimp only [sumData]
theorem data_block (c : Dev nD) (t : Fin cfg1.N) : (sumData V c).after 0 t = blockAt V c 0 t := by dsimp only [sumData]
theorem data_sum (c : Dev nD) (t : Fin cfg1.N) : (sumData V c).after 1 t = added (blockAt V c 0 t) := by dsimp only [sumData]

theorem found (c : Dev nD) (t : Fin cfg1.N) (d) : (sumData V c).before 0 t d = blockAt V c 0 t :=
  ((sumData V c).before_in_eq_fetched 0 rfl (fun _ => rfl) (fun _ _ _ => rfl)
      (fun t => by rw [data_block]; unfold Dat.blockOf blockAt; rw [data_arrays]) t d).trans
    (by unfold Dat.fetched Dat.blockOf blockAt; rw [data_arrays]; try rfl)

theorem table_row (t : Fin cfg1.N) : defs₀ (F := F) .tc cfg1.body (cfg1.bodyArgs t (cfg1.slots t)) = bodyAt1 t := by
  unfold defs₀; rw [Defs.onTc_tc]

theorem point_sound (c : Dev nD) (t : Fin cfg1.N) :
    iprop((sumData V c).Φ t.castSucc ∗ (sumData V c).owesAt () t.castSucc
        ∗ (∃ d, owns (c : Thread nD τ) (st1_0 t) fullShare ((sumData V c).before 0 t d))
        ∗ (∃ d, owns (c : Thread nD τ) (st1_1 t) fullShare ((sumData V c).before 1 t d)))
      ⊢ wp frame (wpE (defs₀ (F := F)) Variants.none c none) Set.univ (bodyAt1 t) (fun _ =>
        iprop((sumData V c).Φ t.succ ∗ (sumData V c).owesAt () t.succ
          ∗ owns (c : Thread nD τ) (st1_0 t) fullShare ((sumData V c).after 0 t)
          ∗ owns (c : Thread nD τ) (st1_1 t) fullShare ((sumData V c).after 1 t))) := by
  unfold bodyAt1
  simp only [found]
  rw [show (sumData V c).Φ t.succ = (sumData V c).Φ t.castSucc from rfl,
    show (sumData V c).owesAt () t.succ = (sumData V c).owesAt () t.castSucc from rfl, data_block, data_sum]
  iintro ⟨HΦ, Ho, ⟨%d, Hx⟩, ⟨%e, Hy⟩⟩
  iapply (point_run c (grid1.coords t) _ _ _ _ (blockAt V c 0 t) _)
  isplitl [Hx]; · iexact Hx
  isplitl [Hy]; · iexists _; iexact Hy
  iintro ⟨Hx, Hy⟩
  isplitl [HΦ]; · iexact HΦ
  isplitl [Ho]; · iexact Ho
  isplitl [Hx] <;> iassumption

/-- Every point keeps the region's data. -/
theorem sum_obligation (c : Dev nD) : Pipeline.BodyObligation (sumData V c) (defs₀ (F := F)) Variants.none () Set.univ := fun t => by
  rw [bigSep_W1, bigSep_W1, table_row]
  exact triple_restated (point_sound V c t) rfl .rfl fun _ => .rfl

end Data

end Cert.Sums

end
-- ==== Proof.GradsRegion.lean ====
/-
# The first call's region

The first call's region on one device, beside the second's, from its share of the exchange and the region boundary to the exchange finished and the boundary again.
-/
module

public import proofs.«01_k».proof.Proof.GradsSum

@[expose] public section

set_option Elab.async false

noncomputable section

namespace Cert.Sums

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.GradsIdeal Cert.GradsIdeal.Gen

variable {F : FTy → Type} [FloatOps F]

local notation "𝕄" => MT nD τ sig Unit (Elt F) ℕ (UU sig τ) ℕ

variable (a : (c : D8) → Buf (Elt F) ((c.tc : Thread nD τ).loc main_arg0)) (z : (c : D8) → Buf (Elt F) ((c.tc : Thread nD τ).loc main_v1))
  (V : Dev nD → Valuation τ sig (Elt F))

def osem : K → SemLoc sig := fun k => .dma (semOf k)
theorem ownSemFacts : Pipeline.OwnSemFacts cfg0.spec osem := by decide

/-- What the region starts from on device `c`, -/
def entering (c : D8) : sProp 𝕄 := iprop(∃ κ, (wiring a z).known κ ∗ (wiring a z).apart c)

/-- the region's proof data: no window, one point, the buffers it does not use kept, -/
def moveData (c : Dev nD) : Pipeline.Dat τ (Elt F) Unit ℕ (UU sig τ) ℕ cfg0 c where
  A w := w.elim0
  after w := w.elim0
  Φ t := match t with
    | ⟨0, _⟩ => iprop(entering a z c ∗ Pipeline.scopedRest cfg0.spec c)
    | ⟨_ + 1, _⟩ => iprop((wiring a z).finished c ∗ Pipeline.scopedRest cfg0.spec c)
  q _ := fullShare
  owed t := match t with
    | ⟨0, _⟩ => (wiring a z).due c 0
    | ⟨_ + 1, _⟩ => 0

/-- and that of both regions. -/
def dats : (p : Fin 2) → (c : Dev nD) → Pipeline.Dat τ (Elt F) Unit ℕ (UU sig τ) ℕ (cfgs p) c
  | ⟨0, _⟩ => moveData a z
  | ⟨1, _⟩ => sumData V

/-- The end of the body as the loop wants it. -/
theorem body_leaves (c : D8) : iprop((Wiring.owing' c 0 ∗ (wiring a z).finished c) ∗ Pipeline.scopedRest cfg0.spec c)
    ⊢ iprop(((wiring a z).finished c ∗ Pipeline.scopedRest cfg0.spec c) ∗ Pipeline.owesWithin c 0 ((moveData (F := F) a z c).bound () t0_0.succ) ∗ BI.emp : sProp 𝕄) := by
  unfold Wiring.owing'
  iintro ⟨⟨⟨%W', HO⟩, HF⟩, HR⟩
  isplitl [HF HR]
  · isplitl [HF] <;> iassumption
  isplitl [HO]
  · iexists W'
    isplitr; · ipureintro; exact fun _ _ => Or.inl trivial
    iexact HO
  iempintro

theorem body_starts (κ : D8 × K → ℕ) (c : D8) (b : Set (SemLoc sig × Unit)) :
    iprop((wiring a z).known κ ∗ (wiring a z).apart c ∗ Pipeline.owesWithin c ((wiring a z).due c 0) b)
      ⊢ iprop((wiring a z).known κ ∗ (wiring a z).share c : sProp 𝕄) := by
  iintro ⟨HK, HA, ⟨%W, -, HO⟩⟩
  isplitl [HK]; · iexact HK
  iapply ((wiring a z).share_intro c)
  isplitl [HA]; · iexact HA
  unfold Wiring.owing'
  iexists W; iexact HO

theorem body_obligation (c : D8) : Pipeline.BodyObligation (moveData (F := F) a z c) (defs₀ (F := F)) Variants.none () Set.univ := fun t => by
  rw [show t = t0_0 from fin_N0 t, show (Finset.univ : Finset (Fin cfg0.W)) = ∅ from rfl, BI.bigSep_empty, BI.bigSep_empty]
  show iprop((entering a z c ∗ Pipeline.scopedRest cfg0.spec c) ∗ Pipeline.owesWithin c ((wiring a z).due c 0) ((moveData (F := F) a z c).bound () t0_0.castSucc) ∗ BI.emp)
    ⊢ wp frame (wpE (defs₀ (F := F)) Variants.none (c.tc : Thread nD τ) none) Set.univ
        (cc0_scatter_grads A (Memref.isWhole_whole _) B (Memref.isWhole_whole _) cc0_scratch0 cc0_scratch1 cc0_scratch2) (fun _ =>
          iprop(((wiring a z).finished c ∗ Pipeline.scopedRest cfg0.spec c) ∗ Pipeline.owesWithin c 0 ((moveData (F := F) a z c).bound () t0_0.succ) ∗ BI.emp))
  unfold entering
  iintro ⟨⟨⟨%κ, HK, HA⟩, HR⟩, HO, -⟩
  iapply (((sep_mono_left ((body_starts a z κ c _).trans (body_run a z κ c))).trans (wp_frame_r _ _ _)).trans (wp_mono _ _ _ fun _ => body_leaves a z c))
  isplitr [HR]
  · isplitl [HK]; · iexact HK
    isplitl [HA] <;> iassumption
  iexact HR

theorem staging_none (c : D8) : (scopedBufs (c.tc : Thread nD τ) : sProp 𝕄) = iprop(Pipeline.Dat.staging cfg0 c ∗ Pipeline.scopedRest cfg0.spec c) :=
  Pipeline.scopedBufs_split cfgs (0 : Fin 2) winFacts0.stage_scoped winFacts0.stage_inj stage_whole0 c

/-- The counters of the region boundary: the exchange's and the rest. -/
theorem counters_split (c : D8) :
    (scopedSems0 (c.tc : Thread nD τ) : sProp 𝕄)
      = iprop((Pipeline.cellsSems0 cfgs (0 : Fin 2) c ∗ bigSep Finset.univ fun k : K => semVal ((wiring a z).cell (c, k)) 0)
          ∗ Pipeline.idleSems0 cfgs cellOf_inj (0 : Fin 2) ownSemFacts c) :=
  Pipeline.scopedSems0_split cfgs cellOf_inj (0 : Fin 2) winFacts0.to₀ ownSemFacts c

/-- What the exchange leaves a device, its counters returned: its argument as it was, its result received. -/
theorem finished_arrays (c : D8) : (wiring a z).finished c
    ⊢ iprop((bigSep Finset.univ fun k : K => semVal ((wiring a z).cell (c, k)) 0)
        ∗ (((c.tc : Thread nD τ).loc main_arg0) ↦{fullShare} a c) ∗ (((c.tc : Thread nD τ).loc main_v1) ↦{fullShare} received a c) : sProp 𝕄) := by
  rw [arg_slabs a z c, ← landed_slabs a z c]
  exact BI.Entails.refl _

theorem nothing (Φ : Fin 0 → sProp 𝕄) : (BI.emp : sProp 𝕄) ⊢ bigSep Finset.univ Φ := by rw [Finset.univ_eq_empty, BI.bigSep_empty]

/-- A region without windows is entered with what is owed. -/
theorem owes_entry (c : D8) : Wiring.owing' c ((wiring a z).due c 0)
    ⊢ Pipeline.EntryPre cfgs (dats (F := F) a z V) () EP (fun _ => 0) (0 : Fin 2) c := by
  unfold Pipeline.EntryPre Pipeline.PerCore.EntryPre Wiring.owing'
  have h1 : (BI.emp : sProp 𝕄) ⊢ (moveData (F := F) a z c).arrays fun w => (moveData (F := F) a z c).arrAt w 0 := nothing _
  have h2 : (BI.emp : sProp 𝕄) ⊢ Pipeline.PerCore.cellsWaits (fun _ : Dev nD => cfgs) (dats (F := F) a z V) () (0 : Fin 2) c := nothing _
  have h3 : (BI.emp : sProp 𝕄) ⊢ Pipeline.PerCore.cellsInit (fun _ : Dev nD => cfgs) (dats (F := F) a z V) EP (fun _ => 0) (0 : Fin 2) c := nothing _
  have h4 : (BI.emp : sProp 𝕄) ⊢ Pipeline.PerCore.toksInit (fun _ : Dev nD => cfgs) EP (0 : Fin 2) c := nothing _
  iintro ⟨%W, HO⟩
  isplitr; · iapply h1; iempintro
  isplitl [HO]
  · iexists W; isplitr; · ipureintro; exact fun _ _ => Or.inl trivial
    iexact HO
  isplitr; · iapply h2; iempintro
  isplitr; · iapply h3; iempintro
  iapply h4; iempintro

set_option maxHeartbeats 400000 in
include V in
/-- The region. -/
theorem region (c : D8) {β : Type} (k : PUnit → Prog (TpuEff nD τ sig (Elt F) (Pipeline.Sig Λ₀ (Fin 2) fun p => (pcfgs (F := F) p).Adm) .tc) β) (Q : β → sProp 𝕄) :
    iprop((entering a z c ∗ Wiring.owing' c ((wiring a z).due c 0)) ∗ scopedBufs (c.tc : Thread nD τ)
        ∗ Pipeline.idleSems0 cfgs cellOf_inj (0 : Fin 2) ownSemFacts c ∗ opIdle (c.tc : Thread nD τ))
      ⊢ iprop(((((((c.tc : Thread nD τ).loc main_arg0) ↦{fullShare} a c) ∗ (((c.tc : Thread nD τ).loc main_v1) ↦{fullShare} received a c))
              ∗ boundary (c.tc : Thread nD τ) ∗ Wiring.owing' c 0)
            -∗ wp frame (wpE (defs (F := F)) (Variants.lift Variants.none) (c.tc : Thread nD τ) none) Set.univ (k ⟨⟩) Q)
          -∗ wp frame (wpE (defs (F := F)) (Variants.lift Variants.none) (c.tc : Thread nD τ) none) Set.univ (.op (.customCall (Pipeline.entry 0) ()) k) Q) := by
  have hout : iprop((moveData (F := F) a z c).Φ (Fin.last cfg0.N) ∗ Pipeline.cellsSems0 cfgs (0 : Fin 2) c ∗ Pipeline.Dat.staging cfg0 c
        ∗ (Pipeline.idleSems0 cfgs cellOf_inj (0 : Fin 2) ownSemFacts c ∗ opIdle (c.tc : Thread nD τ)))
      ⊢ iprop((((((c.tc : Thread nD τ).loc main_arg0) ↦{fullShare} a c) ∗ (((c.tc : Thread nD τ).loc main_v1) ↦{fullShare} received a c)) ∗ opIdle (c.tc : Thread nD τ))
          ∗ scopedSems0 (c.tc : Thread nD τ) ∗ scopedBufs (c.tc : Thread nD τ)) := by
    rw [counters_split a z c, staging_none c,
      show (moveData (F := F) a z c).Φ (Fin.last cfg0.N) = iprop((wiring a z).finished c ∗ Pipeline.scopedRest cfg0.spec c) from rfl]
    iintro ⟨⟨HF, HR⟩, Hc, Hst, Hid, Hop⟩
    ihave HF := (finished_arrays a z c) $$ HF
    icases HF with ⟨Hk, Ha, Hz⟩
    isplitl [Ha Hz Hop]
    · isplitr [Hop]
      · isplitl [Ha] <;> iassumption
      iexact Hop
    isplitl [Hc Hk Hid]
    · isplitr [Hid]
      · isplitl [Hc] <;> iassumption
      iexact Hid
    isplitl [Hst] <;> iassumption
  have hin : iprop(entering a z c ∗ Pipeline.prefHeld (pcfgs (F := F) 0).pre c (fun _ => fullShare) (cfgs 0).toPCfg_adm.1 ∗ Pipeline.scopedRest cfg0.spec c)
      ⊢ (dats (F := F) a z V 0 c).Φ 0 := by
    show _ ⊢ iprop(entering a z c ∗ Pipeline.scopedRest cfg0.spec c)
    iintro ⟨HE, -, HR⟩
    isplitl [HE] <;> iassumption
  have hpf : (BI.emp : sProp 𝕄) ⊢ Pipeline.prefHeld (pcfgs (F := F) 0).pre c (fun _ => fullShare) (cfgs 0).toPCfg_adm.1 := nothing _
  iintro ⟨⟨HE, HO⟩, Hsc, Hid, Hop⟩ Hk
  iapply (Pipeline.wp_customCall_entry_frame pcfgs (fun p => (cfgs p).toPCfg_adm) (dats (F := F) a z V) () EP (fun _ => 0) cellOf_inj (0 : Fin 2) defs₀ Variants.none
    (fun _ => fullShare) c Set.univ (fun _ _ => Set.mem_univ _) (body_obligation a z c) (fun w => w.elim0) none (fun _ h => by cases h)
    (X := entering a z c) (R := Pipeline.scopedRest cfg0.spec c)
    (I := iprop(Pipeline.idleSems0 cfgs cellOf_inj (0 : Fin 2) ownSemFacts c ∗ opIdle (c.tc : Thread nD τ)))
    (Entails.of_eq (staging_none c)) hin hout (k := k) (Q := Q)) $$ [HE HO Hsc Hid Hop]
  · isplitl [HO]
    · iapply (owes_entry a z V c)
      iexact HO
    isplitr; · iapply hpf; iempintro
    isplitl [HE]; · iexact HE
    isplitr [Hsc]; · isplitl [Hid] <;> iassumption
    iexact Hsc
  unfold Pipeline.EntryPost Pipeline.PerCore.EntryPost
  iintro ⟨⟨-, ⟨%W', -, HO⟩⟩, ⟨⟨Ha, Hz⟩, Hop⟩, Hss, Hsb⟩
  iapply Hk
  isplitl [Ha Hz]
  · isplitl [Ha] <;> iassumption
  isplitr [HO]
  · unfold boundary
    isplitl [Hsb]; · iexact Hsb
    isplitl [Hss] <;> iassumption
  unfold Wiring.owing'
  iexists W'; iexact HO

end Cert.Sums

end
-- ==== Proof.GradsLine.lean ====
/-
# The second call of the reduction, after the first

A device's arrays between the two calls and after the second, and the second call's region from the ones to the others.
-/
module

public import proofs.«01_k».proof.Proof.CoresLaunch
public import proofs.«01_k».proof.Proof.GradsRegion

@[expose] public section

set_option Elab.async false

noncomputable section

namespace Cert.Sums

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.GradsIdeal Cert.GradsIdeal.Gen Idealize.ShloMosaic.Rounds

variable {F : FTy → Type} [FloatOps F]

local notation "𝕄" => MT nD τ sig Unit (Elt F) ℕ (UU sig τ) ℕ

variable (m : (ℓ : Loc nD τ sig) → Buf (Elt F) ℓ)

/-- The first call's arrays as launched. -/
abbrev a₀ (c : D8) : Buf (Elt F) ((c.tc : Thread nD τ).loc main_arg0) := m ((c.tc : Thread nD τ).loc main_arg0)
abbrev z₀ (c : D8) : Buf (Elt F) ((c.tc : Thread nD τ).loc main_v1) := m ((c.tc : Thread nD τ).loc main_v1)

/-- The exchange of the launched arrays, -/
abbrev X₀ : Wiring τ sig (Elt F) := wiring (a₀ m) (z₀ m)

/-- what its devices owe, -/
def O₀ (c : D8) : CellTallies nD τ sig Unit := (X₀ m).due c 0

/-- its ghost state beside the second call's. -/
def u₀ : UU sig τ := (initOf (Pipeline.cells cfgs cellOf_inj) (Pipeline.launchToks cfgs cellOf_inj), initOf (X₀ m).cells (X₀ m).toks)

/-! ## A device's arrays, before and after the calls -/

/-- Device `c`'s arrays between the calls, -/
def between (c : D8) : Valuation τ sig (Elt F) :=
  Function.update (StableHlo.launchContents m c) (Proc.devRef .tc main_v1) (received (a₀ m) c)

/-- after the second, -/
def summed (c : D8) : Valuation τ sig (Elt F) := Pipeline.afterRegion (sumData (between m) c) (between m c)

/-- and at the end. -/
def last (c : D8) : Valuation τ sig (Elt F) := StableHlo.after hostOps2 (summed m c)

theorem between_got (c : D8) : between m c (Proc.devRef .tc main_v1) = received (a₀ m) c := Function.update_self ..

theorem between_other (c : D8) (b : Ref sig .tc) (h : b ≠ main_v1) : between m c (Proc.devRef .tc b) = m ((c.tc : Thread nD τ).loc b) :=
  Function.update_of_ne (fun e => h (Proc.devRef_injective _ e)) ..

/-- The arrays the first call does not touch. -/
def others (c : D8) (V : (b : Ref sig .tc) → Buf (Elt F) ((c.tc : Thread nD τ).loc b)) : sProp 𝕄 :=
  iprop((((c.tc : Thread nD τ).loc main_v2) ↦{fullShare} V main_v2) ∗ (((c.tc : Thread nD τ).loc main_v3) ↦{fullShare} V main_v3) ∗ (((c.tc : Thread nD τ).loc main_v4) ↦{fullShare} V main_v4) ∗
    (((c.tc : Thread nD τ).loc main_v5) ↦{fullShare} V main_v5) ∗ (((c.tc : Thread nD τ).loc main_v6) ↦{fullShare} V main_v6) ∗ (((c.tc : Thread nD τ).loc main_v7) ↦{fullShare} V main_v7) ∗
    (((c.tc : Thread nD τ).loc main_v8) ↦{fullShare} V main_v8) ∗ (((c.tc : Thread nD τ).loc main_v9) ↦{fullShare} V main_v9) ∗ (((c.tc : Thread nD τ).loc main_v10) ↦{fullShare} V main_v10) ∗
    (((c.tc : Thread nD τ).loc main_v11) ↦{fullShare} V main_v11) ∗ (((c.tc : Thread nD τ).loc main_v12) ↦{fullShare} V main_v12) ∗ (((c.tc : Thread nD τ).loc main_v13) ↦{fullShare} V main_v13) ∗
    (((c.tc : Thread nD τ).loc main_v14) ↦{fullShare} V main_v14) ∗ (((c.tc : Thread nD τ).loc main_v15) ↦{fullShare} V main_v15) ∗ (((c.tc : Thread nD τ).loc main_v16) ↦{fullShare} V main_v16) ∗
    (((c.tc : Thread nD τ).loc main_v17) ↦{fullShare} V main_v17) ∗ (((c.tc : Thread nD τ).loc main_v18) ↦{fullShare} V main_v18) ∗ (((c.tc : Thread nD τ).loc main_v19) ↦{fullShare} V main_v19))

theorem arrays_split (c : D8) (V : (b : Ref sig .tc) → Buf (Elt F) ((c.tc : Thread nD τ).loc b)) : (unscopedBufs c V : sProp 𝕄)
    = iprop((((c.tc : Thread nD τ).loc main_arg0) ↦{fullShare} V main_arg0) ∗ (((c.tc : Thread nD τ).loc main_v1) ↦{fullShare} V main_v1) ∗ others c V) := by
  rw [Pipeline.unscopedBufs_split cfgs (0 : Fin 2) winFacts0.arr_unscoped winFacts0.arr_inj c V,
    show (Pipeline.unscopedRest (cfgs (0 : Fin 2)).spec c V : sProp 𝕄) = _ from unscopedRest0_eq c V,
    show (Finset.univ : Finset (Fin (cfgs 0).W)) = ∅ from rfl, BI.bigSep_empty]
  exact equiv_iff.mp BI.emp_sep

theorem others_kept (c : D8) : (others c (fun b => between m c (Proc.devRef .tc b)) : sProp 𝕄) = others c (fun b => m ((c.tc : Thread nD τ).loc b)) := by
  unfold others
  beta_reduce
  rw [between_other m c main_v2 (by decide), between_other m c main_v3 (by decide), between_other m c main_v4 (by decide), between_other m c main_v5 (by decide), between_other m c main_v6 (by decide), between_other m c main_v7 (by decide), between_other m c main_v8 (by decide), between_other m c main_v9 (by decide), between_other m c main_v10 (by decide),
    between_other m c main_v11 (by decide), between_other m c main_v12 (by decide), between_other m c main_v13 (by decide), between_other m c main_v14 (by decide), between_other m c main_v15 (by decide), between_other m c main_v16 (by decide), between_other m c main_v17 (by decide), between_other m c main_v18 (by decide), between_other m c main_v19 (by decide)]

/-- The first call done, the arrays are those between the calls. -/
theorem arrays_between (c : D8) :
    iprop(((((c.tc : Thread nD τ).loc main_arg0) ↦{fullShare} a₀ m c) ∗ (((c.tc : Thread nD τ).loc main_v1) ↦{fullShare} received (a₀ m) c))
        ∗ others c (fun b => m ((c.tc : Thread nD τ).loc b)))
      ⊢ (StableHlo.held (c.tc : Thread nD τ) (Pipeline.ucRefs τ sig) (between m c) : sProp 𝕄) := by
  rw [← Pipeline.unscopedBufs_held (Ix := Unit) (Name := ℕ) (U := UU sig τ) (Lvl := ℕ) c (between m c), arrays_split,
    others_kept, between_got, between_other m c main_arg0 (by decide)]
  iintro ⟨⟨Ha, Hz⟩, Ho⟩
  isplitl [Ha]; · iexact Ha
  isplitl [Hz] <;> iassumption

/-! ## The second call -/

/-- The regions' proof data over the launched memory. -/
abbrev datas : (p : Fin 2) → (c : Dev nD) → Pipeline.Dat τ (Elt F) Unit ℕ (UU sig τ) ℕ (cfgs p) c := dats (a₀ m) (z₀ m) (between m)

abbrev noLevels : GSem nD τ sig → Finset Unit := fun _ => ∅
abbrev level0 : GSem nD τ sig → Unit → ℕ := fun _ _ => 0

theorem levels_none : (BI.emp : sProp 𝕄) ⊢ levAts noLevels level0 := by
  rw [show (levAts noLevels level0 : sProp 𝕄) = BI.emp from (bigSep_congr fun _ _ => BI.bigSep_empty).trans (BI.bigSep_emp_const _)]

set_option backward.isDefEq.respectTransparency.types false in
/-- The second call's region: from the arrays between the calls to the arrays after it. -/
def sumRegion : Pipeline.RegionSeg (pcfgs (F := F)) (fun p => (cfgs p).toPCfg_adm) (datas m) () defs₀ Variants.none noLevels level0 (1 : Fin 2) where
  win := launch1.win.to₀
  block_pos := launch1.block_pos
  stage_whole := launch1.stage_whole
  K := PEmpty
  osem := fun k => k.elim
  ho := Pipeline.OwnSemFacts.none _
  hbody := fun c => (sum_obligation (between m) c).loose
  hwaits := Pipeline.hwaits_of_owed_zero pcfgs (fun p => (cfgs p).toPCfg_adm) (datas m) () noLevels level0 (1 : Fin 2) fun _ _ => rfl
  pre := fun c => iprop(StableHlo.held (c.tc : Thread nD τ) (Pipeline.ucRefs τ sig) (between m c) ∗ Wiring.owing' c 0)
  post := fun c => iprop(StableHlo.held (c.tc : Thread nD τ) (Pipeline.ucRefs τ sig) (summed m c) ∗ Wiring.owing' c 0)
  X := fun _ => BI.emp
  Y := fun _ => BI.emp
  Z := fun c => Pipeline.unscopedRest (Ix := Unit) (Name := ℕ) (U := UU sig τ) (Lvl := ℕ) spec1 c (fun b => between m c (Proc.devRef .tc b))
  hentry := fun c => by
    rw [Pipeline.ownSems0_none,
      ← Pipeline.unscopedBufs_held (Ix := Unit) (Name := ℕ) (U := UU sig τ) (Lvl := ℕ) c (between m c)]
    have hsplit := Pipeline.arrays_of_unscopedBufs (p := (1 : Fin 2)) pcfgs (fun p => (cfgs p).toPCfg_adm) (datas m) launch1.win launch1.arr_whole c
      ((sumData (between m) c).share_full fun _ => rfl) (fun b => between m c (Proc.devRef .tc b)) (fun w => data_arrays (between m) c w)
    iintro ⟨⟨Hub, HO⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from nothing _)
      iempintro
    isplitl [HO]
    · unfold Wiring.owing'
      icases HO with ⟨%W, HO⟩
      iexists W; isplitr; · ipureintro; exact fun _ _ => Or.inl trivial
      iexact HO
    isplitr; · iempintro
    iexact Hrest
  hin := fun c => by
    show _ ⊢ (BI.emp : sProp 𝕄)
    rw [show Pipeline.scopedRest (Pipeline.pin (pcfgs (F := F)) (fun p => (cfgs p).toPCfg_adm) (1 : Fin 2)).spec c = (BI.emp : sProp 𝕄) from scopedRest1_eq c]
    iintro ⟨-, -, H⟩; iexact H
  hout := fun c => by
    show (BI.emp : sProp 𝕄) ⊢ _
    rw [Pipeline.ownSems0_none,
      show Pipeline.scopedRest (Pipeline.pin (pcfgs (F := F)) (fun p => (cfgs p).toPCfg_adm) (1 : Fin 2)).spec c = (BI.emp : sProp 𝕄) from scopedRest1_eq c]
    iintro -
    isplitr; · iempintro
    isplitr <;> iempintro
  hexit := fun c => by
    have hjoin := Pipeline.unscopedBufs_of_arrays (p := (1 : Fin 2)) pcfgs (fun p => (cfgs p).toPCfg_adm) (Ix := Unit) (Name := ℕ) (U := UU sig τ) (Lvl := ℕ)
      launch1.win launch1.arr_whole c (datas m) ((sumData (between m) c).share_full fun _ => rfl)
      (fun b => between m c (Proc.devRef .tc b)) (fun b => summed m c (Proc.devRef .tc b)) ((sumData (between m) c).arrAt · cfg1.N)
      (fun w => (Pipeline.afterRegion_arr (sumData (between m) c) (between m c) launch1.win.arr_inj w).symm)
      (fun b hb => Pipeline.afterRegion_of_not_arr (sumData (between m) c) (between m c)
        fun w h => hb (h ▸ Finset.mem_image.mpr ⟨w, Finset.mem_univ _, rfl⟩))
    rw [← Pipeline.unscopedBufs_held (Ix := Unit) (Name := ℕ) (U := UU sig τ) (Lvl := ℕ) c (summed m c)]
    iintro ⟨Ha, HO, -, Hrest⟩
    imodintro
    isplitl [Ha Hrest]
    · iapply hjoin
      isplitl [Ha]; · iexact Ha
      iexact Hrest
    unfold Wiring.owing'
    icases HO with ⟨%W, -, HO⟩; iexists W; iexact HO

end Cert.Sums

end
-- ==== Proof.GradsRun.lean ====
/-
# The run of the reduction

From any memory with the counters at zero, every weakly fair execution of the scatter, the sum and the cuts that follow ends with every array of a device at what the line of calls and cuts makes of the launched ones.
-/
module

public import proofs.«01_k».proof.Proof.GradsLine

@[expose] public section

set_option Elab.async false

noncomputable section

namespace Cert.Sums

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.GradsIdeal Cert.GradsIdeal.Gen Idealize.ShloMosaic.Rounds

variable {F : FTy → Type} [FloatOps F]

local notation "𝕄" => MT nD τ sig Unit (Elt F) ℕ (UU sig τ) ℕ

variable (m : (ℓ : Loc nD τ sig) → Buf (Elt F) ℓ)

/-- The second call's ghost state on device `c`, -/
def sumGhost (c : D8) : sProp 𝕄 := iprop(Pipeline.cellsGhost cfgs EP (1 : Fin 2) c ∗ Pipeline.toksInit cfgs EP (1 : Fin 2) c)

/-- what a device starts from -/
def start (c : D8) : sProp 𝕄 :=
  iprop(((entering (a₀ m) (z₀ m) c ∗ Wiring.owing' c ((X₀ m).due c 0)) ∗ scopedBufs (c.tc : Thread nD τ)
      ∗ Pipeline.idleSems0 cfgs cellOf_inj (0 : Fin 2) ownSemFacts c ∗ opIdle (c.tc : Thread nD τ))
    ∗ others c (fun b => m ((c.tc : Thread nD τ).loc b)) ∗ sumGhost c)

/-- and ends with. -/
def ending (c : D8) : sProp 𝕄 := StableHlo.held (c.tc : Thread nD τ) (Pipeline.ucRefs τ sig) (last m c)

theorem regroup (P Q R : sProp 𝕄) : iprop(P ∗ Q ∗ R) = iprop((P ∗ Q) ∗ R) := by
  have h : iprop(P ∗ Q ∗ R) ⊢ iprop((P ∗ Q) ∗ R) := by
    iintro ⟨HP, HQ, HR⟩
    isplitr [HR]
    · isplitl [HP] <;> iassumption
    iexact HR
  have h' : iprop((P ∗ Q) ∗ R) ⊢ iprop(P ∗ Q ∗ R) := by
    iintro ⟨⟨HP, HQ⟩, HR⟩
    isplitl [HP]; · iexact HP
    isplitl [HQ] <;> iassumption
  exact equiv_iff.mp ⟨h, h'⟩

theorem arrays_dealt (c : D8) : (unscopedBufs c (fun b => m ((c.tc : Thread nD τ).loc b)) : sProp 𝕄)
    = iprop(((bigSep Finset.univ fun r : Fin 8 => (X₀ m).piece c (c + r) r) ∗ bigSep Finset.univ fun i : D8 => (X₀ m).slab c i)
        ∗ others c (fun b => m ((c.tc : Thread nD τ).loc b))) := by
  rw [← arg_slabs (a₀ m) (z₀ m) c, ← res_slabs (a₀ m) (z₀ m) c, arrays_split]
  exact regroup _ _ _

/-- One device's holdings, sorted. -/
theorem sorted (c : D8) : (dealt (O₀ m) m c : sProp 𝕄)
    ⊢ iprop((bigSep Finset.univ fun k : K => semVal ((X₀ m).cell (c, k)) 0) ∗ (bigSep Finset.univ fun r : Fin 8 => (X₀ m).piece c (c + r) r)
        ∗ (bigSep Finset.univ fun i : D8 => (X₀ m).slab c i) ∗ Pipeline.launchCred (fun d => (X₀ m).due d 0) c ∗ Wiring.owing' c ((X₀ m).due c 0)
        ∗ scopedBufs (c.tc : Thread nD τ) ∗ Pipeline.idleSems0 cfgs cellOf_inj (0 : Fin 2) ownSemFacts c ∗ opIdle (c.tc : Thread nD τ)
        ∗ others c (fun b => m ((c.tc : Thread nD τ).loc b))) := by
  unfold dealt boundary
  rw [arrays_dealt, counters_split (a₀ m) (z₀ m) c]
  iintro ⟨⟨Hb, ⟨⟨-, Hk⟩, Hi⟩, Ho⟩, ⟨⟨Hp, Hs⟩, Hr⟩, HO, Hc⟩
  isplitl [Hk]; · iexact Hk
  isplitl [Hp]; · iexact Hp
  isplitl [Hs]; · iexact Hs
  isplitl [Hc]; · iexact Hc
  isplitl [HO]
  · unfold Wiring.owing' O₀
    iexists _; iexact HO
  isplitl [Hb]; · iexact Hb
  isplitl [Hi]; · iexact Hi
  isplitl [Ho] <;> iassumption

/-- A device's share, what it owes apart. -/
theorem entered (c : D8) : iprop(∃ κ, (X₀ m).known κ ∗ (X₀ m).share c) ⊢ iprop(entering (a₀ m) (z₀ m) c ∗ Wiring.owing' c ((X₀ m).due c 0) : sProp 𝕄) := by
  unfold entering
  iintro ⟨%κ, HK, HS⟩
  ihave H := ((X₀ m).share_elim c) $$ HS
  icases H with ⟨HA, HO⟩
  isplitr [HO]
  · iexists κ
    isplitl [HK] <;> iassumption
  iexact HO

/-- The second call's ghost state, dealt to the devices. -/
theorem ghost_dealt : (BI.own (EP (initOf (Pipeline.cells cfgs cellOf_inj) (Pipeline.launchToks cfgs cellOf_inj))) : sProp 𝕄)
    ⊢ iprop(|==> bigSep Finset.univ (sumGhost (F := F))) := by
  refine (Pipeline.fund_ghost cfgs EP cellOf_inj).trans (BI.bupd_mono ?_)
  have hone : ∀ Φ : Fin 2 → sProp 𝕄, bigSep Finset.univ Φ ⊢ Φ 1 := fun Φ => by
    rw [BI.bigSep_erase (Finset.mem_univ (1 : Fin 2))]
    show iprop(Φ 1 ∗ _) ⊢ _
    iintro ⟨H, -⟩; iexact H
  unfold sumGhost
  simp only [BI.bigSep_sep']
  show (iprop((bigSep Finset.univ fun c : Dev nD => bigSep Finset.univ fun p : Fin 2 => Pipeline.cellsGhost cfgs EP p c)
        ∗ bigSep Finset.univ fun c : Dev nD => bigSep Finset.univ fun p : Fin 2 => Pipeline.toksInit cfgs EP p c) : sProp 𝕄)
    ⊢ iprop((bigSep Finset.univ fun c : Dev nD => Pipeline.cellsGhost cfgs EP (1 : Fin 2) c)
        ∗ bigSep Finset.univ fun c : Dev nD => Pipeline.toksInit cfgs EP (1 : Fin 2) c)
  exact BI.sep_mono (bigSep_mono fun (c : Dev nD) _ => hone fun p => Pipeline.cellsGhost cfgs EP p c)
    (bigSep_mono fun (c : Dev nD) _ => hone fun p => Pipeline.toksInit cfgs EP p c)

theorem launch (L : GSem nD τ sig → Finset Unit) (lv : GSem nD τ sig → Unit → ℕ) :
    iprop((bigSep Finset.univ fun c => dealt (O₀ m) m c) ∗ levAts L lv ∗ ownU (u₀ m)) ⊢ |={Set.univ}=> (bigSep Finset.univ (start m) : sProp 𝕄) := by
  refine (sep_mono_left (bigSep_mono fun c _ => sorted m c)).trans ?_
  have hE : (bigSep Finset.univ fun c : D8 => iprop(∃ κ, (X₀ m).known κ ∗ (X₀ m).share c) : sProp 𝕄)
      ⊢ bigSep Finset.univ fun c : D8 => iprop(entering (a₀ m) (z₀ m) c ∗ Wiring.owing' c ((X₀ m).due c 0)) := bigSep_mono fun c _ => entered m c
  unfold u₀ start
  simp only [BI.bigSep_sep']
  iintro ⟨⟨Hk, Hp, Hs, Hc, HO, Hb, Hi, Ho, Hr⟩, -, Hu⟩
  ihave H := (ownU_pair _ _) $$ Hu
  icases H with ⟨HP, HX⟩
  imod (ghost_dealt (F := F)) $$ HP with HG
  imod ((X₀ m).dealt) $$ [Hk HX Hp Hs Hc HO] with HS
  · isplitl [Hk]; · iexact Hk
    isplitl [HX]; · iexact HX
    isplitl [Hp]; · iexact Hp
    isplitl [Hs]; · iexact Hs
    isplitl [Hc] <;> iassumption
  imodintro
  isplitr [Hr HG]
  · isplitl [HS]
    · rw [← BI.bigSep_sep']
      iapply hE
      iexact HS
    isplitl [Hb]; · iexact Hb
    isplitl [Hi] <;> iassumption
  isplitl [Hr]; · iexact Hr
  iexact HG

/-- What is read of a final memory. -/
def Ends (c : D8) (s : MemSt nD τ sig (Elt F)) : Prop := ∀ b ∈ Pipeline.ucRefs τ sig, s.mem (c, b) = last m c b

theorem ends_read (c : D8) (s' : Phys nD τ sig (Elt F)) : iprop(ending m c ∗ SI s') ⊢ |={Set.univ}=> iprop(⌜Ends m c s'.mem⌝ ∗ SI s' : sProp 𝕄) := by
  unfold ending StableHlo.held Ends
  iintro ⟨Hh, HSI⟩
  ihave Hr := (pointsTo_read_all (Pipeline.ucRefs τ sig) (fun b => ((c.tc : Thread nD τ).1, b)) (last m c) s') $$ [Hh HSI]
  · isplitl [Hh] <;> iassumption
  imodintro; iexact Hr

set_option maxHeartbeats 400000 in
theorem device_run (c : D8) : (start m c : sProp 𝕄)
    ⊢ wp frame (wpE (defs (F := F)) (Variants.lift Variants.none) (c.tc : Thread nD τ) none) Set.univ (main (F := F) c)
        (fun _ => iprop((ending m c ∗ boundary (c.tc : Thread nD τ)) ∗ ∃ W, owes (c.tc : Thread nD τ) (0 : CellTallies nD τ sig Unit) W)) := by
  rw [show main (F := F) c = .op (.customCall (Pipeline.entry 0) ()) (fun _ => .op (.customCall (Pipeline.entry 1) ())
      (fun _ => StableHlo.seq hostOps2 >>= fun _ => .ret ⟨⟩)) from (main_chain c).trans rfl]
  unfold start sumGhost
  iintro ⟨H, Hr, Hg⟩
  iapply (region (a₀ m) (z₀ m) (between m) c) $$ H
  iintro ⟨Hy, Hb, HO⟩
  iapply (Pipeline.RegionSeg.wp (pcfgs (F := F)) (fun p => (cfgs p).toPCfg_adm) (datas m) () cellOf_inj EP defs₀ Variants.none noLevels level0 (sumRegion m) c none
    (fun _ h => by cases h))
  isplitr [Hy Hb HO Hr Hg]
  swap
  · isplitl [Hb]; · iexact Hb
    isplitl [Hy HO Hr]
    · iapply (show iprop(StableHlo.held (c.tc : Thread nD τ) (Pipeline.ucRefs τ sig) (between m c) ∗ Wiring.owing' c 0) ⊢ (sumRegion m).pre c from .rfl)
      isplitr [HO]
      · iapply (arrays_between m c)
        isplitl [Hy] <;> iassumption
      iexact HO
    isplitr
    · iapply levels_none; iempintro
    iexact Hg
  iintro ⟨Hb, H⟩
  ihave H := (show (sumRegion m).post c ⊢ iprop(StableHlo.held (c.tc : Thread nD τ) (Pipeline.ucRefs τ sig) (summed m c) ∗ Wiring.owing' c 0) from .rfl) $$ H
  icases H with ⟨Hh, HO⟩
  iapply (StableHlo.wp_seq (defs := defs (F := F)) (Variants.lift Variants.none) none Set.univ c (Pipeline.ucRefs τ sig) _ hostOps2
    (fun op h => Pipeline.sub_ucRefs op ((List.forall_iff_forall_mem.mp hostOps2_sub) op h))
    (fun op h => (List.forall_iff_forall_mem.mp hostOps2_fresh) op h) (summed m c)) $$ [Hb Hh]
  · isplitl [Hb] <;> iassumption
  iintro ⟨Hb, Hh⟩
  rw [wp_ret]
  imodintro
  unfold ending Wiring.owing'
  isplitr [HO]
  · isplitl [Hh]; · iexact Hh
    iexact Hb
  iexact HO

theorem scoped_all : ∀ sm : SemLoc sig, sm.isScoped .tc = true := by decide

theorem run (g : Dev nD → PrngReg) :
    θ_run (defs (F := F)) (onTc (τ := τ) (main (F := F))) ⟨m, fun _ => 0, g⟩ (fun r => (∀ c, Ends m c r.2) ∧ r.2.sem = fun _ => 0) :=
  run_cores (Variants.lift Variants.none) m g main (O₀ m) (fun _ => ∅) (fun _ _ => 0) (fun _ _ => rfl) (u₀ m) (start m) (ending m)
    (launch m _ _) (device_run m) (Ends m) (ends_read m) (fun _ h hs => ⟨h, sem_eq_zero_of_scoped scoped_all hs⟩)

end Cert.Sums

end
-- ==== Proof.GradsTotal.lean ====
/-
# The array the sum leaves

Each point of the second call writes the sum of eight rows' blocks. Together the points write the sum of the eight slabs, element by element.
-/
module

public import proofs.«01_k».proof.Proof.GradsSum
public import Idealize.ShloMosaic.Lib.Pipeline.Value

@[expose] public section

set_option Elab.async false

noncomputable section

namespace Cert.Sums

open Idealize.ShloMosaic
open Idealize.ShloMosaic.TcCoe
open Cert.GradsIdeal Cert.GradsIdeal.Gen
open Idealize.ShloMosaic.Pipeline (Dat)

variable {F : FTy → Type} [FloatOps F]

/-- Eight `bf16` numbers, widened and added in turn. -/
def addAll (f : Fin 8 → F .bf16) : F .f32 :=
  FloatOps.addf (FloatOps.addf (FloatOps.addf (FloatOps.addf (FloatOps.addf (FloatOps.addf (FloatOps.addf
    (FloatOps.extf .f32 bitsLt_bf16_f32 (f 0)) (FloatOps.extf .f32 bitsLt_bf16_f32 (f 1))) (FloatOps.extf .f32 bitsLt_bf16_f32 (f 2)))
    (FloatOps.extf .f32 bitsLt_bf16_f32 (f 3))) (FloatOps.extf .f32 bitsLt_bf16_f32 (f 4))) (FloatOps.extf .f32 bitsLt_bf16_f32 (f 5)))
    (FloatOps.extf .f32 bitsLt_bf16_f32 (f 6))) (FloatOps.extf .f32 bitsLt_bf16_f32 (f 7))

/-- An element of a slab of a block, -/
def inBlock (d : Fin 8) (j : S400x1024.Idx) : S8x400x1024.Idx
  | ⟨0, _⟩ => d
  | ⟨1, _⟩ => j 0
  | ⟨2, _⟩ => j 1
  | ⟨n + 3, h⟩ => absurd (show n + 3 < 3 from h) (by omega)

/-- and of a slab of the whole. -/
def inSlab (d : Fin 8) (i : S6800x1024.Idx) : S8x6800x1024.Idx
  | ⟨0, _⟩ => d
  | ⟨1, _⟩ => i 0
  | ⟨2, _⟩ => i 1
  | ⟨n + 3, h⟩ => absurd (show n + 3 < 3 from h) (by omega)

/-- The sum of the slabs. -/
def total (x : S8x6800x1024.Idx → F .bf16) : S6800x1024.Idx → F .f32 := fun i => addAll fun d => x (inSlab d i)

theorem layer_at (x : Vec F S8x400x1024 .bf16) (d : Fin 8) (h) (j : S400x1024.Idx) :
    shapeCast S400x1024 (View.ld x (layer d h)) shapeCasts_S1x400x1024_S400x1024 j = x (inBlock d j) := by
  refine (shapeCast_dropUnit_apply ![400, 1024] _ _ j).trans (congrArg x (funext fun a => Fin.ext ?_))
  rcases a with ⟨_ | _ | _ | n, hn⟩
  · show d.val + 1 * 0 = d.val; omega
  · show 0 + 1 * (j 0).val = (j 0).val; omega
  · show 0 + 1 * (j 1).val = (j 1).val; omega
  · exact absurd (show n + 3 < 3 from hn) (by omega)

theorem added_at (x : Vec F S8x400x1024 .bf16) (j : S400x1024.Idx) : added x j = addAll fun d => x (inBlock d j) := by
  unfold added addAll
  rw [View.canon_unit_zero (funext fun a => by fin_cases a <;> rfl)]
  beta_reduce
  rw [← layer_at x 0 inb_S8x400x1024_S1x400x1024_0_0_0 j, ← layer_at x 1 inb_S8x400x1024_S1x400x1024_1_0_0 j,
    ← layer_at x 2 inb_S8x400x1024_S1x400x1024_2_0_0 j, ← layer_at x 3 inb_S8x400x1024_S1x400x1024_3_0_0 j,
    ← layer_at x 4 inb_S8x400x1024_S1x400x1024_4_0_0 j, ← layer_at x 5 inb_S8x400x1024_S1x400x1024_5_0_0 j,
    ← layer_at x 6 inb_S8x400x1024_S1x400x1024_6_0_0 j, ← layer_at x 7 inb_S8x400x1024_S1x400x1024_7_0_0 j]
  rfl

theorem maps : ∀ t : Fin cfg1.N, win1_0.index t (0 : Fin 3) = 0 ∧ win1_0.index t (1 : Fin 3) = win1_1.index t (0 : Fin 2)
    ∧ win1_0.index t (2 : Fin 3) = 0 ∧ win1_1.index t (1 : Fin 2) = 0 :=
  (by decide +kernel : ∀ t : Fin grid1.N, _)

theorem every_block : ∀ q : Fin 17, ∃ t : Fin cfg1.N, win1_1.index t (0 : Fin 2) = q.val :=
  (by decide +kernel : ∀ q : Fin 17, ∃ t : Fin grid1.N, win1_1.index t (0 : Fin 2) = q.val)

section Region

variable (V : Dev nD → Valuation τ sig (Elt F))

/-- A point writes its block of the sum. -/
theorem written (c : Dev nD) (t : Fin cfg1.N) :
    (sumData V c).flushed 1 t = ((cfg1.win 1).blk t).view.read (Elt F) (total (V c (Proc.devRef .tc main_v1))) := by
  show (cfg1.win 1).cut (grid1.coords t) ((sumData V c).after 1 t) = _
  rw [data_sum]
  obtain ⟨e0, e1, e2, e3⟩ := maps t
  funext j
  refine (added_at (blockAt V c 0 t) j).trans ?_
  show _ = addAll fun d => (V c (Proc.devRef .tc main_v1) : S8x6800x1024.Idx → F .bf16) (inSlab d (((cfg1.win 1).blk t).view.emb j))
  refine congrArg addAll (funext fun d => ?_)
  refine congrArg (V c (Proc.devRef .tc main_v1)) (funext fun a => Fin.ext ?_)
  match a with
  | ⟨0, _⟩ => show win1_0.index t (0 : Fin 3) * 8 + 1 * d.val = d.val; omega
  | ⟨1, _⟩ => show win1_0.index t (1 : Fin 3) * 400 + 1 * (j 0).val = win1_1.index t (0 : Fin 2) * 400 + 1 * (j 0).val; omega
  | ⟨2, _⟩ => show win1_0.index t (2 : Fin 3) * 1024 + 1 * (j 1).val = win1_1.index t (1 : Fin 2) * 1024 + 1 * (j 1).val; omega

theorem in_block (t : Fin cfg1.N) (i : S6800x1024.Idx) : i ∈ ((cfg1.win 1).blk t).view.set
    ↔ ∀ a : Fin 2, win1_1.index t a * S400x1024.size a ≤ (i a).val ∧ (i a).val < win1_1.index t a * S400x1024.size a + S400x1024.size a := by
  show i ∈ ((View.whole main_v2).slice (win1_1.rect t)).set ↔ _
  rw [View.set_slice_whole, Rect.mem_set_unit]
  exact Iff.rfl

/-- The array after the second call. -/
theorem sum_array (c : Dev nD) : (sumData V c).arrAt 1 cfg1.N = total (V c (Proc.devRef .tc main_v1)) := by
  refine (sumData V c).arrAt_eq_of_cover 1 _ (fun t _ => written V c t) fun i => ?_
  have h0 : (i 0).val < 6800 := (i 0).isLt
  have h1 : (i 1).val < 1024 := (i 1).isLt
  obtain ⟨t, ht⟩ := every_block ⟨(i 0).val / 400, by omega⟩
  change win1_1.index t (0 : Fin 2) = (i 0).val / 400 at ht
  obtain ⟨-, -, -, e3⟩ := maps t
  refine ⟨t, flush1_1 t, (in_block t i).mpr fun a => ?_⟩
  match a with
  | ⟨0, _⟩ => show win1_1.index t (0 : Fin 2) * 400 ≤ (i 0).val ∧ (i 0).val < win1_1.index t (0 : Fin 2) * 400 + 400; omega
  | ⟨1, _⟩ => show win1_1.index t (1 : Fin 2) * 1024 ≤ (i 1).val ∧ (i 1).val < win1_1.index t (1 : Fin 2) * 1024 + 1024; omega

end Region

end Cert.Sums

end
-- ==== Proof.GradsParts.lean ====
/-
# The packed sum and its parts

The reduction leaves each device one long row of numbers, the eight matrices' gradients one after another. A matrix's gradient is cut out of
the row and given its shape. The reference does the same with the eight devices' rows at once.
-/
module

public import proofs.«01_k».proof.Proof.GradsTotal
public import proofs.«01_k».proof.Proof.Gen.GradsReferenceIdeal.Run
public import Idealize.ShloMosaic.Lib.Layout

@[expose] public section

set_option Elab.async false

noncomputable section

namespace Cert.Sums

open Idealize.ShloMosaic
open Cert.GradsIdeal (S6800x1024 S6963200 S8x6800x1024)
open Cert.GradsReferenceIdeal (S8x6963200)

variable {α : Type}

/-- The element of the `6800 × 1024` sum at a place of the row. -/
def unpacked (p : ℕ) (h : p < 6963200) : S6800x1024.Idx
  | ⟨0, _⟩ => ⟨p / 1024, by show p / 1024 < 6800; omega⟩
  | ⟨1, _⟩ => ⟨p % 1024, by show p % 1024 < 1024; omega⟩
  | ⟨n + 2, h⟩ => absurd (show n + 2 < 2 from h) (by omega)

/-- A place of row `c`. -/
def inRow {n : ℕ} (c : Fin 8) (p : Fin n) : (⟨2, ![8, n]⟩ : Shape).Idx
  | ⟨0, _⟩ => c
  | ⟨1, _⟩ => p
  | ⟨k + 2, h⟩ => absurd (show k + 2 < 2 from h) (by omega)

theorem row_at (T : S6800x1024.Idx → α) (h : S6800x1024.ShapeCasts S6963200) (i : S6963200.Idx) :
    shapeCast S6963200 T h i = T (unpacked (i 0).val (i 0).isLt) := by
  refine shapeCast_apply _ _ _ _ ?_
  rw [Shape.rowMajor_val_two, Shape.rowMajor_val_one]
  show (i 0).val / 1024 * 1024 + (i 0).val % 1024 = (i 0).val
  omega

theorem rows_at (R : S8x6800x1024.Idx → α) (h : S8x6800x1024.ShapeCasts S8x6963200) (i : S8x6963200.Idx) :
    shapeCast S8x6963200 R h i = R (inSlab (i 0) (unpacked (i 1).val (i 1).isLt)) := by
  refine shapeCast_apply _ _ _ _ ?_
  rw [Shape.rowMajor_val_three, Shape.rowMajor_val_two]
  show ((i 0).val * 6800 + (i 1).val / 1024) * 1024 + (i 1).val % 1024 = (i 0).val * 6963200 + (i 1).val
  omega

/-- A device's part is its block of the reference's part, if the device's sum is its slab of the reference's sum. -/
theorem part_block {k r q n K off : ℕ} (hn : n = k * r * q) (T : S6800x1024.Idx → α) (R : S8x6800x1024.Idx → α) (c : Fin 8)
    (hR : ∀ i, T i = R (inSlab c i))
    (h1 : S6800x1024.ShapeCasts S6963200) (h2 : S6963200.Slices ![off] ⟨1, ![n]⟩) (h3 : (⟨1, ![n]⟩ : Shape).ShapeCasts ⟨3, ![k, r, q]⟩)
    (h4 : S8x6800x1024.ShapeCasts S8x6963200) (h5 : S8x6963200.Slices ![0, off] ⟨2, ![8, n]⟩) (h6 : (⟨2, ![8, n]⟩ : Shape).ShapeCasts ⟨3, ![K, r, q]⟩)
    (ht : Layout.Tiles ⟨3, ![k, r, q]⟩ ⟨3, ![K, r, q]⟩ 0 8) :
    shapeCast ⟨3, ![k, r, q]⟩ (extractStridedSlice ⟨1, ![n]⟩ ![off] (shapeCast S6963200 T h1) h2) h3
      = Layout.block ⟨3, ![k, r, q]⟩ ⟨3, ![K, r, q]⟩ 0 8 c
        (shapeCast ⟨3, ![K, r, q]⟩ (extractStridedSlice ⟨2, ![8, n]⟩ ![0, off] (shapeCast S8x6963200 R h4) h5) h6) ht := by
  subst hn
  funext x
  have hu : ((Shape.reshapeEquiv h3 x) 0).val = ((x 0).val * r + (x 1).val) * q + (x 2).val := by
    have h := Shape.rowMajor_reshapeEquiv h3 x
    rw [Shape.rowMajor_val_three, Shape.rowMajor_val_one] at h
    exact h
  generalize hue : (Shape.reshapeEquiv h3 x) = u at hu
  have hl : shapeCast ⟨3, ![k, r, q]⟩ (extractStridedSlice ⟨1, ![k * r * q]⟩ ![off] (shapeCast S6963200 T h1) h2) h3 x
      = extractStridedSlice ⟨1, ![k * r * q]⟩ ![off] (shapeCast S6963200 T h1) h2 u := by unfold shapeCast; rw [hue]
  have hr : shapeCast ⟨3, ![K, r, q]⟩ (extractStridedSlice ⟨2, ![8, k * r * q]⟩ ![0, off] (shapeCast S8x6963200 R h4) h5) h6 (ht.idx c x)
      = extractStridedSlice ⟨2, ![8, k * r * q]⟩ ![0, off] (shapeCast S8x6963200 R h4) h5 (inRow c (u 0)) := by
    refine shapeCast_apply _ _ _ _ ?_
    rw [Shape.rowMajor_val_three, Shape.rowMajor_val_two]
    have e0 : ((ht.idx c x) 0).val = c.val * k + (x 0).val := (ht.idx_val c x 0).trans (if_pos rfl)
    have e1 : ((ht.idx c x) 1).val = (x 1).val := (ht.idx_val c x 1).trans (if_neg (by show ¬ (1 = 0); omega))
    have e2 : ((ht.idx c x) 2).val = (x 2).val := (ht.idx_val c x 2).trans (if_neg (by show ¬ (2 = 0); omega))
    rw [e0, e1, e2]
    show c.val * (k * r * q) + (u 0).val = ((c.val * k + (x 0).val) * r + (x 1).val) * q + (x 2).val
    rw [hu]
    simp only [Nat.add_mul, Nat.mul_assoc, Nat.add_assoc]
  refine hl.trans (Eq.trans ?_ hr.symm)
  unfold extractStridedSlice
  rw [row_at, rows_at, hR]
  refine congrArg R ?_
  have hc : ∀ (d : Fin 8) (p p' : ℕ) (hp hp'), d = c → p = p' → inSlab c (unpacked p hp) = inSlab d (unpacked p' hp') := by
    intro d p p' hp hp' hd he; subst hd; subst he; rfl
  exact hc _ _ _ _ _ (Fin.ext (Nat.zero_add _)) rfl

end Cert.Sums

end
-- ==== Proof.GradsValue.lean ====
/-
# What the reduction computes

The partial gradients are scattered, summed on the device that owns them and cut into the matrices' gradients. The reference sums the whole
array over the devices it came from and cuts the sum. At the exact numbers the two agree, since the kernel's sum of eight terms is the
reference's.
-/
module

public import proofs.«01_k».proof.Defs
public import proofs.«01_k».proof.Proof.GradsRun
public import proofs.«01_k».proof.Proof.GradsParts
public import proofs.«01_k».proof.Proof.ScatterValue
public import proofs.«01_k».proof.Proof.Gen.Grads
public import proofs.«01_k».proof.Proof.Gen.GradsReference
public import Idealize.ShloMosaic.Lib.Pointwise.Reduce
public import Idealize.ShloMosaic.Init

@[expose] public section

set_option Elab.async false
set_option maxRecDepth 16384

noncomputable section

namespace Cert.Sums

open Idealize.ShloMosaic Idealize.SL.Sem
open Idealize.ShloMosaic.TcCoe
open Cert.Exchange Cert.GradsIdeal Cert.GradsIdeal.Gen
open Cert.GradsReferenceIdeal (S64x6800x1024 S8x8x6800x1024 S8x6963200)
open Cert.Scatter (atSlab atPair same_place block_at atSlab_moved)

/-! ## The ends of a run -/

section Ends

variable {F : FTy → Type} [FloatOps F]
variable (m : (ℓ : Loc nD τ sig) → Buf (Elt F) ℓ)

/-- The sum on device `c`, as a row. -/
abbrev packed (c : D8) : S6963200.Idx → Elt F .f32 := shapeCast S6963200 (total (received (a₀ m) c)) shapeCasts_S6800x1024_S6963200

theorem summed_at (c : D8) : summed m c (Proc.devRef .tc main_v2) = total (received (a₀ m) c) :=
  (Pipeline.afterRegion_arr (sumData (between m) c) (between m c) launch1.win.arr_inj 1).trans
    ((sum_array (between m) c).trans (congrArg total (between_got m c)))

theorem last_arg (c : D8) : last m c (Proc.devRef .tc main_arg0) = a₀ m c :=
  (StableHlo.after_of_writes_sub hostOps2 _ hostOps2_writes (by decide)).trans
    ((Pipeline.afterRegion_of_not_arr (sumData (between m) c) (between m c) (by decide)).trans (between_other m c main_arg0 (by decide)))

theorem last_ffn_gu (c : D8) : last m c (Proc.devRef .tc main_v5)
    = shapeCast S4x1024x704 (extractStridedSlice S2883584 ![0] (packed m c) slices_S6963200_S2883584_0) shapeCasts_S2883584_S4x1024x704 := by
  unfold packed
  rw [← summed_at m c]
  unfold last
  after_results
  rfl

theorem last_ffn_down (c : D8) : last m c (Proc.devRef .tc main_v7)
    = shapeCast S4x352x1024 (extractStridedSlice S1441792 ![2883584] (packed m c) slices_S6963200_S1441792_2883584) shapeCasts_S1441792_S4x352x1024 := by
  unfold packed
  rw [← summed_at m c]
  unfold last
  after_results
  rfl

theorem last_conv_in (c : D8) : last m c (Proc.devRef .tc main_v9)
    = shapeCast S2x1024x384 (extractStridedSlice S786432 ![4325376] (packed m c) slices_S6963200_S786432_4325376) shapeCasts_S786432_S2x1024x384 := by
  unfold packed
  rw [← summed_at m c]
  unfold last
  after_results
  rfl

theorem last_conv_out (c : D8) : last m c (Proc.devRef .tc main_v11)
    = shapeCast S2x128x1024 (extractStridedSlice S262144 ![5111808] (packed m c) slices_S6963200_S262144_5111808) shapeCasts_S262144_S2x128x1024 := by
  unfold packed
  rw [← summed_at m c]
  unfold last
  after_results
  rfl

theorem last_fox_in (c : D8) : last m c (Proc.devRef .tc main_v13)
    = shapeCast S1x1024x386 (extractStridedSlice S395264 ![5373952] (packed m c) slices_S6963200_S395264_5373952) shapeCasts_S395264_S1x1024x386 := by
  unfold packed
  rw [← summed_at m c]
  unfold last
  after_results
  rfl

theorem last_fox_out (c : D8) : last m c (Proc.devRef .tc main_v15)
    = shapeCast S1x128x1024 (extractStridedSlice S131072 ![5769216] (packed m c) slices_S6963200_S131072_5769216) shapeCasts_S131072_S1x128x1024 := by
  unfold packed
  rw [← summed_at m c]
  unfold last
  after_results
  rfl

theorem last_ssd_in (c : D8) : last m c (Proc.devRef .tc main_v17)
    = shapeCast S1x1024x772 (extractStridedSlice S790528 ![5900288] (packed m c) slices_S6963200_S790528_5900288) shapeCasts_S790528_S1x1024x772 := by
  unfold packed
  rw [← summed_at m c]
  unfold last
  after_results
  rfl

theorem last_ssd_out (c : D8) : last m c (Proc.devRef .tc main_v19)
    = shapeCast S1x256x1024 (extractStridedSlice S262144 ![6690816] (packed m c) slices_S6963200_S262144_6690816) shapeCasts_S262144_S1x256x1024 := by
  unfold packed
  rw [← summed_at m c]
  unfold last
  after_results
  rfl

/-- A result read of a final memory. -/
theorem end_at (c : D8) (s : MemSt nD τ sig (Elt F)) (h : Ends m c s) (b : Ref sig .tc) (hb : b.isScoped = false) :
    s.mem ((c.tc : Thread nD τ).loc b) = last m c (Proc.devRef .tc b) :=
  h _ (Pipeline.devRef_mem_ucRefs hb)

theorem kernel_frame (g : Dev nD → PrngReg) :
    θ_run (defs (F := F)) (onTc (τ := τ) (main (F := F))) ⟨m, fun _ => 0, g⟩ (fun r =>
      (∀ c : Dev nD, r.2.mem ((c.tc : Thread nD τ).loc main_arg0) = m ((c.tc : Thread nD τ).loc main_arg0)) ∧ r.2.sem = fun _ => 0) :=
  (θ_run _ _ _).mono (fun _ h => ⟨fun c => (end_at m c _ (h.1 c) main_arg0 rfl).trans (last_arg m c), h.2⟩) (run m g)

end Ends

section ReferenceFrame

variable {F : FTy → Type} [FloatOps F]

theorem sums_reference_frame (m : (ℓ : Loc Cert.GradsReferenceIdeal.nD Cert.GradsReferenceIdeal.τ Cert.GradsReferenceIdeal.sig) → Buf (Elt F) ℓ)
    (g : Dev Cert.GradsReferenceIdeal.nD → PrngReg) :
    θ_run (Cert.GradsReferenceIdeal.defs (F := F)) (onTc (τ := Cert.GradsReferenceIdeal.τ) (Cert.GradsReferenceIdeal.main (F := F))) ⟨m, fun _ => 0, g⟩ (fun r =>
      (∀ c : Dev Cert.GradsReferenceIdeal.nD, r.2.mem ((c.tc : Thread Cert.GradsReferenceIdeal.nD Cert.GradsReferenceIdeal.τ).loc Cert.GradsReferenceIdeal.main_arg0)
        = m ((c.tc : Thread Cert.GradsReferenceIdeal.nD Cert.GradsReferenceIdeal.τ).loc Cert.GradsReferenceIdeal.main_arg0)) ∧ r.2.sem = fun _ => 0) :=
  (θ_run _ _ _).mono (fun r hr => ⟨fun c => (hr c).2.2.2.2.2.2.2.2, sem_eq_zero_of_no_sems (by decide) r.2⟩) (Cert.GradsReferenceIdeal.Value.run m g)

end ReferenceFrame

/-! ## The sum, at the exact numbers -/

open Cert.GradsReferenceIdeal.Gen in
/-- The reference's sum of the whole array over the devices it came from. -/
def wholeSum (w : S64x6800x1024.Idx → Ideal .bf16) : S8x6800x1024.Idx → Ideal .f32 :=
  Host.reduceAdd (F := Ideal) (s := S8x8x6800x1024) (t := S8x6800x1024) (φ := .f32)
    (shapeCast S8x8x6800x1024 (extf (F := Ideal) (φ := .bf16) .f32 w Cert.GradsReferenceIdeal.Gen.bitsLt_bf16_f32) shapeCasts_S64x6800x1024_S8x8x6800x1024)
    (constant Cert.GradsReferenceIdeal.S_ .f32 0x00000000#32) reducesTo_S8x8x6800x1024_S8x6800x1024_d0 h_S_

theorem addAll_eq (f : Fin 8 → Ideal .bf16) : addAll (F := Ideal) f = ∑ d, (f d : EReal) := (Fin.sum_univ_eight _).symm

theorem wholeSum_at (w : S64x6800x1024.Idx → Ideal .bf16) (c : Fin 8) (i : S6800x1024.Idx) :
    wholeSum w (inSlab c i) = ∑ d : Fin 8, (w (atSlab d c (inSlab c i)) : EReal) := by
  unfold wholeSum
  rw [Host.reduceAdd_apply, Ideal.hostReduceAdd_def, Ideal.hostReduceAdd_r4_a0]
  refine (congrArg₂ (· + ·) Ideal.ofBits_zero_f32 ?_).trans (zero_add _)
  refine Finset.sum_congr rfl fun d _ => ?_
  refine shapeCast_apply _ _ _ (atSlab d c (inSlab c i)) ?_
  refine (same_place d c (inSlab c i)).trans (congrArg (fun y => (S8x8x6800x1024.rowMajor y : ℕ)) (funext fun a => ?_))
  rcases a with ⟨_ | _ | _ | _ | n, h⟩
  · rfl
  · rfl
  · rfl
  · rfl
  · exact absurd (show n + 4 < 4 from h) (by omega)

/-- Each device's sum is its slab of the reference's. -/
theorem total_eq (a : (c : Dev nD) → Buf (Elt Ideal) ((c.tc : Thread nD τ).loc main_arg0)) (w : S64x6800x1024.Idx → Ideal .bf16)
    (h : ∀ c : Dev nD, a c = Layout.block ⟨3, ![8, 6800, 1024]⟩ ⟨3, ![64, 6800, 1024]⟩ 0 8 c w) (c : Dev nD) (i : S6800x1024.Idx) :
    total (F := Ideal) (received a c) i = wholeSum w (inSlab c i) := by
  rw [wholeSum_at]
  refine (addAll_eq _).trans (Finset.sum_congr rfl fun d _ => ?_)
  show (a d : S8x6800x1024.Idx → Ideal .bf16) (moved c (inSlab d i)) = _
  rw [h d]
  refine (block_at w d (moved c (inSlab d i))).trans (congrArg w (funext fun b => ?_))
  rcases b with ⟨_ | _ | _ | n, hn⟩
  · rfl
  · rfl
  · rfl
  · exact absurd (show n + 3 < 3 from hn) (by omega)

/-! ## The claims -/

section Value

variable (m : (ℓ : Loc nD τ sig) → Buf (Elt Ideal) ℓ) (w : S64x6800x1024.Idx → Ideal .bf16)
variable (h : ∀ c : Dev nD, a₀ m c = Layout.block ⟨3, ![8, 6800, 1024]⟩ ⟨3, ![64, 6800, 1024]⟩ 0 8 c w)

open Cert.GradsReferenceIdeal.Gen in
/-- The reference's sum, as the devices' rows. -/
abbrev wholePacked : S8x6963200.Idx → Ideal .f32 := shapeCast S8x6963200 (wholeSum w) shapeCasts_S8x6800x1024_S8x6963200

include h in
/-- A part of a device's row is its block of the part of the reference's rows. -/
theorem part_eq {k r q n K off : ℕ} (hn : n = k * r * q) (c : Dev nD) (h2 : S6963200.Slices ![off] ⟨1, ![n]⟩)
    (h3 : (⟨1, ![n]⟩ : Shape).ShapeCasts ⟨3, ![k, r, q]⟩) (h5 : S8x6963200.Slices ![0, off] ⟨2, ![8, n]⟩)
    (h6 : (⟨2, ![8, n]⟩ : Shape).ShapeCasts ⟨3, ![K, r, q]⟩) (ht : Layout.Tiles ⟨3, ![k, r, q]⟩ ⟨3, ![K, r, q]⟩ 0 8)
    (x : (⟨3, ![k, r, q]⟩ : Shape).Idx → Ideal .f32)
    (hx : x = shapeCast ⟨3, ![k, r, q]⟩ (extractStridedSlice ⟨1, ![n]⟩ ![off] (packed (F := Ideal) m c) h2) h3) :
    x = Layout.block ⟨3, ![k, r, q]⟩ ⟨3, ![K, r, q]⟩ 0 8 c
        (shapeCast ⟨3, ![K, r, q]⟩ (extractStridedSlice ⟨2, ![8, n]⟩ ![0, off] (wholePacked w) h5) h6) ht :=
  hx.trans (part_block hn (total (F := Ideal) (received (a₀ m) c)) (wholeSum w) c (total_eq (a₀ m) w h c) shapeCasts_S6800x1024_S6963200 h2 h3
    Cert.GradsReferenceIdeal.Gen.shapeCasts_S8x6800x1024_S8x6963200 h5 h6 ht)

end Value

section Tables

variable {F : FTy → Type} [FloatOps F]

/-- The two printed programs have the same kernels, -/
theorem kernels_eq : Cert.Grads.defs₀ (F := F) = Cert.GradsIdeal.defs₀ (F := F) := by
  unfold Cert.Grads.defs₀ Cert.GradsIdeal.defs₀
  refine congrArg Defs.onTc ?_
  funext l a
  match l with
  | 0 => rfl
  | 1 => rfl

/-- and so the same table. -/
theorem tables_eq : Cert.Grads.defs (F := F) = Cert.GradsIdeal.defs (F := F) := by
  unfold Cert.Grads.defs Cert.GradsIdeal.defs
  rw [← kernels_eq]
  rfl

end Tables

theorem frame_grads : Cert.quiescent_Grads (hGrads := Cert.Grads.Gen.facts) := fun m g _ => by
  rw [tables_eq]
  exact kernel_frame (F := Bits) m g
theorem frame_gradsIdeal : Cert.quiescent_GradsIdeal (hGradsIdeal := Cert.GradsIdeal.Gen.facts) := fun m g _ => kernel_frame (F := Ideal) m g
theorem frame_gradsReference : Cert.quiescent_GradsReference (hGradsReference := Cert.GradsReference.Gen.facts) := fun m g _ => sums_reference_frame (F := Bits) m g
theorem frame_gradsReferenceIdeal : Cert.quiescent_GradsReferenceIdeal (hGradsReferenceIdeal := Cert.GradsReferenceIdeal.Gen.facts) :=
  fun m g _ => sums_reference_frame (F := Ideal) m g

open Cert.GradsReferenceIdeal.Gen in
theorem value : Cert.algebraic_GradsIdeal_GradsReferenceIdeal (hGradsIdeal := Cert.GradsIdeal.Gen.facts) (hGradsReferenceIdeal := Cert.GradsReferenceIdeal.Gen.facts) :=
  fun m g m' g' _ h =>
    ⟨_, _, _, _, _, _, _, _, (θ_run _ _ _).mono (fun r hr c => ⟨
        part_eq m _ h (k := 4) (r := 1024) (q := 704) (n := 2883584) (K := 32) (off := 0) (by norm_num) c slices_S6963200_S2883584_0 shapeCasts_S2883584_S4x1024x704 slices_S8x6963200_S8x2883584_0_0 shapeCasts_S8x2883584_S32x1024x704 (by decide) _
          ((end_at m c _ (hr.1 c) main_v5 rfl).trans (last_ffn_gu m c)),
        part_eq m _ h (k := 4) (r := 352) (q := 1024) (n := 1441792) (K := 32) (off := 2883584) (by norm_num) c slices_S6963200_S1441792_2883584 shapeCasts_S1441792_S4x352x1024 slices_S8x6963200_S8x1441792_0_2883584 shapeCasts_S8x1441792_S32x352x1024 (by decide) _
          ((end_at m c _ (hr.1 c) main_v7 rfl).trans (last_ffn_down m c)),
        part_eq m _ h (k := 2) (r := 1024) (q := 384) (n := 786432) (K := 16) (off := 4325376) (by norm_num) c slices_S6963200_S786432_4325376 shapeCasts_S786432_S2x1024x384 slices_S8x6963200_S8x786432_0_4325376 shapeCasts_S8x786432_S16x1024x384 (by decide) _
          ((end_at m c _ (hr.1 c) main_v9 rfl).trans (last_conv_in m c)),
        part_eq m _ h (k := 2) (r := 128) (q := 1024) (n := 262144) (K := 16) (off := 5111808) (by norm_num) c slices_S6963200_S262144_5111808 shapeCasts_S262144_S2x128x1024 slices_S8x6963200_S8x262144_0_5111808 shapeCasts_S8x262144_S16x128x1024 (by decide) _
          ((end_at m c _ (hr.1 c) main_v11 rfl).trans (last_conv_out m c)),
        part_eq m _ h (k := 1) (r := 1024) (q := 386) (n := 395264) (K := 8) (off := 5373952) (by norm_num) c slices_S6963200_S395264_5373952 shapeCasts_S395264_S1x1024x386 slices_S8x6963200_S8x395264_0_5373952 shapeCasts_S8x395264_S8x1024x386 (by decide) _
          ((end_at m c _ (hr.1 c) main_v13 rfl).trans (last_fox_in m c)),
        part_eq m _ h (k := 1) (r := 128) (q := 1024) (n := 131072) (K := 8) (off := 5769216) (by norm_num) c slices_S6963200_S131072_5769216 shapeCasts_S131072_S1x128x1024 slices_S8x6963200_S8x131072_0_5769216 shapeCasts_S8x131072_S8x128x1024 (by decide) _
          ((end_at m c _ (hr.1 c) main_v15 rfl).trans (last_fox_out m c)),
        part_eq m _ h (k := 1) (r := 1024) (q := 772) (n := 790528) (K := 8) (off := 5900288) (by norm_num) c slices_S6963200_S790528_5900288 shapeCasts_S790528_S1x1024x772 slices_S8x6963200_S8x790528_0_5900288 shapeCasts_S8x790528_S8x1024x772 (by decide) _
          ((end_at m c _ (hr.1 c) main_v17 rfl).trans (last_ssd_in m c)),
        part_eq m _ h (k := 1) (r := 256) (q := 1024) (n := 262144) (K := 8) (off := 6690816) (by norm_num) c slices_S6963200_S262144_6690816 shapeCasts_S262144_S1x256x1024 slices_S8x6963200_S8x262144_0_6690816 shapeCasts_S8x262144_S8x256x1024 (by decide) _
          ((end_at m c _ (hr.1 c) main_v19 rfl).trans (last_ssd_out m c)),
        (end_at m c _ (hr.1 c) main_arg0 rfl).trans (last_arg m c)⟩) (run m g),
      (θ_run _ _ _).mono (fun _ hr => hr 0) (Cert.GradsReferenceIdeal.Value.run m' g')⟩

end Cert.Sums

end
-- ==== Proof.NormLaw.lean ====
/-
# The gradient of a norm, over the extended reals

A row is divided by the root of its mean square plus a small constant, and multiplied by a gain. Two ways to write the gradient agree, for any extended reals in the row and in what arrives from above.
-/
module

public import Idealize.ShloMosaic.PureOps.Ideal.Laws

@[expose] public section

noncomputable section

namespace Cert.NormGrad

open Idealize.ShloMosaic

/-- The width of a row, -/
theorem width : Ideal.ofBits .f32 0x44800000#32 = ((1024 : ℝ) : EReal) := by
  simp [Ideal.ofBits, Ideal.ieee, -EReal.coe_mul]; norm_num

/-- the small constant, -/
theorem small : ∃ e : ℝ, 0 < e ∧ Ideal.ofBits .f32 0x358637BD#32 = (e : EReal) := by
  refine ⟨(8796093 : ℝ) / 2 ^ 43, by positivity, ?_⟩
  simp [Ideal.ofBits, Ideal.ieee, -EReal.coe_mul]; norm_num

/-- and the factor minus one half. -/
theorem minusHalf : Ideal.ofBits .f32 0xBF000000#32 = ((-(1 / 2) : ℝ) : EReal) := by
  simp [Ideal.ofBits, Ideal.ieee, -EReal.coe_mul]; norm_num

/-- A factor that is real and not negative goes through a sum. -/
theorem scale_sum {ι : Type} (s : Finset ι) (f : ι → EReal) {r : ℝ} (hr : 0 ≤ r) :
    ∑ k ∈ s, (r : EReal) * f k = (r : EReal) * ∑ k ∈ s, f k := by
  classical
  induction s using Finset.induction_on with
  | empty => simp
  | insert a s ha ih =>
    rw [Finset.sum_insert ha, Finset.sum_insert ha, ih,
      EReal.left_distrib_of_nonneg_of_ne_top (EReal.coe_nonneg.mpr hr) (EReal.coe_ne_top r)]

theorem square_nonneg (y : EReal) : 0 ≤ y * y := by
  induction y with
  | bot => simp
  | top => simp
  | coe y => rw [← EReal.coe_mul]; exact EReal.coe_nonneg.mpr (mul_self_nonneg y)

theorem real_of_square {y : EReal} (h : y * y ≠ ⊤) : ∃ z : ℝ, y = z := by
  induction y with
  | bot => simp at h
  | top => simp at h
  | coe y => exact ⟨y, rfl⟩

theorem twice (y : EReal) : y + y = ((2 : ℝ) : EReal) * y := by
  induction y with
  | bot => simp [EReal.coe_mul_bot_of_pos]
  | top => simp [EReal.coe_mul_top_of_pos]
  | coe y => rw [← EReal.coe_mul, ← EReal.coe_add, two_mul]

section Row

variable {n : Nat} (x : Fin n → EReal)

/-- The mean square plus the small constant. -/
def level : EReal := Ideal.div (∑ k, x k * x k) (Ideal.ofBits .f32 0x44800000#32) + Ideal.ofBits .f32 0x358637BD#32

/-- It is infinite, or it is a positive real and so is every element of the row. -/
theorem level_cases : level x = ⊤ ∨ ((∃ p : ℝ, 0 < p ∧ level x = p) ∧ ∀ k, ∃ y : ℝ, x k = y) := by
  obtain ⟨e, he, hE⟩ := small
  have h1024 : (1024 : ℝ) ≠ 0 := by norm_num
  have h0 : 0 ≤ ∑ k, x k * x k := Finset.sum_nonneg fun k _ => square_nonneg (x k)
  unfold level
  rw [width, hE, Ideal.div_coe h1024]
  by_cases hS : ∑ k, x k * x k = ⊤
  · left
    rw [hS, EReal.top_mul_coe_of_pos (by norm_num), EReal.top_add_coe]
  · right
    refine ⟨?_, fun k => real_of_square fun hk => hS (top_le_iff.mp ?_)⟩
    · lift ∑ k, x k * x k to ℝ using ⟨hS, fun hb => by rw [hb] at h0; simp at h0⟩ with S hS'
      have : 0 ≤ S := EReal.coe_nonneg.mp h0
      exact ⟨S * (1 / 1024) + e, by positivity, by push_cast; rfl⟩
    · exact hk ▸ Finset.single_le_sum (f := fun k => x k * x k) (fun k _ => square_nonneg (x k)) (Finset.mem_univ k)

variable (g : Fin n → EReal) (dy : EReal) (j : Fin n)

/-- The gradient as the program takes it: the arriving gradient, less its part along the row, times the reciprocal root. -/
def byHand : EReal :=
  dy + Ideal.rsqrt (level x) * (g j - x j * Ideal.rsqrt (level x)
    * Ideal.div (∑ k, g k * (x k * Ideal.rsqrt (level x))) (Ideal.ofBits .f32 0x44800000#32))

/-- What the mean square passes back, over twice the row. -/
def passed : EReal :=
  Ideal.div ((∑ k, x k * g k) * (Ideal.ofBits .f32 0xBF000000#32 * Ideal.div (Ideal.rsqrt (level x)) (level x)))
    (Ideal.ofBits .f32 0x44800000#32)

/-- The gradient by the chain rule: through the product, and through the square's two factors. -/
def byChain : EReal := dy + (g j * Ideal.rsqrt (level x) + x j * passed x g + passed x g * x j)

/-- The two are equal. -/
theorem byHand_eq_byChain : byHand x g dy j = byChain x g dy j := by
  have h1024 : (1024 : ℝ) ≠ 0 := by norm_num
  unfold byHand byChain passed
  rw [width, minusHalf, Ideal.div_coe h1024, Ideal.div_coe h1024]
  rcases level_cases x with hq | ⟨⟨p, hp, hq⟩, hx⟩
  · rw [hq]
    have : Ideal.div 0 (⊤ : EReal) = 0 := by simp [Ideal.div]
    simp [this]
  · have hr : Ideal.rsqrt (level x) = (((Real.sqrt p)⁻¹ : ℝ) : EReal) := by
      rw [hq, Ideal.rsqrt_coe, if_neg (not_lt.mpr hp.le), if_neg hp.ne']
    have hp' : p⁻¹ = (Real.sqrt p)⁻¹ * (Real.sqrt p)⁻¹ := by
      rw [← mul_inv, Real.mul_self_sqrt hp.le]
    have hr0 : 0 ≤ (Real.sqrt p)⁻¹ := by positivity
    rw [hr, hq, Ideal.div_coe hp.ne', one_div p, hp']
    generalize (Real.sqrt p)⁻¹ = r at hr0 ⊢
    obtain ⟨y, hy⟩ := hx j
    have hsum : ∑ k, g k * (x k * (r : EReal)) = (r : EReal) * ∑ k, x k * g k := by
      rw [← scale_sum _ _ hr0]
      exact Finset.sum_congr rfl fun k _ => by ac_rfl
    rw [hsum, hy]
    generalize ∑ k, x k * g k = A
    rw [sub_eq_add_neg, EReal.left_distrib_of_nonneg_of_ne_top (EReal.coe_nonneg.mpr hr0) (EReal.coe_ne_top r),
      add_assoc (g j * (r : EReal)), mul_comm (A * _ * _) (y : EReal), twice]
    congr 2
    · exact mul_comm _ _
    · have e1 : (r : EReal) * -((y : EReal) * (r : EReal) * ((r : EReal) * A * ((1 / 1024 : ℝ) : EReal)))
          = A * ((-(r * (y * r * (r * (1 / 1024)))) : ℝ) : EReal) := by
        rw [mul_neg, EReal.coe_neg, mul_neg]
        push_cast
        congr 1
        ac_rfl
      have e2 : ((2 : ℝ) : EReal) * ((y : EReal) * (A * (((-(1 / 2) : ℝ) : EReal) * ((r : EReal) * ((r * r : ℝ) : EReal))) * ((1 / 1024 : ℝ) : EReal)))
          = A * ((2 * (y * ((-(1 / 2) * (r * (r * r))) * (1 / 1024))) : ℝ) : EReal) := by
        simp only [EReal.coe_mul]
        ac_rfl
      rw [e1, e2]
      congr 2
      ring

end Row

end Cert.NormGrad

end
-- ==== Proof.NormRows.lean ====
/-
# The gradient of a norm, element by element

What the reference leaves, and what one block of the program computes, read at an index.
-/
module

public import proofs.«01_k».proof.Proof.NormLaw
public import proofs.«01_k».proof.Proof.Gen.NormIdeal.Skeleton
public import proofs.«01_k».proof.Proof.Gen.NormReferenceIdeal.Run
public import Idealize.ShloMosaic.Lib.Pointwise

@[expose] public section

noncomputable section

namespace Cert.NormGrad

open Idealize.ShloMosaic

/-- A matrix of extended reals. -/
abbrev Matrix (a b : Nat) : Type := (⟨2, ![a, b]⟩ : Shape).Idx → EReal

/-- A row of a matrix, -/
def row {a b : Nat} (x : Matrix a b) (i : Fin a) : Fin b → EReal := fun k => x (ix2 i k)

/-- and a row multiplied by the gain. -/
def gained {a b : Nat} (w : Matrix 1 b) (dh : Matrix a b) (i : Fin a) : Fin b → EReal := fun k => dh (ix2 i k) * w (ix2 0 k)

/-- The gradient of the norm's input, added to the gradient that goes round the norm. -/
def inputGrad {a : Nat} (x : Matrix a 1024) (w : Matrix 1 1024) (dh dy : Matrix a 1024) : Matrix a 1024 := fun i =>
  byHand (row x (i 0)) (gained w dh (i 0)) (dy i) (i 1)

/-- A row's part of the gain's gradient. -/
def gainPart {a : Nat} (x dh : Matrix a 1024) (i : Fin a) (j : Fin 1024) : EReal :=
  dh (ix2 i j) * (x (ix2 i j) * Ideal.rsqrt (level (row x i)))

/-- The gain's gradient: the sum over the rows. -/
def gainGrad {a : Nat} (x dh : Matrix a 1024) : Matrix 1 1024 := fun j => ∑ i, gainPart x dh i (j 1)

section Block

open Cert.NormIdeal Cert.NormIdeal.Gen

set_option maxRecDepth 16384

/-- A block's gradient of the input. -/
theorem block_input (x dh dy : Vec Ideal S256x1024 .f32) (w : Vec Ideal S1x1024 .f32) : k0_pay3 x dh w dy = inputGrad x w dh dy := by
  funext i
  idx_vars i
  pointwise [k0_pay3, k0_pay2, k0_pay1]
  rfl

/-- A block's part of the gain's gradient is added to what was there. -/
theorem block_gain (x dh : Vec Ideal S256x1024 .f32) (old : Vec Ideal S1x1024 .f32) :
    k0_pay5 x dh old = fun j => old j + gainGrad x dh j := by
  funext i
  idx_vars i
  pointwise [k0_pay5, k0_pay2, k0_pay1]
  rfl

end Block

section Reference

open Cert.NormReferenceIdeal Cert.NormReferenceIdeal.Gen Idealize.ShloMosaic.TcCoe Idealize.SL.Sem

set_option maxRecDepth 16384

/-- The reference leaves the gradients of the input and of the gain. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = inputGrad (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_v17) = gainGrad (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2.1.trans ?_, (h c).2.2⟩) (Value.run m ρ)
  · generalize m ((c.tc : Thread nD τ).loc main_arg0) = x
    generalize m ((c.tc : Thread nD τ).loc main_arg1) = w
    generalize m ((c.tc : Thread nD τ).loc main_arg2) = dh
    generalize m ((c.tc : Thread nD τ).loc main_arg3) = dy
    funext i
    idx_vars i
    pointwise
    simp only [Finset.univ_unique, Finset.sum_singleton]
    exact (byHand_eq_byChain (row x i0) (gained w dh i0) (dy (ix2 i0 i1)) i1).symm
  · generalize m ((c.tc : Thread nD τ).loc main_arg0) = x
    generalize m ((c.tc : Thread nD τ).loc main_arg2) = dh
    funext i
    idx_vars i
    pointwise
    exact Finset.sum_congr rfl fun k _ => mul_comm _ _

end Reference

end Cert.NormGrad

end
-- ==== Proof.NormValue.lean ====
/-
# The run of the norm's gradient

The program takes 256 rows at a point. It writes their gradient, and adds their part of the gain's gradient to a row of sums that leaves after the last point.
-/
module

public import proofs.«01_k».proof.Proof.NormRows
public import proofs.«01_k».proof.Proof.Gen.NormIdeal
public import proofs.«01_k».proof.Proof.Gen.NormIdeal.Frame
public import proofs.«01_k».proof.Proof.Gen.NormIdeal.Value
public import Idealize.ShloMosaic.Lib.Pipeline.ValueKit

@[expose] public section

set_option maxRecDepth 16384

noncomputable section

namespace Cert.NormGrad

open Idealize.ShloMosaic Idealize.ShloMosaic.TcCoe Idealize.SL.Sem
open Cert.NormIdeal Cert.NormIdeal.Gen
open Idealize.ShloMosaic.Pipeline (Dat)

variable (m : (ℓ : Loc nD τ sig) → Buf (Elt Ideal) ℓ) (c : Dev nD)

/-- What a point leaves of its rows' gradient, -/
theorem left_input (t : Fin cfg0.N) :
    (outsAt0 m c t.val t.isLt).1 = inputGrad (iblk m c 0 t) (iblk m c 1 t) (iblk m c 2 t) (iblk m c 3 t) := by
  by_cases h0 : t.val % 32 = 0
  · rw [outsAt0_A m c t h0]
    frame_out
    exact block_input _ _ _ _
  · rw [outsAt0_B m c t h0]
    frame_out
    exact block_input _ _ _ _

/-- and of the gain's: the first point its own part, -/
theorem left_gain_first (t : Fin cfg0.N) (h0 : t.val % 32 = 0) :
    (outsAt0 m c t.val t.isLt).2 = fun j => 0 + gainGrad (iblk m c 0 t) (iblk m c 2 t) j := by
  rw [outsAt0_A m c t h0]
  frame_out
  refine (block_gain _ _ _).trans (funext fun j => congrArg (· + _) ?_)
  pointwise [k0_pay4]

/-- a later point its own part added to what was there. -/
theorem left_gain_later (t : Fin cfg0.N) (h0 : ¬t.val % 32 = 0) :
    (outsAt0 m c t.val t.isLt).2 = fun j => (outsAt0 m c (t.val - 1) (Nat.lt_of_le_of_lt (Nat.sub_le _ _) t.isLt)).2 j
      + gainGrad (iblk m c 0 t) (iblk m c 2 t) j := by
  conv_lhs => rw [outsAt0_B m c t h0]
  frame_out
  exact block_gain _ _ _

/-- The last point leaves the sum of the points' parts. -/
theorem left_gain (t : Fin cfg0.N) (ht : t.val + 1 = cfg0.N) (j : S1x1024.Idx) :
    (outsAt0 m c t.val t.isLt).2 j = 0 + ∑ p : Fin cfg0.N, gainGrad (iblk m c 0 p) (iblk m c 2 p) j :=
  Pipeline.eq_sum_fin_of_reset_step_apply_last (fun n h => (outsAt0 m c n h).2) 32 (fun _ => 0)
    (fun p => gainGrad (iblk m c 0 p) (iblk m c 2 p)) (fun t h i => congrFun (left_gain_first m c t h) i)
    (fun t h i => congrFun (left_gain_later m c t h) i) (by decide) t ht j

/-- The rows of the point's blocks. -/
theorem maps : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

/-- A row of a point's block is a row of the array, -/
def place (t : Fin cfg0.N) (i : Fin 256) : Fin 8192 := ⟨t.val * 256 + i.val, by have h : t.val < 32 := t.isLt; omega⟩

theorem row_x (t : Fin cfg0.N) (i : Fin 256) (k : Fin 1024) :
    (iblk m c 0 t : Matrix 256 1024) (ix2 i k) = (m ((c : Thread nD τ).loc main_arg0) : Matrix 8192 1024) (ix2 (place t i) k) := by
  unfold place
  blk_ext [iblk, V, maps t]

theorem row_dh (t : Fin cfg0.N) (i : Fin 256) (k : Fin 1024) :
    (iblk m c 2 t : Matrix 256 1024) (ix2 i k) = (m ((c : Thread nD τ).loc main_arg2) : Matrix 8192 1024) (ix2 (place t i) k) := by
  unfold place
  blk_ext [iblk, V, maps t]

theorem row_dy (t : Fin cfg0.N) (i : Fin 256) (k : Fin 1024) :
    (iblk m c 3 t : Matrix 256 1024) (ix2 i k) = (m ((c : Thread nD τ).loc main_arg3) : Matrix 8192 1024) (ix2 (place t i) k) := by
  unfold place
  blk_ext [iblk, V, maps t]

/-- and the gain is at every point the whole gain. -/
theorem row_w (t : Fin cfg0.N) (k : Fin 1024) :
    (iblk m c 1 t : Matrix 1 1024) (ix2 0 k) = (m ((c : Thread nD τ).loc main_arg1) : Matrix 1 1024) (ix2 0 k) := by
  blk_ext [iblk, V, maps t]

/-- The gradient of the input, after the run, -/
theorem input_array : (dats m 0 c).arrAt 4 cfg0.N = inputGrad (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  blk_simp
  rw [after0_4, left_input]
  change S256x1024.Idx at y
  have hz : (win0_4.blk t).view.emb y = (ix2 (place t (y 0)) (y 1) : S8192x1024.Idx) := by
    unfold place
    blk_ext [maps t]
  rw [hz]
  obtain ⟨i, j, rfl⟩ : ∃ (i : Fin 256) (j : Fin 1024), y = ix2 i j := ⟨y 0, y 1, eq_ix2 y⟩
  have hx : row (iblk m c 0 t : Matrix 256 1024) i = row (m ((c : Thread nD τ).loc main_arg0)) (place t i) :=
    funext fun k => row_x m c t i k
  have hg : gained (iblk m c 1 t) (iblk m c 2 t : Matrix 256 1024) i
      = gained (m ((c : Thread nD τ).loc main_arg1)) (m ((c : Thread nD τ).loc main_arg2)) (place t i) :=
    funext fun k => congrArg₂ (fun a b : EReal => a * b) (row_dh m c t i k) (row_w m c t k)
  show byHand (row (iblk m c 0 t : Matrix 256 1024) i) (gained (iblk m c 1 t) (iblk m c 2 t : Matrix 256 1024) i)
      ((iblk m c 3 t : Matrix 256 1024) (ix2 i j)) j = _
  rw [hx, hg, row_dy m c t i j]
  rfl

/-- and that of the gain. -/
theorem gain_array : (dats m 0 c).arrAt 5 cfg0.N = gainGrad (m ((c : Thread nD τ).loc main_arg0)) (m ((c : Thread nD τ).loc main_arg2)) := by
  refine (dats m 0 c).arrAt_eq_of_after_last 5 (⟨31, by decide⟩ : Fin cfg0.N) (by decide +kernel) _ fun j => ?_
  change S1x1024.Idx at j
  refine (congrFun (after0_5 m c _) _).trans ((left_gain m c ⟨31, by decide⟩ rfl j).trans ?_)
  rw [zero_add]
  refine Fin.sum_mul_add_congr (L := 8192) (S := 32) (n := 256) fun t i hl => ?_
  have hx : row (iblk m c 0 t : Matrix 256 1024) i = row (m ((c : Thread nD τ).loc main_arg0)) (place t i) :=
    funext fun k => row_x m c t i k
  unfold gainPart
  rw [row_x m c t i (j 1), row_dh m c t i (j 1), hx]
  rfl

/-- The run of the program. -/
theorem kernel_run (ρ : Dev nD → PrngReg) :
    θ_run defs (onTc (τ := τ) (main (F := Ideal))) ⟨m, fun _ => 0, ρ⟩ fun r => ∀ c : Dev nD,
      r.2.mem ((c : Thread nD τ).loc main_v0_0) = inputGrad (m ((c : Thread nD τ).loc main_arg0))
        (m ((c : Thread nD τ).loc main_arg1)) (m ((c : Thread nD τ).loc main_arg2)) (m ((c : Thread nD τ).loc main_arg3))
      ∧ r.2.mem ((c : Thread nD τ).loc main_v0_1) = gainGrad (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (input_array m c), (h c).2.1.trans (gain_array m c), (h c).2.2⟩)
    (Value.run_blocks m ρ)

end Cert.NormGrad

end
-- ==== Proof.Norm.lean ====
/-
# The norm's gradient and its reference agree

The program, by blocks of rows, and the reference, by the chain rule on the whole matrices, leave the gradients of the same input and gain.
-/
module

public import proofs.«01_k».proof.Defs
public import proofs.«01_k».proof.Proof.NormValue
public import proofs.«01_k».proof.Proof.Gen.Norm
public import proofs.«01_k».proof.Proof.Gen.Norm.Frame
public import proofs.«01_k».proof.Proof.Gen.NormReference

@[expose] public section

noncomputable section

namespace Cert.NormGrad

open Idealize.ShloMosaic Idealize.ShloMosaic.TcCoe Idealize.SL.Sem

open Cert.NormReferenceIdeal Cert.NormReferenceIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run _ _ _).mono (fun r h => ⟨fun c => (h c).2.2, sem_eq_zero_of_no_sems (by decide) r.2⟩) (Cert.NormReferenceIdeal.Value.run m g)

theorem frame_kernel : Cert.quiescent_Norm (hNorm := Cert.Norm.Gen.facts) := fun m g _ => Cert.Norm.Gen.frame m g
theorem frame_kernelIdeal : Cert.quiescent_NormIdeal (hNormIdeal := Cert.NormIdeal.Gen.facts) := fun m g _ => Cert.NormIdeal.Gen.frame m g
theorem frame_reference : Cert.quiescent_NormReference (hNormReference := Cert.NormReference.Gen.facts) :=
  fun m g _ => reference_frame (F := Bits) m g
theorem frame_referenceIdeal : Cert.quiescent_NormReferenceIdeal (hNormReferenceIdeal := Cert.NormReferenceIdeal.Gen.facts) :=
  fun m g _ => reference_frame (F := Ideal) m g

/-- On equal arguments the program and its reference leave equal gradients, of the input and of the gain. -/
theorem value : Cert.algebraic_NormIdeal_NormReferenceIdeal (hNormIdeal := Cert.NormIdeal.Gen.facts)
    (hNormReferenceIdeal := Cert.NormReferenceIdeal.Gen.facts) :=
  fun m g m' g' _ h => ⟨_, _, kernel_run m g, (θ_run _ _ _).mono (fun r hr c => by
    obtain ⟨hx, hw, hk⟩ := hr c
    obtain ⟨h0, h1, h2, h3⟩ := h c
    rw [h0, h1, h2, h3] at hx
    rw [h0, h2] at hw
    exact ⟨hx, hw, hk⟩) (reference_run m' g')⟩

end Cert.NormGrad

end
-- ==== Proof.ProductLaw.lean ====
/-
# Products of matrices

A projection's product and its two gradients contract the columns of one matrix with the rows, the columns or, on both sides, the rows of the other.
-/
module

public import Idealize.ShloMosaic.Lib.Pointwise

@[expose] public section

noncomputable section

namespace Cert.Projection

open Idealize.ShloMosaic

/-- A matrix of extended reals. -/
abbrev Matrix (a b : Nat) : Type := (⟨2, ![a, b]⟩ : Shape).Idx → EReal

/-- The product of two matrices, -/
def times {a k b : Nat} (x : Matrix a k) (y : Matrix k b) : Matrix a b := fun j => ∑ q, x (ix2 (j 0) q) * y (ix2 q (j 1))

/-- that of a matrix and the transpose of another, -/
def timesTransposed {a k b : Nat} (x : Matrix a k) (y : Matrix b k) : Matrix a b := fun j => ∑ q, x (ix2 (j 0) q) * y (ix2 (j 1) q)

/-- and that of the transpose of a matrix and another. -/
def transposedTimes {a k b : Nat} (x : Matrix k a) (y : Matrix k b) : Matrix a b := fun j => ∑ q, x (ix2 q (j 0)) * y (ix2 q (j 1))

/-- The sum of two matrices. -/
def plus {a b : Nat} (x y : Matrix a b) : Matrix a b := fun j => x j + y j

end Cert.Projection

end
-- ==== Proof.ProductForwardValue.lean ====
/-
# The projection

The program takes 1024 rows of the one matrix and 1024 columns of the other at a point, and leaves their product.
-/
module

public import proofs.«01_k».proof.Defs
public import proofs.«01_k».proof.Proof.ProductLaw
public import proofs.«01_k».proof.Proof.Gen.Product
public import proofs.«01_k».proof.Proof.Gen.Product.Frame
public import proofs.«01_k».proof.Proof.Gen.ProductIdeal
public import proofs.«01_k».proof.Proof.Gen.ProductIdeal.Frame
public import proofs.«01_k».proof.Proof.Gen.ProductIdeal.Value
public import proofs.«01_k».proof.Proof.Gen.ProductRefIdeal
public import proofs.«01_k».proof.Proof.Gen.ProductRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Projection.Forward

open Idealize.ShloMosaic Idealize.ShloMosaic.TcCoe Idealize.SL.Sem

section Kernel

open Cert.ProductIdeal Cert.ProductIdeal.Gen
open Idealize.ShloMosaic.Pipeline (Dat)

/-- A point's product is added to what was there. -/
theorem block (old : Vec Ideal S1024x1024 .f32) (x y : Vec Ideal S1024x1024 .bf16) :
    k0_pay2 old x y = fun j => old j + times x y j := by
  funext i
  idx_vars i
  pointwise [k0_pay2]
  rfl

variable (m : (ℓ : Loc nD τ sig) → Buf (Elt Ideal) ℓ) (c : Dev nD)

/-- A point leaves its blocks' product. -/
theorem left (t : Fin cfg0.N) : outsAt0 m c t = times (iblk m c 0 t : Matrix 1024 1024) (iblk m c 1 t : Matrix 1024 1024) := by
  unfold outsAt0
  frame_out
  refine (block _ _ _).trans (funext fun j => ?_)
  refine Eq.trans (congrArg (· + _) ?_) (zero_add _)
  pointwise [k0_pay1]

/-- Which blocks a point takes and leaves. -/
theorem maps : ∀ t : Fin cfg0.N, win0_0.index t = ![t.val / 3, 0] ∧ win0_1.index t = ![0, t.val % 3]
    ∧ win0_2.index t = ![t.val / 3, t.val % 3] :=
  (by decide +kernel : ∀ t : Fin grid0.N, _)

/-- An entry of a point's blocks in the whole matrix. -/
theorem entry_left (t : Fin cfg0.N) (i k : Fin 1024) (hi : t.val / 3 * 1024 + i.val < 8192) :
    (iblk m c 0 t : Matrix 1024 1024) (ix2 i k)
      = (m ((c : Thread nD τ).loc main_arg0) : Matrix 8192 1024) (ix2 ⟨t.val / 3 * 1024 + i.val, hi⟩ k) := by
  blk_ext [iblk, V, maps t]

theorem entry_right (t : Fin cfg0.N) (k j : Fin 1024) (hj : t.val % 3 * 1024 + j.val < 3072) :
    (iblk m c 1 t : Matrix 1024 1024) (ix2 k j)
      = (m ((c : Thread nD τ).loc main_arg1) : Matrix 1024 3072) (ix2 k ⟨t.val % 3 * 1024 + j.val, hj⟩) := by
  blk_ext [iblk, V, maps t]

/-- The result after the run. -/
theorem array : (dats m 0 c).arrAt 2 cfg0.N
    = times (m ((c : Thread nD τ).loc main_arg0) : Matrix 8192 1024) (m ((c : Thread nD τ).loc main_arg1) : Matrix 1024 3072) := by
  refine (dats m 0 c).arrAt_eq_of_covers 2 _ (by decide +kernel) fun t _ y => ?_
  have hN : t.val < 24 := lt_of_lt_of_eq t.isLt N_0
  blk_simp
  rw [after0_2, left]
  change S1024x1024.Idx at y
  obtain ⟨i, j, rfl⟩ : ∃ (i : Fin 1024) (j : Fin 1024), y = ix2 i j := ⟨y 0, y 1, eq_ix2 y⟩
  have hz : (win0_2.blk t).view.emb (ix2 i j)
      = (ix2 ⟨t.val / 3 * 1024 + i.val, by omega⟩ ⟨t.val % 3 * 1024 + j.val, by omega⟩ : S8192x3072.Idx) := by
    blk_ext [maps t]
  rw [hz]
  unfold times
  exact Finset.sum_congr (M := EReal) rfl fun k _ =>
    congrArg₂ (fun a b : EReal => a * b) (entry_left m c t i k (by omega)) (entry_right m c t k j (by omega))

/-- The run of the program. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = times (m ((c : Thread nD τ).loc main_arg0) : Matrix 8192 1024)
        (m ((c : Thread nD τ).loc main_arg1) : Matrix 1024 3072)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Value.run_blocks m ρ)

end Kernel

section Reference

open Cert.ProductRefIdeal Cert.ProductRefIdeal.Gen

/-- The run of the reference. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = times (m ((c.tc : Thread nD τ).loc main_arg0) : Matrix 8192 1024)
        (m ((c.tc : Thread nD τ).loc main_arg1) : Matrix 1024 3072)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  generalize m ((c.tc : Thread nD τ).loc main_arg0) = x
  generalize m ((c.tc : Thread nD τ).loc main_arg1) = y
  funext i
  idx_vars i
  pointwise
  rfl

end Reference

end Cert.Projection.Forward

end
-- ==== Proof.ProductInputValue.lean ====
/-
# The gradient of the projection's input

The program takes 1024 rows of the gradient at a time, and goes through its 3072 columns in three steps. It adds each step's product to a block of sums, which leaves after the third.
-/
module

public import proofs.«01_k».proof.Defs
public import proofs.«01_k».proof.Proof.ProductLaw
public import proofs.«01_k».proof.Proof.Gen.ProductInput
public import proofs.«01_k».proof.Proof.Gen.ProductInput.Frame
public import proofs.«01_k».proof.Proof.Gen.ProductInputIdeal
public import proofs.«01_k».proof.Proof.Gen.ProductInputIdeal.Frame
public import proofs.«01_k».proof.Proof.Gen.ProductInputIdeal.Value
public import proofs.«01_k».proof.Proof.Gen.ProductInputRefIdeal
public import proofs.«01_k».proof.Proof.Gen.ProductInputRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Projection.Input

open Idealize.ShloMosaic Idealize.ShloMosaic.TcCoe Idealize.SL.Sem

section Kernel

open Cert.ProductInputIdeal Cert.ProductInputIdeal.Gen
open Idealize.ShloMosaic.Pipeline (Dat)

/-- A step's product is added to what was there. -/
theorem block (old : Vec Ideal S1024x1024 .f32) (x y : Vec Ideal S1024x1024 .bf16) :
    k0_pay2 old x y = fun j => old j + timesTransposed x y j := by
  funext i
  idx_vars i
  pointwise [k0_pay2]
  rfl

variable (m : (ℓ : Loc nD τ sig) → Buf (Elt Ideal) ℓ) (c : Dev nD)

/-- The first step leaves its own product, -/
theorem left_first (t : Fin cfg0.N) (h0 : t.val % 3 = 0) :
    (outsAt0 m c t.val t.isLt).2 = fun j => 0 + timesTransposed (iblk m c 0 t) (iblk m c 1 t) j := by
  rw [outsAt0_A m c t h0 (by omega)]
  frame_out
  refine (block _ _ _).trans (funext fun j => congrArg (· + _) ?_)
  pointwise [k0_pay1]

/-- a later step its product added to what was there. -/
theorem left_later (t : Fin cfg0.N) (h0 : ¬t.val % 3 = 0) :
    (outsAt0 m c t.val t.isLt).2 = fun j => (outsAt0 m c (t.val - 1) (Nat.lt_of_le_of_lt (Nat.sub_le _ _) t.isLt)).2 j
      + timesTransposed (iblk m c 0 t) (iblk m c 1 t) j := by
  by_cases h1 : t.val % 3 = 2
  · conv_lhs => rw [outsAt0_C m c t h0 h1]
    frame_out
    simp only [read_unread_whole]
    exact block _ _ _
  · conv_lhs => rw [outsAt0_B m c t h0 h1]
    frame_out
    simp only [read_unread_whole]
    exact block _ _ _

/-- The third step hands the sums on. -/
theorem left_out (t : Fin cfg0.N) (h1 : t.val % 3 = 2) : (outsAt0 m c t.val t.isLt).1 = (outsAt0 m c t.val t.isLt).2 := by
  rw [outsAt0_C m c t (by omega) h1]
  frame_out

/-- What leaves is the sum of the three steps' products. -/
theorem left (t : Fin cfg0.N) (h1 : t.val % 3 = 2) (j : S1024x1024.Idx) :
    (outsAt0 m c t.val t.isLt).1 j = 0 + ∑ s : Fin 3, timesTransposed
      (iblk m c 0 ⟨3 * (t.val / 3) + s.val, Pipeline.run_point_lt_of_flush t h1 s⟩ : Matrix 1024 1024)
      (iblk m c 1 ⟨3 * (t.val / 3) + s.val, Pipeline.run_point_lt_of_flush t h1 s⟩ : Matrix 1024 1024) j :=
  (congrFun (left_out m c t h1) j).trans
    (Pipeline.eq_sum_fin_of_reset_step_apply_of_flush (fun n h => (outsAt0 m c n h).2) 3 (fun _ => 0)
      (fun p => timesTransposed (iblk m c 0 p : Matrix 1024 1024) (iblk m c 1 p : Matrix 1024 1024))
      (fun t h i => congrFun (left_first m c t h) i) (fun t h i => congrFun (left_later m c t h) i) t h1 j)

/-- Which blocks a point takes and leaves. -/
theorem maps : ∀ t : Fin cfg0.N, win0_0.index t = ![t.val / 3, t.val % 3] ∧ win0_1.index t = ![0, t.val % 3]
    ∧ win0_2.index t = ![t.val / 3, 0] :=
  (by decide +kernel : ∀ t : Fin grid0.N, _)

/-- An entry of a point's blocks in the whole matrix. -/
theorem entry_left (t : Fin cfg0.N) (i k : Fin 1024) (hi : t.val / 3 * 1024 + i.val < 8192) (hk : t.val % 3 * 1024 + k.val < 3072) :
    (iblk m c 0 t : Matrix 1024 1024) (ix2 i k)
      = (m ((c : Thread nD τ).loc main_arg0) : Matrix 8192 3072) (ix2 ⟨t.val / 3 * 1024 + i.val, hi⟩ ⟨t.val % 3 * 1024 + k.val, hk⟩) := by
  blk_ext [iblk, V, maps t]

theorem entry_right (t : Fin cfg0.N) (i k : Fin 1024) (hk : t.val % 3 * 1024 + k.val < 3072) :
    (iblk m c 1 t : Matrix 1024 1024) (ix2 i k)
      = (m ((c : Thread nD τ).loc main_arg1) : Matrix 1024 3072) (ix2 i ⟨t.val % 3 * 1024 + k.val, hk⟩) := by
  blk_ext [iblk, V, maps t]

/-- The result after the run. -/
theorem array : (dats m 0 c).arrAt 2 cfg0.N
    = timesTransposed (m ((c : Thread nD τ).loc main_arg0) : Matrix 8192 3072) (m ((c : Thread nD τ).loc main_arg1) : Matrix 1024 3072) := by
  refine (dats m 0 c).arrAt_eq_of_covers 2 _ (by decide +kernel) fun t hf y => ?_
  have h1 : t.val % 3 = 2 := (flush0_2 t).mp hf
  have hN : t.val < 24 := lt_of_lt_of_eq t.isLt N_0
  blk_simp
  rw [after0_2]
  change S1024x1024.Idx at y
  obtain ⟨i, j, rfl⟩ : ∃ (i : Fin 1024) (j : Fin 1024), y = ix2 i j := ⟨y 0, y 1, eq_ix2 y⟩
  have hz : (win0_2.blk t).view.emb (ix2 i j) = (ix2 ⟨t.val / 3 * 1024 + i.val, by omega⟩ j : S8192x1024.Idx) := by
    blk_ext [maps t]
  rw [hz, left m c t h1, zero_add]
  refine Fin.sum_mul_add_congr (L := 3072) (S := 3) (n := 1024) fun s k hl => ?_
  have hd : (3 * (t.val / 3) + s.val) / 3 = t.val / 3 := by omega
  have hm : (3 * (t.val / 3) + s.val) % 3 = s.val := by omega
  have hx := entry_left m c ⟨3 * (t.val / 3) + s.val, Pipeline.run_point_lt_of_flush t h1 s⟩ i k (by simp only [hd]; omega) (by simp only [hm]; omega)
  have hy := entry_right m c ⟨3 * (t.val / 3) + s.val, Pipeline.run_point_lt_of_flush t h1 s⟩ j k (by simp only [hm]; omega)
  simp only [hd, hm] at hx hy
  exact congrArg₂ (fun a b : EReal => a * b) hx hy

/-- The run of the program. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = timesTransposed (m ((c : Thread nD τ).loc main_arg0) : Matrix 8192 3072)
        (m ((c : Thread nD τ).loc main_arg1) : Matrix 1024 3072)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Value.run_blocks m ρ)

end Kernel

section Reference

open Cert.ProductInputRefIdeal Cert.ProductInputRefIdeal.Gen

/-- The run of the reference. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = timesTransposed (m ((c.tc : Thread nD τ).loc main_arg0) : Matrix 8192 3072)
        (m ((c.tc : Thread nD τ).loc main_arg1) : Matrix 1024 3072)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  generalize m ((c.tc : Thread nD τ).loc main_arg0) = x
  generalize m ((c.tc : Thread nD τ).loc main_arg1) = y
  funext i
  idx_vars i
  pointwise
  rfl

end Reference

end Cert.Projection.Input

end
-- ==== Proof.ProductWeightValue.lean ====
/-
# The gradient of the projection's weight

The program takes 1024 columns of the gradient at a time, and goes through the 8192 rows in eight steps. It adds each step's product to a block of sums, which leaves after the eighth.
-/
module

public import proofs.«01_k».proof.Defs
public import proofs.«01_k».proof.Proof.ProductLaw
public import proofs.«01_k».proof.Proof.Gen.ProductWeight
public import proofs.«01_k».proof.Proof.Gen.ProductWeight.Frame
public import proofs.«01_k».proof.Proof.Gen.ProductWeightIdeal
public import proofs.«01_k».proof.Proof.Gen.ProductWeightIdeal.Frame
public import proofs.«01_k».proof.Proof.Gen.ProductWeightIdeal.Value
public import proofs.«01_k».proof.Proof.Gen.ProductWeightRefIdeal
public import proofs.«01_k».proof.Proof.Gen.ProductWeightRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Projection.Weight

open Idealize.ShloMosaic Idealize.ShloMosaic.TcCoe Idealize.SL.Sem

section Kernel

open Cert.ProductWeightIdeal Cert.ProductWeightIdeal.Gen
open Idealize.ShloMosaic.Pipeline (Dat)

/-- A step's product is added to what was there. -/
theorem block (old : Vec Ideal S1024x1024 .f32) (x y : Vec Ideal S1024x1024 .bf16) :
    k0_pay2 old x y = fun j => old j + transposedTimes x y j := by
  funext i
  idx_vars i
  pointwise [k0_pay2]
  rfl

variable (m : (ℓ : Loc nD τ sig) → Buf (Elt Ideal) ℓ) (c : Dev nD)

/-- The first step leaves its own product, -/
theorem left_first (t : Fin cfg0.N) (h0 : t.val % 8 = 0) :
    (outsAt0 m c t.val t.isLt).2 = fun j => 0 + transposedTimes (iblk m c 0 t) (iblk m c 1 t) j := by
  rw [outsAt0_A m c t h0 (by omega)]
  frame_out
  refine (block _ _ _).trans (funext fun j => congrArg (· + _) ?_)
  pointwise [k0_pay1]

/-- a later step its product added to what was there. -/
theorem left_later (t : Fin cfg0.N) (h0 : ¬t.val % 8 = 0) :
    (outsAt0 m c t.val t.isLt).2 = fun j => (outsAt0 m c (t.val - 1) (Nat.lt_of_le_of_lt (Nat.sub_le _ _) t.isLt)).2 j
      + transposedTimes (iblk m c 0 t) (iblk m c 1 t) j := by
  by_cases h1 : t.val % 8 = 7
  · conv_lhs => rw [outsAt0_C m c t h0 h1]
    frame_out
    simp only [read_unread_whole]
    exact block _ _ _
  · conv_lhs => rw [outsAt0_B m c t h0 h1]
    frame_out
    simp only [read_unread_whole]
    exact block _ _ _

/-- The eighth step hands the sums on. -/
theorem left_out (t : Fin cfg0.N) (h1 : t.val % 8 = 7) : (outsAt0 m c t.val t.isLt).1 = (outsAt0 m c t.val t.isLt).2 := by
  rw [outsAt0_C m c t (by omega) h1]
  frame_out

/-- What leaves is the sum of the eight steps' products. -/
theorem left (t : Fin cfg0.N) (h1 : t.val % 8 = 7) (j : S1024x1024.Idx) :
    (outsAt0 m c t.val t.isLt).1 j = 0 + ∑ s : Fin 8, transposedTimes
      (iblk m c 0 ⟨8 * (t.val / 8) + s.val, Pipeline.run_point_lt_of_flush t h1 s⟩ : Matrix 1024 1024)
      (iblk m c 1 ⟨8 * (t.val / 8) + s.val, Pipeline.run_point_lt_of_flush t h1 s⟩ : Matrix 1024 1024) j :=
  (congrFun (left_out m c t h1) j).trans
    (Pipeline.eq_sum_fin_of_reset_step_apply_of_flush (fun n h => (outsAt0 m c n h).2) 8 (fun _ => 0)
      (fun p => transposedTimes (iblk m c 0 p : Matrix 1024 1024) (iblk m c 1 p : Matrix 1024 1024))
      (fun t h i => congrFun (left_first m c t h) i) (fun t h i => congrFun (left_later m c t h) i) t h1 j)

/-- Which blocks a point takes and leaves. -/
theorem maps : ∀ t : Fin cfg0.N, win0_0.index t = ![t.val % 8, 0] ∧ win0_1.index t = ![t.val % 8, t.val / 8]
    ∧ win0_2.index t = ![0, t.val / 8] :=
  (by decide +kernel : ∀ t : Fin grid0.N, _)

/-- An entry of a point's blocks in the whole matrix. -/
theorem entry_left (t : Fin cfg0.N) (k i : Fin 1024) (hk : t.val % 8 * 1024 + k.val < 8192) :
    (iblk m c 0 t : Matrix 1024 1024) (ix2 k i)
      = (m ((c : Thread nD τ).loc main_arg0) : Matrix 8192 1024) (ix2 ⟨t.val % 8 * 1024 + k.val, hk⟩ i) := by
  blk_ext [iblk, V, maps t]

theorem entry_right (t : Fin cfg0.N) (k j : Fin 1024) (hk : t.val % 8 * 1024 + k.val < 8192) (hj : t.val / 8 * 1024 + j.val < 3072) :
    (iblk m c 1 t : Matrix 1024 1024) (ix2 k j)
      = (m ((c : Thread nD τ).loc main_arg1) : Matrix 8192 3072) (ix2 ⟨t.val % 8 * 1024 + k.val, hk⟩ ⟨t.val / 8 * 1024 + j.val, hj⟩) := by
  blk_ext [iblk, V, maps t]

/-- The result after the run. -/
theorem array : (dats m 0 c).arrAt 2 cfg0.N
    = transposedTimes (m ((c : Thread nD τ).loc main_arg0) : Matrix 8192 1024) (m ((c : Thread nD τ).loc main_arg1) : Matrix 8192 3072) := by
  refine (dats m 0 c).arrAt_eq_of_covers 2 _ (by decide +kernel) fun t hf y => ?_
  have h1 : t.val % 8 = 7 := (flush0_2 t).mp hf
  have hN : t.val < 24 := lt_of_lt_of_eq t.isLt N_0
  blk_simp
  rw [after0_2]
  change S1024x1024.Idx at y
  obtain ⟨i, j, rfl⟩ : ∃ (i : Fin 1024) (j : Fin 1024), y = ix2 i j := ⟨y 0, y 1, eq_ix2 y⟩
  have hz : (win0_2.blk t).view.emb (ix2 i j) = (ix2 i ⟨t.val / 8 * 1024 + j.val, by omega⟩ : S1024x3072.Idx) := by
    blk_ext [maps t]
  rw [hz, left m c t h1, zero_add]
  refine Fin.sum_mul_add_congr (L := 8192) (S := 8) (n := 1024) fun s k hl => ?_
  have hd : (8 * (t.val / 8) + s.val) / 8 = t.val / 8 := by omega
  have hm : (8 * (t.val / 8) + s.val) % 8 = s.val := by omega
  have hx := entry_left m c ⟨8 * (t.val / 8) + s.val, Pipeline.run_point_lt_of_flush t h1 s⟩ k i (by simp only [hm]; omega)
  have hy := entry_right m c ⟨8 * (t.val / 8) + s.val, Pipeline.run_point_lt_of_flush t h1 s⟩ k j (by simp only [hm]; omega) (by simp only [hd]; omega)
  simp only [hd, hm] at hx hy
  exact congrArg₂ (fun a b : EReal => a * b) hx hy

/-- The run of the program. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = transposedTimes (m ((c : Thread nD τ).loc main_arg0) : Matrix 8192 1024)
        (m ((c : Thread nD τ).loc main_arg1) : Matrix 8192 3072)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Value.run_blocks m ρ)

end Kernel

section Reference

open Cert.ProductWeightRefIdeal Cert.ProductWeightRefIdeal.Gen

/-- The run of the reference. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = transposedTimes (m ((c.tc : Thread nD τ).loc main_arg0) : Matrix 8192 1024)
        (m ((c.tc : Thread nD τ).loc main_arg1) : Matrix 8192 3072)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  generalize m ((c.tc : Thread nD τ).loc main_arg0) = x
  generalize m ((c.tc : Thread nD τ).loc main_arg1) = y
  funext i
  idx_vars i
  pointwise
  exact Finset.sum_congr rfl fun k _ => mul_comm _ _

end Reference

end Cert.Projection.Weight

end
-- ==== Proof.Products.lean ====
/-
# The projection's products and their references agree

Each program, by blocks of 1024 rows and columns, and its reference, on the whole matrices, leave the same product.
-/
module

public import proofs.«01_k».proof.Defs
public import proofs.«01_k».proof.Proof.ProductForwardValue
public import proofs.«01_k».proof.Proof.ProductInputValue
public import proofs.«01_k».proof.Proof.ProductWeightValue
public import proofs.«01_k».proof.Proof.Gen.ProductRef
public import proofs.«01_k».proof.Proof.Gen.ProductInputRef
public import proofs.«01_k».proof.Proof.Gen.ProductWeightRef

@[expose] public section

noncomputable section

open Idealize.ShloMosaic Idealize.ShloMosaic.TcCoe Idealize.SL.Sem

namespace Cert.Projection.Forward

open Cert.ProductRefIdeal Cert.ProductRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c => (h c).2, sem_eq_zero_of_no_sems (by decide) r.2⟩) (Cert.ProductRefIdeal.Value.run m g)

theorem frame_kernel : Cert.quiescent_Product (hProduct := Cert.Product.Gen.facts) := fun m g _ => Cert.Product.Gen.frame m g
theorem frame_kernelIdeal : Cert.quiescent_ProductIdeal (hProductIdeal := Cert.ProductIdeal.Gen.facts) := fun m g _ => Cert.ProductIdeal.Gen.frame m g
theorem frame_reference : Cert.quiescent_ProductRef (hProductRef := Cert.ProductRef.Gen.facts) := fun m g _ => reference_frame (F := Bits) m g
theorem frame_referenceIdeal : Cert.quiescent_ProductRefIdeal (hProductRefIdeal := Cert.ProductRefIdeal.Gen.facts) :=
  fun m g _ => reference_frame (F := Ideal) m g

/-- On equal arguments the program and its reference leave one product: the projection. -/
theorem value : Cert.algebraic_ProductIdeal_ProductRefIdeal (hProductIdeal := Cert.ProductIdeal.Gen.facts)
    (hProductRefIdeal := Cert.ProductRefIdeal.Gen.facts) :=
  fun m g m' g' _ h => ⟨_, kernel_run m g, (θ_run _ _ _).mono (fun r hr c => by
    obtain ⟨hx, hk⟩ := hr c
    obtain ⟨h0, h1⟩ := h c
    rw [h0, h1] at hx
    exact ⟨hx, hk⟩) (reference_run m' g')⟩

end Cert.Projection.Forward

namespace Cert.Projection.Input

open Cert.ProductInputRefIdeal Cert.ProductInputRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c => (h c).2, sem_eq_zero_of_no_sems (by decide) r.2⟩) (Cert.ProductInputRefIdeal.Value.run m g)

theorem frame_kernel : Cert.quiescent_ProductInput (hProductInput := Cert.ProductInput.Gen.facts) := fun m g _ => Cert.ProductInput.Gen.frame m g
theorem frame_kernelIdeal : Cert.quiescent_ProductInputIdeal (hProductInputIdeal := Cert.ProductInputIdeal.Gen.facts) := fun m g _ => Cert.ProductInputIdeal.Gen.frame m g
theorem frame_reference : Cert.quiescent_ProductInputRef (hProductInputRef := Cert.ProductInputRef.Gen.facts) := fun m g _ => reference_frame (F := Bits) m g
theorem frame_referenceIdeal : Cert.quiescent_ProductInputRefIdeal (hProductInputRefIdeal := Cert.ProductInputRefIdeal.Gen.facts) :=
  fun m g _ => reference_frame (F := Ideal) m g

/-- On equal arguments the program and its reference leave one product: the gradient of its input. -/
theorem value : Cert.algebraic_ProductInputIdeal_ProductInputRefIdeal (hProductInputIdeal := Cert.ProductInputIdeal.Gen.facts)
    (hProductInputRefIdeal := Cert.ProductInputRefIdeal.Gen.facts) :=
  fun m g m' g' _ h => ⟨_, kernel_run m g, (θ_run _ _ _).mono (fun r hr c => by
    obtain ⟨hx, hk⟩ := hr c
    obtain ⟨h0, h1⟩ := h c
    rw [h0, h1] at hx
    exact ⟨hx, hk⟩) (reference_run m' g')⟩

end Cert.Projection.Input

namespace Cert.Projection.Weight

open Cert.ProductWeightRefIdeal Cert.ProductWeightRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c => (h c).2, sem_eq_zero_of_no_sems (by decide) r.2⟩) (Cert.ProductWeightRefIdeal.Value.run m g)

theorem frame_kernel : Cert.quiescent_ProductWeight (hProductWeight := Cert.ProductWeight.Gen.facts) := fun m g _ => Cert.ProductWeight.Gen.frame m g
theorem frame_kernelIdeal : Cert.quiescent_ProductWeightIdeal (hProductWeightIdeal := Cert.ProductWeightIdeal.Gen.facts) := fun m g _ => Cert.ProductWeightIdeal.Gen.frame m g
theorem frame_reference : Cert.quiescent_ProductWeightRef (hProductWeightRef := Cert.ProductWeightRef.Gen.facts) := fun m g _ => reference_frame (F := Bits) m g
theorem frame_referenceIdeal : Cert.quiescent_ProductWeightRefIdeal (hProductWeightRefIdeal := Cert.ProductWeightRefIdeal.Gen.facts) :=
  fun m g _ => reference_frame (F := Ideal) m g

/-- On equal arguments the program and its reference leave one product: the gradient of its weight. -/
theorem value : Cert.algebraic_ProductWeightIdeal_ProductWeightRefIdeal (hProductWeightIdeal := Cert.ProductWeightIdeal.Gen.facts)
    (hProductWeightRefIdeal := Cert.ProductWeightRefIdeal.Gen.facts) :=
  fun m g m' g' _ h => ⟨_, kernel_run m g, (θ_run _ _ _).mono (fun r hr c => by
    obtain ⟨hx, hk⟩ := hr c
    obtain ⟨h0, h1⟩ := h c
    rw [h0, h1] at hx
    exact ⟨hx, hk⟩) (reference_run m' g')⟩

end Cert.Projection.Weight

end
-- ==== Proof.ProductFfnGuValue.lean ====
/-
# The feed-forward network's first product

The program takes 1024 rows of the one matrix and 1408 columns of the other at a time, and leaves their product.
-/
module

public import proofs.«01_k».proof.Defs
public import proofs.«01_k».proof.Proof.ProductLaw
public import proofs.«01_k».proof.Proof.Gen.ProductFfnGu
public import proofs.«01_k».proof.Proof.Gen.ProductFfnGu.Frame
public import proofs.«01_k».proof.Proof.Gen.ProductFfnGuIdeal
public import proofs.«01_k».proof.Proof.Gen.ProductFfnGuIdeal.Frame
public import proofs.«01_k».proof.Proof.Gen.ProductFfnGuIdeal.Value
public import proofs.«01_k».proof.Proof.Gen.ProductFfnGuRefIdeal
public import proofs.«01_k».proof.Proof.Gen.ProductFfnGuRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Projection.FfnGu

open Idealize.ShloMosaic Idealize.ShloMosaic.TcCoe Idealize.SL.Sem

section Kernel

open Cert.ProductFfnGuIdeal Cert.ProductFfnGuIdeal.Gen
open Idealize.ShloMosaic.Pipeline (Dat)

/-- A step's product is added to what was there. -/
theorem block (old : Vec Ideal S1024x1408 .f32) (x : Vec Ideal S1024x1024 .bf16) (y : Vec Ideal S1024x1408 .bf16) :
    k0_pay2 old x y = fun j => old j + times (x : Matrix 1024 1024) (y : Matrix 1024 1408) j := by
  funext i
  idx_vars i
  pointwise [k0_pay2]
  rfl

variable (m : (ℓ : Loc nD τ sig) → Buf (Elt Ideal) ℓ) (c : Dev nD)

/-- A point leaves its blocks' product. -/
theorem left (t : Fin cfg0.N) : outsAt0 m c t = times (iblk m c 0 t : Matrix 1024 1024) (iblk m c 1 t : Matrix 1024 1408) := by
  unfold outsAt0
  frame_out
  refine (block _ _ _).trans (funext fun j => ?_)
  refine Eq.trans (congrArg (· + _) ?_) (zero_add _)
  pointwise [k0_pay1]

/-- Which blocks a point takes and leaves. -/
theorem maps : ∀ t : Fin cfg0.N, win0_0.index t = ![t.val / 4, 0] ∧ win0_1.index t = ![0, t.val % 4]
    ∧ win0_2.index t = ![t.val / 4, t.val % 4] :=
  (by decide +kernel : ∀ t : Fin grid0.N, _)

/-- An entry of a point's blocks in the whole matrices. -/
theorem entry_left (t : Fin cfg0.N) (i k : Fin 1024) (hi : t.val / 4 * 1024 + i.val < 8192) :
    (iblk m c 0 t : Matrix 1024 1024) (ix2 i k)
      = (m ((c : Thread nD τ).loc main_arg0) : Matrix 8192 1024) (ix2 ⟨t.val / 4 * 1024 + i.val, hi⟩ k) := by
  blk_ext [iblk, V, maps t]

theorem entry_right (t : Fin cfg0.N) (k : Fin 1024) (j : Fin 1408) (hj : t.val % 4 * 1408 + j.val < 5632) :
    (iblk m c 1 t : Matrix 1024 1408) (ix2 k j)
      = (m ((c : Thread nD τ).loc main_arg1) : Matrix 1024 5632) (ix2 k ⟨t.val % 4 * 1408 + j.val, hj⟩) := by
  blk_ext [iblk, V, maps t]

/-- The result after the run. -/
theorem array : (dats m 0 c).arrAt 2 cfg0.N
    = times (m ((c : Thread nD τ).loc main_arg0) : Matrix 8192 1024) (m ((c : Thread nD τ).loc main_arg1) : Matrix 1024 5632) := by
  refine (dats m 0 c).arrAt_eq_of_covers 2 _ (by decide +kernel) fun t hf y => ?_
  have hN : t.val < 32 := lt_of_lt_of_eq t.isLt N_0
  blk_simp
  change S1024x1408.Idx at y
  obtain ⟨i, j, rfl⟩ : ∃ (i : Fin 1024) (j : Fin 1408), y = ix2 i j := ⟨y 0, y 1, eq_ix2 y⟩
  have hz : (win0_2.blk t).view.emb (ix2 i j)
      = (ix2 ⟨t.val / 4 * 1024 + i.val, by omega⟩ ⟨t.val % 4 * 1408 + j.val, by omega⟩ : S8192x5632.Idx) := by
    blk_ext [maps t]
  rw [after0_2, left, hz]
  unfold times
  exact Finset.sum_congr (M := EReal) rfl fun k _ => congrArg₂ (fun a b : EReal => a * b)
    (entry_left m c t i k (by (try dsimp only); omega)) (entry_right m c t k j (by (try dsimp only); omega))

/-- The run of the program. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = times (m ((c : Thread nD τ).loc main_arg0) : Matrix 8192 1024) (m ((c : Thread nD τ).loc main_arg1) : Matrix 1024 5632)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Value.run_blocks m ρ)

end Kernel

section Reference

open Cert.ProductFfnGuRefIdeal Cert.ProductFfnGuRefIdeal.Gen

/-- The run of the reference. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = times (m ((c.tc : Thread nD τ).loc main_arg0) : Matrix 8192 1024) (m ((c.tc : Thread nD τ).loc main_arg1) : Matrix 1024 5632)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  generalize m ((c.tc : Thread nD τ).loc main_arg0) = x
  generalize m ((c.tc : Thread nD τ).loc main_arg1) = y
  funext i
  idx_vars i
  pointwise
  rfl

end Reference

end Cert.Projection.FfnGu

end
-- ==== Proof.ProductFfnDownValue.lean ====
/-
# The feed-forward network's second product, with the residual

The program takes 1024 rows of the one matrix and all 1024 columns of the other at a time, and goes through the axis that it contracts in two steps of 1408. It adds each step's product to a block of sums, which leaves after the second, the residual's block added.
-/
module

public import proofs.«01_k».proof.Defs
public import proofs.«01_k».proof.Proof.ProductLaw
public import proofs.«01_k».proof.Proof.Gen.ProductFfnDown
public import proofs.«01_k».proof.Proof.Gen.ProductFfnDown.Frame
public import proofs.«01_k».proof.Proof.Gen.ProductFfnDownIdeal
public import proofs.«01_k».proof.Proof.Gen.ProductFfnDownIdeal.Frame
public import proofs.«01_k».proof.Proof.Gen.ProductFfnDownIdeal.Value
public import proofs.«01_k».proof.Proof.Gen.ProductFfnDownRefIdeal
public import proofs.«01_k».proof.Proof.Gen.ProductFfnDownRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Projection.FfnDown

open Idealize.ShloMosaic Idealize.ShloMosaic.TcCoe Idealize.SL.Sem

section Kernel

open Cert.ProductFfnDownIdeal Cert.ProductFfnDownIdeal.Gen
open Idealize.ShloMosaic.Pipeline (Dat)

/-- A step's product is added to what was there. -/
theorem block (old : Vec Ideal S1024x1024 .f32) (x : Vec Ideal S1024x1408 .bf16) (y : Vec Ideal S1408x1024 .bf16) :
    k0_pay2 old x y = fun j => old j + times (x : Matrix 1024 1408) (y : Matrix 1408 1024) j := by
  funext i
  idx_vars i
  pointwise [k0_pay2]
  rfl

/-- The sums leave with the residual's block added. -/
theorem block_residual (sums x : Vec Ideal S1024x1024 .f32) : k0_pay3 sums x = plus (x : Matrix 1024 1024) sums := by
  funext i
  idx_vars i
  pointwise [k0_pay3]
  exact add_comm _ _

variable (m : (ℓ : Loc nD τ sig) → Buf (Elt Ideal) ℓ) (c : Dev nD)

/-- The first step leaves its own product, -/
theorem left_first (t : Fin cfg0.N) (h0 : t.val % 2 = 0) :
    (outsAt0 m c t.val t.isLt).2 = fun j => 0 + times (iblk m c 0 t : Matrix 1024 1408) (iblk m c 1 t : Matrix 1408 1024) j := by
  rw [outsAt0_A m c t h0 (by omega)]
  frame_out
  refine (block _ _ _).trans (funext fun j => congrArg (· + _) ?_)
  pointwise [k0_pay1]

/-- a later step its product added to what was there. -/
theorem left_later (t : Fin cfg0.N) (h0 : ¬t.val % 2 = 0) :
    (outsAt0 m c t.val t.isLt).2 = fun j => (outsAt0 m c (t.val - 1) (Nat.lt_of_le_of_lt (Nat.sub_le _ _) t.isLt)).2 j
      + times (iblk m c 0 t : Matrix 1024 1408) (iblk m c 1 t : Matrix 1408 1024) j := by
  conv_lhs => rw [outsAt0_B m c t h0 (by omega)]
  frame_out
  simp only [read_unread_whole]
  exact block _ _ _

/-- The second step hands the sums on, with the residual's block. -/
theorem left_out (t : Fin cfg0.N) (h1 : t.val % 2 = 1) :
    (outsAt0 m c t.val t.isLt).1 = plus (iblk m c 2 t : Matrix 1024 1024) ((outsAt0 m c t.val t.isLt).2 : Matrix 1024 1024) := by
  rw [outsAt0_B m c t (by omega) h1]
  frame_out
  exact block_residual _ _

/-- The sums are then those of the two steps' products. -/
theorem left (t : Fin cfg0.N) (h1 : t.val % 2 = 1) (j : S1024x1024.Idx) :
    (outsAt0 m c t.val t.isLt).2 j = 0 + ∑ s : Fin 2, times
      (iblk m c 0 ⟨2 * (t.val / 2) + s.val, Pipeline.run_point_lt_of_flush t h1 s⟩ : Matrix 1024 1408)
      (iblk m c 1 ⟨2 * (t.val / 2) + s.val, Pipeline.run_point_lt_of_flush t h1 s⟩ : Matrix 1408 1024) j :=
  Pipeline.eq_sum_fin_of_reset_step_apply_of_flush (fun n h => (outsAt0 m c n h).2) 2 (fun _ => 0)
    (fun p => times (iblk m c 0 p : Matrix 1024 1408) (iblk m c 1 p : Matrix 1408 1024))
    (fun t h i => congrFun (left_first m c t h) i) (fun t h i => congrFun (left_later m c t h) i) t h1 j

/-- Which blocks a point takes and leaves. -/
theorem maps : ∀ t : Fin cfg0.N, win0_0.index t = ![t.val / 2, t.val % 2] ∧ win0_1.index t = ![t.val % 2, 0] ∧ win0_2.index t = ![t.val / 2, 0]
    ∧ win0_3.index t = ![t.val / 2, 0] :=
  (by decide +kernel : ∀ t : Fin grid0.N, _)

/-- An entry of a point's blocks in the whole matrices. -/
theorem entry_left (t : Fin cfg0.N) (i : Fin 1024) (k : Fin 1408) (hi : t.val / 2 * 1024 + i.val < 8192) (hk : t.val % 2 * 1408 + k.val < 2816) :
    (iblk m c 0 t : Matrix 1024 1408) (ix2 i k)
      = (m ((c : Thread nD τ).loc main_arg0) : Matrix 8192 2816) (ix2 ⟨t.val / 2 * 1024 + i.val, hi⟩ ⟨t.val % 2 * 1408 + k.val, hk⟩) := by
  blk_ext [iblk, V, maps t]

theorem entry_right (t : Fin cfg0.N) (k : Fin 1408) (j : Fin 1024) (hk : t.val % 2 * 1408 + k.val < 2816) :
    (iblk m c 1 t : Matrix 1408 1024) (ix2 k j)
      = (m ((c : Thread nD τ).loc main_arg1) : Matrix 2816 1024) (ix2 ⟨t.val % 2 * 1408 + k.val, hk⟩ j) := by
  blk_ext [iblk, V, maps t]

theorem entry_residual (t : Fin cfg0.N) (i j : Fin 1024) (hi : t.val / 2 * 1024 + i.val < 8192) :
    (iblk m c 2 t : Matrix 1024 1024) (ix2 i j)
      = (m ((c : Thread nD τ).loc main_arg2) : Matrix 8192 1024) (ix2 ⟨t.val / 2 * 1024 + i.val, hi⟩ j) := by
  blk_ext [iblk, V, maps t]

/-- The result after the run. -/
theorem array : (dats m 0 c).arrAt 3 cfg0.N
    = plus (m ((c : Thread nD τ).loc main_arg2) : Matrix 8192 1024) (times (m ((c : Thread nD τ).loc main_arg0) : Matrix 8192 2816) (m ((c : Thread nD τ).loc main_arg1) : Matrix 2816 1024)) := by
  refine (dats m 0 c).arrAt_eq_of_covers 3 _ (by decide +kernel) fun t hf y => ?_
  have hN : t.val < 16 := lt_of_lt_of_eq t.isLt N_0
  have h1 : t.val % 2 = 1 := (flush0_3 t).mp hf
  blk_simp
  change S1024x1024.Idx at y
  obtain ⟨i, j, rfl⟩ : ∃ (i : Fin 1024) (j : Fin 1024), y = ix2 i j := ⟨y 0, y 1, eq_ix2 y⟩
  have hz : (win0_3.blk t).view.emb (ix2 i j)
      = (ix2 ⟨t.val / 2 * 1024 + i.val, by omega⟩ j : S8192x1024.Idx) := by
    blk_ext [maps t]
  rw [after0_3, left_out m c t h1, hz]
  refine congrArg₂ (fun a b : EReal => a + b) (entry_residual m c t i j (by (try dsimp only); omega)) ?_
  refine (left m c t h1 (ix2 i j)).trans ((zero_add _).trans ?_)
  refine Fin.sum_mul_add_congr (L := 2816) (S := 2) (n := 1408) fun s k hl => ?_
  have hd : (2 * (t.val / 2) + s.val) / 2 = t.val / 2 := by omega
  have hm : (2 * (t.val / 2) + s.val) % 2 = s.val := by omega
  have hx := entry_left m c ⟨2 * (t.val / 2) + s.val, Pipeline.run_point_lt_of_flush t h1 s⟩ i k (by (try dsimp only); omega) (by (try dsimp only); omega)
  have hy := entry_right m c ⟨2 * (t.val / 2) + s.val, Pipeline.run_point_lt_of_flush t h1 s⟩ k j (by (try dsimp only); omega)
  simp only [hd, hm] at hx hy
  exact congrArg₂ (fun a b : EReal => a * b) hx hy

/-- The run of the program. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = plus (m ((c : Thread nD τ).loc main_arg2) : Matrix 8192 1024) (times (m ((c : Thread nD τ).loc main_arg0) : Matrix 8192 2816) (m ((c : Thread nD τ).loc main_arg1) : Matrix 2816 1024))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (array m c), (h c).2⟩) (Value.run_blocks m ρ)

end Kernel

section Reference

open Cert.ProductFfnDownRefIdeal Cert.ProductFfnDownRefIdeal.Gen

/-- The run of the reference. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = plus (m ((c.tc : Thread nD τ).loc main_arg2) : Matrix 8192 1024) (times (m ((c.tc : Thread nD τ).loc main_arg0) : Matrix 8192 2816) (m ((c.tc : Thread nD τ).loc main_arg1) : Matrix 2816 1024))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run m ρ)
  generalize m ((c.tc : Thread nD τ).loc main_arg0) = x
  generalize m ((c.tc : Thread nD τ).loc main_arg1) = y
  generalize m ((c.tc : Thread nD τ).loc main_arg2) = z
  funext i
  idx_vars i
  pointwise
  rfl

end Reference

end Cert.Projection.FfnDown

end
-- ==== Proof.ProductFfnDactValue.lean ====
/-
# The gradient of the feed-forward network's activation

The program takes 1024 rows of the one matrix and 1408 rows of the other at a time, and leaves their product.
-/
module

public import proofs.«01_k».proof.Defs
public import proofs.«01_k».proof.Proof.ProductLaw
public import proofs.«01_k».proof.Proof.Gen.ProductFfnDact
public import proofs.«01_k».proof.Proof.Gen.ProductFfnDact.Frame
public import proofs.«01_k».proof.Proof.Gen.ProductFfnDactIdeal
public import proofs.«01_k».proof.Proof.Gen.ProductFfnDactIdeal.Frame
public import proofs.«01_k».proof.Proof.Gen.ProductFfnDactIdeal.Value
public import proofs.«01_k».proof.Proof.Gen.ProductFfnDactRefIdeal
public import proofs.«01_k».proof.Proof.Gen.ProductFfnDactRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Projection.FfnDact

open Idealize.ShloMosaic Idealize.ShloMosaic.TcCoe Idealize.SL.Sem

section Kernel

open Cert.ProductFfnDactIdeal Cert.ProductFfnDactIdeal.Gen
open Idealize.ShloMosaic.Pipeline (Dat)

/-- A step's product is added to what was there. -/
theorem block (old : Vec Ideal S1024x1408 .f32) (x : Vec Ideal S1024x1024 .f32) (y : Vec Ideal S1408x1024 .bf16) :
    k0_pay2 old x y = fun j => old j + timesTransposed (x : Matrix 1024 1024) (y : Matrix 1408 1024) j := by
  funext i
  idx_vars i
  pointwise [k0_pay2]
  rfl

variable (m : (ℓ : Loc nD τ sig) → Buf (Elt Ideal) ℓ) (c : Dev nD)

/-- A point leaves its blocks' product. -/
theorem left (t : Fin cfg0.N) : outsAt0 m c t = timesTransposed (iblk m c 0 t : Matrix 1024 1024) (iblk m c 1 t : Matrix 1408 1024) := by
  unfold outsAt0
  frame_out
  refine (block _ _ _).trans (funext fun j => ?_)
  refine Eq.trans (congrArg (· + _) ?_) (zero_add _)
  pointwise [k0_pay1]

/-- Which blocks a point takes and leaves. -/
theorem maps : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- An entry of a point's blocks in the whole matrices. -/
theorem entry_left (t : Fin cfg0.N) (i k : Fin 1024) (hi : t.val / 2 * 1024 + i.val < 8192) :
    (iblk m c 0 t : Matrix 1024 1024) (ix2 i k)
      = (m ((c : Thread nD τ).loc main_arg0) : Matrix 8192 1024) (ix2 ⟨t.val / 2 * 1024 + i.val, hi⟩ k) := by
  blk_ext [iblk, V, maps t]

theorem entry_right (t : Fin cfg0.N) (j : Fin 1408) (k : Fin 1024) (hj : t.val % 2 * 1408 + j.val < 2816) :
    (iblk m c 1 t : Matrix 1408 1024) (ix2 j k)
      = (m ((c : Thread nD τ).loc main_arg1) : Matrix 2816 1024) (ix2 ⟨t.val % 2 * 1408 + j.val, hj⟩ k) := by
  blk_ext [iblk, V, maps t]

/-- The result after the run. -/
theorem array : (dats m 0 c).arrAt 2 cfg0.N
    = timesTransposed (m ((c : Thread nD τ).loc main_arg0) : Matrix 8192 1024) (m ((c : Thread nD τ).loc main_arg1) : Matrix 2816 1024) := by
  refine (dats m 0 c).arrAt_eq_of_covers 2 _ (by decide +kernel) fun t hf y => ?_
  have hN : t.val < 16 := lt_of_lt_of_eq t.isLt N_0
  blk_simp
  change S1024x1408.Idx at y
  obtain ⟨i, j, rfl⟩ : ∃ (i : Fin 1024) (j : Fin 1408), y = ix2 i j := ⟨y 0, y 1, eq_ix2 y⟩
  have hz : (win0_2.blk t).view.emb (ix2 i j)
      = (ix2 ⟨t.val / 2 * 1024 + i.val, by omega⟩ ⟨t.val % 2 * 1408 + j.val, by omega⟩ : S8192x2816.Idx) := by
    blk_ext [maps t]
  rw [after0_2, left, hz]
  unfold timesTransposed
  exact Finset.sum_congr (M := EReal) rfl fun k _ => congrArg₂ (fun a b : EReal => a * b)
    (entry_left m c t i k (by (try dsimp only); omega)) (entry_right m c t j k (by (try dsimp only); omega))

/-- The run of the program. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = timesTransposed (m ((c : Thread nD τ).loc main_arg0) : Matrix 8192 1024) (m ((c : Thread nD τ).loc main_arg1) : Matrix 2816 1024)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Value.run_blocks m ρ)

end Kernel

section Reference

open Cert.ProductFfnDactRefIdeal Cert.ProductFfnDactRefIdeal.Gen

/-- The run of the reference. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = timesTransposed (m ((c.tc : Thread nD τ).loc main_arg0) : Matrix 8192 1024) (m ((c.tc : Thread nD τ).loc main_arg1) : Matrix 2816 1024)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  generalize m ((c.tc : Thread nD τ).loc main_arg0) = x
  generalize m ((c.tc : Thread nD τ).loc main_arg1) = y
  funext i
  idx_vars i
  pointwise
  rfl

end Reference

end Cert.Projection.FfnDact

end
-- ==== Proof.ProductFfnGdownValue.lean ====
/-
# The gradient of the feed-forward network's second weight

The program takes 1408 columns of the one matrix and all 1024 columns of the other at a time, and goes through the axis that it contracts in eight steps of 1024. It adds each step's product to a block of sums, which leaves after the eighth.
-/
module

public import proofs.«01_k».proof.Defs
public import proofs.«01_k».proof.Proof.ProductLaw
public import proofs.«01_k».proof.Proof.Gen.ProductFfnGdown
public import proofs.«01_k».proof.Proof.Gen.ProductFfnGdown.Frame
public import proofs.«01_k».proof.Proof.Gen.ProductFfnGdownIdeal
public import proofs.«01_k».proof.Proof.Gen.ProductFfnGdownIdeal.Frame
public import proofs.«01_k».proof.Proof.Gen.ProductFfnGdownIdeal.Value
public import proofs.«01_k».proof.Proof.Gen.ProductFfnGdownRefIdeal
public import proofs.«01_k».proof.Proof.Gen.ProductFfnGdownRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Projection.FfnGdown

open Idealize.ShloMosaic Idealize.ShloMosaic.TcCoe Idealize.SL.Sem

section Kernel

open Cert.ProductFfnGdownIdeal Cert.ProductFfnGdownIdeal.Gen
open Idealize.ShloMosaic.Pipeline (Dat)

/-- A step's product is added to what was there. -/
theorem block (old : Vec Ideal S1408x1024 .f32) (x : Vec Ideal S1024x1408 .bf16) (y : Vec Ideal S1024x1024 .f32) :
    k0_pay2 old x y = fun j => old j + transposedTimes (x : Matrix 1024 1408) (y : Matrix 1024 1024) j := by
  funext i
  idx_vars i
  pointwise [k0_pay2]
  rfl

variable (m : (ℓ : Loc nD τ sig) → Buf (Elt Ideal) ℓ) (c : Dev nD)

/-- The first step leaves its own product, -/
theorem left_first (t : Fin cfg0.N) (h0 : t.val % 8 = 0) :
    (outsAt0 m c t.val t.isLt).2 = fun j => 0 + transposedTimes (iblk m c 0 t : Matrix 1024 1408) (iblk m c 1 t : Matrix 1024 1024) j := by
  rw [outsAt0_A m c t h0 (by omega)]
  frame_out
  refine (block _ _ _).trans (funext fun j => congrArg (· + _) ?_)
  pointwise [k0_pay1]

/-- a later step its product added to what was there. -/
theorem left_later (t : Fin cfg0.N) (h0 : ¬t.val % 8 = 0) :
    (outsAt0 m c t.val t.isLt).2 = fun j => (outsAt0 m c (t.val - 1) (Nat.lt_of_le_of_lt (Nat.sub_le _ _) t.isLt)).2 j
      + transposedTimes (iblk m c 0 t : Matrix 1024 1408) (iblk m c 1 t : Matrix 1024 1024) j := by
  by_cases h1 : t.val % 8 = 7
  · conv_lhs => rw [outsAt0_C m c t h0 h1]
    frame_out
    simp only [read_unread_whole]
    exact block _ _ _
  · conv_lhs => rw [outsAt0_B m c t h0 h1]
    frame_out
    simp only [read_unread_whole]
    exact block _ _ _

/-- The eighth step hands the sums on. -/
theorem left_out (t : Fin cfg0.N) (h1 : t.val % 8 = 7) : (outsAt0 m c t.val t.isLt).1 = (outsAt0 m c t.val t.isLt).2 := by
  rw [outsAt0_C m c t (by omega) h1]
  frame_out

/-- The sums are then those of the eight steps' products. -/
theorem left (t : Fin cfg0.N) (h1 : t.val % 8 = 7) (j : S1408x1024.Idx) :
    (outsAt0 m c t.val t.isLt).2 j = 0 + ∑ s : Fin 8, transposedTimes
      (iblk m c 0 ⟨8 * (t.val / 8) + s.val, Pipeline.run_point_lt_of_flush t h1 s⟩ : Matrix 1024 1408)
      (iblk m c 1 ⟨8 * (t.val / 8) + s.val, Pipeline.run_point_lt_of_flush t h1 s⟩ : Matrix 1024 1024) j :=
  Pipeline.eq_sum_fin_of_reset_step_apply_of_flush (fun n h => (outsAt0 m c n h).2) 8 (fun _ => 0)
    (fun p => transposedTimes (iblk m c 0 p : Matrix 1024 1408) (iblk m c 1 p : Matrix 1024 1024))
    (fun t h i => congrFun (left_first m c t h) i) (fun t h i => congrFun (left_later m c t h) i) t h1 j

/-- Which blocks a point takes and leaves. -/
theorem maps : ∀ t : Fin cfg0.N, win0_0.index t = ![t.val % 8, t.val / 8] ∧ win0_1.index t = ![t.val % 8, 0]
    ∧ win0_2.index t = ![t.val / 8, 0] :=
  (by decide +kernel : ∀ t : Fin grid0.N, _)

/-- An entry of a point's blocks in the whole matrices. -/
theorem entry_left (t : Fin cfg0.N) (k : Fin 1024) (i : Fin 1408) (hk : t.val % 8 * 1024 + k.val < 8192) (hi : t.val / 8 * 1408 + i.val < 2816) :
    (iblk m c 0 t : Matrix 1024 1408) (ix2 k i)
      = (m ((c : Thread nD τ).loc main_arg0) : Matrix 8192 2816) (ix2 ⟨t.val % 8 * 1024 + k.val, hk⟩ ⟨t.val / 8 * 1408 + i.val, hi⟩) := by
  blk_ext [iblk, V, maps t]

theorem entry_right (t : Fin cfg0.N) (k j : Fin 1024) (hk : t.val % 8 * 1024 + k.val < 8192) :
    (iblk m c 1 t : Matrix 1024 1024) (ix2 k j)
      = (m ((c : Thread nD τ).loc main_arg1) : Matrix 8192 1024) (ix2 ⟨t.val % 8 * 1024 + k.val, hk⟩ j) := by
  blk_ext [iblk, V, maps t]

/-- The result after the run. -/
theorem array : (dats m 0 c).arrAt 2 cfg0.N
    = transposedTimes (m ((c : Thread nD τ).loc main_arg0) : Matrix 8192 2816) (m ((c : Thread nD τ).loc main_arg1) : Matrix 8192 1024) := by
  refine (dats m 0 c).arrAt_eq_of_covers 2 _ (by decide +kernel) fun t hf y => ?_
  have hN : t.val < 16 := lt_of_lt_of_eq t.isLt N_0
  have h1 : t.val % 8 = 7 := (flush0_2 t).mp hf
  blk_simp
  change S1408x1024.Idx at y
  obtain ⟨i, j, rfl⟩ : ∃ (i : Fin 1408) (j : Fin 1024), y = ix2 i j := ⟨y 0, y 1, eq_ix2 y⟩
  have hz : (win0_2.blk t).view.emb (ix2 i j)
      = (ix2 ⟨t.val / 8 * 1408 + i.val, by omega⟩ j : S2816x1024.Idx) := by
    blk_ext [maps t]
  rw [after0_2, left_out m c t h1, hz]
  refine (left m c t h1 (ix2 i j)).trans ((zero_add _).trans ?_)
  refine Fin.sum_mul_add_congr (L := 8192) (S := 8) (n := 1024) fun s k hl => ?_
  have hd : (8 * (t.val / 8) + s.val) / 8 = t.val / 8 := by omega
  have hm : (8 * (t.val / 8) + s.val) % 8 = s.val := by omega
  have hx := entry_left m c ⟨8 * (t.val / 8) + s.val, Pipeline.run_point_lt_of_flush t h1 s⟩ k i (by (try dsimp only); omega) (by (try dsimp only); omega)
  have hy := entry_right m c ⟨8 * (t.val / 8) + s.val, Pipeline.run_point_lt_of_flush t h1 s⟩ k j (by (try dsimp only); omega)
  simp only [hd, hm] at hx hy
  exact congrArg₂ (fun a b : EReal => a * b) hx hy

/-- The run of the program. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = transposedTimes (m ((c : Thread nD τ).loc main_arg0) : Matrix 8192 2816) (m ((c : Thread nD τ).loc main_arg1) : Matrix 8192 1024)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Value.run_blocks m ρ)

end Kernel

section Reference

open Cert.ProductFfnGdownRefIdeal Cert.ProductFfnGdownRefIdeal.Gen

/-- The run of the reference. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = transposedTimes (m ((c.tc : Thread nD τ).loc main_arg0) : Matrix 8192 2816) (m ((c.tc : Thread nD τ).loc main_arg1) : Matrix 8192 1024)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  generalize m ((c.tc : Thread nD τ).loc main_arg0) = x
  generalize m ((c.tc : Thread nD τ).loc main_arg1) = y
  funext i
  idx_vars i
  pointwise
  exact Finset.sum_congr rfl fun k _ => mul_comm _ _

end Reference

end Cert.Projection.FfnGdown

end
-- ==== Proof.ProductFfnGguValue.lean ====
/-
# The gradient of the feed-forward network's first weight

The program takes all 1024 columns of the one matrix and 1408 columns of the other at a time, and goes through the axis that it contracts in eight steps of 1024. It adds each step's product to a block of sums, which leaves after the eighth.
-/
module

public import proofs.«01_k».proof.Defs
public import proofs.«01_k».proof.Proof.ProductLaw
public import proofs.«01_k».proof.Proof.Gen.ProductFfnGgu
public import proofs.«01_k».proof.Proof.Gen.ProductFfnGgu.Frame
public import proofs.«01_k».proof.Proof.Gen.ProductFfnGguIdeal
public import proofs.«01_k».proof.Proof.Gen.ProductFfnGguIdeal.Frame
public import proofs.«01_k».proof.Proof.Gen.ProductFfnGguIdeal.Value
public import proofs.«01_k».proof.Proof.Gen.ProductFfnGguRefIdeal
public import proofs.«01_k».proof.Proof.Gen.ProductFfnGguRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Projection.FfnGgu

open Idealize.ShloMosaic Idealize.ShloMosaic.TcCoe Idealize.SL.Sem

section Kernel

open Cert.ProductFfnGguIdeal Cert.ProductFfnGguIdeal.Gen
open Idealize.ShloMosaic.Pipeline (Dat)

/-- A step's product is added to what was there. -/
theorem block (old : Vec Ideal S1024x1408 .f32) (x : Vec Ideal S1024x1024 .bf16) (y : Vec Ideal S1024x1408 .bf16) :
    k0_pay2 old x y = fun j => old j + transposedTimes (x : Matrix 1024 1024) (y : Matrix 1024 1408) j := by
  funext i
  idx_vars i
  pointwise [k0_pay2]
  rfl

variable (m : (ℓ : Loc nD τ sig) → Buf (Elt Ideal) ℓ) (c : Dev nD)

/-- The first step leaves its own product, -/
theorem left_first (t : Fin cfg0.N) (h0 : t.val % 8 = 0) :
    (outsAt0 m c t.val t.isLt).2 = fun j => 0 + transposedTimes (iblk m c 0 t : Matrix 1024 1024) (iblk m c 1 t : Matrix 1024 1408) j := by
  rw [outsAt0_A m c t h0 (by omega)]
  frame_out
  refine (block _ _ _).trans (funext fun j => congrArg (· + _) ?_)
  pointwise [k0_pay1]

/-- a later step its product added to what was there. -/
theorem left_later (t : Fin cfg0.N) (h0 : ¬t.val % 8 = 0) :
    (outsAt0 m c t.val t.isLt).2 = fun j => (outsAt0 m c (t.val - 1) (Nat.lt_of_le_of_lt (Nat.sub_le _ _) t.isLt)).2 j
      + transposedTimes (iblk m c 0 t : Matrix 1024 1024) (iblk m c 1 t : Matrix 1024 1408) j := by
  by_cases h1 : t.val % 8 = 7
  · conv_lhs => rw [outsAt0_C m c t h0 h1]
    frame_out
    simp only [read_unread_whole]
    exact block _ _ _
  · conv_lhs => rw [outsAt0_B m c t h0 h1]
    frame_out
    simp only [read_unread_whole]
    exact block _ _ _

/-- The eighth step hands the sums on. -/
theorem left_out (t : Fin cfg0.N) (h1 : t.val % 8 = 7) : (outsAt0 m c t.val t.isLt).1 = (outsAt0 m c t.val t.isLt).2 := by
  rw [outsAt0_C m c t (by omega) h1]
  frame_out

/-- The sums are then those of the eight steps' products. -/
theorem left (t : Fin cfg0.N) (h1 : t.val % 8 = 7) (j : S1024x1408.Idx) :
    (outsAt0 m c t.val t.isLt).2 j = 0 + ∑ s : Fin 8, transposedTimes
      (iblk m c 0 ⟨8 * (t.val / 8) + s.val, Pipeline.run_point_lt_of_flush t h1 s⟩ : Matrix 1024 1024)
      (iblk m c 1 ⟨8 * (t.val / 8) + s.val, Pipeline.run_point_lt_of_flush t h1 s⟩ : Matrix 1024 1408) j :=
  Pipeline.eq_sum_fin_of_reset_step_apply_of_flush (fun n h => (outsAt0 m c n h).2) 8 (fun _ => 0)
    (fun p => transposedTimes (iblk m c 0 p : Matrix 1024 1024) (iblk m c 1 p : Matrix 1024 1408))
    (fun t h i => congrFun (left_first m c t h) i) (fun t h i => congrFun (left_later m c t h) i) t h1 j

/-- Which blocks a point takes and leaves. -/
theorem maps : ∀ t : Fin cfg0.N, win0_0.index t = ![t.val % 8, 0] ∧ win0_1.index t = ![t.val % 8, t.val / 8]
    ∧ win0_2.index t = ![0, t.val / 8] :=
  (by decide +kernel : ∀ t : Fin grid0.N, _)

/-- An entry of a point's blocks in the whole matrices. -/
theorem entry_left (t : Fin cfg0.N) (k i : Fin 1024) (hk : t.val % 8 * 1024 + k.val < 8192) :
    (iblk m c 0 t : Matrix 1024 1024) (ix2 k i)
      = (m ((c : Thread nD τ).loc main_arg0) : Matrix 8192 1024) (ix2 ⟨t.val % 8 * 1024 + k.val, hk⟩ i) := by
  blk_ext [iblk, V, maps t]

theorem entry_right (t : Fin cfg0.N) (k : Fin 1024) (j : Fin 1408) (hk : t.val % 8 * 1024 + k.val < 8192) (hj : t.val / 8 * 1408 + j.val < 5632) :
    (iblk m c 1 t : Matrix 1024 1408) (ix2 k j)
      = (m ((c : Thread nD τ).loc main_arg1) : Matrix 8192 5632) (ix2 ⟨t.val % 8 * 1024 + k.val, hk⟩ ⟨t.val / 8 * 1408 + j.val, hj⟩) := by
  blk_ext [iblk, V, maps t]

/-- The result after the run. -/
theorem array : (dats m 0 c).arrAt 2 cfg0.N
    = transposedTimes (m ((c : Thread nD τ).loc main_arg0) : Matrix 8192 1024) (m ((c : Thread nD τ).loc main_arg1) : Matrix 8192 5632) := by
  refine (dats m 0 c).arrAt_eq_of_covers 2 _ (by decide +kernel) fun t hf y => ?_
  have hN : t.val < 32 := lt_of_lt_of_eq t.isLt N_0
  have h1 : t.val % 8 = 7 := (flush0_2 t).mp hf
  blk_simp
  change S1024x1408.Idx at y
  obtain ⟨i, j, rfl⟩ : ∃ (i : Fin 1024) (j : Fin 1408), y = ix2 i j := ⟨y 0, y 1, eq_ix2 y⟩
  have hz : (win0_2.blk t).view.emb (ix2 i j)
      = (ix2 i ⟨t.val / 8 * 1408 + j.val, by omega⟩ : S1024x5632.Idx) := by
    blk_ext [maps t]
  rw [after0_2, left_out m c t h1, hz]
  refine (left m c t h1 (ix2 i j)).trans ((zero_add _).trans ?_)
  refine Fin.sum_mul_add_congr (L := 8192) (S := 8) (n := 1024) fun s k hl => ?_
  have hd : (8 * (t.val / 8) + s.val) / 8 = t.val / 8 := by omega
  have hm : (8 * (t.val / 8) + s.val) % 8 = s.val := by omega
  have hx := entry_left m c ⟨8 * (t.val / 8) + s.val, Pipeline.run_point_lt_of_flush t h1 s⟩ k i (by (try dsimp only); omega)
  have hy := entry_right m c ⟨8 * (t.val / 8) + s.val, Pipeline.run_point_lt_of_flush t h1 s⟩ k j (by (try dsimp only); omega) (by (try dsimp only); omega)
  simp only [hd, hm] at hx hy
  exact congrArg₂ (fun a b : EReal => a * b) hx hy

/-- The run of the program. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = transposedTimes (m ((c : Thread nD τ).loc main_arg0) : Matrix 8192 1024) (m ((c : Thread nD τ).loc main_arg1) : Matrix 8192 5632)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Value.run_blocks m ρ)

end Kernel

section Reference

open Cert.ProductFfnGguRefIdeal Cert.ProductFfnGguRefIdeal.Gen

/-- The run of the reference. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = transposedTimes (m ((c.tc : Thread nD τ).loc main_arg0) : Matrix 8192 1024) (m ((c.tc : Thread nD τ).loc main_arg1) : Matrix 8192 5632)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  generalize m ((c.tc : Thread nD τ).loc main_arg0) = x
  generalize m ((c.tc : Thread nD τ).loc main_arg1) = y
  funext i
  idx_vars i
  pointwise
  exact Finset.sum_congr rfl fun k _ => mul_comm _ _

end Reference

end Cert.Projection.FfnGgu

end
-- ==== Proof.ProductFfnDhValue.lean ====
/-
# The gradient of the feed-forward network's normalised input

The program takes 1024 rows of the one matrix and all 1024 rows of the other at a time, and goes through the axis that it contracts in four steps of 1408. It adds each step's product to a block of sums, which leaves after the fourth.
-/
module

public import proofs.«01_k».proof.Defs
public import proofs.«01_k».proof.Proof.ProductLaw
public import proofs.«01_k».proof.Proof.Gen.ProductFfnDh
public import proofs.«01_k».proof.Proof.Gen.ProductFfnDh.Frame
public import proofs.«01_k».proof.Proof.Gen.ProductFfnDhIdeal
public import proofs.«01_k».proof.Proof.Gen.ProductFfnDhIdeal.Frame
public import proofs.«01_k».proof.Proof.Gen.ProductFfnDhIdeal.Value
public import proofs.«01_k».proof.Proof.Gen.ProductFfnDhRefIdeal
public import proofs.«01_k».proof.Proof.Gen.ProductFfnDhRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Projection.FfnDh

open Idealize.ShloMosaic Idealize.ShloMosaic.TcCoe Idealize.SL.Sem

section Kernel

open Cert.ProductFfnDhIdeal Cert.ProductFfnDhIdeal.Gen
open Idealize.ShloMosaic.Pipeline (Dat)

/-- A step's product is added to what was there. -/
theorem block (old : Vec Ideal S1024x1024 .f32) (x : Vec Ideal S1024x1408 .bf16) (y : Vec Ideal S1024x1408 .bf16) :
    k0_pay2 old x y = fun j => old j + timesTransposed (x : Matrix 1024 1408) (y : Matrix 1024 1408) j := by
  funext i
  idx_vars i
  pointwise [k0_pay2]
  rfl

variable (m : (ℓ : Loc nD τ sig) → Buf (Elt Ideal) ℓ) (c : Dev nD)

/-- The first step leaves its own product, -/
theorem left_first (t : Fin cfg0.N) (h0 : t.val % 4 = 0) :
    (outsAt0 m c t.val t.isLt).2 = fun j => 0 + timesTransposed (iblk m c 0 t : Matrix 1024 1408) (iblk m c 1 t : Matrix 1024 1408) j := by
  rw [outsAt0_A m c t h0 (by omega)]
  frame_out
  refine (block _ _ _).trans (funext fun j => congrArg (· + _) ?_)
  pointwise [k0_pay1]

/-- a later step its product added to what was there. -/
theorem left_later (t : Fin cfg0.N) (h0 : ¬t.val % 4 = 0) :
    (outsAt0 m c t.val t.isLt).2 = fun j => (outsAt0 m c (t.val - 1) (Nat.lt_of_le_of_lt (Nat.sub_le _ _) t.isLt)).2 j
      + timesTransposed (iblk m c 0 t : Matrix 1024 1408) (iblk m c 1 t : Matrix 1024 1408) j := by
  by_cases h1 : t.val % 4 = 3
  · conv_lhs => rw [outsAt0_C m c t h0 h1]
    frame_out
    simp only [read_unread_whole]
    exact block _ _ _
  · conv_lhs => rw [outsAt0_B m c t h0 h1]
    frame_out
    simp only [read_unread_whole]
    exact block _ _ _

/-- The fourth step hands the sums on. -/
theorem left_out (t : Fin cfg0.N) (h1 : t.val % 4 = 3) : (outsAt0 m c t.val t.isLt).1 = (outsAt0 m c t.val t.isLt).2 := by
  rw [outsAt0_C m c t (by omega) h1]
  frame_out

/-- The sums are then those of the four steps' products. -/
theorem left (t : Fin cfg0.N) (h1 : t.val % 4 = 3) (j : S1024x1024.Idx) :
    (outsAt0 m c t.val t.isLt).2 j = 0 + ∑ s : Fin 4, timesTransposed
      (iblk m c 0 ⟨4 * (t.val / 4) + s.val, Pipeline.run_point_lt_of_flush t h1 s⟩ : Matrix 1024 1408)
      (iblk m c 1 ⟨4 * (t.val / 4) + s.val, Pipeline.run_point_lt_of_flush t h1 s⟩ : Matrix 1024 1408) j :=
  Pipeline.eq_sum_fin_of_reset_step_apply_of_flush (fun n h => (outsAt0 m c n h).2) 4 (fun _ => 0)
    (fun p => timesTransposed (iblk m c 0 p : Matrix 1024 1408) (iblk m c 1 p : Matrix 1024 1408))
    (fun t h i => congrFun (left_first m c t h) i) (fun t h i => congrFun (left_later m c t h) i) t h1 j

/-- Which blocks a point takes and leaves. -/
theorem maps : ∀ t : Fin cfg0.N, win0_0.index t = ![t.val / 4, t.val % 4] ∧ win0_1.index t = ![0, t.val % 4]
    ∧ win0_2.index t = ![t.val / 4, 0] :=
  (by decide +kernel : ∀ t : Fin grid0.N, _)

/-- An entry of a point's blocks in the whole matrices. -/
theorem entry_left (t : Fin cfg0.N) (i : Fin 1024) (k : Fin 1408) (hi : t.val / 4 * 1024 + i.val < 8192) (hk : t.val % 4 * 1408 + k.val < 5632) :
    (iblk m c 0 t : Matrix 1024 1408) (ix2 i k)
      = (m ((c : Thread nD τ).loc main_arg0) : Matrix 8192 5632) (ix2 ⟨t.val / 4 * 1024 + i.val, hi⟩ ⟨t.val % 4 * 1408 + k.val, hk⟩) := by
  blk_ext [iblk, V, maps t]

theorem entry_right (t : Fin cfg0.N) (j : Fin 1024) (k : Fin 1408) (hk : t.val % 4 * 1408 + k.val < 5632) :
    (iblk m c 1 t : Matrix 1024 1408) (ix2 j k)
      = (m ((c : Thread nD τ).loc main_arg1) : Matrix 1024 5632) (ix2 j ⟨t.val % 4 * 1408 + k.val, hk⟩) := by
  blk_ext [iblk, V, maps t]

/-- The result after the run. -/
theorem array : (dats m 0 c).arrAt 2 cfg0.N
    = timesTransposed (m ((c : Thread nD τ).loc main_arg0) : Matrix 8192 5632) (m ((c : Thread nD τ).loc main_arg1) : Matrix 1024 5632) := by
  refine (dats m 0 c).arrAt_eq_of_covers 2 _ (by decide +kernel) fun t hf y => ?_
  have hN : t.val < 32 := lt_of_lt_of_eq t.isLt N_0
  have h1 : t.val % 4 = 3 := (flush0_2 t).mp hf
  blk_simp
  change S1024x1024.Idx at y
  obtain ⟨i, j, rfl⟩ : ∃ (i : Fin 1024) (j : Fin 1024), y = ix2 i j := ⟨y 0, y 1, eq_ix2 y⟩
  have hz : (win0_2.blk t).view.emb (ix2 i j)
      = (ix2 ⟨t.val / 4 * 1024 + i.val, by omega⟩ j : S8192x1024.Idx) := by
    blk_ext [maps t]
  rw [after0_2, left_out m c t h1, hz]
  refine (left m c t h1 (ix2 i j)).trans ((zero_add _).trans ?_)
  refine Fin.sum_mul_add_congr (L := 5632) (S := 4) (n := 1408) fun s k hl => ?_
  have hd : (4 * (t.val / 4) + s.val) / 4 = t.val / 4 := by omega
  have hm : (4 * (t.val / 4) + s.val) % 4 = s.val := by omega
  have hx := entry_left m c ⟨4 * (t.val / 4) + s.val, Pipeline.run_point_lt_of_flush t h1 s⟩ i k (by (try dsimp only); omega) (by (try dsimp only); omega)
  have hy := entry_right m c ⟨4 * (t.val / 4) + s.val, Pipeline.run_point_lt_of_flush t h1 s⟩ j k (by (try dsimp only); omega)
  simp only [hd, hm] at hx hy
  exact congrArg₂ (fun a b : EReal => a * b) hx hy

/-- The run of the program. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = timesTransposed (m ((c : Thread nD τ).loc main_arg0) : Matrix 8192 5632) (m ((c : Thread nD τ).loc main_arg1) : Matrix 1024 5632)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Value.run_blocks m ρ)

end Kernel

section Reference

open Cert.ProductFfnDhRefIdeal Cert.ProductFfnDhRefIdeal.Gen

/-- The run of the reference. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = timesTransposed (m ((c.tc : Thread nD τ).loc main_arg0) : Matrix 8192 5632) (m ((c.tc : Thread nD τ).loc main_arg1) : Matrix 1024 5632)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  generalize m ((c.tc : Thread nD τ).loc main_arg0) = x
  generalize m ((c.tc : Thread nD τ).loc main_arg1) = y
  funext i
  idx_vars i
  pointwise
  rfl

end Reference

end Cert.Projection.FfnDh

end
-- ==== Proof.ProductsFfn.lean ====
/-
# The products of the feed-forward network and their references agree

Each program, by blocks of rows and columns, and its reference, on the whole matrices, leave the same product.
-/
module

public import proofs.«01_k».proof.Defs
public import proofs.«01_k».proof.Proof.ProductFfnGuValue
public import proofs.«01_k».proof.Proof.Gen.ProductFfnGuRef
public import proofs.«01_k».proof.Proof.ProductFfnDownValue
public import proofs.«01_k».proof.Proof.Gen.ProductFfnDownRef
public import proofs.«01_k».proof.Proof.ProductFfnDactValue
public import proofs.«01_k».proof.Proof.Gen.ProductFfnDactRef
public import proofs.«01_k».proof.Proof.ProductFfnGdownValue
public import proofs.«01_k».proof.Proof.Gen.ProductFfnGdownRef
public import proofs.«01_k».proof.Proof.ProductFfnGguValue
public import proofs.«01_k».proof.Proof.Gen.ProductFfnGguRef
public import proofs.«01_k».proof.Proof.ProductFfnDhValue
public import proofs.«01_k».proof.Proof.Gen.ProductFfnDhRef

@[expose] public section

noncomputable section

open Idealize.ShloMosaic Idealize.ShloMosaic.TcCoe Idealize.SL.Sem

namespace Cert.Projection.FfnGu

open Cert.ProductFfnGuRefIdeal Cert.ProductFfnGuRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c => (h c).2, sem_eq_zero_of_no_sems (by decide) r.2⟩) (Cert.ProductFfnGuRefIdeal.Value.run m g)

theorem frame_kernel : Cert.quiescent_ProductFfnGu (hProductFfnGu := Cert.ProductFfnGu.Gen.facts) := fun m g _ => Cert.ProductFfnGu.Gen.frame m g
theorem frame_kernelIdeal : Cert.quiescent_ProductFfnGuIdeal (hProductFfnGuIdeal := Cert.ProductFfnGuIdeal.Gen.facts) := fun m g _ => Cert.ProductFfnGuIdeal.Gen.frame m g
theorem frame_reference : Cert.quiescent_ProductFfnGuRef (hProductFfnGuRef := Cert.ProductFfnGuRef.Gen.facts) := fun m g _ => reference_frame (F := Bits) m g
theorem frame_referenceIdeal : Cert.quiescent_ProductFfnGuRefIdeal (hProductFfnGuRefIdeal := Cert.ProductFfnGuRefIdeal.Gen.facts) :=
  fun m g _ => reference_frame (F := Ideal) m g

/-- The feed-forward network's first product: on equal arguments the program and its reference leave equal results. -/
theorem value : Cert.algebraic_ProductFfnGuIdeal_ProductFfnGuRefIdeal (hProductFfnGuIdeal := Cert.ProductFfnGuIdeal.Gen.facts)
    (hProductFfnGuRefIdeal := Cert.ProductFfnGuRefIdeal.Gen.facts) :=
  fun m g m' g' _ h => ⟨_, kernel_run m g, (θ_run _ _ _).mono (fun r hr c => by
    obtain ⟨hx, hk⟩ := hr c
    obtain ⟨h0, h1⟩ := h c
    rw [h0, h1] at hx
    exact ⟨hx, hk⟩) (reference_run m' g')⟩

end Cert.Projection.FfnGu

namespace Cert.Projection.FfnDown

open Cert.ProductFfnDownRefIdeal Cert.ProductFfnDownRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run _ _ _).mono (fun r h => ⟨fun c => (h c).2, sem_eq_zero_of_no_sems (by decide) r.2⟩) (Cert.ProductFfnDownRefIdeal.Value.run m g)

theorem frame_kernel : Cert.quiescent_ProductFfnDown (hProductFfnDown := Cert.ProductFfnDown.Gen.facts) := fun m g _ => Cert.ProductFfnDown.Gen.frame m g
theorem frame_kernelIdeal : Cert.quiescent_ProductFfnDownIdeal (hProductFfnDownIdeal := Cert.ProductFfnDownIdeal.Gen.facts) := fun m g _ => Cert.ProductFfnDownIdeal.Gen.frame m g
theorem frame_reference : Cert.quiescent_ProductFfnDownRef (hProductFfnDownRef := Cert.ProductFfnDownRef.Gen.facts) := fun m g _ => reference_frame (F := Bits) m g
theorem frame_referenceIdeal : Cert.quiescent_ProductFfnDownRefIdeal (hProductFfnDownRefIdeal := Cert.ProductFfnDownRefIdeal.Gen.facts) :=
  fun m g _ => reference_frame (F := Ideal) m g

/-- The feed-forward network's second product, with the residual: on equal arguments the program and its reference leave equal results. -/
theorem value : Cert.algebraic_ProductFfnDownIdeal_ProductFfnDownRefIdeal (hProductFfnDownIdeal := Cert.ProductFfnDownIdeal.Gen.facts)
    (hProductFfnDownRefIdeal := Cert.ProductFfnDownRefIdeal.Gen.facts) :=
  fun m g m' g' _ h => ⟨_, kernel_run m g, (θ_run _ _ _).mono (fun r hr c => by
    obtain ⟨hx, hk⟩ := hr c
    obtain ⟨h0, h1, h2⟩ := h c
    rw [h0, h1, h2] at hx
    exact ⟨hx, hk⟩) (reference_run m' g')⟩

end Cert.Projection.FfnDown

namespace Cert.Projection.FfnDact

open Cert.ProductFfnDactRefIdeal Cert.ProductFfnDactRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c => (h c).2, sem_eq_zero_of_no_sems (by decide) r.2⟩) (Cert.ProductFfnDactRefIdeal.Value.run m g)

theorem frame_kernel : Cert.quiescent_ProductFfnDact (hProductFfnDact := Cert.ProductFfnDact.Gen.facts) := fun m g _ => Cert.ProductFfnDact.Gen.frame m g
theorem frame_kernelIdeal : Cert.quiescent_ProductFfnDactIdeal (hProductFfnDactIdeal := Cert.ProductFfnDactIdeal.Gen.facts) := fun m g _ => Cert.ProductFfnDactIdeal.Gen.frame m g
theorem frame_reference : Cert.quiescent_ProductFfnDactRef (hProductFfnDactRef := Cert.ProductFfnDactRef.Gen.facts) := fun m g _ => reference_frame (F := Bits) m g
theorem frame_referenceIdeal : Cert.quiescent_ProductFfnDactRefIdeal (hProductFfnDactRefIdeal := Cert.ProductFfnDactRefIdeal.Gen.facts) :=
  fun m g _ => reference_frame (F := Ideal) m g

/-- The gradient of the feed-forward network's activation: on equal arguments the program and its reference leave equal results. -/
theorem value : Cert.algebraic_ProductFfnDactIdeal_ProductFfnDactRefIdeal (hProductFfnDactIdeal := Cert.ProductFfnDactIdeal.Gen.facts)
    (hProductFfnDactRefIdeal := Cert.ProductFfnDactRefIdeal.Gen.facts) :=
  fun m g m' g' _ h => ⟨_, kernel_run m g, (θ_run _ _ _).mono (fun r hr c => by
    obtain ⟨hx, hk⟩ := hr c
    obtain ⟨h0, h1⟩ := h c
    rw [h0, h1] at hx
    exact ⟨hx, hk⟩) (reference_run m' g')⟩

end Cert.Projection.FfnDact

namespace Cert.Projection.FfnGdown

open Cert.ProductFfnGdownRefIdeal Cert.ProductFfnGdownRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c => (h c).2, sem_eq_zero_of_no_sems (by decide) r.2⟩) (Cert.ProductFfnGdownRefIdeal.Value.run m g)

theorem frame_kernel : Cert.quiescent_ProductFfnGdown (hProductFfnGdown := Cert.ProductFfnGdown.Gen.facts) := fun m g _ => Cert.ProductFfnGdown.Gen.frame m g
theorem frame_kernelIdeal : Cert.quiescent_ProductFfnGdownIdeal (hProductFfnGdownIdeal := Cert.ProductFfnGdownIdeal.Gen.facts) := fun m g _ => Cert.ProductFfnGdownIdeal.Gen.frame m g
theorem frame_reference : Cert.quiescent_ProductFfnGdownRef (hProductFfnGdownRef := Cert.ProductFfnGdownRef.Gen.facts) := fun m g _ => reference_frame (F := Bits) m g
theorem frame_referenceIdeal : Cert.quiescent_ProductFfnGdownRefIdeal (hProductFfnGdownRefIdeal := Cert.ProductFfnGdownRefIdeal.Gen.facts) :=
  fun m g _ => reference_frame (F := Ideal) m g

/-- The gradient of the feed-forward network's second weight: on equal arguments the program and its reference leave equal results. -/
theorem value : Cert.algebraic_ProductFfnGdownIdeal_ProductFfnGdownRefIdeal (hProductFfnGdownIdeal := Cert.ProductFfnGdownIdeal.Gen.facts)
    (hProductFfnGdownRefIdeal := Cert.ProductFfnGdownRefIdeal.Gen.facts) :=
  fun m g m' g' _ h => ⟨_, kernel_run m g, (θ_run _ _ _).mono (fun r hr c => by
    obtain ⟨hx, hk⟩ := hr c
    obtain ⟨h0, h1⟩ := h c
    rw [h0, h1] at hx
    exact ⟨hx, hk⟩) (reference_run m' g')⟩

end Cert.Projection.FfnGdown

namespace Cert.Projection.FfnGgu

open Cert.ProductFfnGguRefIdeal Cert.ProductFfnGguRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c => (h c).2, sem_eq_zero_of_no_sems (by decide) r.2⟩) (Cert.ProductFfnGguRefIdeal.Value.run m g)

theorem frame_kernel : Cert.quiescent_ProductFfnGgu (hProductFfnGgu := Cert.ProductFfnGgu.Gen.facts) := fun m g _ => Cert.ProductFfnGgu.Gen.frame m g
theorem frame_kernelIdeal : Cert.quiescent_ProductFfnGguIdeal (hProductFfnGguIdeal := Cert.ProductFfnGguIdeal.Gen.facts) := fun m g _ => Cert.ProductFfnGguIdeal.Gen.frame m g
theorem frame_reference : Cert.quiescent_ProductFfnGguRef (hProductFfnGguRef := Cert.ProductFfnGguRef.Gen.facts) := fun m g _ => reference_frame (F := Bits) m g
theorem frame_referenceIdeal : Cert.quiescent_ProductFfnGguRefIdeal (hProductFfnGguRefIdeal := Cert.ProductFfnGguRefIdeal.Gen.facts) :=
  fun m g _ => reference_frame (F := Ideal) m g

/-- The gradient of the feed-forward network's first weight: on equal arguments the program and its reference leave equal results. -/
theorem value : Cert.algebraic_ProductFfnGguIdeal_ProductFfnGguRefIdeal (hProductFfnGguIdeal := Cert.ProductFfnGguIdeal.Gen.facts)
    (hProductFfnGguRefIdeal := Cert.ProductFfnGguRefIdeal.Gen.facts) :=
  fun m g m' g' _ h => ⟨_, kernel_run m g, (θ_run _ _ _).mono (fun r hr c => by
    obtain ⟨hx, hk⟩ := hr c
    obtain ⟨h0, h1⟩ := h c
    rw [h0, h1] at hx
    exact ⟨hx, hk⟩) (reference_run m' g')⟩

end Cert.Projection.FfnGgu

namespace Cert.Projection.FfnDh

open Cert.ProductFfnDhRefIdeal Cert.ProductFfnDhRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c => (h c).2, sem_eq_zero_of_no_sems (by decide) r.2⟩) (Cert.ProductFfnDhRefIdeal.Value.run m g)

theorem frame_kernel : Cert.quiescent_ProductFfnDh (hProductFfnDh := Cert.ProductFfnDh.Gen.facts) := fun m g _ => Cert.ProductFfnDh.Gen.frame m g
theorem frame_kernelIdeal : Cert.quiescent_ProductFfnDhIdeal (hProductFfnDhIdeal := Cert.ProductFfnDhIdeal.Gen.facts) := fun m g _ => Cert.ProductFfnDhIdeal.Gen.frame m g
theorem frame_reference : Cert.quiescent_ProductFfnDhRef (hProductFfnDhRef := Cert.ProductFfnDhRef.Gen.facts) := fun m g _ => reference_frame (F := Bits) m g
theorem frame_referenceIdeal : Cert.quiescent_ProductFfnDhRefIdeal (hProductFfnDhRefIdeal := Cert.ProductFfnDhRefIdeal.Gen.facts) :=
  fun m g _ => reference_frame (F := Ideal) m g

/-- The gradient of the feed-forward network's normalised input: on equal arguments the program and its reference leave equal results. -/
theorem value : Cert.algebraic_ProductFfnDhIdeal_ProductFfnDhRefIdeal (hProductFfnDhIdeal := Cert.ProductFfnDhIdeal.Gen.facts)
    (hProductFfnDhRefIdeal := Cert.ProductFfnDhRefIdeal.Gen.facts) :=
  fun m g m' g' _ h => ⟨_, kernel_run m g, (θ_run _ _ _).mono (fun r hr c => by
    obtain ⟨hx, hk⟩ := hr c
    obtain ⟨h0, h1⟩ := h c
    rw [h0, h1] at hx
    exact ⟨hx, hk⟩) (reference_run m' g')⟩

end Cert.Projection.FfnDh

end
-- ==== Proof.ProductConvOutValue.lean ====
/-
# The convolution's output projection, with the residual

The program takes 1024 rows of the one matrix and all 1024 columns of the other at a time, and leaves their product, the residual's block added.
-/
module

public import proofs.«01_k».proof.Defs
public import proofs.«01_k».proof.Proof.ProductLaw
public import proofs.«01_k».proof.Proof.Gen.ProductConvOut
public import proofs.«01_k».proof.Proof.Gen.ProductConvOut.Frame
public import proofs.«01_k».proof.Proof.Gen.ProductConvOutIdeal
public import proofs.«01_k».proof.Proof.Gen.ProductConvOutIdeal.Frame
public import proofs.«01_k».proof.Proof.Gen.ProductConvOutIdeal.Value
public import proofs.«01_k».proof.Proof.Gen.ProductConvOutRefIdeal
public import proofs.«01_k».proof.Proof.Gen.ProductConvOutRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Projection.ConvOut

open Idealize.ShloMosaic Idealize.ShloMosaic.TcCoe Idealize.SL.Sem

section Kernel

open Cert.ProductConvOutIdeal Cert.ProductConvOutIdeal.Gen
open Idealize.ShloMosaic.Pipeline (Dat)

/-- A step's product is added to what was there. -/
theorem block (old : Vec Ideal S1024x1024 .f32) (x : Vec Ideal S1024x1024 .bf16) (y : Vec Ideal S1024x1024 .bf16) :
    k0_pay2 old x y = fun j => old j + times (x : Matrix 1024 1024) (y : Matrix 1024 1024) j := by
  funext i
  idx_vars i
  pointwise [k0_pay2]
  rfl

/-- The sums leave with the residual's block added. -/
theorem block_residual (sums x : Vec Ideal S1024x1024 .f32) : k0_pay3 sums x = plus (x : Matrix 1024 1024) sums := by
  funext i
  idx_vars i
  pointwise [k0_pay3]
  exact add_comm _ _

variable (m : (ℓ : Loc nD τ sig) → Buf (Elt Ideal) ℓ) (c : Dev nD)

/-- A point leaves its blocks' product, the residual's block added. -/
theorem left (t : Fin cfg0.N) : outsAt0 m c t = plus (iblk m c 2 t : Matrix 1024 1024) (times (iblk m c 0 t : Matrix 1024 1024) (iblk m c 1 t : Matrix 1024 1024)) := by
  unfold outsAt0
  frame_out
  refine (block_residual _ _).trans (congrArg (plus _) ?_)
  refine (block _ _ _).trans (funext fun j => ?_)
  refine Eq.trans (congrArg (· + _) ?_) (zero_add _)
  pointwise [k0_pay1]

/-- Which blocks a point takes and leaves. -/
theorem maps : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- An entry of a point's blocks in the whole matrices. -/
theorem entry_left (t : Fin cfg0.N) (i k : Fin 1024) (hi : t.val * 1024 + i.val < 8192) :
    (iblk m c 0 t : Matrix 1024 1024) (ix2 i k)
      = (m ((c : Thread nD τ).loc main_arg0) : Matrix 8192 1024) (ix2 ⟨t.val * 1024 + i.val, hi⟩ k) := by
  blk_ext [iblk, V, maps t]

theorem entry_right (t : Fin cfg0.N) (k j : Fin 1024) :
    (iblk m c 1 t : Matrix 1024 1024) (ix2 k j)
      = (m ((c : Thread nD τ).loc main_arg1) : Matrix 1024 1024) (ix2 k j) := by
  blk_ext [iblk, V, maps t]

theorem entry_residual (t : Fin cfg0.N) (i j : Fin 1024) (hi : t.val * 1024 + i.val < 8192) :
    (iblk m c 2 t : Matrix 1024 1024) (ix2 i j)
      = (m ((c : Thread nD τ).loc main_arg2) : Matrix 8192 1024) (ix2 ⟨t.val * 1024 + i.val, hi⟩ j) := by
  blk_ext [iblk, V, maps t]

/-- The result after the run. -/
theorem array : (dats m 0 c).arrAt 3 cfg0.N
    = plus (m ((c : Thread nD τ).loc main_arg2) : Matrix 8192 1024) (times (m ((c : Thread nD τ).loc main_arg0) : Matrix 8192 1024) (m ((c : Thread nD τ).loc main_arg1) : Matrix 1024 1024)) := by
  refine (dats m 0 c).arrAt_eq_of_covers 3 _ (by decide +kernel) fun t hf y => ?_
  have hN : t.val < 8 := lt_of_lt_of_eq t.isLt N_0
  blk_simp
  change S1024x1024.Idx at y
  obtain ⟨i, j, rfl⟩ : ∃ (i : Fin 1024) (j : Fin 1024), y = ix2 i j := ⟨y 0, y 1, eq_ix2 y⟩
  have hz : (win0_3.blk t).view.emb (ix2 i j)
      = (ix2 ⟨t.val * 1024 + i.val, by omega⟩ j : S8192x1024.Idx) := by
    blk_ext [maps t]
  rw [after0_3, left, hz]
  refine congrArg₂ (fun a b : EReal => a + b) (entry_residual m c t i j (by (try dsimp only); omega)) ?_
  unfold times
  exact Finset.sum_congr (M := EReal) rfl fun k _ => congrArg₂ (fun a b : EReal => a * b)
    (entry_left m c t i k (by (try dsimp only); omega)) (entry_right m c t k j )

/-- The run of the program. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = plus (m ((c : Thread nD τ).loc main_arg2) : Matrix 8192 1024) (times (m ((c : Thread nD τ).loc main_arg0) : Matrix 8192 1024) (m ((c : Thread nD τ).loc main_arg1) : Matrix 1024 1024))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (array m c), (h c).2⟩) (Value.run_blocks m ρ)

end Kernel

section Reference

open Cert.ProductConvOutRefIdeal Cert.ProductConvOutRefIdeal.Gen

/-- The run of the reference. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = plus (m ((c.tc : Thread nD τ).loc main_arg2) : Matrix 8192 1024) (times (m ((c.tc : Thread nD τ).loc main_arg0) : Matrix 8192 1024) (m ((c.tc : Thread nD τ).loc main_arg1) : Matrix 1024 1024))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run m ρ)
  generalize m ((c.tc : Thread nD τ).loc main_arg0) = x
  generalize m ((c.tc : Thread nD τ).loc main_arg1) = y
  generalize m ((c.tc : Thread nD τ).loc main_arg2) = z
  funext i
  idx_vars i
  pointwise
  rfl

end Reference

end Cert.Projection.ConvOut

end
-- ==== Proof.ProductConvDzValue.lean ====
/-
# The gradient of the convolution's gated output

The program takes 1024 rows of the one matrix and all 1024 rows of the other at a time, and leaves their product.
-/
module

public import proofs.«01_k».proof.Defs
public import proofs.«01_k».proof.Proof.ProductLaw
public import proofs.«01_k».proof.Proof.Gen.ProductConvDz
public import proofs.«01_k».proof.Proof.Gen.ProductConvDz.Frame
public import proofs.«01_k».proof.Proof.Gen.ProductConvDzIdeal
public import proofs.«01_k».proof.Proof.Gen.ProductConvDzIdeal.Frame
public import proofs.«01_k».proof.Proof.Gen.ProductConvDzIdeal.Value
public import proofs.«01_k».proof.Proof.Gen.ProductConvDzRefIdeal
public import proofs.«01_k».proof.Proof.Gen.ProductConvDzRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Projection.ConvDz

open Idealize.ShloMosaic Idealize.ShloMosaic.TcCoe Idealize.SL.Sem

section Kernel

open Cert.ProductConvDzIdeal Cert.ProductConvDzIdeal.Gen
open Idealize.ShloMosaic.Pipeline (Dat)

/-- A step's product is added to what was there. -/
theorem block (old : Vec Ideal S1024x1024 .f32) (x : Vec Ideal S1024x1024 .f32) (y : Vec Ideal S1024x1024 .bf16) :
    k0_pay2 old x y = fun j => old j + timesTransposed (x : Matrix 1024 1024) (y : Matrix 1024 1024) j := by
  funext i
  idx_vars i
  pointwise [k0_pay2]
  rfl

variable (m : (ℓ : Loc nD τ sig) → Buf (Elt Ideal) ℓ) (c : Dev nD)

/-- A point leaves its blocks' product. -/
theorem left (t : Fin cfg0.N) : outsAt0 m c t = timesTransposed (iblk m c 0 t : Matrix 1024 1024) (iblk m c 1 t : Matrix 1024 1024) := by
  unfold outsAt0
  frame_out
  refine (block _ _ _).trans (funext fun j => ?_)
  refine Eq.trans (congrArg (· + _) ?_) (zero_add _)
  pointwise [k0_pay1]

/-- Which blocks a point takes and leaves. -/
theorem maps : ∀ t : Fin cfg0.N, win0_0.index t = ![t.val, 0] ∧ win0_1.index t = ![0, 0]
    ∧ win0_2.index t = ![t.val, 0] :=
  (by decide +kernel : ∀ t : Fin grid0.N, _)

/-- An entry of a point's blocks in the whole matrices. -/
theorem entry_left (t : Fin cfg0.N) (i k : Fin 1024) (hi : t.val * 1024 + i.val < 8192) :
    (iblk m c 0 t : Matrix 1024 1024) (ix2 i k)
      = (m ((c : Thread nD τ).loc main_arg0) : Matrix 8192 1024) (ix2 ⟨t.val * 1024 + i.val, hi⟩ k) := by
  blk_ext [iblk, V, maps t]

theorem entry_right (t : Fin cfg0.N) (j k : Fin 1024) :
    (iblk m c 1 t : Matrix 1024 1024) (ix2 j k)
      = (m ((c : Thread nD τ).loc main_arg1) : Matrix 1024 1024) (ix2 j k) := by
  blk_ext [iblk, V, maps t]

/-- The result after the run. -/
theorem array : (dats m 0 c).arrAt 2 cfg0.N
    = timesTransposed (m ((c : Thread nD τ).loc main_arg0) : Matrix 8192 1024) (m ((c : Thread nD τ).loc main_arg1) : Matrix 1024 1024) := by
  refine (dats m 0 c).arrAt_eq_of_covers 2 _ (by decide +kernel) fun t hf y => ?_
  have hN : t.val < 8 := lt_of_lt_of_eq t.isLt N_0
  blk_simp
  change S1024x1024.Idx at y
  obtain ⟨i, j, rfl⟩ : ∃ (i : Fin 1024) (j : Fin 1024), y = ix2 i j := ⟨y 0, y 1, eq_ix2 y⟩
  have hz : (win0_2.blk t).view.emb (ix2 i j)
      = (ix2 ⟨t.val * 1024 + i.val, by omega⟩ j : S8192x1024.Idx) := by
    blk_ext [maps t]
  rw [after0_2, left, hz]
  unfold timesTransposed
  exact Finset.sum_congr (M := EReal) rfl fun k _ => congrArg₂ (fun a b : EReal => a * b)
    (entry_left m c t i k (by (try dsimp only); omega)) (entry_right m c t j k )

/-- The run of the program. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = timesTransposed (m ((c : Thread nD τ).loc main_arg0) : Matrix 8192 1024) (m ((c : Thread nD τ).loc main_arg1) : Matrix 1024 1024)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Value.run_blocks m ρ)

end Kernel

section Reference

open Cert.ProductConvDzRefIdeal Cert.ProductConvDzRefIdeal.Gen

/-- The run of the reference. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = timesTransposed (m ((c.tc : Thread nD τ).loc main_arg0) : Matrix 8192 1024) (m ((c.tc : Thread nD τ).loc main_arg1) : Matrix 1024 1024)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  generalize m ((c.tc : Thread nD τ).loc main_arg0) = x
  generalize m ((c.tc : Thread nD τ).loc main_arg1) = y
  funext i
  idx_vars i
  pointwise
  rfl

end Reference

end Cert.Projection.ConvDz

end
-- ==== Proof.ProductConvGoutValue.lean ====
/-
# The gradient of the convolution's output weight

The program takes all 1024 columns of the one matrix and all 1024 columns of the other at a time, and goes through the axis that it contracts in eight steps of 1024. It adds each step's product to a block of sums, which leaves after the eighth.
-/
module

public import proofs.«01_k».proof.Defs
public import proofs.«01_k».proof.Proof.ProductLaw
public import proofs.«01_k».proof.Proof.Gen.ProductConvGout
public import proofs.«01_k».proof.Proof.Gen.ProductConvGout.Frame
public import proofs.«01_k».proof.Proof.Gen.ProductConvGoutIdeal
public import proofs.«01_k».proof.Proof.Gen.ProductConvGoutIdeal.Frame
public import proofs.«01_k».proof.Proof.Gen.ProductConvGoutIdeal.Value
public import proofs.«01_k».proof.Proof.Gen.ProductConvGoutRefIdeal
public import proofs.«01_k».proof.Proof.Gen.ProductConvGoutRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Projection.ConvGout

open Idealize.ShloMosaic Idealize.ShloMosaic.TcCoe Idealize.SL.Sem

section Kernel

open Cert.ProductConvGoutIdeal Cert.ProductConvGoutIdeal.Gen
open Idealize.ShloMosaic.Pipeline (Dat)

/-- A step's product is added to what was there. -/
theorem block (old : Vec Ideal S1024x1024 .f32) (x : Vec Ideal S1024x1024 .bf16) (y : Vec Ideal S1024x1024 .f32) :
    k0_pay2 old x y = fun j => old j + transposedTimes (x : Matrix 1024 1024) (y : Matrix 1024 1024) j := by
  funext i
  idx_vars i
  pointwise [k0_pay2]
  rfl

variable (m : (ℓ : Loc nD τ sig) → Buf (Elt Ideal) ℓ) (c : Dev nD)

/-- The first step leaves its own product, -/
theorem left_first (t : Fin cfg0.N) (h0 : t.val % 8 = 0) :
    (outsAt0 m c t.val t.isLt).2 = fun j => 0 + transposedTimes (iblk m c 0 t : Matrix 1024 1024) (iblk m c 1 t : Matrix 1024 1024) j := by
  rw [outsAt0_A m c t h0 (by omega)]
  frame_out
  refine (block _ _ _).trans (funext fun j => congrArg (· + _) ?_)
  pointwise [k0_pay1]

/-- a later step its product added to what was there. -/
theorem left_later (t : Fin cfg0.N) (h0 : ¬t.val % 8 = 0) :
    (outsAt0 m c t.val t.isLt).2 = fun j => (outsAt0 m c (t.val - 1) (Nat.lt_of_le_of_lt (Nat.sub_le _ _) t.isLt)).2 j
      + transposedTimes (iblk m c 0 t : Matrix 1024 1024) (iblk m c 1 t : Matrix 1024 1024) j := by
  by_cases h1 : t.val % 8 = 7
  · conv_lhs => rw [outsAt0_C m c t h0 h1]
    frame_out
    simp only [read_unread_whole]
    exact block _ _ _
  · conv_lhs => rw [outsAt0_B m c t h0 h1]
    frame_out
    simp only [read_unread_whole]
    exact block _ _ _

/-- The eighth step hands the sums on. -/
theorem left_out (t : Fin cfg0.N) (h1 : t.val % 8 = 7) : (outsAt0 m c t.val t.isLt).1 = (outsAt0 m c t.val t.isLt).2 := by
  rw [outsAt0_C m c t (by omega) h1]
  frame_out

/-- The sums are then those of the eight steps' products. -/
theorem left (t : Fin cfg0.N) (h1 : t.val % 8 = 7) (j : S1024x1024.Idx) :
    (outsAt0 m c t.val t.isLt).2 j = 0 + ∑ s : Fin 8, transposedTimes
      (iblk m c 0 ⟨8 * (t.val / 8) + s.val, Pipeline.run_point_lt_of_flush t h1 s⟩ : Matrix 1024 1024)
      (iblk m c 1 ⟨8 * (t.val / 8) + s.val, Pipeline.run_point_lt_of_flush t h1 s⟩ : Matrix 1024 1024) j :=
  Pipeline.eq_sum_fin_of_reset_step_apply_of_flush (fun n h => (outsAt0 m c n h).2) 8 (fun _ => 0)
    (fun p => transposedTimes (iblk m c 0 p : Matrix 1024 1024) (iblk m c 1 p : Matrix 1024 1024))
    (fun t h i => congrFun (left_first m c t h) i) (fun t h i => congrFun (left_later m c t h) i) t h1 j

/-- Which blocks a point takes and leaves. -/
theorem maps : ∀ t : Fin cfg0.N, win0_0.index t = ![t.val % 8, 0] ∧ win0_1.index t = ![t.val % 8, 0]
    ∧ win0_2.index t = ![0, 0] :=
  (by decide +kernel : ∀ t : Fin grid0.N, _)

/-- An entry of a point's blocks in the whole matrices. -/
theorem entry_left (t : Fin cfg0.N) (k i : Fin 1024) (hk : t.val % 8 * 1024 + k.val < 8192) :
    (iblk m c 0 t : Matrix 1024 1024) (ix2 k i)
      = (m ((c : Thread nD τ).loc main_arg0) : Matrix 8192 1024) (ix2 ⟨t.val % 8 * 1024 + k.val, hk⟩ i) := by
  blk_ext [iblk, V, maps t]

theorem entry_right (t : Fin cfg0.N) (k j : Fin 1024) (hk : t.val % 8 * 1024 + k.val < 8192) :
    (iblk m c 1 t : Matrix 1024 1024) (ix2 k j)
      = (m ((c : Thread nD τ).loc main_arg1) : Matrix 8192 1024) (ix2 ⟨t.val % 8 * 1024 + k.val, hk⟩ j) := by
  blk_ext [iblk, V, maps t]

/-- The result after the run. -/
theorem array : (dats m 0 c).arrAt 2 cfg0.N
    = transposedTimes (m ((c : Thread nD τ).loc main_arg0) : Matrix 8192 1024) (m ((c : Thread nD τ).loc main_arg1) : Matrix 8192 1024) := by
  refine (dats m 0 c).arrAt_eq_of_covers 2 _ (by decide +kernel) fun t hf y => ?_
  have hN : t.val < 8 := lt_of_lt_of_eq t.isLt N_0
  have h1 : t.val % 8 = 7 := (flush0_2 t).mp hf
  blk_simp
  change S1024x1024.Idx at y
  obtain ⟨i, j, rfl⟩ : ∃ (i : Fin 1024) (j : Fin 1024), y = ix2 i j := ⟨y 0, y 1, eq_ix2 y⟩
  have hz : (win0_2.blk t).view.emb (ix2 i j)
      = (ix2 i j : S1024x1024.Idx) := by
    blk_ext [maps t]
  rw [after0_2, left_out m c t h1, hz]
  refine (left m c t h1 (ix2 i j)).trans ((zero_add _).trans ?_)
  refine Fin.sum_mul_add_congr (L := 8192) (S := 8) (n := 1024) fun s k hl => ?_
  have hd : (8 * (t.val / 8) + s.val) / 8 = t.val / 8 := by omega
  have hm : (8 * (t.val / 8) + s.val) % 8 = s.val := by omega
  have hx := entry_left m c ⟨8 * (t.val / 8) + s.val, Pipeline.run_point_lt_of_flush t h1 s⟩ k i (by (try dsimp only); omega)
  have hy := entry_right m c ⟨8 * (t.val / 8) + s.val, Pipeline.run_point_lt_of_flush t h1 s⟩ k j (by (try dsimp only); omega)
  simp only [hd, hm] at hx hy
  exact congrArg₂ (fun a b : EReal => a * b) hx hy

/-- The run of the program. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = transposedTimes (m ((c : Thread nD τ).loc main_arg0) : Matrix 8192 1024) (m ((c : Thread nD τ).loc main_arg1) : Matrix 8192 1024)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Value.run_blocks m ρ)

end Kernel

section Reference

open Cert.ProductConvGoutRefIdeal Cert.ProductConvGoutRefIdeal.Gen

/-- The run of the reference. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = transposedTimes (m ((c.tc : Thread nD τ).loc main_arg0) : Matrix 8192 1024) (m ((c.tc : Thread nD τ).loc main_arg1) : Matrix 8192 1024)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  generalize m ((c.tc : Thread nD τ).loc main_arg0) = x
  generalize m ((c.tc : Thread nD τ).loc main_arg1) = y
  funext i
  idx_vars i
  pointwise
  exact Finset.sum_congr rfl fun k _ => mul_comm _ _

end Reference

end Cert.Projection.ConvGout

end
-- ==== Proof.ProductsConv.lean ====
/-
# The products of the convolution and their references agree

Each program, by blocks of rows and columns, and its reference, on the whole matrices, leave the same product.
-/
module

public import proofs.«01_k».proof.Defs
public import proofs.«01_k».proof.Proof.ProductConvOutValue
public import proofs.«01_k».proof.Proof.Gen.ProductConvOutRef
public import proofs.«01_k».proof.Proof.ProductConvDzValue
public import proofs.«01_k».proof.Proof.Gen.ProductConvDzRef
public import proofs.«01_k».proof.Proof.ProductConvGoutValue
public import proofs.«01_k».proof.Proof.Gen.ProductConvGoutRef

@[expose] public section

noncomputable section

open Idealize.ShloMosaic Idealize.ShloMosaic.TcCoe Idealize.SL.Sem

namespace Cert.Projection.ConvOut

open Cert.ProductConvOutRefIdeal Cert.ProductConvOutRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run _ _ _).mono (fun r h => ⟨fun c => (h c).2, sem_eq_zero_of_no_sems (by decide) r.2⟩) (Cert.ProductConvOutRefIdeal.Value.run m g)

theorem frame_kernel : Cert.quiescent_ProductConvOut (hProductConvOut := Cert.ProductConvOut.Gen.facts) := fun m g _ => Cert.ProductConvOut.Gen.frame m g
theorem frame_kernelIdeal : Cert.quiescent_ProductConvOutIdeal (hProductConvOutIdeal := Cert.ProductConvOutIdeal.Gen.facts) := fun m g _ => Cert.ProductConvOutIdeal.Gen.frame m g
theorem frame_reference : Cert.quiescent_ProductConvOutRef (hProductConvOutRef := Cert.ProductConvOutRef.Gen.facts) := fun m g _ => reference_frame (F := Bits) m g
theorem frame_referenceIdeal : Cert.quiescent_ProductConvOutRefIdeal (hProductConvOutRefIdeal := Cert.ProductConvOutRefIdeal.Gen.facts) :=
  fun m g _ => reference_frame (F := Ideal) m g

/-- The convolution's output projection, with the residual: on equal arguments the program and its reference leave equal results. -/
theorem value : Cert.algebraic_ProductConvOutIdeal_ProductConvOutRefIdeal (hProductConvOutIdeal := Cert.ProductConvOutIdeal.Gen.facts)
    (hProductConvOutRefIdeal := Cert.ProductConvOutRefIdeal.Gen.facts) :=
  fun m g m' g' _ h => ⟨_, kernel_run m g, (θ_run _ _ _).mono (fun r hr c => by
    obtain ⟨hx, hk⟩ := hr c
    obtain ⟨h0, h1, h2⟩ := h c
    rw [h0, h1, h2] at hx
    exact ⟨hx, hk⟩) (reference_run m' g')⟩

end Cert.Projection.ConvOut

namespace Cert.Projection.ConvDz

open Cert.ProductConvDzRefIdeal Cert.ProductConvDzRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c => (h c).2, sem_eq_zero_of_no_sems (by decide) r.2⟩) (Cert.ProductConvDzRefIdeal.Value.run m g)

theorem frame_kernel : Cert.quiescent_ProductConvDz (hProductConvDz := Cert.ProductConvDz.Gen.facts) := fun m g _ => Cert.ProductConvDz.Gen.frame m g
theorem frame_kernelIdeal : Cert.quiescent_ProductConvDzIdeal (hProductConvDzIdeal := Cert.ProductConvDzIdeal.Gen.facts) := fun m g _ => Cert.ProductConvDzIdeal.Gen.frame m g
theorem frame_reference : Cert.quiescent_ProductConvDzRef (hProductConvDzRef := Cert.ProductConvDzRef.Gen.facts) := fun m g _ => reference_frame (F := Bits) m g
theorem frame_referenceIdeal : Cert.quiescent_ProductConvDzRefIdeal (hProductConvDzRefIdeal := Cert.ProductConvDzRefIdeal.Gen.facts) :=
  fun m g _ => reference_frame (F := Ideal) m g

/-- The gradient of the convolution's gated output: on equal arguments the program and its reference leave equal results. -/
theorem value : Cert.algebraic_ProductConvDzIdeal_ProductConvDzRefIdeal (hProductConvDzIdeal := Cert.ProductConvDzIdeal.Gen.facts)
    (hProductConvDzRefIdeal := Cert.ProductConvDzRefIdeal.Gen.facts) :=
  fun m g m' g' _ h => ⟨_, kernel_run m g, (θ_run _ _ _).mono (fun r hr c => by
    obtain ⟨hx, hk⟩ := hr c
    obtain ⟨h0, h1⟩ := h c
    rw [h0, h1] at hx
    exact ⟨hx, hk⟩) (reference_run m' g')⟩

end Cert.Projection.ConvDz

namespace Cert.Projection.ConvGout

open Cert.ProductConvGoutRefIdeal Cert.ProductConvGoutRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c => (h c).2, sem_eq_zero_of_no_sems (by decide) r.2⟩) (Cert.ProductConvGoutRefIdeal.Value.run m g)

theorem frame_kernel : Cert.quiescent_ProductConvGout (hProductConvGout := Cert.ProductConvGout.Gen.facts) := fun m g _ => Cert.ProductConvGout.Gen.frame m g
theorem frame_kernelIdeal : Cert.quiescent_ProductConvGoutIdeal (hProductConvGoutIdeal := Cert.ProductConvGoutIdeal.Gen.facts) := fun m g _ => Cert.ProductConvGoutIdeal.Gen.frame m g
theorem frame_reference : Cert.quiescent_ProductConvGoutRef (hProductConvGoutRef := Cert.ProductConvGoutRef.Gen.facts) := fun m g _ => reference_frame (F := Bits) m g
theorem frame_referenceIdeal : Cert.quiescent_ProductConvGoutRefIdeal (hProductConvGoutRefIdeal := Cert.ProductConvGoutRefIdeal.Gen.facts) :=
  fun m g _ => reference_frame (F := Ideal) m g

/-- The gradient of the convolution's output weight: on equal arguments the program and its reference leave equal results. -/
theorem value : Cert.algebraic_ProductConvGoutIdeal_ProductConvGoutRefIdeal (hProductConvGoutIdeal := Cert.ProductConvGoutIdeal.Gen.facts)
    (hProductConvGoutRefIdeal := Cert.ProductConvGoutRefIdeal.Gen.facts) :=
  fun m g m' g' _ h => ⟨_, kernel_run m g, (θ_run _ _ _).mono (fun r hr c => by
    obtain ⟨hx, hk⟩ := hr c
    obtain ⟨h0, h1⟩ := h c
    rw [h0, h1] at hx
    exact ⟨hx, hk⟩) (reference_run m' g')⟩

end Cert.Projection.ConvGout

end
-- ==== Proof.ProductFoxInValue.lean ====
/-
# The attention's input projection

The program takes 1024 rows of the one matrix and 640 columns of the other at a time, and leaves their product.
-/
module

public import proofs.«01_k».proof.Defs
public import proofs.«01_k».proof.Proof.ProductLaw
public import proofs.«01_k».proof.Proof.Gen.ProductFoxIn
public import proofs.«01_k».proof.Proof.Gen.ProductFoxIn.Frame
public import proofs.«01_k».proof.Proof.Gen.ProductFoxInIdeal
public import proofs.«01_k».proof.Proof.Gen.ProductFoxInIdeal.Frame
public import proofs.«01_k».proof.Proof.Gen.ProductFoxInIdeal.Value
public import proofs.«01_k».proof.Proof.Gen.ProductFoxInRefIdeal
public import proofs.«01_k».proof.Proof.Gen.ProductFoxInRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Projection.FoxIn

open Idealize.ShloMosaic Idealize.ShloMosaic.TcCoe Idealize.SL.Sem

section Kernel

open Cert.ProductFoxInIdeal Cert.ProductFoxInIdeal.Gen
open Idealize.ShloMosaic.Pipeline (Dat)

/-- A step's product is added to what was there. -/
theorem block (old : Vec Ideal S1024x640 .f32) (x : Vec Ideal S1024x1024 .bf16) (y : Vec Ideal S1024x640 .bf16) :
    k0_pay2 old x y = fun j => old j + times (x : Matrix 1024 1024) (y : Matrix 1024 640) j := by
  funext i
  idx_vars i
  pointwise [k0_pay2]
  rfl

variable (m : (ℓ : Loc nD τ sig) → Buf (Elt Ideal) ℓ) (c : Dev nD)

/-- A point leaves its blocks' product. -/
theorem left (t : Fin cfg0.N) : outsAt0 m c t = times (iblk m c 0 t : Matrix 1024 1024) (iblk m c 1 t : Matrix 1024 640) := by
  unfold outsAt0
  frame_out
  refine (block _ _ _).trans (funext fun j => ?_)
  refine Eq.trans (congrArg (· + _) ?_) (zero_add _)
  pointwise [k0_pay1]

/-- Which blocks a point takes and leaves. -/
theorem maps : ∀ t : Fin cfg0.N, win0_0.index t = ![t.val / 5, 0] ∧ win0_1.index t = ![0, t.val % 5]
    ∧ win0_2.index t = ![t.val / 5, t.val % 5] :=
  (by decide +kernel : ∀ t : Fin grid0.N, _)

/-- An entry of a point's blocks in the whole matrices. -/
theorem entry_left (t : Fin cfg0.N) (i k : Fin 1024) (hi : t.val / 5 * 1024 + i.val < 8192) :
    (iblk m c 0 t : Matrix 1024 1024) (ix2 i k)
      = (m ((c : Thread nD τ).loc main_arg0) : Matrix 8192 1024) (ix2 ⟨t.val / 5 * 1024 + i.val, hi⟩ k) := by
  blk_ext [iblk, V, maps t]

theorem entry_right (t : Fin cfg0.N) (k : Fin 1024) (j : Fin 640) (hj : t.val % 5 * 640 + j.val < 3200) :
    (iblk m c 1 t : Matrix 1024 640) (ix2 k j)
      = (m ((c : Thread nD τ).loc main_arg1) : Matrix 1024 3200) (ix2 k ⟨t.val % 5 * 640 + j.val, hj⟩) := by
  blk_ext [iblk, V, maps t]

/-- The result after the run. -/
theorem array : (dats m 0 c).arrAt 2 cfg0.N
    = times (m ((c : Thread nD τ).loc main_arg0) : Matrix 8192 1024) (m ((c : Thread nD τ).loc main_arg1) : Matrix 1024 3200) := by
  refine (dats m 0 c).arrAt_eq_of_covers 2 _ (by decide +kernel) fun t hf y => ?_
  have hN : t.val < 40 := lt_of_lt_of_eq t.isLt N_0
  blk_simp
  change S1024x640.Idx at y
  obtain ⟨i, j, rfl⟩ : ∃ (i : Fin 1024) (j : Fin 640), y = ix2 i j := ⟨y 0, y 1, eq_ix2 y⟩
  have hz : (win0_2.blk t).view.emb (ix2 i j)
      = (ix2 ⟨t.val / 5 * 1024 + i.val, by omega⟩ ⟨t.val % 5 * 640 + j.val, by omega⟩ : S8192x3200.Idx) := by
    blk_ext [maps t]
  rw [after0_2, left, hz]
  unfold times
  exact Finset.sum_congr (M := EReal) rfl fun k _ => congrArg₂ (fun a b : EReal => a * b)
    (entry_left m c t i k (by (try dsimp only); omega)) (entry_right m c t k j (by (try dsimp only); omega))

/-- The run of the program. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = times (m ((c : Thread nD τ).loc main_arg0) : Matrix 8192 1024) (m ((c : Thread nD τ).loc main_arg1) : Matrix 1024 3200)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Value.run_blocks m ρ)

end Kernel

section Reference

open Cert.ProductFoxInRefIdeal Cert.ProductFoxInRefIdeal.Gen

/-- The run of the reference. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = times (m ((c.tc : Thread nD τ).loc main_arg0) : Matrix 8192 1024) (m ((c.tc : Thread nD τ).loc main_arg1) : Matrix 1024 3200)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  generalize m ((c.tc : Thread nD τ).loc main_arg0) = x
  generalize m ((c.tc : Thread nD τ).loc main_arg1) = y
  funext i
  idx_vars i
  pointwise
  rfl

end Reference

end Cert.Projection.FoxIn

end
-- ==== Proof.ProductFoxOutValue.lean ====
/-
# The attention's output projection, with the residual

The program takes 1024 rows of the one matrix and all 1024 columns of the other at a time, and leaves their product, the residual's block added.
-/
module

public import proofs.«01_k».proof.Defs
public import proofs.«01_k».proof.Proof.ProductLaw
public import proofs.«01_k».proof.Proof.Gen.ProductFoxOut
public import proofs.«01_k».proof.Proof.Gen.ProductFoxOut.Frame
public import proofs.«01_k».proof.Proof.Gen.ProductFoxOutIdeal
public import proofs.«01_k».proof.Proof.Gen.ProductFoxOutIdeal.Frame
public import proofs.«01_k».proof.Proof.Gen.ProductFoxOutIdeal.Value
public import proofs.«01_k».proof.Proof.Gen.ProductFoxOutRefIdeal
public import proofs.«01_k».proof.Proof.Gen.ProductFoxOutRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Projection.FoxOut

open Idealize.ShloMosaic Idealize.ShloMosaic.TcCoe Idealize.SL.Sem

section Kernel

open Cert.ProductFoxOutIdeal Cert.ProductFoxOutIdeal.Gen
open Idealize.ShloMosaic.Pipeline (Dat)

/-- A step's product is added to what was there. -/
theorem block (old : Vec Ideal S1024x1024 .f32) (x : Vec Ideal S1024x1024 .f32) (y : Vec Ideal S1024x1024 .bf16) :
    k0_pay2 old x y = fun j => old j + times (x : Matrix 1024 1024) (y : Matrix 1024 1024) j := by
  funext i
  idx_vars i
  pointwise [k0_pay2]
  rfl

/-- The sums leave with the residual's block added. -/
theorem block_residual (sums x : Vec Ideal S1024x1024 .f32) : k0_pay3 sums x = plus (x : Matrix 1024 1024) sums := by
  funext i
  idx_vars i
  pointwise [k0_pay3]
  exact add_comm _ _

variable (m : (ℓ : Loc nD τ sig) → Buf (Elt Ideal) ℓ) (c : Dev nD)

/-- A point leaves its blocks' product, the residual's block added. -/
theorem left (t : Fin cfg0.N) : outsAt0 m c t = plus (iblk m c 2 t : Matrix 1024 1024) (times (iblk m c 0 t : Matrix 1024 1024) (iblk m c 1 t : Matrix 1024 1024)) := by
  unfold outsAt0
  frame_out
  refine (block_residual _ _).trans (congrArg (plus _) ?_)
  refine (block _ _ _).trans (funext fun j => ?_)
  refine Eq.trans (congrArg (· + _) ?_) (zero_add _)
  pointwise [k0_pay1]

/-- Which blocks a point takes and leaves. -/
theorem maps : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- An entry of a point's blocks in the whole matrices. -/
theorem entry_left (t : Fin cfg0.N) (i k : Fin 1024) (hi : t.val * 1024 + i.val < 8192) :
    (iblk m c 0 t : Matrix 1024 1024) (ix2 i k)
      = (m ((c : Thread nD τ).loc main_arg0) : Matrix 8192 1024) (ix2 ⟨t.val * 1024 + i.val, hi⟩ k) := by
  blk_ext [iblk, V, maps t]

theorem entry_right (t : Fin cfg0.N) (k j : Fin 1024) :
    (iblk m c 1 t : Matrix 1024 1024) (ix2 k j)
      = (m ((c : Thread nD τ).loc main_arg1) : Matrix 1024 1024) (ix2 k j) := by
  blk_ext [iblk, V, maps t]

theorem entry_residual (t : Fin cfg0.N) (i j : Fin 1024) (hi : t.val * 1024 + i.val < 8192) :
    (iblk m c 2 t : Matrix 1024 1024) (ix2 i j)
      = (m ((c : Thread nD τ).loc main_arg2) : Matrix 8192 1024) (ix2 ⟨t.val * 1024 + i.val, hi⟩ j) := by
  blk_ext [iblk, V, maps t]

/-- The result after the run. -/
theorem array : (dats m 0 c).arrAt 3 cfg0.N
    = plus (m ((c : Thread nD τ).loc main_arg2) : Matrix 8192 1024) (times (m ((c : Thread nD τ).loc main_arg0) : Matrix 8192 1024) (m ((c : Thread nD τ).loc main_arg1) : Matrix 1024 1024)) := by
  refine (dats m 0 c).arrAt_eq_of_covers 3 _ (by decide +kernel) fun t hf y => ?_
  have hN : t.val < 8 := lt_of_lt_of_eq t.isLt N_0
  blk_simp
  change S1024x1024.Idx at y
  obtain ⟨i, j, rfl⟩ : ∃ (i : Fin 1024) (j : Fin 1024), y = ix2 i j := ⟨y 0, y 1, eq_ix2 y⟩
  have hz : (win0_3.blk t).view.emb (ix2 i j)
      = (ix2 ⟨t.val * 1024 + i.val, by omega⟩ j : S8192x1024.Idx) := by
    blk_ext [maps t]
  rw [after0_3, left, hz]
  refine congrArg₂ (fun a b : EReal => a + b) (entry_residual m c t i j (by (try dsimp only); omega)) ?_
  unfold times
  exact Finset.sum_congr (M := EReal) rfl fun k _ => congrArg₂ (fun a b : EReal => a * b)
    (entry_left m c t i k (by (try dsimp only); omega)) (entry_right m c t k j )

/-- The run of the program. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = plus (m ((c : Thread nD τ).loc main_arg2) : Matrix 8192 1024) (times (m ((c : Thread nD τ).loc main_arg0) : Matrix 8192 1024) (m ((c : Thread nD τ).loc main_arg1) : Matrix 1024 1024))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (array m c), (h c).2⟩) (Value.run_blocks m ρ)

end Kernel

section Reference

open Cert.ProductFoxOutRefIdeal Cert.ProductFoxOutRefIdeal.Gen

/-- The run of the reference. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = plus (m ((c.tc : Thread nD τ).loc main_arg2) : Matrix 8192 1024) (times (m ((c.tc : Thread nD τ).loc main_arg0) : Matrix 8192 1024) (m ((c.tc : Thread nD τ).loc main_arg1) : Matrix 1024 1024))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run m ρ)
  generalize m ((c.tc : Thread nD τ).loc main_arg0) = x
  generalize m ((c.tc : Thread nD τ).loc main_arg1) = y
  generalize m ((c.tc : Thread nD τ).loc main_arg2) = z
  funext i
  idx_vars i
  pointwise
  rfl

end Reference

end Cert.Projection.FoxOut

end
-- ==== Proof.ProductFoxGoutValue.lean ====
/-
# The gradient of the attention's output weight

The program takes all 1024 columns of the one matrix and all 1024 columns of the other at a time, and goes through the axis that it contracts in eight steps of 1024. It adds each step's product to a block of sums, which leaves after the eighth.
-/
module

public import proofs.«01_k».proof.Defs
public import proofs.«01_k».proof.Proof.ProductLaw
public import proofs.«01_k».proof.Proof.Gen.ProductFoxGout
public import proofs.«01_k».proof.Proof.Gen.ProductFoxGout.Frame
public import proofs.«01_k».proof.Proof.Gen.ProductFoxGoutIdeal
public import proofs.«01_k».proof.Proof.Gen.ProductFoxGoutIdeal.Frame
public import proofs.«01_k».proof.Proof.Gen.ProductFoxGoutIdeal.Value
public import proofs.«01_k».proof.Proof.Gen.ProductFoxGoutRefIdeal
public import proofs.«01_k».proof.Proof.Gen.ProductFoxGoutRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Projection.FoxGout

open Idealize.ShloMosaic Idealize.ShloMosaic.TcCoe Idealize.SL.Sem

section Kernel

open Cert.ProductFoxGoutIdeal Cert.ProductFoxGoutIdeal.Gen
open Idealize.ShloMosaic.Pipeline (Dat)

/-- A step's product is added to what was there. -/
theorem block (old : Vec Ideal S1024x1024 .f32) (x : Vec Ideal S1024x1024 .f32) (y : Vec Ideal S1024x1024 .f32) :
    k0_pay2 old x y = fun j => old j + transposedTimes (x : Matrix 1024 1024) (y : Matrix 1024 1024) j := by
  funext i
  idx_vars i
  pointwise [k0_pay2]
  rfl

variable (m : (ℓ : Loc nD τ sig) → Buf (Elt Ideal) ℓ) (c : Dev nD)

/-- The first step leaves its own product, -/
theorem left_first (t : Fin cfg0.N) (h0 : t.val % 8 = 0) :
    (outsAt0 m c t.val t.isLt).2 = fun j => 0 + transposedTimes (iblk m c 0 t : Matrix 1024 1024) (iblk m c 1 t : Matrix 1024 1024) j := by
  rw [outsAt0_A m c t h0 (by omega)]
  frame_out
  refine (block _ _ _).trans (funext fun j => congrArg (· + _) ?_)
  pointwise [k0_pay1]

/-- a later step its product added to what was there. -/
theorem left_later (t : Fin cfg0.N) (h0 : ¬t.val % 8 = 0) :
    (outsAt0 m c t.val t.isLt).2 = fun j => (outsAt0 m c (t.val - 1) (Nat.lt_of_le_of_lt (Nat.sub_le _ _) t.isLt)).2 j
      + transposedTimes (iblk m c 0 t : Matrix 1024 1024) (iblk m c 1 t : Matrix 1024 1024) j := by
  by_cases h1 : t.val % 8 = 7
  · conv_lhs => rw [outsAt0_C m c t h0 h1]
    frame_out
    simp only [read_unread_whole]
    exact block _ _ _
  · conv_lhs => rw [outsAt0_B m c t h0 h1]
    frame_out
    simp only [read_unread_whole]
    exact block _ _ _

/-- The eighth step hands the sums on. -/
theorem left_out (t : Fin cfg0.N) (h1 : t.val % 8 = 7) : (outsAt0 m c t.val t.isLt).1 = (outsAt0 m c t.val t.isLt).2 := by
  rw [outsAt0_C m c t (by omega) h1]
  frame_out

/-- The sums are then those of the eight steps' products. -/
theorem left (t : Fin cfg0.N) (h1 : t.val % 8 = 7) (j : S1024x1024.Idx) :
    (outsAt0 m c t.val t.isLt).2 j = 0 + ∑ s : Fin 8, transposedTimes
      (iblk m c 0 ⟨8 * (t.val / 8) + s.val, Pipeline.run_point_lt_of_flush t h1 s⟩ : Matrix 1024 1024)
      (iblk m c 1 ⟨8 * (t.val / 8) + s.val, Pipeline.run_point_lt_of_flush t h1 s⟩ : Matrix 1024 1024) j :=
  Pipeline.eq_sum_fin_of_reset_step_apply_of_flush (fun n h => (outsAt0 m c n h).2) 8 (fun _ => 0)
    (fun p => transposedTimes (iblk m c 0 p : Matrix 1024 1024) (iblk m c 1 p : Matrix 1024 1024))
    (fun t h i => congrFun (left_first m c t h) i) (fun t h i => congrFun (left_later m c t h) i) t h1 j

/-- Which blocks a point takes and leaves. -/
theorem maps : ∀ t : Fin cfg0.N, win0_0.index t = ![t.val % 8, 0] ∧ win0_1.index t = ![t.val % 8, 0]
    ∧ win0_2.index t = ![0, 0] :=
  (by decide +kernel : ∀ t : Fin grid0.N, _)

/-- An entry of a point's blocks in the whole matrices. -/
theorem entry_left (t : Fin cfg0.N) (k i : Fin 1024) (hk : t.val % 8 * 1024 + k.val < 8192) :
    (iblk m c 0 t : Matrix 1024 1024) (ix2 k i)
      = (m ((c : Thread nD τ).loc main_arg0) : Matrix 8192 1024) (ix2 ⟨t.val % 8 * 1024 + k.val, hk⟩ i) := by
  blk_ext [iblk, V, maps t]

theorem entry_right (t : Fin cfg0.N) (k j : Fin 1024) (hk : t.val % 8 * 1024 + k.val < 8192) :
    (iblk m c 1 t : Matrix 1024 1024) (ix2 k j)
      = (m ((c : Thread nD τ).loc main_arg1) : Matrix 8192 1024) (ix2 ⟨t.val % 8 * 1024 + k.val, hk⟩ j) := by
  blk_ext [iblk, V, maps t]

/-- The result after the run. -/
theorem array : (dats m 0 c).arrAt 2 cfg0.N
    = transposedTimes (m ((c : Thread nD τ).loc main_arg0) : Matrix 8192 1024) (m ((c : Thread nD τ).loc main_arg1) : Matrix 8192 1024) := by
  refine (dats m 0 c).arrAt_eq_of_covers 2 _ (by decide +kernel) fun t hf y => ?_
  have hN : t.val < 8 := lt_of_lt_of_eq t.isLt N_0
  have h1 : t.val % 8 = 7 := (flush0_2 t).mp hf
  blk_simp
  change S1024x1024.Idx at y
  obtain ⟨i, j, rfl⟩ : ∃ (i : Fin 1024) (j : Fin 1024), y = ix2 i j := ⟨y 0, y 1, eq_ix2 y⟩
  have hz : (win0_2.blk t).view.emb (ix2 i j)
      = (ix2 i j : S1024x1024.Idx) := by
    blk_ext [maps t]
  rw [after0_2, left_out m c t h1, hz]
  refine (left m c t h1 (ix2 i j)).trans ((zero_add _).trans ?_)
  refine Fin.sum_mul_add_congr (L := 8192) (S := 8) (n := 1024) fun s k hl => ?_
  have hd : (8 * (t.val / 8) + s.val) / 8 = t.val / 8 := by omega
  have hm : (8 * (t.val / 8) + s.val) % 8 = s.val := by omega
  have hx := entry_left m c ⟨8 * (t.val / 8) + s.val, Pipeline.run_point_lt_of_flush t h1 s⟩ k i (by (try dsimp only); omega)
  have hy := entry_right m c ⟨8 * (t.val / 8) + s.val, Pipeline.run_point_lt_of_flush t h1 s⟩ k j (by (try dsimp only); omega)
  simp only [hd, hm] at hx hy
  exact congrArg₂ (fun a b : EReal => a * b) hx hy

/-- The run of the program. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = transposedTimes (m ((c : Thread nD τ).loc main_arg0) : Matrix 8192 1024) (m ((c : Thread nD τ).loc main_arg1) : Matrix 8192 1024)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Value.run_blocks m ρ)

end Kernel

section Reference

open Cert.ProductFoxGoutRefIdeal Cert.ProductFoxGoutRefIdeal.Gen

/-- The run of the reference. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = transposedTimes (m ((c.tc : Thread nD τ).loc main_arg0) : Matrix 8192 1024) (m ((c.tc : Thread nD τ).loc main_arg1) : Matrix 8192 1024)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  generalize m ((c.tc : Thread nD τ).loc main_arg0) = x
  generalize m ((c.tc : Thread nD τ).loc main_arg1) = y
  funext i
  idx_vars i
  pointwise
  exact Finset.sum_congr rfl fun k _ => mul_comm _ _

end Reference

end Cert.Projection.FoxGout

end
-- ==== Proof.ProductFoxGinValue.lean ====
/-
# The gradient of the attention's input weight

The program takes all 1024 columns of the one matrix and 640 columns of the other at a time, and goes through the axis that it contracts in eight steps of 1024. It adds each step's product to a block of sums, which leaves after the eighth.
-/
module

public import proofs.«01_k».proof.Defs
public import proofs.«01_k».proof.Proof.ProductLaw
public import proofs.«01_k».proof.Proof.Gen.ProductFoxGin
public import proofs.«01_k».proof.Proof.Gen.ProductFoxGin.Frame
public import proofs.«01_k».proof.Proof.Gen.ProductFoxGinIdeal
public import proofs.«01_k».proof.Proof.Gen.ProductFoxGinIdeal.Frame
public import proofs.«01_k».proof.Proof.Gen.ProductFoxGinIdeal.Value
public import proofs.«01_k».proof.Proof.Gen.ProductFoxGinRefIdeal
public import proofs.«01_k».proof.Proof.Gen.ProductFoxGinRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Projection.FoxGin

open Idealize.ShloMosaic Idealize.ShloMosaic.TcCoe Idealize.SL.Sem

section Kernel

open Cert.ProductFoxGinIdeal Cert.ProductFoxGinIdeal.Gen
open Idealize.ShloMosaic.Pipeline (Dat)

/-- A step's product is added to what was there. -/
theorem block (old : Vec Ideal S1024x640 .f32) (x : Vec Ideal S1024x1024 .bf16) (y : Vec Ideal S1024x640 .bf16) :
    k0_pay2 old x y = fun j => old j + transposedTimes (x : Matrix 1024 1024) (y : Matrix 1024 640) j := by
  funext i
  idx_vars i
  pointwise [k0_pay2]
  rfl

variable (m : (ℓ : Loc nD τ sig) → Buf (Elt Ideal) ℓ) (c : Dev nD)

/-- The first step leaves its own product, -/
theorem left_first (t : Fin cfg0.N) (h0 : t.val % 8 = 0) :
    (outsAt0 m c t.val t.isLt).2 = fun j => 0 + transposedTimes (iblk m c 0 t : Matrix 1024 1024) (iblk m c 1 t : Matrix 1024 640) j := by
  rw [outsAt0_A m c t h0 (by omega)]
  frame_out
  refine (block _ _ _).trans (funext fun j => congrArg (· + _) ?_)
  pointwise [k0_pay1]

/-- a later step its product added to what was there. -/
theorem left_later (t : Fin cfg0.N) (h0 : ¬t.val % 8 = 0) :
    (outsAt0 m c t.val t.isLt).2 = fun j => (outsAt0 m c (t.val - 1) (Nat.lt_of_le_of_lt (Nat.sub_le _ _) t.isLt)).2 j
      + transposedTimes (iblk m c 0 t : Matrix 1024 1024) (iblk m c 1 t : Matrix 1024 640) j := by
  by_cases h1 : t.val % 8 = 7
  · conv_lhs => rw [outsAt0_C m c t h0 h1]
    frame_out
    simp only [read_unread_whole]
    exact block _ _ _
  · conv_lhs => rw [outsAt0_B m c t h0 h1]
    frame_out
    simp only [read_unread_whole]
    exact block _ _ _

/-- The eighth step hands the sums on. -/
theorem left_out (t : Fin cfg0.N) (h1 : t.val % 8 = 7) : (outsAt0 m c t.val t.isLt).1 = (outsAt0 m c t.val t.isLt).2 := by
  rw [outsAt0_C m c t (by omega) h1]
  frame_out

/-- The sums are then those of the eight steps' products. -/
theorem left (t : Fin cfg0.N) (h1 : t.val % 8 = 7) (j : S1024x640.Idx) :
    (outsAt0 m c t.val t.isLt).2 j = 0 + ∑ s : Fin 8, transposedTimes
      (iblk m c 0 ⟨8 * (t.val / 8) + s.val, Pipeline.run_point_lt_of_flush t h1 s⟩ : Matrix 1024 1024)
      (iblk m c 1 ⟨8 * (t.val / 8) + s.val, Pipeline.run_point_lt_of_flush t h1 s⟩ : Matrix 1024 640) j :=
  Pipeline.eq_sum_fin_of_reset_step_apply_of_flush (fun n h => (outsAt0 m c n h).2) 8 (fun _ => 0)
    (fun p => transposedTimes (iblk m c 0 p : Matrix 1024 1024) (iblk m c 1 p : Matrix 1024 640))
    (fun t h i => congrFun (left_first m c t h) i) (fun t h i => congrFun (left_later m c t h) i) t h1 j

/-- Which blocks a point takes and leaves. -/
theorem maps : ∀ t : Fin cfg0.N, win0_0.index t = ![t.val % 8, 0] ∧ win0_1.index t = ![t.val % 8, t.val / 8]
    ∧ win0_2.index t = ![0, t.val / 8] :=
  (by decide +kernel : ∀ t : Fin grid0.N, _)

/-- An entry of a point's blocks in the whole matrices. -/
theorem entry_left (t : Fin cfg0.N) (k i : Fin 1024) (hk : t.val % 8 * 1024 + k.val < 8192) :
    (iblk m c 0 t : Matrix 1024 1024) (ix2 k i)
      = (m ((c : Thread nD τ).loc main_arg0) : Matrix 8192 1024) (ix2 ⟨t.val % 8 * 1024 + k.val, hk⟩ i) := by
  blk_ext [iblk, V, maps t]

theorem entry_right (t : Fin cfg0.N) (k : Fin 1024) (j : Fin 640) (hk : t.val % 8 * 1024 + k.val < 8192) (hj : t.val / 8 * 640 + j.val < 3200) :
    (iblk m c 1 t : Matrix 1024 640) (ix2 k j)
      = (m ((c : Thread nD τ).loc main_arg1) : Matrix 8192 3200) (ix2 ⟨t.val % 8 * 1024 + k.val, hk⟩ ⟨t.val / 8 * 640 + j.val, hj⟩) := by
  blk_ext [iblk, V, maps t]

/-- The result after the run. -/
theorem array : (dats m 0 c).arrAt 2 cfg0.N
    = transposedTimes (m ((c : Thread nD τ).loc main_arg0) : Matrix 8192 1024) (m ((c : Thread nD τ).loc main_arg1) : Matrix 8192 3200) := by
  refine (dats m 0 c).arrAt_eq_of_covers 2 _ (by decide +kernel) fun t hf y => ?_
  have hN : t.val < 40 := lt_of_lt_of_eq t.isLt N_0
  have h1 : t.val % 8 = 7 := (flush0_2 t).mp hf
  blk_simp
  change S1024x640.Idx at y
  obtain ⟨i, j, rfl⟩ : ∃ (i : Fin 1024) (j : Fin 640), y = ix2 i j := ⟨y 0, y 1, eq_ix2 y⟩
  have hz : (win0_2.blk t).view.emb (ix2 i j)
      = (ix2 i ⟨t.val / 8 * 640 + j.val, by omega⟩ : S1024x3200.Idx) := by
    blk_ext [maps t]
  rw [after0_2, left_out m c t h1, hz]
  refine (left m c t h1 (ix2 i j)).trans ((zero_add _).trans ?_)
  refine Fin.sum_mul_add_congr (L := 8192) (S := 8) (n := 1024) fun s k hl => ?_
  have hd : (8 * (t.val / 8) + s.val) / 8 = t.val / 8 := by omega
  have hm : (8 * (t.val / 8) + s.val) % 8 = s.val := by omega
  have hx := entry_left m c ⟨8 * (t.val / 8) + s.val, Pipeline.run_point_lt_of_flush t h1 s⟩ k i (by (try dsimp only); omega)
  have hy := entry_right m c ⟨8 * (t.val / 8) + s.val, Pipeline.run_point_lt_of_flush t h1 s⟩ k j (by (try dsimp only); omega) (by (try dsimp only); omega)
  simp only [hd, hm] at hx hy
  exact congrArg₂ (fun a b : EReal => a * b) hx hy

/-- The run of the program. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = transposedTimes (m ((c : Thread nD τ).loc main_arg0) : Matrix 8192 1024) (m ((c : Thread nD τ).loc main_arg1) : Matrix 8192 3200)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Value.run_blocks m ρ)

end Kernel

section Reference

open Cert.ProductFoxGinRefIdeal Cert.ProductFoxGinRefIdeal.Gen

/-- The run of the reference. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = transposedTimes (m ((c.tc : Thread nD τ).loc main_arg0) : Matrix 8192 1024) (m ((c.tc : Thread nD τ).loc main_arg1) : Matrix 8192 3200)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  generalize m ((c.tc : Thread nD τ).loc main_arg0) = x
  generalize m ((c.tc : Thread nD τ).loc main_arg1) = y
  funext i
  idx_vars i
  pointwise
  exact Finset.sum_congr rfl fun k _ => mul_comm _ _

end Reference

end Cert.Projection.FoxGin

end
-- ==== Proof.ProductFoxDhValue.lean ====
/-
# The gradient of the attention's normalised input

The program takes 1024 rows of the one matrix and all 1024 rows of the other at a time, and goes through the axis that it contracts in five steps of 640. It adds each step's product to a block of sums, which leaves after the fifth.
-/
module

public import proofs.«01_k».proof.Defs
public import proofs.«01_k».proof.Proof.ProductLaw
public import proofs.«01_k».proof.Proof.Gen.ProductFoxDh
public import proofs.«01_k».proof.Proof.Gen.ProductFoxDh.Frame
public import proofs.«01_k».proof.Proof.Gen.ProductFoxDhIdeal
public import proofs.«01_k».proof.Proof.Gen.ProductFoxDhIdeal.Frame
public import proofs.«01_k».proof.Proof.Gen.ProductFoxDhIdeal.Value
public import proofs.«01_k».proof.Proof.Gen.ProductFoxDhRefIdeal
public import proofs.«01_k».proof.Proof.Gen.ProductFoxDhRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Projection.FoxDh

open Idealize.ShloMosaic Idealize.ShloMosaic.TcCoe Idealize.SL.Sem

section Kernel

open Cert.ProductFoxDhIdeal Cert.ProductFoxDhIdeal.Gen
open Idealize.ShloMosaic.Pipeline (Dat)

/-- A step's product is added to what was there. -/
theorem block (old : Vec Ideal S1024x1024 .f32) (x : Vec Ideal S1024x640 .bf16) (y : Vec Ideal S1024x640 .bf16) :
    k0_pay2 old x y = fun j => old j + timesTransposed (x : Matrix 1024 640) (y : Matrix 1024 640) j := by
  funext i
  idx_vars i
  pointwise [k0_pay2]
  rfl

variable (m : (ℓ : Loc nD τ sig) → Buf (Elt Ideal) ℓ) (c : Dev nD)

/-- The first step leaves its own product, -/
theorem left_first (t : Fin cfg0.N) (h0 : t.val % 5 = 0) :
    (outsAt0 m c t.val t.isLt).2 = fun j => 0 + timesTransposed (iblk m c 0 t : Matrix 1024 640) (iblk m c 1 t : Matrix 1024 640) j := by
  rw [outsAt0_A m c t h0 (by omega)]
  frame_out
  refine (block _ _ _).trans (funext fun j => congrArg (· + _) ?_)
  pointwise [k0_pay1]

/-- a later step its product added to what was there. -/
theorem left_later (t : Fin cfg0.N) (h0 : ¬t.val % 5 = 0) :
    (outsAt0 m c t.val t.isLt).2 = fun j => (outsAt0 m c (t.val - 1) (Nat.lt_of_le_of_lt (Nat.sub_le _ _) t.isLt)).2 j
      + timesTransposed (iblk m c 0 t : Matrix 1024 640) (iblk m c 1 t : Matrix 1024 640) j := by
  by_cases h1 : t.val % 5 = 4
  · conv_lhs => rw [outsAt0_C m c t h0 h1]
    frame_out
    simp only [read_unread_whole]
    exact block _ _ _
  · conv_lhs => rw [outsAt0_B m c t h0 h1]
    frame_out
    simp only [read_unread_whole]
    exact block _ _ _

/-- The fifth step hands the sums on. -/
theorem left_out (t : Fin cfg0.N) (h1 : t.val % 5 = 4) : (outsAt0 m c t.val t.isLt).1 = (outsAt0 m c t.val t.isLt).2 := by
  rw [outsAt0_C m c t (by omega) h1]
  frame_out

/-- The sums are then those of the five steps' products. -/
theorem left (t : Fin cfg0.N) (h1 : t.val % 5 = 4) (j : S1024x1024.Idx) :
    (outsAt0 m c t.val t.isLt).2 j = 0 + ∑ s : Fin 5, timesTransposed
      (iblk m c 0 ⟨5 * (t.val / 5) + s.val, Pipeline.run_point_lt_of_flush t h1 s⟩ : Matrix 1024 640)
      (iblk m c 1 ⟨5 * (t.val / 5) + s.val, Pipeline.run_point_lt_of_flush t h1 s⟩ : Matrix 1024 640) j :=
  Pipeline.eq_sum_fin_of_reset_step_apply_of_flush (fun n h => (outsAt0 m c n h).2) 5 (fun _ => 0)
    (fun p => timesTransposed (iblk m c 0 p : Matrix 1024 640) (iblk m c 1 p : Matrix 1024 640))
    (fun t h i => congrFun (left_first m c t h) i) (fun t h i => congrFun (left_later m c t h) i) t h1 j

/-- Which blocks a point takes and leaves. -/
theorem maps : ∀ t : Fin cfg0.N, win0_0.index t = ![t.val / 5, t.val % 5] ∧ win0_1.index t = ![0, t.val % 5]
    ∧ win0_2.index t = ![t.val / 5, 0] :=
  (by decide +kernel : ∀ t : Fin grid0.N, _)

/-- An entry of a point's blocks in the whole matrices. -/
theorem entry_left (t : Fin cfg0.N) (i : Fin 1024) (k : Fin 640) (hi : t.val / 5 * 1024 + i.val < 8192) (hk : t.val % 5 * 640 + k.val < 3200) :
    (iblk m c 0 t : Matrix 1024 640) (ix2 i k)
      = (m ((c : Thread nD τ).loc main_arg0) : Matrix 8192 3200) (ix2 ⟨t.val / 5 * 1024 + i.val, hi⟩ ⟨t.val % 5 * 640 + k.val, hk⟩) := by
  blk_ext [iblk, V, maps t]

theorem entry_right (t : Fin cfg0.N) (j : Fin 1024) (k : Fin 640) (hk : t.val % 5 * 640 + k.val < 3200) :
    (iblk m c 1 t : Matrix 1024 640) (ix2 j k)
      = (m ((c : Thread nD τ).loc main_arg1) : Matrix 1024 3200) (ix2 j ⟨t.val % 5 * 640 + k.val, hk⟩) := by
  blk_ext [iblk, V, maps t]

/-- The result after the run. -/
theorem array : (dats m 0 c).arrAt 2 cfg0.N
    = timesTransposed (m ((c : Thread nD τ).loc main_arg0) : Matrix 8192 3200) (m ((c : Thread nD τ).loc main_arg1) : Matrix 1024 3200) := by
  refine (dats m 0 c).arrAt_eq_of_covers 2 _ (by decide +kernel) fun t hf y => ?_
  have hN : t.val < 40 := lt_of_lt_of_eq t.isLt N_0
  have h1 : t.val % 5 = 4 := (flush0_2 t).mp hf
  blk_simp
  change S1024x1024.Idx at y
  obtain ⟨i, j, rfl⟩ : ∃ (i : Fin 1024) (j : Fin 1024), y = ix2 i j := ⟨y 0, y 1, eq_ix2 y⟩
  have hz : (win0_2.blk t).view.emb (ix2 i j)
      = (ix2 ⟨t.val / 5 * 1024 + i.val, by omega⟩ j : S8192x1024.Idx) := by
    blk_ext [maps t]
  rw [after0_2, left_out m c t h1, hz]
  refine (left m c t h1 (ix2 i j)).trans ((zero_add _).trans ?_)
  refine Fin.sum_mul_add_congr (L := 3200) (S := 5) (n := 640) fun s k hl => ?_
  have hd : (5 * (t.val / 5) + s.val) / 5 = t.val / 5 := by omega
  have hm : (5 * (t.val / 5) + s.val) % 5 = s.val := by omega
  have hx := entry_left m c ⟨5 * (t.val / 5) + s.val, Pipeline.run_point_lt_of_flush t h1 s⟩ i k (by (try dsimp only); omega) (by (try dsimp only); omega)
  have hy := entry_right m c ⟨5 * (t.val / 5) + s.val, Pipeline.run_point_lt_of_flush t h1 s⟩ j k (by (try dsimp only); omega)
  simp only [hd, hm] at hx hy
  exact congrArg₂ (fun a b : EReal => a * b) hx hy

/-- The run of the program. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = timesTransposed (m ((c : Thread nD τ).loc main_arg0) : Matrix 8192 3200) (m ((c : Thread nD τ).loc main_arg1) : Matrix 1024 3200)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Value.run_blocks m ρ)

end Kernel

section Reference

open Cert.ProductFoxDhRefIdeal Cert.ProductFoxDhRefIdeal.Gen

/-- The run of the reference. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = timesTransposed (m ((c.tc : Thread nD τ).loc main_arg0) : Matrix 8192 3200) (m ((c.tc : Thread nD τ).loc main_arg1) : Matrix 1024 3200)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  generalize m ((c.tc : Thread nD τ).loc main_arg0) = x
  generalize m ((c.tc : Thread nD τ).loc main_arg1) = y
  funext i
  idx_vars i
  pointwise
  rfl

end Reference

end Cert.Projection.FoxDh

end
-- ==== Proof.ProductsFox.lean ====
/-
# The products of the attention and their references agree

Each program, by blocks of rows and columns, and its reference, on the whole matrices, leave the same product.
-/
module

public import proofs.«01_k».proof.Defs
public import proofs.«01_k».proof.Proof.ProductFoxInValue
public import proofs.«01_k».proof.Proof.Gen.ProductFoxInRef
public import proofs.«01_k».proof.Proof.ProductFoxOutValue
public import proofs.«01_k».proof.Proof.Gen.ProductFoxOutRef
public import proofs.«01_k».proof.Proof.ProductFoxGoutValue
public import proofs.«01_k».proof.Proof.Gen.ProductFoxGoutRef
public import proofs.«01_k».proof.Proof.ProductFoxGinValue
public import proofs.«01_k».proof.Proof.Gen.ProductFoxGinRef
public import proofs.«01_k».proof.Proof.ProductFoxDhValue
public import proofs.«01_k».proof.Proof.Gen.ProductFoxDhRef

@[expose] public section

noncomputable section

open Idealize.ShloMosaic Idealize.ShloMosaic.TcCoe Idealize.SL.Sem

namespace Cert.Projection.FoxIn

open Cert.ProductFoxInRefIdeal Cert.ProductFoxInRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c => (h c).2, sem_eq_zero_of_no_sems (by decide) r.2⟩) (Cert.ProductFoxInRefIdeal.Value.run m g)

theorem frame_kernel : Cert.quiescent_ProductFoxIn (hProductFoxIn := Cert.ProductFoxIn.Gen.facts) := fun m g _ => Cert.ProductFoxIn.Gen.frame m g
theorem frame_kernelIdeal : Cert.quiescent_ProductFoxInIdeal (hProductFoxInIdeal := Cert.ProductFoxInIdeal.Gen.facts) := fun m g _ => Cert.ProductFoxInIdeal.Gen.frame m g
theorem frame_reference : Cert.quiescent_ProductFoxInRef (hProductFoxInRef := Cert.ProductFoxInRef.Gen.facts) := fun m g _ => reference_frame (F := Bits) m g
theorem frame_referenceIdeal : Cert.quiescent_ProductFoxInRefIdeal (hProductFoxInRefIdeal := Cert.ProductFoxInRefIdeal.Gen.facts) :=
  fun m g _ => reference_frame (F := Ideal) m g

/-- The attention's input projection: on equal arguments the program and its reference leave equal results. -/
theorem value : Cert.algebraic_ProductFoxInIdeal_ProductFoxInRefIdeal (hProductFoxInIdeal := Cert.ProductFoxInIdeal.Gen.facts)
    (hProductFoxInRefIdeal := Cert.ProductFoxInRefIdeal.Gen.facts) :=
  fun m g m' g' _ h => ⟨_, kernel_run m g, (θ_run _ _ _).mono (fun r hr c => by
    obtain ⟨hx, hk⟩ := hr c
    obtain ⟨h0, h1⟩ := h c
    rw [h0, h1] at hx
    exact ⟨hx, hk⟩) (reference_run m' g')⟩

end Cert.Projection.FoxIn

namespace Cert.Projection.FoxOut

open Cert.ProductFoxOutRefIdeal Cert.ProductFoxOutRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run _ _ _).mono (fun r h => ⟨fun c => (h c).2, sem_eq_zero_of_no_sems (by decide) r.2⟩) (Cert.ProductFoxOutRefIdeal.Value.run m g)

theorem frame_kernel : Cert.quiescent_ProductFoxOut (hProductFoxOut := Cert.ProductFoxOut.Gen.facts) := fun m g _ => Cert.ProductFoxOut.Gen.frame m g
theorem frame_kernelIdeal : Cert.quiescent_ProductFoxOutIdeal (hProductFoxOutIdeal := Cert.ProductFoxOutIdeal.Gen.facts) := fun m g _ => Cert.ProductFoxOutIdeal.Gen.frame m g
theorem frame_reference : Cert.quiescent_ProductFoxOutRef (hProductFoxOutRef := Cert.ProductFoxOutRef.Gen.facts) := fun m g _ => reference_frame (F := Bits) m g
theorem frame_referenceIdeal : Cert.quiescent_ProductFoxOutRefIdeal (hProductFoxOutRefIdeal := Cert.ProductFoxOutRefIdeal.Gen.facts) :=
  fun m g _ => reference_frame (F := Ideal) m g

/-- The attention's output projection, with the residual: on equal arguments the program and its reference leave equal results. -/
theorem value : Cert.algebraic_ProductFoxOutIdeal_ProductFoxOutRefIdeal (hProductFoxOutIdeal := Cert.ProductFoxOutIdeal.Gen.facts)
    (hProductFoxOutRefIdeal := Cert.ProductFoxOutRefIdeal.Gen.facts) :=
  fun m g m' g' _ h => ⟨_, kernel_run m g, (θ_run _ _ _).mono (fun r hr c => by
    obtain ⟨hx, hk⟩ := hr c
    obtain ⟨h0, h1, h2⟩ := h c
    rw [h0, h1, h2] at hx
    exact ⟨hx, hk⟩) (reference_run m' g')⟩

end Cert.Projection.FoxOut

namespace Cert.Projection.FoxGout

open Cert.ProductFoxGoutRefIdeal Cert.ProductFoxGoutRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c => (h c).2, sem_eq_zero_of_no_sems (by decide) r.2⟩) (Cert.ProductFoxGoutRefIdeal.Value.run m g)

theorem frame_kernel : Cert.quiescent_ProductFoxGout (hProductFoxGout := Cert.ProductFoxGout.Gen.facts) := fun m g _ => Cert.ProductFoxGout.Gen.frame m g
theorem frame_kernelIdeal : Cert.quiescent_ProductFoxGoutIdeal (hProductFoxGoutIdeal := Cert.ProductFoxGoutIdeal.Gen.facts) := fun m g _ => Cert.ProductFoxGoutIdeal.Gen.frame m g
theorem frame_reference : Cert.quiescent_ProductFoxGoutRef (hProductFoxGoutRef := Cert.ProductFoxGoutRef.Gen.facts) := fun m g _ => reference_frame (F := Bits) m g
theorem frame_referenceIdeal : Cert.quiescent_ProductFoxGoutRefIdeal (hProductFoxGoutRefIdeal := Cert.ProductFoxGoutRefIdeal.Gen.facts) :=
  fun m g _ => reference_frame (F := Ideal) m g

/-- The gradient of the attention's output weight: on equal arguments the program and its reference leave equal results. -/
theorem value : Cert.algebraic_ProductFoxGoutIdeal_ProductFoxGoutRefIdeal (hProductFoxGoutIdeal := Cert.ProductFoxGoutIdeal.Gen.facts)
    (hProductFoxGoutRefIdeal := Cert.ProductFoxGoutRefIdeal.Gen.facts) :=
  fun m g m' g' _ h => ⟨_, kernel_run m g, (θ_run _ _ _).mono (fun r hr c => by
    obtain ⟨hx, hk⟩ := hr c
    obtain ⟨h0, h1⟩ := h c
    rw [h0, h1] at hx
    exact ⟨hx, hk⟩) (reference_run m' g')⟩

end Cert.Projection.FoxGout

namespace Cert.Projection.FoxGin

open Cert.ProductFoxGinRefIdeal Cert.ProductFoxGinRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c => (h c).2, sem_eq_zero_of_no_sems (by decide) r.2⟩) (Cert.ProductFoxGinRefIdeal.Value.run m g)

theorem frame_kernel : Cert.quiescent_ProductFoxGin (hProductFoxGin := Cert.ProductFoxGin.Gen.facts) := fun m g _ => Cert.ProductFoxGin.Gen.frame m g
theorem frame_kernelIdeal : Cert.quiescent_ProductFoxGinIdeal (hProductFoxGinIdeal := Cert.ProductFoxGinIdeal.Gen.facts) := fun m g _ => Cert.ProductFoxGinIdeal.Gen.frame m g
theorem frame_reference : Cert.quiescent_ProductFoxGinRef (hProductFoxGinRef := Cert.ProductFoxGinRef.Gen.facts) := fun m g _ => reference_frame (F := Bits) m g
theorem frame_referenceIdeal : Cert.quiescent_ProductFoxGinRefIdeal (hProductFoxGinRefIdeal := Cert.ProductFoxGinRefIdeal.Gen.facts) :=
  fun m g _ => reference_frame (F := Ideal) m g

/-- The gradient of the attention's input weight: on equal arguments the program and its reference leave equal results. -/
theorem value : Cert.algebraic_ProductFoxGinIdeal_ProductFoxGinRefIdeal (hProductFoxGinIdeal := Cert.ProductFoxGinIdeal.Gen.facts)
    (hProductFoxGinRefIdeal := Cert.ProductFoxGinRefIdeal.Gen.facts) :=
  fun m g m' g' _ h => ⟨_, kernel_run m g, (θ_run _ _ _).mono (fun r hr c => by
    obtain ⟨hx, hk⟩ := hr c
    obtain ⟨h0, h1⟩ := h c
    rw [h0, h1] at hx
    exact ⟨hx, hk⟩) (reference_run m' g')⟩

end Cert.Projection.FoxGin

namespace Cert.Projection.FoxDh

open Cert.ProductFoxDhRefIdeal Cert.ProductFoxDhRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c => (h c).2, sem_eq_zero_of_no_sems (by decide) r.2⟩) (Cert.ProductFoxDhRefIdeal.Value.run m g)

theorem frame_kernel : Cert.quiescent_ProductFoxDh (hProductFoxDh := Cert.ProductFoxDh.Gen.facts) := fun m g _ => Cert.ProductFoxDh.Gen.frame m g
theorem frame_kernelIdeal : Cert.quiescent_ProductFoxDhIdeal (hProductFoxDhIdeal := Cert.ProductFoxDhIdeal.Gen.facts) := fun m g _ => Cert.ProductFoxDhIdeal.Gen.frame m g
theorem frame_reference : Cert.quiescent_ProductFoxDhRef (hProductFoxDhRef := Cert.ProductFoxDhRef.Gen.facts) := fun m g _ => reference_frame (F := Bits) m g
theorem frame_referenceIdeal : Cert.quiescent_ProductFoxDhRefIdeal (hProductFoxDhRefIdeal := Cert.ProductFoxDhRefIdeal.Gen.facts) :=
  fun m g _ => reference_frame (F := Ideal) m g

/-- The gradient of the attention's normalised input: on equal arguments the program and its reference leave equal results. -/
theorem value : Cert.algebraic_ProductFoxDhIdeal_ProductFoxDhRefIdeal (hProductFoxDhIdeal := Cert.ProductFoxDhIdeal.Gen.facts)
    (hProductFoxDhRefIdeal := Cert.ProductFoxDhRefIdeal.Gen.facts) :=
  fun m g m' g' _ h => ⟨_, kernel_run m g, (θ_run _ _ _).mono (fun r hr c => by
    obtain ⟨hx, hk⟩ := hr c
    obtain ⟨h0, h1⟩ := h c
    rw [h0, h1] at hx
    exact ⟨hx, hk⟩) (reference_run m' g')⟩

end Cert.Projection.FoxDh

end
-- ==== Proof.ProductSsdInValue.lean ====
/-
# The state space mixer's input projection

The program takes 1024 rows of the one matrix and 896 columns of the other at a time, and leaves their product.
-/
module

public import proofs.«01_k».proof.Defs
public import proofs.«01_k».proof.Proof.ProductLaw
public import proofs.«01_k».proof.Proof.Gen.ProductSsdIn
public import proofs.«01_k».proof.Proof.Gen.ProductSsdIn.Frame
public import proofs.«01_k».proof.Proof.Gen.ProductSsdInIdeal
public import proofs.«01_k».proof.Proof.Gen.ProductSsdInIdeal.Frame
public import proofs.«01_k».proof.Proof.Gen.ProductSsdInIdeal.Value
public import proofs.«01_k».proof.Proof.Gen.ProductSsdInRefIdeal
public import proofs.«01_k».proof.Proof.Gen.ProductSsdInRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Projection.SsdIn

open Idealize.ShloMosaic Idealize.ShloMosaic.TcCoe Idealize.SL.Sem

section Kernel

open Cert.ProductSsdInIdeal Cert.ProductSsdInIdeal.Gen
open Idealize.ShloMosaic.Pipeline (Dat)

/-- A step's product is added to what was there. -/
theorem block (old : Vec Ideal S1024x896 .f32) (x : Vec Ideal S1024x1024 .bf16) (y : Vec Ideal S1024x896 .bf16) :
    k0_pay2 old x y = fun j => old j + times (x : Matrix 1024 1024) (y : Matrix 1024 896) j := by
  funext i
  idx_vars i
  pointwise [k0_pay2]
  rfl

variable (m : (ℓ : Loc nD τ sig) → Buf (Elt Ideal) ℓ) (c : Dev nD)

/-- A point leaves its blocks' product. -/
theorem left (t : Fin cfg0.N) : outsAt0 m c t = times (iblk m c 0 t : Matrix 1024 1024) (iblk m c 1 t : Matrix 1024 896) := by
  unfold outsAt0
  frame_out
  refine (block _ _ _).trans (funext fun j => ?_)
  refine Eq.trans (congrArg (· + _) ?_) (zero_add _)
  pointwise [k0_pay1]

/-- Which blocks a point takes and leaves. -/
theorem maps : ∀ t : Fin cfg0.N, win0_0.index t = ![t.val / 7, 0] ∧ win0_1.index t = ![0, t.val % 7]
    ∧ win0_2.index t = ![t.val / 7, t.val % 7] :=
  (by decide +kernel : ∀ t : Fin grid0.N, _)

/-- An entry of a point's blocks in the whole matrices. -/
theorem entry_left (t : Fin cfg0.N) (i k : Fin 1024) (hi : t.val / 7 * 1024 + i.val < 8192) :
    (iblk m c 0 t : Matrix 1024 1024) (ix2 i k)
      = (m ((c : Thread nD τ).loc main_arg0) : Matrix 8192 1024) (ix2 ⟨t.val / 7 * 1024 + i.val, hi⟩ k) := by
  blk_ext [iblk, V, maps t]

theorem entry_right (t : Fin cfg0.N) (k : Fin 1024) (j : Fin 896) (hj : t.val % 7 * 896 + j.val < 6272) :
    (iblk m c 1 t : Matrix 1024 896) (ix2 k j)
      = (m ((c : Thread nD τ).loc main_arg1) : Matrix 1024 6272) (ix2 k ⟨t.val % 7 * 896 + j.val, hj⟩) := by
  blk_ext [iblk, V, maps t]

/-- The result after the run. -/
theorem array : (dats m 0 c).arrAt 2 cfg0.N
    = times (m ((c : Thread nD τ).loc main_arg0) : Matrix 8192 1024) (m ((c : Thread nD τ).loc main_arg1) : Matrix 1024 6272) := by
  refine (dats m 0 c).arrAt_eq_of_covers 2 _ (by decide +kernel) fun t hf y => ?_
  have hN : t.val < 56 := lt_of_lt_of_eq t.isLt N_0
  blk_simp
  change S1024x896.Idx at y
  obtain ⟨i, j, rfl⟩ : ∃ (i : Fin 1024) (j : Fin 896), y = ix2 i j := ⟨y 0, y 1, eq_ix2 y⟩
  have hz : (win0_2.blk t).view.emb (ix2 i j)
      = (ix2 ⟨t.val / 7 * 1024 + i.val, by omega⟩ ⟨t.val % 7 * 896 + j.val, by omega⟩ : S8192x6272.Idx) := by
    blk_ext [maps t]
  rw [after0_2, left, hz]
  unfold times
  exact Finset.sum_congr (M := EReal) rfl fun k _ => congrArg₂ (fun a b : EReal => a * b)
    (entry_left m c t i k (by (try dsimp only); omega)) (entry_right m c t k j (by (try dsimp only); omega))

/-- The run of the program. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = times (m ((c : Thread nD τ).loc main_arg0) : Matrix 8192 1024) (m ((c : Thread nD τ).loc main_arg1) : Matrix 1024 6272)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Value.run_blocks m ρ)

end Kernel

section Reference

open Cert.ProductSsdInRefIdeal Cert.ProductSsdInRefIdeal.Gen

/-- The run of the reference. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = times (m ((c.tc : Thread nD τ).loc main_arg0) : Matrix 8192 1024) (m ((c.tc : Thread nD τ).loc main_arg1) : Matrix 1024 6272)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  generalize m ((c.tc : Thread nD τ).loc main_arg0) = x
  generalize m ((c.tc : Thread nD τ).loc main_arg1) = y
  funext i
  idx_vars i
  pointwise
  rfl

end Reference

end Cert.Projection.SsdIn

end
-- ==== Proof.ProductSsdOutValue.lean ====
/-
# The state space mixer's output projection, with the residual

The program takes 1024 rows of the one matrix and all 1024 columns of the other at a time, and goes through the axis that it contracts in two steps of 1024. It adds each step's product to a block of sums, which leaves after the second, the residual's block added.
-/
module

public import proofs.«01_k».proof.Defs
public import proofs.«01_k».proof.Proof.ProductLaw
public import proofs.«01_k».proof.Proof.Gen.ProductSsdOut
public import proofs.«01_k».proof.Proof.Gen.ProductSsdOut.Frame
public import proofs.«01_k».proof.Proof.Gen.ProductSsdOutIdeal
public import proofs.«01_k».proof.Proof.Gen.ProductSsdOutIdeal.Frame
public import proofs.«01_k».proof.Proof.Gen.ProductSsdOutIdeal.Value
public import proofs.«01_k».proof.Proof.Gen.ProductSsdOutRefIdeal
public import proofs.«01_k».proof.Proof.Gen.ProductSsdOutRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Projection.SsdOut

open Idealize.ShloMosaic Idealize.ShloMosaic.TcCoe Idealize.SL.Sem

section Kernel

open Cert.ProductSsdOutIdeal Cert.ProductSsdOutIdeal.Gen
open Idealize.ShloMosaic.Pipeline (Dat)

/-- A step's product is added to what was there. -/
theorem block (old : Vec Ideal S1024x1024 .f32) (x : Vec Ideal S1024x1024 .bf16) (y : Vec Ideal S1024x1024 .bf16) :
    k0_pay2 old x y = fun j => old j + times (x : Matrix 1024 1024) (y : Matrix 1024 1024) j := by
  funext i
  idx_vars i
  pointwise [k0_pay2]
  rfl

/-- The sums leave with the residual's block added. -/
theorem block_residual (sums x : Vec Ideal S1024x1024 .f32) : k0_pay3 sums x = plus (x : Matrix 1024 1024) sums := by
  funext i
  idx_vars i
  pointwise [k0_pay3]
  exact add_comm _ _

variable (m : (ℓ : Loc nD τ sig) → Buf (Elt Ideal) ℓ) (c : Dev nD)

/-- The first step leaves its own product, -/
theorem left_first (t : Fin cfg0.N) (h0 : t.val % 2 = 0) :
    (outsAt0 m c t.val t.isLt).2 = fun j => 0 + times (iblk m c 0 t : Matrix 1024 1024) (iblk m c 1 t : Matrix 1024 1024) j := by
  rw [outsAt0_A m c t h0 (by omega)]
  frame_out
  refine (block _ _ _).trans (funext fun j => congrArg (· + _) ?_)
  pointwise [k0_pay1]

/-- a later step its product added to what was there. -/
theorem left_later (t : Fin cfg0.N) (h0 : ¬t.val % 2 = 0) :
    (outsAt0 m c t.val t.isLt).2 = fun j => (outsAt0 m c (t.val - 1) (Nat.lt_of_le_of_lt (Nat.sub_le _ _) t.isLt)).2 j
      + times (iblk m c 0 t : Matrix 1024 1024) (iblk m c 1 t : Matrix 1024 1024) j := by
  conv_lhs => rw [outsAt0_B m c t h0 (by omega)]
  frame_out
  simp only [read_unread_whole]
  exact block _ _ _

/-- The second step hands the sums on, with the residual's block. -/
theorem left_out (t : Fin cfg0.N) (h1 : t.val % 2 = 1) :
    (outsAt0 m c t.val t.isLt).1 = plus (iblk m c 2 t : Matrix 1024 1024) ((outsAt0 m c t.val t.isLt).2 : Matrix 1024 1024) := by
  rw [outsAt0_B m c t (by omega) h1]
  frame_out
  exact block_residual _ _

/-- The sums are then those of the two steps' products. -/
theorem left (t : Fin cfg0.N) (h1 : t.val % 2 = 1) (j : S1024x1024.Idx) :
    (outsAt0 m c t.val t.isLt).2 j = 0 + ∑ s : Fin 2, times
      (iblk m c 0 ⟨2 * (t.val / 2) + s.val, Pipeline.run_point_lt_of_flush t h1 s⟩ : Matrix 1024 1024)
      (iblk m c 1 ⟨2 * (t.val / 2) + s.val, Pipeline.run_point_lt_of_flush t h1 s⟩ : Matrix 1024 1024) j :=
  Pipeline.eq_sum_fin_of_reset_step_apply_of_flush (fun n h => (outsAt0 m c n h).2) 2 (fun _ => 0)
    (fun p => times (iblk m c 0 p : Matrix 1024 1024) (iblk m c 1 p : Matrix 1024 1024))
    (fun t h i => congrFun (left_first m c t h) i) (fun t h i => congrFun (left_later m c t h) i) t h1 j

/-- Which blocks a point takes and leaves. -/
theorem maps : ∀ t : Fin cfg0.N, win0_0.index t = ![t.val / 2, t.val % 2] ∧ win0_1.index t = ![t.val % 2, 0] ∧ win0_2.index t = ![t.val / 2, 0]
    ∧ win0_3.index t = ![t.val / 2, 0] :=
  (by decide +kernel : ∀ t : Fin grid0.N, _)

/-- An entry of a point's blocks in the whole matrices. -/
theorem entry_left (t : Fin cfg0.N) (i k : Fin 1024) (hi : t.val / 2 * 1024 + i.val < 8192) (hk : t.val % 2 * 1024 + k.val < 2048) :
    (iblk m c 0 t : Matrix 1024 1024) (ix2 i k)
      = (m ((c : Thread nD τ).loc main_arg0) : Matrix 8192 2048) (ix2 ⟨t.val / 2 * 1024 + i.val, hi⟩ ⟨t.val % 2 * 1024 + k.val, hk⟩) := by
  blk_ext [iblk, V, maps t]

theorem entry_right (t : Fin cfg0.N) (k j : Fin 1024) (hk : t.val % 2 * 1024 + k.val < 2048) :
    (iblk m c 1 t : Matrix 1024 1024) (ix2 k j)
      = (m ((c : Thread nD τ).loc main_arg1) : Matrix 2048 1024) (ix2 ⟨t.val % 2 * 1024 + k.val, hk⟩ j) := by
  blk_ext [iblk, V, maps t]

theorem entry_residual (t : Fin cfg0.N) (i j : Fin 1024) (hi : t.val / 2 * 1024 + i.val < 8192) :
    (iblk m c 2 t : Matrix 1024 1024) (ix2 i j)
      = (m ((c : Thread nD τ).loc main_arg2) : Matrix 8192 1024) (ix2 ⟨t.val / 2 * 1024 + i.val, hi⟩ j) := by
  blk_ext [iblk, V, maps t]

/-- The result after the run. -/
theorem array : (dats m 0 c).arrAt 3 cfg0.N
    = plus (m ((c : Thread nD τ).loc main_arg2) : Matrix 8192 1024) (times (m ((c : Thread nD τ).loc main_arg0) : Matrix 8192 2048) (m ((c : Thread nD τ).loc main_arg1) : Matrix 2048 1024)) := by
  refine (dats m 0 c).arrAt_eq_of_covers 3 _ (by decide +kernel) fun t hf y => ?_
  have hN : t.val < 16 := lt_of_lt_of_eq t.isLt N_0
  have h1 : t.val % 2 = 1 := (flush0_3 t).mp hf
  blk_simp
  change S1024x1024.Idx at y
  obtain ⟨i, j, rfl⟩ : ∃ (i : Fin 1024) (j : Fin 1024), y = ix2 i j := ⟨y 0, y 1, eq_ix2 y⟩
  have hz : (win0_3.blk t).view.emb (ix2 i j)
      = (ix2 ⟨t.val / 2 * 1024 + i.val, by omega⟩ j : S8192x1024.Idx) := by
    blk_ext [maps t]
  rw [after0_3, left_out m c t h1, hz]
  refine congrArg₂ (fun a b : EReal => a + b) (entry_residual m c t i j (by (try dsimp only); omega)) ?_
  refine (left m c t h1 (ix2 i j)).trans ((zero_add _).trans ?_)
  refine Fin.sum_mul_add_congr (L := 2048) (S := 2) (n := 1024) fun s k hl => ?_
  have hd : (2 * (t.val / 2) + s.val) / 2 = t.val / 2 := by omega
  have hm : (2 * (t.val / 2) + s.val) % 2 = s.val := by omega
  have hx := entry_left m c ⟨2 * (t.val / 2) + s.val, Pipeline.run_point_lt_of_flush t h1 s⟩ i k (by (try dsimp only); omega) (by (try dsimp only); omega)
  have hy := entry_right m c ⟨2 * (t.val / 2) + s.val, Pipeline.run_point_lt_of_flush t h1 s⟩ k j (by (try dsimp only); omega)
  simp only [hd, hm] at hx hy
  exact congrArg₂ (fun a b : EReal => a * b) hx hy

/-- The run of the program. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = plus (m ((c : Thread nD τ).loc main_arg2) : Matrix 8192 1024) (times (m ((c : Thread nD τ).loc main_arg0) : Matrix 8192 2048) (m ((c : Thread nD τ).loc main_arg1) : Matrix 2048 1024))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (array m c), (h c).2⟩) (Value.run_blocks m ρ)

end Kernel

section Reference

open Cert.ProductSsdOutRefIdeal Cert.ProductSsdOutRefIdeal.Gen

/-- The run of the reference. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = plus (m ((c.tc : Thread nD τ).loc main_arg2) : Matrix 8192 1024) (times (m ((c.tc : Thread nD τ).loc main_arg0) : Matrix 8192 2048) (m ((c.tc : Thread nD τ).loc main_arg1) : Matrix 2048 1024))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run m ρ)
  generalize m ((c.tc : Thread nD τ).loc main_arg0) = x
  generalize m ((c.tc : Thread nD τ).loc main_arg1) = y
  generalize m ((c.tc : Thread nD τ).loc main_arg2) = z
  funext i
  idx_vars i
  pointwise
  rfl

end Reference

end Cert.Projection.SsdOut

end
-- ==== Proof.ProductSsdDynValue.lean ====
/-
# The gradient of the state space mixer's normalised output

The program takes 1024 rows of the one matrix and 1024 rows of the other at a time, and leaves their product.
-/
module

public import proofs.«01_k».proof.Defs
public import proofs.«01_k».proof.Proof.ProductLaw
public import proofs.«01_k».proof.Proof.Gen.ProductSsdDyn
public import proofs.«01_k».proof.Proof.Gen.ProductSsdDyn.Frame
public import proofs.«01_k».proof.Proof.Gen.ProductSsdDynIdeal
public import proofs.«01_k».proof.Proof.Gen.ProductSsdDynIdeal.Frame
public import proofs.«01_k».proof.Proof.Gen.ProductSsdDynIdeal.Value
public import proofs.«01_k».proof.Proof.Gen.ProductSsdDynRefIdeal
public import proofs.«01_k».proof.Proof.Gen.ProductSsdDynRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Projection.SsdDyn

open Idealize.ShloMosaic Idealize.ShloMosaic.TcCoe Idealize.SL.Sem

section Kernel

open Cert.ProductSsdDynIdeal Cert.ProductSsdDynIdeal.Gen
open Idealize.ShloMosaic.Pipeline (Dat)

/-- A step's product is added to what was there. -/
theorem block (old : Vec Ideal S1024x1024 .f32) (x : Vec Ideal S1024x1024 .f32) (y : Vec Ideal S1024x1024 .bf16) :
    k0_pay2 old x y = fun j => old j + timesTransposed (x : Matrix 1024 1024) (y : Matrix 1024 1024) j := by
  funext i
  idx_vars i
  pointwise [k0_pay2]
  rfl

variable (m : (ℓ : Loc nD τ sig) → Buf (Elt Ideal) ℓ) (c : Dev nD)

/-- A point leaves its blocks' product. -/
theorem left (t : Fin cfg0.N) : outsAt0 m c t = timesTransposed (iblk m c 0 t : Matrix 1024 1024) (iblk m c 1 t : Matrix 1024 1024) := by
  unfold outsAt0
  frame_out
  refine (block _ _ _).trans (funext fun j => ?_)
  refine Eq.trans (congrArg (· + _) ?_) (zero_add _)
  pointwise [k0_pay1]

/-- Which blocks a point takes and leaves. -/
theorem maps : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- An entry of a point's blocks in the whole matrices. -/
theorem entry_left (t : Fin cfg0.N) (i k : Fin 1024) (hi : t.val / 2 * 1024 + i.val < 8192) :
    (iblk m c 0 t : Matrix 1024 1024) (ix2 i k)
      = (m ((c : Thread nD τ).loc main_arg0) : Matrix 8192 1024) (ix2 ⟨t.val / 2 * 1024 + i.val, hi⟩ k) := by
  blk_ext [iblk, V, maps t]

theorem entry_right (t : Fin cfg0.N) (j k : Fin 1024) (hj : t.val % 2 * 1024 + j.val < 2048) :
    (iblk m c 1 t : Matrix 1024 1024) (ix2 j k)
      = (m ((c : Thread nD τ).loc main_arg1) : Matrix 2048 1024) (ix2 ⟨t.val % 2 * 1024 + j.val, hj⟩ k) := by
  blk_ext [iblk, V, maps t]

/-- The result after the run. -/
theorem array : (dats m 0 c).arrAt 2 cfg0.N
    = timesTransposed (m ((c : Thread nD τ).loc main_arg0) : Matrix 8192 1024) (m ((c : Thread nD τ).loc main_arg1) : Matrix 2048 1024) := by
  refine (dats m 0 c).arrAt_eq_of_covers 2 _ (by decide +kernel) fun t hf y => ?_
  have hN : t.val < 16 := lt_of_lt_of_eq t.isLt N_0
  blk_simp
  change S1024x1024.Idx at y
  obtain ⟨i, j, rfl⟩ : ∃ (i : Fin 1024) (j : Fin 1024), y = ix2 i j := ⟨y 0, y 1, eq_ix2 y⟩
  have hz : (win0_2.blk t).view.emb (ix2 i j)
      = (ix2 ⟨t.val / 2 * 1024 + i.val, by omega⟩ ⟨t.val % 2 * 1024 + j.val, by omega⟩ : S8192x2048.Idx) := by
    blk_ext [maps t]
  rw [after0_2, left, hz]
  unfold timesTransposed
  exact Finset.sum_congr (M := EReal) rfl fun k _ => congrArg₂ (fun a b : EReal => a * b)
    (entry_left m c t i k (by (try dsimp only); omega)) (entry_right m c t j k (by (try dsimp only); omega))

/-- The run of the program. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = timesTransposed (m ((c : Thread nD τ).loc main_arg0) : Matrix 8192 1024) (m ((c : Thread nD τ).loc main_arg1) : Matrix 2048 1024)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Value.run_blocks m ρ)

end Kernel

section Reference

open Cert.ProductSsdDynRefIdeal Cert.ProductSsdDynRefIdeal.Gen

/-- The run of the reference. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = timesTransposed (m ((c.tc : Thread nD τ).loc main_arg0) : Matrix 8192 1024) (m ((c.tc : Thread nD τ).loc main_arg1) : Matrix 2048 1024)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  generalize m ((c.tc : Thread nD τ).loc main_arg0) = x
  generalize m ((c.tc : Thread nD τ).loc main_arg1) = y
  funext i
  idx_vars i
  pointwise
  rfl

end Reference

end Cert.Projection.SsdDyn

end
-- ==== Proof.ProductSsdGoutValue.lean ====
/-
# The gradient of the state space mixer's output weight

The program takes 1024 columns of the one matrix and all 1024 columns of the other at a time, and goes through the axis that it contracts in eight steps of 1024. It adds each step's product to a block of sums, which leaves after the eighth.
-/
module

public import proofs.«01_k».proof.Defs
public import proofs.«01_k».proof.Proof.ProductLaw
public import proofs.«01_k».proof.Proof.Gen.ProductSsdGout
public import proofs.«01_k».proof.Proof.Gen.ProductSsdGout.Frame
public import proofs.«01_k».proof.Proof.Gen.ProductSsdGoutIdeal
public import proofs.«01_k».proof.Proof.Gen.ProductSsdGoutIdeal.Frame
public import proofs.«01_k».proof.Proof.Gen.ProductSsdGoutIdeal.Value
public import proofs.«01_k».proof.Proof.Gen.ProductSsdGoutRefIdeal
public import proofs.«01_k».proof.Proof.Gen.ProductSsdGoutRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Projection.SsdGout

open Idealize.ShloMosaic Idealize.ShloMosaic.TcCoe Idealize.SL.Sem

section Kernel

open Cert.ProductSsdGoutIdeal Cert.ProductSsdGoutIdeal.Gen
open Idealize.ShloMosaic.Pipeline (Dat)

/-- A step's product is added to what was there. -/
theorem block (old : Vec Ideal S1024x1024 .f32) (x : Vec Ideal S1024x1024 .bf16) (y : Vec Ideal S1024x1024 .f32) :
    k0_pay2 old x y = fun j => old j + transposedTimes (x : Matrix 1024 1024) (y : Matrix 1024 1024) j := by
  funext i
  idx_vars i
  pointwise [k0_pay2]
  rfl

variable (m : (ℓ : Loc nD τ sig) → Buf (Elt Ideal) ℓ) (c : Dev nD)

/-- The first step leaves its own product, -/
theorem left_first (t : Fin cfg0.N) (h0 : t.val % 8 = 0) :
    (outsAt0 m c t.val t.isLt).2 = fun j => 0 + transposedTimes (iblk m c 0 t : Matrix 1024 1024) (iblk m c 1 t : Matrix 1024 1024) j := by
  rw [outsAt0_A m c t h0 (by omega)]
  frame_out
  refine (block _ _ _).trans (funext fun j => congrArg (· + _) ?_)
  pointwise [k0_pay1]

/-- a later step its product added to what was there. -/
theorem left_later (t : Fin cfg0.N) (h0 : ¬t.val % 8 = 0) :
    (outsAt0 m c t.val t.isLt).2 = fun j => (outsAt0 m c (t.val - 1) (Nat.lt_of_le_of_lt (Nat.sub_le _ _) t.isLt)).2 j
      + transposedTimes (iblk m c 0 t : Matrix 1024 1024) (iblk m c 1 t : Matrix 1024 1024) j := by
  by_cases h1 : t.val % 8 = 7
  · conv_lhs => rw [outsAt0_C m c t h0 h1]
    frame_out
    simp only [read_unread_whole]
    exact block _ _ _
  · conv_lhs => rw [outsAt0_B m c t h0 h1]
    frame_out
    simp only [read_unread_whole]
    exact block _ _ _

/-- The eighth step hands the sums on. -/
theorem left_out (t : Fin cfg0.N) (h1 : t.val % 8 = 7) : (outsAt0 m c t.val t.isLt).1 = (outsAt0 m c t.val t.isLt).2 := by
  rw [outsAt0_C m c t (by omega) h1]
  frame_out

/-- The sums are then those of the eight steps' products. -/
theorem left (t : Fin cfg0.N) (h1 : t.val % 8 = 7) (j : S1024x1024.Idx) :
    (outsAt0 m c t.val t.isLt).2 j = 0 + ∑ s : Fin 8, transposedTimes
      (iblk m c 0 ⟨8 * (t.val / 8) + s.val, Pipeline.run_point_lt_of_flush t h1 s⟩ : Matrix 1024 1024)
      (iblk m c 1 ⟨8 * (t.val / 8) + s.val, Pipeline.run_point_lt_of_flush t h1 s⟩ : Matrix 1024 1024) j :=
  Pipeline.eq_sum_fin_of_reset_step_apply_of_flush (fun n h => (outsAt0 m c n h).2) 8 (fun _ => 0)
    (fun p => transposedTimes (iblk m c 0 p : Matrix 1024 1024) (iblk m c 1 p : Matrix 1024 1024))
    (fun t h i => congrFun (left_first m c t h) i) (fun t h i => congrFun (left_later m c t h) i) t h1 j

/-- Which blocks a point takes and leaves. -/
theorem maps : ∀ t : Fin cfg0.N, win0_0.index t = ![t.val % 8, t.val / 8] ∧ win0_1.index t = ![t.val % 8, 0]
    ∧ win0_2.index t = ![t.val / 8, 0] :=
  (by decide +kernel : ∀ t : Fin grid0.N, _)

/-- An entry of a point's blocks in the whole matrices. -/
theorem entry_left (t : Fin cfg0.N) (k i : Fin 1024) (hk : t.val % 8 * 1024 + k.val < 8192) (hi : t.val / 8 * 1024 + i.val < 2048) :
    (iblk m c 0 t : Matrix 1024 1024) (ix2 k i)
      = (m ((c : Thread nD τ).loc main_arg0) : Matrix 8192 2048) (ix2 ⟨t.val % 8 * 1024 + k.val, hk⟩ ⟨t.val / 8 * 1024 + i.val, hi⟩) := by
  blk_ext [iblk, V, maps t]

theorem entry_right (t : Fin cfg0.N) (k j : Fin 1024) (hk : t.val % 8 * 1024 + k.val < 8192) :
    (iblk m c 1 t : Matrix 1024 1024) (ix2 k j)
      = (m ((c : Thread nD τ).loc main_arg1) : Matrix 8192 1024) (ix2 ⟨t.val % 8 * 1024 + k.val, hk⟩ j) := by
  blk_ext [iblk, V, maps t]

/-- The result after the run. -/
theorem array : (dats m 0 c).arrAt 2 cfg0.N
    = transposedTimes (m ((c : Thread nD τ).loc main_arg0) : Matrix 8192 2048) (m ((c : Thread nD τ).loc main_arg1) : Matrix 8192 1024) := by
  refine (dats m 0 c).arrAt_eq_of_covers 2 _ (by decide +kernel) fun t hf y => ?_
  have hN : t.val < 16 := lt_of_lt_of_eq t.isLt N_0
  have h1 : t.val % 8 = 7 := (flush0_2 t).mp hf
  blk_simp
  change S1024x1024.Idx at y
  obtain ⟨i, j, rfl⟩ : ∃ (i : Fin 1024) (j : Fin 1024), y = ix2 i j := ⟨y 0, y 1, eq_ix2 y⟩
  have hz : (win0_2.blk t).view.emb (ix2 i j)
      = (ix2 ⟨t.val / 8 * 1024 + i.val, by omega⟩ j : S2048x1024.Idx) := by
    blk_ext [maps t]
  rw [after0_2, left_out m c t h1, hz]
  refine (left m c t h1 (ix2 i j)).trans ((zero_add _).trans ?_)
  refine Fin.sum_mul_add_congr (L := 8192) (S := 8) (n := 1024) fun s k hl => ?_
  have hd : (8 * (t.val / 8) + s.val) / 8 = t.val / 8 := by omega
  have hm : (8 * (t.val / 8) + s.val) % 8 = s.val := by omega
  have hx := entry_left m c ⟨8 * (t.val / 8) + s.val, Pipeline.run_point_lt_of_flush t h1 s⟩ k i (by (try dsimp only); omega) (by (try dsimp only); omega)
  have hy := entry_right m c ⟨8 * (t.val / 8) + s.val, Pipeline.run_point_lt_of_flush t h1 s⟩ k j (by (try dsimp only); omega)
  simp only [hd, hm] at hx hy
  exact congrArg₂ (fun a b : EReal => a * b) hx hy

/-- The run of the program. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = transposedTimes (m ((c : Thread nD τ).loc main_arg0) : Matrix 8192 2048) (m ((c : Thread nD τ).loc main_arg1) : Matrix 8192 1024)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Value.run_blocks m ρ)

end Kernel

section Reference

open Cert.ProductSsdGoutRefIdeal Cert.ProductSsdGoutRefIdeal.Gen

/-- The run of the reference. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = transposedTimes (m ((c.tc : Thread nD τ).loc main_arg0) : Matrix 8192 2048) (m ((c.tc : Thread nD τ).loc main_arg1) : Matrix 8192 1024)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  generalize m ((c.tc : Thread nD τ).loc main_arg0) = x
  generalize m ((c.tc : Thread nD τ).loc main_arg1) = y
  funext i
  idx_vars i
  pointwise
  exact Finset.sum_congr rfl fun k _ => mul_comm _ _

end Reference

end Cert.Projection.SsdGout

end
-- ==== Proof.ProductSsdGinValue.lean ====
/-
# The gradient of the state space mixer's input weight

The program takes all 1024 columns of the one matrix and 896 columns of the other at a time, and goes through the axis that it contracts in eight steps of 1024. It adds each step's product to a block of sums, which leaves after the eighth.
-/
module

public import proofs.«01_k».proof.Defs
public import proofs.«01_k».proof.Proof.ProductLaw
public import proofs.«01_k».proof.Proof.Gen.ProductSsdGin
public import proofs.«01_k».proof.Proof.Gen.ProductSsdGin.Frame
public import proofs.«01_k».proof.Proof.Gen.ProductSsdGinIdeal
public import proofs.«01_k».proof.Proof.Gen.ProductSsdGinIdeal.Frame
public import proofs.«01_k».proof.Proof.Gen.ProductSsdGinIdeal.Value
public import proofs.«01_k».proof.Proof.Gen.ProductSsdGinRefIdeal
public import proofs.«01_k».proof.Proof.Gen.ProductSsdGinRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Projection.SsdGin

open Idealize.ShloMosaic Idealize.ShloMosaic.TcCoe Idealize.SL.Sem

section Kernel

open Cert.ProductSsdGinIdeal Cert.ProductSsdGinIdeal.Gen
open Idealize.ShloMosaic.Pipeline (Dat)

/-- A step's product is added to what was there. -/
theorem block (old : Vec Ideal S1024x896 .f32) (x : Vec Ideal S1024x1024 .bf16) (y : Vec Ideal S1024x896 .bf16) :
    k0_pay2 old x y = fun j => old j + transposedTimes (x : Matrix 1024 1024) (y : Matrix 1024 896) j := by
  funext i
  idx_vars i
  pointwise [k0_pay2]
  rfl

variable (m : (ℓ : Loc nD τ sig) → Buf (Elt Ideal) ℓ) (c : Dev nD)

/-- The first step leaves its own product, -/
theorem left_first (t : Fin cfg0.N) (h0 : t.val % 8 = 0) :
    (outsAt0 m c t.val t.isLt).2 = fun j => 0 + transposedTimes (iblk m c 0 t : Matrix 1024 1024) (iblk m c 1 t : Matrix 1024 896) j := by
  rw [outsAt0_A m c t h0 (by omega)]
  frame_out
  refine (block _ _ _).trans (funext fun j => congrArg (· + _) ?_)
  pointwise [k0_pay1]

/-- a later step its product added to what was there. -/
theorem left_later (t : Fin cfg0.N) (h0 : ¬t.val % 8 = 0) :
    (outsAt0 m c t.val t.isLt).2 = fun j => (outsAt0 m c (t.val - 1) (Nat.lt_of_le_of_lt (Nat.sub_le _ _) t.isLt)).2 j
      + transposedTimes (iblk m c 0 t : Matrix 1024 1024) (iblk m c 1 t : Matrix 1024 896) j := by
  by_cases h1 : t.val % 8 = 7
  · conv_lhs => rw [outsAt0_C m c t h0 h1]
    frame_out
    simp only [read_unread_whole]
    exact block _ _ _
  · conv_lhs => rw [outsAt0_B m c t h0 h1]
    frame_out
    simp only [read_unread_whole]
    exact block _ _ _

/-- The eighth step hands the sums on. -/
theorem left_out (t : Fin cfg0.N) (h1 : t.val % 8 = 7) : (outsAt0 m c t.val t.isLt).1 = (outsAt0 m c t.val t.isLt).2 := by
  rw [outsAt0_C m c t (by omega) h1]
  frame_out

/-- The sums are then those of the eight steps' products. -/
theorem left (t : Fin cfg0.N) (h1 : t.val % 8 = 7) (j : S1024x896.Idx) :
    (outsAt0 m c t.val t.isLt).2 j = 0 + ∑ s : Fin 8, transposedTimes
      (iblk m c 0 ⟨8 * (t.val / 8) + s.val, Pipeline.run_point_lt_of_flush t h1 s⟩ : Matrix 1024 1024)
      (iblk m c 1 ⟨8 * (t.val / 8) + s.val, Pipeline.run_point_lt_of_flush t h1 s⟩ : Matrix 1024 896) j :=
  Pipeline.eq_sum_fin_of_reset_step_apply_of_flush (fun n h => (outsAt0 m c n h).2) 8 (fun _ => 0)
    (fun p => transposedTimes (iblk m c 0 p : Matrix 1024 1024) (iblk m c 1 p : Matrix 1024 896))
    (fun t h i => congrFun (left_first m c t h) i) (fun t h i => congrFun (left_later m c t h) i) t h1 j

/-- Which blocks a point takes and leaves. -/
theorem maps : ∀ t : Fin cfg0.N, win0_0.index t = ![t.val % 8, 0] ∧ win0_1.index t = ![t.val % 8, t.val / 8]
    ∧ win0_2.index t = ![0, t.val / 8] :=
  (by decide +kernel : ∀ t : Fin grid0.N, _)

/-- An entry of a point's blocks in the whole matrices. -/
theorem entry_left (t : Fin cfg0.N) (k i : Fin 1024) (hk : t.val % 8 * 1024 + k.val < 8192) :
    (iblk m c 0 t : Matrix 1024 1024) (ix2 k i)
      = (m ((c : Thread nD τ).loc main_arg0) : Matrix 8192 1024) (ix2 ⟨t.val % 8 * 1024 + k.val, hk⟩ i) := by
  blk_ext [iblk, V, maps t]

theorem entry_right (t : Fin cfg0.N) (k : Fin 1024) (j : Fin 896) (hk : t.val % 8 * 1024 + k.val < 8192) (hj : t.val / 8 * 896 + j.val < 6272) :
    (iblk m c 1 t : Matrix 1024 896) (ix2 k j)
      = (m ((c : Thread nD τ).loc main_arg1) : Matrix 8192 6272) (ix2 ⟨t.val % 8 * 1024 + k.val, hk⟩ ⟨t.val / 8 * 896 + j.val, hj⟩) := by
  blk_ext [iblk, V, maps t]

/-- The result after the run. -/
theorem array : (dats m 0 c).arrAt 2 cfg0.N
    = transposedTimes (m ((c : Thread nD τ).loc main_arg0) : Matrix 8192 1024) (m ((c : Thread nD τ).loc main_arg1) : Matrix 8192 6272) := by
  refine (dats m 0 c).arrAt_eq_of_covers 2 _ (by decide +kernel) fun t hf y => ?_
  have hN : t.val < 56 := lt_of_lt_of_eq t.isLt N_0
  have h1 : t.val % 8 = 7 := (flush0_2 t).mp hf
  blk_simp
  change S1024x896.Idx at y
  obtain ⟨i, j, rfl⟩ : ∃ (i : Fin 1024) (j : Fin 896), y = ix2 i j := ⟨y 0, y 1, eq_ix2 y⟩
  have hz : (win0_2.blk t).view.emb (ix2 i j)
      = (ix2 i ⟨t.val / 8 * 896 + j.val, by omega⟩ : S1024x6272.Idx) := by
    blk_ext [maps t]
  rw [after0_2, left_out m c t h1, hz]
  refine (left m c t h1 (ix2 i j)).trans ((zero_add _).trans ?_)
  refine Fin.sum_mul_add_congr (L := 8192) (S := 8) (n := 1024) fun s k hl => ?_
  have hd : (8 * (t.val / 8) + s.val) / 8 = t.val / 8 := by omega
  have hm : (8 * (t.val / 8) + s.val) % 8 = s.val := by omega
  have hx := entry_left m c ⟨8 * (t.val / 8) + s.val, Pipeline.run_point_lt_of_flush t h1 s⟩ k i (by (try dsimp only); omega)
  have hy := entry_right m c ⟨8 * (t.val / 8) + s.val, Pipeline.run_point_lt_of_flush t h1 s⟩ k j (by (try dsimp only); omega) (by (try dsimp only); omega)
  simp only [hd, hm] at hx hy
  exact congrArg₂ (fun a b : EReal => a * b) hx hy

/-- The run of the program. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = transposedTimes (m ((c : Thread nD τ).loc main_arg0) : Matrix 8192 1024) (m ((c : Thread nD τ).loc main_arg1) : Matrix 8192 6272)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Value.run_blocks m ρ)

end Kernel

section Reference

open Cert.ProductSsdGinRefIdeal Cert.ProductSsdGinRefIdeal.Gen

/-- The run of the reference. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = transposedTimes (m ((c.tc : Thread nD τ).loc main_arg0) : Matrix 8192 1024) (m ((c.tc : Thread nD τ).loc main_arg1) : Matrix 8192 6272)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  generalize m ((c.tc : Thread nD τ).loc main_arg0) = x
  generalize m ((c.tc : Thread nD τ).loc main_arg1) = y
  funext i
  idx_vars i
  pointwise
  exact Finset.sum_congr rfl fun k _ => mul_comm _ _

end Reference

end Cert.Projection.SsdGin

end
-- ==== Proof.ProductSsdDhValue.lean ====
/-
# The gradient of the state space mixer's normalised input

The program takes 1024 rows of the one matrix and all 1024 rows of the other at a time, and goes through the axis that it contracts in seven steps of 896. It adds each step's product to a block of sums, which leaves after the seventh.
-/
module

public import proofs.«01_k».proof.Defs
public import proofs.«01_k».proof.Proof.ProductLaw
public import proofs.«01_k».proof.Proof.Gen.ProductSsdDh
public import proofs.«01_k».proof.Proof.Gen.ProductSsdDh.Frame
public import proofs.«01_k».proof.Proof.Gen.ProductSsdDhIdeal
public import proofs.«01_k».proof.Proof.Gen.ProductSsdDhIdeal.Frame
public import proofs.«01_k».proof.Proof.Gen.ProductSsdDhIdeal.Value
public import proofs.«01_k».proof.Proof.Gen.ProductSsdDhRefIdeal
public import proofs.«01_k».proof.Proof.Gen.ProductSsdDhRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Projection.SsdDh

open Idealize.ShloMosaic Idealize.ShloMosaic.TcCoe Idealize.SL.Sem

section Kernel

open Cert.ProductSsdDhIdeal Cert.ProductSsdDhIdeal.Gen
open Idealize.ShloMosaic.Pipeline (Dat)

/-- A step's product is added to what was there. -/
theorem block (old : Vec Ideal S1024x1024 .f32) (x : Vec Ideal S1024x896 .bf16) (y : Vec Ideal S1024x896 .bf16) :
    k0_pay2 old x y = fun j => old j + timesTransposed (x : Matrix 1024 896) (y : Matrix 1024 896) j := by
  funext i
  idx_vars i
  pointwise [k0_pay2]
  rfl

variable (m : (ℓ : Loc nD τ sig) → Buf (Elt Ideal) ℓ) (c : Dev nD)

/-- The first step leaves its own product, -/
theorem left_first (t : Fin cfg0.N) (h0 : t.val % 7 = 0) :
    (outsAt0 m c t.val t.isLt).2 = fun j => 0 + timesTransposed (iblk m c 0 t : Matrix 1024 896) (iblk m c 1 t : Matrix 1024 896) j := by
  rw [outsAt0_A m c t h0 (by omega)]
  frame_out
  refine (block _ _ _).trans (funext fun j => congrArg (· + _) ?_)
  pointwise [k0_pay1]

/-- a later step its product added to what was there. -/
theorem left_later (t : Fin cfg0.N) (h0 : ¬t.val % 7 = 0) :
    (outsAt0 m c t.val t.isLt).2 = fun j => (outsAt0 m c (t.val - 1) (Nat.lt_of_le_of_lt (Nat.sub_le _ _) t.isLt)).2 j
      + timesTransposed (iblk m c 0 t : Matrix 1024 896) (iblk m c 1 t : Matrix 1024 896) j := by
  by_cases h1 : t.val % 7 = 6
  · conv_lhs => rw [outsAt0_C m c t h0 h1]
    frame_out
    simp only [read_unread_whole]
    exact block _ _ _
  · conv_lhs => rw [outsAt0_B m c t h0 h1]
    frame_out
    simp only [read_unread_whole]
    exact block _ _ _

/-- The seventh step hands the sums on. -/
theorem left_out (t : Fin cfg0.N) (h1 : t.val % 7 = 6) : (outsAt0 m c t.val t.isLt).1 = (outsAt0 m c t.val t.isLt).2 := by
  rw [outsAt0_C m c t (by omega) h1]
  frame_out

/-- The sums are then those of the seven steps' products. -/
theorem left (t : Fin cfg0.N) (h1 : t.val % 7 = 6) (j : S1024x1024.Idx) :
    (outsAt0 m c t.val t.isLt).2 j = 0 + ∑ s : Fin 7, timesTransposed
      (iblk m c 0 ⟨7 * (t.val / 7) + s.val, Pipeline.run_point_lt_of_flush t h1 s⟩ : Matrix 1024 896)
      (iblk m c 1 ⟨7 * (t.val / 7) + s.val, Pipeline.run_point_lt_of_flush t h1 s⟩ : Matrix 1024 896) j :=
  Pipeline.eq_sum_fin_of_reset_step_apply_of_flush (fun n h => (outsAt0 m c n h).2) 7 (fun _ => 0)
    (fun p => timesTransposed (iblk m c 0 p : Matrix 1024 896) (iblk m c 1 p : Matrix 1024 896))
    (fun t h i => congrFun (left_first m c t h) i) (fun t h i => congrFun (left_later m c t h) i) t h1 j

/-- Which blocks a point takes and leaves. -/
theorem maps : ∀ t : Fin cfg0.N, win0_0.index t = ![t.val / 7, t.val % 7] ∧ win0_1.index t = ![0, t.val % 7]
    ∧ win0_2.index t = ![t.val / 7, 0] :=
  (by decide +kernel : ∀ t : Fin grid0.N, _)

/-- An entry of a point's blocks in the whole matrices. -/
theorem entry_left (t : Fin cfg0.N) (i : Fin 1024) (k : Fin 896) (hi : t.val / 7 * 1024 + i.val < 8192) (hk : t.val % 7 * 896 + k.val < 6272) :
    (iblk m c 0 t : Matrix 1024 896) (ix2 i k)
      = (m ((c : Thread nD τ).loc main_arg0) : Matrix 8192 6272) (ix2 ⟨t.val / 7 * 1024 + i.val, hi⟩ ⟨t.val % 7 * 896 + k.val, hk⟩) := by
  blk_ext [iblk, V, maps t]

theorem entry_right (t : Fin cfg0.N) (j : Fin 1024) (k : Fin 896) (hk : t.val % 7 * 896 + k.val < 6272) :
    (iblk m c 1 t : Matrix 1024 896) (ix2 j k)
      = (m ((c : Thread nD τ).loc main_arg1) : Matrix 1024 6272) (ix2 j ⟨t.val % 7 * 896 + k.val, hk⟩) := by
  blk_ext [iblk, V, maps t]

/-- The result after the run. -/
theorem array : (dats m 0 c).arrAt 2 cfg0.N
    = timesTransposed (m ((c : Thread nD τ).loc main_arg0) : Matrix 8192 6272) (m ((c : Thread nD τ).loc main_arg1) : Matrix 1024 6272) := by
  refine (dats m 0 c).arrAt_eq_of_covers 2 _ (by decide +kernel) fun t hf y => ?_
  have hN : t.val < 56 := lt_of_lt_of_eq t.isLt N_0
  have h1 : t.val % 7 = 6 := (flush0_2 t).mp hf
  blk_simp
  change S1024x1024.Idx at y
  obtain ⟨i, j, rfl⟩ : ∃ (i : Fin 1024) (j : Fin 1024), y = ix2 i j := ⟨y 0, y 1, eq_ix2 y⟩
  have hz : (win0_2.blk t).view.emb (ix2 i j)
      = (ix2 ⟨t.val / 7 * 1024 + i.val, by omega⟩ j : S8192x1024.Idx) := by
    blk_ext [maps t]
  rw [after0_2, left_out m c t h1, hz]
  refine (left m c t h1 (ix2 i j)).trans ((zero_add _).trans ?_)
  refine Fin.sum_mul_add_congr (L := 6272) (S := 7) (n := 896) fun s k hl => ?_
  have hd : (7 * (t.val / 7) + s.val) / 7 = t.val / 7 := by omega
  have hm : (7 * (t.val / 7) + s.val) % 7 = s.val := by omega
  have hx := entry_left m c ⟨7 * (t.val / 7) + s.val, Pipeline.run_point_lt_of_flush t h1 s⟩ i k (by (try dsimp only); omega) (by (try dsimp only); omega)
  have hy := entry_right m c ⟨7 * (t.val / 7) + s.val, Pipeline.run_point_lt_of_flush t h1 s⟩ j k (by (try dsimp only); omega)
  simp only [hd, hm] at hx hy
  exact congrArg₂ (fun a b : EReal => a * b) hx hy

/-- The run of the program. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = timesTransposed (m ((c : Thread nD τ).loc main_arg0) : Matrix 8192 6272) (m ((c : Thread nD τ).loc main_arg1) : Matrix 1024 6272)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Value.run_blocks m ρ)

end Kernel

section Reference

open Cert.ProductSsdDhRefIdeal Cert.ProductSsdDhRefIdeal.Gen

/-- The run of the reference. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = timesTransposed (m ((c.tc : Thread nD τ).loc main_arg0) : Matrix 8192 6272) (m ((c.tc : Thread nD τ).loc main_arg1) : Matrix 1024 6272)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  generalize m ((c.tc : Thread nD τ).loc main_arg0) = x
  generalize m ((c.tc : Thread nD τ).loc main_arg1) = y
  funext i
  idx_vars i
  pointwise
  rfl

end Reference

end Cert.Projection.SsdDh

end
-- ==== Proof.ProductsSsd.lean ====
/-
# The products of the state space mixer and their references agree

Each program, by blocks of rows and columns, and its reference, on the whole matrices, leave the same product.
-/
module

public import proofs.«01_k».proof.Defs
public import proofs.«01_k».proof.Proof.ProductSsdInValue
public import proofs.«01_k».proof.Proof.Gen.ProductSsdInRef
public import proofs.«01_k».proof.Proof.ProductSsdOutValue
public import proofs.«01_k».proof.Proof.Gen.ProductSsdOutRef
public import proofs.«01_k».proof.Proof.ProductSsdDynValue
public import proofs.«01_k».proof.Proof.Gen.ProductSsdDynRef
public import proofs.«01_k».proof.Proof.ProductSsdGoutValue
public import proofs.«01_k».proof.Proof.Gen.ProductSsdGoutRef
public import proofs.«01_k».proof.Proof.ProductSsdGinValue
public import proofs.«01_k».proof.Proof.Gen.ProductSsdGinRef
public import proofs.«01_k».proof.Proof.ProductSsdDhValue
public import proofs.«01_k».proof.Proof.Gen.ProductSsdDhRef

@[expose] public section

noncomputable section

open Idealize.ShloMosaic Idealize.ShloMosaic.TcCoe Idealize.SL.Sem

namespace Cert.Projection.SsdIn

open Cert.ProductSsdInRefIdeal Cert.ProductSsdInRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c => (h c).2, sem_eq_zero_of_no_sems (by decide) r.2⟩) (Cert.ProductSsdInRefIdeal.Value.run m g)

theorem frame_kernel : Cert.quiescent_ProductSsdIn (hProductSsdIn := Cert.ProductSsdIn.Gen.facts) := fun m g _ => Cert.ProductSsdIn.Gen.frame m g
theorem frame_kernelIdeal : Cert.quiescent_ProductSsdInIdeal (hProductSsdInIdeal := Cert.ProductSsdInIdeal.Gen.facts) := fun m g _ => Cert.ProductSsdInIdeal.Gen.frame m g
theorem frame_reference : Cert.quiescent_ProductSsdInRef (hProductSsdInRef := Cert.ProductSsdInRef.Gen.facts) := fun m g _ => reference_frame (F := Bits) m g
theorem frame_referenceIdeal : Cert.quiescent_ProductSsdInRefIdeal (hProductSsdInRefIdeal := Cert.ProductSsdInRefIdeal.Gen.facts) :=
  fun m g _ => reference_frame (F := Ideal) m g

/-- The state space mixer's input projection: on equal arguments the program and its reference leave equal results. -/
theorem value : Cert.algebraic_ProductSsdInIdeal_ProductSsdInRefIdeal (hProductSsdInIdeal := Cert.ProductSsdInIdeal.Gen.facts)
    (hProductSsdInRefIdeal := Cert.ProductSsdInRefIdeal.Gen.facts) :=
  fun m g m' g' _ h => ⟨_, kernel_run m g, (θ_run _ _ _).mono (fun r hr c => by
    obtain ⟨hx, hk⟩ := hr c
    obtain ⟨h0, h1⟩ := h c
    rw [h0, h1] at hx
    exact ⟨hx, hk⟩) (reference_run m' g')⟩

end Cert.Projection.SsdIn

namespace Cert.Projection.SsdOut

open Cert.ProductSsdOutRefIdeal Cert.ProductSsdOutRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run _ _ _).mono (fun r h => ⟨fun c => (h c).2, sem_eq_zero_of_no_sems (by decide) r.2⟩) (Cert.ProductSsdOutRefIdeal.Value.run m g)

theorem frame_kernel : Cert.quiescent_ProductSsdOut (hProductSsdOut := Cert.ProductSsdOut.Gen.facts) := fun m g _ => Cert.ProductSsdOut.Gen.frame m g
theorem frame_kernelIdeal : Cert.quiescent_ProductSsdOutIdeal (hProductSsdOutIdeal := Cert.ProductSsdOutIdeal.Gen.facts) := fun m g _ => Cert.ProductSsdOutIdeal.Gen.frame m g
theorem frame_reference : Cert.quiescent_ProductSsdOutRef (hProductSsdOutRef := Cert.ProductSsdOutRef.Gen.facts) := fun m g _ => reference_frame (F := Bits) m g
theorem frame_referenceIdeal : Cert.quiescent_ProductSsdOutRefIdeal (hProductSsdOutRefIdeal := Cert.ProductSsdOutRefIdeal.Gen.facts) :=
  fun m g _ => reference_frame (F := Ideal) m g

/-- The state space mixer's output projection, with the residual: on equal arguments the program and its reference leave equal results. -/
theorem value : Cert.algebraic_ProductSsdOutIdeal_ProductSsdOutRefIdeal (hProductSsdOutIdeal := Cert.ProductSsdOutIdeal.Gen.facts)
    (hProductSsdOutRefIdeal := Cert.ProductSsdOutRefIdeal.Gen.facts) :=
  fun m g m' g' _ h => ⟨_, kernel_run m g, (θ_run _ _ _).mono (fun r hr c => by
    obtain ⟨hx, hk⟩ := hr c
    obtain ⟨h0, h1, h2⟩ := h c
    rw [h0, h1, h2] at hx
    exact ⟨hx, hk⟩) (reference_run m' g')⟩

end Cert.Projection.SsdOut

namespace Cert.Projection.SsdDyn

open Cert.ProductSsdDynRefIdeal Cert.ProductSsdDynRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c => (h c).2, sem_eq_zero_of_no_sems (by decide) r.2⟩) (Cert.ProductSsdDynRefIdeal.Value.run m g)

theorem frame_kernel : Cert.quiescent_ProductSsdDyn (hProductSsdDyn := Cert.ProductSsdDyn.Gen.facts) := fun m g _ => Cert.ProductSsdDyn.Gen.frame m g
theorem frame_kernelIdeal : Cert.quiescent_ProductSsdDynIdeal (hProductSsdDynIdeal := Cert.ProductSsdDynIdeal.Gen.facts) := fun m g _ => Cert.ProductSsdDynIdeal.Gen.frame m g
theorem frame_reference : Cert.quiescent_ProductSsdDynRef (hProductSsdDynRef := Cert.ProductSsdDynRef.Gen.facts) := fun m g _ => reference_frame (F := Bits) m g
theorem frame_referenceIdeal : Cert.quiescent_ProductSsdDynRefIdeal (hProductSsdDynRefIdeal := Cert.ProductSsdDynRefIdeal.Gen.facts) :=
  fun m g _ => reference_frame (F := Ideal) m g

/-- The gradient of the state space mixer's normalised output: on equal arguments the program and its reference leave equal results. -/
theorem value : Cert.algebraic_ProductSsdDynIdeal_ProductSsdDynRefIdeal (hProductSsdDynIdeal := Cert.ProductSsdDynIdeal.Gen.facts)
    (hProductSsdDynRefIdeal := Cert.ProductSsdDynRefIdeal.Gen.facts) :=
  fun m g m' g' _ h => ⟨_, kernel_run m g, (θ_run _ _ _).mono (fun r hr c => by
    obtain ⟨hx, hk⟩ := hr c
    obtain ⟨h0, h1⟩ := h c
    rw [h0, h1] at hx
    exact ⟨hx, hk⟩) (reference_run m' g')⟩

end Cert.Projection.SsdDyn

namespace Cert.Projection.SsdGout

open Cert.ProductSsdGoutRefIdeal Cert.ProductSsdGoutRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c => (h c).2, sem_eq_zero_of_no_sems (by decide) r.2⟩) (Cert.ProductSsdGoutRefIdeal.Value.run m g)

theorem frame_kernel : Cert.quiescent_ProductSsdGout (hProductSsdGout := Cert.ProductSsdGout.Gen.facts) := fun m g _ => Cert.ProductSsdGout.Gen.frame m g
theorem frame_kernelIdeal : Cert.quiescent_ProductSsdGoutIdeal (hProductSsdGoutIdeal := Cert.ProductSsdGoutIdeal.Gen.facts) := fun m g _ => Cert.ProductSsdGoutIdeal.Gen.frame m g
theorem frame_reference : Cert.quiescent_ProductSsdGoutRef (hProductSsdGoutRef := Cert.ProductSsdGoutRef.Gen.facts) := fun m g _ => reference_frame (F := Bits) m g
theorem frame_referenceIdeal : Cert.quiescent_ProductSsdGoutRefIdeal (hProductSsdGoutRefIdeal := Cert.ProductSsdGoutRefIdeal.Gen.facts) :=
  fun m g _ => reference_frame (F := Ideal) m g

/-- The gradient of the state space mixer's output weight: on equal arguments the program and its reference leave equal results. -/
theorem value : Cert.algebraic_ProductSsdGoutIdeal_ProductSsdGoutRefIdeal (hProductSsdGoutIdeal := Cert.ProductSsdGoutIdeal.Gen.facts)
    (hProductSsdGoutRefIdeal := Cert.ProductSsdGoutRefIdeal.Gen.facts) :=
  fun m g m' g' _ h => ⟨_, kernel_run m g, (θ_run _ _ _).mono (fun r hr c => by
    obtain ⟨hx, hk⟩ := hr c
    obtain ⟨h0, h1⟩ := h c
    rw [h0, h1] at hx
    exact ⟨hx, hk⟩) (reference_run m' g')⟩

end Cert.Projection.SsdGout

namespace Cert.Projection.SsdGin

open Cert.ProductSsdGinRefIdeal Cert.ProductSsdGinRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c => (h c).2, sem_eq_zero_of_no_sems (by decide) r.2⟩) (Cert.ProductSsdGinRefIdeal.Value.run m g)

theorem frame_kernel : Cert.quiescent_ProductSsdGin (hProductSsdGin := Cert.ProductSsdGin.Gen.facts) := fun m g _ => Cert.ProductSsdGin.Gen.frame m g
theorem frame_kernelIdeal : Cert.quiescent_ProductSsdGinIdeal (hProductSsdGinIdeal := Cert.ProductSsdGinIdeal.Gen.facts) := fun m g _ => Cert.ProductSsdGinIdeal.Gen.frame m g
theorem frame_reference : Cert.quiescent_ProductSsdGinRef (hProductSsdGinRef := Cert.ProductSsdGinRef.Gen.facts) := fun m g _ => reference_frame (F := Bits) m g
theorem frame_referenceIdeal : Cert.quiescent_ProductSsdGinRefIdeal (hProductSsdGinRefIdeal := Cert.ProductSsdGinRefIdeal.Gen.facts) :=
  fun m g _ => reference_frame (F := Ideal) m g

/-- The gradient of the state space mixer's input weight: on equal arguments the program and its reference leave equal results. -/
theorem value : Cert.algebraic_ProductSsdGinIdeal_ProductSsdGinRefIdeal (hProductSsdGinIdeal := Cert.ProductSsdGinIdeal.Gen.facts)
    (hProductSsdGinRefIdeal := Cert.ProductSsdGinRefIdeal.Gen.facts) :=
  fun m g m' g' _ h => ⟨_, kernel_run m g, (θ_run _ _ _).mono (fun r hr c => by
    obtain ⟨hx, hk⟩ := hr c
    obtain ⟨h0, h1⟩ := h c
    rw [h0, h1] at hx
    exact ⟨hx, hk⟩) (reference_run m' g')⟩

end Cert.Projection.SsdGin

namespace Cert.Projection.SsdDh

open Cert.ProductSsdDhRefIdeal Cert.ProductSsdDhRefIdeal.Gen in
theorem reference_frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c => (h c).2, sem_eq_zero_of_no_sems (by decide) r.2⟩) (Cert.ProductSsdDhRefIdeal.Value.run m g)

theorem frame_kernel : Cert.quiescent_ProductSsdDh (hProductSsdDh := Cert.ProductSsdDh.Gen.facts) := fun m g _ => Cert.ProductSsdDh.Gen.frame m g
theorem frame_kernelIdeal : Cert.quiescent_ProductSsdDhIdeal (hProductSsdDhIdeal := Cert.ProductSsdDhIdeal.Gen.facts) := fun m g _ => Cert.ProductSsdDhIdeal.Gen.frame m g
theorem frame_reference : Cert.quiescent_ProductSsdDhRef (hProductSsdDhRef := Cert.ProductSsdDhRef.Gen.facts) := fun m g _ => reference_frame (F := Bits) m g
theorem frame_referenceIdeal : Cert.quiescent_ProductSsdDhRefIdeal (hProductSsdDhRefIdeal := Cert.ProductSsdDhRefIdeal.Gen.facts) :=
  fun m g _ => reference_frame (F := Ideal) m g

/-- The gradient of the state space mixer's normalised input: on equal arguments the program and its reference leave equal results. -/
theorem value : Cert.algebraic_ProductSsdDhIdeal_ProductSsdDhRefIdeal (hProductSsdDhIdeal := Cert.ProductSsdDhIdeal.Gen.facts)
    (hProductSsdDhRefIdeal := Cert.ProductSsdDhRefIdeal.Gen.facts) :=
  fun m g m' g' _ h => ⟨_, kernel_run m g, (θ_run _ _ _).mono (fun r hr c => by
    obtain ⟨hx, hk⟩ := hr c
    obtain ⟨h0, h1⟩ := h c
    rw [h0, h1] at hx
    exact ⟨hx, hk⟩) (reference_run m' g')⟩

end Cert.Projection.SsdDh

end
-- ==== Proof.lean ====
/-
# The certificate

Each claim is proved in its own module; here they are put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference
public import proofs.«01_k».proof.Proof.Gen.ReferenceIdeal
public import proofs.«01_k».proof.Proof.Gen.ReferenceIdeal.Run
public import proofs.«01_k».proof.Proof.Gen.Grads
public import proofs.«01_k».proof.Proof.Gen.Grads.Skeleton
public import proofs.«01_k».proof.Proof.Gen.Grads.Launch
public import proofs.«01_k».proof.Proof.Gen.Grads.Points
public import proofs.«01_k».proof.Proof.Gen.Grads.Regions
public import proofs.«01_k».proof.Proof.Gen.GradsIdeal
public import proofs.«01_k».proof.Proof.Gen.GradsIdeal.Skeleton
public import proofs.«01_k».proof.Proof.Gen.GradsIdeal.Launch
public import proofs.«01_k».proof.Proof.Gen.GradsIdeal.Points
public import proofs.«01_k».proof.Proof.Gen.GradsIdeal.Regions
public import proofs.«01_k».proof.Proof.Gen.GradsReference
public import proofs.«01_k».proof.Proof.Gen.GradsReferenceIdeal
public import proofs.«01_k».proof.Proof.Gen.GradsReferenceIdeal.Run
public import proofs.«01_k».proof.Proof.ScatterValue
public import proofs.«01_k».proof.Proof.GatherValue
public import proofs.«01_k».proof.Proof.StepLarge
public import proofs.«01_k».proof.Proof.StepMixers
public import proofs.«01_k».proof.Proof.StepSmall
public import proofs.«01_k».proof.Proof.GradsValue
public import proofs.«01_k».proof.Proof.Norm
public import proofs.«01_k».proof.Proof.Products
public import proofs.«01_k».proof.Proof.ProductsFfn
public import proofs.«01_k».proof.Proof.ProductsConv
public import proofs.«01_k».proof.Proof.ProductsFox
public import proofs.«01_k».proof.Proof.ProductsSsd
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.Gather.Frame
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherIdeal.Frame
public import proofs.«01_k».proof.Proof.Gen.GatherIdeal
public import proofs.«01_k».proof.Proof.Gen.GatherReference
public import proofs.«01_k».proof.Proof.Gen.GatherReferenceIdeal
public import proofs.«01_k».proof.Proof.Gen.GatherReferenceIdeal.Run
public import proofs.«01_k».proof.Proof.Gen.StepFfnGu
public import proofs.«01_k».proof.Proof.Gen.StepFfnGu.Frame
public import proofs.«01_k».proof.Proof.Gen.StepFfnGuIdeal
public import proofs.«01_k».proof.Proof.Gen.StepFfnGuIdeal.Frame
public import proofs.«01_k».proof.Proof.Gen.StepFfnGuIdeal.Value
public import proofs.«01_k».proof.Proof.Gen.StepFfnGuRef
public import proofs.«01_k».proof.Proof.Gen.StepFfnGuRefIdeal
public import proofs.«01_k».proof.Proof.Gen.StepFfnGuRefIdeal.Run
public import proofs.«01_k».proof.Proof.Gen.StepFfnDown
public import proofs.«01_k».proof.Proof.Gen.StepFfnDown.Frame
public import proofs.«01_k».proof.Proof.Gen.StepFfnDownIdeal
public import proofs.«01_k».proof.Proof.Gen.StepFfnDownIdeal.Frame
public import proofs.«01_k».proof.Proof.Gen.StepFfnDownIdeal.Value
public import proofs.«01_k».proof.Proof.Gen.StepFfnDownRef
public import proofs.«01_k».proof.Proof.Gen.StepFfnDownRefIdeal
public import proofs.«01_k».proof.Proof.Gen.StepFfnDownRefIdeal.Run
public import proofs.«01_k».proof.Proof.Gen.StepConvIn
public import proofs.«01_k».proof.Proof.Gen.StepConvIn.Frame
public import proofs.«01_k».proof.Proof.Gen.StepConvInIdeal
public import proofs.«01_k».proof.Proof.Gen.StepConvInIdeal.Frame
public import proofs.«01_k».proof.Proof.Gen.StepConvInIdeal.Value
public import proofs.«01_k».proof.Proof.Gen.StepConvInRef
public import proofs.«01_k».proof.Proof.Gen.StepConvInRefIdeal
public import proofs.«01_k».proof.Proof.Gen.StepConvInRefIdeal.Run
public import proofs.«01_k».proof.Proof.Gen.StepConvOut
public import proofs.«01_k».proof.Proof.Gen.StepConvOut.Frame
public import proofs.«01_k».proof.Proof.Gen.StepConvOutIdeal
public import proofs.«01_k».proof.Proof.Gen.StepConvOutIdeal.Frame
public import proofs.«01_k».proof.Proof.Gen.StepConvOutIdeal.Value
public import proofs.«01_k».proof.Proof.Gen.StepConvOutRef
public import proofs.«01_k».proof.Proof.Gen.StepConvOutRefIdeal
public import proofs.«01_k».proof.Proof.Gen.StepConvOutRefIdeal.Run
public import proofs.«01_k».proof.Proof.Gen.StepFoxIn
public import proofs.«01_k».proof.Proof.Gen.StepFoxIn.Frame
public import proofs.«01_k».proof.Proof.Gen.StepFoxInIdeal
public import proofs.«01_k».proof.Proof.Gen.StepFoxInIdeal.Frame
public import proofs.«01_k».proof.Proof.Gen.StepFoxInIdeal.Value
public import proofs.«01_k».proof.Proof.Gen.StepFoxInRef
public import proofs.«01_k».proof.Proof.Gen.StepFoxInRefIdeal
public import proofs.«01_k».proof.Proof.Gen.StepFoxInRefIdeal.Run
public import proofs.«01_k».proof.Proof.Gen.StepFoxOut
public import proofs.«01_k».proof.Proof.Gen.StepFoxOut.Frame
public import proofs.«01_k».proof.Proof.Gen.StepFoxOutIdeal
public import proofs.«01_k».proof.Proof.Gen.StepFoxOutIdeal.Frame
public import proofs.«01_k».proof.Proof.Gen.StepFoxOutIdeal.Value
public import proofs.«01_k».proof.Proof.Gen.StepFoxOutRef
public import proofs.«01_k».proof.Proof.Gen.StepFoxOutRefIdeal
public import proofs.«01_k».proof.Proof.Gen.StepFoxOutRefIdeal.Run
public import proofs.«01_k».proof.Proof.Gen.StepSsdIn
public import proofs.«01_k».proof.Proof.Gen.StepSsdIn.Frame
public import proofs.«01_k».proof.Proof.Gen.StepSsdInIdeal
public import proofs.«01_k».proof.Proof.Gen.StepSsdInIdeal.Frame
public import proofs.«01_k».proof.Proof.Gen.StepSsdInIdeal.Value
public import proofs.«01_k».proof.Proof.Gen.StepSsdInRef
public import proofs.«01_k».proof.Proof.Gen.StepSsdInRefIdeal
public import proofs.«01_k».proof.Proof.Gen.StepSsdInRefIdeal.Run
public import proofs.«01_k».proof.Proof.Gen.StepConvDw
public import proofs.«01_k».proof.Proof.Gen.StepConvDw.Frame
public import proofs.«01_k».proof.Proof.Gen.StepConvDwIdeal
public import proofs.«01_k».proof.Proof.Gen.StepConvDwIdeal.Frame
public import proofs.«01_k».proof.Proof.Gen.StepConvDwIdeal.Value
public import proofs.«01_k».proof.Proof.Gen.StepConvDwRef
public import proofs.«01_k».proof.Proof.Gen.StepConvDwRefIdeal
public import proofs.«01_k».proof.Proof.Gen.StepConvDwRefIdeal.Run
public import proofs.«01_k».proof.Proof.Gen.StepSsdConvW
public import proofs.«01_k».proof.Proof.Gen.StepSsdConvW.Frame
public import proofs.«01_k».proof.Proof.Gen.StepSsdConvWIdeal
public import proofs.«01_k».proof.Proof.Gen.StepSsdConvWIdeal.Frame
public import proofs.«01_k».proof.Proof.Gen.StepSsdConvWIdeal.Value
public import proofs.«01_k».proof.Proof.Gen.StepSsdConvWRef
public import proofs.«01_k».proof.Proof.Gen.StepSsdConvWRefIdeal
public import proofs.«01_k».proof.Proof.Gen.StepSsdConvWRefIdeal.Run
public import proofs.«01_k».proof.Proof.Gen.StepSsdConvB
public import proofs.«01_k».proof.Proof.Gen.StepSsdConvB.Frame
public import proofs.«01_k».proof.Proof.Gen.StepSsdConvBIdeal
public import proofs.«01_k».proof.Proof.Gen.StepSsdConvBIdeal.Frame
public import proofs.«01_k».proof.Proof.Gen.StepSsdConvBIdeal.Value
public import proofs.«01_k».proof.Proof.Gen.StepSsdConvBRef
public import proofs.«01_k».proof.Proof.Gen.StepSsdConvBRefIdeal
public import proofs.«01_k».proof.Proof.Gen.StepSsdConvBRefIdeal.Run
public import proofs.«01_k».proof.Proof.Gen.StepSsdNorm
public import proofs.«01_k».proof.Proof.Gen.StepSsdNorm.Frame
public import proofs.«01_k».proof.Proof.Gen.StepSsdNormIdeal
public import proofs.«01_k».proof.Proof.Gen.StepSsdNormIdeal.Frame
public import proofs.«01_k».proof.Proof.Gen.StepSsdNormIdeal.Value
public import proofs.«01_k».proof.Proof.Gen.StepSsdNormRef
public import proofs.«01_k».proof.Proof.Gen.StepSsdNormRefIdeal
public import proofs.«01_k».proof.Proof.Gen.StepSsdNormRefIdeal.Run
public import proofs.«01_k».proof.Proof.Gen.StepMixNorm
public import proofs.«01_k».proof.Proof.Gen.StepMixNorm.Frame
public import proofs.«01_k».proof.Proof.Gen.StepMixNormIdeal
public import proofs.«01_k».proof.Proof.Gen.StepMixNormIdeal.Frame
public import proofs.«01_k».proof.Proof.Gen.StepMixNormIdeal.Value
public import proofs.«01_k».proof.Proof.Gen.StepMixNormRef
public import proofs.«01_k».proof.Proof.Gen.StepMixNormRefIdeal
public import proofs.«01_k».proof.Proof.Gen.StepMixNormRefIdeal.Run
public import proofs.«01_k».proof.Proof.Gen.StepFoxBf
public import proofs.«01_k».proof.Proof.Gen.StepFoxBf.Frame
public import proofs.«01_k».proof.Proof.Gen.StepFoxBfIdeal
public import proofs.«01_k».proof.Proof.Gen.StepFoxBfIdeal.Frame
public import proofs.«01_k».proof.Proof.Gen.StepFoxBfIdeal.Value
public import proofs.«01_k».proof.Proof.Gen.StepFoxBfRef
public import proofs.«01_k».proof.Proof.Gen.StepFoxBfRefIdeal
public import proofs.«01_k».proof.Proof.Gen.StepFoxBfRefIdeal.Run
public import proofs.«01_k».proof.Proof.Gen.StepFoxQ
public import proofs.«01_k».proof.Proof.Gen.StepFoxQ.Frame
public import proofs.«01_k».proof.Proof.Gen.StepFoxQIdeal
public import proofs.«01_k».proof.Proof.Gen.StepFoxQIdeal.Frame
public import proofs.«01_k».proof.Proof.Gen.StepFoxQIdeal.Value
public import proofs.«01_k».proof.Proof.Gen.StepFoxQRef
public import proofs.«01_k».proof.Proof.Gen.StepFoxQRefIdeal
public import proofs.«01_k».proof.Proof.Gen.StepFoxQRefIdeal.Run
public import proofs.«01_k».proof.Proof.Gen.StepSsdDt
public import proofs.«01_k».proof.Proof.Gen.StepSsdDt.Frame
public import proofs.«01_k».proof.Proof.Gen.StepSsdDtIdeal
public import proofs.«01_k».proof.Proof.Gen.StepSsdDtIdeal.Frame
public import proofs.«01_k».proof.Proof.Gen.StepSsdDtIdeal.Value
public import proofs.«01_k».proof.Proof.Gen.StepSsdDtRef
public import proofs.«01_k».proof.Proof.Gen.StepSsdDtRefIdeal
public import proofs.«01_k».proof.Proof.Gen.StepSsdDtRefIdeal.Run
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormReference
public import proofs.«01_k».proof.Proof.Gen.NormReferenceIdeal
public import proofs.«01_k».proof.Proof.Gen.NormReferenceIdeal.Run
public import Idealize.ShloMosaic.Adequacy
public import Idealize.ShloMosaic.Init

@[expose] public section

noncomputable section

namespace Cert.Proof

open Idealize.ShloMosaic Idealize.SL.Sem

theorem claim : Cert.Claim := ⟨Cert.Gather.Gen.facts, Cert.GatherIdeal.Gen.facts, Cert.GatherReference.Gen.facts, Cert.GatherReferenceIdeal.Gen.facts,
  Cert.Kernel.Gen.facts, Cert.KernelIdeal.Gen.facts, Cert.Reference.Gen.facts, Cert.ReferenceIdeal.Gen.facts,
  Cert.Grads.Gen.facts, Cert.GradsIdeal.Gen.facts, Cert.GradsReference.Gen.facts, Cert.GradsReferenceIdeal.Gen.facts,
  Cert.Norm.Gen.facts, Cert.NormIdeal.Gen.facts, Cert.NormReference.Gen.facts, Cert.NormReferenceIdeal.Gen.facts,
  Cert.Product.Gen.facts, Cert.ProductIdeal.Gen.facts, Cert.ProductRef.Gen.facts, Cert.ProductRefIdeal.Gen.facts,
  Cert.ProductInput.Gen.facts, Cert.ProductInputIdeal.Gen.facts, Cert.ProductInputRef.Gen.facts, Cert.ProductInputRefIdeal.Gen.facts,
  Cert.ProductWeight.Gen.facts, Cert.ProductWeightIdeal.Gen.facts, Cert.ProductWeightRef.Gen.facts, Cert.ProductWeightRefIdeal.Gen.facts,
  Cert.ProductFfnGu.Gen.facts, Cert.ProductFfnGuIdeal.Gen.facts, Cert.ProductFfnGuRef.Gen.facts, Cert.ProductFfnGuRefIdeal.Gen.facts,
  Cert.ProductFfnDown.Gen.facts, Cert.ProductFfnDownIdeal.Gen.facts, Cert.ProductFfnDownRef.Gen.facts, Cert.ProductFfnDownRefIdeal.Gen.facts,
  Cert.ProductFfnDact.Gen.facts, Cert.ProductFfnDactIdeal.Gen.facts, Cert.ProductFfnDactRef.Gen.facts, Cert.ProductFfnDactRefIdeal.Gen.facts,
  Cert.ProductFfnGdown.Gen.facts, Cert.ProductFfnGdownIdeal.Gen.facts, Cert.ProductFfnGdownRef.Gen.facts, Cert.ProductFfnGdownRefIdeal.Gen.facts,
  Cert.ProductFfnGgu.Gen.facts, Cert.ProductFfnGguIdeal.Gen.facts, Cert.ProductFfnGguRef.Gen.facts, Cert.ProductFfnGguRefIdeal.Gen.facts,
  Cert.ProductFfnDh.Gen.facts, Cert.ProductFfnDhIdeal.Gen.facts, Cert.ProductFfnDhRef.Gen.facts, Cert.ProductFfnDhRefIdeal.Gen.facts,
  Cert.ProductConvOut.Gen.facts, Cert.ProductConvOutIdeal.Gen.facts, Cert.ProductConvOutRef.Gen.facts, Cert.ProductConvOutRefIdeal.Gen.facts,
  Cert.ProductConvDz.Gen.facts, Cert.ProductConvDzIdeal.Gen.facts, Cert.ProductConvDzRef.Gen.facts, Cert.ProductConvDzRefIdeal.Gen.facts,
  Cert.ProductConvGout.Gen.facts, Cert.ProductConvGoutIdeal.Gen.facts, Cert.ProductConvGoutRef.Gen.facts, Cert.ProductConvGoutRefIdeal.Gen.facts,
  Cert.ProductFoxIn.Gen.facts, Cert.ProductFoxInIdeal.Gen.facts, Cert.ProductFoxInRef.Gen.facts, Cert.ProductFoxInRefIdeal.Gen.facts,
  Cert.ProductFoxOut.Gen.facts, Cert.ProductFoxOutIdeal.Gen.facts, Cert.ProductFoxOutRef.Gen.facts, Cert.ProductFoxOutRefIdeal.Gen.facts,
  Cert.ProductFoxGout.Gen.facts, Cert.ProductFoxGoutIdeal.Gen.facts, Cert.ProductFoxGoutRef.Gen.facts, Cert.ProductFoxGoutRefIdeal.Gen.facts,
  Cert.ProductFoxGin.Gen.facts, Cert.ProductFoxGinIdeal.Gen.facts, Cert.ProductFoxGinRef.Gen.facts, Cert.ProductFoxGinRefIdeal.Gen.facts,
  Cert.ProductFoxDh.Gen.facts, Cert.ProductFoxDhIdeal.Gen.facts, Cert.ProductFoxDhRef.Gen.facts, Cert.ProductFoxDhRefIdeal.Gen.facts,
  Cert.ProductSsdIn.Gen.facts, Cert.ProductSsdInIdeal.Gen.facts, Cert.ProductSsdInRef.Gen.facts, Cert.ProductSsdInRefIdeal.Gen.facts,
  Cert.ProductSsdOut.Gen.facts, Cert.ProductSsdOutIdeal.Gen.facts, Cert.ProductSsdOutRef.Gen.facts, Cert.ProductSsdOutRefIdeal.Gen.facts,
  Cert.ProductSsdDyn.Gen.facts, Cert.ProductSsdDynIdeal.Gen.facts, Cert.ProductSsdDynRef.Gen.facts, Cert.ProductSsdDynRefIdeal.Gen.facts,
  Cert.ProductSsdGout.Gen.facts, Cert.ProductSsdGoutIdeal.Gen.facts, Cert.ProductSsdGoutRef.Gen.facts, Cert.ProductSsdGoutRefIdeal.Gen.facts,
  Cert.ProductSsdGin.Gen.facts, Cert.ProductSsdGinIdeal.Gen.facts, Cert.ProductSsdGinRef.Gen.facts, Cert.ProductSsdGinRefIdeal.Gen.facts,
  Cert.ProductSsdDh.Gen.facts, Cert.ProductSsdDhIdeal.Gen.facts, Cert.ProductSsdDhRef.Gen.facts, Cert.ProductSsdDhRefIdeal.Gen.facts,
  Cert.StepFfnGu.Gen.facts, Cert.StepFfnGuIdeal.Gen.facts, Cert.StepFfnGuRef.Gen.facts, Cert.StepFfnGuRefIdeal.Gen.facts,
  Cert.StepFfnDown.Gen.facts, Cert.StepFfnDownIdeal.Gen.facts, Cert.StepFfnDownRef.Gen.facts, Cert.StepFfnDownRefIdeal.Gen.facts,
  Cert.StepConvIn.Gen.facts, Cert.StepConvInIdeal.Gen.facts, Cert.StepConvInRef.Gen.facts, Cert.StepConvInRefIdeal.Gen.facts,
  Cert.StepConvOut.Gen.facts, Cert.StepConvOutIdeal.Gen.facts, Cert.StepConvOutRef.Gen.facts, Cert.StepConvOutRefIdeal.Gen.facts,
  Cert.StepFoxIn.Gen.facts, Cert.StepFoxInIdeal.Gen.facts, Cert.StepFoxInRef.Gen.facts, Cert.StepFoxInRefIdeal.Gen.facts,
  Cert.StepFoxOut.Gen.facts, Cert.StepFoxOutIdeal.Gen.facts, Cert.StepFoxOutRef.Gen.facts, Cert.StepFoxOutRefIdeal.Gen.facts,
  Cert.StepSsdIn.Gen.facts, Cert.StepSsdInIdeal.Gen.facts, Cert.StepSsdInRef.Gen.facts, Cert.StepSsdInRefIdeal.Gen.facts,
  Cert.StepConvDw.Gen.facts, Cert.StepConvDwIdeal.Gen.facts, Cert.StepConvDwRef.Gen.facts, Cert.StepConvDwRefIdeal.Gen.facts,
  Cert.StepSsdConvW.Gen.facts, Cert.StepSsdConvWIdeal.Gen.facts, Cert.StepSsdConvWRef.Gen.facts, Cert.StepSsdConvWRefIdeal.Gen.facts,
  Cert.StepSsdConvB.Gen.facts, Cert.StepSsdConvBIdeal.Gen.facts, Cert.StepSsdConvBRef.Gen.facts, Cert.StepSsdConvBRefIdeal.Gen.facts,
  Cert.StepSsdNorm.Gen.facts, Cert.StepSsdNormIdeal.Gen.facts, Cert.StepSsdNormRef.Gen.facts, Cert.StepSsdNormRefIdeal.Gen.facts,
  Cert.StepMixNorm.Gen.facts, Cert.StepMixNormIdeal.Gen.facts, Cert.StepMixNormRef.Gen.facts, Cert.StepMixNormRefIdeal.Gen.facts,
  Cert.StepFoxBf.Gen.facts, Cert.StepFoxBfIdeal.Gen.facts, Cert.StepFoxBfRef.Gen.facts, Cert.StepFoxBfRefIdeal.Gen.facts,
  Cert.StepFoxQ.Gen.facts, Cert.StepFoxQIdeal.Gen.facts, Cert.StepFoxQRef.Gen.facts, Cert.StepFoxQRefIdeal.Gen.facts,
  Cert.StepSsdDt.Gen.facts, Cert.StepSsdDtIdeal.Gen.facts, Cert.StepSsdDtRef.Gen.facts, Cert.StepSsdDtRefIdeal.Gen.facts,
  Cert.Weights.frame_kernel, Cert.Weights.frame_kernelIdeal, Cert.Weights.frame_reference, Cert.Weights.frame_referenceIdeal,
  Cert.Scatter.frame_kernel, Cert.Scatter.frame_kernelIdeal, Cert.Scatter.frame_reference, Cert.Scatter.frame_referenceIdeal,
  Cert.Sums.frame_grads, Cert.Sums.frame_gradsIdeal, Cert.Sums.frame_gradsReference, Cert.Sums.frame_gradsReferenceIdeal,
  Cert.NormGrad.frame_kernel, Cert.NormGrad.frame_kernelIdeal, Cert.NormGrad.frame_reference, Cert.NormGrad.frame_referenceIdeal,
  Cert.Projection.Forward.frame_kernel, Cert.Projection.Forward.frame_kernelIdeal, Cert.Projection.Forward.frame_reference, Cert.Projection.Forward.frame_referenceIdeal,
  Cert.Projection.Input.frame_kernel, Cert.Projection.Input.frame_kernelIdeal, Cert.Projection.Input.frame_reference, Cert.Projection.Input.frame_referenceIdeal,
  Cert.Projection.Weight.frame_kernel, Cert.Projection.Weight.frame_kernelIdeal, Cert.Projection.Weight.frame_reference, Cert.Projection.Weight.frame_referenceIdeal,
  Cert.Projection.FfnGu.frame_kernel, Cert.Projection.FfnGu.frame_kernelIdeal, Cert.Projection.FfnGu.frame_reference, Cert.Projection.FfnGu.frame_referenceIdeal,
  Cert.Projection.FfnDown.frame_kernel, Cert.Projection.FfnDown.frame_kernelIdeal, Cert.Projection.FfnDown.frame_reference, Cert.Projection.FfnDown.frame_referenceIdeal,
  Cert.Projection.FfnDact.frame_kernel, Cert.Projection.FfnDact.frame_kernelIdeal, Cert.Projection.FfnDact.frame_reference, Cert.Projection.FfnDact.frame_referenceIdeal,
  Cert.Projection.FfnGdown.frame_kernel, Cert.Projection.FfnGdown.frame_kernelIdeal, Cert.Projection.FfnGdown.frame_reference, Cert.Projection.FfnGdown.frame_referenceIdeal,
  Cert.Projection.FfnGgu.frame_kernel, Cert.Projection.FfnGgu.frame_kernelIdeal, Cert.Projection.FfnGgu.frame_reference, Cert.Projection.FfnGgu.frame_referenceIdeal,
  Cert.Projection.FfnDh.frame_kernel, Cert.Projection.FfnDh.frame_kernelIdeal, Cert.Projection.FfnDh.frame_reference, Cert.Projection.FfnDh.frame_referenceIdeal,
  Cert.Projection.ConvOut.frame_kernel, Cert.Projection.ConvOut.frame_kernelIdeal, Cert.Projection.ConvOut.frame_reference, Cert.Projection.ConvOut.frame_referenceIdeal,
  Cert.Projection.ConvDz.frame_kernel, Cert.Projection.ConvDz.frame_kernelIdeal, Cert.Projection.ConvDz.frame_reference, Cert.Projection.ConvDz.frame_referenceIdeal,
  Cert.Projection.ConvGout.frame_kernel, Cert.Projection.ConvGout.frame_kernelIdeal, Cert.Projection.ConvGout.frame_reference, Cert.Projection.ConvGout.frame_referenceIdeal,
  Cert.Projection.FoxIn.frame_kernel, Cert.Projection.FoxIn.frame_kernelIdeal, Cert.Projection.FoxIn.frame_reference, Cert.Projection.FoxIn.frame_referenceIdeal,
  Cert.Projection.FoxOut.frame_kernel, Cert.Projection.FoxOut.frame_kernelIdeal, Cert.Projection.FoxOut.frame_reference, Cert.Projection.FoxOut.frame_referenceIdeal,
  Cert.Projection.FoxGout.frame_kernel, Cert.Projection.FoxGout.frame_kernelIdeal, Cert.Projection.FoxGout.frame_reference, Cert.Projection.FoxGout.frame_referenceIdeal,
  Cert.Projection.FoxGin.frame_kernel, Cert.Projection.FoxGin.frame_kernelIdeal, Cert.Projection.FoxGin.frame_reference, Cert.Projection.FoxGin.frame_referenceIdeal,
  Cert.Projection.FoxDh.frame_kernel, Cert.Projection.FoxDh.frame_kernelIdeal, Cert.Projection.FoxDh.frame_reference, Cert.Projection.FoxDh.frame_referenceIdeal,
  Cert.Projection.SsdIn.frame_kernel, Cert.Projection.SsdIn.frame_kernelIdeal, Cert.Projection.SsdIn.frame_reference, Cert.Projection.SsdIn.frame_referenceIdeal,
  Cert.Projection.SsdOut.frame_kernel, Cert.Projection.SsdOut.frame_kernelIdeal, Cert.Projection.SsdOut.frame_reference, Cert.Projection.SsdOut.frame_referenceIdeal,
  Cert.Projection.SsdDyn.frame_kernel, Cert.Projection.SsdDyn.frame_kernelIdeal, Cert.Projection.SsdDyn.frame_reference, Cert.Projection.SsdDyn.frame_referenceIdeal,
  Cert.Projection.SsdGout.frame_kernel, Cert.Projection.SsdGout.frame_kernelIdeal, Cert.Projection.SsdGout.frame_reference, Cert.Projection.SsdGout.frame_referenceIdeal,
  Cert.Projection.SsdGin.frame_kernel, Cert.Projection.SsdGin.frame_kernelIdeal, Cert.Projection.SsdGin.frame_reference, Cert.Projection.SsdGin.frame_referenceIdeal,
  Cert.Projection.SsdDh.frame_kernel, Cert.Projection.SsdDh.frame_kernelIdeal, Cert.Projection.SsdDh.frame_reference, Cert.Projection.SsdDh.frame_referenceIdeal,
  Cert.Step.FfnGu.frame_kernel, Cert.Step.FfnGu.frame_kernelIdeal, Cert.Step.FfnGu.frame_reference, Cert.Step.FfnGu.frame_referenceIdeal,
  Cert.Step.FfnDown.frame_kernel, Cert.Step.FfnDown.frame_kernelIdeal, Cert.Step.FfnDown.frame_reference, Cert.Step.FfnDown.frame_referenceIdeal,
  Cert.Step.ConvIn.frame_kernel, Cert.Step.ConvIn.frame_kernelIdeal, Cert.Step.ConvIn.frame_reference, Cert.Step.ConvIn.frame_referenceIdeal,
  Cert.Step.ConvOut.frame_kernel, Cert.Step.ConvOut.frame_kernelIdeal, Cert.Step.ConvOut.frame_reference, Cert.Step.ConvOut.frame_referenceIdeal,
  Cert.Step.FoxIn.frame_kernel, Cert.Step.FoxIn.frame_kernelIdeal, Cert.Step.FoxIn.frame_reference, Cert.Step.FoxIn.frame_referenceIdeal,
  Cert.Step.FoxOut.frame_kernel, Cert.Step.FoxOut.frame_kernelIdeal, Cert.Step.FoxOut.frame_reference, Cert.Step.FoxOut.frame_referenceIdeal,
  Cert.Step.SsdIn.frame_kernel, Cert.Step.SsdIn.frame_kernelIdeal, Cert.Step.SsdIn.frame_reference, Cert.Step.SsdIn.frame_referenceIdeal,
  Cert.Step.ConvDw.frame_kernel, Cert.Step.ConvDw.frame_kernelIdeal, Cert.Step.ConvDw.frame_reference, Cert.Step.ConvDw.frame_referenceIdeal,
  Cert.Step.SsdConvW.frame_kernel, Cert.Step.SsdConvW.frame_kernelIdeal, Cert.Step.SsdConvW.frame_reference, Cert.Step.SsdConvW.frame_referenceIdeal,
  Cert.Step.SsdConvB.frame_kernel, Cert.Step.SsdConvB.frame_kernelIdeal, Cert.Step.SsdConvB.frame_reference, Cert.Step.SsdConvB.frame_referenceIdeal,
  Cert.Step.SsdNorm.frame_kernel, Cert.Step.SsdNorm.frame_kernelIdeal, Cert.Step.SsdNorm.frame_reference, Cert.Step.SsdNorm.frame_referenceIdeal,
  Cert.Step.MixNorm.frame_kernel, Cert.Step.MixNorm.frame_kernelIdeal, Cert.Step.MixNorm.frame_reference, Cert.Step.MixNorm.frame_referenceIdeal,
  Cert.Step.FoxBf.frame_kernel, Cert.Step.FoxBf.frame_kernelIdeal, Cert.Step.FoxBf.frame_reference, Cert.Step.FoxBf.frame_referenceIdeal,
  Cert.Step.FoxQ.frame_kernel, Cert.Step.FoxQ.frame_kernelIdeal, Cert.Step.FoxQ.frame_reference, Cert.Step.FoxQ.frame_referenceIdeal,
  Cert.Step.SsdDt.frame_kernel, Cert.Step.SsdDt.frame_kernelIdeal, Cert.Step.SsdDt.frame_reference, Cert.Step.SsdDt.frame_referenceIdeal,
  trivial, Cert.Weights.value_ideal, Cert.Weights.value_bits, trivial, Cert.Scatter.value_ideal, Cert.Scatter.value_bits, trivial, Cert.Sums.value, trivial, Cert.NormGrad.value,
  trivial, Cert.Projection.Forward.value, trivial, Cert.Projection.Input.value, trivial, Cert.Projection.Weight.value,
  trivial, Cert.Projection.FfnGu.value, trivial, Cert.Projection.FfnDown.value, trivial, Cert.Projection.FfnDact.value, trivial, Cert.Projection.FfnGdown.value, trivial, Cert.Projection.FfnGgu.value,
  trivial, Cert.Projection.FfnDh.value, trivial, Cert.Projection.ConvOut.value, trivial, Cert.Projection.ConvDz.value, trivial, Cert.Projection.ConvGout.value, trivial, Cert.Projection.FoxIn.value,
  trivial, Cert.Projection.FoxOut.value, trivial, Cert.Projection.FoxGout.value, trivial, Cert.Projection.FoxGin.value, trivial, Cert.Projection.FoxDh.value, trivial, Cert.Projection.SsdIn.value,
  trivial, Cert.Projection.SsdOut.value, trivial, Cert.Projection.SsdDyn.value, trivial, Cert.Projection.SsdGout.value, trivial, Cert.Projection.SsdGin.value, trivial, Cert.Projection.SsdDh.value,
  trivial, Cert.Step.FfnGu.value, trivial, Cert.Step.FfnDown.value, trivial, Cert.Step.ConvIn.value, trivial, Cert.Step.ConvOut.value, trivial, Cert.Step.FoxIn.value, trivial, Cert.Step.FoxOut.value, trivial, Cert.Step.SsdIn.value, trivial, Cert.Step.ConvDw.value, trivial, Cert.Step.SsdConvW.value, trivial, Cert.Step.SsdConvB.value, trivial, Cert.Step.SsdNorm.value, trivial, Cert.Step.MixNorm.value, trivial, Cert.Step.FoxBf.value, trivial, Cert.Step.FoxQ.value, trivial, Cert.Step.SsdDt.value⟩

end Cert.Proof

end
